-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S48x576x768 : Shape := ⟨3, ![48, 576, 768]⟩
abbrev S_ : Shape := ⟨0, ![]⟩
abbrev S768 : Shape := ⟨1, ![768]⟩

class Facts : Prop where
  bcast_S_S48x576x768 : S_.BroadcastsInDim S48x576x768 (![] : Fin 0 → Fin S48x576x768.rank)
  bcast_S_S768 : S_.BroadcastsInDim S768 (![] : Fin 0 → Fin S768.rank)

variable [Facts]

def fn_part2 {F : FTy → Type} [FloatOps F] (main_v4 : IVec S48x576x768 1) (main_v12 : IVec S48x576x768 1) (main_v15 : IVec S_ 1) (main_v18 : IVec S_ 1) (main_v23 : IVec S768 1) (main_v28 : IVec S768 1) (main_v30 : IVec S768 1) (main_v32 : IVec S768 1) : IVec S48x576x768 1 × IVec S48x576x768 1 × IVec S_ 1 × IVec S_ 1 × IVec S768 1 × IVec S768 1 × IVec S768 1 :=
  let main_v33 : IVec S768 1 := andi main_v30 main_v32
  (main_v4, main_v12, main_v15, main_v18, main_v23, main_v28, main_v33)

def fn_part1 {F : FTy → Type} [FloatOps F] (main_arg3 : FVec F S_ .f32) (main_arg5 : FVec F S768 .f32) (main_arg6 : FVec F S768 .f32) (main_arg7 : FVec F S768 .f32) (main_v4 : IVec S48x576x768 1) (main_v12 : IVec S48x576x768 1) (main_v15 : IVec S_ 1) (main_cst_5 : FVec F S_ .f32) : IVec S48x576x768 1 × IVec S48x576x768 1 × IVec S_ 1 × IVec S_ 1 × IVec S768 1 × IVec S768 1 × IVec S768 1 :=
  let main_v16 : IVec S_ 1 := cmpf .olt main_arg3 main_cst_5
  let main_cst_6 : FVec F S_ .f32 := constant S_ .f32 0xFF800000#32
  let main_v17 : IVec S_ 1 := cmpf .ogt main_arg3 main_cst_6
  let main_v18 : IVec S_ 1 := andi main_v16 main_v17
  let main_cst_7 : FVec F S_ .f32 := constant S_ .f32 0x7F800000#32
  let main_v19 : FVec F S768 .f32 := broadcastInDim S768 ![] bcast_S_S768 main_cst_7
  let main_v20 : IVec S768 1 := cmpf .olt main_arg5 main_v19
  let main_cst_8 : FVec F S_ .f32 := constant S_ .f32 0xFF800000#32
  let main_v21 : FVec F S768 .f32 := broadcastInDim S768 ![] bcast_S_S768 main_cst_8
  let main_v22 : IVec S768 1 := cmpf .ogt main_arg5 main_v21
  let main_v23 : IVec S768 1 := andi main_v20 main_v22
  let main_cst_9 : FVec F S_ .f32 := constant S_ .f32 0x7F800000#32
  let main_v24 : FVec F S768 .f32 := broadcastInDim S768 ![] bcast_S_S768 main_cst_9
  let main_v25 : IVec S768 1 := cmpf .olt main_arg6 main_v24
  let main_cst_10 : FVec F S_ .f32 := constant S_ .f32 0xFF800000#32
  let main_v26 : FVec F S768 .f32 := broadcastInDim S768 ![] bcast_S_S768 main_cst_10
  let main_v27 : IVec S768 1 := cmpf .ogt main_arg6 main_v26
  let main_v28 : IVec S768 1 := andi main_v25 main_v27
  let main_cst_11 : FVec F S_ .f32 := constant S_ .f32 0x7F800000#32
  let main_v29 : FVec F S768 .f32 := broadcastInDim S768 ![] bcast_S_S768 main_cst_11
  let main_v30 : IVec S768 1 := cmpf .olt main_arg7 main_v29
  let main_cst_12 : FVec F S_ .f32 := constant S_ .f32 0xFF800000#32
  let main_v31 : FVec F S768 .f32 := broadcastInDim S768 ![] bcast_S_S768 main_cst_12
  let main_v32 : IVec S768 1 := cmpf .ogt main_arg7 main_v31
  fn_part2 (F := F) main_v4 main_v12 main_v15 main_v18 main_v23 main_v28 main_v30 main_v32

def fn {F : FTy → Type} [FloatOps F] (main_arg0 : IVec S48x576x768 8) (main_arg1 : FVec F S_ .f32) (main_arg2 : IVec S48x576x768 8) (main_arg3 : FVec F S_ .f32) (main_arg4 : IVec S48x576x768 8) (main_arg5 : FVec F S768 .f32) (main_arg6 : FVec F S768 .f32) (main_arg7 : FVec F S768 .f32) : IVec S48x576x768 1 × IVec S48x576x768 1 × IVec S_ 1 × IVec S_ 1 × IVec S768 1 × IVec S768 1 × IVec S768 1 :=
  let main_c : IVec S_ 8 := constantI S_ 8 127#8
  let main_v0 : IVec S48x576x768 8 := broadcastInDim S48x576x768 ![] bcast_S_S48x576x768 main_c
  let main_v1 : IVec S48x576x768 1 := cmpi .ne main_arg0 main_v0
  let main_c_0 : IVec S_ 8 := constantI S_ 8 255#8
  let main_v2 : IVec S48x576x768 8 := broadcastInDim S48x576x768 ![] bcast_S_S48x576x768 main_c_0
  let main_v3 : IVec S48x576x768 1 := cmpi .ne main_arg0 main_v2
  let main_v4 : IVec S48x576x768 1 := andi main_v1 main_v3
  let main_c_1 : IVec S_ 8 := constantI S_ 8 124#8
  let main_v5 : IVec S48x576x768 8 := broadcastInDim S48x576x768 ![] bcast_S_S48x576x768 main_c_1
  let main_v6 : IVec S48x576x768 1 := cmpi .ult main_arg2 main_v5
  let main_c_2 : IVec S_ 8 := constantI S_ 8 128#8
  let main_v7 : IVec S48x576x768 8 := broadcastInDim S48x576x768 ![] bcast_S_S48x576x768 main_c_2
  let main_v8 : IVec S48x576x768 1 := cmpi .uge main_arg2 main_v7
  let main_c_3 : IVec S_ 8 := constantI S_ 8 252#8
  let main_v9 : IVec S48x576x768 8 := broadcastInDim S48x576x768 ![] bcast_S_S48x576x768 main_c_3
  let main_v10 : IVec S48x576x768 1 := cmpi .ult main_arg2 main_v9
  let main_v11 : IVec S48x576x768 1 := andi main_v8 main_v10
  let main_v12 : IVec S48x576x768 1 := ori main_v6 main_v11
  let main_cst : FVec F S_ .f32 := constant S_ .f32 0x7F800000#32
  let main_v13 : IVec S_ 1 := cmpf .olt main_arg1 main_cst
  let main_cst_4 : FVec F S_ .f32 := constant S_ .f32 0xFF800000#32
  let main_v14 : IVec S_ 1 := cmpf .ogt main_arg1 main_cst_4
  let main_v15 : IVec S_ 1 := andi main_v13 main_v14
  let main_cst_5 : FVec F S_ .f32 := constant S_ .f32 0x7F800000#32
  fn_part1 (F := F) main_arg3 main_arg5 main_arg6 main_arg7 main_v4 main_v12 main_v15 main_cst_5
-- ==== Kernel.lean ====
abbrev S48x576x768 : Shape := ⟨3, ![48, 576, 768]⟩
abbrev S_ : Shape := ⟨0, ![]⟩
abbrev S768 : Shape := ⟨1, ![768]⟩
abbrev S1 : Shape := ⟨1, ![1]⟩
abbrev S6x128 : Shape := ⟨2, ![6, 128]⟩
abbrev S72x12x32x768 : Shape := ⟨4, ![72, 12, 32, 768]⟩
abbrev S2x72x12x32x128 : Shape := ⟨5, ![2, 72, 12, 32, 128]⟩
abbrev S3x9x12x32x128 : Shape := ⟨5, ![3, 9, 12, 32, 128]⟩
abbrev S2x8x128 : Shape := ⟨3, ![2, 8, 128]⟩
abbrev S3x32x128 : Shape := ⟨3, ![3, 32, 128]⟩
abbrev S16x128 : Shape := ⟨2, ![16, 128]⟩
abbrev S3x2x8 : Shape := ⟨3, ![3, 2, 8]⟩
abbrev S3 : Shape := ⟨1, ![3]⟩
abbrev S1x1x1 : Shape := ⟨3, ![1, 1, 1]⟩
abbrev S1x9x12x32x128 : Shape := ⟨5, ![1, 9, 12, 32, 128]⟩
abbrev S9x12x32x128 : Shape := ⟨4, ![9, 12, 32, 128]⟩
abbrev S1x1x1x32x128 : Shape := ⟨5, ![1, 1, 1, 32, 128]⟩
abbrev S32x128 : Shape := ⟨2, ![32, 128]⟩
abbrev S8x128 : Shape := ⟨2, ![8, 128]⟩
abbrev S1x8x128 : Shape := ⟨3, ![1, 8, 128]⟩
abbrev S1x128 : Shape := ⟨2, ![1, 128]⟩
abbrev S128 : Shape := ⟨1, ![128]⟩
abbrev S1x32x128 : Shape := ⟨3, ![1, 32, 128]⟩

abbrev nBuf : Space → Nat
  | .hbm => 24
  | .vmem => 12
  | .smem => 2
  | _ => 0

abbrev bufTy : (tb : Table) → Fin (tcTables nBuf tb) → BufTy
  | .hbm, ⟨0, _⟩ => ⟨S48x576x768, .i8⟩
  | .hbm, ⟨1, _⟩ => ⟨S_, .f32⟩
  | .hbm, ⟨2, _⟩ => ⟨S48x576x768, .i8⟩
  | .hbm, ⟨3, _⟩ => ⟨S_, .f32⟩
  | .hbm, ⟨4, _⟩ => ⟨S48x576x768, .i8⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S48x576x768, .fp8e4m3⟩
  | .hbm, ⟨9, _⟩ => ⟨S48x576x768, .fp8e5m2⟩
  | .hbm, ⟨10, _⟩ => ⟨S1, .f32⟩
  | .hbm, ⟨11, _⟩ => ⟨S1, .f32⟩
  | .hbm, ⟨12, _⟩ => ⟨S6x128, .f32⟩
  | .hbm, ⟨13, _⟩ => ⟨S6x128, .f32⟩
  | .hbm, ⟨14, _⟩ => ⟨S6x128, .f32⟩
  | .hbm, ⟨15, _⟩ => ⟨S72x12x32x768, .fp8e4m3⟩
  | .hbm, ⟨16, _⟩ => ⟨S72x12x32x768, .fp8e5m2⟩
  | .hbm, ⟨17, _⟩ => ⟨S72x12x32x768, .i8⟩
  | .hbm, ⟨18, _⟩ => ⟨S72x12x32x768, .bf16⟩
  | .hbm, ⟨19, _⟩ => ⟨S6x128, .f32⟩
  | .hbm, ⟨20, _⟩ => ⟨S6x128, .f32⟩
  | .hbm, ⟨21, _⟩ => ⟨S48x576x768, .bf16⟩
  | .hbm, ⟨22, _⟩ => ⟨S768, .f32⟩
  | .hbm, ⟨23, _⟩ => ⟨S768, .f32⟩
  | .local _ .vmem, ⟨0, _⟩ => ⟨S6x128, .f32⟩
  | .local _ .vmem, ⟨1, _⟩ => ⟨S6x128, .f32⟩
  | .local _ .vmem, ⟨2, _⟩ => ⟨S6x128, .f32⟩
  | .local _ .vmem, ⟨3, _⟩ => ⟨S6x128, .f32⟩
  | .local _ .vmem, ⟨4, _⟩ => ⟨S6x128, .f32⟩
  | .local _ .vmem, ⟨5, _⟩ => ⟨S2x72x12x32x128, .fp8e4m3⟩
  | .local _ .vmem, ⟨6, _⟩ => ⟨S2x72x12x32x128, .fp8e5m2⟩
  | .local _ .vmem, ⟨7, _⟩ => ⟨S2x72x12x32x128, .i8⟩
  | .local _ .vmem, ⟨8, _⟩ => ⟨S3x9x12x32x128, .bf16⟩
  | .local _ .vmem, ⟨9, _⟩ => ⟨S2x8x128, .f32⟩
  | .local _ .vmem, ⟨10, _⟩ => ⟨S3x32x128, .f32⟩
  | .local _ .vmem, ⟨11, _⟩ => ⟨S16x128, .bf16⟩
  | .local _ .smem, ⟨0, _⟩ => ⟨S1, .f32⟩
  | .local _ .smem, ⟨1, _⟩ => ⟨S1, .f32⟩
  | _, _ => ⟨S48x576x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v6 : BitVec 32 := Scalar.addi c0_i32 c8_i32
  let c1_i32 : BitVec 32 := 1#32
  ⟨c0_i32, v6, c1_i32⟩
def k0_off1 (k0_t1 : Fin k0_t1_loop.trips) : Fin 3 → Nat :=
  let c0_i32_265 : BitVec 32 := 0#32
  let c0_i32_266 : BitVec 32 := 0#32
  let c0_i32 : BitVec 32 := 0#32
  let c1_i32 : BitVec 32 := 1#32
  let arg20 : BitVec 32 := Scf.iv c0_i32 c1_i32 k0_t1
  ![0, 0, arg20.toNat]
def k0_off2 (k0_t1 : Fin k0_t1_loop.trips) : Fin 5 → Nat :=
  let c0_i32_264 : BitVec 32 := 0#32
  let c0_i32 : BitVec 32 := 0#32
  let c1_i32 : BitVec 32 := 1#32
  let arg20 : BitVec 32 := Scf.iv c0_i32 c1_i32 k0_t1
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![0, v390.toNat, 0, 0, 0]
def k0_off3 (k0_t1 : Fin k0_t1_loop.trips) : Fin 4 → Nat :=
  let c0_i32 : BitVec 32 := 0#32
  let c1_i32 : BitVec 32 := 1#32
  let arg20 : BitVec 32 := Scf.iv c0_i32 c1_i32 k0_t1
  let c9_i32 : BitVec 32 := 9#32
  let v390 : BitVec 32 := Scalar.muli arg20 c9_i32
  let c0_i32_270 : BitVec 32 := 0#32
  let c0_i32_271 : BitVec 32 := 0#32
  let c0_i32_272 : BitVec 32 := 0#32
  ![v390.toNat, 0, 0, 0]
def k0_off4 (k0_t1 : Fin k0_t1_loop.trips) : Fin 3 → Nat :=
  let c1_i32_274 : BitVec 32 := 1#32
  let c0_i32_275 : BitVec 32 := 0#32
  let c0_i32 : BitVec 32 := 0#32
  let c1_i32 : BitVec 32 := 1#32
  let arg20 : BitVec 32 := Scf.iv c0_i32 c1_i32 k0_t1
  ![1, 0, arg20.toNat]
def k0_off5 (k0_t1 : Fin k0_t1_loop.trips) : Fin 3 → Nat :=
  let c2_i32_283 : BitVec 32 := 2#32
  let c0_i32_284 : BitVec 32 := 0#32
  let c0_i32 : BitVec 32 := 0#32
  let c1_i32 : BitVec 32 := 1#32
  let arg20 : BitVec 32 := Scf.iv c0_i32 c1_i32 k0_t1
  ![2, 0, arg20.toNat]
@[reducible] def k0_t2_loop : Scf.Loop 32 :=
  let c0_i32_4 : BitVec 32 := 0#32
  let c8_i32_5 : BitVec 32 := 8#32
  let v7 : BitVec 32 := Scalar.addi c0_i32_4 c8_i32_5
  let c1_i32_6 : BitVec 32 := 1#32
  ⟨c0_i32_4, v7, c1_i32_6⟩
def k0_off6 (k0_t2 : Fin k0_t2_loop.trips) : Fin 3 → Nat :=
  let c0_i32_265 : BitVec 32 := 0#32
  let c1_i32_266 : BitVec 32 := 1#32
  let c0_i32_4 : BitVec 32 := 0#32
  let c1_i32_6 : BitVec 32 := 1#32
  let arg20 : BitVec 32 := Scf.iv c0_i32_4 c1_i32_6 k0_t2
  ![0, 1, arg20.toNat]
def k0_off7 (k0_t2 : Fin k0_t2_loop.trips) : Fin 5 → Nat :=
  let c1_i32_264 : BitVec 32 := 1#32
  let c0_i32_4 : BitVec 32 := 0#32
  let c1_i32_6 : BitVec 32 := 1#32
  let arg20 : BitVec 32 := Scf.iv c0_i32_4 c1_i32_6 k0_t2
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![1, v390.toNat, 0, 0, 0]
def k0_off8 (k0_t2 : Fin k0_t2_loop.trips) : Fin 4 → Nat :=
  let c0_i32_4 : BitVec 32 := 0#32
  let c1_i32_6 : BitVec 32 := 1#32
  let arg20 : BitVec 32 := Scf.iv c0_i32_4 c1_i32_6 k0_t2
  let c9_i32 : BitVec 32 := 9#32
  let v390 : BitVec 32 := Scalar.muli arg20 c9_i32
  let c0_i32_270 : BitVec 32 := 0#32
  let c0_i32_271 : BitVec 32 := 0#32
  let c128_i32 : BitVec 32 := 128#32
  ![v390.toNat, 0, 0, 128]
def k0_off9 (k0_t2 : Fin k0_t2_loop.trips) : Fin 3 → Nat :=
  let c1_i32_273 : BitVec 32 := 1#32
  let c1_i32_274 : BitVec 32 := 1#32
  let c0_i32_4 : BitVec 32 := 0#32
  let c1_i32_6 : BitVec 32 := 1#32
  let arg20 : BitVec 32 := Scf.iv c0_i32_4 c1_i32_6 k0_t2
  ![1, 1, arg20.toNat]
def k0_off10 (k0_t2 : Fin k0_t2_loop.trips) : Fin 3 → Nat :=
  let c2_i32_282 : BitVec 32 := 2#32
  let c1_i32_283 : BitVec 32 := 1#32
  let c0_i32_4 : BitVec 32 := 0#32
  let c1_i32_6 : BitVec 32 := 1#32
  let arg20 : BitVec 32 := Scf.iv c0_i32_4 c1_i32_6 k0_t2
  ![2, 1, arg20.toNat]
@[reducible] def k0_t3_loop : Scf.Loop 32 :=
  let c0_i32_12 : BitVec 32 := 0#32
  let c8_i32_13 : BitVec 32 := 8#32
  let v12 : BitVec 32 := Scalar.addi c0_i32_12 c8_i32_13
  let c1_i32_14 : BitVec 32 := 1#32
  ⟨c0_i32_12, v12, c1_i32_14⟩
def k0_off11 (k0_t3 : Fin k0_t3_loop.trips) : Fin 3 → Nat :=
  let c0_i32_265 : BitVec 32 := 0#32
  let c0_i32_266 : BitVec 32 := 0#32
  let c0_i32_12 : BitVec 32 := 0#32
  let c1_i32_14 : BitVec 32 := 1#32
  let arg20 : BitVec 32 := Scf.iv c0_i32_12 c1_i32_14 k0_t3
  ![0, 0, arg20.toNat]
def k0_off12 (k0_t3 : Fin k0_t3_loop.trips) : Fin 5 → Nat :=
  let c0_i32_264 : BitVec 32 := 0#32
  let c0_i32_12 : BitVec 32 := 0#32
  let c1_i32_14 : BitVec 32 := 1#32
  let arg20 : BitVec 32 := Scf.iv c0_i32_12 c1_i32_14 k0_t3
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![0, v390.toNat, 0, 0, 0]
def k0_off13 (k0_t3 : Fin k0_t3_loop.trips) : Fin 4 → Nat :=
  let c0_i32_12 : BitVec 32 := 0#32
  let c1_i32_14 : BitVec 32 := 1#32
  let arg20 : BitVec 32 := Scf.iv c0_i32_12 c1_i32_14 k0_t3
  let c9_i32 : BitVec 32 := 9#32
  let v390 : BitVec 32 := Scalar.muli arg20 c9_i32
  let c0_i32_270 : BitVec 32 := 0#32
  let c0_i32_271 : BitVec 32 := 0#32
  let c0_i32_272 : BitVec 32 := 0#32
  ![v390.toNat, 0, 0, 0]
def k0_off14 (k0_t3 : Fin k0_t3_loop.trips) : Fin 3 → Nat :=
  let c1_i32_274 : BitVec 32 := 1#32
  let c0_i32_275 : BitVec 32 := 0#32
  let c0_i32_12 : BitVec 32 := 0#32
  let c1_i32_14 : BitVec 32 := 1#32
  let arg20 : BitVec 32 := Scf.iv c0_i32_12 c1_i32_14 k0_t3
  ![1, 0, arg20.toNat]
def k0_off15 (k0_t3 : Fin k0_t3_loop.trips) : Fin 3 → Nat :=
  let c2_i32_283 : BitVec 32 := 2#32
  let c0_i32_284 : BitVec 32 := 0#32
  let c0_i32_12 : BitVec 32 := 0#32
  let c1_i32_14 : BitVec 32 := 1#32
  let arg20 : BitVec 32 := Scf.iv c0_i32_12 c1_i32_14 k0_t3
  ![2, 0, arg20.toNat]
@[reducible] def k0_t4_loop : Scf.Loop 32 :=
  let c0_i32_291 : BitVec 32 := 0#32
  let c9_i32_292 : BitVec 32 := 9#32
  let v406 : BitVec 32 := Scalar.addi c0_i32_291 c9_i32_292
  let c1_i32_293 : BitVec 32 := 1#32
  ⟨c0_i32_291, v406, c1_i32_293⟩
def k0_off16 (k0_t3 : Fin k0_t3_loop.trips) (k0_t4 : Fin k0_t4_loop.trips) : Fin 5 → Nat :=
  let c0_298 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v411 : Index := Scalar.indexCast v408
  let c0_299 : Index := 0#32
  let c0_300 : Index := 0#32
  let c0_301 : Index := 0#32
  ![0, v411.toNat, 0, 0, 0]
def k0_off17 (k0_t3 : Fin k0_t3_loop.trips) (k0_t4 : Fin k0_t4_loop.trips) : Fin 5 → Nat :=
  let c0_312 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v453 : Index := Scalar.indexCast v408
  let c1_313 : Index := 1#32
  let c0_314 : Index := 0#32
  let c0_315 : Index := 0#32
  ![0, v453.toNat, 1, 0, 0]
def k0_off18 (k0_t3 : Fin k0_t3_loop.trips) (k0_t4 : Fin k0_t4_loop.trips) : Fin 5 → Nat :=
  let c0_330 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v497 : Index := Scalar.indexCast v408
  let c2_331 : Index := 2#32
  let c0_332 : Index := 0#32
  let c0_333 : Index := 0#32
  ![0, v497.toNat, 2, 0, 0]
def k0_off19 (k0_t3 : Fin k0_t3_loop.trips) (k0_t4 : Fin k0_t4_loop.trips) : Fin 5 → Nat :=
  let c0_348 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v541 : Index := Scalar.indexCast v408
  let c3_349 : Index := 3#32
  let c0_350 : Index := 0#32
  let c0_351 : Index := 0#32
  ![0, v541.toNat, 3, 0, 0]
def k0_off20 (k0_t3 : Fin k0_t3_loop.trips) (k0_t4 : Fin k0_t4_loop.trips) : Fin 5 → Nat :=
  let c0_366 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v585 : Index := Scalar.indexCast v408
  let c4_367 : Index := 4#32
  let c0_368 : Index := 0#32
  let c0_369 : Index := 0#32
  ![0, v585.toNat, 4, 0, 0]
def k0_off21 (k0_t3 : Fin k0_t3_loop.trips) (k0_t4 : Fin k0_t4_loop.trips) : Fin 5 → Nat :=
  let c0_384 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v629 : Index := Scalar.indexCast v408
  let c5_385 : Index := 5#32
  let c0_386 : Index := 0#32
  let c0_387 : Index := 0#32
  ![0, v629.toNat, 5, 0, 0]
def k0_off22 (k0_t3 : Fin k0_t3_loop.trips) (k0_t4 : Fin k0_t4_loop.trips) : Fin 5 → Nat :=
  let c0_402 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v673 : Index := Scalar.indexCast v408
  let c6 : Index := 6#32
  let c0_403 : Index := 0#32
  let c0_404 : Index := 0#32
  ![0, v673.toNat, 6, 0, 0]
def k0_off23 (k0_t3 : Fin k0_t3_loop.trips) (k0_t4 : Fin k0_t4_loop.trips) : Fin 5 → Nat :=
  let c0_419 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v717 : Index := Scalar.indexCast v408
  let c7 : Index := 7#32
  let c0_420 : Index := 0#32
  let c0_421 : Index := 0#32
  ![0, v717.toNat, 7, 0, 0]
def k0_off24 (k0_t3 : Fin k0_t3_loop.trips) (k0_t4 : Fin k0_t4_loop.trips) : Fin 5 → Nat :=
  let c0_436 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v761 : Index := Scalar.indexCast v408
  let c8 : Index := 8#32
  let c0_437 : Index := 0#32
  let c0_438 : Index := 0#32
  ![0, v761.toNat, 8, 0, 0]
def k0_off25 (k0_t3 : Fin k0_t3_loop.trips) (k0_t4 : Fin k0_t4_loop.trips) : Fin 5 → Nat :=
  let c0_453 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v805 : Index := Scalar.indexCast v408
  let c9 : Index := 9#32
  let c0_454 : Index := 0#32
  let c0_455 : Index := 0#32
  ![0, v805.toNat, 9, 0, 0]
def k0_off26 (k0_t3 : Fin k0_t3_loop.trips) (k0_t4 : Fin k0_t4_loop.trips) : Fin 5 → Nat :=
  let c0_470 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v849 : Index := Scalar.indexCast v408
  let c10 : Index := 10#32
  let c0_471 : Index := 0#32
  let c0_472 : Index := 0#32
  ![0, v849.toNat, 10, 0, 0]
def k0_off27 (k0_t3 : Fin k0_t3_loop.trips) (k0_t4 : Fin k0_t4_loop.trips) : Fin 5 → Nat :=
  let c0_487 : Index := 0#32
  let c0_i32_12 : BitVec 32 := 0#32
  let c1_i32_14 : BitVec 32 := 1#32
  let arg20 : BitVec 32 := Scf.iv c0_i32_12 c1_i32_14 k0_t3
  let c9_i32_295 : BitVec 32 := 9#32
  let v407 : BitVec 32 := Scalar.muli arg20 c9_i32_295
  let c0_i32_291 : BitVec 32 := 0#32
  let c1_i32_293 : BitVec 32 := 1#32
  let arg21 : BitVec 32 := Scf.iv c0_i32_291 c1_i32_293 k0_t4
  let v408 : BitVec 32 := Scalar.addi v407 arg21
  let v893 : Index := Scalar.indexCast v408
  let c11 : Index := 11#32
  let c0_488 : Index := 0#32
  let c0_489 : Index := 0#32
  ![0, v893.toNat, 11, 0, 0]
@[reducible] def k0_t5_loop : Scf.Loop 32 :=
  let c0_i32_48 : BitVec 32 := 0#32
  let c8_i32_49 : BitVec 32 := 8#32
  let v73 : BitVec 32 := Scalar.addi c0_i32_48 c8_i32_49
  let c1_i32_50 : BitVec 32 := 1#32
  ⟨c0_i32_48, v73, c1_i32_50⟩
def k0_off28 (k0_t5 : Fin k0_t5_loop.trips) : Fin 3 → Nat :=
  let c0_i32_265 : BitVec 32 := 0#32
  let c1_i32_266 : BitVec 32 := 1#32
  let c0_i32_48 : BitVec 32 := 0#32
  let c1_i32_50 : BitVec 32 := 1#32
  let arg20 : BitVec 32 := Scf.iv c0_i32_48 c1_i32_50 k0_t5
  ![0, 1, arg20.toNat]
def k0_off29 (k0_t5 : Fin k0_t5_loop.trips) : Fin 5 → Nat :=
  let c1_i32_264 : BitVec 32 := 1#32
  let c0_i32_48 : BitVec 32 := 0#32
  let c1_i32_50 : BitVec 32 := 1#32
  let arg20 : BitVec 32 := Scf.iv c0_i32_48 c1_i32_50 k0_t5
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![1, v390.toNat, 0, 0, 0]
def k0_off30 (k0_t5 : Fin k0_t5_loop.trips) : Fin 4 → Nat :=
  let c0_i32_48 : BitVec 32 := 0#32
  let c1_i32_50 : BitVec 32 := 1#32
  let arg20 : BitVec 32 := Scf.iv c0_i32_48 c1_i32_50 k0_t5
  let c9_i32 : BitVec 32 := 9#32
  let v390 : BitVec 32 := Scalar.muli arg20 c9_i32
  let c0_i32_270 : BitVec 32 := 0#32
  let c0_i32_271 : BitVec 32 := 0#32
  let c128_i32 : BitVec 32 := 128#32
  ![v390.toNat, 0, 0, 128]
def k0_off31 (k0_t5 : Fin k0_t5_loop.trips) : Fin 3 → Nat :=
  let c1_i32_273 : BitVec 32 := 1#32
  let c1_i32_274 : BitVec 32 := 1#32
  let c0_i32_48 : BitVec 32 := 0#32
  let c1_i32_50 : BitVec 32 := 1#32
  let arg20 : BitVec 32 := Scf.iv c0_i32_48 c1_i32_50 k0_t5
  ![1, 1, arg20.toNat]
def k0_off32 (k0_t5 : Fin k0_t5_loop.trips) : Fin 3 → Nat :=
  let c2_i32_282 : BitVec 32 := 2#32
  let c1_i32_283 : BitVec 32 := 1#32
  let c0_i32_48 : BitVec 32 := 0#32
  let c1_i32_50 : BitVec 32 := 1#32
  let arg20 : BitVec 32 := Scf.iv c0_i32_48 c1_i32_50 k0_t5
  ![2, 1, arg20.toNat]
def k0_cond1 (k0_t5 : Fin k0_t5_loop.trips) : BitVec 1 :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32_291 : BitVec 32 := 3#32
  let v408 : BitVec 1 := Scalar.cmpi .sge v406 c3_i32_291
  let v409 : BitVec 32 := Scalar.extui v408
  let c0_i32_292 : BitVec 32 := 0#32
  let v410 : BitVec 1 := Scalar.cmpi .ne v409 c0_i32_292
  v410

def k0_off33 (k0_t5 : Fin k0_t5_loop.trips) : Fin 1 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  ![v407.toNat]
def k0_off34 (k0_t5 : Fin k0_t5_loop.trips) : Fin 4 → Nat :=
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_333 : BitVec 32 := 0#32
  let c0_i32_334 : BitVec 32 := 0#32
  let c0_i32_335 : BitVec 32 := 0#32
  ![v434.toNat, 0, 0, 0]
def k0_off35 (k0_t5 : Fin k0_t5_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let c0_i32_336 : BitVec 32 := 0#32
  let c0_i32_337 : BitVec 32 := 0#32
  let c0_i32_338 : BitVec 32 := 0#32
  let c0_i32_339 : BitVec 32 := 0#32
  ![v407.toNat, 0, 0, 0, 0]
@[reducible] def k0_t6_loop : Scf.Loop 32 :=
  let c0_i32_293 : BitVec 32 := 0#32
  let c9_i32_294 : BitVec 32 := 9#32
  let v411 : BitVec 32 := Scalar.addi c0_i32_293 c9_i32_294
  let c1_i32_295 : BitVec 32 := 1#32
  ⟨c0_i32_293, v411, c1_i32_295⟩
def k0_off36 (k0_t5 : Fin k0_t5_loop.trips) (k0_t6 : Fin k0_t6_loop.trips) : Fin 5 → Nat :=
  let c0_342 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v442 : Index := Scalar.indexCast v435
  let c0_343 : Index := 0#32
  let c0_344 : Index := 0#32
  let c0_345 : Index := 0#32
  ![0, v442.toNat, 0, 0, 0]
def k0_off37 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v455 : Index := Scalar.indexCast v407
  let c0_i32_293 : BitVec 32 := 0#32
  let c1_i32_295 : BitVec 32 := 1#32
  let arg21 : BitVec 32 := Scf.iv c0_i32_293 c1_i32_295 k0_t6
  let v456 : Index := Scalar.indexCast arg21
  let c0_350 : Index := 0#32
  let c0_351 : Index := 0#32
  let c0_352 : Index := 0#32
  ![v455.toNat, v456.toNat, 0, 0, 0]
def k0_off38 (k0_t5 : Fin k0_t5_loop.trips) (k0_t6 : Fin k0_t6_loop.trips) : Fin 5 → Nat :=
  let c0_353 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v460 : Index := Scalar.indexCast v435
  let c1_354 : Index := 1#32
  let c0_355 : Index := 0#32
  let c0_356 : Index := 0#32
  ![0, v460.toNat, 1, 0, 0]
def k0_off39 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v473 : Index := Scalar.indexCast v407
  let c0_i32_293 : BitVec 32 := 0#32
  let c1_i32_295 : BitVec 32 := 1#32
  let arg21 : BitVec 32 := Scf.iv c0_i32_293 c1_i32_295 k0_t6
  let v474 : Index := Scalar.indexCast arg21
  let c1_361 : Index := 1#32
  let c0_362 : Index := 0#32
  let c0_363 : Index := 0#32
  ![v473.toNat, v474.toNat, 1, 0, 0]
def k0_off40 (k0_t5 : Fin k0_t5_loop.trips) (k0_t6 : Fin k0_t6_loop.trips) : Fin 5 → Nat :=
  let c0_364 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v478 : Index := Scalar.indexCast v435
  let c2_365 : Index := 2#32
  let c0_366 : Index := 0#32
  let c0_367 : Index := 0#32
  ![0, v478.toNat, 2, 0, 0]
def k0_off41 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v491 : Index := Scalar.indexCast v407
  let c0_i32_293 : BitVec 32 := 0#32
  let c1_i32_295 : BitVec 32 := 1#32
  let arg21 : BitVec 32 := Scf.iv c0_i32_293 c1_i32_295 k0_t6
  let v492 : Index := Scalar.indexCast arg21
  let c2_372 : Index := 2#32
  let c0_373 : Index := 0#32
  let c0_374 : Index := 0#32
  ![v491.toNat, v492.toNat, 2, 0, 0]
def k0_off42 (k0_t5 : Fin k0_t5_loop.trips) (k0_t6 : Fin k0_t6_loop.trips) : Fin 5 → Nat :=
  let c0_375 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v496 : Index := Scalar.indexCast v435
  let c3_376 : Index := 3#32
  let c0_377 : Index := 0#32
  let c0_378 : Index := 0#32
  ![0, v496.toNat, 3, 0, 0]
def k0_off43 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v509 : Index := Scalar.indexCast v407
  let c0_i32_293 : BitVec 32 := 0#32
  let c1_i32_295 : BitVec 32 := 1#32
  let arg21 : BitVec 32 := Scf.iv c0_i32_293 c1_i32_295 k0_t6
  let v510 : Index := Scalar.indexCast arg21
  let c3_383 : Index := 3#32
  let c0_384 : Index := 0#32
  let c0_385 : Index := 0#32
  ![v509.toNat, v510.toNat, 3, 0, 0]
def k0_off44 (k0_t5 : Fin k0_t5_loop.trips) (k0_t6 : Fin k0_t6_loop.trips) : Fin 5 → Nat :=
  let c0_386 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v514 : Index := Scalar.indexCast v435
  let c4_387 : Index := 4#32
  let c0_388 : Index := 0#32
  let c0_389 : Index := 0#32
  ![0, v514.toNat, 4, 0, 0]
def k0_off45 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v527 : Index := Scalar.indexCast v407
  let c0_i32_293 : BitVec 32 := 0#32
  let c1_i32_295 : BitVec 32 := 1#32
  let arg21 : BitVec 32 := Scf.iv c0_i32_293 c1_i32_295 k0_t6
  let v528 : Index := Scalar.indexCast arg21
  let c4_394 : Index := 4#32
  let c0_395 : Index := 0#32
  let c0_396 : Index := 0#32
  ![v527.toNat, v528.toNat, 4, 0, 0]
def k0_off46 (k0_t5 : Fin k0_t5_loop.trips) (k0_t6 : Fin k0_t6_loop.trips) : Fin 5 → Nat :=
  let c0_397 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v532 : Index := Scalar.indexCast v435
  let c5_398 : Index := 5#32
  let c0_399 : Index := 0#32
  let c0_400 : Index := 0#32
  ![0, v532.toNat, 5, 0, 0]
def k0_off47 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v545 : Index := Scalar.indexCast v407
  let c0_i32_293 : BitVec 32 := 0#32
  let c1_i32_295 : BitVec 32 := 1#32
  let arg21 : BitVec 32 := Scf.iv c0_i32_293 c1_i32_295 k0_t6
  let v546 : Index := Scalar.indexCast arg21
  let c5_405 : Index := 5#32
  let c0_406 : Index := 0#32
  let c0_407 : Index := 0#32
  ![v545.toNat, v546.toNat, 5, 0, 0]
def k0_off48 (k0_t5 : Fin k0_t5_loop.trips) (k0_t6 : Fin k0_t6_loop.trips) : Fin 5 → Nat :=
  let c0_408 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v550 : Index := Scalar.indexCast v435
  let c6 : Index := 6#32
  let c0_409 : Index := 0#32
  let c0_410 : Index := 0#32
  ![0, v550.toNat, 6, 0, 0]
def k0_off49 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v563 : Index := Scalar.indexCast v407
  let c0_i32_293 : BitVec 32 := 0#32
  let c1_i32_295 : BitVec 32 := 1#32
  let arg21 : BitVec 32 := Scf.iv c0_i32_293 c1_i32_295 k0_t6
  let v564 : Index := Scalar.indexCast arg21
  let c6_415 : Index := 6#32
  let c0_416 : Index := 0#32
  let c0_417 : Index := 0#32
  ![v563.toNat, v564.toNat, 6, 0, 0]
def k0_off50 (k0_t5 : Fin k0_t5_loop.trips) (k0_t6 : Fin k0_t6_loop.trips) : Fin 5 → Nat :=
  let c0_418 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v568 : Index := Scalar.indexCast v435
  let c7 : Index := 7#32
  let c0_419 : Index := 0#32
  let c0_420 : Index := 0#32
  ![0, v568.toNat, 7, 0, 0]
def k0_off51 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v581 : Index := Scalar.indexCast v407
  let c0_i32_293 : BitVec 32 := 0#32
  let c1_i32_295 : BitVec 32 := 1#32
  let arg21 : BitVec 32 := Scf.iv c0_i32_293 c1_i32_295 k0_t6
  let v582 : Index := Scalar.indexCast arg21
  let c7_425 : Index := 7#32
  let c0_426 : Index := 0#32
  let c0_427 : Index := 0#32
  ![v581.toNat, v582.toNat, 7, 0, 0]
def k0_off52 (k0_t5 : Fin k0_t5_loop.trips) (k0_t6 : Fin k0_t6_loop.trips) : Fin 5 → Nat :=
  let c0_428 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v586 : Index := Scalar.indexCast v435
  let c8 : Index := 8#32
  let c0_429 : Index := 0#32
  let c0_430 : Index := 0#32
  ![0, v586.toNat, 8, 0, 0]
def k0_off53 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v599 : Index := Scalar.indexCast v407
  let c0_i32_293 : BitVec 32 := 0#32
  let c1_i32_295 : BitVec 32 := 1#32
  let arg21 : BitVec 32 := Scf.iv c0_i32_293 c1_i32_295 k0_t6
  let v600 : Index := Scalar.indexCast arg21
  let c8_435 : Index := 8#32
  let c0_436 : Index := 0#32
  let c0_437 : Index := 0#32
  ![v599.toNat, v600.toNat, 8, 0, 0]
def k0_off54 (k0_t5 : Fin k0_t5_loop.trips) (k0_t6 : Fin k0_t6_loop.trips) : Fin 5 → Nat :=
  let c0_438 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v604 : Index := Scalar.indexCast v435
  let c9 : Index := 9#32
  let c0_439 : Index := 0#32
  let c0_440 : Index := 0#32
  ![0, v604.toNat, 9, 0, 0]
def k0_off55 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v617 : Index := Scalar.indexCast v407
  let c0_i32_293 : BitVec 32 := 0#32
  let c1_i32_295 : BitVec 32 := 1#32
  let arg21 : BitVec 32 := Scf.iv c0_i32_293 c1_i32_295 k0_t6
  let v618 : Index := Scalar.indexCast arg21
  let c9_445 : Index := 9#32
  let c0_446 : Index := 0#32
  let c0_447 : Index := 0#32
  ![v617.toNat, v618.toNat, 9, 0, 0]
def k0_off56 (k0_t5 : Fin k0_t5_loop.trips) (k0_t6 : Fin k0_t6_loop.trips) : Fin 5 → Nat :=
  let c0_448 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v622 : Index := Scalar.indexCast v435
  let c10 : Index := 10#32
  let c0_449 : Index := 0#32
  let c0_450 : Index := 0#32
  ![0, v622.toNat, 10, 0, 0]
def k0_off57 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v635 : Index := Scalar.indexCast v407
  let c0_i32_293 : BitVec 32 := 0#32
  let c1_i32_295 : BitVec 32 := 1#32
  let arg21 : BitVec 32 := Scf.iv c0_i32_293 c1_i32_295 k0_t6
  let v636 : Index := Scalar.indexCast arg21
  let c10_455 : Index := 10#32
  let c0_456 : Index := 0#32
  let c0_457 : Index := 0#32
  ![v635.toNat, v636.toNat, 10, 0, 0]
def k0_off58 (k0_t5 : Fin k0_t5_loop.trips) (k0_t6 : Fin k0_t6_loop.trips) : Fin 5 → Nat :=
  let c0_458 : Index := 0#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v640 : Index := Scalar.indexCast v435
  let c11 : Index := 11#32
  let c0_459 : Index := 0#32
  let c0_460 : Index := 0#32
  ![0, v640.toNat, 11, 0, 0]
def k0_off59 (k0_t5 : Fin k0_t5_loop.trips) (k0_t6 : Fin k0_t6_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let v653 : Index := Scalar.indexCast v407
  let c0_i32_293 : BitVec 32 := 0#32
  let c1_i32_295 : BitVec 32 := 1#32
  let arg21 : BitVec 32 := Scf.iv c0_i32_293 c1_i32_295 k0_t6
  let v654 : Index := Scalar.indexCast arg21
  let c11_465 : Index := 11#32
  let c0_466 : Index := 0#32
  let c0_467 : Index := 0#32
  ![v653.toNat, v654.toNat, 11, 0, 0]
def k0_off60 (k0_t5 : Fin k0_t5_loop.trips) (k0_t6 : Fin k0_t6_loop.trips) : Fin 5 → Nat :=
  let c1_470 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v660 : Index := Scalar.indexCast v435
  let c0_471 : Index := 0#32
  let c0_472 : Index := 0#32
  let c0_473 : Index := 0#32
  ![1, v660.toNat, 0, 0, 0]
def k0_off61 (k0_t5 : Fin k0_t5_loop.trips) (k0_t6 : Fin k0_t6_loop.trips) : Fin 5 → Nat :=
  let c1_484 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v702 : Index := Scalar.indexCast v435
  let c1_485 : Index := 1#32
  let c0_486 : Index := 0#32
  let c0_487 : Index := 0#32
  ![1, v702.toNat, 1, 0, 0]
def k0_off62 (k0_t5 : Fin k0_t5_loop.trips) (k0_t6 : Fin k0_t6_loop.trips) : Fin 5 → Nat :=
  let c1_502 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v746 : Index := Scalar.indexCast v435
  let c2_503 : Index := 2#32
  let c0_504 : Index := 0#32
  let c0_505 : Index := 0#32
  ![1, v746.toNat, 2, 0, 0]
def k0_off63 (k0_t5 : Fin k0_t5_loop.trips) (k0_t6 : Fin k0_t6_loop.trips) : Fin 5 → Nat :=
  let c1_520 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v790 : Index := Scalar.indexCast v435
  let c3_521 : Index := 3#32
  let c0_522 : Index := 0#32
  let c0_523 : Index := 0#32
  ![1, v790.toNat, 3, 0, 0]
def k0_off64 (k0_t5 : Fin k0_t5_loop.trips) (k0_t6 : Fin k0_t6_loop.trips) : Fin 5 → Nat :=
  let c1_538 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v834 : Index := Scalar.indexCast v435
  let c4_539 : Index := 4#32
  let c0_540 : Index := 0#32
  let c0_541 : Index := 0#32
  ![1, v834.toNat, 4, 0, 0]
def k0_off65 (k0_t5 : Fin k0_t5_loop.trips) (k0_t6 : Fin k0_t6_loop.trips) : Fin 5 → Nat :=
  let c1_556 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v878 : Index := Scalar.indexCast v435
  let c5_557 : Index := 5#32
  let c0_558 : Index := 0#32
  let c0_559 : Index := 0#32
  ![1, v878.toNat, 5, 0, 0]
def k0_off66 (k0_t5 : Fin k0_t5_loop.trips) (k0_t6 : Fin k0_t6_loop.trips) : Fin 5 → Nat :=
  let c1_574 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v922 : Index := Scalar.indexCast v435
  let c6_575 : Index := 6#32
  let c0_576 : Index := 0#32
  let c0_577 : Index := 0#32
  ![1, v922.toNat, 6, 0, 0]
def k0_off67 (k0_t5 : Fin k0_t5_loop.trips) (k0_t6 : Fin k0_t6_loop.trips) : Fin 5 → Nat :=
  let c1_592 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v966 : Index := Scalar.indexCast v435
  let c7_593 : Index := 7#32
  let c0_594 : Index := 0#32
  let c0_595 : Index := 0#32
  ![1, v966.toNat, 7, 0, 0]
def k0_off68 (k0_t5 : Fin k0_t5_loop.trips) (k0_t6 : Fin k0_t6_loop.trips) : Fin 5 → Nat :=
  let c1_610 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v1010 : Index := Scalar.indexCast v435
  let c8_611 : Index := 8#32
  let c0_612 : Index := 0#32
  let c0_613 : Index := 0#32
  ![1, v1010.toNat, 8, 0, 0]
def k0_off69 (k0_t5 : Fin k0_t5_loop.trips) (k0_t6 : Fin k0_t6_loop.trips) : Fin 5 → Nat :=
  let c1_628 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v1054 : Index := Scalar.indexCast v435
  let c9_629 : Index := 9#32
  let c0_630 : Index := 0#32
  let c0_631 : Index := 0#32
  ![1, v1054.toNat, 9, 0, 0]
def k0_off70 (k0_t5 : Fin k0_t5_loop.trips) (k0_t6 : Fin k0_t6_loop.trips) : Fin 5 → Nat :=
  let c1_646 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v1098 : Index := Scalar.indexCast v435
  let c10_647 : Index := 10#32
  let c0_648 : Index := 0#32
  let c0_649 : Index := 0#32
  ![1, v1098.toNat, 10, 0, 0]
def k0_off71 (k0_t5 : Fin k0_t5_loop.trips) (k0_t6 : Fin k0_t6_loop.trips) : Fin 5 → Nat :=
  let c1_664 : Index := 1#32
  let c0_i32_48 : BitVec 32 := 0#32
  let c1_i32_50 : BitVec 32 := 1#32
  let arg20 : BitVec 32 := Scf.iv c0_i32_48 c1_i32_50 k0_t5
  let c9_i32_332 : BitVec 32 := 9#32
  let v434 : BitVec 32 := Scalar.muli arg20 c9_i32_332
  let c0_i32_293 : BitVec 32 := 0#32
  let c1_i32_295 : BitVec 32 := 1#32
  let arg21 : BitVec 32 := Scf.iv c0_i32_293 c1_i32_295 k0_t6
  let v435 : BitVec 32 := Scalar.addi v434 arg21
  let v1142 : Index := Scalar.indexCast v435
  let c11_665 : Index := 11#32
  let c0_666 : Index := 0#32
  let c0_667 : Index := 0#32
  ![1, v1142.toNat, 11, 0, 0]
def k0_off72 (k0_t5 : Fin k0_t5_loop.trips) : Fin 1 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  ![v407.toNat]
def k0_off73 (k0_t5 : Fin k0_t5_loop.trips) : Fin 4 → Nat :=
  let c0_i32_48 : BitVec 32 := 0#32
  let c1_i32_50 : BitVec 32 := 1#32
  let arg20 : BitVec 32 := Scf.iv c0_i32_48 c1_i32_50 k0_t5
  let c9_i32_297 : BitVec 32 := 9#32
  let v412 : BitVec 32 := Scalar.muli arg20 c9_i32_297
  let c0_i32_298 : BitVec 32 := 0#32
  let c0_i32_299 : BitVec 32 := 0#32
  let c0_i32_300 : BitVec 32 := 0#32
  ![v412.toNat, 0, 0, 0]
def k0_off74 (k0_t5 : Fin k0_t5_loop.trips) : Fin 5 → Nat :=
  let c0_i32_290 : BitVec 32 := 0#32
  let c0_i32_48 : BitVec 32 := 0#32
  let c1_i32_50 : BitVec 32 := 1#32
  let arg20 : BitVec 32 := Scf.iv c0_i32_48 c1_i32_50 k0_t5
  let v406 : BitVec 32 := Scalar.addi c0_i32_290 arg20
  let c3_i32 : BitVec 32 := 3#32
  let v407 : BitVec 32 := Scalar.remsi v406 c3_i32
  let c0_i32_301 : BitVec 32 := 0#32
  let c0_i32_302 : BitVec 32 := 0#32
  let c0_i32_303 : BitVec 32 := 0#32
  let c0_i32_304 : BitVec 32 := 0#32
  ![v407.toNat, 0, 0, 0, 0]
def k0_off75 (k0_t5 : Fin k0_t5_loop.trips) : Fin 3 → Nat :=
  let c0_i32_307 : BitVec 32 := 0#32
  let c0_i32_308 : BitVec 32 := 0#32
  let c0_i32_48 : BitVec 32 := 0#32
  let c1_i32_50 : BitVec 32 := 1#32
  let arg20 : BitVec 32 := Scf.iv c0_i32_48 c1_i32_50 k0_t5
  ![0, 0, arg20.toNat]
def k0_off76 (k0_t5 : Fin k0_t5_loop.trips) : Fin 5 → Nat :=
  let c0_i32_306 : BitVec 32 := 0#32
  let c0_i32_48 : BitVec 32 := 0#32
  let c1_i32_50 : BitVec 32 := 1#32
  let arg20 : BitVec 32 := Scf.iv c0_i32_48 c1_i32_50 k0_t5
  let c9_i32_305 : BitVec 32 := 9#32
  let v418 : BitVec 32 := Scalar.muli arg20 c9_i32_305
  let c0_i32_309 : BitVec 32 := 0#32
  let c0_i32_310 : BitVec 32 := 0#32
  let c0_i32_311 : BitVec 32 := 0#32
  ![0, v418.toNat, 0, 0, 0]
def k0_off77 (k0_t5 : Fin k0_t5_loop.trips) : Fin 4 → Nat :=
  let c0_i32_48 : BitVec 32 := 0#32
  let c1_i32_50 : BitVec 32 := 1#32
  let arg20 : BitVec 32 := Scf.iv c0_i32_48 c1_i32_50 k0_t5
  let c9_i32_305 : BitVec 32 := 9#32
  let v418 : BitVec 32 := Scalar.muli arg20 c9_i32_305
  let c0_i32_312 : BitVec 32 := 0#32
  let c0_i32_313 : BitVec 32 := 0#32
  let c256_i32 : BitVec 32 := 256#32
  ![v418.toNat, 0, 0, 256]
def k0_off78 (k0_t5 : Fin k0_t5_loop.trips) : Fin 3 → Nat :=
  let c1_i32_315 : BitVec 32 := 1#32
  let c0_i32_316 : BitVec 32 := 0#32
  let c0_i32_48 : BitVec 32 := 0#32
  let c1_i32_50 : BitVec 32 := 1#32
  let arg20 : BitVec 32 := Scf.iv c0_i32_48 c1_i32_50 k0_t5
  ![1, 0, arg20.toNat]
def k0_off79 (k0_t5 : Fin k0_t5_loop.trips) : Fin 3 → Nat :=
  let c2_i32_324 : BitVec 32 := 2#32
  let c0_i32_325 : BitVec 32 := 0#32
  let c0_i32_48 : BitVec 32 := 0#32
  let c1_i32_50 : BitVec 32 := 1#32
  let arg20 : BitVec 32 := Scf.iv c0_i32_48 c1_i32_50 k0_t5
  ![2, 0, arg20.toNat]
@[reducible] def k0_t7_loop : Scf.Loop 32 :=
  let c0_i32_86 : BitVec 32 := 0#32
  let c8_i32_87 : BitVec 32 := 8#32
  let v134 : BitVec 32 := Scalar.addi c0_i32_86 c8_i32_87
  let c1_i32_88 : BitVec 32 := 1#32
  ⟨c0_i32_86, v134, c1_i32_88⟩
def k0_off80 (k0_t7 : Fin k0_t7_loop.trips) : Fin 3 → Nat :=
  let c0_i32_265 : BitVec 32 := 0#32
  let c0_i32_266 : BitVec 32 := 0#32
  let c0_i32_86 : BitVec 32 := 0#32
  let c1_i32_88 : BitVec 32 := 1#32
  let arg20 : BitVec 32 := Scf.iv c0_i32_86 c1_i32_88 k0_t7
  ![0, 0, arg20.toNat]
def k0_off81 (k0_t7 : Fin k0_t7_loop.trips) : Fin 5 → Nat :=
  let c0_i32_264 : BitVec 32 := 0#32
  let c0_i32_86 : BitVec 32 := 0#32
  let c1_i32_88 : BitVec 32 := 1#32
  let arg20 : BitVec 32 := Scf.iv c0_i32_86 c1_i32_88 k0_t7
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![0, v390.toNat, 0, 0, 0]
def k0_off82 (k0_t7 : Fin k0_t7_loop.trips) : Fin 4 → Nat :=
  let c0_i32_86 : BitVec 32 := 0#32
  let c1_i32_88 : BitVec 32 := 1#32
  let arg20 : BitVec 32 := Scf.iv c0_i32_86 c1_i32_88 k0_t7
  let c9_i32 : BitVec 32 := 9#32
  let v390 : BitVec 32 := Scalar.muli arg20 c9_i32
  let c0_i32_270 : BitVec 32 := 0#32
  let c0_i32_271 : BitVec 32 := 0#32
  let c256_i32 : BitVec 32 := 256#32
  ![v390.toNat, 0, 0, 256]
def k0_off83 (k0_t7 : Fin k0_t7_loop.trips) : Fin 3 → Nat :=
  let c1_i32_273 : BitVec 32 := 1#32
  let c0_i32_274 : BitVec 32 := 0#32
  let c0_i32_86 : BitVec 32 := 0#32
  let c1_i32_88 : BitVec 32 := 1#32
  let arg20 : BitVec 32 := Scf.iv c0_i32_86 c1_i32_88 k0_t7
  ![1, 0, arg20.toNat]
def k0_off84 (k0_t7 : Fin k0_t7_loop.trips) : Fin 3 → Nat :=
  let c2_i32_282 : BitVec 32 := 2#32
  let c0_i32_283 : BitVec 32 := 0#32
  let c0_i32_86 : BitVec 32 := 0#32
  let c1_i32_88 : BitVec 32 := 1#32
  let arg20 : BitVec 32 := Scf.iv c0_i32_86 c1_i32_88 k0_t7
  ![2, 0, arg20.toNat]
def k0_cond2 (k0_t7 : Fin k0_t7_loop.trips) : BitVec 1 :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32_291 : BitVec 32 := 3#32
  let v408 : BitVec 1 := Scalar.cmpi .sge v406 c3_i32_291
  let v409 : BitVec 32 := Scalar.extui v408
  let c0_i32_292 : BitVec 32 := 0#32
  let v410 : BitVec 1 := Scalar.cmpi .ne v409 c0_i32_292
  v410

def k0_off85 (k0_t7 : Fin k0_t7_loop.trips) : Fin 1 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  ![v407.toNat]
def k0_off86 (k0_t7 : Fin k0_t7_loop.trips) : Fin 4 → Nat :=
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_332 : BitVec 32 := 0#32
  let c0_i32_333 : BitVec 32 := 0#32
  let c128_i32_334 : BitVec 32 := 128#32
  ![v434.toNat, 0, 0, 128]
def k0_off87 (k0_t7 : Fin k0_t7_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let c0_i32_335 : BitVec 32 := 0#32
  let c0_i32_336 : BitVec 32 := 0#32
  let c0_i32_337 : BitVec 32 := 0#32
  let c0_i32_338 : BitVec 32 := 0#32
  ![v407.toNat, 0, 0, 0, 0]
@[reducible] def k0_t8_loop : Scf.Loop 32 :=
  let c0_i32_293 : BitVec 32 := 0#32
  let c9_i32_294 : BitVec 32 := 9#32
  let v411 : BitVec 32 := Scalar.addi c0_i32_293 c9_i32_294
  let c1_i32_295 : BitVec 32 := 1#32
  ⟨c0_i32_293, v411, c1_i32_295⟩
def k0_off88 (k0_t7 : Fin k0_t7_loop.trips) (k0_t8 : Fin k0_t8_loop.trips) : Fin 5 → Nat :=
  let c1_341 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v442 : Index := Scalar.indexCast v435
  let c0_342 : Index := 0#32
  let c0_343 : Index := 0#32
  let c0_344 : Index := 0#32
  ![1, v442.toNat, 0, 0, 0]
def k0_off89 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v455 : Index := Scalar.indexCast v407
  let c0_i32_293 : BitVec 32 := 0#32
  let c1_i32_295 : BitVec 32 := 1#32
  let arg21 : BitVec 32 := Scf.iv c0_i32_293 c1_i32_295 k0_t8
  let v456 : Index := Scalar.indexCast arg21
  let c0_349 : Index := 0#32
  let c0_350 : Index := 0#32
  let c0_351 : Index := 0#32
  ![v455.toNat, v456.toNat, 0, 0, 0]
def k0_off90 (k0_t7 : Fin k0_t7_loop.trips) (k0_t8 : Fin k0_t8_loop.trips) : Fin 5 → Nat :=
  let c1_352 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v460 : Index := Scalar.indexCast v435
  let c1_353 : Index := 1#32
  let c0_354 : Index := 0#32
  let c0_355 : Index := 0#32
  ![1, v460.toNat, 1, 0, 0]
def k0_off91 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v473 : Index := Scalar.indexCast v407
  let c0_i32_293 : BitVec 32 := 0#32
  let c1_i32_295 : BitVec 32 := 1#32
  let arg21 : BitVec 32 := Scf.iv c0_i32_293 c1_i32_295 k0_t8
  let v474 : Index := Scalar.indexCast arg21
  let c1_360 : Index := 1#32
  let c0_361 : Index := 0#32
  let c0_362 : Index := 0#32
  ![v473.toNat, v474.toNat, 1, 0, 0]
def k0_off92 (k0_t7 : Fin k0_t7_loop.trips) (k0_t8 : Fin k0_t8_loop.trips) : Fin 5 → Nat :=
  let c1_363 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v478 : Index := Scalar.indexCast v435
  let c2_364 : Index := 2#32
  let c0_365 : Index := 0#32
  let c0_366 : Index := 0#32
  ![1, v478.toNat, 2, 0, 0]
def k0_off93 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v491 : Index := Scalar.indexCast v407
  let c0_i32_293 : BitVec 32 := 0#32
  let c1_i32_295 : BitVec 32 := 1#32
  let arg21 : BitVec 32 := Scf.iv c0_i32_293 c1_i32_295 k0_t8
  let v492 : Index := Scalar.indexCast arg21
  let c2_371 : Index := 2#32
  let c0_372 : Index := 0#32
  let c0_373 : Index := 0#32
  ![v491.toNat, v492.toNat, 2, 0, 0]
def k0_off94 (k0_t7 : Fin k0_t7_loop.trips) (k0_t8 : Fin k0_t8_loop.trips) : Fin 5 → Nat :=
  let c1_374 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v496 : Index := Scalar.indexCast v435
  let c3_375 : Index := 3#32
  let c0_376 : Index := 0#32
  let c0_377 : Index := 0#32
  ![1, v496.toNat, 3, 0, 0]
def k0_off95 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v509 : Index := Scalar.indexCast v407
  let c0_i32_293 : BitVec 32 := 0#32
  let c1_i32_295 : BitVec 32 := 1#32
  let arg21 : BitVec 32 := Scf.iv c0_i32_293 c1_i32_295 k0_t8
  let v510 : Index := Scalar.indexCast arg21
  let c3_382 : Index := 3#32
  let c0_383 : Index := 0#32
  let c0_384 : Index := 0#32
  ![v509.toNat, v510.toNat, 3, 0, 0]
def k0_off96 (k0_t7 : Fin k0_t7_loop.trips) (k0_t8 : Fin k0_t8_loop.trips) : Fin 5 → Nat :=
  let c1_385 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v514 : Index := Scalar.indexCast v435
  let c4_386 : Index := 4#32
  let c0_387 : Index := 0#32
  let c0_388 : Index := 0#32
  ![1, v514.toNat, 4, 0, 0]
def k0_off97 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v527 : Index := Scalar.indexCast v407
  let c0_i32_293 : BitVec 32 := 0#32
  let c1_i32_295 : BitVec 32 := 1#32
  let arg21 : BitVec 32 := Scf.iv c0_i32_293 c1_i32_295 k0_t8
  let v528 : Index := Scalar.indexCast arg21
  let c4_393 : Index := 4#32
  let c0_394 : Index := 0#32
  let c0_395 : Index := 0#32
  ![v527.toNat, v528.toNat, 4, 0, 0]
def k0_off98 (k0_t7 : Fin k0_t7_loop.trips) (k0_t8 : Fin k0_t8_loop.trips) : Fin 5 → Nat :=
  let c1_396 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v532 : Index := Scalar.indexCast v435
  let c5_397 : Index := 5#32
  let c0_398 : Index := 0#32
  let c0_399 : Index := 0#32
  ![1, v532.toNat, 5, 0, 0]
def k0_off99 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v545 : Index := Scalar.indexCast v407
  let c0_i32_293 : BitVec 32 := 0#32
  let c1_i32_295 : BitVec 32 := 1#32
  let arg21 : BitVec 32 := Scf.iv c0_i32_293 c1_i32_295 k0_t8
  let v546 : Index := Scalar.indexCast arg21
  let c5_404 : Index := 5#32
  let c0_405 : Index := 0#32
  let c0_406 : Index := 0#32
  ![v545.toNat, v546.toNat, 5, 0, 0]
def k0_off100 (k0_t7 : Fin k0_t7_loop.trips) (k0_t8 : Fin k0_t8_loop.trips) : Fin 5 → Nat :=
  let c1_407 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v550 : Index := Scalar.indexCast v435
  let c6 : Index := 6#32
  let c0_408 : Index := 0#32
  let c0_409 : Index := 0#32
  ![1, v550.toNat, 6, 0, 0]
def k0_off101 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v563 : Index := Scalar.indexCast v407
  let c0_i32_293 : BitVec 32 := 0#32
  let c1_i32_295 : BitVec 32 := 1#32
  let arg21 : BitVec 32 := Scf.iv c0_i32_293 c1_i32_295 k0_t8
  let v564 : Index := Scalar.indexCast arg21
  let c6_414 : Index := 6#32
  let c0_415 : Index := 0#32
  let c0_416 : Index := 0#32
  ![v563.toNat, v564.toNat, 6, 0, 0]
def k0_off102 (k0_t7 : Fin k0_t7_loop.trips) (k0_t8 : Fin k0_t8_loop.trips) : Fin 5 → Nat :=
  let c1_417 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v568 : Index := Scalar.indexCast v435
  let c7 : Index := 7#32
  let c0_418 : Index := 0#32
  let c0_419 : Index := 0#32
  ![1, v568.toNat, 7, 0, 0]
def k0_off103 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v581 : Index := Scalar.indexCast v407
  let c0_i32_293 : BitVec 32 := 0#32
  let c1_i32_295 : BitVec 32 := 1#32
  let arg21 : BitVec 32 := Scf.iv c0_i32_293 c1_i32_295 k0_t8
  let v582 : Index := Scalar.indexCast arg21
  let c7_424 : Index := 7#32
  let c0_425 : Index := 0#32
  let c0_426 : Index := 0#32
  ![v581.toNat, v582.toNat, 7, 0, 0]
def k0_off104 (k0_t7 : Fin k0_t7_loop.trips) (k0_t8 : Fin k0_t8_loop.trips) : Fin 5 → Nat :=
  let c1_427 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v586 : Index := Scalar.indexCast v435
  let c8 : Index := 8#32
  let c0_428 : Index := 0#32
  let c0_429 : Index := 0#32
  ![1, v586.toNat, 8, 0, 0]
def k0_off105 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v599 : Index := Scalar.indexCast v407
  let c0_i32_293 : BitVec 32 := 0#32
  let c1_i32_295 : BitVec 32 := 1#32
  let arg21 : BitVec 32 := Scf.iv c0_i32_293 c1_i32_295 k0_t8
  let v600 : Index := Scalar.indexCast arg21
  let c8_434 : Index := 8#32
  let c0_435 : Index := 0#32
  let c0_436 : Index := 0#32
  ![v599.toNat, v600.toNat, 8, 0, 0]
def k0_off106 (k0_t7 : Fin k0_t7_loop.trips) (k0_t8 : Fin k0_t8_loop.trips) : Fin 5 → Nat :=
  let c1_437 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v604 : Index := Scalar.indexCast v435
  let c9 : Index := 9#32
  let c0_438 : Index := 0#32
  let c0_439 : Index := 0#32
  ![1, v604.toNat, 9, 0, 0]
def k0_off107 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v617 : Index := Scalar.indexCast v407
  let c0_i32_293 : BitVec 32 := 0#32
  let c1_i32_295 : BitVec 32 := 1#32
  let arg21 : BitVec 32 := Scf.iv c0_i32_293 c1_i32_295 k0_t8
  let v618 : Index := Scalar.indexCast arg21
  let c9_444 : Index := 9#32
  let c0_445 : Index := 0#32
  let c0_446 : Index := 0#32
  ![v617.toNat, v618.toNat, 9, 0, 0]
def k0_off108 (k0_t7 : Fin k0_t7_loop.trips) (k0_t8 : Fin k0_t8_loop.trips) : Fin 5 → Nat :=
  let c1_447 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v622 : Index := Scalar.indexCast v435
  let c10 : Index := 10#32
  let c0_448 : Index := 0#32
  let c0_449 : Index := 0#32
  ![1, v622.toNat, 10, 0, 0]
def k0_off109 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v635 : Index := Scalar.indexCast v407
  let c0_i32_293 : BitVec 32 := 0#32
  let c1_i32_295 : BitVec 32 := 1#32
  let arg21 : BitVec 32 := Scf.iv c0_i32_293 c1_i32_295 k0_t8
  let v636 : Index := Scalar.indexCast arg21
  let c10_454 : Index := 10#32
  let c0_455 : Index := 0#32
  let c0_456 : Index := 0#32
  ![v635.toNat, v636.toNat, 10, 0, 0]
def k0_off110 (k0_t7 : Fin k0_t7_loop.trips) (k0_t8 : Fin k0_t8_loop.trips) : Fin 5 → Nat :=
  let c1_457 : Index := 1#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v640 : Index := Scalar.indexCast v435
  let c11 : Index := 11#32
  let c0_458 : Index := 0#32
  let c0_459 : Index := 0#32
  ![1, v640.toNat, 11, 0, 0]
def k0_off111 (k0_t7 : Fin k0_t7_loop.trips) (k0_t8 : Fin k0_t8_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let v653 : Index := Scalar.indexCast v407
  let c0_i32_293 : BitVec 32 := 0#32
  let c1_i32_295 : BitVec 32 := 1#32
  let arg21 : BitVec 32 := Scf.iv c0_i32_293 c1_i32_295 k0_t8
  let v654 : Index := Scalar.indexCast arg21
  let c11_464 : Index := 11#32
  let c0_465 : Index := 0#32
  let c0_466 : Index := 0#32
  ![v653.toNat, v654.toNat, 11, 0, 0]
def k0_off112 (k0_t7 : Fin k0_t7_loop.trips) (k0_t8 : Fin k0_t8_loop.trips) : Fin 5 → Nat :=
  let c0_469 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v660 : Index := Scalar.indexCast v435
  let c0_470 : Index := 0#32
  let c0_471 : Index := 0#32
  let c0_472 : Index := 0#32
  ![0, v660.toNat, 0, 0, 0]
def k0_off113 (k0_t7 : Fin k0_t7_loop.trips) (k0_t8 : Fin k0_t8_loop.trips) : Fin 5 → Nat :=
  let c0_483 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v702 : Index := Scalar.indexCast v435
  let c1_484 : Index := 1#32
  let c0_485 : Index := 0#32
  let c0_486 : Index := 0#32
  ![0, v702.toNat, 1, 0, 0]
def k0_off114 (k0_t7 : Fin k0_t7_loop.trips) (k0_t8 : Fin k0_t8_loop.trips) : Fin 5 → Nat :=
  let c0_501 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v746 : Index := Scalar.indexCast v435
  let c2_502 : Index := 2#32
  let c0_503 : Index := 0#32
  let c0_504 : Index := 0#32
  ![0, v746.toNat, 2, 0, 0]
def k0_off115 (k0_t7 : Fin k0_t7_loop.trips) (k0_t8 : Fin k0_t8_loop.trips) : Fin 5 → Nat :=
  let c0_519 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v790 : Index := Scalar.indexCast v435
  let c3_520 : Index := 3#32
  let c0_521 : Index := 0#32
  let c0_522 : Index := 0#32
  ![0, v790.toNat, 3, 0, 0]
def k0_off116 (k0_t7 : Fin k0_t7_loop.trips) (k0_t8 : Fin k0_t8_loop.trips) : Fin 5 → Nat :=
  let c0_537 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v834 : Index := Scalar.indexCast v435
  let c4_538 : Index := 4#32
  let c0_539 : Index := 0#32
  let c0_540 : Index := 0#32
  ![0, v834.toNat, 4, 0, 0]
def k0_off117 (k0_t7 : Fin k0_t7_loop.trips) (k0_t8 : Fin k0_t8_loop.trips) : Fin 5 → Nat :=
  let c0_555 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v878 : Index := Scalar.indexCast v435
  let c5_556 : Index := 5#32
  let c0_557 : Index := 0#32
  let c0_558 : Index := 0#32
  ![0, v878.toNat, 5, 0, 0]
def k0_off118 (k0_t7 : Fin k0_t7_loop.trips) (k0_t8 : Fin k0_t8_loop.trips) : Fin 5 → Nat :=
  let c0_573 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v922 : Index := Scalar.indexCast v435
  let c6_574 : Index := 6#32
  let c0_575 : Index := 0#32
  let c0_576 : Index := 0#32
  ![0, v922.toNat, 6, 0, 0]
def k0_off119 (k0_t7 : Fin k0_t7_loop.trips) (k0_t8 : Fin k0_t8_loop.trips) : Fin 5 → Nat :=
  let c0_591 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v966 : Index := Scalar.indexCast v435
  let c7_592 : Index := 7#32
  let c0_593 : Index := 0#32
  let c0_594 : Index := 0#32
  ![0, v966.toNat, 7, 0, 0]
def k0_off120 (k0_t7 : Fin k0_t7_loop.trips) (k0_t8 : Fin k0_t8_loop.trips) : Fin 5 → Nat :=
  let c0_609 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v1010 : Index := Scalar.indexCast v435
  let c8_610 : Index := 8#32
  let c0_611 : Index := 0#32
  let c0_612 : Index := 0#32
  ![0, v1010.toNat, 8, 0, 0]
def k0_off121 (k0_t7 : Fin k0_t7_loop.trips) (k0_t8 : Fin k0_t8_loop.trips) : Fin 5 → Nat :=
  let c0_627 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v1054 : Index := Scalar.indexCast v435
  let c9_628 : Index := 9#32
  let c0_629 : Index := 0#32
  let c0_630 : Index := 0#32
  ![0, v1054.toNat, 9, 0, 0]
def k0_off122 (k0_t7 : Fin k0_t7_loop.trips) (k0_t8 : Fin k0_t8_loop.trips) : Fin 5 → Nat :=
  let c0_645 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v1098 : Index := Scalar.indexCast v435
  let c10_646 : Index := 10#32
  let c0_647 : Index := 0#32
  let c0_648 : Index := 0#32
  ![0, v1098.toNat, 10, 0, 0]
def k0_off123 (k0_t7 : Fin k0_t7_loop.trips) (k0_t8 : Fin k0_t8_loop.trips) : Fin 5 → Nat :=
  let c0_663 : Index := 0#32
  let c0_i32_86 : BitVec 32 := 0#32
  let c1_i32_88 : BitVec 32 := 1#32
  let arg20 : BitVec 32 := Scf.iv c0_i32_86 c1_i32_88 k0_t7
  let c9_i32_331 : BitVec 32 := 9#32
  let v434 : BitVec 32 := Scalar.muli arg20 c9_i32_331
  let c0_i32_293 : BitVec 32 := 0#32
  let c1_i32_295 : BitVec 32 := 1#32
  let arg21 : BitVec 32 := Scf.iv c0_i32_293 c1_i32_295 k0_t8
  let v435 : BitVec 32 := Scalar.addi v434 arg21
  let v1142 : Index := Scalar.indexCast v435
  let c11_664 : Index := 11#32
  let c0_665 : Index := 0#32
  let c0_666 : Index := 0#32
  ![0, v1142.toNat, 11, 0, 0]
def k0_off124 (k0_t7 : Fin k0_t7_loop.trips) : Fin 1 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  ![v407.toNat]
def k0_off125 (k0_t7 : Fin k0_t7_loop.trips) : Fin 4 → Nat :=
  let c0_i32_86 : BitVec 32 := 0#32
  let c1_i32_88 : BitVec 32 := 1#32
  let arg20 : BitVec 32 := Scf.iv c0_i32_86 c1_i32_88 k0_t7
  let c9_i32_297 : BitVec 32 := 9#32
  let v412 : BitVec 32 := Scalar.muli arg20 c9_i32_297
  let c0_i32_298 : BitVec 32 := 0#32
  let c0_i32_299 : BitVec 32 := 0#32
  let c128_i32 : BitVec 32 := 128#32
  ![v412.toNat, 0, 0, 128]
def k0_off126 (k0_t7 : Fin k0_t7_loop.trips) : Fin 5 → Nat :=
  let c8_i32_290 : BitVec 32 := 8#32
  let c0_i32_86 : BitVec 32 := 0#32
  let c1_i32_88 : BitVec 32 := 1#32
  let arg20 : BitVec 32 := Scf.iv c0_i32_86 c1_i32_88 k0_t7
  let v406 : BitVec 32 := Scalar.addi c8_i32_290 arg20
  let c3_i32 : BitVec 32 := 3#32
  let v407 : BitVec 32 := Scalar.remsi v406 c3_i32
  let c0_i32_300 : BitVec 32 := 0#32
  let c0_i32_301 : BitVec 32 := 0#32
  let c0_i32_302 : BitVec 32 := 0#32
  let c0_i32_303 : BitVec 32 := 0#32
  ![v407.toNat, 0, 0, 0, 0]
def k0_off127 (k0_t7 : Fin k0_t7_loop.trips) : Fin 3 → Nat :=
  let c0_i32_306 : BitVec 32 := 0#32
  let c1_i32_307 : BitVec 32 := 1#32
  let c0_i32_86 : BitVec 32 := 0#32
  let c1_i32_88 : BitVec 32 := 1#32
  let arg20 : BitVec 32 := Scf.iv c0_i32_86 c1_i32_88 k0_t7
  ![0, 1, arg20.toNat]
def k0_off128 (k0_t7 : Fin k0_t7_loop.trips) : Fin 5 → Nat :=
  let c1_i32_305 : BitVec 32 := 1#32
  let c0_i32_86 : BitVec 32 := 0#32
  let c1_i32_88 : BitVec 32 := 1#32
  let arg20 : BitVec 32 := Scf.iv c0_i32_86 c1_i32_88 k0_t7
  let c9_i32_304 : BitVec 32 := 9#32
  let v418 : BitVec 32 := Scalar.muli arg20 c9_i32_304
  let c0_i32_308 : BitVec 32 := 0#32
  let c0_i32_309 : BitVec 32 := 0#32
  let c0_i32_310 : BitVec 32 := 0#32
  ![1, v418.toNat, 0, 0, 0]
def k0_off129 (k0_t7 : Fin k0_t7_loop.trips) : Fin 4 → Nat :=
  let c0_i32_86 : BitVec 32 := 0#32
  let c1_i32_88 : BitVec 32 := 1#32
  let arg20 : BitVec 32 := Scf.iv c0_i32_86 c1_i32_88 k0_t7
  let c9_i32_304 : BitVec 32 := 9#32
  let v418 : BitVec 32 := Scalar.muli arg20 c9_i32_304
  let c0_i32_311 : BitVec 32 := 0#32
  let c0_i32_312 : BitVec 32 := 0#32
  let c384_i32 : BitVec 32 := 384#32
  ![v418.toNat, 0, 0, 384]
def k0_off130 (k0_t7 : Fin k0_t7_loop.trips) : Fin 3 → Nat :=
  let c1_i32_314 : BitVec 32 := 1#32
  let c1_i32_315 : BitVec 32 := 1#32
  let c0_i32_86 : BitVec 32 := 0#32
  let c1_i32_88 : BitVec 32 := 1#32
  let arg20 : BitVec 32 := Scf.iv c0_i32_86 c1_i32_88 k0_t7
  ![1, 1, arg20.toNat]
def k0_off131 (k0_t7 : Fin k0_t7_loop.trips) : Fin 3 → Nat :=
  let c2_i32_323 : BitVec 32 := 2#32
  let c1_i32_324 : BitVec 32 := 1#32
  let c0_i32_86 : BitVec 32 := 0#32
  let c1_i32_88 : BitVec 32 := 1#32
  let arg20 : BitVec 32 := Scf.iv c0_i32_86 c1_i32_88 k0_t7
  ![2, 1, arg20.toNat]
@[reducible] def k0_t9_loop : Scf.Loop 32 :=
  let c0_i32_124 : BitVec 32 := 0#32
  let c8_i32_125 : BitVec 32 := 8#32
  let v195 : BitVec 32 := Scalar.addi c0_i32_124 c8_i32_125
  let c1_i32_126 : BitVec 32 := 1#32
  ⟨c0_i32_124, v195, c1_i32_126⟩
def k0_off132 (k0_t9 : Fin k0_t9_loop.trips) : Fin 3 → Nat :=
  let c0_i32_265 : BitVec 32 := 0#32
  let c1_i32_266 : BitVec 32 := 1#32
  let c0_i32_124 : BitVec 32 := 0#32
  let c1_i32_126 : BitVec 32 := 1#32
  let arg20 : BitVec 32 := Scf.iv c0_i32_124 c1_i32_126 k0_t9
  ![0, 1, arg20.toNat]
def k0_off133 (k0_t9 : Fin k0_t9_loop.trips) : Fin 5 → Nat :=
  let c1_i32_264 : BitVec 32 := 1#32
  let c0_i32_124 : BitVec 32 := 0#32
  let c1_i32_126 : BitVec 32 := 1#32
  let arg20 : BitVec 32 := Scf.iv c0_i32_124 c1_i32_126 k0_t9
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![1, v390.toNat, 0, 0, 0]
def k0_off134 (k0_t9 : Fin k0_t9_loop.trips) : Fin 4 → Nat :=
  let c0_i32_124 : BitVec 32 := 0#32
  let c1_i32_126 : BitVec 32 := 1#32
  let arg20 : BitVec 32 := Scf.iv c0_i32_124 c1_i32_126 k0_t9
  let c9_i32 : BitVec 32 := 9#32
  let v390 : BitVec 32 := Scalar.muli arg20 c9_i32
  let c0_i32_270 : BitVec 32 := 0#32
  let c0_i32_271 : BitVec 32 := 0#32
  let c384_i32 : BitVec 32 := 384#32
  ![v390.toNat, 0, 0, 384]
def k0_off135 (k0_t9 : Fin k0_t9_loop.trips) : Fin 3 → Nat :=
  let c1_i32_273 : BitVec 32 := 1#32
  let c1_i32_274 : BitVec 32 := 1#32
  let c0_i32_124 : BitVec 32 := 0#32
  let c1_i32_126 : BitVec 32 := 1#32
  let arg20 : BitVec 32 := Scf.iv c0_i32_124 c1_i32_126 k0_t9
  ![1, 1, arg20.toNat]
def k0_off136 (k0_t9 : Fin k0_t9_loop.trips) : Fin 3 → Nat :=
  let c2_i32_282 : BitVec 32 := 2#32
  let c1_i32_283 : BitVec 32 := 1#32
  let c0_i32_124 : BitVec 32 := 0#32
  let c1_i32_126 : BitVec 32 := 1#32
  let arg20 : BitVec 32 := Scf.iv c0_i32_124 c1_i32_126 k0_t9
  ![2, 1, arg20.toNat]
def k0_cond3 (k0_t9 : Fin k0_t9_loop.trips) : BitVec 1 :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32_290 : BitVec 32 := 3#32
  let v408 : BitVec 1 := Scalar.cmpi .sge v406 c3_i32_290
  let v409 : BitVec 32 := Scalar.extui v408
  let c0_i32_291 : BitVec 32 := 0#32
  let v410 : BitVec 1 := Scalar.cmpi .ne v409 c0_i32_291
  v410

def k0_off137 (k0_t9 : Fin k0_t9_loop.trips) : Fin 1 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  ![v407.toNat]
def k0_off138 (k0_t9 : Fin k0_t9_loop.trips) : Fin 4 → Nat :=
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_331 : BitVec 32 := 0#32
  let c0_i32_332 : BitVec 32 := 0#32
  let c256_i32_333 : BitVec 32 := 256#32
  ![v434.toNat, 0, 0, 256]
def k0_off139 (k0_t9 : Fin k0_t9_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let c0_i32_334 : BitVec 32 := 0#32
  let c0_i32_335 : BitVec 32 := 0#32
  let c0_i32_336 : BitVec 32 := 0#32
  let c0_i32_337 : BitVec 32 := 0#32
  ![v407.toNat, 0, 0, 0, 0]
@[reducible] def k0_t10_loop : Scf.Loop 32 :=
  let c0_i32_292 : BitVec 32 := 0#32
  let c9_i32_293 : BitVec 32 := 9#32
  let v411 : BitVec 32 := Scalar.addi c0_i32_292 c9_i32_293
  let c1_i32_294 : BitVec 32 := 1#32
  ⟨c0_i32_292, v411, c1_i32_294⟩
def k0_off140 (k0_t9 : Fin k0_t9_loop.trips) (k0_t10 : Fin k0_t10_loop.trips) : Fin 5 → Nat :=
  let c0_340 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v442 : Index := Scalar.indexCast v435
  let c0_341 : Index := 0#32
  let c0_342 : Index := 0#32
  let c0_343 : Index := 0#32
  ![0, v442.toNat, 0, 0, 0]
def k0_off141 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v455 : Index := Scalar.indexCast v407
  let c0_i32_292 : BitVec 32 := 0#32
  let c1_i32_294 : BitVec 32 := 1#32
  let arg21 : BitVec 32 := Scf.iv c0_i32_292 c1_i32_294 k0_t10
  let v456 : Index := Scalar.indexCast arg21
  let c0_348 : Index := 0#32
  let c0_349 : Index := 0#32
  let c0_350 : Index := 0#32
  ![v455.toNat, v456.toNat, 0, 0, 0]
def k0_off142 (k0_t9 : Fin k0_t9_loop.trips) (k0_t10 : Fin k0_t10_loop.trips) : Fin 5 → Nat :=
  let c0_351 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v460 : Index := Scalar.indexCast v435
  let c1_352 : Index := 1#32
  let c0_353 : Index := 0#32
  let c0_354 : Index := 0#32
  ![0, v460.toNat, 1, 0, 0]
def k0_off143 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v473 : Index := Scalar.indexCast v407
  let c0_i32_292 : BitVec 32 := 0#32
  let c1_i32_294 : BitVec 32 := 1#32
  let arg21 : BitVec 32 := Scf.iv c0_i32_292 c1_i32_294 k0_t10
  let v474 : Index := Scalar.indexCast arg21
  let c1_359 : Index := 1#32
  let c0_360 : Index := 0#32
  let c0_361 : Index := 0#32
  ![v473.toNat, v474.toNat, 1, 0, 0]
def k0_off144 (k0_t9 : Fin k0_t9_loop.trips) (k0_t10 : Fin k0_t10_loop.trips) : Fin 5 → Nat :=
  let c0_362 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v478 : Index := Scalar.indexCast v435
  let c2_363 : Index := 2#32
  let c0_364 : Index := 0#32
  let c0_365 : Index := 0#32
  ![0, v478.toNat, 2, 0, 0]
def k0_off145 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v491 : Index := Scalar.indexCast v407
  let c0_i32_292 : BitVec 32 := 0#32
  let c1_i32_294 : BitVec 32 := 1#32
  let arg21 : BitVec 32 := Scf.iv c0_i32_292 c1_i32_294 k0_t10
  let v492 : Index := Scalar.indexCast arg21
  let c2_370 : Index := 2#32
  let c0_371 : Index := 0#32
  let c0_372 : Index := 0#32
  ![v491.toNat, v492.toNat, 2, 0, 0]
def k0_off146 (k0_t9 : Fin k0_t9_loop.trips) (k0_t10 : Fin k0_t10_loop.trips) : Fin 5 → Nat :=
  let c0_373 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v496 : Index := Scalar.indexCast v435
  let c3_374 : Index := 3#32
  let c0_375 : Index := 0#32
  let c0_376 : Index := 0#32
  ![0, v496.toNat, 3, 0, 0]
def k0_off147 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v509 : Index := Scalar.indexCast v407
  let c0_i32_292 : BitVec 32 := 0#32
  let c1_i32_294 : BitVec 32 := 1#32
  let arg21 : BitVec 32 := Scf.iv c0_i32_292 c1_i32_294 k0_t10
  let v510 : Index := Scalar.indexCast arg21
  let c3_381 : Index := 3#32
  let c0_382 : Index := 0#32
  let c0_383 : Index := 0#32
  ![v509.toNat, v510.toNat, 3, 0, 0]
def k0_off148 (k0_t9 : Fin k0_t9_loop.trips) (k0_t10 : Fin k0_t10_loop.trips) : Fin 5 → Nat :=
  let c0_384 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v514 : Index := Scalar.indexCast v435
  let c4_385 : Index := 4#32
  let c0_386 : Index := 0#32
  let c0_387 : Index := 0#32
  ![0, v514.toNat, 4, 0, 0]
def k0_off149 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v527 : Index := Scalar.indexCast v407
  let c0_i32_292 : BitVec 32 := 0#32
  let c1_i32_294 : BitVec 32 := 1#32
  let arg21 : BitVec 32 := Scf.iv c0_i32_292 c1_i32_294 k0_t10
  let v528 : Index := Scalar.indexCast arg21
  let c4_392 : Index := 4#32
  let c0_393 : Index := 0#32
  let c0_394 : Index := 0#32
  ![v527.toNat, v528.toNat, 4, 0, 0]
def k0_off150 (k0_t9 : Fin k0_t9_loop.trips) (k0_t10 : Fin k0_t10_loop.trips) : Fin 5 → Nat :=
  let c0_395 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v532 : Index := Scalar.indexCast v435
  let c5_396 : Index := 5#32
  let c0_397 : Index := 0#32
  let c0_398 : Index := 0#32
  ![0, v532.toNat, 5, 0, 0]
def k0_off151 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v545 : Index := Scalar.indexCast v407
  let c0_i32_292 : BitVec 32 := 0#32
  let c1_i32_294 : BitVec 32 := 1#32
  let arg21 : BitVec 32 := Scf.iv c0_i32_292 c1_i32_294 k0_t10
  let v546 : Index := Scalar.indexCast arg21
  let c5_403 : Index := 5#32
  let c0_404 : Index := 0#32
  let c0_405 : Index := 0#32
  ![v545.toNat, v546.toNat, 5, 0, 0]
def k0_off152 (k0_t9 : Fin k0_t9_loop.trips) (k0_t10 : Fin k0_t10_loop.trips) : Fin 5 → Nat :=
  let c0_406 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v550 : Index := Scalar.indexCast v435
  let c6 : Index := 6#32
  let c0_407 : Index := 0#32
  let c0_408 : Index := 0#32
  ![0, v550.toNat, 6, 0, 0]
def k0_off153 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v563 : Index := Scalar.indexCast v407
  let c0_i32_292 : BitVec 32 := 0#32
  let c1_i32_294 : BitVec 32 := 1#32
  let arg21 : BitVec 32 := Scf.iv c0_i32_292 c1_i32_294 k0_t10
  let v564 : Index := Scalar.indexCast arg21
  let c6_413 : Index := 6#32
  let c0_414 : Index := 0#32
  let c0_415 : Index := 0#32
  ![v563.toNat, v564.toNat, 6, 0, 0]
def k0_off154 (k0_t9 : Fin k0_t9_loop.trips) (k0_t10 : Fin k0_t10_loop.trips) : Fin 5 → Nat :=
  let c0_416 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v568 : Index := Scalar.indexCast v435
  let c7 : Index := 7#32
  let c0_417 : Index := 0#32
  let c0_418 : Index := 0#32
  ![0, v568.toNat, 7, 0, 0]
def k0_off155 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v581 : Index := Scalar.indexCast v407
  let c0_i32_292 : BitVec 32 := 0#32
  let c1_i32_294 : BitVec 32 := 1#32
  let arg21 : BitVec 32 := Scf.iv c0_i32_292 c1_i32_294 k0_t10
  let v582 : Index := Scalar.indexCast arg21
  let c7_423 : Index := 7#32
  let c0_424 : Index := 0#32
  let c0_425 : Index := 0#32
  ![v581.toNat, v582.toNat, 7, 0, 0]
def k0_off156 (k0_t9 : Fin k0_t9_loop.trips) (k0_t10 : Fin k0_t10_loop.trips) : Fin 5 → Nat :=
  let c0_426 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v586 : Index := Scalar.indexCast v435
  let c8 : Index := 8#32
  let c0_427 : Index := 0#32
  let c0_428 : Index := 0#32
  ![0, v586.toNat, 8, 0, 0]
def k0_off157 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v599 : Index := Scalar.indexCast v407
  let c0_i32_292 : BitVec 32 := 0#32
  let c1_i32_294 : BitVec 32 := 1#32
  let arg21 : BitVec 32 := Scf.iv c0_i32_292 c1_i32_294 k0_t10
  let v600 : Index := Scalar.indexCast arg21
  let c8_433 : Index := 8#32
  let c0_434 : Index := 0#32
  let c0_435 : Index := 0#32
  ![v599.toNat, v600.toNat, 8, 0, 0]
def k0_off158 (k0_t9 : Fin k0_t9_loop.trips) (k0_t10 : Fin k0_t10_loop.trips) : Fin 5 → Nat :=
  let c0_436 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v604 : Index := Scalar.indexCast v435
  let c9 : Index := 9#32
  let c0_437 : Index := 0#32
  let c0_438 : Index := 0#32
  ![0, v604.toNat, 9, 0, 0]
def k0_off159 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v617 : Index := Scalar.indexCast v407
  let c0_i32_292 : BitVec 32 := 0#32
  let c1_i32_294 : BitVec 32 := 1#32
  let arg21 : BitVec 32 := Scf.iv c0_i32_292 c1_i32_294 k0_t10
  let v618 : Index := Scalar.indexCast arg21
  let c9_443 : Index := 9#32
  let c0_444 : Index := 0#32
  let c0_445 : Index := 0#32
  ![v617.toNat, v618.toNat, 9, 0, 0]
def k0_off160 (k0_t9 : Fin k0_t9_loop.trips) (k0_t10 : Fin k0_t10_loop.trips) : Fin 5 → Nat :=
  let c0_446 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v622 : Index := Scalar.indexCast v435
  let c10 : Index := 10#32
  let c0_447 : Index := 0#32
  let c0_448 : Index := 0#32
  ![0, v622.toNat, 10, 0, 0]
def k0_off161 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v635 : Index := Scalar.indexCast v407
  let c0_i32_292 : BitVec 32 := 0#32
  let c1_i32_294 : BitVec 32 := 1#32
  let arg21 : BitVec 32 := Scf.iv c0_i32_292 c1_i32_294 k0_t10
  let v636 : Index := Scalar.indexCast arg21
  let c10_453 : Index := 10#32
  let c0_454 : Index := 0#32
  let c0_455 : Index := 0#32
  ![v635.toNat, v636.toNat, 10, 0, 0]
def k0_off162 (k0_t9 : Fin k0_t9_loop.trips) (k0_t10 : Fin k0_t10_loop.trips) : Fin 5 → Nat :=
  let c0_456 : Index := 0#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v640 : Index := Scalar.indexCast v435
  let c11 : Index := 11#32
  let c0_457 : Index := 0#32
  let c0_458 : Index := 0#32
  ![0, v640.toNat, 11, 0, 0]
def k0_off163 (k0_t9 : Fin k0_t9_loop.trips) (k0_t10 : Fin k0_t10_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let v653 : Index := Scalar.indexCast v407
  let c0_i32_292 : BitVec 32 := 0#32
  let c1_i32_294 : BitVec 32 := 1#32
  let arg21 : BitVec 32 := Scf.iv c0_i32_292 c1_i32_294 k0_t10
  let v654 : Index := Scalar.indexCast arg21
  let c11_463 : Index := 11#32
  let c0_464 : Index := 0#32
  let c0_465 : Index := 0#32
  ![v653.toNat, v654.toNat, 11, 0, 0]
def k0_off164 (k0_t9 : Fin k0_t9_loop.trips) (k0_t10 : Fin k0_t10_loop.trips) : Fin 5 → Nat :=
  let c1_468 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v660 : Index := Scalar.indexCast v435
  let c0_469 : Index := 0#32
  let c0_470 : Index := 0#32
  let c0_471 : Index := 0#32
  ![1, v660.toNat, 0, 0, 0]
def k0_off165 (k0_t9 : Fin k0_t9_loop.trips) (k0_t10 : Fin k0_t10_loop.trips) : Fin 5 → Nat :=
  let c1_482 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v702 : Index := Scalar.indexCast v435
  let c1_483 : Index := 1#32
  let c0_484 : Index := 0#32
  let c0_485 : Index := 0#32
  ![1, v702.toNat, 1, 0, 0]
def k0_off166 (k0_t9 : Fin k0_t9_loop.trips) (k0_t10 : Fin k0_t10_loop.trips) : Fin 5 → Nat :=
  let c1_500 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v746 : Index := Scalar.indexCast v435
  let c2_501 : Index := 2#32
  let c0_502 : Index := 0#32
  let c0_503 : Index := 0#32
  ![1, v746.toNat, 2, 0, 0]
def k0_off167 (k0_t9 : Fin k0_t9_loop.trips) (k0_t10 : Fin k0_t10_loop.trips) : Fin 5 → Nat :=
  let c1_518 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v790 : Index := Scalar.indexCast v435
  let c3_519 : Index := 3#32
  let c0_520 : Index := 0#32
  let c0_521 : Index := 0#32
  ![1, v790.toNat, 3, 0, 0]
def k0_off168 (k0_t9 : Fin k0_t9_loop.trips) (k0_t10 : Fin k0_t10_loop.trips) : Fin 5 → Nat :=
  let c1_536 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v834 : Index := Scalar.indexCast v435
  let c4_537 : Index := 4#32
  let c0_538 : Index := 0#32
  let c0_539 : Index := 0#32
  ![1, v834.toNat, 4, 0, 0]
def k0_off169 (k0_t9 : Fin k0_t9_loop.trips) (k0_t10 : Fin k0_t10_loop.trips) : Fin 5 → Nat :=
  let c1_554 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v878 : Index := Scalar.indexCast v435
  let c5_555 : Index := 5#32
  let c0_556 : Index := 0#32
  let c0_557 : Index := 0#32
  ![1, v878.toNat, 5, 0, 0]
def k0_off170 (k0_t9 : Fin k0_t9_loop.trips) (k0_t10 : Fin k0_t10_loop.trips) : Fin 5 → Nat :=
  let c1_572 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v922 : Index := Scalar.indexCast v435
  let c6_573 : Index := 6#32
  let c0_574 : Index := 0#32
  let c0_575 : Index := 0#32
  ![1, v922.toNat, 6, 0, 0]
def k0_off171 (k0_t9 : Fin k0_t9_loop.trips) (k0_t10 : Fin k0_t10_loop.trips) : Fin 5 → Nat :=
  let c1_590 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v966 : Index := Scalar.indexCast v435
  let c7_591 : Index := 7#32
  let c0_592 : Index := 0#32
  let c0_593 : Index := 0#32
  ![1, v966.toNat, 7, 0, 0]
def k0_off172 (k0_t9 : Fin k0_t9_loop.trips) (k0_t10 : Fin k0_t10_loop.trips) : Fin 5 → Nat :=
  let c1_608 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v1010 : Index := Scalar.indexCast v435
  let c8_609 : Index := 8#32
  let c0_610 : Index := 0#32
  let c0_611 : Index := 0#32
  ![1, v1010.toNat, 8, 0, 0]
def k0_off173 (k0_t9 : Fin k0_t9_loop.trips) (k0_t10 : Fin k0_t10_loop.trips) : Fin 5 → Nat :=
  let c1_626 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v1054 : Index := Scalar.indexCast v435
  let c9_627 : Index := 9#32
  let c0_628 : Index := 0#32
  let c0_629 : Index := 0#32
  ![1, v1054.toNat, 9, 0, 0]
def k0_off174 (k0_t9 : Fin k0_t9_loop.trips) (k0_t10 : Fin k0_t10_loop.trips) : Fin 5 → Nat :=
  let c1_644 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v1098 : Index := Scalar.indexCast v435
  let c10_645 : Index := 10#32
  let c0_646 : Index := 0#32
  let c0_647 : Index := 0#32
  ![1, v1098.toNat, 10, 0, 0]
def k0_off175 (k0_t9 : Fin k0_t9_loop.trips) (k0_t10 : Fin k0_t10_loop.trips) : Fin 5 → Nat :=
  let c1_662 : Index := 1#32
  let c0_i32_124 : BitVec 32 := 0#32
  let c1_i32_126 : BitVec 32 := 1#32
  let arg20 : BitVec 32 := Scf.iv c0_i32_124 c1_i32_126 k0_t9
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t10
  let v435 : BitVec 32 := Scalar.addi v434 arg21
  let v1142 : Index := Scalar.indexCast v435
  let c11_663 : Index := 11#32
  let c0_664 : Index := 0#32
  let c0_665 : Index := 0#32
  ![1, v1142.toNat, 11, 0, 0]
def k0_off176 (k0_t9 : Fin k0_t9_loop.trips) : Fin 1 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  ![v407.toNat]
def k0_off177 (k0_t9 : Fin k0_t9_loop.trips) : Fin 4 → Nat :=
  let c0_i32_124 : BitVec 32 := 0#32
  let c1_i32_126 : BitVec 32 := 1#32
  let arg20 : BitVec 32 := Scf.iv c0_i32_124 c1_i32_126 k0_t9
  let c9_i32_296 : BitVec 32 := 9#32
  let v412 : BitVec 32 := Scalar.muli arg20 c9_i32_296
  let c0_i32_297 : BitVec 32 := 0#32
  let c0_i32_298 : BitVec 32 := 0#32
  let c256_i32 : BitVec 32 := 256#32
  ![v412.toNat, 0, 0, 256]
def k0_off178 (k0_t9 : Fin k0_t9_loop.trips) : Fin 5 → Nat :=
  let c16_i32 : BitVec 32 := 16#32
  let c0_i32_124 : BitVec 32 := 0#32
  let c1_i32_126 : BitVec 32 := 1#32
  let arg20 : BitVec 32 := Scf.iv c0_i32_124 c1_i32_126 k0_t9
  let v406 : BitVec 32 := Scalar.addi c16_i32 arg20
  let c3_i32 : BitVec 32 := 3#32
  let v407 : BitVec 32 := Scalar.remsi v406 c3_i32
  let c0_i32_299 : BitVec 32 := 0#32
  let c0_i32_300 : BitVec 32 := 0#32
  let c0_i32_301 : BitVec 32 := 0#32
  let c0_i32_302 : BitVec 32 := 0#32
  ![v407.toNat, 0, 0, 0, 0]
def k0_off179 (k0_t9 : Fin k0_t9_loop.trips) : Fin 3 → Nat :=
  let c0_i32_305 : BitVec 32 := 0#32
  let c0_i32_306 : BitVec 32 := 0#32
  let c0_i32_124 : BitVec 32 := 0#32
  let c1_i32_126 : BitVec 32 := 1#32
  let arg20 : BitVec 32 := Scf.iv c0_i32_124 c1_i32_126 k0_t9
  ![0, 0, arg20.toNat]
def k0_off180 (k0_t9 : Fin k0_t9_loop.trips) : Fin 5 → Nat :=
  let c0_i32_304 : BitVec 32 := 0#32
  let c0_i32_124 : BitVec 32 := 0#32
  let c1_i32_126 : BitVec 32 := 1#32
  let arg20 : BitVec 32 := Scf.iv c0_i32_124 c1_i32_126 k0_t9
  let c9_i32_303 : BitVec 32 := 9#32
  let v418 : BitVec 32 := Scalar.muli arg20 c9_i32_303
  let c0_i32_307 : BitVec 32 := 0#32
  let c0_i32_308 : BitVec 32 := 0#32
  let c0_i32_309 : BitVec 32 := 0#32
  ![0, v418.toNat, 0, 0, 0]
def k0_off181 (k0_t9 : Fin k0_t9_loop.trips) : Fin 4 → Nat :=
  let c0_i32_124 : BitVec 32 := 0#32
  let c1_i32_126 : BitVec 32 := 1#32
  let arg20 : BitVec 32 := Scf.iv c0_i32_124 c1_i32_126 k0_t9
  let c9_i32_303 : BitVec 32 := 9#32
  let v418 : BitVec 32 := Scalar.muli arg20 c9_i32_303
  let c0_i32_310 : BitVec 32 := 0#32
  let c0_i32_311 : BitVec 32 := 0#32
  let c512_i32 : BitVec 32 := 512#32
  ![v418.toNat, 0, 0, 512]
def k0_off182 (k0_t9 : Fin k0_t9_loop.trips) : Fin 3 → Nat :=
  let c1_i32_313 : BitVec 32 := 1#32
  let c0_i32_314 : BitVec 32 := 0#32
  let c0_i32_124 : BitVec 32 := 0#32
  let c1_i32_126 : BitVec 32 := 1#32
  let arg20 : BitVec 32 := Scf.iv c0_i32_124 c1_i32_126 k0_t9
  ![1, 0, arg20.toNat]
def k0_off183 (k0_t9 : Fin k0_t9_loop.trips) : Fin 3 → Nat :=
  let c2_i32_322 : BitVec 32 := 2#32
  let c0_i32_323 : BitVec 32 := 0#32
  let c0_i32_124 : BitVec 32 := 0#32
  let c1_i32_126 : BitVec 32 := 1#32
  let arg20 : BitVec 32 := Scf.iv c0_i32_124 c1_i32_126 k0_t9
  ![2, 0, arg20.toNat]
@[reducible] def k0_t11_loop : Scf.Loop 32 :=
  let c0_i32_161 : BitVec 32 := 0#32
  let c8_i32_162 : BitVec 32 := 8#32
  let v256 : BitVec 32 := Scalar.addi c0_i32_161 c8_i32_162
  let c1_i32_163 : BitVec 32 := 1#32
  ⟨c0_i32_161, v256, c1_i32_163⟩
def k0_off184 (k0_t11 : Fin k0_t11_loop.trips) : Fin 3 → Nat :=
  let c0_i32_265 : BitVec 32 := 0#32
  let c0_i32_266 : BitVec 32 := 0#32
  let c0_i32_161 : BitVec 32 := 0#32
  let c1_i32_163 : BitVec 32 := 1#32
  let arg20 : BitVec 32 := Scf.iv c0_i32_161 c1_i32_163 k0_t11
  ![0, 0, arg20.toNat]
def k0_off185 (k0_t11 : Fin k0_t11_loop.trips) : Fin 5 → Nat :=
  let c0_i32_264 : BitVec 32 := 0#32
  let c0_i32_161 : BitVec 32 := 0#32
  let c1_i32_163 : BitVec 32 := 1#32
  let arg20 : BitVec 32 := Scf.iv c0_i32_161 c1_i32_163 k0_t11
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![0, v390.toNat, 0, 0, 0]
def k0_off186 (k0_t11 : Fin k0_t11_loop.trips) : Fin 4 → Nat :=
  let c0_i32_161 : BitVec 32 := 0#32
  let c1_i32_163 : BitVec 32 := 1#32
  let arg20 : BitVec 32 := Scf.iv c0_i32_161 c1_i32_163 k0_t11
  let c9_i32 : BitVec 32 := 9#32
  let v390 : BitVec 32 := Scalar.muli arg20 c9_i32
  let c0_i32_270 : BitVec 32 := 0#32
  let c0_i32_271 : BitVec 32 := 0#32
  let c512_i32 : BitVec 32 := 512#32
  ![v390.toNat, 0, 0, 512]
def k0_off187 (k0_t11 : Fin k0_t11_loop.trips) : Fin 3 → Nat :=
  let c1_i32_273 : BitVec 32 := 1#32
  let c0_i32_274 : BitVec 32 := 0#32
  let c0_i32_161 : BitVec 32 := 0#32
  let c1_i32_163 : BitVec 32 := 1#32
  let arg20 : BitVec 32 := Scf.iv c0_i32_161 c1_i32_163 k0_t11
  ![1, 0, arg20.toNat]
def k0_off188 (k0_t11 : Fin k0_t11_loop.trips) : Fin 3 → Nat :=
  let c2_i32_282 : BitVec 32 := 2#32
  let c0_i32_283 : BitVec 32 := 0#32
  let c0_i32_161 : BitVec 32 := 0#32
  let c1_i32_163 : BitVec 32 := 1#32
  let arg20 : BitVec 32 := Scf.iv c0_i32_161 c1_i32_163 k0_t11
  ![2, 0, arg20.toNat]
def k0_cond4 (k0_t11 : Fin k0_t11_loop.trips) : BitVec 1 :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32_290 : BitVec 32 := 3#32
  let v408 : BitVec 1 := Scalar.cmpi .sge v406 c3_i32_290
  let v409 : BitVec 32 := Scalar.extui v408
  let c0_i32_291 : BitVec 32 := 0#32
  let v410 : BitVec 1 := Scalar.cmpi .ne v409 c0_i32_291
  v410

def k0_off189 (k0_t11 : Fin k0_t11_loop.trips) : Fin 1 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  ![v407.toNat]
def k0_off190 (k0_t11 : Fin k0_t11_loop.trips) : Fin 4 → Nat :=
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_331 : BitVec 32 := 0#32
  let c0_i32_332 : BitVec 32 := 0#32
  let c384_i32_333 : BitVec 32 := 384#32
  ![v434.toNat, 0, 0, 384]
def k0_off191 (k0_t11 : Fin k0_t11_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let c0_i32_334 : BitVec 32 := 0#32
  let c0_i32_335 : BitVec 32 := 0#32
  let c0_i32_336 : BitVec 32 := 0#32
  let c0_i32_337 : BitVec 32 := 0#32
  ![v407.toNat, 0, 0, 0, 0]
@[reducible] def k0_t12_loop : Scf.Loop 32 :=
  let c0_i32_292 : BitVec 32 := 0#32
  let c9_i32_293 : BitVec 32 := 9#32
  let v411 : BitVec 32 := Scalar.addi c0_i32_292 c9_i32_293
  let c1_i32_294 : BitVec 32 := 1#32
  ⟨c0_i32_292, v411, c1_i32_294⟩
def k0_off192 (k0_t11 : Fin k0_t11_loop.trips) (k0_t12 : Fin k0_t12_loop.trips) : Fin 5 → Nat :=
  let c1_340 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v442 : Index := Scalar.indexCast v435
  let c0_341 : Index := 0#32
  let c0_342 : Index := 0#32
  let c0_343 : Index := 0#32
  ![1, v442.toNat, 0, 0, 0]
def k0_off193 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v455 : Index := Scalar.indexCast v407
  let c0_i32_292 : BitVec 32 := 0#32
  let c1_i32_294 : BitVec 32 := 1#32
  let arg21 : BitVec 32 := Scf.iv c0_i32_292 c1_i32_294 k0_t12
  let v456 : Index := Scalar.indexCast arg21
  let c0_348 : Index := 0#32
  let c0_349 : Index := 0#32
  let c0_350 : Index := 0#32
  ![v455.toNat, v456.toNat, 0, 0, 0]
def k0_off194 (k0_t11 : Fin k0_t11_loop.trips) (k0_t12 : Fin k0_t12_loop.trips) : Fin 5 → Nat :=
  let c1_351 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v460 : Index := Scalar.indexCast v435
  let c1_352 : Index := 1#32
  let c0_353 : Index := 0#32
  let c0_354 : Index := 0#32
  ![1, v460.toNat, 1, 0, 0]
def k0_off195 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v473 : Index := Scalar.indexCast v407
  let c0_i32_292 : BitVec 32 := 0#32
  let c1_i32_294 : BitVec 32 := 1#32
  let arg21 : BitVec 32 := Scf.iv c0_i32_292 c1_i32_294 k0_t12
  let v474 : Index := Scalar.indexCast arg21
  let c1_359 : Index := 1#32
  let c0_360 : Index := 0#32
  let c0_361 : Index := 0#32
  ![v473.toNat, v474.toNat, 1, 0, 0]
def k0_off196 (k0_t11 : Fin k0_t11_loop.trips) (k0_t12 : Fin k0_t12_loop.trips) : Fin 5 → Nat :=
  let c1_362 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v478 : Index := Scalar.indexCast v435
  let c2_363 : Index := 2#32
  let c0_364 : Index := 0#32
  let c0_365 : Index := 0#32
  ![1, v478.toNat, 2, 0, 0]
def k0_off197 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v491 : Index := Scalar.indexCast v407
  let c0_i32_292 : BitVec 32 := 0#32
  let c1_i32_294 : BitVec 32 := 1#32
  let arg21 : BitVec 32 := Scf.iv c0_i32_292 c1_i32_294 k0_t12
  let v492 : Index := Scalar.indexCast arg21
  let c2_370 : Index := 2#32
  let c0_371 : Index := 0#32
  let c0_372 : Index := 0#32
  ![v491.toNat, v492.toNat, 2, 0, 0]
def k0_off198 (k0_t11 : Fin k0_t11_loop.trips) (k0_t12 : Fin k0_t12_loop.trips) : Fin 5 → Nat :=
  let c1_373 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v496 : Index := Scalar.indexCast v435
  let c3_374 : Index := 3#32
  let c0_375 : Index := 0#32
  let c0_376 : Index := 0#32
  ![1, v496.toNat, 3, 0, 0]
def k0_off199 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v509 : Index := Scalar.indexCast v407
  let c0_i32_292 : BitVec 32 := 0#32
  let c1_i32_294 : BitVec 32 := 1#32
  let arg21 : BitVec 32 := Scf.iv c0_i32_292 c1_i32_294 k0_t12
  let v510 : Index := Scalar.indexCast arg21
  let c3_381 : Index := 3#32
  let c0_382 : Index := 0#32
  let c0_383 : Index := 0#32
  ![v509.toNat, v510.toNat, 3, 0, 0]
def k0_off200 (k0_t11 : Fin k0_t11_loop.trips) (k0_t12 : Fin k0_t12_loop.trips) : Fin 5 → Nat :=
  let c1_384 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v514 : Index := Scalar.indexCast v435
  let c4_385 : Index := 4#32
  let c0_386 : Index := 0#32
  let c0_387 : Index := 0#32
  ![1, v514.toNat, 4, 0, 0]
def k0_off201 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v527 : Index := Scalar.indexCast v407
  let c0_i32_292 : BitVec 32 := 0#32
  let c1_i32_294 : BitVec 32 := 1#32
  let arg21 : BitVec 32 := Scf.iv c0_i32_292 c1_i32_294 k0_t12
  let v528 : Index := Scalar.indexCast arg21
  let c4_392 : Index := 4#32
  let c0_393 : Index := 0#32
  let c0_394 : Index := 0#32
  ![v527.toNat, v528.toNat, 4, 0, 0]
def k0_off202 (k0_t11 : Fin k0_t11_loop.trips) (k0_t12 : Fin k0_t12_loop.trips) : Fin 5 → Nat :=
  let c1_395 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v532 : Index := Scalar.indexCast v435
  let c5_396 : Index := 5#32
  let c0_397 : Index := 0#32
  let c0_398 : Index := 0#32
  ![1, v532.toNat, 5, 0, 0]
def k0_off203 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v545 : Index := Scalar.indexCast v407
  let c0_i32_292 : BitVec 32 := 0#32
  let c1_i32_294 : BitVec 32 := 1#32
  let arg21 : BitVec 32 := Scf.iv c0_i32_292 c1_i32_294 k0_t12
  let v546 : Index := Scalar.indexCast arg21
  let c5_403 : Index := 5#32
  let c0_404 : Index := 0#32
  let c0_405 : Index := 0#32
  ![v545.toNat, v546.toNat, 5, 0, 0]
def k0_off204 (k0_t11 : Fin k0_t11_loop.trips) (k0_t12 : Fin k0_t12_loop.trips) : Fin 5 → Nat :=
  let c1_406 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v550 : Index := Scalar.indexCast v435
  let c6 : Index := 6#32
  let c0_407 : Index := 0#32
  let c0_408 : Index := 0#32
  ![1, v550.toNat, 6, 0, 0]
def k0_off205 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v563 : Index := Scalar.indexCast v407
  let c0_i32_292 : BitVec 32 := 0#32
  let c1_i32_294 : BitVec 32 := 1#32
  let arg21 : BitVec 32 := Scf.iv c0_i32_292 c1_i32_294 k0_t12
  let v564 : Index := Scalar.indexCast arg21
  let c6_413 : Index := 6#32
  let c0_414 : Index := 0#32
  let c0_415 : Index := 0#32
  ![v563.toNat, v564.toNat, 6, 0, 0]
def k0_off206 (k0_t11 : Fin k0_t11_loop.trips) (k0_t12 : Fin k0_t12_loop.trips) : Fin 5 → Nat :=
  let c1_416 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v568 : Index := Scalar.indexCast v435
  let c7 : Index := 7#32
  let c0_417 : Index := 0#32
  let c0_418 : Index := 0#32
  ![1, v568.toNat, 7, 0, 0]
def k0_off207 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v581 : Index := Scalar.indexCast v407
  let c0_i32_292 : BitVec 32 := 0#32
  let c1_i32_294 : BitVec 32 := 1#32
  let arg21 : BitVec 32 := Scf.iv c0_i32_292 c1_i32_294 k0_t12
  let v582 : Index := Scalar.indexCast arg21
  let c7_423 : Index := 7#32
  let c0_424 : Index := 0#32
  let c0_425 : Index := 0#32
  ![v581.toNat, v582.toNat, 7, 0, 0]
def k0_off208 (k0_t11 : Fin k0_t11_loop.trips) (k0_t12 : Fin k0_t12_loop.trips) : Fin 5 → Nat :=
  let c1_426 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v586 : Index := Scalar.indexCast v435
  let c8 : Index := 8#32
  let c0_427 : Index := 0#32
  let c0_428 : Index := 0#32
  ![1, v586.toNat, 8, 0, 0]
def k0_off209 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v599 : Index := Scalar.indexCast v407
  let c0_i32_292 : BitVec 32 := 0#32
  let c1_i32_294 : BitVec 32 := 1#32
  let arg21 : BitVec 32 := Scf.iv c0_i32_292 c1_i32_294 k0_t12
  let v600 : Index := Scalar.indexCast arg21
  let c8_433 : Index := 8#32
  let c0_434 : Index := 0#32
  let c0_435 : Index := 0#32
  ![v599.toNat, v600.toNat, 8, 0, 0]
def k0_off210 (k0_t11 : Fin k0_t11_loop.trips) (k0_t12 : Fin k0_t12_loop.trips) : Fin 5 → Nat :=
  let c1_436 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v604 : Index := Scalar.indexCast v435
  let c9 : Index := 9#32
  let c0_437 : Index := 0#32
  let c0_438 : Index := 0#32
  ![1, v604.toNat, 9, 0, 0]
def k0_off211 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v617 : Index := Scalar.indexCast v407
  let c0_i32_292 : BitVec 32 := 0#32
  let c1_i32_294 : BitVec 32 := 1#32
  let arg21 : BitVec 32 := Scf.iv c0_i32_292 c1_i32_294 k0_t12
  let v618 : Index := Scalar.indexCast arg21
  let c9_443 : Index := 9#32
  let c0_444 : Index := 0#32
  let c0_445 : Index := 0#32
  ![v617.toNat, v618.toNat, 9, 0, 0]
def k0_off212 (k0_t11 : Fin k0_t11_loop.trips) (k0_t12 : Fin k0_t12_loop.trips) : Fin 5 → Nat :=
  let c1_446 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v622 : Index := Scalar.indexCast v435
  let c10 : Index := 10#32
  let c0_447 : Index := 0#32
  let c0_448 : Index := 0#32
  ![1, v622.toNat, 10, 0, 0]
def k0_off213 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v635 : Index := Scalar.indexCast v407
  let c0_i32_292 : BitVec 32 := 0#32
  let c1_i32_294 : BitVec 32 := 1#32
  let arg21 : BitVec 32 := Scf.iv c0_i32_292 c1_i32_294 k0_t12
  let v636 : Index := Scalar.indexCast arg21
  let c10_453 : Index := 10#32
  let c0_454 : Index := 0#32
  let c0_455 : Index := 0#32
  ![v635.toNat, v636.toNat, 10, 0, 0]
def k0_off214 (k0_t11 : Fin k0_t11_loop.trips) (k0_t12 : Fin k0_t12_loop.trips) : Fin 5 → Nat :=
  let c1_456 : Index := 1#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v640 : Index := Scalar.indexCast v435
  let c11 : Index := 11#32
  let c0_457 : Index := 0#32
  let c0_458 : Index := 0#32
  ![1, v640.toNat, 11, 0, 0]
def k0_off215 (k0_t11 : Fin k0_t11_loop.trips) (k0_t12 : Fin k0_t12_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let v653 : Index := Scalar.indexCast v407
  let c0_i32_292 : BitVec 32 := 0#32
  let c1_i32_294 : BitVec 32 := 1#32
  let arg21 : BitVec 32 := Scf.iv c0_i32_292 c1_i32_294 k0_t12
  let v654 : Index := Scalar.indexCast arg21
  let c11_463 : Index := 11#32
  let c0_464 : Index := 0#32
  let c0_465 : Index := 0#32
  ![v653.toNat, v654.toNat, 11, 0, 0]
def k0_off216 (k0_t11 : Fin k0_t11_loop.trips) (k0_t12 : Fin k0_t12_loop.trips) : Fin 5 → Nat :=
  let c0_468 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v660 : Index := Scalar.indexCast v435
  let c0_469 : Index := 0#32
  let c0_470 : Index := 0#32
  let c0_471 : Index := 0#32
  ![0, v660.toNat, 0, 0, 0]
def k0_off217 (k0_t11 : Fin k0_t11_loop.trips) (k0_t12 : Fin k0_t12_loop.trips) : Fin 5 → Nat :=
  let c0_482 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v702 : Index := Scalar.indexCast v435
  let c1_483 : Index := 1#32
  let c0_484 : Index := 0#32
  let c0_485 : Index := 0#32
  ![0, v702.toNat, 1, 0, 0]
def k0_off218 (k0_t11 : Fin k0_t11_loop.trips) (k0_t12 : Fin k0_t12_loop.trips) : Fin 5 → Nat :=
  let c0_500 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v746 : Index := Scalar.indexCast v435
  let c2_501 : Index := 2#32
  let c0_502 : Index := 0#32
  let c0_503 : Index := 0#32
  ![0, v746.toNat, 2, 0, 0]
def k0_off219 (k0_t11 : Fin k0_t11_loop.trips) (k0_t12 : Fin k0_t12_loop.trips) : Fin 5 → Nat :=
  let c0_518 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v790 : Index := Scalar.indexCast v435
  let c3_519 : Index := 3#32
  let c0_520 : Index := 0#32
  let c0_521 : Index := 0#32
  ![0, v790.toNat, 3, 0, 0]
def k0_off220 (k0_t11 : Fin k0_t11_loop.trips) (k0_t12 : Fin k0_t12_loop.trips) : Fin 5 → Nat :=
  let c0_536 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v834 : Index := Scalar.indexCast v435
  let c4_537 : Index := 4#32
  let c0_538 : Index := 0#32
  let c0_539 : Index := 0#32
  ![0, v834.toNat, 4, 0, 0]
def k0_off221 (k0_t11 : Fin k0_t11_loop.trips) (k0_t12 : Fin k0_t12_loop.trips) : Fin 5 → Nat :=
  let c0_554 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v878 : Index := Scalar.indexCast v435
  let c5_555 : Index := 5#32
  let c0_556 : Index := 0#32
  let c0_557 : Index := 0#32
  ![0, v878.toNat, 5, 0, 0]
def k0_off222 (k0_t11 : Fin k0_t11_loop.trips) (k0_t12 : Fin k0_t12_loop.trips) : Fin 5 → Nat :=
  let c0_572 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v922 : Index := Scalar.indexCast v435
  let c6_573 : Index := 6#32
  let c0_574 : Index := 0#32
  let c0_575 : Index := 0#32
  ![0, v922.toNat, 6, 0, 0]
def k0_off223 (k0_t11 : Fin k0_t11_loop.trips) (k0_t12 : Fin k0_t12_loop.trips) : Fin 5 → Nat :=
  let c0_590 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v966 : Index := Scalar.indexCast v435
  let c7_591 : Index := 7#32
  let c0_592 : Index := 0#32
  let c0_593 : Index := 0#32
  ![0, v966.toNat, 7, 0, 0]
def k0_off224 (k0_t11 : Fin k0_t11_loop.trips) (k0_t12 : Fin k0_t12_loop.trips) : Fin 5 → Nat :=
  let c0_608 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v1010 : Index := Scalar.indexCast v435
  let c8_609 : Index := 8#32
  let c0_610 : Index := 0#32
  let c0_611 : Index := 0#32
  ![0, v1010.toNat, 8, 0, 0]
def k0_off225 (k0_t11 : Fin k0_t11_loop.trips) (k0_t12 : Fin k0_t12_loop.trips) : Fin 5 → Nat :=
  let c0_626 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v1054 : Index := Scalar.indexCast v435
  let c9_627 : Index := 9#32
  let c0_628 : Index := 0#32
  let c0_629 : Index := 0#32
  ![0, v1054.toNat, 9, 0, 0]
def k0_off226 (k0_t11 : Fin k0_t11_loop.trips) (k0_t12 : Fin k0_t12_loop.trips) : Fin 5 → Nat :=
  let c0_644 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v1098 : Index := Scalar.indexCast v435
  let c10_645 : Index := 10#32
  let c0_646 : Index := 0#32
  let c0_647 : Index := 0#32
  ![0, v1098.toNat, 10, 0, 0]
def k0_off227 (k0_t11 : Fin k0_t11_loop.trips) (k0_t12 : Fin k0_t12_loop.trips) : Fin 5 → Nat :=
  let c0_662 : Index := 0#32
  let c0_i32_161 : BitVec 32 := 0#32
  let c1_i32_163 : BitVec 32 := 1#32
  let arg20 : BitVec 32 := Scf.iv c0_i32_161 c1_i32_163 k0_t11
  let c9_i32_330 : BitVec 32 := 9#32
  let v434 : BitVec 32 := Scalar.muli arg20 c9_i32_330
  let c0_i32_292 : BitVec 32 := 0#32
  let c1_i32_294 : BitVec 32 := 1#32
  let arg21 : BitVec 32 := Scf.iv c0_i32_292 c1_i32_294 k0_t12
  let v435 : BitVec 32 := Scalar.addi v434 arg21
  let v1142 : Index := Scalar.indexCast v435
  let c11_663 : Index := 11#32
  let c0_664 : Index := 0#32
  let c0_665 : Index := 0#32
  ![0, v1142.toNat, 11, 0, 0]
def k0_off228 (k0_t11 : Fin k0_t11_loop.trips) : Fin 1 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  ![v407.toNat]
def k0_off229 (k0_t11 : Fin k0_t11_loop.trips) : Fin 4 → Nat :=
  let c0_i32_161 : BitVec 32 := 0#32
  let c1_i32_163 : BitVec 32 := 1#32
  let arg20 : BitVec 32 := Scf.iv c0_i32_161 c1_i32_163 k0_t11
  let c9_i32_296 : BitVec 32 := 9#32
  let v412 : BitVec 32 := Scalar.muli arg20 c9_i32_296
  let c0_i32_297 : BitVec 32 := 0#32
  let c0_i32_298 : BitVec 32 := 0#32
  let c384_i32 : BitVec 32 := 384#32
  ![v412.toNat, 0, 0, 384]
def k0_off230 (k0_t11 : Fin k0_t11_loop.trips) : Fin 5 → Nat :=
  let c24_i32 : BitVec 32 := 24#32
  let c0_i32_161 : BitVec 32 := 0#32
  let c1_i32_163 : BitVec 32 := 1#32
  let arg20 : BitVec 32 := Scf.iv c0_i32_161 c1_i32_163 k0_t11
  let v406 : BitVec 32 := Scalar.addi c24_i32 arg20
  let c3_i32 : BitVec 32 := 3#32
  let v407 : BitVec 32 := Scalar.remsi v406 c3_i32
  let c0_i32_299 : BitVec 32 := 0#32
  let c0_i32_300 : BitVec 32 := 0#32
  let c0_i32_301 : BitVec 32 := 0#32
  let c0_i32_302 : BitVec 32 := 0#32
  ![v407.toNat, 0, 0, 0, 0]
def k0_off231 (k0_t11 : Fin k0_t11_loop.trips) : Fin 3 → Nat :=
  let c0_i32_305 : BitVec 32 := 0#32
  let c1_i32_306 : BitVec 32 := 1#32
  let c0_i32_161 : BitVec 32 := 0#32
  let c1_i32_163 : BitVec 32 := 1#32
  let arg20 : BitVec 32 := Scf.iv c0_i32_161 c1_i32_163 k0_t11
  ![0, 1, arg20.toNat]
def k0_off232 (k0_t11 : Fin k0_t11_loop.trips) : Fin 5 → Nat :=
  let c1_i32_304 : BitVec 32 := 1#32
  let c0_i32_161 : BitVec 32 := 0#32
  let c1_i32_163 : BitVec 32 := 1#32
  let arg20 : BitVec 32 := Scf.iv c0_i32_161 c1_i32_163 k0_t11
  let c9_i32_303 : BitVec 32 := 9#32
  let v418 : BitVec 32 := Scalar.muli arg20 c9_i32_303
  let c0_i32_307 : BitVec 32 := 0#32
  let c0_i32_308 : BitVec 32 := 0#32
  let c0_i32_309 : BitVec 32 := 0#32
  ![1, v418.toNat, 0, 0, 0]
def k0_off233 (k0_t11 : Fin k0_t11_loop.trips) : Fin 4 → Nat :=
  let c0_i32_161 : BitVec 32 := 0#32
  let c1_i32_163 : BitVec 32 := 1#32
  let arg20 : BitVec 32 := Scf.iv c0_i32_161 c1_i32_163 k0_t11
  let c9_i32_303 : BitVec 32 := 9#32
  let v418 : BitVec 32 := Scalar.muli arg20 c9_i32_303
  let c0_i32_310 : BitVec 32 := 0#32
  let c0_i32_311 : BitVec 32 := 0#32
  let c640_i32 : BitVec 32 := 640#32
  ![v418.toNat, 0, 0, 640]
def k0_off234 (k0_t11 : Fin k0_t11_loop.trips) : Fin 3 → Nat :=
  let c1_i32_313 : BitVec 32 := 1#32
  let c1_i32_314 : BitVec 32 := 1#32
  let c0_i32_161 : BitVec 32 := 0#32
  let c1_i32_163 : BitVec 32 := 1#32
  let arg20 : BitVec 32 := Scf.iv c0_i32_161 c1_i32_163 k0_t11
  ![1, 1, arg20.toNat]
def k0_off235 (k0_t11 : Fin k0_t11_loop.trips) : Fin 3 → Nat :=
  let c2_i32_322 : BitVec 32 := 2#32
  let c1_i32_323 : BitVec 32 := 1#32
  let c0_i32_161 : BitVec 32 := 0#32
  let c1_i32_163 : BitVec 32 := 1#32
  let arg20 : BitVec 32 := Scf.iv c0_i32_161 c1_i32_163 k0_t11
  ![2, 1, arg20.toNat]
@[reducible] def k0_t13_loop : Scf.Loop 32 :=
  let c0_i32_198 : BitVec 32 := 0#32
  let c8_i32_199 : BitVec 32 := 8#32
  let v317 : BitVec 32 := Scalar.addi c0_i32_198 c8_i32_199
  let c1_i32_200 : BitVec 32 := 1#32
  ⟨c0_i32_198, v317, c1_i32_200⟩
def k0_off236 (k0_t13 : Fin k0_t13_loop.trips) : Fin 3 → Nat :=
  let c0_i32_265 : BitVec 32 := 0#32
  let c1_i32_266 : BitVec 32 := 1#32
  let c0_i32_198 : BitVec 32 := 0#32
  let c1_i32_200 : BitVec 32 := 1#32
  let arg20 : BitVec 32 := Scf.iv c0_i32_198 c1_i32_200 k0_t13
  ![0, 1, arg20.toNat]
def k0_off237 (k0_t13 : Fin k0_t13_loop.trips) : Fin 5 → Nat :=
  let c1_i32_264 : BitVec 32 := 1#32
  let c0_i32_198 : BitVec 32 := 0#32
  let c1_i32_200 : BitVec 32 := 1#32
  let arg20 : BitVec 32 := Scf.iv c0_i32_198 c1_i32_200 k0_t13
  let c9_i32 : BitVec 32 := 9#32
  let v390 : BitVec 32 := Scalar.muli arg20 c9_i32
  let c0_i32_267 : BitVec 32 := 0#32
  let c0_i32_268 : BitVec 32 := 0#32
  let c0_i32_269 : BitVec 32 := 0#32
  ![1, v390.toNat, 0, 0, 0]
def k0_off238 (k0_t13 : Fin k0_t13_loop.trips) : Fin 4 → Nat :=
  let c0_i32_198 : BitVec 32 := 0#32
  let c1_i32_200 : BitVec 32 := 1#32
  let arg20 : BitVec 32 := Scf.iv c0_i32_198 c1_i32_200 k0_t13
  let c9_i32 : BitVec 32 := 9#32
  let v390 : BitVec 32 := Scalar.muli arg20 c9_i32
  let c0_i32_270 : BitVec 32 := 0#32
  let c0_i32_271 : BitVec 32 := 0#32
  let c640_i32 : BitVec 32 := 640#32
  ![v390.toNat, 0, 0, 640]
def k0_off239 (k0_t13 : Fin k0_t13_loop.trips) : Fin 3 → Nat :=
  let c1_i32_273 : BitVec 32 := 1#32
  let c1_i32_274 : BitVec 32 := 1#32
  let c0_i32_198 : BitVec 32 := 0#32
  let c1_i32_200 : BitVec 32 := 1#32
  let arg20 : BitVec 32 := Scf.iv c0_i32_198 c1_i32_200 k0_t13
  ![1, 1, arg20.toNat]
def k0_off240 (k0_t13 : Fin k0_t13_loop.trips) : Fin 3 → Nat :=
  let c2_i32_282 : BitVec 32 := 2#32
  let c1_i32_283 : BitVec 32 := 1#32
  let c0_i32_198 : BitVec 32 := 0#32
  let c1_i32_200 : BitVec 32 := 1#32
  let arg20 : BitVec 32 := Scf.iv c0_i32_198 c1_i32_200 k0_t13
  ![2, 1, arg20.toNat]
def k0_cond5 (k0_t13 : Fin k0_t13_loop.trips) : BitVec 1 :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32_290 : BitVec 32 := 3#32
  let v408 : BitVec 1 := Scalar.cmpi .sge v406 c3_i32_290
  let v409 : BitVec 32 := Scalar.extui v408
  let c0_i32_291 : BitVec 32 := 0#32
  let v410 : BitVec 1 := Scalar.cmpi .ne v409 c0_i32_291
  v410

def k0_off241 (k0_t13 : Fin k0_t13_loop.trips) : Fin 1 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  ![v407.toNat]
def k0_off242 (k0_t13 : Fin k0_t13_loop.trips) : Fin 4 → Nat :=
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_304 : BitVec 32 := 0#32
  let c0_i32_305 : BitVec 32 := 0#32
  let c512_i32_306 : BitVec 32 := 512#32
  ![v418.toNat, 0, 0, 512]
def k0_off243 (k0_t13 : Fin k0_t13_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let c0_i32_307 : BitVec 32 := 0#32
  let c0_i32_308 : BitVec 32 := 0#32
  let c0_i32_309 : BitVec 32 := 0#32
  let c0_i32_310 : BitVec 32 := 0#32
  ![v407.toNat, 0, 0, 0, 0]
@[reducible] def k0_t14_loop : Scf.Loop 32 :=
  let c0_i32_292 : BitVec 32 := 0#32
  let c9_i32_293 : BitVec 32 := 9#32
  let v411 : BitVec 32 := Scalar.addi c0_i32_292 c9_i32_293
  let c1_i32_294 : BitVec 32 := 1#32
  ⟨c0_i32_292, v411, c1_i32_294⟩
def k0_off244 (k0_t13 : Fin k0_t13_loop.trips) (k0_t14 : Fin k0_t14_loop.trips) : Fin 5 → Nat :=
  let c0_313 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v426 : Index := Scalar.indexCast v419
  let c0_314 : Index := 0#32
  let c0_315 : Index := 0#32
  let c0_316 : Index := 0#32
  ![0, v426.toNat, 0, 0, 0]
def k0_off245 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v439 : Index := Scalar.indexCast v407
  let c0_i32_292 : BitVec 32 := 0#32
  let c1_i32_294 : BitVec 32 := 1#32
  let arg21 : BitVec 32 := Scf.iv c0_i32_292 c1_i32_294 k0_t14
  let v440 : Index := Scalar.indexCast arg21
  let c0_321 : Index := 0#32
  let c0_322 : Index := 0#32
  let c0_323 : Index := 0#32
  ![v439.toNat, v440.toNat, 0, 0, 0]
def k0_off246 (k0_t13 : Fin k0_t13_loop.trips) (k0_t14 : Fin k0_t14_loop.trips) : Fin 5 → Nat :=
  let c0_324 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v444 : Index := Scalar.indexCast v419
  let c1_325 : Index := 1#32
  let c0_326 : Index := 0#32
  let c0_327 : Index := 0#32
  ![0, v444.toNat, 1, 0, 0]
def k0_off247 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v457 : Index := Scalar.indexCast v407
  let c0_i32_292 : BitVec 32 := 0#32
  let c1_i32_294 : BitVec 32 := 1#32
  let arg21 : BitVec 32 := Scf.iv c0_i32_292 c1_i32_294 k0_t14
  let v458 : Index := Scalar.indexCast arg21
  let c1_332 : Index := 1#32
  let c0_333 : Index := 0#32
  let c0_334 : Index := 0#32
  ![v457.toNat, v458.toNat, 1, 0, 0]
def k0_off248 (k0_t13 : Fin k0_t13_loop.trips) (k0_t14 : Fin k0_t14_loop.trips) : Fin 5 → Nat :=
  let c0_335 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v462 : Index := Scalar.indexCast v419
  let c2_336 : Index := 2#32
  let c0_337 : Index := 0#32
  let c0_338 : Index := 0#32
  ![0, v462.toNat, 2, 0, 0]
def k0_off249 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v475 : Index := Scalar.indexCast v407
  let c0_i32_292 : BitVec 32 := 0#32
  let c1_i32_294 : BitVec 32 := 1#32
  let arg21 : BitVec 32 := Scf.iv c0_i32_292 c1_i32_294 k0_t14
  let v476 : Index := Scalar.indexCast arg21
  let c2_343 : Index := 2#32
  let c0_344 : Index := 0#32
  let c0_345 : Index := 0#32
  ![v475.toNat, v476.toNat, 2, 0, 0]
def k0_off250 (k0_t13 : Fin k0_t13_loop.trips) (k0_t14 : Fin k0_t14_loop.trips) : Fin 5 → Nat :=
  let c0_346 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v480 : Index := Scalar.indexCast v419
  let c3_347 : Index := 3#32
  let c0_348 : Index := 0#32
  let c0_349 : Index := 0#32
  ![0, v480.toNat, 3, 0, 0]
def k0_off251 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v493 : Index := Scalar.indexCast v407
  let c0_i32_292 : BitVec 32 := 0#32
  let c1_i32_294 : BitVec 32 := 1#32
  let arg21 : BitVec 32 := Scf.iv c0_i32_292 c1_i32_294 k0_t14
  let v494 : Index := Scalar.indexCast arg21
  let c3_354 : Index := 3#32
  let c0_355 : Index := 0#32
  let c0_356 : Index := 0#32
  ![v493.toNat, v494.toNat, 3, 0, 0]
def k0_off252 (k0_t13 : Fin k0_t13_loop.trips) (k0_t14 : Fin k0_t14_loop.trips) : Fin 5 → Nat :=
  let c0_357 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v498 : Index := Scalar.indexCast v419
  let c4_358 : Index := 4#32
  let c0_359 : Index := 0#32
  let c0_360 : Index := 0#32
  ![0, v498.toNat, 4, 0, 0]
def k0_off253 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v511 : Index := Scalar.indexCast v407
  let c0_i32_292 : BitVec 32 := 0#32
  let c1_i32_294 : BitVec 32 := 1#32
  let arg21 : BitVec 32 := Scf.iv c0_i32_292 c1_i32_294 k0_t14
  let v512 : Index := Scalar.indexCast arg21
  let c4_365 : Index := 4#32
  let c0_366 : Index := 0#32
  let c0_367 : Index := 0#32
  ![v511.toNat, v512.toNat, 4, 0, 0]
def k0_off254 (k0_t13 : Fin k0_t13_loop.trips) (k0_t14 : Fin k0_t14_loop.trips) : Fin 5 → Nat :=
  let c0_368 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v516 : Index := Scalar.indexCast v419
  let c5_369 : Index := 5#32
  let c0_370 : Index := 0#32
  let c0_371 : Index := 0#32
  ![0, v516.toNat, 5, 0, 0]
def k0_off255 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v529 : Index := Scalar.indexCast v407
  let c0_i32_292 : BitVec 32 := 0#32
  let c1_i32_294 : BitVec 32 := 1#32
  let arg21 : BitVec 32 := Scf.iv c0_i32_292 c1_i32_294 k0_t14
  let v530 : Index := Scalar.indexCast arg21
  let c5_376 : Index := 5#32
  let c0_377 : Index := 0#32
  let c0_378 : Index := 0#32
  ![v529.toNat, v530.toNat, 5, 0, 0]
def k0_off256 (k0_t13 : Fin k0_t13_loop.trips) (k0_t14 : Fin k0_t14_loop.trips) : Fin 5 → Nat :=
  let c0_379 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v534 : Index := Scalar.indexCast v419
  let c6 : Index := 6#32
  let c0_380 : Index := 0#32
  let c0_381 : Index := 0#32
  ![0, v534.toNat, 6, 0, 0]
def k0_off257 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v547 : Index := Scalar.indexCast v407
  let c0_i32_292 : BitVec 32 := 0#32
  let c1_i32_294 : BitVec 32 := 1#32
  let arg21 : BitVec 32 := Scf.iv c0_i32_292 c1_i32_294 k0_t14
  let v548 : Index := Scalar.indexCast arg21
  let c6_386 : Index := 6#32
  let c0_387 : Index := 0#32
  let c0_388 : Index := 0#32
  ![v547.toNat, v548.toNat, 6, 0, 0]
def k0_off258 (k0_t13 : Fin k0_t13_loop.trips) (k0_t14 : Fin k0_t14_loop.trips) : Fin 5 → Nat :=
  let c0_389 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v552 : Index := Scalar.indexCast v419
  let c7 : Index := 7#32
  let c0_390 : Index := 0#32
  let c0_391 : Index := 0#32
  ![0, v552.toNat, 7, 0, 0]
def k0_off259 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v565 : Index := Scalar.indexCast v407
  let c0_i32_292 : BitVec 32 := 0#32
  let c1_i32_294 : BitVec 32 := 1#32
  let arg21 : BitVec 32 := Scf.iv c0_i32_292 c1_i32_294 k0_t14
  let v566 : Index := Scalar.indexCast arg21
  let c7_396 : Index := 7#32
  let c0_397 : Index := 0#32
  let c0_398 : Index := 0#32
  ![v565.toNat, v566.toNat, 7, 0, 0]
def k0_off260 (k0_t13 : Fin k0_t13_loop.trips) (k0_t14 : Fin k0_t14_loop.trips) : Fin 5 → Nat :=
  let c0_399 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v570 : Index := Scalar.indexCast v419
  let c8 : Index := 8#32
  let c0_400 : Index := 0#32
  let c0_401 : Index := 0#32
  ![0, v570.toNat, 8, 0, 0]
def k0_off261 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v583 : Index := Scalar.indexCast v407
  let c0_i32_292 : BitVec 32 := 0#32
  let c1_i32_294 : BitVec 32 := 1#32
  let arg21 : BitVec 32 := Scf.iv c0_i32_292 c1_i32_294 k0_t14
  let v584 : Index := Scalar.indexCast arg21
  let c8_406 : Index := 8#32
  let c0_407 : Index := 0#32
  let c0_408 : Index := 0#32
  ![v583.toNat, v584.toNat, 8, 0, 0]
def k0_off262 (k0_t13 : Fin k0_t13_loop.trips) (k0_t14 : Fin k0_t14_loop.trips) : Fin 5 → Nat :=
  let c0_409 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v588 : Index := Scalar.indexCast v419
  let c9 : Index := 9#32
  let c0_410 : Index := 0#32
  let c0_411 : Index := 0#32
  ![0, v588.toNat, 9, 0, 0]
def k0_off263 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v601 : Index := Scalar.indexCast v407
  let c0_i32_292 : BitVec 32 := 0#32
  let c1_i32_294 : BitVec 32 := 1#32
  let arg21 : BitVec 32 := Scf.iv c0_i32_292 c1_i32_294 k0_t14
  let v602 : Index := Scalar.indexCast arg21
  let c9_416 : Index := 9#32
  let c0_417 : Index := 0#32
  let c0_418 : Index := 0#32
  ![v601.toNat, v602.toNat, 9, 0, 0]
def k0_off264 (k0_t13 : Fin k0_t13_loop.trips) (k0_t14 : Fin k0_t14_loop.trips) : Fin 5 → Nat :=
  let c0_419 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v606 : Index := Scalar.indexCast v419
  let c10 : Index := 10#32
  let c0_420 : Index := 0#32
  let c0_421 : Index := 0#32
  ![0, v606.toNat, 10, 0, 0]
def k0_off265 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v619 : Index := Scalar.indexCast v407
  let c0_i32_292 : BitVec 32 := 0#32
  let c1_i32_294 : BitVec 32 := 1#32
  let arg21 : BitVec 32 := Scf.iv c0_i32_292 c1_i32_294 k0_t14
  let v620 : Index := Scalar.indexCast arg21
  let c10_426 : Index := 10#32
  let c0_427 : Index := 0#32
  let c0_428 : Index := 0#32
  ![v619.toNat, v620.toNat, 10, 0, 0]
def k0_off266 (k0_t13 : Fin k0_t13_loop.trips) (k0_t14 : Fin k0_t14_loop.trips) : Fin 5 → Nat :=
  let c0_429 : Index := 0#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v624 : Index := Scalar.indexCast v419
  let c11 : Index := 11#32
  let c0_430 : Index := 0#32
  let c0_431 : Index := 0#32
  ![0, v624.toNat, 11, 0, 0]
def k0_off267 (k0_t13 : Fin k0_t13_loop.trips) (k0_t14 : Fin k0_t14_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let v637 : Index := Scalar.indexCast v407
  let c0_i32_292 : BitVec 32 := 0#32
  let c1_i32_294 : BitVec 32 := 1#32
  let arg21 : BitVec 32 := Scf.iv c0_i32_292 c1_i32_294 k0_t14
  let v638 : Index := Scalar.indexCast arg21
  let c11_436 : Index := 11#32
  let c0_437 : Index := 0#32
  let c0_438 : Index := 0#32
  ![v637.toNat, v638.toNat, 11, 0, 0]
def k0_off268 (k0_t13 : Fin k0_t13_loop.trips) (k0_t14 : Fin k0_t14_loop.trips) : Fin 5 → Nat :=
  let c1_441 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v644 : Index := Scalar.indexCast v419
  let c0_442 : Index := 0#32
  let c0_443 : Index := 0#32
  let c0_444 : Index := 0#32
  ![1, v644.toNat, 0, 0, 0]
def k0_off269 (k0_t13 : Fin k0_t13_loop.trips) (k0_t14 : Fin k0_t14_loop.trips) : Fin 5 → Nat :=
  let c1_455 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v686 : Index := Scalar.indexCast v419
  let c1_456 : Index := 1#32
  let c0_457 : Index := 0#32
  let c0_458 : Index := 0#32
  ![1, v686.toNat, 1, 0, 0]
def k0_off270 (k0_t13 : Fin k0_t13_loop.trips) (k0_t14 : Fin k0_t14_loop.trips) : Fin 5 → Nat :=
  let c1_473 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v730 : Index := Scalar.indexCast v419
  let c2_474 : Index := 2#32
  let c0_475 : Index := 0#32
  let c0_476 : Index := 0#32
  ![1, v730.toNat, 2, 0, 0]
def k0_off271 (k0_t13 : Fin k0_t13_loop.trips) (k0_t14 : Fin k0_t14_loop.trips) : Fin 5 → Nat :=
  let c1_491 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v774 : Index := Scalar.indexCast v419
  let c3_492 : Index := 3#32
  let c0_493 : Index := 0#32
  let c0_494 : Index := 0#32
  ![1, v774.toNat, 3, 0, 0]
def k0_off272 (k0_t13 : Fin k0_t13_loop.trips) (k0_t14 : Fin k0_t14_loop.trips) : Fin 5 → Nat :=
  let c1_509 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v818 : Index := Scalar.indexCast v419
  let c4_510 : Index := 4#32
  let c0_511 : Index := 0#32
  let c0_512 : Index := 0#32
  ![1, v818.toNat, 4, 0, 0]
def k0_off273 (k0_t13 : Fin k0_t13_loop.trips) (k0_t14 : Fin k0_t14_loop.trips) : Fin 5 → Nat :=
  let c1_527 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v862 : Index := Scalar.indexCast v419
  let c5_528 : Index := 5#32
  let c0_529 : Index := 0#32
  let c0_530 : Index := 0#32
  ![1, v862.toNat, 5, 0, 0]
def k0_off274 (k0_t13 : Fin k0_t13_loop.trips) (k0_t14 : Fin k0_t14_loop.trips) : Fin 5 → Nat :=
  let c1_545 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v906 : Index := Scalar.indexCast v419
  let c6_546 : Index := 6#32
  let c0_547 : Index := 0#32
  let c0_548 : Index := 0#32
  ![1, v906.toNat, 6, 0, 0]
def k0_off275 (k0_t13 : Fin k0_t13_loop.trips) (k0_t14 : Fin k0_t14_loop.trips) : Fin 5 → Nat :=
  let c1_563 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v950 : Index := Scalar.indexCast v419
  let c7_564 : Index := 7#32
  let c0_565 : Index := 0#32
  let c0_566 : Index := 0#32
  ![1, v950.toNat, 7, 0, 0]
def k0_off276 (k0_t13 : Fin k0_t13_loop.trips) (k0_t14 : Fin k0_t14_loop.trips) : Fin 5 → Nat :=
  let c1_581 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v994 : Index := Scalar.indexCast v419
  let c8_582 : Index := 8#32
  let c0_583 : Index := 0#32
  let c0_584 : Index := 0#32
  ![1, v994.toNat, 8, 0, 0]
def k0_off277 (k0_t13 : Fin k0_t13_loop.trips) (k0_t14 : Fin k0_t14_loop.trips) : Fin 5 → Nat :=
  let c1_599 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v1038 : Index := Scalar.indexCast v419
  let c9_600 : Index := 9#32
  let c0_601 : Index := 0#32
  let c0_602 : Index := 0#32
  ![1, v1038.toNat, 9, 0, 0]
def k0_off278 (k0_t13 : Fin k0_t13_loop.trips) (k0_t14 : Fin k0_t14_loop.trips) : Fin 5 → Nat :=
  let c1_617 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v1082 : Index := Scalar.indexCast v419
  let c10_618 : Index := 10#32
  let c0_619 : Index := 0#32
  let c0_620 : Index := 0#32
  ![1, v1082.toNat, 10, 0, 0]
def k0_off279 (k0_t13 : Fin k0_t13_loop.trips) (k0_t14 : Fin k0_t14_loop.trips) : Fin 5 → Nat :=
  let c1_635 : Index := 1#32
  let c0_i32_198 : BitVec 32 := 0#32
  let c1_i32_200 : BitVec 32 := 1#32
  let arg20 : BitVec 32 := Scf.iv c0_i32_198 c1_i32_200 k0_t13
  let c9_i32_303 : BitVec 32 := 9#32
  let v418 : BitVec 32 := Scalar.muli arg20 c9_i32_303
  let c0_i32_292 : BitVec 32 := 0#32
  let c1_i32_294 : BitVec 32 := 1#32
  let arg21 : BitVec 32 := Scf.iv c0_i32_292 c1_i32_294 k0_t14
  let v419 : BitVec 32 := Scalar.addi v418 arg21
  let v1126 : Index := Scalar.indexCast v419
  let c11_636 : Index := 11#32
  let c0_637 : Index := 0#32
  let c0_638 : Index := 0#32
  ![1, v1126.toNat, 11, 0, 0]
def k0_off280 (k0_t13 : Fin k0_t13_loop.trips) : Fin 1 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  ![v407.toNat]
def k0_off281 (k0_t13 : Fin k0_t13_loop.trips) : Fin 4 → Nat :=
  let c0_i32_198 : BitVec 32 := 0#32
  let c1_i32_200 : BitVec 32 := 1#32
  let arg20 : BitVec 32 := Scf.iv c0_i32_198 c1_i32_200 k0_t13
  let c9_i32_296 : BitVec 32 := 9#32
  let v412 : BitVec 32 := Scalar.muli arg20 c9_i32_296
  let c0_i32_297 : BitVec 32 := 0#32
  let c0_i32_298 : BitVec 32 := 0#32
  let c512_i32 : BitVec 32 := 512#32
  ![v412.toNat, 0, 0, 512]
def k0_off282 (k0_t13 : Fin k0_t13_loop.trips) : Fin 5 → Nat :=
  let c32_i32 : BitVec 32 := 32#32
  let c0_i32_198 : BitVec 32 := 0#32
  let c1_i32_200 : BitVec 32 := 1#32
  let arg20 : BitVec 32 := Scf.iv c0_i32_198 c1_i32_200 k0_t13
  let v406 : BitVec 32 := Scalar.addi c32_i32 arg20
  let c3_i32 : BitVec 32 := 3#32
  let v407 : BitVec 32 := Scalar.remsi v406 c3_i32
  let c0_i32_299 : BitVec 32 := 0#32
  let c0_i32_300 : BitVec 32 := 0#32
  let c0_i32_301 : BitVec 32 := 0#32
  let c0_i32_302 : BitVec 32 := 0#32
  ![v407.toNat, 0, 0, 0, 0]
@[reducible] def k0_t15_loop : Scf.Loop 32 :=
  let c0_i32_231 : BitVec 32 := 0#32
  let c8_i32_232 : BitVec 32 := 8#32
  let v374 : BitVec 32 := Scalar.addi c0_i32_231 c8_i32_232
  let c1_i32_233 : BitVec 32 := 1#32
  ⟨c0_i32_231, v374, c1_i32_233⟩
def k0_cond6 (k0_t15 : Fin k0_t15_loop.trips) : BitVec 1 :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32_264 : BitVec 32 := 3#32
  let v392 : BitVec 1 := Scalar.cmpi .sge v390 c3_i32_264
  let v393 : BitVec 32 := Scalar.extui v392
  let c0_i32_265 : BitVec 32 := 0#32
  let v394 : BitVec 1 := Scalar.cmpi .ne v393 c0_i32_265
  v394

def k0_off283 (k0_t15 : Fin k0_t15_loop.trips) : Fin 1 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  ![v391.toNat]
def k0_off284 (k0_t15 : Fin k0_t15_loop.trips) : Fin 4 → Nat :=
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_277 : BitVec 32 := 0#32
  let c0_i32_278 : BitVec 32 := 0#32
  let c640_i32_279 : BitVec 32 := 640#32
  ![v402.toNat, 0, 0, 640]
def k0_off285 (k0_t15 : Fin k0_t15_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let c0_i32_280 : BitVec 32 := 0#32
  let c0_i32_281 : BitVec 32 := 0#32
  let c0_i32_282 : BitVec 32 := 0#32
  let c0_i32_283 : BitVec 32 := 0#32
  ![v391.toNat, 0, 0, 0, 0]
@[reducible] def k0_t16_loop : Scf.Loop 32 :=
  let c0_i32_266 : BitVec 32 := 0#32
  let c9_i32 : BitVec 32 := 9#32
  let v395 : BitVec 32 := Scalar.addi c0_i32_266 c9_i32
  let c1_i32_267 : BitVec 32 := 1#32
  ⟨c0_i32_266, v395, c1_i32_267⟩
def k0_off286 (k0_t15 : Fin k0_t15_loop.trips) (k0_t16 : Fin k0_t16_loop.trips) : Fin 5 → Nat :=
  let c1_286 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v410 : Index := Scalar.indexCast v403
  let c0_287 : Index := 0#32
  let c0_288 : Index := 0#32
  let c0_289 : Index := 0#32
  ![1, v410.toNat, 0, 0, 0]
def k0_off287 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v423 : Index := Scalar.indexCast v391
  let c0_i32_266 : BitVec 32 := 0#32
  let c1_i32_267 : BitVec 32 := 1#32
  let arg21 : BitVec 32 := Scf.iv c0_i32_266 c1_i32_267 k0_t16
  let v424 : Index := Scalar.indexCast arg21
  let c0_294 : Index := 0#32
  let c0_295 : Index := 0#32
  let c0_296 : Index := 0#32
  ![v423.toNat, v424.toNat, 0, 0, 0]
def k0_off288 (k0_t15 : Fin k0_t15_loop.trips) (k0_t16 : Fin k0_t16_loop.trips) : Fin 5 → Nat :=
  let c1_297 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v428 : Index := Scalar.indexCast v403
  let c1_298 : Index := 1#32
  let c0_299 : Index := 0#32
  let c0_300 : Index := 0#32
  ![1, v428.toNat, 1, 0, 0]
def k0_off289 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v441 : Index := Scalar.indexCast v391
  let c0_i32_266 : BitVec 32 := 0#32
  let c1_i32_267 : BitVec 32 := 1#32
  let arg21 : BitVec 32 := Scf.iv c0_i32_266 c1_i32_267 k0_t16
  let v442 : Index := Scalar.indexCast arg21
  let c1_305 : Index := 1#32
  let c0_306 : Index := 0#32
  let c0_307 : Index := 0#32
  ![v441.toNat, v442.toNat, 1, 0, 0]
def k0_off290 (k0_t15 : Fin k0_t15_loop.trips) (k0_t16 : Fin k0_t16_loop.trips) : Fin 5 → Nat :=
  let c1_308 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v446 : Index := Scalar.indexCast v403
  let c2_309 : Index := 2#32
  let c0_310 : Index := 0#32
  let c0_311 : Index := 0#32
  ![1, v446.toNat, 2, 0, 0]
def k0_off291 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v459 : Index := Scalar.indexCast v391
  let c0_i32_266 : BitVec 32 := 0#32
  let c1_i32_267 : BitVec 32 := 1#32
  let arg21 : BitVec 32 := Scf.iv c0_i32_266 c1_i32_267 k0_t16
  let v460 : Index := Scalar.indexCast arg21
  let c2_316 : Index := 2#32
  let c0_317 : Index := 0#32
  let c0_318 : Index := 0#32
  ![v459.toNat, v460.toNat, 2, 0, 0]
def k0_off292 (k0_t15 : Fin k0_t15_loop.trips) (k0_t16 : Fin k0_t16_loop.trips) : Fin 5 → Nat :=
  let c1_319 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v464 : Index := Scalar.indexCast v403
  let c3_320 : Index := 3#32
  let c0_321 : Index := 0#32
  let c0_322 : Index := 0#32
  ![1, v464.toNat, 3, 0, 0]
def k0_off293 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v477 : Index := Scalar.indexCast v391
  let c0_i32_266 : BitVec 32 := 0#32
  let c1_i32_267 : BitVec 32 := 1#32
  let arg21 : BitVec 32 := Scf.iv c0_i32_266 c1_i32_267 k0_t16
  let v478 : Index := Scalar.indexCast arg21
  let c3_327 : Index := 3#32
  let c0_328 : Index := 0#32
  let c0_329 : Index := 0#32
  ![v477.toNat, v478.toNat, 3, 0, 0]
def k0_off294 (k0_t15 : Fin k0_t15_loop.trips) (k0_t16 : Fin k0_t16_loop.trips) : Fin 5 → Nat :=
  let c1_330 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v482 : Index := Scalar.indexCast v403
  let c4_331 : Index := 4#32
  let c0_332 : Index := 0#32
  let c0_333 : Index := 0#32
  ![1, v482.toNat, 4, 0, 0]
def k0_off295 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v495 : Index := Scalar.indexCast v391
  let c0_i32_266 : BitVec 32 := 0#32
  let c1_i32_267 : BitVec 32 := 1#32
  let arg21 : BitVec 32 := Scf.iv c0_i32_266 c1_i32_267 k0_t16
  let v496 : Index := Scalar.indexCast arg21
  let c4_338 : Index := 4#32
  let c0_339 : Index := 0#32
  let c0_340 : Index := 0#32
  ![v495.toNat, v496.toNat, 4, 0, 0]
def k0_off296 (k0_t15 : Fin k0_t15_loop.trips) (k0_t16 : Fin k0_t16_loop.trips) : Fin 5 → Nat :=
  let c1_341 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v500 : Index := Scalar.indexCast v403
  let c5_342 : Index := 5#32
  let c0_343 : Index := 0#32
  let c0_344 : Index := 0#32
  ![1, v500.toNat, 5, 0, 0]
def k0_off297 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v513 : Index := Scalar.indexCast v391
  let c0_i32_266 : BitVec 32 := 0#32
  let c1_i32_267 : BitVec 32 := 1#32
  let arg21 : BitVec 32 := Scf.iv c0_i32_266 c1_i32_267 k0_t16
  let v514 : Index := Scalar.indexCast arg21
  let c5_349 : Index := 5#32
  let c0_350 : Index := 0#32
  let c0_351 : Index := 0#32
  ![v513.toNat, v514.toNat, 5, 0, 0]
def k0_off298 (k0_t15 : Fin k0_t15_loop.trips) (k0_t16 : Fin k0_t16_loop.trips) : Fin 5 → Nat :=
  let c1_352 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v518 : Index := Scalar.indexCast v403
  let c6 : Index := 6#32
  let c0_353 : Index := 0#32
  let c0_354 : Index := 0#32
  ![1, v518.toNat, 6, 0, 0]
def k0_off299 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v531 : Index := Scalar.indexCast v391
  let c0_i32_266 : BitVec 32 := 0#32
  let c1_i32_267 : BitVec 32 := 1#32
  let arg21 : BitVec 32 := Scf.iv c0_i32_266 c1_i32_267 k0_t16
  let v532 : Index := Scalar.indexCast arg21
  let c6_359 : Index := 6#32
  let c0_360 : Index := 0#32
  let c0_361 : Index := 0#32
  ![v531.toNat, v532.toNat, 6, 0, 0]
def k0_off300 (k0_t15 : Fin k0_t15_loop.trips) (k0_t16 : Fin k0_t16_loop.trips) : Fin 5 → Nat :=
  let c1_362 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v536 : Index := Scalar.indexCast v403
  let c7 : Index := 7#32
  let c0_363 : Index := 0#32
  let c0_364 : Index := 0#32
  ![1, v536.toNat, 7, 0, 0]
def k0_off301 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v549 : Index := Scalar.indexCast v391
  let c0_i32_266 : BitVec 32 := 0#32
  let c1_i32_267 : BitVec 32 := 1#32
  let arg21 : BitVec 32 := Scf.iv c0_i32_266 c1_i32_267 k0_t16
  let v550 : Index := Scalar.indexCast arg21
  let c7_369 : Index := 7#32
  let c0_370 : Index := 0#32
  let c0_371 : Index := 0#32
  ![v549.toNat, v550.toNat, 7, 0, 0]
def k0_off302 (k0_t15 : Fin k0_t15_loop.trips) (k0_t16 : Fin k0_t16_loop.trips) : Fin 5 → Nat :=
  let c1_372 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v554 : Index := Scalar.indexCast v403
  let c8 : Index := 8#32
  let c0_373 : Index := 0#32
  let c0_374 : Index := 0#32
  ![1, v554.toNat, 8, 0, 0]
def k0_off303 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v567 : Index := Scalar.indexCast v391
  let c0_i32_266 : BitVec 32 := 0#32
  let c1_i32_267 : BitVec 32 := 1#32
  let arg21 : BitVec 32 := Scf.iv c0_i32_266 c1_i32_267 k0_t16
  let v568 : Index := Scalar.indexCast arg21
  let c8_379 : Index := 8#32
  let c0_380 : Index := 0#32
  let c0_381 : Index := 0#32
  ![v567.toNat, v568.toNat, 8, 0, 0]
def k0_off304 (k0_t15 : Fin k0_t15_loop.trips) (k0_t16 : Fin k0_t16_loop.trips) : Fin 5 → Nat :=
  let c1_382 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v572 : Index := Scalar.indexCast v403
  let c9 : Index := 9#32
  let c0_383 : Index := 0#32
  let c0_384 : Index := 0#32
  ![1, v572.toNat, 9, 0, 0]
def k0_off305 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v585 : Index := Scalar.indexCast v391
  let c0_i32_266 : BitVec 32 := 0#32
  let c1_i32_267 : BitVec 32 := 1#32
  let arg21 : BitVec 32 := Scf.iv c0_i32_266 c1_i32_267 k0_t16
  let v586 : Index := Scalar.indexCast arg21
  let c9_389 : Index := 9#32
  let c0_390 : Index := 0#32
  let c0_391 : Index := 0#32
  ![v585.toNat, v586.toNat, 9, 0, 0]
def k0_off306 (k0_t15 : Fin k0_t15_loop.trips) (k0_t16 : Fin k0_t16_loop.trips) : Fin 5 → Nat :=
  let c1_392 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v590 : Index := Scalar.indexCast v403
  let c10 : Index := 10#32
  let c0_393 : Index := 0#32
  let c0_394 : Index := 0#32
  ![1, v590.toNat, 10, 0, 0]
def k0_off307 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v603 : Index := Scalar.indexCast v391
  let c0_i32_266 : BitVec 32 := 0#32
  let c1_i32_267 : BitVec 32 := 1#32
  let arg21 : BitVec 32 := Scf.iv c0_i32_266 c1_i32_267 k0_t16
  let v604 : Index := Scalar.indexCast arg21
  let c10_399 : Index := 10#32
  let c0_400 : Index := 0#32
  let c0_401 : Index := 0#32
  ![v603.toNat, v604.toNat, 10, 0, 0]
def k0_off308 (k0_t15 : Fin k0_t15_loop.trips) (k0_t16 : Fin k0_t16_loop.trips) : Fin 5 → Nat :=
  let c1_402 : Index := 1#32
  let c0_i32_231 : BitVec 32 := 0#32
  let c1_i32_233 : BitVec 32 := 1#32
  let arg20 : BitVec 32 := Scf.iv c0_i32_231 c1_i32_233 k0_t15
  let c9_i32_276 : BitVec 32 := 9#32
  let v402 : BitVec 32 := Scalar.muli arg20 c9_i32_276
  let c0_i32_266 : BitVec 32 := 0#32
  let c1_i32_267 : BitVec 32 := 1#32
  let arg21 : BitVec 32 := Scf.iv c0_i32_266 c1_i32_267 k0_t16
  let v403 : BitVec 32 := Scalar.addi v402 arg21
  let v608 : Index := Scalar.indexCast v403
  let c11 : Index := 11#32
  let c0_403 : Index := 0#32
  let c0_404 : Index := 0#32
  ![1, v608.toNat, 11, 0, 0]
def k0_off309 (k0_t15 : Fin k0_t15_loop.trips) (k0_t16 : Fin k0_t16_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let v621 : Index := Scalar.indexCast v391
  let c0_i32_266 : BitVec 32 := 0#32
  let c1_i32_267 : BitVec 32 := 1#32
  let arg21 : BitVec 32 := Scf.iv c0_i32_266 c1_i32_267 k0_t16
  let v622 : Index := Scalar.indexCast arg21
  let c11_409 : Index := 11#32
  let c0_410 : Index := 0#32
  let c0_411 : Index := 0#32
  ![v621.toNat, v622.toNat, 11, 0, 0]
def k0_off310 (k0_t15 : Fin k0_t15_loop.trips) : Fin 1 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  ![v391.toNat]
def k0_off311 (k0_t15 : Fin k0_t15_loop.trips) : Fin 4 → Nat :=
  let c0_i32_231 : BitVec 32 := 0#32
  let c1_i32_233 : BitVec 32 := 1#32
  let arg20 : BitVec 32 := Scf.iv c0_i32_231 c1_i32_233 k0_t15
  let c9_i32_269 : BitVec 32 := 9#32
  let v396 : BitVec 32 := Scalar.muli arg20 c9_i32_269
  let c0_i32_270 : BitVec 32 := 0#32
  let c0_i32_271 : BitVec 32 := 0#32
  let c640_i32 : BitVec 32 := 640#32
  ![v396.toNat, 0, 0, 640]
def k0_off312 (k0_t15 : Fin k0_t15_loop.trips) : Fin 5 → Nat :=
  let c40_i32 : BitVec 32 := 40#32
  let c0_i32_231 : BitVec 32 := 0#32
  let c1_i32_233 : BitVec 32 := 1#32
  let arg20 : BitVec 32 := Scf.iv c0_i32_231 c1_i32_233 k0_t15
  let v390 : BitVec 32 := Scalar.addi c40_i32 arg20
  let c3_i32 : BitVec 32 := 3#32
  let v391 : BitVec 32 := Scalar.remsi v390 c3_i32
  let c0_i32_272 : BitVec 32 := 0#32
  let c0_i32_273 : BitVec 32 := 0#32
  let c0_i32_274 : BitVec 32 := 0#32
  let c0_i32_275 : BitVec 32 := 0#32
  ![v391.toNat, 0, 0, 0, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S48x576x768 : Shape := ⟨3, ![48, 576, 768]⟩
abbrev S_ : Shape := ⟨0, ![]⟩
abbrev S768 : Shape := ⟨1, ![768]⟩
abbrev S1x1x1 : Shape := ⟨3, ![1, 1, 1]⟩
abbrev S1x1x768 : Shape := ⟨3, ![1, 1, 768]⟩

abbrev nBuf : Space → Nat
  | .hbm => 15
  | .vmem => 11
  | .smem => 0
  | _ => 0

abbrev bufTy : (tb : Table) → Fin (tcTables nBuf tb) → BufTy
  | .hbm, ⟨0, _⟩ => ⟨S48x576x768, .i8⟩
  | .hbm, ⟨1, _⟩ => ⟨S_, .f32⟩
  | .hbm, ⟨2, _⟩ => ⟨S48x576x768, .i8⟩
  | .hbm, ⟨3, _⟩ => ⟨S_, .f32⟩
  | .hbm, ⟨4, _⟩ => ⟨S48x576x768, .i8⟩
  | .hbm, ⟨5, _⟩ => ⟨S768, .f32⟩
  | .hbm, ⟨6, _⟩ => ⟨S768, .f32⟩
  | .hbm, ⟨7, _⟩ => ⟨S768, .f32⟩
  | .hbm, ⟨8, _⟩ => ⟨S48x576x768, .fp8e4m3⟩
  | .hbm, ⟨9, _⟩ => ⟨S48x576x768, .fp8e5m2⟩
  | .hbm, ⟨10, _⟩ => ⟨S1x1x1, .f32⟩
  | .hbm, ⟨11, _⟩ => ⟨S1x1x1, .f32⟩
  | .hbm, ⟨12, _⟩ => ⟨S48x576x768, .bf16⟩
  | .hbm, ⟨13, _⟩ => ⟨S768, .f32⟩
  | .hbm, ⟨14, _⟩ => ⟨S768, .f32⟩
  | .local _ .vmem, ⟨0, _⟩ => ⟨S48x576x768, .fp8e4m3⟩
  | .local _ .vmem, ⟨1, _⟩ => ⟨S1x1x1, .f32⟩
  | .local _ .vmem, ⟨2, _⟩ => ⟨S48x576x768, .fp8e5m2⟩
  | .local _ .vmem, ⟨3, _⟩ => ⟨S1x1x1, .f32⟩
  | .local _ .vmem, ⟨4, _⟩ => ⟨S48x576x768, .i8⟩
  | .local _ .vmem, ⟨5, _⟩ => ⟨S768, .f32⟩
  | .local _ .vmem, ⟨6, _⟩ => ⟨S768, .f32⟩
  | .local _ .vmem, ⟨7, _⟩ => ⟨S768, .f32⟩
  | .local _ .vmem, ⟨8, _⟩ => ⟨S48x576x768, .bf16⟩
  | .local _ .vmem, ⟨9, _⟩ => ⟨S768, .f32⟩
  | .local _ .vmem, ⟨10, _⟩ => ⟨S768, .f32⟩
  | _, _ => ⟨S48x576x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S48x576x768 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x576x768 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x576x768 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x576x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KI.Step.lean ====
/-
  One step of the kernel's inner loop, as a program over the offsets it reads and writes at: the `dx` rows of one slab
  and the masked sums of another, each over twelve tiles of 32 rows and 128 lanes. Every printed inner loop body is
  this program at its own offsets.
-/
module

public import proofs.«01_k».proof.Proof.Gen.KernelIdeal.Skeleton

@[expose] public section

noncomputable section

namespace Cert.KernelIdeal.Hand

open Idealize.ShloMosaic Idealize.SL.Sem Cert.KernelIdeal Cert.KernelIdeal.Gen

variable {F : FTy → Type} [FloatOps F]

/-- Where one tile of a slab lies in the input buffers, with the evidence an access there asks for. -/
structure TileOff where
  o : Fin 5 → Nat
  inb : ∀ a, o a + S1x1x1x32x128.size a ≤ S2x72x12x32x128.size a
  pk : (Rect.unit (s := S2x72x12x32x128) o S1x1x1x32x128.size inb).PackedRows (EltTy.packing .fp8e5m2)

/-- Where a tile that is only read lies in the input buffers. -/
structure RdOff where
  o : Fin 5 → Nat
  inb : ∀ a, o a + S1x1x1x32x128.size a ≤ S2x72x12x32x128.size a

/-- Where one tile lies in the output staging buffer. -/
structure OutOff where
  o : Fin 5 → Nat
  inb : ∀ a, o a + S1x1x1x32x128.size a ≤ S3x9x12x32x128.size a
  pk : (Rect.unit (s := S3x9x12x32x128) o S1x1x1x32x128.size inb).PackedRows (EltTy.packing .bf16)

/-- The upper sixteen rows of a tile of masked gradients, in f32. -/
def lo (gb : FVec F S32x128 .bf16) : FVec F S16x128 .f32 :=
  extf .f32 (extractStridedSlice S16x128 ![0, 0] gb slices_S32x128_o0_0_S16x128) bitsLt_bf16_f32

/-- The lower sixteen rows. -/
def hi (gb : FVec F S32x128 .bf16) : FVec F S16x128 .f32 :=
  extf .f32 (extractStridedSlice S16x128 ![16, 0] gb slices_S32x128_o16_0_S16x128) bitsLt_bf16_f32

/-- The two running sums, of gradients and of gradients times inputs; none yet, or some. -/
abbrev Sums (F : FTy → Type) := Option (FVec F S16x128 .f32 × FVec F S16x128 .f32)

/-- A sum begun or continued. -/
def addTo : Sums F → FVec F S16x128 .f32 → FVec F S16x128 .f32 → FVec F S16x128 .f32 × FVec F S16x128 .f32
  | none, p, q => (p, q)
  | some s, p, q => (addf s.1 p, addf s.2 q)

/-- The sums after one more tile: `s.1` of products, `s.2` of gradients. -/
def tileSums (ones : FVec F S16x128 .f32) (s : Sums F) (g8 : FVec F S32x128 .fp8e5m2) (xb : FVec F S32x128 .bf16) : FVec F S16x128 .f32 × FVec F S16x128 .f32 :=
  let gb : FVec F S32x128 .bf16 := extf .bf16 g8 bitsLt_fp8e5m2_bf16
  addTo (some (addTo s (mulf (lo gb) (lo xb)) (mulf (lo gb) ones))) (mulf (hi gb) (hi xb)) (mulf (hi gb) ones)

variable (X : Memref sig .tc .vmem S2x72x12x32x128 .fp8e4m3) (hX : X.IsWhole) (G : Memref sig .tc .vmem S2x72x12x32x128 .fp8e5m2) (hG : G.IsWhole)
  (M : Memref sig .tc .vmem S2x72x12x32x128 .i8) (hM : M.IsWhole) (O : Memref sig .tc .vmem S3x9x12x32x128 .bf16) (hO : O.IsWhole)
  (A : Memref sig .tc .vmem S2x8x128 .f32) (C : Memref sig .tc .vmem S3x32x128 .f32) (N : Memref sig .tc .vmem S16x128 .bf16)

/-- The masked sums over a list of tiles, and the masked tiles. -/
def redTiles (ones : FVec F S16x128 .f32) : List TileOff → Sums F → (Sums F → List (TileOff × FVec F S32x128 .fp8e5m2) → Prog (TpuEff nD τ sig (Elt F) Λ₀ .tc) Unit) → Prog (TpuEff nD τ sig (Elt F) Λ₀ .tc) Unit
  | [], s, k => k s []
  | t :: ts, s, k => do
    let m : Vec F S1x1x1x32x128 .i8 ← Prog.lift (.load M (Rect.unit (s := S2x72x12x32x128) t.o S1x1x1x32x128.size t.inb).toLoadRect (View.loadsAt_vmem h_S1x1x1x32x128))
    let g : Vec F S1x1x1x32x128 .fp8e5m2 ← Prog.lift (.load G (Rect.unit (s := S2x72x12x32x128) t.o S1x1x1x32x128.size t.inb).toLoadRect (View.loadsAt_vmem h_S1x1x1x32x128))
    let x : Vec F S1x1x1x32x128 .fp8e4m3 ← Prog.lift (.load X (Rect.unit (s := S2x72x12x32x128) t.o S1x1x1x32x128.size t.inb).toLoadRect (View.loadsAt_vmem h_S1x1x1x32x128))
    redTiles ones ts (some (tileSums ones s (k0_pay2 m g) (k0_pay4 x))) fun s' l => k s' ((t, k0_pay2 m g) :: l)

/-- The masked tiles written back. -/
def putTiles : List (TileOff × FVec F S32x128 .fp8e5m2) → Prog (TpuEff nD τ sig (Elt F) Λ₀ .tc) Unit → Prog (TpuEff nD τ sig (Elt F) Λ₀ .tc) Unit
  | [], k => k
  | (t, g8) :: l, k => do
    let _ : Vec F S1x1x1x32x128 .fp8e5m2 ← Prog.lift (.load G (Rect.unit (s := S2x72x12x32x128) t.o S1x1x1x32x128.size t.inb).toLoadRect (View.loadsAt_vmem h_S1x1x1x32x128))
    Prog.lift (.store G (Rect.unit (s := S2x72x12x32x128) t.o S1x1x1x32x128.size t.inb) (k0_pay100 g8) Finset.univ (View.stores_vmem h_S1x1x1x32x128 (hG.storeExact_slice rfl _ t.pk) (fun _ => rfl)) (.inl rfl))
    putTiles l k

/-- The accumulators' rows increased by the sums. -/
def putAcc : Sums F → Prog (TpuEff nD τ sig (Elt F) Λ₀ .tc) Unit → Prog (TpuEff nD τ sig (Elt F) Λ₀ .tc) Unit
  | none, k => k
  | some s, k => do
    let a : Vec F S1x8x128 .f32 ← Prog.lift (.load A (Rect.unit (s := S2x8x128) ![0, 0, 0] S1x8x128.size inb_S2x8x128_S1x8x128_0_0_0).toLoadRect (View.loadsAt_vmem h_S1x8x128))
    let _ : Vec F S1x8x128 .f32 ← Prog.lift (.load A (Rect.unit (s := S2x8x128) ![0, 0, 0] S1x8x128.size inb_S2x8x128_S1x8x128_0_0_0).toLoadRect (View.loadsAt_vmem h_S1x8x128))
    Prog.lift (.store A (Rect.unit (s := S2x8x128) ![0, 0, 0] S1x8x128.size inb_S2x8x128_S1x8x128_0_0_0) (k0_pay102 s.2 a) Finset.univ (View.stores_vmem_bits_univ h_S1x8x128 rfl) (.inl rfl))
    let b : Vec F S1x8x128 .f32 ← Prog.lift (.load A (Rect.unit (s := S2x8x128) ![1, 0, 0] S1x8x128.size inb_S2x8x128_S1x8x128_1_0_0).toLoadRect (View.loadsAt_vmem h_S1x8x128))
    let _ : Vec F S1x8x128 .f32 ← Prog.lift (.load A (Rect.unit (s := S2x8x128) ![1, 0, 0] S1x8x128.size inb_S2x8x128_S1x8x128_1_0_0).toLoadRect (View.loadsAt_vmem h_S1x8x128))
    Prog.lift (.store A (Rect.unit (s := S2x8x128) ![1, 0, 0] S1x8x128.size inb_S2x8x128_S1x8x128_1_0_0) (k0_pay102 s.1 b) Finset.univ (View.stores_vmem_bits_univ h_S1x8x128 rfl) (.inl rfl))
    k

/-- The masked sums of one slab. -/
def redStep (ts : List TileOff) : Prog (TpuEff nD τ sig (Elt F) Λ₀ .tc) Unit := do
  let n : Vec F S16x128 .bf16 ← Prog.lift (.load N (Rect.unit (s := S16x128) ![0, 0] S16x128.size inb_S16x128_S16x128_0_0).toLoadRect (View.loadsAt_vmem h_S16x128))
  redTiles X G M (k0_pay1 n) ts none fun s l => putTiles G hG l (putAcc A s (pure ⟨⟩))

/-- The `dx` rows of one slab, tile after tile. -/
def dxTiles (cg cx c0 : Vec F S1x32x128 .f32) : List (RdOff × OutOff) → Prog (TpuEff nD τ sig (Elt F) Λ₀ .tc) Unit → Prog (TpuEff nD τ sig (Elt F) Λ₀ .tc) Unit
  | [], k => k
  | (t, u) :: ts, k => do
    let g : Vec F S1x1x1x32x128 .fp8e5m2 ← Prog.lift (.load G (Rect.unit (s := S2x72x12x32x128) t.o S1x1x1x32x128.size t.inb).toLoadRect (View.loadsAt_vmem h_S1x1x1x32x128))
    let x : Vec F S1x1x1x32x128 .fp8e4m3 ← Prog.lift (.load X (Rect.unit (s := S2x72x12x32x128) t.o S1x1x1x32x128.size t.inb).toLoadRect (View.loadsAt_vmem h_S1x1x1x32x128))
    let _ : Vec F S1x1x1x32x128 .bf16 ← Prog.lift (.load O (Rect.unit (s := S3x9x12x32x128) u.o S1x1x1x32x128.size u.inb).toLoadRect (View.loadsAt_vmem h_S1x1x1x32x128))
    Prog.lift (.store O (Rect.unit (s := S3x9x12x32x128) u.o S1x1x1x32x128.size u.inb) (k0_pay107 cg cx c0 g x) Finset.univ (View.stores_vmem h_S1x1x1x32x128 (hO.storeExact_slice rfl _ u.pk) (fun _ => rfl)) (.inl rfl))
    dxTiles cg cx c0 ts k

/-- The `dx` rows of one slab. -/
def dxStep (ts : List (RdOff × OutOff)) (k : Prog (TpuEff nD τ sig (Elt F) Λ₀ .tc) Unit) : Prog (TpuEff nD τ sig (Elt F) Λ₀ .tc) Unit := do
  let cg : Vec F S1x32x128 .f32 ← Prog.lift (.load C (Rect.unit (s := S3x32x128) ![0, 0, 0] S1x32x128.size inb_S3x32x128_S1x32x128_0_0_0).toLoadRect (View.loadsAt_vmem h_S1x32x128))
  let cx : Vec F S1x32x128 .f32 ← Prog.lift (.load C (Rect.unit (s := S3x32x128) ![1, 0, 0] S1x32x128.size inb_S3x32x128_S1x32x128_1_0_0).toLoadRect (View.loadsAt_vmem h_S1x32x128))
  let c0 : Vec F S1x32x128 .f32 ← Prog.lift (.load C (Rect.unit (s := S3x32x128) ![2, 0, 0] S1x32x128.size inb_S3x32x128_S1x32x128_2_0_0).toLoadRect (View.loadsAt_vmem h_S1x32x128))
  dxTiles X G O hO cg cx c0 ts k

end Cert.KernelIdeal.Hand
-- ==== Proof.KI.Prog.lean ====
/-
  The kernel as a program over the offsets it uses: what one phase does — wait for a chunk's arrivals, run its nine
  steps, send the finished `dx` chunk, start the next arrivals — and the seven phases in order. The printed kernel is
  this program at its own offsets.
-/
module

public import proofs.«01_k».proof.Proof.KI.Step

@[expose] public section

noncomputable section

namespace Cert.KernelIdeal.Hand

open Idealize.ShloMosaic Idealize.SL.Sem Cert.KernelIdeal Cert.KernelIdeal.Gen

variable {F : FTy → Type} [FloatOps F]

/-- One chunk's three arrivals: its three semaphore cells, its block of the buffers and its block of the arrays. -/
structure InOff where
  s0 : Fin 3 → Nat
  i0 : ∀ a, s0 a + S1x1x1.size a ≤ S3x2x8.size a
  s1 : Fin 3 → Nat
  i1 : ∀ a, s1 a + S1x1x1.size a ≤ S3x2x8.size a
  s2 : Fin 3 → Nat
  i2 : ∀ a, s2 a + S1x1x1.size a ≤ S3x2x8.size a
  b : Fin 5 → Nat
  bi : ∀ a, b a + S1x9x12x32x128.size a ≤ S2x72x12x32x128.size a
  b0 : (Rect.unit (s := S2x72x12x32x128) b S1x9x12x32x128.size bi).WholeWords (EltTy.packing .fp8e4m3)
  b1 : (Rect.unit (s := S2x72x12x32x128) b S1x9x12x32x128.size bi).WholeWords (EltTy.packing .fp8e5m2)
  b2 : (Rect.unit (s := S2x72x12x32x128) b S1x9x12x32x128.size bi).WholeWords (EltTy.packing .i8)
  h : Fin 4 → Nat
  hi : ∀ a, h a + S9x12x32x128.size a ≤ S72x12x32x768.size a
  h0 : (Rect.unit (s := S72x12x32x768) h S9x12x32x128.size hi).WholeWords (EltTy.packing .fp8e4m3)
  h1 : (Rect.unit (s := S72x12x32x768) h S9x12x32x128.size hi).WholeWords (EltTy.packing .fp8e5m2)
  h2 : (Rect.unit (s := S72x12x32x768) h S9x12x32x128.size hi).WholeWords (EltTy.packing .i8)

/-- One finished chunk's departure: its cell, its staging buffer and its block of the result. -/
structure SendOff where
  s : Fin 1 → Nat
  si : ∀ a, s a + S1.size a ≤ S3.size a
  h : Fin 4 → Nat
  hi : ∀ a, h a + S9x12x32x128.size a ≤ S72x12x32x768.size a
  hw : (Rect.unit (s := S72x12x32x768) h S9x12x32x128.size hi).WholeWords (EltTy.packing .bf16)
  b : Fin 5 → Nat
  bi : ∀ a, b a + S1x9x12x32x128.size a ≤ S3x9x12x32x128.size a
  bw : (Rect.unit (s := S3x9x12x32x128) b S1x9x12x32x128.size bi).WholeWords (EltTy.packing .bf16)

/-- Where a group's row of the statistics lies. -/
structure RowOff where
  o : Fin 2 → Nat
  inb : ∀ a, o a + S1x128.size a ≤ S6x128.size a

@[reducible] def loop8 : Scf.Loop 32 := ⟨0#32, 8#32, 1#32⟩
@[reducible] def loop9 : Scf.Loop 32 := ⟨0#32, 9#32, 1#32⟩

/-- The offsets of one phase. -/
structure Phase where
  ok8 : loop8.OK
  ok9 : loop9.OK
  wIn : Option (Fin loop8.trips → InOff)
  wOut : Option ((j : Fin loop8.trips) → (c : BitVec 1) ×' (c = 1#1 → SendOff))
  dx : Option (Fin loop8.trips → Fin loop9.trips → List (RdOff × OutOff))
  red : Option (Fin loop8.trips → Fin loop9.trips → List TileOff)
  send : Option (Fin loop8.trips → SendOff)
  nxt : Option (Fin loop8.trips → InOff)
  row : Option RowOff

/-- The kernel's operands. -/
structure Ops where
  xs : Memref sig .tc .smem S1 .f32
  hxs : xs.IsWhole
  ys : Memref sig .tc .smem S1 .f32
  hys : ys.IsWhole
  mean : Memref sig .tc .vmem S6x128 .f32
  rstd : Memref sig .tc .vmem S6x128 .f32
  gam : Memref sig .tc .vmem S6x128 .f32
  x : Memref sig .tc .hbm S72x12x32x768 .fp8e4m3
  hx : x.IsWhole
  y : Memref sig .tc .hbm S72x12x32x768 .fp8e5m2
  hy : y.IsWhole
  m : Memref sig .tc .hbm S72x12x32x768 .i8
  hm : m.IsWhole
  d : Memref sig .tc .hbm S72x12x32x768 .bf16
  hd : d.IsWhole
  dg : Memref sig .tc .vmem S6x128 .f32
  db : Memref sig .tc .vmem S6x128 .f32
  X : Memref sig .tc .vmem S2x72x12x32x128 .fp8e4m3
  hX : X.IsWhole
  G : Memref sig .tc .vmem S2x72x12x32x128 .fp8e5m2
  hG : G.IsWhole
  M : Memref sig .tc .vmem S2x72x12x32x128 .i8
  hM : M.IsWhole
  O : Memref sig .tc .vmem S3x9x12x32x128 .bf16
  hO : O.IsWhole
  A : Memref sig .tc .vmem S2x8x128 .f32
  C : Memref sig .tc .vmem S3x32x128 .f32
  N : Memref sig .tc .vmem S16x128 .bf16
  hN : N.IsWhole
  IN : DmaSems sig S3x2x8
  OUT : DmaSems sig S3

/-- A cell of the arrivals' semaphores. -/
def Ops.cin (R : Ops) (o : Fin 3 → Nat) (i : ∀ a, o a + S1x1x1.size a ≤ S3x2x8.size a) : DmaSem sig :=
  ((R.IN.slice (Rect.unit (s := S3x2x8) o S1x1x1.size i)).squeeze S_ squeezes_S1x1x1_S_).sem

/-- A cell of the departures' semaphores. -/
def Ops.cout (R : Ops) (o : Fin 1 → Nat) (i : ∀ a, o a + S1.size a ≤ S3.size a) : DmaSem sig :=
  ((R.OUT.slice (Rect.unit (s := S3) o S1.size i)).squeeze S_ squeezes_S1_S_).sem

/-- A chunk of one of the input buffers. -/
def chunkOf {e : EltTy} (B : Memref sig .tc .vmem S2x72x12x32x128 e) (o : Fin 5 → Nat) (i : ∀ a, o a + S1x9x12x32x128.size a ≤ S2x72x12x32x128.size a) :
    Memref sig .tc .vmem S9x12x32x128 e :=
  (B.slice (Rect.unit (s := S2x72x12x32x128) o S1x9x12x32x128.size i) (fun _ => rfl)).squeeze S9x12x32x128 squeezes_S1x9x12x32x128_S9x12x32x128

/-- A chunk of the output staging buffer. -/
def stageOf (B : Memref sig .tc .vmem S3x9x12x32x128 .bf16) (o : Fin 5 → Nat) (i : ∀ a, o a + S1x9x12x32x128.size a ≤ S3x9x12x32x128.size a) :
    Memref sig .tc .vmem S9x12x32x128 .bf16 :=
  (B.slice (Rect.unit (s := S3x9x12x32x128) o S1x9x12x32x128.size i) (fun _ => rfl)).squeeze S9x12x32x128 squeezes_S1x9x12x32x128_S9x12x32x128

/-- A block of one of the arrays. -/
def blockOf {e : EltTy} (H : Memref sig .tc .hbm S72x12x32x768 e) (o : Fin 4 → Nat) (i : ∀ a, o a + S9x12x32x128.size a ≤ S72x12x32x768.size a) :
    Memref sig .tc .hbm S9x12x32x128 e :=
  H.slice (Rect.unit (s := S72x12x32x768) o S9x12x32x128.size i) (fun _ => rfl)

variable (R : Ops)

/-- Wait for a chunk's three arrivals. -/
def waitIn (n : InOff) (k : Prog (TpuEff nD τ sig (Elt F) Λ₀ .tc) Unit) : Prog (TpuEff nD τ sig (Elt F) Λ₀ .tc) Unit := do
  Prog.lift (.waitDma2 (R.cin n.s0 n.i0) (blockOf R.x n.h n.hi) (chunkOf R.X n.b n.bi) (R.hx.wordExact_slice rfl _ n.h0) ((R.hX.wordExact_slice rfl _ n.b0).reshape _ _))
  Prog.lift (.waitDma2 (R.cin n.s1 n.i1) (blockOf R.y n.h n.hi) (chunkOf R.G n.b n.bi) (R.hy.wordExact_slice rfl _ n.h1) ((R.hG.wordExact_slice rfl _ n.b1).reshape _ _))
  Prog.lift (.waitDma2 (R.cin n.s2 n.i2) (blockOf R.m n.h n.hi) (chunkOf R.M n.b n.bi) (R.hm.wordExact_slice rfl _ n.h2) ((R.hM.wordExact_slice rfl _ n.b2).reshape _ _))
  k

/-- Start a chunk's three arrivals. -/
def startIn (n : InOff) (k : Prog (TpuEff nD τ sig (Elt F) Λ₀ .tc) Unit) : Prog (TpuEff nD τ sig (Elt F) Λ₀ .tc) Unit := do
  Prog.lift (.enqueueDma (blockOf R.x n.h n.hi) (.here (chunkOf R.X n.b n.bi)) (.dma (R.cin n.s0 n.i0)) (R.hx.wordExact_slice rfl _ n.h0) ((R.hX.wordExact_slice rfl _ n.b0).reshape _ _) ⟨Or.inl rfl, trivial⟩)
  Prog.lift (.enqueueDma (blockOf R.y n.h n.hi) (.here (chunkOf R.G n.b n.bi)) (.dma (R.cin n.s1 n.i1)) (R.hy.wordExact_slice rfl _ n.h1) ((R.hG.wordExact_slice rfl _ n.b1).reshape _ _) ⟨Or.inl rfl, trivial⟩)
  Prog.lift (.enqueueDma (blockOf R.m n.h n.hi) (.here (chunkOf R.M n.b n.bi)) (.dma (R.cin n.s2 n.i2)) (R.hm.wordExact_slice rfl _ n.h2) ((R.hM.wordExact_slice rfl _ n.b2).reshape _ _) ⟨Or.inl rfl, trivial⟩)
  k

/-- Wait for a departure. -/
def waitOut (n : SendOff) (k : Prog (TpuEff nD τ sig (Elt F) Λ₀ .tc) Unit) : Prog (TpuEff nD τ sig (Elt F) Λ₀ .tc) Unit := do
  Prog.lift (.waitDma2 (R.cout n.s n.si) (stageOf R.O n.b n.bi) (blockOf R.d n.h n.hi) ((R.hO.wordExact_slice rfl _ n.bw).reshape _ _) (R.hd.wordExact_slice rfl _ n.hw))
  k

/-- Send a finished chunk. -/
def startOut (n : SendOff) (k : Prog (TpuEff nD τ sig (Elt F) Λ₀ .tc) Unit) : Prog (TpuEff nD τ sig (Elt F) Λ₀ .tc) Unit := do
  Prog.lift (.enqueueDma (stageOf R.O n.b n.bi) (.here (blockOf R.d n.h n.hi)) (.dma (R.cout n.s n.si)) ((R.hO.wordExact_slice rfl _ n.bw).reshape _ _) (R.hd.wordExact_slice rfl _ n.hw) ⟨Or.inl rfl, trivial⟩)
  k

/-- An optional operation before a continuation. -/
def opt {α : Type} (o : Option α) (f : α → Prog (TpuEff nD τ sig (Elt F) Λ₀ .tc) Unit → Prog (TpuEff nD τ sig (Elt F) Λ₀ .tc) Unit)
    (k : Prog (TpuEff nD τ sig (Elt F) Λ₀ .tc) Unit) : Prog (TpuEff nD τ sig (Elt F) Λ₀ .tc) Unit :=
  match o with
  | none => k
  | some a => f a k

/-- One step of a phase. -/
def stepBody (P : Phase) (j : Fin loop8.trips) (i : Fin loop9.trips) : Prog (TpuEff nD τ sig (Elt F) Λ₀ .tc) Unit :=
  opt P.dx (fun f k => dxStep R.X R.G R.O R.hO R.C (f j i) k)
    (match P.red with
     | none => pure ⟨⟩
     | some f => redStep R.X R.G R.hG R.M R.A R.N (f j i))

/-- One chunk of a phase. -/
def chunkBody (P : Phase) (j : Fin loop8.trips) : Prog (TpuEff nD τ sig (Elt F) Λ₀ .tc) Unit :=
  opt P.wIn (fun f k => waitIn R (f j) k) <|
  opt P.wOut (fun f k => do
      if h : (f j).1 = 1#1 then (waitOut R ((f j).2 h) (pure ⟨⟩) : Prog (TpuEff nD τ sig (Elt F) Λ₀ .tc) Unit) else pure ⟨⟩
      k) <| do
    let _ ← Scf.Loop.for loop9 P.ok9 ⟨⟩ (fun i (_ : Unit) => stepBody R P j i)
    opt P.send (fun f k => startOut R (f j) k) <| opt P.nxt (fun f k => startIn R (f j) k) <| pure ⟨⟩

/-- A group's statistics from its sums, and its coefficients for the next phase. -/
def finish (v0 v1 : Elt F .f32) (r : RowOff) (k : Prog (TpuEff nD τ sig (Elt F) Λ₀ .tc) Unit) : Prog (TpuEff nD τ sig (Elt F) Λ₀ .tc) Unit := do
  let me : Vec F S1x128 .f32 ← Prog.lift (.load R.mean (Rect.unit (s := S6x128) r.o S1x128.size r.inb).toLoadRect (View.loadsAt_vmem h_S1x128))
  let rs : Vec F S1x128 .f32 ← Prog.lift (.load R.rstd (Rect.unit (s := S6x128) r.o S1x128.size r.inb).toLoadRect (View.loadsAt_vmem h_S1x128))
  let ga : Vec F S1x128 .f32 ← Prog.lift (.load R.gam (Rect.unit (s := S6x128) r.o S1x128.size r.inb).toLoadRect (View.loadsAt_vmem h_S1x128))
  let a0 : Vec F S1x8x128 .f32 ← Prog.lift (.load R.A (Rect.unit (s := S2x8x128) ![0, 0, 0] S1x8x128.size inb_S2x8x128_S1x8x128_0_0_0).toLoadRect (View.loadsAt_vmem h_S1x8x128))
  let a1 : Vec F S1x8x128 .f32 ← Prog.lift (.load R.A (Rect.unit (s := S2x8x128) ![1, 0, 0] S1x8x128.size inb_S2x8x128_S1x8x128_1_0_0).toLoadRect (View.loadsAt_vmem h_S1x8x128))
  let _ : Vec F S1x128 .f32 ← Prog.lift (.load R.db (Rect.unit (s := S6x128) r.o S1x128.size r.inb).toLoadRect (View.loadsAt_vmem h_S1x128))
  Prog.lift (.store R.db (Rect.unit (s := S6x128) r.o S1x128.size r.inb) (k0_pay741 (k0_pay739 a0) (k0_pay740 v1)) Finset.univ (View.stores_vmem_bits_univ h_S1x128 rfl) (.inl rfl))
  let _ : Vec F S1x128 .f32 ← Prog.lift (.load R.dg (Rect.unit (s := S6x128) r.o S1x128.size r.inb).toLoadRect (View.loadsAt_vmem h_S1x128))
  Prog.lift (.store R.dg (Rect.unit (s := S6x128) r.o S1x128.size r.inb) (k0_pay742 v0 v1 (k0_pay736 me) (k0_pay737 rs) (k0_pay739 a0) (k0_pay740 v1) a1) Finset.univ (View.stores_vmem_bits_univ h_S1x128 rfl) (.inl rfl))
  let _ : Vec F S1x32x128 .f32 ← Prog.lift (.load R.C (Rect.unit (s := S3x32x128) ![0, 0, 0] S1x32x128.size inb_S3x32x128_S1x32x128_0_0_0).toLoadRect (View.loadsAt_vmem h_S1x32x128))
  Prog.lift (.store R.C (Rect.unit (s := S3x32x128) ![0, 0, 0] S1x32x128.size inb_S3x32x128_S1x32x128_0_0_0) (k0_pay745 v1 (k0_pay737 rs) (k0_pay738 ga)) Finset.univ (View.stores_vmem_bits_univ h_S1x32x128 rfl) (.inl rfl))
  let _ : Vec F S1x32x128 .f32 ← Prog.lift (.load R.C (Rect.unit (s := S3x32x128) ![1, 0, 0] S1x32x128.size inb_S3x32x128_S1x32x128_1_0_0).toLoadRect (View.loadsAt_vmem h_S1x32x128))
  Prog.lift (.store R.C (Rect.unit (s := S3x32x128) ![1, 0, 0] S1x32x128.size inb_S3x32x128_S1x32x128_1_0_0) (k0_pay746 v0 v1 (k0_pay736 me) (k0_pay737 rs) (k0_pay738 ga) (k0_pay739 a0) (k0_pay740 v1) a1) Finset.univ (View.stores_vmem_bits_univ h_S1x32x128 rfl) (.inl rfl))
  let _ : Vec F S1x32x128 .f32 ← Prog.lift (.load R.C (Rect.unit (s := S3x32x128) ![2, 0, 0] S1x32x128.size inb_S3x32x128_S1x32x128_2_0_0).toLoadRect (View.loadsAt_vmem h_S1x32x128))
  Prog.lift (.store R.C (Rect.unit (s := S3x32x128) ![2, 0, 0] S1x32x128.size inb_S3x32x128_S1x32x128_2_0_0) (k0_pay748 (k0_pay743 (k0_pay737 rs) (k0_pay738 ga)) (k0_pay747 v0 v1 (k0_pay736 me) (k0_pay737 rs) (k0_pay739 a0) (k0_pay740 v1) a1)) Finset.univ (View.stores_vmem_bits_univ h_S1x32x128 rfl) (.inl rfl))
  k

/-- One phase: the sums cleared, the chunks, the statistics. -/
def phase (v0 v1 : Elt F .f32) (P : Phase) (k : Prog (TpuEff nD τ sig (Elt F) Λ₀ .tc) Unit) : Prog (TpuEff nD τ sig (Elt F) Λ₀ .tc) Unit :=
  opt P.row (fun _ k => do
      let _ : Vec F S2x8x128 .f32 ← Prog.lift (.load R.A (Rect.unit (s := S2x8x128) ![0, 0, 0] S2x8x128.size inb_S2x8x128_S2x8x128_0_0_0).toLoadRect (View.loadsAt_vmem h_S2x8x128))
      Prog.lift (.store R.A (Rect.unit (s := S2x8x128) ![0, 0, 0] S2x8x128.size inb_S2x8x128_S2x8x128_0_0_0) (k0_pay734 (F := F)) Finset.univ (View.stores_vmem_bits_univ h_S2x8x128 rfl) (.inl rfl))
      k) <| do
    let _ ← Scf.Loop.for loop8 P.ok8 ⟨⟩ (fun j (_ : Unit) => chunkBody R P j)
    opt P.row (fun r k => finish R v0 v1 r k) k

/-- The phases in order. -/
def phases (v0 v1 : Elt F .f32) : List Phase → Prog (TpuEff nD τ sig (Elt F) Λ₀ .tc) Unit → Prog (TpuEff nD τ sig (Elt F) Λ₀ .tc) Unit
  | [], k => k
  | P :: Ps, k => phase R v0 v1 P (phases v0 v1 Ps k)

/-- The whole kernel: the ones, the first two groups' arrivals started, the phases, the last departures. -/
def kern (ok8 : loop8.OK) (p0 p1 : Fin loop8.trips → InOff) (Ps : List Phase) (q0 q1 q2 : SendOff) : Prog (TpuEff nD τ sig (Elt F) Λ₀ .tc) Unit := do
  let v0 : Elt F .f32 ← smemLoad R.xs (Rect.unit (s := S1) ![0] S1.size inb_S1_S1_0) numel1_S1 rfl
  let v1 : Elt F .f32 ← smemLoad R.ys (Rect.unit (s := S1) ![0] S1.size inb_S1_S1_0) numel1_S1 rfl
  let _ : Vec F S16x128 .bf16 ← Prog.lift (.load R.N (Rect.unit (s := S16x128) ![0, 0] S16x128.size inb_S16x128_S16x128_0_0).toLoadRect (View.loadsAt_vmem h_S16x128))
  Prog.lift (.store R.N (Rect.unit (s := S16x128) ![0, 0] S16x128.size inb_S16x128_S16x128_0_0) (k0_pay733 (F := F)) Finset.univ (View.stores_vmem h_S16x128 (R.hN.storeExact_slice rfl _ packedbf16_S16x128_S16x128_0_0) (fun _ => rfl)) (.inl rfl))
  let _ ← Scf.Loop.for loop8 ok8 ⟨⟩ (fun j (_ : Unit) => startIn R (p0 j) (pure ⟨⟩))
  let _ ← Scf.Loop.for loop8 ok8 ⟨⟩ (fun j (_ : Unit) => startIn R (p1 j) (pure ⟨⟩))
  phases R v0 v1 Ps (waitOut R q0 (waitOut R q1 (waitOut R q2 (pure ⟨⟩))))

end Cert.KernelIdeal.Hand
-- ==== Proof.KI.Tables.lean ====
/-
  The offsets the printed kernel uses, phase by phase, by the names the printed program gives them.
-/
module

public import proofs.«01_k».proof.Proof.KI.Prog

@[expose] public section

noncomputable section

namespace Cert.KernelIdeal.Hand

open Idealize.ShloMosaic Idealize.SL.Sem Cert.KernelIdeal Cert.KernelIdeal.Gen

/-- The tiles phase 0 sums. -/
def red0 (j : Fin loop8.trips) (i : Fin loop9.trips) : List TileOff :=
  [⟨k0_off16 j i, k0_off16_inb j i, k0_off16_packedfp8e5m2 j i⟩,
   ⟨k0_off17 j i, k0_off17_inb j i, k0_off17_packedfp8e5m2 j i⟩,
   ⟨k0_off18 j i, k0_off18_inb j i, k0_off18_packedfp8e5m2 j i⟩,
   ⟨k0_off19 j i, k0_off19_inb j i, k0_off19_packedfp8e5m2 j i⟩,
   ⟨k0_off20 j i, k0_off20_inb j i, k0_off20_packedfp8e5m2 j i⟩,
   ⟨k0_off21 j i, k0_off21_inb j i, k0_off21_packedfp8e5m2 j i⟩,
   ⟨k0_off22 j i, k0_off22_inb j i, k0_off22_packedfp8e5m2 j i⟩,
   ⟨k0_off23 j i, k0_off23_inb j i, k0_off23_packedfp8e5m2 j i⟩,
   ⟨k0_off24 j i, k0_off24_inb j i, k0_off24_packedfp8e5m2 j i⟩,
   ⟨k0_off25 j i, k0_off25_inb j i, k0_off25_packedfp8e5m2 j i⟩,
   ⟨k0_off26 j i, k0_off26_inb j i, k0_off26_packedfp8e5m2 j i⟩,
   ⟨k0_off27 j i, k0_off27_inb j i, k0_off27_packedfp8e5m2 j i⟩]

def win0 (j : Fin loop8.trips) : InOff :=
  ⟨k0_off11 j, k0_off11_inb j, k0_off14 j, k0_off14_inb j, k0_off15 j, k0_off15_inb j, k0_off12 j, k0_off12_inb j, k0_off12_wordsfp8e4m3 j, k0_off12_wordsfp8e5m2 j, k0_off12_wordsi8 j, k0_off13 j, k0_off13_inb j, k0_off13_wordsfp8e4m3 j, k0_off13_wordsfp8e5m2 j, k0_off13_wordsi8 j⟩

/-- Phase 0. -/
def ph0 : Phase :=
  ⟨k0_t3_ok, k0_t4_ok, some win0, none, none, some red0, none, none, some ⟨![0, 0], inb_S6x128_S1x128_0_0⟩⟩

/-- The tiles phase 1 sums. -/
def red1 (j : Fin loop8.trips) (i : Fin loop9.trips) : List TileOff :=
  [⟨k0_off60 j i, k0_off60_inb j i, k0_off60_packedfp8e5m2 j i⟩,
   ⟨k0_off61 j i, k0_off61_inb j i, k0_off61_packedfp8e5m2 j i⟩,
   ⟨k0_off62 j i, k0_off62_inb j i, k0_off62_packedfp8e5m2 j i⟩,
   ⟨k0_off63 j i, k0_off63_inb j i, k0_off63_packedfp8e5m2 j i⟩,
   ⟨k0_off64 j i, k0_off64_inb j i, k0_off64_packedfp8e5m2 j i⟩,
   ⟨k0_off65 j i, k0_off65_inb j i, k0_off65_packedfp8e5m2 j i⟩,
   ⟨k0_off66 j i, k0_off66_inb j i, k0_off66_packedfp8e5m2 j i⟩,
   ⟨k0_off67 j i, k0_off67_inb j i, k0_off67_packedfp8e5m2 j i⟩,
   ⟨k0_off68 j i, k0_off68_inb j i, k0_off68_packedfp8e5m2 j i⟩,
   ⟨k0_off69 j i, k0_off69_inb j i, k0_off69_packedfp8e5m2 j i⟩,
   ⟨k0_off70 j i, k0_off70_inb j i, k0_off70_packedfp8e5m2 j i⟩,
   ⟨k0_off71 j i, k0_off71_inb j i, k0_off71_packedfp8e5m2 j i⟩]

/-- The tiles phase 1 writes `dx` of. -/
def dx1 (j : Fin loop8.trips) (i : Fin loop9.trips) : List (RdOff × OutOff) :=
  [(⟨k0_off36 j i, k0_off36_inb j i⟩, ⟨k0_off37 j i, k0_off37_inb j i, k0_off37_packedbf16 j i⟩),
   (⟨k0_off38 j i, k0_off38_inb j i⟩, ⟨k0_off39 j i, k0_off39_inb j i, k0_off39_packedbf16 j i⟩),
   (⟨k0_off40 j i, k0_off40_inb j i⟩, ⟨k0_off41 j i, k0_off41_inb j i, k0_off41_packedbf16 j i⟩),
   (⟨k0_off42 j i, k0_off42_inb j i⟩, ⟨k0_off43 j i, k0_off43_inb j i, k0_off43_packedbf16 j i⟩),
   (⟨k0_off44 j i, k0_off44_inb j i⟩, ⟨k0_off45 j i, k0_off45_inb j i, k0_off45_packedbf16 j i⟩),
   (⟨k0_off46 j i, k0_off46_inb j i⟩, ⟨k0_off47 j i, k0_off47_inb j i, k0_off47_packedbf16 j i⟩),
   (⟨k0_off48 j i, k0_off48_inb j i⟩, ⟨k0_off49 j i, k0_off49_inb j i, k0_off49_packedbf16 j i⟩),
   (⟨k0_off50 j i, k0_off50_inb j i⟩, ⟨k0_off51 j i, k0_off51_inb j i, k0_off51_packedbf16 j i⟩),
   (⟨k0_off52 j i, k0_off52_inb j i⟩, ⟨k0_off53 j i, k0_off53_inb j i, k0_off53_packedbf16 j i⟩),
   (⟨k0_off54 j i, k0_off54_inb j i⟩, ⟨k0_off55 j i, k0_off55_inb j i, k0_off55_packedbf16 j i⟩),
   (⟨k0_off56 j i, k0_off56_inb j i⟩, ⟨k0_off57 j i, k0_off57_inb j i, k0_off57_packedbf16 j i⟩),
   (⟨k0_off58 j i, k0_off58_inb j i⟩, ⟨k0_off59 j i, k0_off59_inb j i, k0_off59_packedbf16 j i⟩)]

def win1 (j : Fin loop8.trips) : InOff :=
  ⟨k0_off28 j, k0_off28_inb j, k0_off31 j, k0_off31_inb j, k0_off32 j, k0_off32_inb j, k0_off29 j, k0_off29_inb j, k0_off29_wordsfp8e4m3 j, k0_off29_wordsfp8e5m2 j, k0_off29_wordsi8 j, k0_off30 j, k0_off30_inb j, k0_off30_wordsfp8e4m3 j, k0_off30_wordsfp8e5m2 j, k0_off30_wordsi8 j⟩

def wout1 (j : Fin loop8.trips) : (c : BitVec 1) ×' (c = 1#1 → SendOff) :=
  ⟨k0_cond1 j, fun h => ⟨k0_off33 j, k0_off33_inb j h, k0_off34 j, k0_off34_inb j h, k0_off34_wordsbf16 j h, k0_off35 j, k0_off35_inb j h, k0_off35_wordsbf16 j h⟩⟩

def send1 (j : Fin loop8.trips) : SendOff :=
  ⟨k0_off72 j, k0_off72_inb j, k0_off73 j, k0_off73_inb j, k0_off73_wordsbf16 j, k0_off74 j, k0_off74_inb j, k0_off74_wordsbf16 j⟩

def nxt1 (j : Fin loop8.trips) : InOff :=
  ⟨k0_off75 j, k0_off75_inb j, k0_off78 j, k0_off78_inb j, k0_off79 j, k0_off79_inb j, k0_off76 j, k0_off76_inb j, k0_off76_wordsfp8e4m3 j, k0_off76_wordsfp8e5m2 j, k0_off76_wordsi8 j, k0_off77 j, k0_off77_inb j, k0_off77_wordsfp8e4m3 j, k0_off77_wordsfp8e5m2 j, k0_off77_wordsi8 j⟩

/-- Phase 1. -/
def ph1 : Phase :=
  ⟨k0_t5_ok, k0_t6_ok, some win1, some wout1, some dx1, some red1, some send1, some nxt1, some ⟨![1, 0], inb_S6x128_S1x128_1_0⟩⟩

/-- The tiles phase 2 sums. -/
def red2 (j : Fin loop8.trips) (i : Fin loop9.trips) : List TileOff :=
  [⟨k0_off112 j i, k0_off112_inb j i, k0_off112_packedfp8e5m2 j i⟩,
   ⟨k0_off113 j i, k0_off113_inb j i, k0_off113_packedfp8e5m2 j i⟩,
   ⟨k0_off114 j i, k0_off114_inb j i, k0_off114_packedfp8e5m2 j i⟩,
   ⟨k0_off115 j i, k0_off115_inb j i, k0_off115_packedfp8e5m2 j i⟩,
   ⟨k0_off116 j i, k0_off116_inb j i, k0_off116_packedfp8e5m2 j i⟩,
   ⟨k0_off117 j i, k0_off117_inb j i, k0_off117_packedfp8e5m2 j i⟩,
   ⟨k0_off118 j i, k0_off118_inb j i, k0_off118_packedfp8e5m2 j i⟩,
   ⟨k0_off119 j i, k0_off119_inb j i, k0_off119_packedfp8e5m2 j i⟩,
   ⟨k0_off120 j i, k0_off120_inb j i, k0_off120_packedfp8e5m2 j i⟩,
   ⟨k0_off121 j i, k0_off121_inb j i, k0_off121_packedfp8e5m2 j i⟩,
   ⟨k0_off122 j i, k0_off122_inb j i, k0_off122_packedfp8e5m2 j i⟩,
   ⟨k0_off123 j i, k0_off123_inb j i, k0_off123_packedfp8e5m2 j i⟩]

/-- The tiles phase 2 writes `dx` of. -/
def dx2 (j : Fin loop8.trips) (i : Fin loop9.trips) : List (RdOff × OutOff) :=
  [(⟨k0_off88 j i, k0_off88_inb j i⟩, ⟨k0_off89 j i, k0_off89_inb j i, k0_off89_packedbf16 j i⟩),
   (⟨k0_off90 j i, k0_off90_inb j i⟩, ⟨k0_off91 j i, k0_off91_inb j i, k0_off91_packedbf16 j i⟩),
   (⟨k0_off92 j i, k0_off92_inb j i⟩, ⟨k0_off93 j i, k0_off93_inb j i, k0_off93_packedbf16 j i⟩),
   (⟨k0_off94 j i, k0_off94_inb j i⟩, ⟨k0_off95 j i, k0_off95_inb j i, k0_off95_packedbf16 j i⟩),
   (⟨k0_off96 j i, k0_off96_inb j i⟩, ⟨k0_off97 j i, k0_off97_inb j i, k0_off97_packedbf16 j i⟩),
   (⟨k0_off98 j i, k0_off98_inb j i⟩, ⟨k0_off99 j i, k0_off99_inb j i, k0_off99_packedbf16 j i⟩),
   (⟨k0_off100 j i, k0_off100_inb j i⟩, ⟨k0_off101 j i, k0_off101_inb j i, k0_off101_packedbf16 j i⟩),
   (⟨k0_off102 j i, k0_off102_inb j i⟩, ⟨k0_off103 j i, k0_off103_inb j i, k0_off103_packedbf16 j i⟩),
   (⟨k0_off104 j i, k0_off104_inb j i⟩, ⟨k0_off105 j i, k0_off105_inb j i, k0_off105_packedbf16 j i⟩),
   (⟨k0_off106 j i, k0_off106_inb j i⟩, ⟨k0_off107 j i, k0_off107_inb j i, k0_off107_packedbf16 j i⟩),
   (⟨k0_off108 j i, k0_off108_inb j i⟩, ⟨k0_off109 j i, k0_off109_inb j i, k0_off109_packedbf16 j i⟩),
   (⟨k0_off110 j i, k0_off110_inb j i⟩, ⟨k0_off111 j i, k0_off111_inb j i, k0_off111_packedbf16 j i⟩)]

def win2 (j : Fin loop8.trips) : InOff :=
  ⟨k0_off80 j, k0_off80_inb j, k0_off83 j, k0_off83_inb j, k0_off84 j, k0_off84_inb j, k0_off81 j, k0_off81_inb j, k0_off81_wordsfp8e4m3 j, k0_off81_wordsfp8e5m2 j, k0_off81_wordsi8 j, k0_off82 j, k0_off82_inb j, k0_off82_wordsfp8e4m3 j, k0_off82_wordsfp8e5m2 j, k0_off82_wordsi8 j⟩

def wout2 (j : Fin loop8.trips) : (c : BitVec 1) ×' (c = 1#1 → SendOff) :=
  ⟨k0_cond2 j, fun h => ⟨k0_off85 j, k0_off85_inb j h, k0_off86 j, k0_off86_inb j h, k0_off86_wordsbf16 j h, k0_off87 j, k0_off87_inb j h, k0_off87_wordsbf16 j h⟩⟩

def send2 (j : Fin loop8.trips) : SendOff :=
  ⟨k0_off124 j, k0_off124_inb j, k0_off125 j, k0_off125_inb j, k0_off125_wordsbf16 j, k0_off126 j, k0_off126_inb j, k0_off126_wordsbf16 j⟩

def nxt2 (j : Fin loop8.trips) : InOff :=
  ⟨k0_off127 j, k0_off127_inb j, k0_off130 j, k0_off130_inb j, k0_off131 j, k0_off131_inb j, k0_off128 j, k0_off128_inb j, k0_off128_wordsfp8e4m3 j, k0_off128_wordsfp8e5m2 j, k0_off128_wordsi8 j, k0_off129 j, k0_off129_inb j, k0_off129_wordsfp8e4m3 j, k0_off129_wordsfp8e5m2 j, k0_off129_wordsi8 j⟩

/-- Phase 2. -/
def ph2 : Phase :=
  ⟨k0_t7_ok, k0_t8_ok, some win2, some wout2, some dx2, some red2, some send2, some nxt2, some ⟨![2, 0], inb_S6x128_S1x128_2_0⟩⟩

/-- The tiles phase 3 sums. -/
def red3 (j : Fin loop8.trips) (i : Fin loop9.trips) : List TileOff :=
  [⟨k0_off164 j i, k0_off164_inb j i, k0_off164_packedfp8e5m2 j i⟩,
   ⟨k0_off165 j i, k0_off165_inb j i, k0_off165_packedfp8e5m2 j i⟩,
   ⟨k0_off166 j i, k0_off166_inb j i, k0_off166_packedfp8e5m2 j i⟩,
   ⟨k0_off167 j i, k0_off167_inb j i, k0_off167_packedfp8e5m2 j i⟩,
   ⟨k0_off168 j i, k0_off168_inb j i, k0_off168_packedfp8e5m2 j i⟩,
   ⟨k0_off169 j i, k0_off169_inb j i, k0_off169_packedfp8e5m2 j i⟩,
   ⟨k0_off170 j i, k0_off170_inb j i, k0_off170_packedfp8e5m2 j i⟩,
   ⟨k0_off171 j i, k0_off171_inb j i, k0_off171_packedfp8e5m2 j i⟩,
   ⟨k0_off172 j i, k0_off172_inb j i, k0_off172_packedfp8e5m2 j i⟩,
   ⟨k0_off173 j i, k0_off173_inb j i, k0_off173_packedfp8e5m2 j i⟩,
   ⟨k0_off174 j i, k0_off174_inb j i, k0_off174_packedfp8e5m2 j i⟩,
   ⟨k0_off175 j i, k0_off175_inb j i, k0_off175_packedfp8e5m2 j i⟩]

/-- The tiles phase 3 writes `dx` of. -/
def dx3 (j : Fin loop8.trips) (i : Fin loop9.trips) : List (RdOff × OutOff) :=
  [(⟨k0_off140 j i, k0_off140_inb j i⟩, ⟨k0_off141 j i, k0_off141_inb j i, k0_off141_packedbf16 j i⟩),
   (⟨k0_off142 j i, k0_off142_inb j i⟩, ⟨k0_off143 j i, k0_off143_inb j i, k0_off143_packedbf16 j i⟩),
   (⟨k0_off144 j i, k0_off144_inb j i⟩, ⟨k0_off145 j i, k0_off145_inb j i, k0_off145_packedbf16 j i⟩),
   (⟨k0_off146 j i, k0_off146_inb j i⟩, ⟨k0_off147 j i, k0_off147_inb j i, k0_off147_packedbf16 j i⟩),
   (⟨k0_off148 j i, k0_off148_inb j i⟩, ⟨k0_off149 j i, k0_off149_inb j i, k0_off149_packedbf16 j i⟩),
   (⟨k0_off150 j i, k0_off150_inb j i⟩, ⟨k0_off151 j i, k0_off151_inb j i, k0_off151_packedbf16 j i⟩),
   (⟨k0_off152 j i, k0_off152_inb j i⟩, ⟨k0_off153 j i, k0_off153_inb j i, k0_off153_packedbf16 j i⟩),
   (⟨k0_off154 j i, k0_off154_inb j i⟩, ⟨k0_off155 j i, k0_off155_inb j i, k0_off155_packedbf16 j i⟩),
   (⟨k0_off156 j i, k0_off156_inb j i⟩, ⟨k0_off157 j i, k0_off157_inb j i, k0_off157_packedbf16 j i⟩),
   (⟨k0_off158 j i, k0_off158_inb j i⟩, ⟨k0_off159 j i, k0_off159_inb j i, k0_off159_packedbf16 j i⟩),
   (⟨k0_off160 j i, k0_off160_inb j i⟩, ⟨k0_off161 j i, k0_off161_inb j i, k0_off161_packedbf16 j i⟩),
   (⟨k0_off162 j i, k0_off162_inb j i⟩, ⟨k0_off163 j i, k0_off163_inb j i, k0_off163_packedbf16 j i⟩)]

def win3 (j : Fin loop8.trips) : InOff :=
  ⟨k0_off132 j, k0_off132_inb j, k0_off135 j, k0_off135_inb j, k0_off136 j, k0_off136_inb j, k0_off133 j, k0_off133_inb j, k0_off133_wordsfp8e4m3 j, k0_off133_wordsfp8e5m2 j, k0_off133_wordsi8 j, k0_off134 j, k0_off134_inb j, k0_off134_wordsfp8e4m3 j, k0_off134_wordsfp8e5m2 j, k0_off134_wordsi8 j⟩

def wout3 (j : Fin loop8.trips) : (c : BitVec 1) ×' (c = 1#1 → SendOff) :=
  ⟨k0_cond3 j, fun h => ⟨k0_off137 j, k0_off137_inb j h, k0_off138 j, k0_off138_inb j h, k0_off138_wordsbf16 j h, k0_off139 j, k0_off139_inb j h, k0_off139_wordsbf16 j h⟩⟩

def send3 (j : Fin loop8.trips) : SendOff :=
  ⟨k0_off176 j, k0_off176_inb j, k0_off177 j, k0_off177_inb j, k0_off177_wordsbf16 j, k0_off178 j, k0_off178_inb j, k0_off178_wordsbf16 j⟩

def nxt3 (j : Fin loop8.trips) : InOff :=
  ⟨k0_off179 j, k0_off179_inb j, k0_off182 j, k0_off182_inb j, k0_off183 j, k0_off183_inb j, k0_off180 j, k0_off180_inb j, k0_off180_wordsfp8e4m3 j, k0_off180_wordsfp8e5m2 j, k0_off180_wordsi8 j, k0_off181 j, k0_off181_inb j, k0_off181_wordsfp8e4m3 j, k0_off181_wordsfp8e5m2 j, k0_off181_wordsi8 j⟩

/-- Phase 3. -/
def ph3 : Phase :=
  ⟨k0_t9_ok, k0_t10_ok, some win3, some wout3, some dx3, some red3, some send3, some nxt3, some ⟨![3, 0], inb_S6x128_S1x128_3_0⟩⟩

/-- The tiles phase 4 sums. -/
def red4 (j : Fin loop8.trips) (i : Fin loop9.trips) : List TileOff :=
  [⟨k0_off216 j i, k0_off216_inb j i, k0_off216_packedfp8e5m2 j i⟩,
   ⟨k0_off217 j i, k0_off217_inb j i, k0_off217_packedfp8e5m2 j i⟩,
   ⟨k0_off218 j i, k0_off218_inb j i, k0_off218_packedfp8e5m2 j i⟩,
   ⟨k0_off219 j i, k0_off219_inb j i, k0_off219_packedfp8e5m2 j i⟩,
   ⟨k0_off220 j i, k0_off220_inb j i, k0_off220_packedfp8e5m2 j i⟩,
   ⟨k0_off221 j i, k0_off221_inb j i, k0_off221_packedfp8e5m2 j i⟩,
   ⟨k0_off222 j i, k0_off222_inb j i, k0_off222_packedfp8e5m2 j i⟩,
   ⟨k0_off223 j i, k0_off223_inb j i, k0_off223_packedfp8e5m2 j i⟩,
   ⟨k0_off224 j i, k0_off224_inb j i, k0_off224_packedfp8e5m2 j i⟩,
   ⟨k0_off225 j i, k0_off225_inb j i, k0_off225_packedfp8e5m2 j i⟩,
   ⟨k0_off226 j i, k0_off226_inb j i, k0_off226_packedfp8e5m2 j i⟩,
   ⟨k0_off227 j i, k0_off227_inb j i, k0_off227_packedfp8e5m2 j i⟩]

/-- The tiles phase 4 writes `dx` of. -/
def dx4 (j : Fin loop8.trips) (i : Fin loop9.trips) : List (RdOff × OutOff) :=
  [(⟨k0_off192 j i, k0_off192_inb j i⟩, ⟨k0_off193 j i, k0_off193_inb j i, k0_off193_packedbf16 j i⟩),
   (⟨k0_off194 j i, k0_off194_inb j i⟩, ⟨k0_off195 j i, k0_off195_inb j i, k0_off195_packedbf16 j i⟩),
   (⟨k0_off196 j i, k0_off196_inb j i⟩, ⟨k0_off197 j i, k0_off197_inb j i, k0_off197_packedbf16 j i⟩),
   (⟨k0_off198 j i, k0_off198_inb j i⟩, ⟨k0_off199 j i, k0_off199_inb j i, k0_off199_packedbf16 j i⟩),
   (⟨k0_off200 j i, k0_off200_inb j i⟩, ⟨k0_off201 j i, k0_off201_inb j i, k0_off201_packedbf16 j i⟩),
   (⟨k0_off202 j i, k0_off202_inb j i⟩, ⟨k0_off203 j i, k0_off203_inb j i, k0_off203_packedbf16 j i⟩),
   (⟨k0_off204 j i, k0_off204_inb j i⟩, ⟨k0_off205 j i, k0_off205_inb j i, k0_off205_packedbf16 j i⟩),
   (⟨k0_off206 j i, k0_off206_inb j i⟩, ⟨k0_off207 j i, k0_off207_inb j i, k0_off207_packedbf16 j i⟩),
   (⟨k0_off208 j i, k0_off208_inb j i⟩, ⟨k0_off209 j i, k0_off209_inb j i, k0_off209_packedbf16 j i⟩),
   (⟨k0_off210 j i, k0_off210_inb j i⟩, ⟨k0_off211 j i, k0_off211_inb j i, k0_off211_packedbf16 j i⟩),
   (⟨k0_off212 j i, k0_off212_inb j i⟩, ⟨k0_off213 j i, k0_off213_inb j i, k0_off213_packedbf16 j i⟩),
   (⟨k0_off214 j i, k0_off214_inb j i⟩, ⟨k0_off215 j i, k0_off215_inb j i, k0_off215_packedbf16 j i⟩)]

def win4 (j : Fin loop8.trips) : InOff :=
  ⟨k0_off184 j, k0_off184_inb j, k0_off187 j, k0_off187_inb j, k0_off188 j, k0_off188_inb j, k0_off185 j, k0_off185_inb j, k0_off185_wordsfp8e4m3 j, k0_off185_wordsfp8e5m2 j, k0_off185_wordsi8 j, k0_off186 j, k0_off186_inb j, k0_off186_wordsfp8e4m3 j, k0_off186_wordsfp8e5m2 j, k0_off186_wordsi8 j⟩

def wout4 (j : Fin loop8.trips) : (c : BitVec 1) ×' (c = 1#1 → SendOff) :=
  ⟨k0_cond4 j, fun h => ⟨k0_off189 j, k0_off189_inb j h, k0_off190 j, k0_off190_inb j h, k0_off190_wordsbf16 j h, k0_off191 j, k0_off191_inb j h, k0_off191_wordsbf16 j h⟩⟩

def send4 (j : Fin loop8.trips) : SendOff :=
  ⟨k0_off228 j, k0_off228_inb j, k0_off229 j, k0_off229_inb j, k0_off229_wordsbf16 j, k0_off230 j, k0_off230_inb j, k0_off230_wordsbf16 j⟩

def nxt4 (j : Fin loop8.trips) : InOff :=
  ⟨k0_off231 j, k0_off231_inb j, k0_off234 j, k0_off234_inb j, k0_off235 j, k0_off235_inb j, k0_off232 j, k0_off232_inb j, k0_off232_wordsfp8e4m3 j, k0_off232_wordsfp8e5m2 j, k0_off232_wordsi8 j, k0_off233 j, k0_off233_inb j, k0_off233_wordsfp8e4m3 j, k0_off233_wordsfp8e5m2 j, k0_off233_wordsi8 j⟩

/-- Phase 4. -/
def ph4 : Phase :=
  ⟨k0_t11_ok, k0_t12_ok, some win4, some wout4, some dx4, some red4, some send4, some nxt4, some ⟨![4, 0], inb_S6x128_S1x128_4_0⟩⟩

/-- The tiles phase 5 sums. -/
def red5 (j : Fin loop8.trips) (i : Fin loop9.trips) : List TileOff :=
  [⟨k0_off268 j i, k0_off268_inb j i, k0_off268_packedfp8e5m2 j i⟩,
   ⟨k0_off269 j i, k0_off269_inb j i, k0_off269_packedfp8e5m2 j i⟩,
   ⟨k0_off270 j i, k0_off270_inb j i, k0_off270_packedfp8e5m2 j i⟩,
   ⟨k0_off271 j i, k0_off271_inb j i, k0_off271_packedfp8e5m2 j i⟩,
   ⟨k0_off272 j i, k0_off272_inb j i, k0_off272_packedfp8e5m2 j i⟩,
   ⟨k0_off273 j i, k0_off273_inb j i, k0_off273_packedfp8e5m2 j i⟩,
   ⟨k0_off274 j i, k0_off274_inb j i, k0_off274_packedfp8e5m2 j i⟩,
   ⟨k0_off275 j i, k0_off275_inb j i, k0_off275_packedfp8e5m2 j i⟩,
   ⟨k0_off276 j i, k0_off276_inb j i, k0_off276_packedfp8e5m2 j i⟩,
   ⟨k0_off277 j i, k0_off277_inb j i, k0_off277_packedfp8e5m2 j i⟩,
   ⟨k0_off278 j i, k0_off278_inb j i, k0_off278_packedfp8e5m2 j i⟩,
   ⟨k0_off279 j i, k0_off279_inb j i, k0_off279_packedfp8e5m2 j i⟩]

/-- The tiles phase 5 writes `dx` of. -/
def dx5 (j : Fin loop8.trips) (i : Fin loop9.trips) : List (RdOff × OutOff) :=
  [(⟨k0_off244 j i, k0_off244_inb j i⟩, ⟨k0_off245 j i, k0_off245_inb j i, k0_off245_packedbf16 j i⟩),
   (⟨k0_off246 j i, k0_off246_inb j i⟩, ⟨k0_off247 j i, k0_off247_inb j i, k0_off247_packedbf16 j i⟩),
   (⟨k0_off248 j i, k0_off248_inb j i⟩, ⟨k0_off249 j i, k0_off249_inb j i, k0_off249_packedbf16 j i⟩),
   (⟨k0_off250 j i, k0_off250_inb j i⟩, ⟨k0_off251 j i, k0_off251_inb j i, k0_off251_packedbf16 j i⟩),
   (⟨k0_off252 j i, k0_off252_inb j i⟩, ⟨k0_off253 j i, k0_off253_inb j i, k0_off253_packedbf16 j i⟩),
   (⟨k0_off254 j i, k0_off254_inb j i⟩, ⟨k0_off255 j i, k0_off255_inb j i, k0_off255_packedbf16 j i⟩),
   (⟨k0_off256 j i, k0_off256_inb j i⟩, ⟨k0_off257 j i, k0_off257_inb j i, k0_off257_packedbf16 j i⟩),
   (⟨k0_off258 j i, k0_off258_inb j i⟩, ⟨k0_off259 j i, k0_off259_inb j i, k0_off259_packedbf16 j i⟩),
   (⟨k0_off260 j i, k0_off260_inb j i⟩, ⟨k0_off261 j i, k0_off261_inb j i, k0_off261_packedbf16 j i⟩),
   (⟨k0_off262 j i, k0_off262_inb j i⟩, ⟨k0_off263 j i, k0_off263_inb j i, k0_off263_packedbf16 j i⟩),
   (⟨k0_off264 j i, k0_off264_inb j i⟩, ⟨k0_off265 j i, k0_off265_inb j i, k0_off265_packedbf16 j i⟩),
   (⟨k0_off266 j i, k0_off266_inb j i⟩, ⟨k0_off267 j i, k0_off267_inb j i, k0_off267_packedbf16 j i⟩)]

def win5 (j : Fin loop8.trips) : InOff :=
  ⟨k0_off236 j, k0_off236_inb j, k0_off239 j, k0_off239_inb j, k0_off240 j, k0_off240_inb j, k0_off237 j, k0_off237_inb j, k0_off237_wordsfp8e4m3 j, k0_off237_wordsfp8e5m2 j, k0_off237_wordsi8 j, k0_off238 j, k0_off238_inb j, k0_off238_wordsfp8e4m3 j, k0_off238_wordsfp8e5m2 j, k0_off238_wordsi8 j⟩

def wout5 (j : Fin loop8.trips) : (c : BitVec 1) ×' (c = 1#1 → SendOff) :=
  ⟨k0_cond5 j, fun h => ⟨k0_off241 j, k0_off241_inb j h, k0_off242 j, k0_off242_inb j h, k0_off242_wordsbf16 j h, k0_off243 j, k0_off243_inb j h, k0_off243_wordsbf16 j h⟩⟩

def send5 (j : Fin loop8.trips) : SendOff :=
  ⟨k0_off280 j, k0_off280_inb j, k0_off281 j, k0_off281_inb j, k0_off281_wordsbf16 j, k0_off282 j, k0_off282_inb j, k0_off282_wordsbf16 j⟩

/-- Phase 5. -/
def ph5 : Phase :=
  ⟨k0_t13_ok, k0_t14_ok, some win5, some wout5, some dx5, some red5, some send5, none, some ⟨![5, 0], inb_S6x128_S1x128_5_0⟩⟩

/-- The tiles phase 6 writes `dx` of. -/
def dx6 (j : Fin loop8.trips) (i : Fin loop9.trips) : List (RdOff × OutOff) :=
  [(⟨k0_off286 j i, k0_off286_inb j i⟩, ⟨k0_off287 j i, k0_off287_inb j i, k0_off287_packedbf16 j i⟩),
   (⟨k0_off288 j i, k0_off288_inb j i⟩, ⟨k0_off289 j i, k0_off289_inb j i, k0_off289_packedbf16 j i⟩),
   (⟨k0_off290 j i, k0_off290_inb j i⟩, ⟨k0_off291 j i, k0_off291_inb j i, k0_off291_packedbf16 j i⟩),
   (⟨k0_off292 j i, k0_off292_inb j i⟩, ⟨k0_off293 j i, k0_off293_inb j i, k0_off293_packedbf16 j i⟩),
   (⟨k0_off294 j i, k0_off294_inb j i⟩, ⟨k0_off295 j i, k0_off295_inb j i, k0_off295_packedbf16 j i⟩),
   (⟨k0_off296 j i, k0_off296_inb j i⟩, ⟨k0_off297 j i, k0_off297_inb j i, k0_off297_packedbf16 j i⟩),
   (⟨k0_off298 j i, k0_off298_inb j i⟩, ⟨k0_off299 j i, k0_off299_inb j i, k0_off299_packedbf16 j i⟩),
   (⟨k0_off300 j i, k0_off300_inb j i⟩, ⟨k0_off301 j i, k0_off301_inb j i, k0_off301_packedbf16 j i⟩),
   (⟨k0_off302 j i, k0_off302_inb j i⟩, ⟨k0_off303 j i, k0_off303_inb j i, k0_off303_packedbf16 j i⟩),
   (⟨k0_off304 j i, k0_off304_inb j i⟩, ⟨k0_off305 j i, k0_off305_inb j i, k0_off305_packedbf16 j i⟩),
   (⟨k0_off306 j i, k0_off306_inb j i⟩, ⟨k0_off307 j i, k0_off307_inb j i, k0_off307_packedbf16 j i⟩),
   (⟨k0_off308 j i, k0_off308_inb j i⟩, ⟨k0_off309 j i, k0_off309_inb j i, k0_off309_packedbf16 j i⟩)]

def wout6 (j : Fin loop8.trips) : (c : BitVec 1) ×' (c = 1#1 → SendOff) :=
  ⟨k0_cond6 j, fun h => ⟨k0_off283 j, k0_off283_inb j h, k0_off284 j, k0_off284_inb j h, k0_off284_wordsbf16 j h, k0_off285 j, k0_off285_inb j h, k0_off285_wordsbf16 j h⟩⟩

def send6 (j : Fin loop8.trips) : SendOff :=
  ⟨k0_off310 j, k0_off310_inb j, k0_off311 j, k0_off311_inb j, k0_off311_wordsbf16 j, k0_off312 j, k0_off312_inb j, k0_off312_wordsbf16 j⟩

/-- Phase 6. -/
def ph6 : Phase :=
  ⟨k0_t15_ok, k0_t16_ok, none, some wout6, some dx6, none, some send6, none, none⟩

/-- The arrivals of group 0. -/
def pro0 (j : Fin loop8.trips) : InOff :=
  ⟨k0_off1 j, k0_off1_inb j, k0_off4 j, k0_off4_inb j, k0_off5 j, k0_off5_inb j, k0_off2 j, k0_off2_inb j, k0_off2_wordsfp8e4m3 j, k0_off2_wordsfp8e5m2 j, k0_off2_wordsi8 j, k0_off3 j, k0_off3_inb j, k0_off3_wordsfp8e4m3 j, k0_off3_wordsfp8e5m2 j, k0_off3_wordsi8 j⟩

/-- The arrivals of group 1. -/
def pro1 (j : Fin loop8.trips) : InOff :=
  ⟨k0_off6 j, k0_off6_inb j, k0_off9 j, k0_off9_inb j, k0_off10 j, k0_off10_inb j, k0_off7 j, k0_off7_inb j, k0_off7_wordsfp8e4m3 j, k0_off7_wordsfp8e5m2 j, k0_off7_wordsi8 j, k0_off8 j, k0_off8_inb j, k0_off8_wordsfp8e4m3 j, k0_off8_wordsfp8e5m2 j, k0_off8_wordsi8 j⟩

def fin0 : SendOff :=
  ⟨![0], inb_S3_S1_0, ![0, 0, 0, 0], inb_S72x12x32x768_S9x12x32x128_0_0_0_0, wordsbf16_S72x12x32x768_S9x12x32x128_0_0_0_0, ![0, 0, 0, 0, 0], inb_S3x9x12x32x128_S1x9x12x32x128_0_0_0_0_0, wordsbf16_S3x9x12x32x128_S1x9x12x32x128_0_0_0_0_0⟩

def fin1 : SendOff :=
  ⟨![1], inb_S3_S1_1, ![0, 0, 0, 0], inb_S72x12x32x768_S9x12x32x128_0_0_0_0, wordsbf16_S72x12x32x768_S9x12x32x128_0_0_0_0, ![1, 0, 0, 0, 0], inb_S3x9x12x32x128_S1x9x12x32x128_1_0_0_0_0, wordsbf16_S3x9x12x32x128_S1x9x12x32x128_1_0_0_0_0⟩

def fin2 : SendOff :=
  ⟨![2], inb_S3_S1_2, ![0, 0, 0, 0], inb_S72x12x32x768_S9x12x32x128_0_0_0_0, wordsbf16_S72x12x32x768_S9x12x32x128_0_0_0_0, ![2, 0, 0, 0, 0], inb_S3x9x12x32x128_S1x9x12x32x128_2_0_0_0_0, wordsbf16_S3x9x12x32x128_S1x9x12x32x128_2_0_0_0_0⟩

end Cert.KernelIdeal.Hand
-- ==== Proof.KI.Eq.lean ====
/-
  The printed loop bodies are the program's, at the offsets of `Tables`, and the printed kernel is the whole program.
-/
module

public import proofs.«01_k».proof.Proof.KI.Tables

@[expose] public section

set_option maxRecDepth 65536
set_option maxHeartbeats 1000000

noncomputable section

namespace Cert.KernelIdeal.Hand

open Idealize.ShloMosaic Idealize.SL.Sem Cert.KernelIdeal Cert.KernelIdeal.Gen

variable {F : FTy → Type} [FloatOps F]

/-- What follows a condition follows each of its branches. -/
theorem dite_bind {E : Type → Type} {α β : Type} {c : Prop} [Decidable c] (a : c → Prog E α) (b : ¬ c → Prog E α) (f : α → Prog E β) :
    (dite c a b) >>= f = dite c (fun h => a h >>= f) (fun h => b h >>= f) := by
  split <;> rfl

theorem pro0_eq (R : Ops) h2 h3 h4 h9 h10 h15 h16  : k0_t1_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => startIn R (pro0 j) (pure ⟨⟩) := rfl

theorem pro1_eq (R : Ops) h2 h3 h4 h9 h10 h15 h16  : k0_t2_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => startIn R (pro1 j) (pure ⟨⟩) := rfl

theorem st0 (R : Ops) h2 h3 h4 h9 h10 h15 h16 j arg20 : k0_t4_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 = fun i _ => stepBody R ph0 j i := rfl

theorem ck0 (R : Ops) h2 h3 h4 h9 h10 h15 h16  : k0_t3_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => chunkBody R ph0 j := rfl

theorem st1 (R : Ops) h2 h3 h4 h9 h10 h15 h16 j arg20 v407 c0_i32_293 c9_i32_294 : k0_t6_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_293 c9_i32_294 = fun i _ => stepBody R ph1 j i := rfl

theorem ck1 (R : Ops) h2 h3 h4 h9 h10 h15 h16 v0 v1 v38 v62 : k0_t5_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v1 v38 v62 = fun j _ => chunkBody R ph1 j := by
  funext j u
  unfold k0_t5_body
  simp only [k0_part37_eq_skeleton, k0_part37_skel, k0_part38_eq_skeleton, k0_part38_skel, bind_assoc, dite_bind, st1]
  rfl

theorem st2 (R : Ops) h2 h3 h4 h9 h10 h15 h16 j arg20 v407 c0_i32_293 c9_i32_294 : k0_t8_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_293 c9_i32_294 = fun i _ => stepBody R ph2 j i := rfl

theorem ck2 (R : Ops) h2 h3 h4 h9 h10 h15 h16 v0 v1 v130 : k0_t7_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v1 v130 = fun j _ => chunkBody R ph2 j := by
  funext j u
  unfold k0_t7_body
  simp only [k0_part60_eq_skeleton, k0_part60_skel, k0_part61_eq_skeleton, k0_part61_skel, bind_assoc, dite_bind, st2]
  rfl

theorem st3 (R : Ops) h2 h3 h4 h9 h10 h15 h16 j arg20 v407 c0_i32_292 c9_i32_293 : k0_t10_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_292 c9_i32_293 = fun i _ => stepBody R ph3 j i := rfl

theorem ck3 (R : Ops) h2 h3 h4 h9 h10 h15 h16 v0 v1 v136 v138 v146 v160 v162 : k0_t9_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v1 v136 v138 v146 v160 v162 = fun j _ => chunkBody R ph3 j := by
  funext j u
  unfold k0_t9_body
  simp only [k0_part83_eq_skeleton, k0_part83_skel, k0_part84_eq_skeleton, k0_part84_skel, bind_assoc, dite_bind, st3]
  rfl

theorem st4 (R : Ops) h2 h3 h4 h9 h10 h15 h16 j arg20 v407 c0_i32_292 c9_i32_293 : k0_t12_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_292 c9_i32_293 = fun i _ => stepBody R ph4 j i := rfl

theorem ck4 (R : Ops) h2 h3 h4 h9 h10 h15 h16 v0 v197 v207 v221 v224 v232 cst_149 : k0_t11_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v197 v207 v221 v224 v232 cst_149 = fun j _ => chunkBody R ph4 j := by
  funext j u
  unfold k0_t11_body
  simp only [k0_part106_eq_skeleton, k0_part106_skel, k0_part107_eq_skeleton, k0_part107_skel, bind_assoc, dite_bind, st4]
  rfl

theorem st5 (R : Ops) h2 h3 h4 h9 h10 h15 h16 j v1 v268 v282 v303 arg20 v407 c0_i32_292 : k0_t14_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v1 v268 v282 v303 j arg20 v407 c0_i32_292 = fun i _ => stepBody R ph5 j i := rfl

theorem ck5 (R : Ops) h2 h3 h4 h9 h10 h15 h16 v1 v268 v282 v303 : k0_t13_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v1 v268 v282 v303 = fun j _ => chunkBody R ph5 j := by
  funext j u
  unfold k0_t13_body
  simp only [k0_part129_eq_skeleton, k0_part129_skel, bind_assoc, dite_bind, st5]
  rfl

theorem st6 (R : Ops) h2 h3 h4 h9 h10 h15 h16 j arg20 v391 : k0_t16_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v391 = fun i _ => stepBody R ph6 j i := rfl

theorem ck6 (R : Ops) h2 h3 h4 h9 h10 h15 h16  : k0_t15_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => chunkBody R ph6 j := rfl

/-- The printed kernel is the program of `Prog` at these offsets. -/
theorem kern_eq (R : Ops) h2 h3 h4 h9 h10 h15 h16 :
    cc0_bn_relu_bwd (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT
      = kern R k0_t1_ok pro0 pro1 [ph0, ph1, ph2, ph3, ph4, ph5, ph6] fin0 fin1 fin2 := by
  unfold cc0_bn_relu_bwd
  simp only [k0_part136_eq_skeleton, k0_part136_skel, k0_part137_eq_skeleton, k0_part137_skel, k0_part138_eq_skeleton, k0_part138_skel, k0_part139_eq_skeleton, k0_part139_skel, k0_part140_eq_skeleton, k0_part140_skel, k0_part141_eq_skeleton, k0_part141_skel, k0_part142_eq_skeleton, k0_part142_skel, k0_part143_eq_skeleton, k0_part143_skel, k0_part144_eq_skeleton, k0_part144_skel, k0_part145_eq_skeleton, k0_part145_skel, k0_part146_eq_skeleton, k0_part146_skel, k0_part147_eq_skeleton, k0_part147_skel, bind_assoc, pro0_eq, pro1_eq, ck0, ck1, ck2, ck3, ck4, ck5, ck6]
  rfl

end Cert.KernelIdeal.Hand
-- ==== Proof.KI.Off.lean ====
/-
  The offsets of `Tables` in closed form, evaluated trip by trip.
-/
module

public import proofs.«01_k».proof.Proof.KI.Tables

@[expose] public section

noncomputable section

namespace Cert.KernelIdeal.Hand

open Idealize.ShloMosaic Idealize.SL.Sem Cert.KernelIdeal Cert.KernelIdeal.Gen

/-- The twelve tiles of slab `n` of slot `s`. -/
def tileOffs (s n : ℕ) : List (Fin 5 → ℕ) := (List.finRange 12).map fun t => ![s, n, t.val, 0, 0]

/-- The arrivals are those of chunk `j` of group `g`. -/
def InOff.IsAt (n : InOff) (g j : ℕ) : Prop :=
  n.s0 = ![0, g % 2, j] ∧ n.s1 = ![1, g % 2, j] ∧ n.s2 = ![2, g % 2, j] ∧ n.b = ![g % 2, 9 * j, 0, 0, 0] ∧ n.h = ![9 * j, 0, 0, 128 * g]
instance (n : InOff) (g j : ℕ) : Decidable (n.IsAt g j) := by unfold InOff.IsAt; infer_instance

/-- The departure is chunk `j` of group `g`'s. -/
def SendOff.IsAt (n : SendOff) (g j : ℕ) : Prop :=
  n.s = ![(8 * g + j) % 3] ∧ n.b = ![(8 * g + j) % 3, 0, 0, 0, 0] ∧ n.h = ![9 * j, 0, 0, 128 * g]
instance (n : SendOff) (g j : ℕ) : Decidable (n.IsAt g j) := by unfold SendOff.IsAt; infer_instance

theorem red0_at : ∀ j i, (red0 j i).map TileOff.o = tileOffs 0 (9 * j.val + i.val) := by decide +kernel
theorem win0_at : ∀ j, (win0 j).IsAt 0 j := by decide +kernel
theorem red1_at : ∀ j i, (red1 j i).map TileOff.o = tileOffs 1 (9 * j.val + i.val) := by decide +kernel
theorem win1_at : ∀ j, (win1 j).IsAt 1 j := by decide +kernel
theorem dx1_rd : ∀ j i, (dx1 j i).map (fun p => p.1.o) = tileOffs 0 (9 * j.val + i.val) := by decide +kernel
theorem dx1_wr : ∀ j i, (dx1 j i).map (fun p => p.2.o) = tileOffs ((8 * 0 + j.val) % 3) i.val := by decide +kernel
theorem send1_at : ∀ j, (send1 j).IsAt 0 j := by decide +kernel
theorem wout1_iff : ∀ j, (wout1 j).1 = 1#1 ↔ 3 ≤ 8 * 0 + j.val := by decide +kernel
theorem wout1_at : ∀ j (h : (wout1 j).1 = 1#1), ((wout1 j).2 h).s = ![(8 * 0 + j.val) % 3] := by decide +kernel
theorem nxt1_at : ∀ j, (nxt1 j).IsAt 2 j := by decide +kernel
theorem red2_at : ∀ j i, (red2 j i).map TileOff.o = tileOffs 0 (9 * j.val + i.val) := by decide +kernel
theorem win2_at : ∀ j, (win2 j).IsAt 2 j := by decide +kernel
theorem dx2_rd : ∀ j i, (dx2 j i).map (fun p => p.1.o) = tileOffs 1 (9 * j.val + i.val) := by decide +kernel
theorem dx2_wr : ∀ j i, (dx2 j i).map (fun p => p.2.o) = tileOffs ((8 * 1 + j.val) % 3) i.val := by decide +kernel
theorem send2_at : ∀ j, (send2 j).IsAt 1 j := by decide +kernel
theorem wout2_iff : ∀ j, (wout2 j).1 = 1#1 ↔ 3 ≤ 8 * 1 + j.val := by decide +kernel
theorem wout2_at : ∀ j (h : (wout2 j).1 = 1#1), ((wout2 j).2 h).s = ![(8 * 1 + j.val) % 3] := by decide +kernel
theorem nxt2_at : ∀ j, (nxt2 j).IsAt 3 j := by decide +kernel
theorem red3_at : ∀ j i, (red3 j i).map TileOff.o = tileOffs 1 (9 * j.val + i.val) := by decide +kernel
theorem win3_at : ∀ j, (win3 j).IsAt 3 j := by decide +kernel
theorem dx3_rd : ∀ j i, (dx3 j i).map (fun p => p.1.o) = tileOffs 0 (9 * j.val + i.val) := by decide +kernel
theorem dx3_wr : ∀ j i, (dx3 j i).map (fun p => p.2.o) = tileOffs ((8 * 2 + j.val) % 3) i.val := by decide +kernel
theorem send3_at : ∀ j, (send3 j).IsAt 2 j := by decide +kernel
theorem wout3_iff : ∀ j, (wout3 j).1 = 1#1 ↔ 3 ≤ 8 * 2 + j.val := by decide +kernel
theorem wout3_at : ∀ j (h : (wout3 j).1 = 1#1), ((wout3 j).2 h).s = ![(8 * 2 + j.val) % 3] := by decide +kernel
theorem nxt3_at : ∀ j, (nxt3 j).IsAt 4 j := by decide +kernel
theorem red4_at : ∀ j i, (red4 j i).map TileOff.o = tileOffs 0 (9 * j.val + i.val) := by decide +kernel
theorem win4_at : ∀ j, (win4 j).IsAt 4 j := by decide +kernel
theorem dx4_rd : ∀ j i, (dx4 j i).map (fun p => p.1.o) = tileOffs 1 (9 * j.val + i.val) := by decide +kernel
theorem dx4_wr : ∀ j i, (dx4 j i).map (fun p => p.2.o) = tileOffs ((8 * 3 + j.val) % 3) i.val := by decide +kernel
theorem send4_at : ∀ j, (send4 j).IsAt 3 j := by decide +kernel
theorem wout4_iff : ∀ j, (wout4 j).1 = 1#1 ↔ 3 ≤ 8 * 3 + j.val := by decide +kernel
theorem wout4_at : ∀ j (h : (wout4 j).1 = 1#1), ((wout4 j).2 h).s = ![(8 * 3 + j.val) % 3] := by decide +kernel
theorem nxt4_at : ∀ j, (nxt4 j).IsAt 5 j := by decide +kernel
theorem red5_at : ∀ j i, (red5 j i).map TileOff.o = tileOffs 1 (9 * j.val + i.val) := by decide +kernel
theorem win5_at : ∀ j, (win5 j).IsAt 5 j := by decide +kernel
theorem dx5_rd : ∀ j i, (dx5 j i).map (fun p => p.1.o) = tileOffs 0 (9 * j.val + i.val) := by decide +kernel
theorem dx5_wr : ∀ j i, (dx5 j i).map (fun p => p.2.o) = tileOffs ((8 * 4 + j.val) % 3) i.val := by decide +kernel
theorem send5_at : ∀ j, (send5 j).IsAt 4 j := by decide +kernel
theorem wout5_iff : ∀ j, (wout5 j).1 = 1#1 ↔ 3 ≤ 8 * 4 + j.val := by decide +kernel
theorem wout5_at : ∀ j (h : (wout5 j).1 = 1#1), ((wout5 j).2 h).s = ![(8 * 4 + j.val) % 3] := by decide +kernel
theorem dx6_rd : ∀ j i, (dx6 j i).map (fun p => p.1.o) = tileOffs 1 (9 * j.val + i.val) := by decide +kernel
theorem dx6_wr : ∀ j i, (dx6 j i).map (fun p => p.2.o) = tileOffs ((8 * 5 + j.val) % 3) i.val := by decide +kernel
theorem send6_at : ∀ j, (send6 j).IsAt 5 j := by decide +kernel
theorem wout6_iff : ∀ j, (wout6 j).1 = 1#1 ↔ 3 ≤ 8 * 5 + j.val := by decide +kernel
theorem wout6_at : ∀ j (h : (wout6 j).1 = 1#1), ((wout6 j).2 h).s = ![(8 * 5 + j.val) % 3] := by decide +kernel
theorem pro0_at : ∀ j, (pro0 j).IsAt 0 j := by decide +kernel
theorem pro1_at : ∀ j, (pro1 j).IsAt 1 j := by decide +kernel

end Cert.KernelIdeal.Hand
-- ==== Proof.KI.Geom.lean ====
/-
  Where the kernel's accesses fall: the buffers it works on, the block of each a chunk is, what a read or a write of a
  tile is index by index, and what a chunk's transfer leaves.
-/
module

public import proofs.«01_k».proof.Proof.KI.Eq
public import proofs.«01_k».proof.Proof.KI.Off
public import proofs.«01_k».proof.Proof.Gen.KernelIdeal.Launch
public import proofs.«01_k».proof.Proof.Gen.KernelIdeal.Points
public import Idealize.ShloMosaic.Lib.Pipeline.FrameSuffixV
public import Idealize.ShloMosaic.Lib.Pipeline.KitQuiescent
public import Idealize.ShloMosaic.Lib.Ring
public import Idealize.ShloMosaic.Lib.Tactic

@[expose] public section

set_option maxRecDepth 65536

noncomputable section

namespace Cert.KernelIdeal.Hand

open Cert.KernelIdeal Cert.KernelIdeal.Gen
open Idealize.ShloMosaic
open Idealize.ShloMosaic.TcCoe
open Idealize.SL.Sem

/-! ## The buffers -/

abbrev xsM : Memref sig .tc .smem S1 .f32 := Memref.whole cc0_stg0_0
abbrev ysM : Memref sig .tc .smem S1 .f32 := Memref.whole cc0_stg1_0
abbrev meM : Memref sig .tc .vmem S6x128 .f32 := Memref.whole cc0_stg2_0
abbrev rsM : Memref sig .tc .vmem S6x128 .f32 := Memref.whole cc0_stg3_0
abbrev gaM : Memref sig .tc .vmem S6x128 .f32 := Memref.whole cc0_stg4_0
abbrev dgM : Memref sig .tc .vmem S6x128 .f32 := Memref.whole cc0_stg5_0
abbrev dbM : Memref sig .tc .vmem S6x128 .f32 := Memref.whole cc0_stg6_0
abbrev hxM : Memref sig .tc .hbm S72x12x32x768 .fp8e4m3 := Memref.whole main_v7
abbrev hgM : Memref sig .tc .hbm S72x12x32x768 .fp8e5m2 := Memref.whole main_v8
abbrev hmM : Memref sig .tc .hbm S72x12x32x768 .i8 := Memref.whole main_v9
abbrev hdM : Memref sig .tc .hbm S72x12x32x768 .bf16 := Memref.whole main_v10_0
abbrev XM : Memref sig .tc .vmem S2x72x12x32x128 .fp8e4m3 := Memref.whole cc0_scratch0
abbrev GM : Memref sig .tc .vmem S2x72x12x32x128 .fp8e5m2 := Memref.whole cc0_scratch1
abbrev MM : Memref sig .tc .vmem S2x72x12x32x128 .i8 := Memref.whole cc0_scratch2
abbrev OM : Memref sig .tc .vmem S3x9x12x32x128 .bf16 := Memref.whole cc0_scratch3
abbrev AM : Memref sig .tc .vmem S2x8x128 .f32 := Memref.whole cc0_scratch4
abbrev CM : Memref sig .tc .vmem S3x32x128 .f32 := Memref.whole cc0_scratch5
abbrev NM : Memref sig .tc .vmem S16x128 .bf16 := Memref.whole cc0_scratch6

/-- The operands the kernel is launched on. -/
@[reducible] def R0 : Ops where
  xs := xsM
  hxs := Memref.isWhole_whole _
  ys := ysM
  hys := Memref.isWhole_whole _
  mean := meM
  rstd := rsM
  gam := gaM
  x := hxM
  hx := Memref.isWhole_whole _
  y := hgM
  hy := Memref.isWhole_whole _
  m := hmM
  hm := Memref.isWhole_whole _
  d := hdM
  hd := Memref.isWhole_whole _
  dg := dgM
  db := dbM
  X := XM
  hX := Memref.isWhole_whole _
  G := GM
  hG := Memref.isWhole_whole _
  M := MM
  hM := Memref.isWhole_whole _
  O := OM
  hO := Memref.isWhole_whole _
  A := AM
  C := CM
  N := NM
  hN := Memref.isWhole_whole _
  IN := cc0_scratch7
  OUT := cc0_scratch8

/-! ## Reads and writes, index by index -/

section Generic
variable {Val : EltTy → Type}

/-- What a write through a unit-stride rectangle of a whole buffer leaves. -/
theorem write_unit (b : Ref sig .tc) (o sz : Fin b.ty.shape.rank → ℕ) (inb : ∀ a, o a + sz a ≤ b.ty.shape.size a)
    (f : b.ty.Contents Val) (w : (Rect.unit (s := b.ty.shape) o sz inb).shape.Idx → Val b.ty.elt) (i : b.ty.shape.Idx) :
    ((View.whole b).slice (Rect.unit o sz inb)).write Val f w Finset.univ i
      = if h : ∀ a, o a ≤ i a ∧ (i a : ℕ) < o a + sz a then w (fun a => ⟨(i a : ℕ) - o a, by have := h a; show _ < sz a; omega⟩) else f i := by
  split
  · next h =>
    have e : ((View.whole b).slice (Rect.unit o sz inb)).emb (fun a => ⟨(i a : ℕ) - o a, by have := h a; show _ < sz a; omega⟩) = i := by
      funext a; apply Fin.ext
      show o a + 1 * ((i a : ℕ) - o a) = i a
      have := h a; omega
    conv_lhs => rw [← e]
    refine (View.write_emb_of_mem _ _ (Finset.mem_univ _)).trans ?_
    rfl
  · next h =>
    refine View.write_of_not_mem _ _ _ ?_
    rw [View.setOn_univ, View.set_slice_whole, Rect.mem_set_unit]
    exact h

/-- What a read through one gives. -/
theorem read_unit (b : Ref sig .tc) (o sz : Fin b.ty.shape.rank → ℕ) (inb : ∀ a, o a + sz a ≤ b.ty.shape.size a)
    (f : b.ty.Contents Val) (j : (Rect.unit (s := b.ty.shape) o sz inb).shape.Idx) :
    ((View.whole b).slice (Rect.unit o sz inb)).read Val f j
      = f (fun a => ⟨o a + (j a : ℕ), by have := inb a; have := (j a).isLt; show _ < _; have h : (j a : ℕ) < sz a := (j a).isLt; omega⟩) := by
  show f _ = f _
  congr 1; funext a; apply Fin.ext
  show o a + 1 * (j a : ℕ) = o a + j a
  omega

end Generic

/-! ## Blocks -/

/-- Chunk `j` of slot `s` of an input buffer. -/
def CK (s j : ℕ) : Finset S2x72x12x32x128.Idx := Finset.univ.filter fun i => (i 0).val = s ∧ (i 1).val / 9 = j
/-- Chunk `j` of group `g` of an array. -/
def HB (g j : ℕ) : Finset S72x12x32x768.Idx := Finset.univ.filter fun i => (i 0).val / 9 = j ∧ (i 3).val / 128 = g
/-- Output staging buffer `b`. -/
def SB (b : ℕ) : Finset S3x9x12x32x128.Idx := Finset.univ.filter fun i => (i 0).val = b

theorem mem_CK {s j : ℕ} {i : S2x72x12x32x128.Idx} : i ∈ CK s j ↔ (i 0).val = s ∧ (i 1).val / 9 = j := by
  unfold CK; rw [Finset.mem_filter]; simp
theorem mem_HB {g j : ℕ} {i : S72x12x32x768.Idx} : i ∈ HB g j ↔ (i 0).val / 9 = j ∧ (i 3).val / 128 = g := by
  unfold HB; rw [Finset.mem_filter]; simp
theorem mem_SB {b : ℕ} {i : S3x9x12x32x128.Idx} : i ∈ SB b ↔ (i 0).val = b := by
  unfold SB; rw [Finset.mem_filter]; simp

theorem chunk_rect {s j : ℕ} {o : Fin 5 → ℕ} (h : o = ![s, 9 * j, 0, 0, 0]) (i) :
    (Rect.unit (s := S2x72x12x32x128) o S1x9x12x32x128.size i).set = CK s j := by
  subst h; ext y
  rw [Rect.mem_set_unit, mem_CK]
  have h0 := (y 0).isLt
  have h2 : (y 2).val < 12 := (y 2).isLt
  have h3 : (y 3).val < 32 := (y 3).isLt
  have h4 : (y 4).val < 128 := (y 4).isLt
  constructor
  · intro H
    have a0 : s ≤ (y 0).val ∧ (y 0).val < s + 1 := H 0
    have a1 : 9 * j ≤ (y 1).val ∧ (y 1).val < 9 * j + 9 := H 1
    omega
  · rintro ⟨H0, H1⟩ a; fin_cases a
    · show s ≤ (y 0).val ∧ (y 0).val < s + 1; omega
    · show 9 * j ≤ (y 1).val ∧ (y 1).val < 9 * j + 9; omega
    · show 0 ≤ (y 2).val ∧ (y 2).val < 0 + 12; omega
    · show 0 ≤ (y 3).val ∧ (y 3).val < 0 + 32; omega
    · show 0 ≤ (y 4).val ∧ (y 4).val < 0 + 128; omega

theorem home_rect {g j : ℕ} {o : Fin 4 → ℕ} (h : o = ![9 * j, 0, 0, 128 * g]) (i) :
    (Rect.unit (s := S72x12x32x768) o S9x12x32x128.size i).set = HB g j := by
  subst h; ext y
  rw [Rect.mem_set_unit, mem_HB]
  have h2 : (y 1).val < 12 := (y 1).isLt
  have h3 : (y 2).val < 32 := (y 2).isLt
  constructor
  · intro H
    have a0 : 9 * j ≤ (y 0).val ∧ (y 0).val < 9 * j + 9 := H 0
    have a1 : 128 * g ≤ (y 3).val ∧ (y 3).val < 128 * g + 128 := H 3
    omega
  · rintro ⟨H0, H1⟩ a; fin_cases a
    · show 9 * j ≤ (y 0).val ∧ (y 0).val < 9 * j + 9; omega
    · show 0 ≤ (y 1).val ∧ (y 1).val < 0 + 12; omega
    · show 0 ≤ (y 2).val ∧ (y 2).val < 0 + 32; omega
    · show 128 * g ≤ (y 3).val ∧ (y 3).val < 128 * g + 128; omega

theorem stage_rect {b : ℕ} {o : Fin 5 → ℕ} (h : o = ![b, 0, 0, 0, 0]) (i) :
    (Rect.unit (s := S3x9x12x32x128) o S1x9x12x32x128.size i).set = SB b := by
  subst h; ext y
  rw [Rect.mem_set_unit, mem_SB]
  have h1 : (y 1).val < 9 := (y 1).isLt
  have h2 : (y 2).val < 12 := (y 2).isLt
  have h3 : (y 3).val < 32 := (y 3).isLt
  have h4 : (y 4).val < 128 := (y 4).isLt
  constructor
  · intro H
    have a0 : b ≤ (y 0).val ∧ (y 0).val < b + 1 := H 0
    omega
  · rintro H0 a; fin_cases a
    · show b ≤ (y 0).val ∧ (y 0).val < b + 1; omega
    · show 0 ≤ (y 1).val ∧ (y 1).val < 0 + 9; omega
    · show 0 ≤ (y 2).val ∧ (y 2).val < 0 + 12; omega
    · show 0 ≤ (y 3).val ∧ (y 3).val < 0 + 32; omega
    · show 0 ≤ (y 4).val ∧ (y 4).val < 0 + 128; omega

theorem setX {s j : ℕ} {o : Fin 5 → ℕ} (h : o = ![s, 9 * j, 0, 0, 0]) (i) : (chunkOf XM o i).view.set = CK s j :=
  ((View.set_reshape _ _).trans (View.set_slice_whole _ _)).trans (chunk_rect h i)
theorem setG {s j : ℕ} {o : Fin 5 → ℕ} (h : o = ![s, 9 * j, 0, 0, 0]) (i) : (chunkOf GM o i).view.set = CK s j :=
  ((View.set_reshape _ _).trans (View.set_slice_whole _ _)).trans (chunk_rect h i)
theorem setM {s j : ℕ} {o : Fin 5 → ℕ} (h : o = ![s, 9 * j, 0, 0, 0]) (i) : (chunkOf MM o i).view.set = CK s j :=
  ((View.set_reshape _ _).trans (View.set_slice_whole _ _)).trans (chunk_rect h i)
theorem setO {b : ℕ} {o : Fin 5 → ℕ} (h : o = ![b, 0, 0, 0, 0]) (i) : (stageOf OM o i).view.set = SB b :=
  ((View.set_reshape _ _).trans (View.set_slice_whole _ _)).trans (stage_rect h i)
theorem setHx {g j : ℕ} {o : Fin 4 → ℕ} (h : o = ![9 * j, 0, 0, 128 * g]) (i) : (blockOf hxM o i).view.set = HB g j :=
  (View.set_slice_whole _ _).trans (home_rect h i)
theorem setHg {g j : ℕ} {o : Fin 4 → ℕ} (h : o = ![9 * j, 0, 0, 128 * g]) (i) : (blockOf hgM o i).view.set = HB g j :=
  (View.set_slice_whole _ _).trans (home_rect h i)
theorem setHm {g j : ℕ} {o : Fin 4 → ℕ} (h : o = ![9 * j, 0, 0, 128 * g]) (i) : (blockOf hmM o i).view.set = HB g j :=
  (View.set_slice_whole _ _).trans (home_rect h i)
theorem setHd {g j : ℕ} {o : Fin 4 → ℕ} (h : o = ![9 * j, 0, 0, 128 * g]) (i) : (blockOf hdM o i).view.set = HB g j :=
  (View.set_slice_whole _ _).trans (home_rect h i)

/-! ## What a transfer leaves -/

/-- Where the element of a slot at an index of a buffer is in group `g` of the array. -/
def toHbm (g : ℕ) (i : S2x72x12x32x128.Idx) : S72x12x32x768.Idx := fun a => match a with
  | ⟨0, _⟩ => (⟨(i 1).val, (i 1).isLt⟩ : Fin 72)
  | ⟨1, _⟩ => (⟨(i 2).val, (i 2).isLt⟩ : Fin 12)
  | ⟨2, _⟩ => (⟨(i 3).val, (i 3).isLt⟩ : Fin 32)
  | ⟨3, _⟩ => (⟨(128 * g + (i 4).val) % 768, Nat.mod_lt _ (by decide)⟩ : Fin 768)
  | ⟨_ + 4, h⟩ => absurd h (Nat.not_lt.2 (Nat.le_add_left _ _))

/-- A group's elements, laid out as the buffer lays them. -/
def grp {α : Type} (g : ℕ) (f : S72x12x32x768.Idx → α) : S2x72x12x32x128.Idx → α := fun i => f (toHbm g i)

theorem toHbm_emb {s j g : ℕ} (hg : g < 6) {o : Fin 5 → ℕ} {o' : Fin 4 → ℕ} (h : o = ![s, 9 * j, 0, 0, 0]) (h' : o' = ![9 * j, 0, 0, 128 * g]) (i) (i') (y : S9x12x32x128.Idx) :
    toHbm g ((Rect.unit (s := S2x72x12x32x128) o S1x9x12x32x128.size i).emb (Shape.reshapeEquiv squeezes_S1x9x12x32x128_S9x12x32x128.numel_eq y))
      = (Rect.unit (s := S72x12x32x768) o' S9x12x32x128.size i').emb y := by
  subst h h'
  have e : Shape.reshapeEquiv squeezes_S1x9x12x32x128_S9x12x32x128.numel_eq y = (Fin.cons (⟨0, Nat.one_pos⟩ : Fin 1) y : S1x9x12x32x128.Idx) :=
    Shape.reshapeEquiv_cons_one _ y
  rw [e]
  have h4 : (y 3).val < 128 := (y 3).isLt
  funext a; apply Fin.ext
  fin_cases a
  · show 9 * j + 1 * (y 0).val = 9 * j + 1 * (y 0).val; rfl
  · show 0 + 1 * (y 1).val = 0 + 1 * (y 1).val; rfl
  · show 0 + 1 * (y 2).val = 0 + 1 * (y 2).val; rfl
  · show (128 * g + (0 + 1 * (y 3).val)) % 768 = 128 * g + 1 * (y 3).val
    omega

section Landed
variable {F : FTy → Type}

theorem landX {s j g : ℕ} (hg : g < 6) {o : Fin 5 → ℕ} {o' : Fin 4 → ℕ} (h : o = ![s, 9 * j, 0, 0, 0]) (h' : o' = ![9 * j, 0, 0, 128 * g]) (i) (i')
    (f : S2x72x12x32x128.Idx → Elt F .fp8e4m3) (a : S72x12x32x768.Idx → Elt F .fp8e4m3) :
    ∀ y ∈ CK s j, (chunkOf XM o i).view.write (Elt F) f ((blockOf hxM o' i').view.read (Elt F) a) Finset.univ y = grp g a y := by
  intro y hy
  rw [← setX h i] at hy
  obtain ⟨x, -, rfl⟩ := Finset.mem_map.mp hy
  refine (View.write_emb_of_mem _ _ (Finset.mem_univ _)).trans ?_
  exact congrArg a (toHbm_emb hg h h' i i' x).symm

theorem landG {s j g : ℕ} (hg : g < 6) {o : Fin 5 → ℕ} {o' : Fin 4 → ℕ} (h : o = ![s, 9 * j, 0, 0, 0]) (h' : o' = ![9 * j, 0, 0, 128 * g]) (i) (i')
    (f : S2x72x12x32x128.Idx → Elt F .fp8e5m2) (a : S72x12x32x768.Idx → Elt F .fp8e5m2) :
    ∀ y ∈ CK s j, (chunkOf GM o i).view.write (Elt F) f ((blockOf hgM o' i').view.read (Elt F) a) Finset.univ y = grp g a y := by
  intro y hy
  rw [← setG h i] at hy
  obtain ⟨x, -, rfl⟩ := Finset.mem_map.mp hy
  refine (View.write_emb_of_mem _ _ (Finset.mem_univ _)).trans ?_
  exact congrArg a (toHbm_emb hg h h' i i' x).symm

theorem landM {s j g : ℕ} (hg : g < 6) {o : Fin 5 → ℕ} {o' : Fin 4 → ℕ} (h : o = ![s, 9 * j, 0, 0, 0]) (h' : o' = ![9 * j, 0, 0, 128 * g]) (i) (i')
    (f : S2x72x12x32x128.Idx → Elt F .i8) (a : S72x12x32x768.Idx → Elt F .i8) :
    ∀ y ∈ CK s j, (chunkOf MM o i).view.write (Elt F) f ((blockOf hmM o' i').view.read (Elt F) a) Finset.univ y = grp g a y := by
  intro y hy
  rw [← setM h i] at hy
  obtain ⟨x, -, rfl⟩ := Finset.mem_map.mp hy
  refine (View.write_emb_of_mem _ _ (Finset.mem_univ _)).trans ?_
  exact congrArg a (toHbm_emb hg h h' i i' x).symm

/-- The index of the staging buffer `b` that goes to an index of the result. -/
def toStage (b : ℕ) (hb : b < 3) (i : S72x12x32x768.Idx) : S3x9x12x32x128.Idx := fun a => match a with
  | ⟨0, _⟩ => (⟨b, hb⟩ : Fin 3)
  | ⟨1, _⟩ => (⟨(i 0).val % 9, Nat.mod_lt _ (by decide)⟩ : Fin 9)
  | ⟨2, _⟩ => (⟨(i 1).val, (i 1).isLt⟩ : Fin 12)
  | ⟨3, _⟩ => (⟨(i 2).val, (i 2).isLt⟩ : Fin 32)
  | ⟨4, _⟩ => (⟨(i 3).val % 128, Nat.mod_lt _ (by decide)⟩ : Fin 128)
  | ⟨_ + 5, h⟩ => absurd h (Nat.not_lt.2 (Nat.le_add_left _ _))

theorem landD {b j g : ℕ} (hb : b < 3) {o : Fin 5 → ℕ} {o' : Fin 4 → ℕ} (h : o = ![b, 0, 0, 0, 0]) (h' : o' = ![9 * j, 0, 0, 128 * g]) (i) (i')
    (f : S72x12x32x768.Idx → Elt F .bf16) (a : S3x9x12x32x128.Idx → Elt F .bf16) :
    ∀ y ∈ HB g j, (blockOf hdM o' i').view.write (Elt F) f ((stageOf OM o i).view.read (Elt F) a) Finset.univ y = a (toStage b hb y) := by
  intro y hy
  rw [← setHd h' i'] at hy
  obtain ⟨x, -, rfl⟩ := Finset.mem_map.mp hy
  refine (View.write_emb_of_mem _ _ (Finset.mem_univ _)).trans ?_
  refine congrArg a ?_
  subst h h'
  have e : Shape.reshapeEquiv squeezes_S1x9x12x32x128_S9x12x32x128.numel_eq x = (Fin.cons (⟨0, Nat.one_pos⟩ : Fin 1) x : S1x9x12x32x128.Idx) :=
    Shape.reshapeEquiv_cons_one _ x
  show (Rect.unit (s := S3x9x12x32x128) ![b, 0, 0, 0, 0] S1x9x12x32x128.size i).emb (Shape.reshapeEquiv squeezes_S1x9x12x32x128_S9x12x32x128.numel_eq x)
    = toStage b hb ((Rect.unit (s := S72x12x32x768) ![9 * j, 0, 0, 128 * g] S9x12x32x128.size i').emb x)
  rw [e]
  have h0 : (x 0).val < 9 := (x 0).isLt
  have h4 : (x 3).val < 128 := (x 3).isLt
  funext a; apply Fin.ext
  fin_cases a
  · show b + 1 * 0 = b; omega
  · show 0 + 1 * (x 0).val = (9 * j + 1 * (x 0).val) % 9; omega
  · show 0 + 1 * (x 1).val = 0 + 1 * (x 1).val; rfl
  · show 0 + 1 * (x 2).val = 0 + 1 * (x 2).val; rfl
  · show 0 + 1 * (x 3).val = (128 * g + 1 * (x 3).val) % 128; omega

end Landed

end Cert.KernelIdeal.Hand
-- ==== Proof.KI.Tiles.lean ====
/-
  The steps of the kernel's inner loop, run: what the masked sums of a slab and its `dx` rows read, what they leave in
  the buffers and what they hand on, tile after tile.
-/
module

public import proofs.«01_k».proof.Proof.KI.Geom

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
abbrev 𝒱₀ : Variants := Variants.none

theorem entails_of_eq {P Q : sProp 𝕄} (e : P = Q) : P ⊢ Q := e ▸ .rfl

/-- A program's weakest precondition on a core, in the kernel. -/
abbrev Wp (c : Dev nD) (p : Prog (TpuEff nD τ sig (Elt F) Λ₀ .tc) Unit) (Q : Unit → sProp 𝕄) : sProp 𝕄 :=
  wp frame (wpE (defs₀ (F := F)) 𝒱₀ (c : Thread nD τ) none) Set.univ p Q

/-! ## Tiles of a slab -/

/-- The index of a buffer at a slot, slab, tile, row and lane. -/
def ixB (s n : ℕ) (k : Fin 12) (r : Fin 32) (l : Fin 128) : S2x72x12x32x128.Idx := fun a => match a with
  | ⟨0, _⟩ => (⟨s % 2, Nat.mod_lt _ (by decide)⟩ : Fin 2)
  | ⟨1, _⟩ => (⟨n % 72, Nat.mod_lt _ (by decide)⟩ : Fin 72)
  | ⟨2, _⟩ => k
  | ⟨3, _⟩ => r
  | ⟨4, _⟩ => l
  | ⟨_ + 5, h⟩ => absurd h (Nat.not_lt.2 (Nat.le_add_left _ _))

/-- The index of a tile at a row and lane. -/
def ixT (r : Fin 32) (l : Fin 128) : S1x1x1x32x128.Idx := fun a => match a with
  | ⟨0, _⟩ => (⟨0, by decide⟩ : Fin 1)
  | ⟨1, _⟩ => (⟨0, by decide⟩ : Fin 1)
  | ⟨2, _⟩ => (⟨0, by decide⟩ : Fin 1)
  | ⟨3, _⟩ => r
  | ⟨4, _⟩ => l
  | ⟨_ + 5, h⟩ => absurd h (Nat.not_lt.2 (Nat.le_add_left _ _))

/-- Tile `k` of slab `n` of slot `s`. -/
def tileAt {α : Type} (f : S2x72x12x32x128.Idx → α) (s n : ℕ) (k : Fin 12) : S1x1x1x32x128.Idx → α :=
  fun i => f (ixB s n k ⟨(i 3).val, (i 3).isLt⟩ ⟨(i 4).val, (i 4).isLt⟩)

/-- That tile replaced. -/
def putAt {α : Type} (f : S2x72x12x32x128.Idx → α) (s n : ℕ) (k : Fin 12) (v : S1x1x1x32x128.Idx → α) : S2x72x12x32x128.Idx → α :=
  fun i => if (i 0).val = s ∧ (i 1).val = n ∧ (i 2).val = k.val then v (ixT ⟨(i 3).val, (i 3).isLt⟩ ⟨(i 4).val, (i 4).isLt⟩) else f i

/-- Tile `k` of row `n` of output staging buffer `s` replaced. -/
def putOut {α : Type} (f : S3x9x12x32x128.Idx → α) (s n : ℕ) (k : Fin 12) (v : S1x1x1x32x128.Idx → α) : S3x9x12x32x128.Idx → α :=
  fun i => if (i 0).val = s ∧ (i 1).val = n ∧ (i 2).val = k.val then v (ixT ⟨(i 3).val, (i 3).isLt⟩ ⟨(i 4).val, (i 4).isLt⟩) else f i

section Access
variable {s n : ℕ} {k : Fin 12} {o : Fin 5 → ℕ} (ho : o = ![s, n, k.val, 0, 0])
include ho

theorem tile_idx (i : ∀ a, o a + S1x1x1x32x128.size a ≤ S2x72x12x32x128.size a) (j : S1x1x1x32x128.Idx) :
    (fun a => ⟨o a + (j a : ℕ), by have := i a; have h : (j a : ℕ) < S1x1x1x32x128.size a := (j a).isLt; show _ < S2x72x12x32x128.size a; omega⟩ : S2x72x12x32x128.Idx)
      = ixB s n k ⟨(j 3).val, (j 3).isLt⟩ ⟨(j 4).val, (j 4).isLt⟩ := by
  subst ho
  have i0 : s + 1 ≤ 2 := i 0
  have i1 : n + 1 ≤ 72 := i 1
  have j0 : (j 0).val < 1 := (j 0).isLt
  have j1 : (j 1).val < 1 := (j 1).isLt
  have j2 : (j 2).val < 1 := (j 2).isLt
  funext a; apply Fin.ext
  fin_cases a
  · show s + (j 0).val = s % 2; omega
  · show n + (j 1).val = n % 72; omega
  · show k.val + (j 2).val = k.val; omega
  · show 0 + (j 3).val = (j 3).val; omega
  · show 0 + (j 4).val = (j 4).val; omega

theorem tile_sub {j : ℕ} (hj : n / 9 = j) (i) : (Rect.unit (s := S2x72x12x32x128) o S1x1x1x32x128.size i).set ⊆ CK s j := by
  subst ho; intro y hy
  rw [Rect.mem_set_unit] at hy; rw [mem_CK]
  have a0 : s ≤ (y 0).val ∧ (y 0).val < s + 1 := hy 0
  have a1 : n ≤ (y 1).val ∧ (y 1).val < n + 1 := hy 1
  omega

theorem out_sub (i) : (Rect.unit (s := S3x9x12x32x128) o S1x1x1x32x128.size i).set ⊆ SB s := by
  subst ho; intro y hy
  rw [Rect.mem_set_unit] at hy; rw [mem_SB]
  have a0 : s ≤ (y 0).val ∧ (y 0).val < s + 1 := hy 0
  omega

theorem readX (i) (f : S2x72x12x32x128.Idx → Elt F .fp8e4m3) :
    (XM.access (Rect.unit (s := S2x72x12x32x128) o S1x1x1x32x128.size i)).read (Elt F) f = tileAt f s n k :=
  funext fun j => (read_unit cc0_scratch0 o S1x1x1x32x128.size i f j).trans (congrArg f (tile_idx ho i j))
theorem readG (i) (f : S2x72x12x32x128.Idx → Elt F .fp8e5m2) :
    (GM.access (Rect.unit (s := S2x72x12x32x128) o S1x1x1x32x128.size i)).read (Elt F) f = tileAt f s n k :=
  funext fun j => (read_unit cc0_scratch1 o S1x1x1x32x128.size i f j).trans (congrArg f (tile_idx ho i j))
theorem readM (i) (f : S2x72x12x32x128.Idx → Elt F .i8) :
    (MM.access (Rect.unit (s := S2x72x12x32x128) o S1x1x1x32x128.size i)).read (Elt F) f = tileAt f s n k :=
  funext fun j => (read_unit cc0_scratch2 o S1x1x1x32x128.size i f j).trans (congrArg f (tile_idx ho i j))

theorem writeG (i) (f : S2x72x12x32x128.Idx → Elt F .fp8e5m2) (w : S1x1x1x32x128.Idx → Elt F .fp8e5m2) :
    (GM.access (Rect.unit (s := S2x72x12x32x128) o S1x1x1x32x128.size i)).write (Elt F) f w Finset.univ = putAt f s n k w := by
  funext y
  refine (write_unit cc0_scratch1 o S1x1x1x32x128.size i f w y).trans ?_
  subst ho
  unfold putAt
  split
  · next h =>
    have a0 : s ≤ (y 0).val ∧ (y 0).val < s + 1 := h (0 : Fin 5)
    have a1 : n ≤ (y 1).val ∧ (y 1).val < n + 1 := h (1 : Fin 5)
    have a2 : k.val ≤ (y 2).val ∧ (y 2).val < k.val + 1 := h (2 : Fin 5)
    rw [if_pos (by omega)]
    refine congrArg w (funext fun a => Fin.ext ?_)
    fin_cases a
    · show (y 0).val - s = 0; omega
    · show (y 1).val - n = 0; omega
    · show (y 2).val - k.val = 0; omega
    · show (y 3).val - 0 = (y 3).val; omega
    · show (y 4).val - 0 = (y 4).val; omega
  · next h =>
    rw [if_neg]
    rintro ⟨h0, h1, h2⟩
    have h3 : (y 3).val < 32 := (y 3).isLt
    have h4 : (y 4).val < 128 := (y 4).isLt
    refine h fun a => ?_
    change Fin 5 at a
    fin_cases a
    · show s ≤ (y 0).val ∧ (y 0).val < s + 1; omega
    · show n ≤ (y 1).val ∧ (y 1).val < n + 1; omega
    · show k.val ≤ (y 2).val ∧ (y 2).val < k.val + 1; omega
    · show 0 ≤ (y 3).val ∧ (y 3).val < 0 + 32; omega
    · show 0 ≤ (y 4).val ∧ (y 4).val < 0 + 128; omega

theorem writeO (i) (f : S3x9x12x32x128.Idx → Elt F .bf16) (w : S1x1x1x32x128.Idx → Elt F .bf16) :
    (OM.access (Rect.unit (s := S3x9x12x32x128) o S1x1x1x32x128.size i)).write (Elt F) f w Finset.univ = putOut f s n k w := by
  funext y
  refine (write_unit cc0_scratch3 o S1x1x1x32x128.size i f w y).trans ?_
  subst ho
  unfold putOut
  split
  · next h =>
    have a0 : s ≤ (y 0).val ∧ (y 0).val < s + 1 := h (0 : Fin 5)
    have a1 : n ≤ (y 1).val ∧ (y 1).val < n + 1 := h (1 : Fin 5)
    have a2 : k.val ≤ (y 2).val ∧ (y 2).val < k.val + 1 := h (2 : Fin 5)
    rw [if_pos (by omega)]
    refine congrArg w (funext fun a => Fin.ext ?_)
    fin_cases a
    · show (y 0).val - s = 0; omega
    · show (y 1).val - n = 0; omega
    · show (y 2).val - k.val = 0; omega
    · show (y 3).val - 0 = (y 3).val; omega
    · show (y 4).val - 0 = (y 4).val; omega
  · next h =>
    rw [if_neg]
    rintro ⟨h0, h1, h2⟩
    have h3 : (y 3).val < 32 := (y 3).isLt
    have h4 : (y 4).val < 128 := (y 4).isLt
    refine h fun a => ?_
    change Fin 5 at a
    fin_cases a
    · show s ≤ (y 0).val ∧ (y 0).val < s + 1; omega
    · show n ≤ (y 1).val ∧ (y 1).val < n + 1; omega
    · show k.val ≤ (y 2).val ∧ (y 2).val < k.val + 1; omega
    · show 0 ≤ (y 3).val ∧ (y 3).val < 0 + 32; omega
    · show 0 ≤ (y 4).val ∧ (y 4).val < 0 + 128; omega

end Access

/-! ## The masked sums of a list of tiles -/

variable (c : Dev nD)

/-- A chunk of each buffer, at given contents. -/
abbrev ptX (s j : ℕ) (f : S2x72x12x32x128.Idx → Elt F .fp8e4m3) : sProp 𝕄 := XM.view.loc (c : Thread nD τ) ↦[CK s j]{fullShare} f
abbrev ptG (s j : ℕ) (f : S2x72x12x32x128.Idx → Elt F .fp8e5m2) : sProp 𝕄 := GM.view.loc (c : Thread nD τ) ↦[CK s j]{fullShare} f
abbrev ptM (s j : ℕ) (f : S2x72x12x32x128.Idx → Elt F .i8) : sProp 𝕄 := MM.view.loc (c : Thread nD τ) ↦[CK s j]{fullShare} f
abbrev ptO (b : ℕ) (f : S3x9x12x32x128.Idx → Elt F .bf16) : sProp 𝕄 := OM.view.loc (c : Thread nD τ) ↦[SB b]{fullShare} f

/-- A tile of masked gradients. -/
def mtile (fm : S2x72x12x32x128.Idx → Elt F .i8) (fg : S2x72x12x32x128.Idx → Elt F .fp8e5m2) (s n : ℕ) (k : Fin 12) : FVec F S32x128 .fp8e5m2 :=
  k0_pay2 (tileAt fm s n k) (tileAt fg s n k)

/-- The sums after the tiles `ls`. -/
def sumsOver (ones : FVec F S16x128 .f32) (fx : S2x72x12x32x128.Idx → Elt F .fp8e4m3) (fg : S2x72x12x32x128.Idx → Elt F .fp8e5m2) (fm : S2x72x12x32x128.Idx → Elt F .i8)
    (s n : ℕ) : List (Fin 12) → Sums F → Sums F
  | [], a => a
  | k :: ks, a => sumsOver ones fx fg fm s n ks (some (tileSums ones a (mtile fm fg s n k) (k0_pay4 (tileAt fx s n k))))

theorem red_wp (s n j : ℕ) (hj : n / 9 = j) (ones : FVec F S16x128 .f32) (fx : S2x72x12x32x128.Idx → Elt F .fp8e4m3) (fg : S2x72x12x32x128.Idx → Elt F .fp8e5m2)
    (fm : S2x72x12x32x128.Idx → Elt F .i8) (Q : Unit → sProp 𝕄) :
    ∀ (ts : List TileOff) (ls : List (Fin 12)) (a : Sums F) (kk : Sums F → List (TileOff × FVec F S32x128 .fp8e5m2) → Prog (TpuEff nD τ sig (Elt F) Λ₀ .tc) Unit),
      ts.map TileOff.o = ls.map (fun k => ![s, n, k.val, 0, 0]) →
      iprop(ptX c s j fx ∗ ptG c s j fg ∗ ptM c s j fm)
        ⊢ iprop((iprop(ptX c s j fx ∗ ptG c s j fg ∗ ptM c s j fm)
              -∗ Wp c (kk (sumsOver ones fx fg fm s n ls a) (List.zipWith (fun t k => (t, mtile fm fg s n k)) ts ls)) Q)
            -∗ Wp c (redTiles XM GM MM ones ts a kk) Q)
  | [], [], a, kk, _ => by
    iintro H Hk
    iapply Hk
    iexact H
  | t :: ts, k :: ks, a, kk, h => by
    have ht : t.o = ![s, n, k.val, 0, 0] := (List.cons.inj h).1
    have hts : ts.map TileOff.o = ks.map (fun k => ![s, n, k.val, 0, 0]) := (List.cons.inj h).2
    have hs := tile_sub ht hj t.inb
    iintro ⟨HX, HG, HM⟩ Hk
    unfold redTiles
    simp only [Prog.lift, Prog.bind_op, Prog.bind_ret]
    iapply (wp_load_rect 𝒱₀ (c : Thread nD τ) none Set.univ (m := MM) (r := Rect.unit (s := S2x72x12x32x128) t.o S1x1x1x32x128.size t.inb) (S := CK s j) (f := fm) (by rw [View.set_slice_whole]; exact hs)) $$ HM
    iintro HM
    iapply (wp_load_rect 𝒱₀ (c : Thread nD τ) none Set.univ (m := GM) (r := Rect.unit (s := S2x72x12x32x128) t.o S1x1x1x32x128.size t.inb) (S := CK s j) (f := fg) (by rw [View.set_slice_whole]; exact hs)) $$ HG
    iintro HG
    iapply (wp_load_rect 𝒱₀ (c : Thread nD τ) none Set.univ (m := XM) (r := Rect.unit (s := S2x72x12x32x128) t.o S1x1x1x32x128.size t.inb) (S := CK s j) (f := fx) (by rw [View.set_slice_whole]; exact hs)) $$ HX
    iintro HX
    rw [readX ht, readG ht, readM ht]
    iapply (red_wp s n j hj ones fx fg fm Q ts ks (some (tileSums ones a (mtile fm fg s n k) (k0_pay4 (tileAt fx s n k)))) (fun s' l => kk s' ((t, mtile fm fg s n k) :: l)) hts) $$ [HX HG HM]
    · isplitl [HX]; · iexact HX
      isplitl [HG]; · iexact HG
      iexact HM
    iexact Hk

/-! ## The masked tiles written back -/

/-- A buffer with the tiles `ls` of a slab replaced. -/
def putAll {α : Type} (s n : ℕ) (h : Fin 12 → S1x1x1x32x128.Idx → α) : List (Fin 12) → (S2x72x12x32x128.Idx → α) → S2x72x12x32x128.Idx → α
  | [], f => f
  | k :: ks, f => putAll s n h ks (putAt f s n k (h k))

theorem putAll_apply {α : Type} (s n : ℕ) (h : Fin 12 → S1x1x1x32x128.Idx → α) (i : S2x72x12x32x128.Idx) :
    ∀ (ls : List (Fin 12)) (f : S2x72x12x32x128.Idx → α),
      putAll s n h ls f i = if (i 0).val = s ∧ (i 1).val = n ∧ (⟨(i 2).val, (i 2).isLt⟩ : Fin 12) ∈ ls
        then h ⟨(i 2).val, (i 2).isLt⟩ (ixT ⟨(i 3).val, (i 3).isLt⟩ ⟨(i 4).val, (i 4).isLt⟩) else f i
  | [], f => (if_neg fun H => absurd H.2.2 List.not_mem_nil).symm
  | k :: ks, f => by
    rw [putAll, putAll_apply s n h i ks]
    unfold putAt
    by_cases h0 : (i 0).val = s ∧ (i 1).val = n
    · obtain ⟨h0, h1⟩ := h0
      by_cases hm : (⟨(i 2).val, (i 2).isLt⟩ : Fin 12) ∈ ks
      · rw [if_pos ⟨h0, h1, hm⟩, if_pos ⟨h0, h1, List.mem_cons_of_mem _ hm⟩]
      · rw [if_neg fun H => hm H.2.2]
        by_cases hk : (i 2).val = k.val
        · have e : k = ⟨(i 2).val, (i 2).isLt⟩ := Fin.ext hk.symm
          rw [if_pos ⟨h0, h1, hk⟩, if_pos ⟨h0, h1, by rw [e]; exact List.mem_cons_self ..⟩, e]
        · rw [if_neg fun H => hk H.2.2, if_neg]
          rintro ⟨-, -, H⟩
          rcases List.mem_cons.mp H with H | H
          · exact hk (congrArg Fin.val H)
          · exact hm H
    · rw [if_neg fun H => h0 ⟨H.1, H.2.1⟩, if_neg fun H => h0 ⟨H.1, H.2.1⟩, if_neg fun H => h0 ⟨H.1, H.2.1⟩]

theorem put_wp (s n j : ℕ) (hj : n / 9 = j) (h : Fin 12 → FVec F S32x128 .fp8e5m2) (Q : Unit → sProp 𝕄) (kk : Prog (TpuEff nD τ sig (Elt F) Λ₀ .tc) Unit) :
    ∀ (ts : List TileOff) (ls : List (Fin 12)) (f : S2x72x12x32x128.Idx → Elt F .fp8e5m2),
      ts.map TileOff.o = ls.map (fun k => ![s, n, k.val, 0, 0]) →
      ptG c s j f
        ⊢ iprop((ptG c s j (putAll s n (fun k => k0_pay100 (h k)) ls f) -∗ Wp c kk Q)
            -∗ Wp c (putTiles GM (Memref.isWhole_whole _) (List.zipWith (fun t k => (t, h k)) ts ls) kk) Q)
  | [], [], f, _ => by
    iintro H Hk
    iapply Hk
    iexact H
  | t :: ts, k :: ks, f, hh => by
    have ht : t.o = ![s, n, k.val, 0, 0] := (List.cons.inj hh).1
    have hts : ts.map TileOff.o = ks.map (fun k => ![s, n, k.val, 0, 0]) := (List.cons.inj hh).2
    have hs := tile_sub ht hj t.inb
    iintro HG Hk
    rw [List.zipWith_cons_cons]
    unfold putTiles
    simp only [Prog.lift, Prog.bind_op, Prog.bind_ret]
    iapply (wp_load_rect 𝒱₀ (c : Thread nD τ) none Set.univ (m := GM) (r := Rect.unit (s := S2x72x12x32x128) t.o S1x1x1x32x128.size t.inb) (S := CK s j) (f := f) (by rw [View.set_slice_whole]; exact hs)) $$ HG
    iintro HG
    iapply (wp_store 𝒱₀ (c : Thread nD τ) none Set.univ (m := GM) (r := Rect.unit (s := S2x72x12x32x128) t.o S1x1x1x32x128.size t.inb) (S := CK s j) (f := f) (by rw [View.setOn_univ, View.set_slice_whole]; exact hs)) $$ HG
    rw [writeG ht]
    iintro HG
    iapply (put_wp s n j hj h Q kk ts ks (putAt f s n k (k0_pay100 (h k))) hts) $$ HG
    iexact Hk

/-! ## The accumulators -/

abbrev ptA (f : S2x8x128.Idx → Elt F .f32) : sProp 𝕄 := AM.view.loc (c : Thread nD τ) ↦[Finset.univ]{fullShare} f
abbrev ptC (f : S3x32x128.Idx → Elt F .f32) : sProp 𝕄 := CM.view.loc (c : Thread nD τ) ↦[Finset.univ]{fullShare} f
abbrev ptN (f : S16x128.Idx → Elt F .bf16) : sProp 𝕄 := NM.view.loc (c : Thread nD τ) ↦[Finset.univ]{fullShare} f

abbrev rA0 : Rect S2x8x128 := Rect.unit (s := S2x8x128) ![0, 0, 0] S1x8x128.size inb_S2x8x128_S1x8x128_0_0_0
abbrev rA1 : Rect S2x8x128 := Rect.unit (s := S2x8x128) ![1, 0, 0] S1x8x128.size inb_S2x8x128_S1x8x128_1_0_0

/-- An accumulator's row as it is read, and as it is left. -/
def getA (r : Rect S2x8x128) (f : S2x8x128.Idx → Elt F .f32) : r.shape.Idx → Elt F .f32 := (AM.access r).read (Elt F) f
def setA (r : Rect S2x8x128) (f : S2x8x128.Idx → Elt F .f32) (w : r.shape.Idx → Elt F .f32) : S2x8x128.Idx → Elt F .f32 := (AM.access r).write (Elt F) f w Finset.univ

/-- The accumulators after a slab's sums. -/
def accNext : Sums F → (S2x8x128.Idx → Elt F .f32) → S2x8x128.Idx → Elt F .f32
  | none, f => f
  | some s, f => setA rA1 (setA rA0 f (k0_pay102 s.2 (getA rA0 f))) (k0_pay102 s.1 (getA rA1 (setA rA0 f (k0_pay102 s.2 (getA rA0 f)))))

theorem acc_wp (Q : Unit → sProp 𝕄) (kk : Prog (TpuEff nD τ sig (Elt F) Λ₀ .tc) Unit) (f : S2x8x128.Idx → Elt F .f32) :
    ∀ (a : Sums F), ptA c f ⊢ iprop((ptA c (accNext a f) -∗ Wp c kk Q) -∗ Wp c (putAcc AM a kk) Q)
  | none => by
    iintro H Hk
    iapply Hk
    iexact H
  | some s => by
    iintro H Hk
    unfold putAcc
    simp only [Prog.lift, Prog.bind_op, Prog.bind_ret]
    iapply (wp_load_rect 𝒱₀ (c : Thread nD τ) none Set.univ (m := AM) (r := rA0) (S := Finset.univ) (f := f) (Finset.subset_univ _)) $$ H
    iintro H
    iapply (wp_load_rect 𝒱₀ (c : Thread nD τ) none Set.univ (m := AM) (r := rA0) (S := Finset.univ) (f := f) (Finset.subset_univ _)) $$ H
    iintro H
    iapply (wp_store 𝒱₀ (c : Thread nD τ) none Set.univ (m := AM) (r := rA0) (S := Finset.univ) (f := f) (Finset.subset_univ _)) $$ H
    iintro H
    iapply (wp_load_rect 𝒱₀ (c : Thread nD τ) none Set.univ (m := AM) (r := rA1) (S := Finset.univ) (Finset.subset_univ _)) $$ H
    iintro H
    iapply (wp_load_rect 𝒱₀ (c : Thread nD τ) none Set.univ (m := AM) (r := rA1) (S := Finset.univ) (Finset.subset_univ _)) $$ H
    iintro H
    iapply (wp_store 𝒱₀ (c : Thread nD τ) none Set.univ (m := AM) (r := rA1) (S := Finset.univ) (Finset.subset_univ _)) $$ H
    iintro H
    iapply Hk
    iexact H

/-- The ones as they are read. -/
def getN (f : S16x128.Idx → Elt F .bf16) : S16x128.Idx → Elt F .bf16 := (NM.access (Rect.unit (s := S16x128) ![0, 0] S16x128.size inb_S16x128_S16x128_0_0)).read (Elt F) f

/-- One slab's sums: the accumulators advance, the slab's gradients are left masked. -/
theorem redStep_wp (s n j : ℕ) (hj : n / 9 = j) (fn : S16x128.Idx → Elt F .bf16) (fx : S2x72x12x32x128.Idx → Elt F .fp8e4m3) (fg : S2x72x12x32x128.Idx → Elt F .fp8e5m2)
    (fm : S2x72x12x32x128.Idx → Elt F .i8) (fa : S2x8x128.Idx → Elt F .f32) (Q : Unit → sProp 𝕄) (ts : List TileOff) (h : ts.map TileOff.o = tileOffs s n) :
    iprop(ptN c fn ∗ ptA c fa ∗ ptX c s j fx ∗ ptG c s j fg ∗ ptM c s j fm)
      ⊢ iprop((iprop(ptN c fn ∗ ptA c (accNext (sumsOver (k0_pay1 (getN fn)) fx fg fm s n (List.finRange 12) none) fa) ∗ ptX c s j fx
              ∗ ptG c s j (putAll s n (fun k => k0_pay100 (mtile fm fg s n k)) (List.finRange 12) fg) ∗ ptM c s j fm) -∗ Wp c (pure ()) Q)
          -∗ Wp c (redStep XM GM (Memref.isWhole_whole _) MM AM NM ts) Q) := by
  iintro ⟨HN, HA, HX, HG, HM⟩ Hk
  unfold redStep
  simp only [Prog.lift, Prog.bind_op, Prog.bind_ret]
  iapply (wp_load_rect 𝒱₀ (c : Thread nD τ) none Set.univ (m := NM) (r := Rect.unit (s := S16x128) ![0, 0] S16x128.size inb_S16x128_S16x128_0_0) (S := Finset.univ) (f := fn) (Finset.subset_univ _)) $$ HN
  iintro HN
  iapply (red_wp c s n j hj (k0_pay1 (getN fn)) fx fg fm Q ts (List.finRange 12) none _ h) $$ [HX HG HM]
  · isplitl [HX]; · iexact HX
    isplitl [HG]; · iexact HG
    iexact HM
  iintro ⟨HX, HG, HM⟩
  iapply (put_wp c s n j hj (fun k => mtile fm fg s n k) Q _ ts (List.finRange 12) fg h) $$ HG
  iintro HG
  iapply (acc_wp c Q (pure ()) fa _) $$ HA
  iintro HA
  iapply Hk
  isplitl [HN]; · iexact HN
  isplitl [HA]; · iexact HA
  isplitl [HX]; · iexact HX
  isplitl [HG]; · iexact HG
  iexact HM

/-! ## The `dx` rows -/

/-- A coefficient's tile as it is read. -/
abbrev rC0 : Rect S3x32x128 := Rect.unit (s := S3x32x128) ![0, 0, 0] S1x32x128.size inb_S3x32x128_S1x32x128_0_0_0
abbrev rC1 : Rect S3x32x128 := Rect.unit (s := S3x32x128) ![1, 0, 0] S1x32x128.size inb_S3x32x128_S1x32x128_1_0_0
abbrev rC2 : Rect S3x32x128 := Rect.unit (s := S3x32x128) ![2, 0, 0] S1x32x128.size inb_S3x32x128_S1x32x128_2_0_0
def getC (r : Rect S3x32x128) (f : S3x32x128.Idx → Elt F .f32) : r.shape.Idx → Elt F .f32 := (CM.access r).read (Elt F) f

/-- A staging buffer with the tiles `ls` of a row replaced. -/
def outAll {α : Type} (b n : ℕ) (h : Fin 12 → S1x1x1x32x128.Idx → α) : List (Fin 12) → (S3x9x12x32x128.Idx → α) → S3x9x12x32x128.Idx → α
  | [], f => f
  | k :: ks, f => outAll b n h ks (putOut f b n k (h k))

theorem outAll_apply {α : Type} (s n : ℕ) (h : Fin 12 → S1x1x1x32x128.Idx → α) (i : S3x9x12x32x128.Idx) :
    ∀ (ls : List (Fin 12)) (f : S3x9x12x32x128.Idx → α),
      outAll s n h ls f i = if (i 0).val = s ∧ (i 1).val = n ∧ (⟨(i 2).val, (i 2).isLt⟩ : Fin 12) ∈ ls
        then h ⟨(i 2).val, (i 2).isLt⟩ (ixT ⟨(i 3).val, (i 3).isLt⟩ ⟨(i 4).val, (i 4).isLt⟩) else f i
  | [], f => (if_neg fun H => absurd H.2.2 List.not_mem_nil).symm
  | k :: ks, f => by
    rw [outAll, outAll_apply s n h i ks]
    unfold putOut
    by_cases h0 : (i 0).val = s ∧ (i 1).val = n
    · obtain ⟨h0, h1⟩ := h0
      by_cases hm : (⟨(i 2).val, (i 2).isLt⟩ : Fin 12) ∈ ks
      · rw [if_pos ⟨h0, h1, hm⟩, if_pos ⟨h0, h1, List.mem_cons_of_mem _ hm⟩]
      · rw [if_neg fun H => hm H.2.2]
        by_cases hk : (i 2).val = k.val
        · have e : k = ⟨(i 2).val, (i 2).isLt⟩ := Fin.ext hk.symm
          rw [if_pos ⟨h0, h1, hk⟩, if_pos ⟨h0, h1, by rw [e]; exact List.mem_cons_self ..⟩, e]
        · rw [if_neg fun H => hk H.2.2, if_neg]
          rintro ⟨-, -, H⟩
          rcases List.mem_cons.mp H with H | H
          · exact hk (congrArg Fin.val H)
          · exact hm H
    · rw [if_neg fun H => h0 ⟨H.1, H.2.1⟩, if_neg fun H => h0 ⟨H.1, H.2.1⟩, if_neg fun H => h0 ⟨H.1, H.2.1⟩]

/-- A tile of `dx`. -/
def dxTile (fc : S3x32x128.Idx → Elt F .f32) (fx : S2x72x12x32x128.Idx → Elt F .fp8e4m3) (fg : S2x72x12x32x128.Idx → Elt F .fp8e5m2) (s n : ℕ) (k : Fin 12) : S1x1x1x32x128.Idx → Elt F .bf16 :=
  k0_pay107 (getC rC0 fc) (getC rC1 fc) (getC rC2 fc) (tileAt fg s n k) (tileAt fx s n k)

theorem dx_wp (s n j b i : ℕ) (hj : n / 9 = j) (fc : S3x32x128.Idx → Elt F .f32) (fx : S2x72x12x32x128.Idx → Elt F .fp8e4m3) (fg : S2x72x12x32x128.Idx → Elt F .fp8e5m2)
    (Q : Unit → sProp 𝕄) (kk : Prog (TpuEff nD τ sig (Elt F) Λ₀ .tc) Unit) :
    ∀ (ts : List (RdOff × OutOff)) (ls : List (Fin 12)) (fo : S3x9x12x32x128.Idx → Elt F .bf16),
      ts.map (fun p => p.1.o) = ls.map (fun k => ![s, n, k.val, 0, 0]) → ts.map (fun p => p.2.o) = ls.map (fun k => ![b, i, k.val, 0, 0]) →
      iprop(ptX c s j fx ∗ ptG c s j fg ∗ ptO c b fo)
        ⊢ iprop((iprop(ptX c s j fx ∗ ptG c s j fg ∗ ptO c b (outAll b i (dxTile fc fx fg s n) ls fo)) -∗ Wp c kk Q)
            -∗ Wp c (dxTiles XM GM OM (Memref.isWhole_whole _) (getC rC0 fc) (getC rC1 fc) (getC rC2 fc) ts kk) Q)
  | [], [], fo, _, _ => by
    iintro H Hk
    iapply Hk
    iexact H
  | (t, u) :: ts, k :: ks, fo, h, h' => by
    have ht : t.o = ![s, n, k.val, 0, 0] := (List.cons.inj h).1
    have hts : ts.map (fun p => p.1.o) = ks.map (fun k => ![s, n, k.val, 0, 0]) := (List.cons.inj h).2
    have hu : u.o = ![b, i, k.val, 0, 0] := (List.cons.inj h').1
    have hus : ts.map (fun p => p.2.o) = ks.map (fun k => ![b, i, k.val, 0, 0]) := (List.cons.inj h').2
    have hs := tile_sub ht hj t.inb
    have hb := out_sub hu u.inb
    iintro ⟨HX, HG, HO⟩ Hk
    unfold dxTiles
    simp only [Prog.lift, Prog.bind_op, Prog.bind_ret]
    iapply (wp_load_rect 𝒱₀ (c : Thread nD τ) none Set.univ (m := GM) (r := Rect.unit (s := S2x72x12x32x128) t.o S1x1x1x32x128.size t.inb) (S := CK s j) (f := fg) (by rw [View.set_slice_whole]; exact hs)) $$ HG
    iintro HG
    iapply (wp_load_rect 𝒱₀ (c : Thread nD τ) none Set.univ (m := XM) (r := Rect.unit (s := S2x72x12x32x128) t.o S1x1x1x32x128.size t.inb) (S := CK s j) (f := fx) (by rw [View.set_slice_whole]; exact hs)) $$ HX
    iintro HX
    iapply (wp_load_rect 𝒱₀ (c : Thread nD τ) none Set.univ (m := OM) (r := Rect.unit (s := S3x9x12x32x128) u.o S1x1x1x32x128.size u.inb) (S := SB b) (f := fo) (by rw [View.set_slice_whole]; exact hb)) $$ HO
    iintro HO
    iapply (wp_store 𝒱₀ (c : Thread nD τ) none Set.univ (m := OM) (r := Rect.unit (s := S3x9x12x32x128) u.o S1x1x1x32x128.size u.inb) (S := SB b) (f := fo) (by rw [View.setOn_univ, View.set_slice_whole]; exact hb)) $$ HO
    rw [writeO hu, readX ht, readG ht]
    iintro HO
    iapply (dx_wp s n j b i hj fc fx fg Q kk ts ks (putOut fo b i k (dxTile fc fx fg s n k)) hts hus) $$ [HX HG HO]
    · isplitl [HX]; · iexact HX
      isplitl [HG]; · iexact HG
      iexact HO
    iexact Hk

/-- One slab's `dx` rows. -/
theorem dxStep_wp (s n j b i : ℕ) (hj : n / 9 = j) (fc : S3x32x128.Idx → Elt F .f32) (fx : S2x72x12x32x128.Idx → Elt F .fp8e4m3) (fg : S2x72x12x32x128.Idx → Elt F .fp8e5m2)
    (fo : S3x9x12x32x128.Idx → Elt F .bf16)
    (Q : Unit → sProp 𝕄) (kk : Prog (TpuEff nD τ sig (Elt F) Λ₀ .tc) Unit) (ts : List (RdOff × OutOff))
    (h : ts.map (fun p => p.1.o) = tileOffs s n) (h' : ts.map (fun p => p.2.o) = tileOffs b i) :
    iprop(ptC c fc ∗ ptX c s j fx ∗ ptG c s j fg ∗ ptO c b fo)
      ⊢ iprop((iprop(ptC c fc ∗ ptX c s j fx ∗ ptG c s j fg ∗ ptO c b (outAll b i (dxTile fc fx fg s n) (List.finRange 12) fo)) -∗ Wp c kk Q)
          -∗ Wp c (dxStep XM GM OM (Memref.isWhole_whole _) CM ts kk) Q) := by
  iintro ⟨HC, HX, HG, HO⟩ Hk
  unfold dxStep
  simp only [Prog.lift, Prog.bind_op, Prog.bind_ret]
  iapply (wp_load_rect 𝒱₀ (c : Thread nD τ) none Set.univ (m := CM) (r := rC0) (S := Finset.univ) (f := fc) (Finset.subset_univ _)) $$ HC
  iintro HC
  iapply (wp_load_rect 𝒱₀ (c : Thread nD τ) none Set.univ (m := CM) (r := rC1) (S := Finset.univ) (f := fc) (Finset.subset_univ _)) $$ HC
  iintro HC
  iapply (wp_load_rect 𝒱₀ (c : Thread nD τ) none Set.univ (m := CM) (r := rC2) (S := Finset.univ) (f := fc) (Finset.subset_univ _)) $$ HC
  iintro HC
  iapply (dx_wp c s n j b i hj fc fx fg Q kk ts (List.finRange 12) fo h h') $$ [HX HG HO]
  · isplitl [HX]; · iexact HX
    isplitl [HG]; · iexact HG
    iexact HO
  iintro ⟨HX, HG, HO⟩
  iapply Hk
  isplitl [HC]; · iexact HC
  isplitl [HX]; · iexact HX
  isplitl [HG]; · iexact HG
  iexact HO

end Cert.KernelIdeal.Hand
-- ==== Proof.KI.Chunks.lean ====
/-
  A chunk's transfers, run: its three arrivals started and waited for, its finished `dx` block sent and waited for, and
  what each hands over.
-/
module

public import proofs.«01_k».proof.Proof.KI.Tiles

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Cells -/

theorem cin_inb (k : Fin 3) (g : ℕ) (j : Fin 8) : ∀ a, (![k.val, g % 2, j.val] : Fin 3 → ℕ) a + S1x1x1.size a ≤ S3x2x8.size a := by
  have := k.isLt; have := j.isLt
  intro a; fin_cases a
  · show k.val + 1 ≤ 3; omega
  · show g % 2 + 1 ≤ 2; omega
  · show j.val + 1 ≤ 8; omega
theorem cout_inb (b : Fin 3) : ∀ a, (![b.val] : Fin 1 → ℕ) a + S1.size a ≤ S3.size a := by
  have := b.isLt
  intro a; fin_cases a
  show b.val + 1 ≤ 3; omega

/-- The semaphore cell of array `k`'s chunk `j` in group `g`'s slot. -/
def cellIn (k : Fin 3) (g : ℕ) (j : Fin 8) : DmaSem sig := R0.cin ![k.val, g % 2, j.val] (cin_inb k g j)
/-- The semaphore cell of output staging buffer `b`. -/
def cellOut (b : Fin 3) : DmaSem sig := R0.cout ![b.val] (cout_inb b)

theorem cellIn_congr (k : Fin 3) {g g' : ℕ} (h : g % 2 = g' % 2) (j : Fin 8) : cellIn k g j = cellIn k g' j := by
  unfold cellIn; congr 1; rw [h]

variable (c : Dev nD) (XA : S72x12x32x768.Idx → Elt F .fp8e4m3) (GA : S72x12x32x768.Idx → Elt F .fp8e5m2) (MA : S72x12x32x768.Idx → Elt F .i8)

/-- A cell at rest. -/
abbrev atRest (s : DmaSem sig) : sProp 𝕄 := semVal ((c : Thread nD τ), SemLoc.dma s) 0

abbrev hpX (g j : ℕ) : sProp 𝕄 := hxM.view.loc (c : Thread nD τ) ↦[HB g j]{fullShare} XA
abbrev hpG (g j : ℕ) : sProp 𝕄 := hgM.view.loc (c : Thread nD τ) ↦[HB g j]{fullShare} GA
abbrev hpM (g j : ℕ) : sProp 𝕄 := hmM.view.loc (c : Thread nD τ) ↦[HB g j]{fullShare} MA
abbrev hpD (g j : ℕ) (f : S72x12x32x768.Idx → Elt F .bf16) : sProp 𝕄 := hdM.view.loc (c : Thread nD τ) ↦[HB g j]{fullShare} f

theorem cgX {s j : ℕ} {f g : S2x72x12x32x128.Idx → Elt F .fp8e4m3} (h : ∀ y ∈ CK s j, f y = g y) : ptX c s j f = ptX c s j g := pointsTo_congr h
theorem cgG {s j : ℕ} {f g : S2x72x12x32x128.Idx → Elt F .fp8e5m2} (h : ∀ y ∈ CK s j, f y = g y) : ptG c s j f = ptG c s j g := pointsTo_congr h
theorem cgM {s j : ℕ} {f g : S2x72x12x32x128.Idx → Elt F .i8} (h : ∀ y ∈ CK s j, f y = g y) : ptM c s j f = ptM c s j g := pointsTo_congr h
theorem cgO {b : ℕ} {f g : S3x9x12x32x128.Idx → Elt F .bf16} (h : ∀ y ∈ SB b, f y = g y) : ptO c b f = ptO c b g := pointsTo_congr h
theorem cgD {g j : ℕ} {f f' : S72x12x32x768.Idx → Elt F .bf16} (h : ∀ y ∈ HB g j, f y = f' y) : hpD c g j f = hpD c g j f' := pointsTo_congr h

/-- A chunk of the three arrays at home. -/
def Home (g j : ℕ) : sProp 𝕄 := iprop(hpX c XA g j ∗ hpG c GA g j ∗ hpM c MA g j)

/-- A chunk of the three buffers held at anything, its cells at rest. -/
def Free (g : ℕ) (j : Fin 8) : sProp 𝕄 :=
  iprop((∃ f, ptX c (g % 2) j f) ∗ (∃ f, ptG c (g % 2) j f) ∗ (∃ f, ptM c (g % 2) j f)
    ∗ atRest c (cellIn 0 g j) ∗ atRest c (cellIn 1 g j) ∗ atRest c (cellIn 2 g j))

theorem Free_congr {g g' : ℕ} (h : g % 2 = g' % 2) (j : Fin 8) : Free (F := F) c g j = Free c g' j := by
  unfold Free; rw [h, cellIn_congr 0 h, cellIn_congr 1 h, cellIn_congr 2 h]

/-- A chunk's arrival moves this many units on its cell; a departure this many. -/
def nIn : ℕ := (chunkOf XM ![0, 0, 0, 0, 0] (by decide)).view.dmaCredit
def nIn1 : ℕ := (chunkOf GM ![0, 0, 0, 0, 0] (by decide)).view.dmaCredit
def nIn2 : ℕ := (chunkOf MM ![0, 0, 0, 0, 0] (by decide)).view.dmaCredit
def nOut : ℕ := (blockOf hdM ![0, 0, 0, 0] (by decide)).view.dmaCredit
theorem nIn_pos : 0 < nIn := by decide +kernel
theorem nIn1_pos : 0 < nIn1 := by decide +kernel
theorem nIn2_pos : 0 < nIn2 := by decide +kernel
theorem nOut_pos : 0 < nOut := by decide +kernel

/-- A chunk's three arrivals under way. -/
def InFl (g : ℕ) (j : Fin 8) : sProp 𝕄 :=
  iprop(Transfers.Flight countersEmb (c : Thread nD τ) (SemLoc.dma (cellIn 0 g j)) () nIn iprop(ptX c (g % 2) j (grp g XA) ∗ hpX c XA g j)
    ∗ Transfers.Flight countersEmb (c : Thread nD τ) (SemLoc.dma (cellIn 1 g j)) () nIn1 iprop(ptG c (g % 2) j (grp g GA) ∗ hpG c GA g j)
    ∗ Transfers.Flight countersEmb (c : Thread nD τ) (SemLoc.dma (cellIn 2 g j)) () nIn2 iprop(ptM c (g % 2) j (grp g MA) ∗ hpM c MA g j))

/-- A chunk arrived. -/
def Arr (g : ℕ) (j : Fin 8) : sProp 𝕄 :=
  iprop(ptX c (g % 2) j (grp g XA) ∗ ptG c (g % 2) j (grp g GA) ∗ ptM c (g % 2) j (grp g MA)
    ∗ atRest c (cellIn 0 g j) ∗ atRest c (cellIn 1 g j) ∗ atRest c (cellIn 2 g j))

/-- The waits a core has made. -/
abbrev Owes : sProp 𝕄 := iprop(∃ W, owes (c : Thread nD τ) 0 W)

/-! ## One array's transfer -/

theorem startX (g : ℕ) (hg : g < 6) (j : ℕ) {b : Fin 5 → ℕ} {h : Fin 4 → ℕ} (eb : b = ![g % 2, 9 * j, 0, 0, 0]) (eh : h = ![9 * j, 0, 0, 128 * g]) (bi) (hi) (s : DmaSem sig)
    {hsrc : (blockOf hxM h hi).view.WordExact} {hdst : (chunkOf XM b bi).view.WordExact} {hsem}
    (k : PUnit → Prog (TpuEff nD τ sig (Elt F) Λ₀ .tc) Unit) (Q : Unit → sProp 𝕄) :
    iprop((∃ f, ptX c (g % 2) j f) ∗ hpX c XA g j ∗ atRest c s)
      ⊢ iprop((Transfers.Flight countersEmb (c : Thread nD τ) (SemLoc.dma s) () nIn iprop(ptX c (g % 2) j (grp g XA) ∗ hpX c XA g j) -∗ Wp c (k ⟨⟩) Q)
          -∗ Wp c (.op (.enqueueDma (blockOf hxM h hi) (.here (chunkOf XM b bi)) (.dma s) hsrc hdst hsem) k) Q) := by
  iintro ⟨⟨%f, HX⟩, HH, C⟩ Hk
  have ss := setX eb bi
  have tt := setHx eh hi
  iapply (Transfers.wp_dmaLocal countersEmb 𝒱₀ (c : Thread nD τ) none (src := blockOf hxM h hi) (dst := chunkOf XM b bi) (sm := SemLoc.dma s) (q := fullShare) (fs := XA) (Sd := CK (g % 2) j) (fd := f) () nIn rfl nIn_pos (ss ▸ le_rfl)) $$ [HX HH C]
  · isplitl [HH]
    · rw [tt]; iexact HH
    isplitl [HX]; · iexact HX
    iexact C
  iintro F0
  iapply Hk
  iapply (Transfers.Flight_mono countersEmb (c : Thread nD τ) (D' := iprop(ptX c (g % 2) j (grp g XA) ∗ hpX c XA g j)) ?_) $$ F0
  rw [tt]
  exact sep_mono (entails_of_eq (cgX c (landX (F := F) hg eb eh bi hi f XA))) .rfl

theorem waitX (j : ℕ) {b : Fin 5 → ℕ} {h : Fin 4 → ℕ} (bi) (hi) (s : DmaSem sig) (D : sProp 𝕄)
    {hsrc : (blockOf hxM h hi).view.WordExact} {hdst : (chunkOf XM b bi).view.WordExact}
    (k : PUnit → Prog (TpuEff nD τ sig (Elt F) Λ₀ .tc) Unit) (Q : Unit → sProp 𝕄) :
    iprop(Transfers.Flight countersEmb (c : Thread nD τ) (SemLoc.dma s) () nIn D ∗ Owes c)
      ⊢ iprop((iprop(D ∗ atRest c s ∗ Owes c) -∗ Wp c (k ⟨⟩) Q)
          -∗ Wp c (.op (.waitDma2 s (blockOf hxM h hi) (chunkOf XM b bi) hsrc hdst) k) Q) := by
  iintro ⟨F0, ⟨%W, HW⟩⟩ Hk
  iapply (Transfers.wp_waitLocal countersEmb 𝒱₀ (c : Thread nD τ) none (sem := s) (srcw := blockOf hxM h hi) (dstw := chunkOf XM b bi) () (N := nIn) rfl (W := W)) $$ [F0 HW]
  · isplitl [F0]; · iexact F0
    iexact HW
  iintro ⟨HD, HC, HW⟩
  iapply Hk
  isplitl [HD]; · iexact HD
  isplitl [HC]; · iexact HC
  iexists _; iexact HW

theorem startG (g : ℕ) (hg : g < 6) (j : ℕ) {b : Fin 5 → ℕ} {h : Fin 4 → ℕ} (eb : b = ![g % 2, 9 * j, 0, 0, 0]) (eh : h = ![9 * j, 0, 0, 128 * g]) (bi) (hi) (s : DmaSem sig)
    {hsrc : (blockOf hgM h hi).view.WordExact} {hdst : (chunkOf GM b bi).view.WordExact} {hsem}
    (k : PUnit → Prog (TpuEff nD τ sig (Elt F) Λ₀ .tc) Unit) (Q : Unit → sProp 𝕄) :
    iprop((∃ f, ptG c (g % 2) j f) ∗ hpG c GA g j ∗ atRest c s)
      ⊢ iprop((Transfers.Flight countersEmb (c : Thread nD τ) (SemLoc.dma s) () nIn1 iprop(ptG c (g % 2) j (grp g GA) ∗ hpG c GA g j) -∗ Wp c (k ⟨⟩) Q)
          -∗ Wp c (.op (.enqueueDma (blockOf hgM h hi) (.here (chunkOf GM b bi)) (.dma s) hsrc hdst hsem) k) Q) := by
  iintro ⟨⟨%f, HX⟩, HH, C⟩ Hk
  have ss := setG eb bi
  have tt := setHg eh hi
  iapply (Transfers.wp_dmaLocal countersEmb 𝒱₀ (c : Thread nD τ) none (src := blockOf hgM h hi) (dst := chunkOf GM b bi) (sm := SemLoc.dma s) (q := fullShare) (fs := GA) (Sd := CK (g % 2) j) (fd := f) () nIn1 rfl nIn1_pos (ss ▸ le_rfl)) $$ [HX HH C]
  · isplitl [HH]
    · rw [tt]; iexact HH
    isplitl [HX]; · iexact HX
    iexact C
  iintro F0
  iapply Hk
  iapply (Transfers.Flight_mono countersEmb (c : Thread nD τ) (D' := iprop(ptG c (g % 2) j (grp g GA) ∗ hpG c GA g j)) ?_) $$ F0
  rw [tt]
  exact sep_mono (entails_of_eq (cgG c (landG (F := F) hg eb eh bi hi f GA))) .rfl

theorem waitG (j : ℕ) {b : Fin 5 → ℕ} {h : Fin 4 → ℕ} (bi) (hi) (s : DmaSem sig) (D : sProp 𝕄)
    {hsrc : (blockOf hgM h hi).view.WordExact} {hdst : (chunkOf GM b bi).view.WordExact}
    (k : PUnit → Prog (TpuEff nD τ sig (Elt F) Λ₀ .tc) Unit) (Q : Unit → sProp 𝕄) :
    iprop(Transfers.Flight countersEmb (c : Thread nD τ) (SemLoc.dma s) () nIn1 D ∗ Owes c)
      ⊢ iprop((iprop(D ∗ atRest c s ∗ Owes c) -∗ Wp c (k ⟨⟩) Q)
          -∗ Wp c (.op (.waitDma2 s (blockOf hgM h hi) (chunkOf GM b bi) hsrc hdst) k) Q) := by
  iintro ⟨F0, ⟨%W, HW⟩⟩ Hk
  iapply (Transfers.wp_waitLocal countersEmb 𝒱₀ (c : Thread nD τ) none (sem := s) (srcw := blockOf hgM h hi) (dstw := chunkOf GM b bi) () (N := nIn1) rfl (W := W)) $$ [F0 HW]
  · isplitl [F0]; · iexact F0
    iexact HW
  iintro ⟨HD, HC, HW⟩
  iapply Hk
  isplitl [HD]; · iexact HD
  isplitl [HC]; · iexact HC
  iexists _; iexact HW

theorem startM (g : ℕ) (hg : g < 6) (j : ℕ) {b : Fin 5 → ℕ} {h : Fin 4 → ℕ} (eb : b = ![g % 2, 9 * j, 0, 0, 0]) (eh : h = ![9 * j, 0, 0, 128 * g]) (bi) (hi) (s : DmaSem sig)
    {hsrc : (blockOf hmM h hi).view.WordExact} {hdst : (chunkOf MM b bi).view.WordExact} {hsem}
    (k : PUnit → Prog (TpuEff nD τ sig (Elt F) Λ₀ .tc) Unit) (Q : Unit → sProp 𝕄) :
    iprop((∃ f, ptM c (g % 2) j f) ∗ hpM c MA g j ∗ atRest c s)
      ⊢ iprop((Transfers.Flight countersEmb (c : Thread nD τ) (SemLoc.dma s) () nIn2 iprop(ptM c (g % 2) j (grp g MA) ∗ hpM c MA g j) -∗ Wp c (k ⟨⟩) Q)
          -∗ Wp c (.op (.enqueueDma (blockOf hmM h hi) (.here (chunkOf MM b bi)) (.dma s) hsrc hdst hsem) k) Q) := by
  iintro ⟨⟨%f, HX⟩, HH, C⟩ Hk
  have ss := setM eb bi
  have tt := setHm eh hi
  iapply (Transfers.wp_dmaLocal countersEmb 𝒱₀ (c : Thread nD τ) none (src := blockOf hmM h hi) (dst := chunkOf MM b bi) (sm := SemLoc.dma s) (q := fullShare) (fs := MA) (Sd := CK (g % 2) j) (fd := f) () nIn2 rfl nIn2_pos (ss ▸ le_rfl)) $$ [HX HH C]
  · isplitl [HH]
    · rw [tt]; iexact HH
    isplitl [HX]; · iexact HX
    iexact C
  iintro F0
  iapply Hk
  iapply (Transfers.Flight_mono countersEmb (c : Thread nD τ) (D' := iprop(ptM c (g % 2) j (grp g MA) ∗ hpM c MA g j)) ?_) $$ F0
  rw [tt]
  exact sep_mono (entails_of_eq (cgM c (landM (F := F) hg eb eh bi hi f MA))) .rfl

theorem waitM (j : ℕ) {b : Fin 5 → ℕ} {h : Fin 4 → ℕ} (bi) (hi) (s : DmaSem sig) (D : sProp 𝕄)
    {hsrc : (blockOf hmM h hi).view.WordExact} {hdst : (chunkOf MM b bi).view.WordExact}
    (k : PUnit → Prog (TpuEff nD τ sig (Elt F) Λ₀ .tc) Unit) (Q : Unit → sProp 𝕄) :
    iprop(Transfers.Flight countersEmb (c : Thread nD τ) (SemLoc.dma s) () nIn2 D ∗ Owes c)
      ⊢ iprop((iprop(D ∗ atRest c s ∗ Owes c) -∗ Wp c (k ⟨⟩) Q)
          -∗ Wp c (.op (.waitDma2 s (blockOf hmM h hi) (chunkOf MM b bi) hsrc hdst) k) Q) := by
  iintro ⟨F0, ⟨%W, HW⟩⟩ Hk
  iapply (Transfers.wp_waitLocal countersEmb 𝒱₀ (c : Thread nD τ) none (sem := s) (srcw := blockOf hmM h hi) (dstw := chunkOf MM b bi) () (N := nIn2) rfl (W := W)) $$ [F0 HW]
  · isplitl [F0]; · iexact F0
    iexact HW
  iintro ⟨HD, HC, HW⟩
  iapply Hk
  isplitl [HD]; · iexact HD
  isplitl [HC]; · iexact HC
  iexists _; iexact HW

/-! ## A chunk's three -/

theorem startIn_wp (g : ℕ) (hg : g < 6) (j : Fin 8) (n : InOff) (hn : n.IsAt g j) (kk : Prog (TpuEff nD τ sig (Elt F) Λ₀ .tc) Unit) (Q : Unit → sProp 𝕄) :
    iprop(Free c g j ∗ Home c XA GA MA g j) ⊢ iprop((InFl c XA GA MA g j -∗ Wp c kk Q) -∗ Wp c (startIn R0 n kk) Q) := by
  obtain ⟨s0, i0, s1, i1, s2, i2, b, bi, b0, b1, b2, h, hi, h0, h1, h2⟩ := n
  obtain ⟨e0, e1, e2, eb, eh⟩ := hn
  dsimp only at e0 e1 e2 eb eh
  subst e0 e1 e2
  unfold Free Home InFl
  iintro ⟨⟨HX, HG, HM, C0, C1, C2⟩, HHX, HHG, HHM⟩ Hk
  unfold startIn
  simp only [Prog.lift, Prog.bind_op, Prog.bind_ret]
  iapply (startX c XA g hg j eb eh bi hi (cellIn 0 g j)) $$ [HX HHX C0]
  · isplitl [HX]; · iexact HX
    isplitl [HHX]; · iexact HHX
    iexact C0
  iintro F0
  iapply (startG c GA g hg j eb eh bi hi (cellIn 1 g j)) $$ [HG HHG C1]
  · isplitl [HG]; · iexact HG
    isplitl [HHG]; · iexact HHG
    iexact C1
  iintro F1
  iapply (startM c MA g hg j eb eh bi hi (cellIn 2 g j)) $$ [HM HHM C2]
  · isplitl [HM]; · iexact HM
    isplitl [HHM]; · iexact HHM
    iexact C2
  iintro F2
  iapply Hk
  isplitl [F0]; · iexact F0
  isplitl [F1]; · iexact F1
  iexact F2

theorem waitIn_wp (g : ℕ) (j : Fin 8) (n : InOff) (hn : n.IsAt g j) (kk : Prog (TpuEff nD τ sig (Elt F) Λ₀ .tc) Unit) (Q : Unit → sProp 𝕄) :
    iprop(InFl c XA GA MA g j ∗ Owes c) ⊢ iprop((iprop(Arr c XA GA MA g j ∗ Home c XA GA MA g j ∗ Owes c) -∗ Wp c kk Q) -∗ Wp c (waitIn R0 n kk) Q) := by
  obtain ⟨s0, i0, s1, i1, s2, i2, b, bi, b0, b1, b2, h, hi, h0, h1, h2⟩ := n
  obtain ⟨e0, e1, e2, eb, eh⟩ := hn
  dsimp only at e0 e1 e2 eb eh
  subst e0 e1 e2
  unfold Arr Home InFl
  iintro ⟨⟨F0, F1, F2⟩, HW⟩ Hk
  unfold waitIn
  simp only [Prog.lift, Prog.bind_op, Prog.bind_ret]
  iapply (waitX c j bi hi (cellIn 0 g j)) $$ [F0 HW]
  · isplitl [F0]; · iexact F0
    iexact HW
  iintro ⟨⟨HX, HHX⟩, C0, HW⟩
  iapply (waitG c j bi hi (cellIn 1 g j)) $$ [F1 HW]
  · isplitl [F1]; · iexact F1
    iexact HW
  iintro ⟨⟨HG, HHG⟩, C1, HW⟩
  iapply (waitM c j bi hi (cellIn 2 g j)) $$ [F2 HW]
  · isplitl [F2]; · iexact F2
    iexact HW
  iintro ⟨⟨HM, HHM⟩, C2, HW⟩
  iapply Hk
  isplitl [HX HG HM C0 C1 C2]
  · isplitl [HX]; · iexact HX
    isplitl [HG]; · iexact HG
    isplitl [HM]; · iexact HM
    isplitl [C0]; · iexact C0
    isplitl [C1]; · iexact C1
    iexact C2
  isplitl [HHX HHG HHM]
  · isplitl [HHX]; · iexact HHX
    isplitl [HHG]; · iexact HHG
    iexact HHM
  iexact HW

/-! ## A departure -/

/-- Output staging buffer `b` held at anything, its cell at rest. -/
def StFree (b : Fin 3) : sProp 𝕄 := iprop((∃ f, ptO c b f) ∗ atRest c (cellOut b))

/-- A finished chunk on its way home: when it is there, its block of the result holds `DV`. -/
def OutFl (b : Fin 3) (g j : ℕ) (DV : S72x12x32x768.Idx → Elt F .bf16) : sProp 𝕄 :=
  Transfers.Flight countersEmb (c : Thread nD τ) (SemLoc.dma (cellOut b)) () nOut iprop(hpD c g j DV ∗ ∃ f, ptO c b f)

theorem startOut_wp (g j : ℕ) (b : Fin 3) (hb : (8 * g + j) % 3 = b.val) (n : SendOff) (hn : n.IsAt g j)
    (DV : S72x12x32x768.Idx → Elt F .bf16) (fo : S3x9x12x32x128.Idx → Elt F .bf16) (hv : ∀ y ∈ HB g j, fo (toStage b.val b.isLt y) = DV y)
    (kk : Prog (TpuEff nD τ sig (Elt F) Λ₀ .tc) Unit) (Q : Unit → sProp 𝕄) :
    iprop(ptO c b fo ∗ (∃ f, hpD c g j f) ∗ atRest c (cellOut b)) ⊢ iprop((OutFl c b g j DV -∗ Wp c kk Q) -∗ Wp c (startOut R0 n kk) Q) := by
  obtain ⟨s, si, h, hi, hw, o, oi, ow⟩ := n
  obtain ⟨es, eo, eh⟩ := hn
  dsimp only at es eo eh
  rw [hb] at es eo
  subst es
  iintro ⟨HO, ⟨%f, HD⟩, HC⟩ Hk
  unfold startOut
  simp only [Prog.lift, Prog.bind_op, Prog.bind_ret]
  have ss := setHd eh hi
  have tt := setO eo oi
  iapply (Transfers.wp_dmaLocal countersEmb 𝒱₀ (c : Thread nD τ) none (src := stageOf OM o oi) (dst := blockOf hdM h hi) (sm := SemLoc.dma (cellOut b)) (q := fullShare) (fs := fo) (Sd := HB g j) (fd := f) () nOut rfl nOut_pos (ss ▸ le_rfl)) $$ [HO HD HC]
  · isplitl [HO]
    · rw [tt]; iexact HO
    isplitl [HD]; · iexact HD
    iexact HC
  iintro F0
  iapply Hk
  unfold OutFl
  iapply (Transfers.Flight_mono countersEmb (c : Thread nD τ) (D' := iprop(hpD c g j DV ∗ ∃ f, ptO c b f)) ?_) $$ F0
  rw [tt]
  refine BIClass.sep_mono (entails_of_eq (cgD c (fun y hy => (landD (F := F) b.isLt eo eh oi hi f fo y hy).trans (hv y hy)))) ?_
  iintro H2
  iexists fo; iexact H2

theorem waitOut_wp (g j : ℕ) (b : Fin 3) (n : SendOff) (hs : n.s = ![b.val]) (DV : S72x12x32x768.Idx → Elt F .bf16)
    (kk : Prog (TpuEff nD τ sig (Elt F) Λ₀ .tc) Unit) (Q : Unit → sProp 𝕄) :
    iprop(OutFl c b g j DV ∗ Owes c) ⊢ iprop((iprop(hpD c g j DV ∗ StFree c b ∗ Owes c) -∗ Wp c kk Q) -∗ Wp c (waitOut R0 n kk) Q) := by
  obtain ⟨s, si, h, hi, hw, o, oi, ow⟩ := n
  dsimp only at hs
  subst hs
  unfold OutFl StFree
  iintro ⟨F0, ⟨%W, HW⟩⟩ Hk
  unfold waitOut
  simp only [Prog.lift, Prog.bind_op, Prog.bind_ret]
  iapply (Transfers.wp_waitLocal countersEmb 𝒱₀ (c : Thread nD τ) none (sem := cellOut b) (srcw := stageOf OM o oi) (dstw := blockOf hdM h hi) () (N := nOut) rfl (W := W)) $$ [F0 HW]
  · isplitl [F0]; · iexact F0
    iexact HW
  iintro ⟨⟨HD, HO⟩, HC, HW⟩
  iapply Hk
  isplitl [HD]; · iexact HD
  isplitl [HO HC]
  · isplitl [HO]; · iexact HO
    iexact HC
  iexists _; iexact HW

end Cert.KernelIdeal.Hand
-- ==== Proof.KI.Values.lean ====
/-
  What the kernel computes, by group: the masked gradients, the sums slab after slab, the statistics' rows, the
  coefficients and the `dx` tiles — and one step of the inner loop, which advances each of them by a slab.
-/
module

public import proofs.«01_k».proof.Proof.KI.Chunks

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the kernel is given: the three arrays, the two scales and the three rows of statistics. -/
structure Ins (F : FTy → Type) where
  X : S72x12x32x768.Idx → Elt F .fp8e4m3
  G : S72x12x32x768.Idx → Elt F .fp8e5m2
  M : S72x12x32x768.Idx → Elt F .i8
  xs : Elt F .f32
  ys : Elt F .f32
  me : S6x128.Idx → Elt F .f32
  rs : S6x128.Idx → Elt F .f32
  ga : S6x128.Idx → Elt F .f32

variable (c : Dev nD) (I : Ins F)

/-- A masked tile. -/
def mskT (g n : ℕ) (k : Fin 12) : FVec F S32x128 .fp8e5m2 := mtile (grp g I.M) (grp g I.G) 0 n k

/-- A group's gradients with the first `n` slabs masked. -/
def GS (g n : ℕ) : S2x72x12x32x128.Idx → Elt F .fp8e5m2 := fun i =>
  if (i 1).val < n then k0_pay100 (mskT I g (i 1).val ⟨(i 2).val, (i 2).isLt⟩) (ixT ⟨(i 3).val, (i 3).isLt⟩ ⟨(i 4).val, (i 4).isLt⟩) else grp g I.G i

/-- The ones, wide. -/
def onesF : FVec F S16x128 .f32 := k0_pay1 (getN (k0_pay733 (F := F)))

/-- The accumulators of group `g` after `n` slabs. -/
def accAt (g : ℕ) : ℕ → S2x8x128.Idx → Elt F .f32
  | 0 => k0_pay734
  | n + 1 => accNext (sumsOver onesF (grp g I.X) (grp g I.G) (grp g I.M) 0 n (List.finRange 12) none) (accAt g n)

/-- An index of a row of statistics. -/
def ixR (g : ℕ) (l : Fin 128) : S6x128.Idx := fun a => match a with
  | ⟨0, _⟩ => (⟨g % 6, Nat.mod_lt _ (by decide)⟩ : Fin 6)
  | ⟨1, _⟩ => l
  | ⟨_ + 2, h⟩ => absurd h (Nat.not_lt.2 (Nat.le_add_left _ _))
def ix1 (l : Fin 128) : S1x128.Idx := fun a => match a with
  | ⟨0, _⟩ => (⟨0, by decide⟩ : Fin 1)
  | ⟨1, _⟩ => l
  | ⟨_ + 2, h⟩ => absurd h (Nat.not_lt.2 (Nat.le_add_left _ _))

/-- Row `g` of the statistics. -/
def rowOf {α : Type} (f : S6x128.Idx → α) (g : ℕ) : S1x128.Idx → α := fun i => f (ixR g ⟨(i 1).val, (i 1).isLt⟩)

def gA0 (g : ℕ) : S1x8x128.Idx → Elt F .f32 := getA rA0 (accAt I g 72)
def gA1 (g : ℕ) : S1x8x128.Idx → Elt F .f32 := getA rA1 (accAt I g 72)
def dbRow (g : ℕ) : S1x128.Idx → Elt F .f32 := k0_pay741 (k0_pay739 (gA0 I g)) (k0_pay740 I.ys)
def dgRow (g : ℕ) : S1x128.Idx → Elt F .f32 :=
  k0_pay742 I.xs I.ys (k0_pay736 (rowOf I.me g)) (k0_pay737 (rowOf I.rs g)) (k0_pay739 (gA0 I g)) (k0_pay740 I.ys) (gA1 I g)
def cf0 (g : ℕ) : S1x32x128.Idx → Elt F .f32 := k0_pay745 I.ys (k0_pay737 (rowOf I.rs g)) (k0_pay738 (rowOf I.ga g))
def cf1 (g : ℕ) : S1x32x128.Idx → Elt F .f32 :=
  k0_pay746 I.xs I.ys (k0_pay736 (rowOf I.me g)) (k0_pay737 (rowOf I.rs g)) (k0_pay738 (rowOf I.ga g)) (k0_pay739 (gA0 I g)) (k0_pay740 I.ys) (gA1 I g)
def cf2 (g : ℕ) : S1x32x128.Idx → Elt F .f32 :=
  k0_pay748 (k0_pay743 (k0_pay737 (rowOf I.rs g)) (k0_pay738 (rowOf I.ga g)))
    (k0_pay747 I.xs I.ys (k0_pay736 (rowOf I.me g)) (k0_pay737 (rowOf I.rs g)) (k0_pay739 (gA0 I g)) (k0_pay740 I.ys) (gA1 I g))

/-- The coefficient rows of group `g`. -/
def IsCoef (g : ℕ) (f : S3x32x128.Idx → Elt F .f32) : Prop := getC rC0 f = cf0 I g ∧ getC rC1 f = cf1 I g ∧ getC rC2 f = cf2 I g

/-- A tile of `dx`. -/
def dxT (g n : ℕ) (k : Fin 12) : S1x1x1x32x128.Idx → Elt F .bf16 :=
  k0_pay107 (cf0 I g) (cf1 I g) (cf2 I g) (tileAt (GS I g 72) 0 n k) (tileAt (grp g I.X) 0 n k)

/-- A staging buffer with the first `n` rows of chunk `j` of group `g`. -/
def OS (g j n : ℕ) (fo : S3x9x12x32x128.Idx → Elt F .bf16) : S3x9x12x32x128.Idx → Elt F .bf16 := fun i =>
  if (i 1).val < n then dxT I g (9 * j + (i 1).val) ⟨(i 2).val, (i 2).isLt⟩ (ixT ⟨(i 3).val, (i 3).isLt⟩ ⟨(i 4).val, (i 4).isLt⟩) else fo i

/-- The three results. -/
def DV : S72x12x32x768.Idx → Elt F .bf16 := fun i =>
  dxT I ((i 3).val / 128) (i 0).val ⟨(i 1).val, (i 1).isLt⟩ (ixT ⟨(i 2).val, (i 2).isLt⟩ ⟨(i 3).val % 128, Nat.mod_lt _ (by decide)⟩)
def DBV : S6x128.Idx → Elt F .f32 := fun i => dbRow I (i 0).val (ix1 ⟨(i 1).val, (i 1).isLt⟩)
def DGV : S6x128.Idx → Elt F .f32 := fun i => dgRow I (i 0).val (ix1 ⟨(i 1).val, (i 1).isLt⟩)
/-- A statistic with its first `g` rows in place. -/
def rowsTo {α : Type} (g : ℕ) (V f0 : S6x128.Idx → α) : S6x128.Idx → α := fun i => if (i 0).val < g then V i else f0 i

/-! ## A step's values -/

theorem tileAt_grp {α : Type} (g s n : ℕ) (k : Fin 12) (f : S72x12x32x768.Idx → α) : tileAt (grp g f) s n k = tileAt (grp g f) 0 n k := rfl

theorem tileAt_GS (g s n : ℕ) (hn : n < 72) (k : Fin 12) : tileAt (GS I g n) s n k = tileAt (grp g I.G) 0 n k := by
  funext i
  show (if n % 72 < n then _ else _) = _
  rw [if_neg (by omega)]; rfl

theorem mtile_GS (g s n : ℕ) (hn : n < 72) (k : Fin 12) : mtile (grp g I.M) (GS I g n) s n k = mskT I g n k := by
  unfold mskT mtile; rw [tileAt_GS I g s n hn]; rfl

theorem sums_GS (ones : FVec F S16x128 .f32) (g s n : ℕ) (hn : n < 72) : ∀ (ls : List (Fin 12)) (a : Sums F),
    sumsOver ones (grp g I.X) (GS I g n) (grp g I.M) s n ls a = sumsOver ones (grp g I.X) (grp g I.G) (grp g I.M) 0 n ls a
  | [], a => rfl
  | k :: ks, a => by
    unfold sumsOver
    rw [mtile_GS I g s n hn, sums_GS ones g s n hn ks]; rfl

theorem put_GS (g s j n : ℕ) (hn : n < 72) : ∀ y ∈ CK s j,
    putAll s n (fun k => k0_pay100 (mtile (grp g I.M) (GS I g n) s n k)) (List.finRange 12) (GS I g n) y = GS I g (n + 1) y := by
  intro y hy
  have hs := (mem_CK.mp hy).1
  rw [putAll_apply]
  unfold GS
  by_cases h : (y 1).val = n
  · rw [if_pos ⟨hs, h, List.mem_finRange _⟩, if_pos (by omega)]
    have e := mtile_GS I g s n hn ⟨(y 2).val, (y 2).isLt⟩
    unfold GS at e
    rw [e, h]
  · rw [if_neg fun H => h H.2.1]
    by_cases h' : (y 1).val < n
    · rw [if_pos h', if_pos (by omega)]
    · rw [if_neg h', if_neg (by omega)]

theorem tile_GS (g s n : ℕ) (hn : n < 72) (k : Fin 12) : tileAt (GS I g 72) s n k = tileAt (GS I g 72) 0 n k := by
  funext i
  show (if n % 72 < 72 then _ else _) = (if n % 72 < 72 then _ else _)
  rw [if_pos (Nat.mod_lt _ (by decide)), if_pos (Nat.mod_lt _ (by decide))]; rfl

theorem out_OS (g j b i : ℕ) (hn : 9 * j + i < 72) (fo : S3x9x12x32x128.Idx → Elt F .bf16) (h : Fin 12 → S1x1x1x32x128.Idx → Elt F .bf16) (hh : ∀ k, h k = dxT I g (9 * j + i) k) :
    ∀ y ∈ SB b, outAll b i h (List.finRange 12) (OS I g j i fo) y = OS I g j (i + 1) fo y := by
  intro y hy
  have hs := mem_SB.mp hy
  rw [outAll_apply]
  unfold OS
  by_cases h : (y 1).val = i
  · rw [if_pos ⟨hs, h, List.mem_finRange _⟩, if_pos (by omega), hh, h]
  · rw [if_neg fun H => h H.2.1]
    by_cases h' : (y 1).val < i
    · rw [if_pos h', if_pos (by omega)]
    · rw [if_neg h', if_neg (by omega)]

/-! ## The steps -/

/-- What the masked sums hold at slab `n` of group `g`, in chunk `j`. -/
def RedAt (g j n : ℕ) : sProp 𝕄 :=
  iprop(ptN c k0_pay733 ∗ ptA c (accAt I g n) ∗ ptX c (g % 2) j (grp g I.X) ∗ ptG c (g % 2) j (GS I g n) ∗ ptM c (g % 2) j (grp g I.M))

/-- What the `dx` rows hold at row `i` of chunk `j` of group `g`. -/
def DxAt (g j i : ℕ) : sProp 𝕄 :=
  iprop((∃ fc, ⌜IsCoef I g fc⌝ ∗ ptC c fc) ∗ ptX c (g % 2) j (grp g I.X) ∗ ptG c (g % 2) j (GS I g 72) ∗ ∃ fo, ptO c ((8 * g + j) % 3) (OS I g j i fo))

theorem red_at (g j n : ℕ) (hj : n / 9 = j) (hn : n < 72) (ts : List TileOff) (h : ts.map TileOff.o = tileOffs (g % 2) n) (Q : Unit → sProp 𝕄) :
    RedAt c I g j n ⊢ iprop((RedAt c I g j (n + 1) -∗ Wp c (pure ()) Q) -∗ Wp c (redStep XM GM (Memref.isWhole_whole _) MM AM NM ts) Q) := by
  unfold RedAt
  iintro H Hk
  iapply (redStep_wp c (g % 2) n j hj k0_pay733 (grp g I.X) (GS I g n) (grp g I.M) (accAt I g n) Q ts h) $$ H
  rw [sums_GS I _ g (g % 2) n hn, cgG c (put_GS I g (g % 2) j n hn)]
  exact .rfl

theorem dx_at (g j i : ℕ) (hi : i < 9) (hj : j < 8) (ts : List (RdOff × OutOff)) (h : ts.map (fun p => p.1.o) = tileOffs (g % 2) (9 * j + i))
    (h' : ts.map (fun p => p.2.o) = tileOffs ((8 * g + j) % 3) i) (kk : Prog (TpuEff nD τ sig (Elt F) Λ₀ .tc) Unit) (Q : Unit → sProp 𝕄) :
    DxAt c I g j i ⊢ iprop((DxAt c I g j (i + 1) -∗ Wp c kk Q) -∗ Wp c (dxStep XM GM OM (Memref.isWhole_whole _) CM ts kk) Q) := by
  unfold DxAt
  iintro ⟨⟨%fc, %hc, HC⟩, HX, HG, ⟨%fo, HO⟩⟩ Hk
  iapply (dxStep_wp c (g % 2) (9 * j + i) j ((8 * g + j) % 3) i (by omega) fc (grp g I.X) (GS I g 72) (OS I g j i fo) Q kk ts h h') $$ [HC HX HG HO]
  · isplitl [HC]; · iexact HC
    isplitl [HX]; · iexact HX
    isplitl [HG]; · iexact HG
    iexact HO
  have e : ∀ k, dxTile fc (grp g I.X) (GS I g 72) (g % 2) (9 * j + i) k = dxT I g (9 * j + i) k := fun k => by
    unfold dxTile dxT; rw [hc.1, hc.2.1, hc.2.2, tile_GS I g (g % 2) _ (by omega)]; rfl
  rw [cgO c (out_OS I g j ((8 * g + j) % 3) i (by omega) fo _ e)]
  iintro ⟨HC, HX, HG, HO⟩
  iapply Hk
  isplitl [HC]
  · iexists fc; isplitr; · ipureintro; exact hc
    iexact HC
  isplitl [HX]; · iexact HX
  isplitl [HG]; · iexact HG
  iexists fo; iexact HO

end Cert.KernelIdeal.Hand
-- ==== Proof.KI.Steps.lean ====
/-
  One chunk of a phase, run: its group's arrivals waited for, its nine slabs summed and masked, the previous group's
  `dx` rows written and sent, the next group's arrivals started.
-/
module

public import proofs.«01_k».proof.Proof.KI.Values

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem trips8 : loop8.trips = 8 := by decide
theorem trips9 : loop9.trips = 9 := by decide

variable (c : Dev nD) (I : Ins F)

/-- A loop before a continuation, by an invariant. -/
theorem loop_wp (L : Scf.Loop 32) (N : ℕ) (hN : L.trips = N) (ok : L.OK) (body : Fin L.trips → Unit → Prog (TpuEff nD τ sig (Elt F) Λ₀ .tc) Unit) (J : ℕ → sProp 𝕄)
    (hb : ∀ k : Fin L.trips, k.val < N → J k.val ⊢ Wp c (body k ()) (fun _ => J (k.val + 1))) (kk : Prog (TpuEff nD τ sig (Elt F) Λ₀ .tc) Unit) (Q : Unit → sProp 𝕄) :
    J 0 ⊢ iprop((J N -∗ Wp c kk Q) -∗ Wp c (Scf.Loop.for L ok () body >>= fun _ => kk) Q) := by
  subst hN
  iintro H Hk
  iapply (Scf.wp_for_bind frame (wpE (defs₀ (F := F)) 𝒱₀ (c : Thread nD τ) none) Set.univ L.lb L.ub L.st ok () body (fun n _ => J n) (fun k _ => hb k k.isLt)) $$ H
  iintro %_ H
  iapply Hk
  iexact H

theorem pure_wp (P : sProp 𝕄) (Q : Unit → sProp 𝕄) (h : P ⊢ Q ()) : P ⊢ Wp c (pure ()) Q := by
  iintro H
  unfold Wp
  rw [wp_pure]
  imodintro
  iapply h
  iexact H

/-! ## The nine steps -/

theorem loopR (g j : ℕ) (hj : j < 8) (ok : loop9.OK) (P : Phase) (jj : Fin loop8.trips) (r : Fin loop8.trips → Fin loop9.trips → List TileOff) (hP : P.dx = none ∧ P.red = some r)
    (hr : ∀ i, (r jj i).map TileOff.o = tileOffs (g % 2) (9 * j + i.val)) (kk : Prog (TpuEff nD τ sig (Elt F) Λ₀ .tc) Unit) (Q : Unit → sProp 𝕄) :
    RedAt c I g j (9 * j) ⊢ iprop((RedAt c I g j (9 * j + 9) -∗ Wp c kk Q) -∗ Wp c (Scf.Loop.for loop9 ok () (fun i (_ : Unit) => stepBody R0 P jj i) >>= fun _ => kk) Q) := by
  exact loop_wp c loop9 9 trips9 ok (fun i (_ : Unit) => stepBody R0 P jj i) (fun n => RedAt c I g j (9 * j + n)) (fun k hk => by
    unfold stepBody; rw [hP.1, hP.2]
    iintro H
    iapply (red_at c I g j (9 * j + k.val) (by omega) (by omega) _ (hr k)) $$ H
    iintro H
    iapply (pure_wp c (RedAt c I g j (9 * j + k.val + 1)) _ .rfl)
    iexact H) kk Q

theorem loopD (g j : ℕ) (hj : j < 8) (ok : loop9.OK) (P : Phase) (jj : Fin loop8.trips) (d : Fin loop8.trips → Fin loop9.trips → List (RdOff × OutOff)) (hP : P.dx = some d ∧ P.red = none)
    (hd : ∀ i, (d jj i).map (fun p => p.1.o) = tileOffs (g % 2) (9 * j + i.val)) (hd' : ∀ i, (d jj i).map (fun p => p.2.o) = tileOffs ((8 * g + j) % 3) i.val)
    (kk : Prog (TpuEff nD τ sig (Elt F) Λ₀ .tc) Unit) (Q : Unit → sProp 𝕄) :
    DxAt c I g j 0 ⊢ iprop((DxAt c I g j 9 -∗ Wp c kk Q) -∗ Wp c (Scf.Loop.for loop9 ok () (fun i (_ : Unit) => stepBody R0 P jj i) >>= fun _ => kk) Q) := by
  exact loop_wp c loop9 9 trips9 ok (fun i (_ : Unit) => stepBody R0 P jj i) (fun n => DxAt c I g j n) (fun k hk => by
    unfold stepBody; rw [hP.1, hP.2]
    iintro H
    iapply (dx_at c I g j k.val (by omega) hj _ (hd k) (hd' k)) $$ H
    iintro H
    iapply (pure_wp c (DxAt c I g j (k.val + 1)) _ .rfl)
    iexact H) kk Q

theorem loopRD (g q j : ℕ) (hj : j < 8) (ok : loop9.OK) (P : Phase) (jj : Fin loop8.trips) (d : Fin loop8.trips → Fin loop9.trips → List (RdOff × OutOff))
    (r : Fin loop8.trips → Fin loop9.trips → List TileOff) (hP : P.dx = some d ∧ P.red = some r)
    (hd : ∀ i, (d jj i).map (fun p => p.1.o) = tileOffs (q % 2) (9 * j + i.val)) (hd' : ∀ i, (d jj i).map (fun p => p.2.o) = tileOffs ((8 * q + j) % 3) i.val)
    (hr : ∀ i, (r jj i).map TileOff.o = tileOffs (g % 2) (9 * j + i.val))
    (kk : Prog (TpuEff nD τ sig (Elt F) Λ₀ .tc) Unit) (Q : Unit → sProp 𝕄) :
    iprop(DxAt c I q j 0 ∗ RedAt c I g j (9 * j)) ⊢ iprop((iprop(DxAt c I q j 9 ∗ RedAt c I g j (9 * j + 9)) -∗ Wp c kk Q) -∗ Wp c (Scf.Loop.for loop9 ok () (fun i (_ : Unit) => stepBody R0 P jj i) >>= fun _ => kk) Q) := by
  exact loop_wp c loop9 9 trips9 ok (fun i (_ : Unit) => stepBody R0 P jj i) (fun n => iprop(DxAt c I q j n ∗ RedAt c I g j (9 * j + n))) (fun k hk => by
    unfold stepBody; rw [hP.1, hP.2]
    iintro ⟨H, H'⟩
    iapply (dx_at c I q j k.val (by omega) hj _ (hd k) (hd' k)) $$ H
    iintro H
    iapply (red_at c I g j (9 * j + k.val) (by omega) (by omega) _ (hr k)) $$ H'
    iintro H'
    iapply (pure_wp c iprop(DxAt c I q j (k.val + 1) ∗ RedAt c I g j (9 * j + k.val + 1)) _ .rfl)
    isplitl [H]; · iexact H
    iexact H') kk Q

/-! ## The result's chunks -/

/-- Chunk `T` of the result when `t` chunks have been sent: home, on its way, or not yet written. -/
def dSt (t : ℕ) (T : Fin 48) : sProp 𝕄 :=
  if T.val + 3 < t then hpD c (T.val / 8) (T.val % 8) (DV I)
  else if T.val < t then OutFl c ⟨T.val % 3, Nat.mod_lt _ (by decide)⟩ (T.val / 8) (T.val % 8) (DV I)
  else iprop(∃ f, hpD c (T.val / 8) (T.val % 8) f)
/-- Staging buffer `b` then: in use, once a chunk has been sent from it. -/
def sSt (t : ℕ) (b : Fin 3) : sProp 𝕄 := if b.val < t then iprop(emp) else StFree c b
/-- The departures' state when `t` chunks have been sent. -/
def OutSt (t : ℕ) : sProp 𝕄 := iprop(bigSep Finset.univ (dSt c I t) ∗ bigSep Finset.univ (sSt (F := F) c t))

/-- The staging buffer of chunk `t`. -/
abbrev bOf (t : ℕ) : Fin 3 := ⟨t % 3, Nat.mod_lt _ (by decide)⟩

/-- What sending chunk `t` needs of the departures' state once its buffer is free. -/
def Sending (t : ℕ) : sProp 𝕄 :=
  iprop(StFree c (bOf t) ∗ (∃ f, hpD c (t / 8) (t % 8) f) ∗ (OutFl c (bOf t) (t / 8) (t % 8) (DV I) -∗ OutSt c I (t + 1)))

theorem tick_lt (t : ℕ) (ht : t < 3) : OutSt c I t ⊢ Sending c I t := by
  unfold Sending OutSt
  have h1 := bigSep_univ_update (Φ := dSt c I t) (Ψ := dSt c I (t + 1)) (⟨t, by omega⟩ : Fin 48) (fun j hj => by
    have hj' : j.val ≠ t := fun h => hj (Fin.ext h)
    unfold dSt
    rw [if_neg (show ¬ j.val + 3 < t + 1 by omega), if_neg (show ¬ j.val + 3 < t by omega)]
    by_cases h : j.val < t
    · rw [if_pos h, if_pos (by omega)]
    · rw [if_neg h, if_neg (by omega)])
  have h2 := bigSep_univ_update (Φ := sSt (F := F) c t) (Ψ := sSt c (t + 1)) (bOf t) (fun j hj => by
    have hj' : j.val ≠ t := fun h => hj (Fin.ext (by show j.val = t % 3; omega))
    unfold sSt
    by_cases h : j.val < t
    · rw [if_pos h, if_pos (by omega)]
    · rw [if_neg h, if_neg (by omega)])
  have e1 : dSt c I t (⟨t, by omega⟩ : Fin 48) = iprop(∃ f, hpD c (t / 8) (t % 8) f) := by
    unfold dSt; rw [if_neg (by show ¬ t + 3 < t; omega), if_neg (by show ¬ t < t; omega)]
  have e2 : dSt c I (t + 1) (⟨t, by omega⟩ : Fin 48) = OutFl c (bOf t) (t / 8) (t % 8) (DV I) := by
    unfold dSt; rw [if_neg (by show ¬ t + 3 < t + 1; omega), if_pos (by show t < t + 1; omega)]
  have e3 : sSt (F := F) c t (bOf t) = StFree c (bOf t) := by unfold sSt; rw [if_neg (by show ¬ t % 3 < t; omega)]
  have e4 : sSt (F := F) c (t + 1) (bOf t) = iprop(emp) := by unfold sSt; rw [if_pos (by show t % 3 < t + 1; omega)]
  rw [e1, e2] at h1
  rw [e3, e4] at h2
  iintro ⟨H1, H2⟩
  ihave H1 := h1 $$ H1
  ihave H2 := h2 $$ H2
  icases H1 with ⟨Hf, H1⟩
  icases H2 with ⟨Hs, H2⟩
  isplitl [Hs]; · iexact Hs
  isplitl [Hf]; · iexact Hf
  iintro Ho
  isplitl [H1 Ho]
  · iapply H1; iexact Ho
  · iapply H2; iempintro

/-- Chunk `t - 3` taken out of the departures' state, to be waited for. -/
theorem tick_ge (t : ℕ) (ht : 3 ≤ t) (ht' : t < 48) : OutSt c I t
    ⊢ iprop(OutFl c (bOf t) ((t - 3) / 8) ((t - 3) % 8) (DV I) ∗ (iprop(hpD c ((t - 3) / 8) ((t - 3) % 8) (DV I) ∗ StFree c (bOf t)) -∗ Sending c I t)) := by
  unfold Sending OutSt
  let mid : Fin 48 → sProp 𝕄 := fun T => if T.val = t - 3 then dSt c I (t + 1) T else dSt c I t T
  have h0 := bigSep_univ_update (Φ := dSt c I t) (Ψ := mid) (⟨t - 3, by omega⟩ : Fin 48) (fun j hj => by
    have hj' : j.val ≠ t - 3 := fun h => hj (Fin.ext h)
    show (if _ then _ else _) = _
    rw [if_neg hj'])
  have h1 := bigSep_univ_update (Φ := mid) (Ψ := dSt c I (t + 1)) (⟨t, by omega⟩ : Fin 48) (fun j hj => by
    have hj' : j.val ≠ t := fun h => hj (Fin.ext h)
    show _ = (if _ then _ else _)
    by_cases h3 : j.val = t - 3
    · rw [if_pos h3]
    rw [if_neg h3]
    unfold dSt
    by_cases h4 : j.val + 3 < t
    · rw [if_pos h4, if_pos (by omega)]
    rw [if_neg h4, if_neg (by omega)]
    by_cases h : j.val < t
    · rw [if_pos h, if_pos (by omega)]
    · rw [if_neg h, if_neg (by omega)])
  have e0 : dSt c I t (⟨t - 3, by omega⟩ : Fin 48) = OutFl c (bOf t) ((t - 3) / 8) ((t - 3) % 8) (DV I) := by
    have eb : (⟨(t - 3) % 3, Nat.mod_lt _ (by decide)⟩ : Fin 3) = bOf t := Fin.ext (by show (t - 3) % 3 = t % 3; omega)
    unfold dSt; rw [if_neg (by show ¬ t - 3 + 3 < t; omega), if_pos (by show t - 3 < t; omega)]
    exact congrArg (fun b => OutFl c b ((t - 3) / 8) ((t - 3) % 8) (DV I)) eb
  have e0' : mid (⟨t - 3, by omega⟩ : Fin 48) = hpD c ((t - 3) / 8) ((t - 3) % 8) (DV I) := by
    show (if t - 3 = t - 3 then _ else _) = _
    rw [if_pos rfl]; unfold dSt; rw [if_pos (by show t - 3 + 3 < t + 1; omega)]
  have e1 : mid (⟨t, by omega⟩ : Fin 48) = iprop(∃ f, hpD c (t / 8) (t % 8) f) := by
    show (if t = t - 3 then _ else _) = _
    rw [if_neg (by omega)]
    unfold dSt; rw [if_neg (by show ¬ t + 3 < t; omega), if_neg (by show ¬ t < t; omega)]
  have e2 : dSt c I (t + 1) (⟨t, by omega⟩ : Fin 48) = OutFl c (bOf t) (t / 8) (t % 8) (DV I) := by
    unfold dSt; rw [if_neg (by show ¬ t + 3 < t + 1; omega), if_pos (by show t < t + 1; omega)]
  have e3 : sSt (F := F) c t = sSt c (t + 1) := funext fun b => by
    unfold sSt; have := b.isLt; rw [if_pos (by omega), if_pos (by omega)]
  rw [e0, e0'] at h0
  rw [e1, e2] at h1
  rw [e3]
  iintro ⟨H1, H2⟩
  ihave H1 := h0 $$ H1
  icases H1 with ⟨Hf, H1⟩
  isplitl [Hf]; · iexact Hf
  iintro ⟨Hd, Hs⟩
  ispecialize H1 $$ Hd
  ihave H1 := h1 $$ H1
  icases H1 with ⟨Hf, H1⟩
  isplitl [Hs]; · iexact Hs
  isplitl [Hf]; · iexact Hf
  iintro Ho
  isplitl [H1 Ho]
  · iapply H1; iexact Ho
  · iexact H2

/-- The wait before a chunk's rows are written, if its buffer was used before. -/
theorem tick_wp (t : ℕ) (ht : t < 48) (w : (cc : BitVec 1) ×' (cc = 1#1 → SendOff)) (hw : w.1 = 1#1 ↔ 3 ≤ t) (hs : ∀ h, (w.2 h).s = ![t % 3])
    (kk : Prog (TpuEff nD τ sig (Elt F) Λ₀ .tc) Unit) (Q : Unit → sProp 𝕄) :
    iprop(OutSt c I t ∗ Owes c) ⊢ iprop((iprop(Sending c I t ∗ Owes c) -∗ Wp c kk Q)
      -∗ Wp c ((do
        if h : w.1 = 1#1 then (waitOut R0 (w.2 h) (pure ⟨⟩) : Prog (TpuEff nD τ sig (Elt F) Λ₀ .tc) Unit) else pure ⟨⟩
        kk) : Prog (TpuEff nD τ sig (Elt F) Λ₀ .tc) Unit) Q) := by
  by_cases h : w.1 = 1#1
  · have h3 := hw.mp h
    have e : ((do
        if h : w.1 = 1#1 then (waitOut R0 (w.2 h) (pure ⟨⟩) : Prog (TpuEff nD τ sig (Elt F) Λ₀ .tc) Unit) else pure ⟨⟩
        kk) : Prog (TpuEff nD τ sig (Elt F) Λ₀ .tc) Unit) = waitOut R0 (w.2 h) kk := by
      rw [dif_pos h]; rfl
    rw [e]
    iintro ⟨HO, HW⟩ Hk
    ihave H := (tick_ge c I t h3 ht) $$ HO
    icases H with ⟨Hf, HO⟩
    iapply (waitOut_wp c ((t - 3) / 8) ((t - 3) % 8) (bOf t) (w.2 h) (hs h) (DV I)) $$ [Hf HW]
    · isplitl [Hf]; · iexact Hf
      iexact HW
    iintro ⟨Hd, Hs, HW⟩
    iapply Hk
    isplitl [Hd Hs HO]
    · iapply HO
      isplitl [Hd]; · iexact Hd
      iexact Hs
    iexact HW
  · have h3 : t < 3 := by
      by_contra h'; exact h (hw.mpr (by omega))
    have e : ((do
        if h : w.1 = 1#1 then (waitOut R0 (w.2 h) (pure ⟨⟩) : Prog (TpuEff nD τ sig (Elt F) Λ₀ .tc) Unit) else pure ⟨⟩
        kk) : Prog (TpuEff nD τ sig (Elt F) Λ₀ .tc) Unit) = kk := by
      rw [dif_neg h]
    rw [e]
    iintro ⟨HO, HW⟩ Hk
    iapply Hk
    isplitl [HO]
    · iapply (tick_lt c I t h3); iexact HO
    iexact HW

/-! ## The chunks -/

/-- A chunk summed and masked. -/
def Done (g : ℕ) (j : Fin 8) : sProp 𝕄 :=
  iprop(ptX c (g % 2) j (grp g I.X) ∗ ptG c (g % 2) j (GS I g 72) ∗ ptM c (g % 2) j (grp g I.M)
    ∗ atRest c (cellIn 0 g j) ∗ atRest c (cellIn 1 g j) ∗ atRest c (cellIn 2 g j))

/-- The three buffers' chunks, and the coefficients, held. -/
def Coefs (g : ℕ) : sProp 𝕄 := iprop(∃ fc, ⌜IsCoef I g fc⌝ ∗ ptC c fc)

/-- What the sums hold. -/
def Acc (g n : ℕ) : sProp 𝕄 := iprop(ptN c k0_pay733 ∗ ptA c (accAt I g n))

theorem GS_start (g s j : ℕ) : ∀ y ∈ CK s j, grp g I.G y = GS I g (9 * j) y := by
  intro y hy
  have := (mem_CK.mp hy).2
  unfold GS; rw [if_neg (by omega)]
theorem GS_end (g s j : ℕ) : ∀ y ∈ CK s j, GS I g (9 * j + 9) y = GS I g 72 y := by
  intro y hy
  have := (mem_CK.mp hy).2
  have h : (y 1).val < 72 := (y 1).isLt
  unfold GS; rw [if_pos (by omega), if_pos h]

/-- From an arrived chunk to its first step, and from its last on. -/
theorem red_in (g : ℕ) (j : Fin 8) : iprop(Arr c I.X I.G I.M g j ∗ Acc c I g (9 * j.val))
    ⊢ iprop(RedAt c I g j (9 * j.val) ∗ (RedAt c I g j (9 * j.val + 9) -∗ iprop(Done c I g j ∗ Acc c I g (9 * j.val + 9)))) := by
  unfold Arr Acc RedAt Done
  rw [cgG c (GS_start I g (g % 2) j), cgG c (GS_end I g (g % 2) j)]
  iintro ⟨⟨HX, HG, HM, C0, C1, C2⟩, HN, HA⟩
  isplitl [HX HG HM HN HA]
  · isplitl [HN]; · iexact HN
    isplitl [HA]; · iexact HA
    isplitl [HX]; · iexact HX
    isplitl [HG]; · iexact HG
    iexact HM
  iintro ⟨HN, HA, HX, HG, HM⟩
  isplitr [HN HA]
  · isplitl [HX]; · iexact HX
    isplitl [HG]; · iexact HG
    isplitl [HM]; · iexact HM
    isplitl [C0]; · iexact C0
    isplitl [C1]; · iexact C1
    iexact C2
  isplitl [HN]; · iexact HN
  iexact HA

theorem OS_zero (g j : ℕ) (fo : S3x9x12x32x128.Idx → Elt F .bf16) : OS I g j 0 fo = fo := by
  funext i; unfold OS; rw [if_neg (by omega)]

theorem OS_home (g j b : ℕ) (hj : j < 8) (hb : b < 3) (fo : S3x9x12x32x128.Idx → Elt F .bf16) : ∀ y ∈ HB g j, OS I g j 9 fo (toStage b hb y) = DV I y := by
  intro y hy
  have h := mem_HB.mp hy
  have h0 : (y 0).val < 72 := (y 0).isLt
  unfold OS DV
  have e : ((toStage b hb y) 1).val = (y 0).val % 9 := rfl
  rw [if_pos (by rw [e]; omega), e, show 9 * j + (y 0).val % 9 = (y 0).val by omega, h.2]
  rfl

/-- The `dx` rows of chunk `t`, and the chunk's departure. -/
theorem dx_in (g : ℕ) (j : Fin 8) : iprop(Done c I g j ∗ Coefs c I g ∗ StFree c (bOf (8 * g + j.val)))
    ⊢ iprop(DxAt c I g j 0 ∗ (DxAt c I g j 9 -∗ iprop(Done c I g j ∗ Coefs c I g ∗ (∃ fo, ptO c (bOf (8 * g + j.val)) (OS I g j 9 fo)) ∗ atRest c (cellOut (bOf (8 * g + j.val)))))) := by
  unfold Done Coefs StFree DxAt
  iintro ⟨⟨HX, HG, HM, C0, C1, C2⟩, HC, ⟨⟨%fo, HO⟩, HS⟩⟩
  isplitl [HX HG HC HO]
  · isplitl [HC]; · iexact HC
    isplitl [HX]; · iexact HX
    isplitl [HG]; · iexact HG
    iexists fo; rw [OS_zero]; iexact HO
  iintro ⟨HC, HX, HG, HO⟩
  isplitl [HX HG HM C0 C1 C2]
  · isplitl [HX]; · iexact HX
    isplitl [HG]; · iexact HG
    isplitl [HM]; · iexact HM
    isplitl [C0]; · iexact C0
    isplitl [C1]; · iexact C1
    iexact C2
  isplitl [HC]; · iexact HC
  isplitl [HO]; · iexact HO
  iexact HS

theorem send_wp (g : ℕ) (j : Fin 8) (n : SendOff) (hn : n.IsAt g j) (kk : Prog (TpuEff nD τ sig (Elt F) Λ₀ .tc) Unit) (Q : Unit → sProp 𝕄) :
    iprop((∃ fo, ptO c (bOf (8 * g + j.val)) (OS I g j 9 fo)) ∗ atRest c (cellOut (bOf (8 * g + j.val))) ∗ (∃ f, hpD c g j f)
        ∗ (OutFl c (bOf (8 * g + j.val)) g j (DV I) -∗ OutSt c I (8 * g + j.val + 1)))
      ⊢ iprop((OutSt c I (8 * g + j.val + 1) -∗ Wp c kk Q) -∗ Wp c (startOut R0 n kk) Q) := by
  iintro ⟨⟨%fo, HO⟩, HS, HD, Hw⟩ Hk
  iapply (startOut_wp c g j (bOf (8 * g + j.val)) rfl n hn (DV I) (OS I g j 9 fo) (OS_home I g j _ j.isLt _ fo)) $$ [HO HS HD]
  · isplitl [HO]; · iexact HO
    isplitl [HD]; · iexact HD
    iexact HS
  iintro Hf
  iapply Hk
  iapply Hw
  iexact Hf

end Cert.KernelIdeal.Hand
-- ==== Proof.KI.Finish.lean ====
/-
  A group's statistics and coefficients from its sums, run; and the sums cleared.
-/
module

public import proofs.«01_k».proof.Proof.KI.Steps

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (I : Ins F)

/-! ## Rows -/

abbrev rW (o : Fin 2 → ℕ) (i : ∀ a, o a + S1x128.size a ≤ S6x128.size a) : Rect S6x128 := Rect.unit (s := S6x128) o S1x128.size i

theorem row_read (g : ℕ) (hg : g < 6) {o : Fin 2 → ℕ} (ho : o = ![g, 0]) (i : ∀ a, o a + S1x128.size a ≤ S6x128.size a) (j : S1x128.Idx) :
    (fun a => ⟨o a + (j a : ℕ), by have := i a; have h : (j a : ℕ) < S1x128.size a := (j a).isLt; show _ < S6x128.size a; omega⟩ : S6x128.Idx) = ixR g ⟨(j 1).val, (j 1).isLt⟩ := by
  subst ho
  have j0 : (j 0).val < 1 := (j 0).isLt
  funext a; apply Fin.ext
  fin_cases a
  · show g + (j 0).val = g % 6; omega
  · show 0 + (j 1).val = (j 1).val; omega

theorem row_me (g : ℕ) (hg : g < 6) {o : Fin 2 → ℕ} (ho : o = ![g, 0]) (i) (f : S6x128.Idx → Elt F .f32) : (meM.access (rW o i)).read (Elt F) f = rowOf f g :=
  funext fun j => (read_unit cc0_stg2_0 o S1x128.size i f j).trans (congrArg f (row_read g hg ho i j))
theorem row_rs (g : ℕ) (hg : g < 6) {o : Fin 2 → ℕ} (ho : o = ![g, 0]) (i) (f : S6x128.Idx → Elt F .f32) : (rsM.access (rW o i)).read (Elt F) f = rowOf f g :=
  funext fun j => (read_unit cc0_stg3_0 o S1x128.size i f j).trans (congrArg f (row_read g hg ho i j))
theorem row_ga (g : ℕ) (hg : g < 6) {o : Fin 2 → ℕ} (ho : o = ![g, 0]) (i) (f : S6x128.Idx → Elt F .f32) : (gaM.access (rW o i)).read (Elt F) f = rowOf f g :=
  funext fun j => (read_unit cc0_stg4_0 o S1x128.size i f j).trans (congrArg f (row_read g hg ho i j))

theorem row_val (g : ℕ) {o : Fin 2 → ℕ} (ho : o = ![g, 0]) (V f0 : S6x128.Idx → Elt F .f32) (w : S1x128.Idx → Elt F .f32)
    (hw : ∀ y : S6x128.Idx, (y 0).val = g → V y = w (ix1 ⟨(y 1).val, (y 1).isLt⟩)) (y : S6x128.Idx) :
    (if h : ∀ a, o a ≤ y a ∧ (y a : ℕ) < o a + S1x128.size a then w (fun a => ⟨(y a : ℕ) - o a, by have := h a; show _ < S1x128.size a; omega⟩) else rowsTo g V f0 y)
      = rowsTo (g + 1) V f0 y := by
  subst ho
  have h1 : (y 1).val < 128 := (y 1).isLt
  unfold rowsTo
  by_cases h : (y 0).val = g
  · rw [dif_pos (by
      intro a; fin_cases a
      · show g ≤ (y 0).val ∧ (y 0).val < g + 1; omega
      · show 0 ≤ (y 1).val ∧ (y 1).val < 0 + 128; omega), if_pos (by omega), hw y h]
    congr 1; funext a; apply Fin.ext
    fin_cases a
    · show (y 0).val - g = 0; omega
    · show (y 1).val - 0 = (y 1).val; omega
  · rw [dif_neg (by
      intro H
      have a0 : g ≤ (y 0).val ∧ (y 0).val < g + 1 := H 0
      omega)]
    by_cases h' : (y 0).val < g
    · rw [if_pos h', if_pos (by omega)]
    · rw [if_neg h', if_neg (by omega)]

theorem row_db (g : ℕ) {o : Fin 2 → ℕ} (ho : o = ![g, 0]) (i) (f0 : S6x128.Idx → Elt F .f32) :
    (dbM.access (rW o i)).write (Elt F) (rowsTo g (DBV I) f0) (dbRow I g) Finset.univ = rowsTo (g + 1) (DBV I) f0 :=
  funext fun y => (write_unit cc0_stg6_0 o S1x128.size i _ _ y).trans (row_val g ho (DBV I) f0 _ (fun y h => by unfold DBV; rw [h]) y)
theorem row_dg (g : ℕ) {o : Fin 2 → ℕ} (ho : o = ![g, 0]) (i) (f0 : S6x128.Idx → Elt F .f32) :
    (dgM.access (rW o i)).write (Elt F) (rowsTo g (DGV I) f0) (dgRow I g) Finset.univ = rowsTo (g + 1) (DGV I) f0 :=
  funext fun y => (write_unit cc0_stg5_0 o S1x128.size i _ _ y).trans (row_val g ho (DGV I) f0 _ (fun y h => by unfold DGV; rw [h]) y)

/-! ## Coefficients -/

/-- A coefficient's tile replaced. -/
def putC (r : Rect S3x32x128) (f : S3x32x128.Idx → Elt F .f32) (w : r.shape.Idx → Elt F .f32) : S3x32x128.Idx → Elt F .f32 := (CM.access r).write (Elt F) f w Finset.univ

abbrev rC (n : ℕ) (i : ∀ a, (![n, 0, 0] : Fin 3 → ℕ) a + S1x32x128.size a ≤ S3x32x128.size a) : Rect S3x32x128 := Rect.unit (s := S3x32x128) ![n, 0, 0] S1x32x128.size i

theorem getC_same (n : ℕ) (i) (f : S3x32x128.Idx → Elt F .f32) (w : (rC n i).shape.Idx → Elt F .f32) : getC (rC n i) (putC (rC n i) f w) = w := by
  funext y
  refine (read_unit cc0_scratch5 ![n, 0, 0] S1x32x128.size i _ y).trans ((write_unit cc0_scratch5 ![n, 0, 0] S1x32x128.size i f w _).trans ?_)
  rw [dif_pos (by
    intro a
    have h : (y a : ℕ) < S1x32x128.size a := (y a).isLt
    show (![n, 0, 0] : Fin 3 → ℕ) a ≤ (![n, 0, 0] : Fin 3 → ℕ) a + (y a : ℕ) ∧ (![n, 0, 0] : Fin 3 → ℕ) a + (y a : ℕ) < (![n, 0, 0] : Fin 3 → ℕ) a + S1x32x128.size a
    omega)]
  congr 1; funext a; apply Fin.ext
  show (![n, 0, 0] : Fin 3 → ℕ) a + (y a : ℕ) - (![n, 0, 0] : Fin 3 → ℕ) a = y a
  omega

theorem getC_other (n m : ℕ) (h : n ≠ m) (i) (i') (f : S3x32x128.Idx → Elt F .f32) (w : (rC m i').shape.Idx → Elt F .f32) : getC (rC n i) (putC (rC m i') f w) = getC (rC n i) f := by
  funext y
  refine (read_unit cc0_scratch5 ![n, 0, 0] S1x32x128.size i _ y).trans ((write_unit cc0_scratch5 ![m, 0, 0] S1x32x128.size i' f w _).trans ?_)
  rw [dif_neg (by
    intro H
    have y0 : (y 0).val < 1 := (y 0).isLt
    have a0 : m ≤ n + (y 0).val ∧ n + (y 0).val < m + 1 := H 0
    omega)]
  exact (read_unit cc0_scratch5 ![n, 0, 0] S1x32x128.size i f y).symm

theorem isCoef_put (g : ℕ) (fc : S3x32x128.Idx → Elt F .f32) : IsCoef I g (putC rC2 (putC rC1 (putC rC0 fc (cf0 I g)) (cf1 I g)) (cf2 I g)) :=
  ⟨((getC_other 0 2 (by decide) _ _ _ _).trans (getC_other 0 1 (by decide) _ _ _ _)).trans (getC_same 0 _ _ _),
   (getC_other 1 2 (by decide) _ _ _ _).trans (getC_same 1 _ _ _), getC_same 2 _ _ _⟩

/-! ## A group's end -/

abbrev ptW (M : Memref sig .tc .vmem S6x128 .f32) (f : M.view.ref.ty.Contents (Elt F)) : sProp 𝕄 := M.view.loc (c : Thread nD τ) ↦[Finset.univ]{fullShare} f

/-- The rows of statistics given. -/
def Stats : sProp 𝕄 := iprop(ptW c meM I.me ∗ ptW c rsM I.rs ∗ ptW c gaM I.ga)
/-- The two statistics' first `g` rows in place. -/
def Rows (g : ℕ) (fb fg : S6x128.Idx → Elt F .f32) : sProp 𝕄 := iprop(ptW c dbM (rowsTo g (DBV I) fb) ∗ ptW c dgM (rowsTo g (DGV I) fg))

theorem finish_wp (g : ℕ) (hg : g < 6) (r : RowOff) (ho : r.o = ![g, 0]) (fb fg : S6x128.Idx → Elt F .f32) (kk : Prog (TpuEff nD τ sig (Elt F) Λ₀ .tc) Unit) (Q : Unit → sProp 𝕄) :
    iprop(Stats c I ∗ Rows c I g fb fg ∗ Acc c I g 72 ∗ ∃ fc, ptC c fc)
      ⊢ iprop((iprop(Stats c I ∗ Rows c I (g + 1) fb fg ∗ Acc c I g 72 ∗ Coefs c I g) -∗ Wp c kk Q) -∗ Wp c (finish R0 I.xs I.ys r kk) Q) := by
  obtain ⟨o, inb⟩ := r
  dsimp only at ho
  unfold Stats Rows Acc
  iintro ⟨⟨Hme, Hrs, Hga⟩, ⟨Hdb, Hdg⟩, ⟨HN, HA⟩, ⟨%fc, HC⟩⟩ Hk
  unfold finish
  simp only [Prog.lift, Prog.bind_op, Prog.bind_ret]
  iapply (wp_load_rect 𝒱₀ (c : Thread nD τ) none Set.univ (m := meM) (r := rW o inb) (S := Finset.univ) (f := I.me) (Finset.subset_univ _)) $$ Hme
  iintro Hme
  iapply (wp_load_rect 𝒱₀ (c : Thread nD τ) none Set.univ (m := rsM) (r := rW o inb) (S := Finset.univ) (f := I.rs) (Finset.subset_univ _)) $$ Hrs
  iintro Hrs
  iapply (wp_load_rect 𝒱₀ (c : Thread nD τ) none Set.univ (m := gaM) (r := rW o inb) (S := Finset.univ) (f := I.ga) (Finset.subset_univ _)) $$ Hga
  iintro Hga
  rw [row_me g hg ho inb, row_rs g hg ho inb, row_ga g hg ho inb]
  iapply (wp_load_rect 𝒱₀ (c : Thread nD τ) none Set.univ (m := AM) (r := rA0) (S := Finset.univ) (f := accAt I g 72) (Finset.subset_univ _)) $$ HA
  iintro HA
  iapply (wp_load_rect 𝒱₀ (c : Thread nD τ) none Set.univ (m := AM) (r := rA1) (S := Finset.univ) (f := accAt I g 72) (Finset.subset_univ _)) $$ HA
  iintro HA
  iapply (wp_load_rect 𝒱₀ (c : Thread nD τ) none Set.univ (m := dbM) (r := rW o inb) (S := Finset.univ) (f := rowsTo g (DBV I) fb) (Finset.subset_univ _)) $$ Hdb
  iintro Hdb
  iapply (wp_store 𝒱₀ (c : Thread nD τ) none Set.univ (m := dbM) (r := rW o inb) (S := Finset.univ) (f := rowsTo g (DBV I) fb) (Finset.subset_univ _)) $$ Hdb
  iintro Hdb
  iapply (wp_load_rect 𝒱₀ (c : Thread nD τ) none Set.univ (m := dgM) (r := rW o inb) (S := Finset.univ) (f := rowsTo g (DGV I) fg) (Finset.subset_univ _)) $$ Hdg
  iintro Hdg
  iapply (wp_store 𝒱₀ (c : Thread nD τ) none Set.univ (m := dgM) (r := rW o inb) (S := Finset.univ) (f := rowsTo g (DGV I) fg) (Finset.subset_univ _)) $$ Hdg
  iintro Hdg
  iapply (wp_load_rect 𝒱₀ (c : Thread nD τ) none Set.univ (m := CM) (r := rC0) (S := Finset.univ) (Finset.subset_univ _)) $$ HC
  iintro HC
  iapply (wp_store 𝒱₀ (c : Thread nD τ) none Set.univ (m := CM) (r := rC0) (S := Finset.univ) (Finset.subset_univ _)) $$ HC
  iintro HC
  iapply (wp_load_rect 𝒱₀ (c : Thread nD τ) none Set.univ (m := CM) (r := rC1) (S := Finset.univ) (Finset.subset_univ _)) $$ HC
  iintro HC
  iapply (wp_store 𝒱₀ (c : Thread nD τ) none Set.univ (m := CM) (r := rC1) (S := Finset.univ) (Finset.subset_univ _)) $$ HC
  iintro HC
  iapply (wp_load_rect 𝒱₀ (c : Thread nD τ) none Set.univ (m := CM) (r := rC2) (S := Finset.univ) (Finset.subset_univ _)) $$ HC
  iintro HC
  iapply (wp_store 𝒱₀ (c : Thread nD τ) none Set.univ (m := CM) (r := rC2) (S := Finset.univ) (Finset.subset_univ _)) $$ HC
  iintro HC
  iapply Hk
  isplitl [Hme Hrs Hga]
  · isplitl [Hme]; · iexact Hme
    isplitl [Hrs]; · iexact Hrs
    iexact Hga
  isplitl [Hdb Hdg]
  · rw [← row_db I g ho inb fb, ← row_dg I g ho inb fg]
    isplitl [Hdb]; · iexact Hdb
    iexact Hdg
  isplitl [HN HA]
  · isplitl [HN]; · iexact HN
    iexact HA
  unfold Coefs
  iexists (putC rC2 (putC rC1 (putC rC0 fc (cf0 I g)) (cf1 I g)) (cf2 I g))
  isplitr; · ipureintro; exact isCoef_put I g fc
  iexact HC

/-! ## The sums cleared -/

abbrev rAw : Rect S2x8x128 := Rect.unit (s := S2x8x128) ![0, 0, 0] S2x8x128.size inb_S2x8x128_S2x8x128_0_0_0

theorem acc_clear (f : S2x8x128.Idx → Elt F .f32) (g : ℕ) : (AM.access rAw).write (Elt F) f (k0_pay734 (F := F)) Finset.univ = accAt I g 0 := by
  funext y
  refine (write_unit cc0_scratch4 ![0, 0, 0] S2x8x128.size inb_S2x8x128_S2x8x128_0_0_0 f _ y).trans ?_
  rw [dif_pos (by
    intro a
    have h : (y a : ℕ) < S2x8x128.size a := (y a).isLt
    have e : (![0, 0, 0] : Fin 3 → ℕ) a = 0 := by fin_cases a <;> rfl
    show (![0, 0, 0] : Fin 3 → ℕ) a ≤ (y a : ℕ) ∧ (y a : ℕ) < (![0, 0, 0] : Fin 3 → ℕ) a + S2x8x128.size a
    omega)]
  show k0_pay734 _ = k0_pay734 y
  congr 1; funext a; apply Fin.ext
  have e : (![0, 0, 0] : Fin 3 → ℕ) a = 0 := by fin_cases a <;> rfl
  show (y a : ℕ) - (![0, 0, 0] : Fin 3 → ℕ) a = y a
  omega

theorem ones_put (f : S16x128.Idx → Elt F .bf16) :
    (NM.access (Rect.unit (s := S16x128) ![0, 0] S16x128.size inb_S16x128_S16x128_0_0)).write (Elt F) f (k0_pay733 (F := F)) Finset.univ = k0_pay733 := by
  funext y
  refine (write_unit cc0_scratch6 ![0, 0] S16x128.size inb_S16x128_S16x128_0_0 f _ y).trans ?_
  rw [dif_pos (by
    intro a
    have h : (y a : ℕ) < S16x128.size a := (y a).isLt
    have e : (![0, 0] : Fin 2 → ℕ) a = 0 := by fin_cases a <;> rfl
    show (![0, 0] : Fin 2 → ℕ) a ≤ (y a : ℕ) ∧ (y a : ℕ) < (![0, 0] : Fin 2 → ℕ) a + S16x128.size a
    omega)]
  show k0_pay733 _ = k0_pay733 y
  congr 1; funext a; apply Fin.ext
  have e : (![0, 0] : Fin 2 → ℕ) a = 0 := by fin_cases a <;> rfl
  show (y a : ℕ) - (![0, 0] : Fin 2 → ℕ) a = y a
  omega

end Cert.KernelIdeal.Hand
-- ==== Proof.KI.Phases.lean ====
/-
  The phases, run: eight chunks each, then the statistics of the group just summed.
-/
module

public import proofs.«01_k».proof.Proof.KI.Finish

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (I : Ins F)

/-! ## A chunk -/

theorem free_of_done (g : ℕ) (j : Fin 8) : Done c I g j ⊢ Free c g j := by
  unfold Done Free
  iintro ⟨HX, HG, HM, C⟩
  isplitl [HX]; · iexists _; iexact HX
  isplitl [HG]; · iexists _; iexact HG
  isplitl [HM]; · iexists _; iexact HM
  iexact C

/-- A chunk's arrivals, its nine steps of sums, and what follows. -/
theorem chunkA (g : ℕ) (j : Fin 8) (ok8 : loop8.OK) (ok9 : loop9.OK) (w : Fin loop8.trips → InOff) (r : Fin loop8.trips → Fin loop9.trips → List TileOff) (rw' : Option RowOff)
    (jj : Fin loop8.trips) (hw : (w jj).IsAt g j) (hr : ∀ i, (r jj i).map TileOff.o = tileOffs (g % 2) (9 * j.val + i.val)) (Q : Unit → sProp 𝕄) :
    iprop(InFl c I.X I.G I.M g j ∗ Acc c I g (9 * j.val) ∗ Owes c)
      ⊢ iprop((iprop(Done c I g j ∗ Home c I.X I.G I.M g j ∗ Acc c I g (9 * j.val + 9) ∗ Owes c) -∗ Wp c (pure ()) Q)
        -∗ Wp c (chunkBody R0 ⟨ok8, ok9, some w, none, none, some r, none, none, rw'⟩ jj) Q) := by
  iintro ⟨HI, HA, HW⟩ Hk
  unfold chunkBody
  simp only [opt]
  iapply (waitIn_wp c I.X I.G I.M g j (w jj) hw) $$ [HI HW]
  · isplitl [HI]; · iexact HI
    iexact HW
  iintro ⟨HR, HH, HW⟩
  ihave H := (red_in c I g j) $$ [HR HA]
  · isplitl [HR]; · iexact HR
    iexact HA
  icases H with ⟨HR, Hb⟩
  iapply (loopR c I g j j.isLt ok9 _ jj r ⟨rfl, rfl⟩ hr) $$ HR
  iintro HR
  ispecialize Hb $$ HR
  icases Hb with ⟨HD, HA⟩
  iapply Hk
  isplitl [HD]; · iexact HD
  isplitl [HH]; · iexact HH
  isplitl [HA]; · iexact HA
  iexact HW

/-- A chunk's arrivals, its nine steps of sums and of `dx` rows, its departure, and what follows. -/
theorem chunkB (g q : ℕ) (j : Fin 8) (hq : q < 6) (ok8 : loop8.OK) (ok9 : loop9.OK) (w : Fin loop8.trips → InOff) (wo : (j : Fin loop8.trips) → (cc : BitVec 1) ×' (cc = 1#1 → SendOff))
    (d : Fin loop8.trips → Fin loop9.trips → List (RdOff × OutOff)) (r : Fin loop8.trips → Fin loop9.trips → List TileOff) (s : Fin loop8.trips → SendOff) (n : Option (Fin loop8.trips → InOff)) (rw' : Option RowOff)
    (jj : Fin loop8.trips) (hw : (w jj).IsAt g j) (hr : ∀ i, (r jj i).map TileOff.o = tileOffs (g % 2) (9 * j.val + i.val))
    (hwo : (wo jj).1 = 1#1 ↔ 3 ≤ 8 * q + j.val) (hwo' : ∀ h, ((wo jj).2 h).s = ![(8 * q + j.val) % 3])
    (hd : ∀ i, (d jj i).map (fun p => p.1.o) = tileOffs (q % 2) (9 * j.val + i.val)) (hd' : ∀ i, (d jj i).map (fun p => p.2.o) = tileOffs ((8 * q + j.val) % 3) i.val)
    (hs : (s jj).IsAt q j) (Q : Unit → sProp 𝕄) :
    iprop(InFl c I.X I.G I.M g j ∗ Done c I q j ∗ Acc c I g (9 * j.val) ∗ Coefs c I q ∗ OutSt c I (8 * q + j.val) ∗ Owes c)
      ⊢ iprop((iprop(Done c I g j ∗ Home c I.X I.G I.M g j ∗ Done c I q j ∗ Acc c I g (9 * j.val + 9) ∗ Coefs c I q ∗ OutSt c I (8 * q + j.val + 1) ∗ Owes c)
            -∗ Wp c (opt n (fun f k => startIn R0 (f jj) k) (pure ⟨⟩)) Q)
        -∗ Wp c (chunkBody R0 ⟨ok8, ok9, some w, some wo, some d, some r, some s, n, rw'⟩ jj) Q) := by
  have hjl := j.isLt
  iintro ⟨HI, HDq, HA, HC, HO, HW⟩ Hk
  unfold chunkBody
  simp only [opt]
  iapply (waitIn_wp c I.X I.G I.M g j (w jj) hw) $$ [HI HW]
  · isplitl [HI]; · iexact HI
    iexact HW
  iintro ⟨HR, HH, HW⟩
  iapply (tick_wp c I (8 * q + j.val) (by omega) (wo jj) hwo hwo') $$ [HO HW]
  · isplitl [HO]; · iexact HO
    iexact HW
  unfold Sending
  iintro ⟨⟨HS, Hd, Ho⟩, HW⟩
  ihave H := (red_in c I g j) $$ [HR HA]
  · isplitl [HR]; · iexact HR
    iexact HA
  icases H with ⟨HR, Hb⟩
  ihave H := (dx_in c I q j) $$ [HDq HC HS]
  · isplitl [HDq]; · iexact HDq
    isplitl [HC]; · iexact HC
    iexact HS
  icases H with ⟨HX, Hx⟩
  iapply (loopRD c I g q j j.isLt ok9 _ jj d r ⟨rfl, rfl⟩ hd hd' hr) $$ [HX HR]
  · isplitl [HX]; · iexact HX
    iexact HR
  iintro ⟨HX, HR⟩
  ispecialize Hb $$ HR
  icases Hb with ⟨HD, HA⟩
  ispecialize Hx $$ HX
  icases Hx with ⟨HDq, HC, HS, HS'⟩
  rw [show (8 * q + j.val) / 8 = q by omega, show (8 * q + j.val) % 8 = j.val by omega]
  iapply (send_wp c I q j (s jj) hs) $$ [HS HS' Hd Ho]
  · isplitl [HS]; · iexact HS
    isplitl [HS']; · iexact HS'
    isplitl [Hd]; · iexact Hd
    iexact Ho
  iintro HO
  iapply Hk
  isplitl [HD]; · iexact HD
  isplitl [HH]; · iexact HH
  isplitl [HDq]; · iexact HDq
  isplitl [HA]; · iexact HA
  isplitl [HC]; · iexact HC
  isplitl [HO]; · iexact HO
  iexact HW

/-- The last group's chunk: its `dx` rows and its departure. -/
theorem chunkD (q : ℕ) (j : Fin 8) (hq : q < 6) (ok8 : loop8.OK) (ok9 : loop9.OK) (wo : (j : Fin loop8.trips) → (cc : BitVec 1) ×' (cc = 1#1 → SendOff))
    (d : Fin loop8.trips → Fin loop9.trips → List (RdOff × OutOff)) (s : Fin loop8.trips → SendOff)
    (jj : Fin loop8.trips)
    (hwo : (wo jj).1 = 1#1 ↔ 3 ≤ 8 * q + j.val) (hwo' : ∀ h, ((wo jj).2 h).s = ![(8 * q + j.val) % 3])
    (hd : ∀ i, (d jj i).map (fun p => p.1.o) = tileOffs (q % 2) (9 * j.val + i.val)) (hd' : ∀ i, (d jj i).map (fun p => p.2.o) = tileOffs ((8 * q + j.val) % 3) i.val)
    (hs : (s jj).IsAt q j) (Q : Unit → sProp 𝕄) :
    iprop(Done c I q j ∗ Coefs c I q ∗ OutSt c I (8 * q + j.val) ∗ Owes c)
      ⊢ iprop((iprop(Done c I q j ∗ Coefs c I q ∗ OutSt c I (8 * q + j.val + 1) ∗ Owes c) -∗ Wp c (pure ()) Q)
        -∗ Wp c (chunkBody R0 ⟨ok8, ok9, none, some wo, some d, none, some s, none, none⟩ jj) Q) := by
  have hjl := j.isLt
  iintro ⟨HDq, HC, HO, HW⟩ Hk
  unfold chunkBody
  simp only [opt]
  iapply (tick_wp c I (8 * q + j.val) (by omega) (wo jj) hwo hwo') $$ [HO HW]
  · isplitl [HO]; · iexact HO
    iexact HW
  unfold Sending
  iintro ⟨⟨HS, Hd, Ho⟩, HW⟩
  ihave H := (dx_in c I q j) $$ [HDq HC HS]
  · isplitl [HDq]; · iexact HDq
    isplitl [HC]; · iexact HC
    iexact HS
  icases H with ⟨HX, Hx⟩
  iapply (loopD c I q j j.isLt ok9 _ jj d ⟨rfl, rfl⟩ hd hd') $$ HX
  iintro HX
  ispecialize Hx $$ HX
  icases Hx with ⟨HDq, HC, HS, HS'⟩
  rw [show (8 * q + j.val) / 8 = q by omega, show (8 * q + j.val) % 8 = j.val by omega]
  iapply (send_wp c I q j (s jj) hs) $$ [HS HS' Hd Ho]
  · isplitl [HS]; · iexact HS
    isplitl [HS']; · iexact HS'
    isplitl [Hd]; · iexact Hd
    iexact Ho
  iintro HO
  iapply Hk
  isplitl [HDq]; · iexact HDq
  isplitl [HC]; · iexact HC
  isplitl [HO]; · iexact HO
  iexact HW

/-! ## The eight chunks -/

/-- A trip's chunk. -/
abbrev jOf (k : Fin loop8.trips) : Fin 8 := ⟨k.val, lt_of_lt_of_eq k.isLt trips8⟩

/-- A loop over the chunks, chunk by chunk, with a state that goes along. -/
theorem cols_wp (ok : loop8.OK) (body : Fin loop8.trips → Unit → Prog (TpuEff nD τ sig (Elt F) Λ₀ .tc) Unit) (P P' : Fin 8 → sProp 𝕄) (S : ℕ → sProp 𝕄)
    (hb : ∀ k : Fin loop8.trips, iprop(P (jOf k) ∗ S k.val) ⊢ Wp c (body k ()) (fun _ => iprop(P' (jOf k) ∗ S (k.val + 1)))) (kk : Prog (TpuEff nD τ sig (Elt F) Λ₀ .tc) Unit) (Q : Unit → sProp 𝕄) :
    iprop(bigSep Finset.univ P ∗ S 0) ⊢ iprop((iprop(bigSep Finset.univ P' ∗ S 8) -∗ Wp c kk Q) -∗ Wp c (Scf.Loop.for loop8 ok () body >>= fun _ => kk) Q) := by
  have h := loop_wp c loop8 8 trips8 ok body (fun n => iprop(bigSep Finset.univ (fun j : Fin 8 => if j.val < n then P' j else P j) ∗ S n)) (fun k hk => by
    have hu := bigSep_univ_update (Φ := fun j : Fin 8 => if j.val < k.val then P' j else P j) (Ψ := fun j : Fin 8 => if j.val < k.val + 1 then P' j else P j) (jOf k) (fun j hj => by
      have hj' : j.val ≠ k.val := fun h => hj (Fin.ext h)
      show (if _ then _ else _) = (if _ then _ else _)
      by_cases h : j.val < k.val
      · rw [if_pos h, if_pos (by omega)]
      · rw [if_neg h, if_neg (by omega)])
    rw [if_neg (lt_irrefl _), if_pos (Nat.lt_succ_self _)] at hu
    iintro ⟨HB, HS⟩
    ihave H := hu $$ HB
    icases H with ⟨HP, HB⟩
    iapply (wp_wand_r frame (wpE (defs₀ (F := F)) 𝒱₀ (c : Thread nD τ) none) Set.univ)
    isplitl [HP HS]
    · iapply (hb k)
      isplitl [HP]; · iexact HP
      iexact HS
    iintro %_ ⟨HP, HS⟩
    isplitl [HP HB]
    · iapply HB; iexact HP
    iexact HS) kk Q
  have e0 : bigSep Finset.univ (fun j : Fin 8 => if j.val < 0 then P' j else P j) = bigSep Finset.univ P := bigSep_congr fun j _ => if_neg (Nat.not_lt_zero _)
  have e8 : bigSep Finset.univ (fun j : Fin 8 => if j.val < 8 then P' j else P j) = bigSep Finset.univ P' := bigSep_congr fun j _ => if_pos j.isLt
  rw [e0, e8] at h
  exact h

abbrev BInF (g : ℕ) : sProp 𝕄 := bigSep Finset.univ (fun j : Fin 8 => InFl c I.X I.G I.M g j)
abbrev BD (g : ℕ) : sProp 𝕄 := bigSep Finset.univ (fun j : Fin 8 => Done c I g j)
abbrev BH (g : ℕ) : sProp 𝕄 := bigSep Finset.univ (fun j : Fin 8 => Home c I.X I.G I.M g j)
abbrev BF (g : ℕ) : sProp 𝕄 := bigSep Finset.univ (fun j : Fin 8 => Free (F := F) c g j)

/-! ## A phase -/

/-- What every phase keeps: the statistics given and made, the ones, the accumulators. -/
def Mid (g : ℕ) (fb fg : S6x128.Idx → Elt F .f32) : sProp 𝕄 := iprop(Stats c I ∗ Rows c I g fb fg ∗ ptN c k0_pay733 ∗ ∃ f, ptA c f)

/-- A phase that sums: cleared, the chunks, the group's statistics. -/
theorem row_phase (g : ℕ) (hg : g < 6) (ro : RowOff) (ho : ro.o = ![g, 0]) (fb fg : S6x128.Idx → Elt F .f32) (Ph : Phase) (hr : Ph.row = some ro)
    (P P' : Fin 8 → sProp 𝕄) (S : ℕ → sProp 𝕄) (T : sProp 𝕄)
    (hb : ∀ k : Fin loop8.trips, iprop(P (jOf k) ∗ (Acc c I g (9 * k.val) ∗ S k.val)) ⊢ Wp c (chunkBody R0 Ph k) (fun _ => iprop(P' (jOf k) ∗ (Acc c I g (9 * (k.val + 1)) ∗ S (k.val + 1)))))
    (hC : S 8 ⊢ iprop((∃ fc, ptC c fc) ∗ T)) (kk : Prog (TpuEff nD τ sig (Elt F) Λ₀ .tc) Unit) (Q : Unit → sProp 𝕄) :
    iprop(bigSep Finset.univ P ∗ S 0 ∗ Mid c I g fb fg)
      ⊢ iprop((iprop(bigSep Finset.univ P' ∗ T ∗ Mid c I (g + 1) fb fg ∗ Coefs c I g) -∗ Wp c kk Q) -∗ Wp c (phase R0 I.xs I.ys Ph kk) Q) := by
  unfold Mid
  iintro ⟨HP, HS, Hst, Hrows, HN, ⟨%fa, HA⟩⟩ Hk
  unfold phase
  rw [hr]
  simp only [opt, Prog.lift, Prog.bind_op, Prog.bind_ret]
  iapply (wp_load_rect 𝒱₀ (c : Thread nD τ) none Set.univ (m := AM) (r := rAw) (S := Finset.univ) (f := fa) (Finset.subset_univ _)) $$ HA
  iintro HA
  iapply (wp_store 𝒱₀ (c : Thread nD τ) none Set.univ (m := AM) (r := rAw) (S := Finset.univ) (f := fa) (Finset.subset_univ _)) $$ HA
  iintro HA
  iapply (cols_wp c Ph.ok8 (fun j _ => chunkBody R0 Ph j) P P' (fun n => iprop(Acc c I g (9 * n) ∗ S n)) hb) $$ [HP HS HN HA]
  · isplitl [HP]; · iexact HP
    isplitl [HN HA]
    · unfold Acc
      isplitl [HN]; · iexact HN
      rw [show accAt I g (9 * 0) = accAt I g 0 from rfl, ← acc_clear I fa g]
      iexact HA
    iexact HS
  iintro ⟨HP, HA, HS⟩
  ihave H := hC $$ HS
  icases H with ⟨HC, HT⟩
  iapply (finish_wp c I g hg ro ho fb fg) $$ [Hst Hrows HA HC]
  · isplitl [Hst]; · iexact Hst
    isplitl [Hrows]; · iexact Hrows
    isplitl [HA]; · iexact HA
    iexact HC
  iintro ⟨Hst, Hrows, HA, HC⟩
  iapply Hk
  isplitl [HP]; · iexact HP
  isplitl [HT]; · iexact HT
  isplitr [HC]
  · isplitl [Hst]; · iexact Hst
    isplitl [Hrows]; · iexact Hrows
    unfold Acc
    icases HA with ⟨HN, HA⟩
    isplitl [HN]; · iexact HN
    iexists _; iexact HA
  iexact HC

/-- The first phase. -/
theorem phaseA (g : ℕ) (hg : g < 6) (ro : RowOff) (ho : ro.o = ![g, 0]) (fb fg : S6x128.Idx → Elt F .f32) (ok8 : loop8.OK) (ok9 : loop9.OK)
    (w : Fin loop8.trips → InOff) (r : Fin loop8.trips → Fin loop9.trips → List TileOff)
    (hw : ∀ j, (w j).IsAt g j) (hr : ∀ j i, (r j i).map TileOff.o = tileOffs (g % 2) (9 * j.val + i.val)) (kk : Prog (TpuEff nD τ sig (Elt F) Λ₀ .tc) Unit) (Q : Unit → sProp 𝕄) :
    iprop(BInF c I g ∗ ((∃ fc, ptC c fc) ∗ Owes c) ∗ Mid c I g fb fg)
      ⊢ iprop((iprop(bigSep Finset.univ (fun j : Fin 8 => iprop(Done c I g j ∗ Home c I.X I.G I.M g j)) ∗ Owes c ∗ Mid c I (g + 1) fb fg ∗ Coefs c I g) -∗ Wp c kk Q)
        -∗ Wp c (phase R0 I.xs I.ys ⟨ok8, ok9, some w, none, none, some r, none, none, some ro⟩ kk) Q) :=
  row_phase c I g hg ro ho fb fg ⟨ok8, ok9, some w, none, none, some r, none, none, some ro⟩ rfl _ _ (fun _ => iprop((∃ fc, ptC c fc) ∗ Owes c)) _ (fun k => by
    iintro ⟨HI, HA, HC, HW⟩
    iapply (chunkA c I g (jOf k) ok8 ok9 w r (some ro) k (hw k) (hr k)) $$ [HI HA HW]
    · isplitl [HI]; · iexact HI
      isplitl [HA]; · iexact HA
      iexact HW
    iintro ⟨HD, HH, HA, HW⟩
    iapply (pure_wp c _ _ .rfl)
    isplitl [HD HH]
    · isplitl [HD]; · iexact HD
      iexact HH
    isplitl [HA]; · iexact HA
    isplitl [HC]; · iexact HC
    iexact HW) .rfl kk Q

/-- What a phase that also writes `dx` carries from chunk to chunk. -/
abbrev Carry (q n : ℕ) : sProp 𝕄 := iprop(Coefs c I q ∗ OutSt c I (8 * q + n) ∗ Owes c)

theorem carry_end (q : ℕ) : Carry c I q 8 ⊢ iprop((∃ fc, ptC c fc) ∗ (OutSt c I (8 * (q + 1)) ∗ Owes c)) := by
  unfold Carry Coefs
  iintro ⟨⟨%fc, -, HC⟩, HO, HW⟩
  isplitl [HC]; · iexists _; iexact HC
  isplitl [HO]; · iexact HO
  iexact HW

section B
variable (q : ℕ) (hq : q + 1 < 6) (ro : RowOff) (ho : ro.o = ![q + 1, 0]) (fb fg : S6x128.Idx → Elt F .f32) (ok8 : loop8.OK) (ok9 : loop9.OK)
    (w : Fin loop8.trips → InOff) (wo : (j : Fin loop8.trips) → (cc : BitVec 1) ×' (cc = 1#1 → SendOff))
    (d : Fin loop8.trips → Fin loop9.trips → List (RdOff × OutOff)) (r : Fin loop8.trips → Fin loop9.trips → List TileOff) (s : Fin loop8.trips → SendOff)
    (hw : ∀ j, (w j).IsAt (q + 1) j) (hr : ∀ j i, (r j i).map TileOff.o = tileOffs ((q + 1) % 2) (9 * j.val + i.val))
    (hwo : ∀ j, (wo j).1 = 1#1 ↔ 3 ≤ 8 * q + j.val) (hwo' : ∀ j h, ((wo j).2 h).s = ![(8 * q + j.val) % 3])
    (hd : ∀ j i, (d j i).map (fun p => p.1.o) = tileOffs (q % 2) (9 * j.val + i.val)) (hd' : ∀ j i, (d j i).map (fun p => p.2.o) = tileOffs ((8 * q + j.val) % 3) i.val)
    (hs : ∀ j, (s j).IsAt q j)
include hq ho hw hr hwo hwo' hd hd' hs

/-- A middle phase: the next group's arrivals started as the chunks are let go. -/
theorem phaseB (hq2 : q + 2 < 6) (n : Fin loop8.trips → InOff) (hn : ∀ j, (n j).IsAt (q + 2) j) (kk : Prog (TpuEff nD τ sig (Elt F) Λ₀ .tc) Unit) (Q : Unit → sProp 𝕄) :
    iprop(bigSep Finset.univ (fun j : Fin 8 => iprop(InFl c I.X I.G I.M (q + 1) j ∗ Done c I q j ∗ Home c I.X I.G I.M (q + 2) j)) ∗ Carry c I q 0 ∗ Mid c I (q + 1) fb fg)
      ⊢ iprop((iprop(bigSep Finset.univ (fun j : Fin 8 => iprop(Done c I (q + 1) j ∗ Home c I.X I.G I.M (q + 1) j ∗ InFl c I.X I.G I.M (q + 2) j)) ∗ (OutSt c I (8 * (q + 1)) ∗ Owes c) ∗ Mid c I (q + 2) fb fg ∗ Coefs c I (q + 1)) -∗ Wp c kk Q)
        -∗ Wp c (phase R0 I.xs I.ys ⟨ok8, ok9, some w, some wo, some d, some r, some s, some n, some ro⟩ kk) Q) :=
  row_phase c I (q + 1) hq ro ho fb fg ⟨ok8, ok9, some w, some wo, some d, some r, some s, some n, some ro⟩ rfl _ _ (fun n => Carry c I q n) _ (fun k => by
    iintro ⟨⟨HI, HD, HH2⟩, HA, HC, HO, HW⟩
    iapply (chunkB c I (q + 1) q (jOf k) (by omega) ok8 ok9 w wo d r s (some n) (some ro) k (hw k) (hr k) (hwo k) (hwo' k) (hd k) (hd' k) (hs k)) $$ [HI HD HA HC HO HW]
    · isplitl [HI]; · iexact HI
      isplitl [HD]; · iexact HD
      isplitl [HA]; · iexact HA
      isplitl [HC]; · iexact HC
      isplitl [HO]; · iexact HO
      iexact HW
    iintro ⟨HD, HH, HDq, HA, HC, HO, HW⟩
    simp only [opt]
    ihave HF := (free_of_done c I q (jOf k)) $$ HDq
    iapply (startIn_wp c I.X I.G I.M (q + 2) hq2 (jOf k) (n k) (hn k)) $$ [HF HH2]
    · rw [← Free_congr (F := F) c (show q % 2 = (q + 2) % 2 by omega) (jOf k)]
      isplitl [HF]; · iexact HF
      iexact HH2
    iintro HI
    iapply (pure_wp c _ _ .rfl)
    isplitl [HD HH HI]
    · isplitl [HD]; · iexact HD
      isplitl [HH]; · iexact HH
      iexact HI
    isplitl [HA]; · iexact HA
    isplitl [HC]; · iexact HC
    isplitl [HO]; · iexact HO
    iexact HW) (carry_end c I q) kk Q

/-- The last phase that sums: nothing more to arrive. -/
theorem phaseC (kk : Prog (TpuEff nD τ sig (Elt F) Λ₀ .tc) Unit) (Q : Unit → sProp 𝕄) :
    iprop(bigSep Finset.univ (fun j : Fin 8 => iprop(InFl c I.X I.G I.M (q + 1) j ∗ Done c I q j)) ∗ Carry c I q 0 ∗ Mid c I (q + 1) fb fg)
      ⊢ iprop((iprop(bigSep Finset.univ (fun j : Fin 8 => iprop(Done c I (q + 1) j ∗ Home c I.X I.G I.M (q + 1) j ∗ Done c I q j)) ∗ (OutSt c I (8 * (q + 1)) ∗ Owes c) ∗ Mid c I (q + 2) fb fg ∗ Coefs c I (q + 1)) -∗ Wp c kk Q)
        -∗ Wp c (phase R0 I.xs I.ys ⟨ok8, ok9, some w, some wo, some d, some r, some s, none, some ro⟩ kk) Q) :=
  row_phase c I (q + 1) hq ro ho fb fg ⟨ok8, ok9, some w, some wo, some d, some r, some s, none, some ro⟩ rfl _ _ (fun n => Carry c I q n) _ (fun k => by
    iintro ⟨⟨HI, HD⟩, HA, HC, HO, HW⟩
    iapply (chunkB c I (q + 1) q (jOf k) (by omega) ok8 ok9 w wo d r s none (some ro) k (hw k) (hr k) (hwo k) (hwo' k) (hd k) (hd' k) (hs k)) $$ [HI HD HA HC HO HW]
    · isplitl [HI]; · iexact HI
      isplitl [HD]; · iexact HD
      isplitl [HA]; · iexact HA
      isplitl [HC]; · iexact HC
      isplitl [HO]; · iexact HO
      iexact HW
    iintro ⟨HD, HH, HDq, HA, HC, HO, HW⟩
    simp only [opt]
    iapply (pure_wp c _ _ .rfl)
    isplitl [HD HH HDq]
    · isplitl [HD]; · iexact HD
      isplitl [HH]; · iexact HH
      iexact HDq
    isplitl [HA]; · iexact HA
    isplitl [HC]; · iexact HC
    isplitl [HO]; · iexact HO
    iexact HW) (carry_end c I q) kk Q
end B

/-- The last phase: the last group's `dx`. -/
theorem phaseD (q : ℕ) (hq : q < 6) (ok8 : loop8.OK) (ok9 : loop9.OK) (wo : (j : Fin loop8.trips) → (cc : BitVec 1) ×' (cc = 1#1 → SendOff))
    (d : Fin loop8.trips → Fin loop9.trips → List (RdOff × OutOff)) (s : Fin loop8.trips → SendOff)
    (hwo : ∀ j, (wo j).1 = 1#1 ↔ 3 ≤ 8 * q + j.val) (hwo' : ∀ j h, ((wo j).2 h).s = ![(8 * q + j.val) % 3])
    (hd : ∀ j i, (d j i).map (fun p => p.1.o) = tileOffs (q % 2) (9 * j.val + i.val)) (hd' : ∀ j i, (d j i).map (fun p => p.2.o) = tileOffs ((8 * q + j.val) % 3) i.val)
    (hs : ∀ j, (s j).IsAt q j) (kk : Prog (TpuEff nD τ sig (Elt F) Λ₀ .tc) Unit) (Q : Unit → sProp 𝕄) :
    iprop(BD c I q ∗ Carry c I q 0) ⊢ iprop((iprop(BD c I q ∗ Carry c I q 8) -∗ Wp c kk Q)
        -∗ Wp c (phase R0 I.xs I.ys ⟨ok8, ok9, none, some wo, some d, none, some s, none, none⟩ kk) Q) := by
  unfold phase
  simp only [opt]
  exact cols_wp c ok8 (fun j _ => chunkBody R0 ⟨ok8, ok9, none, some wo, some d, none, some s, none, none⟩ j) _ _ (fun n => Carry c I q n) (fun k => by
    iintro ⟨HD, HC, HO, HW⟩
    iapply (chunkD c I q (jOf k) hq ok8 ok9 wo d s k (hwo k) (hwo' k) (hd k) (hd' k) (hs k)) $$ [HD HC HO HW]
    · isplitl [HD]; · iexact HD
      isplitl [HC]; · iexact HC
      isplitl [HO]; · iexact HO
      iexact HW
    iintro ⟨HD, HC, HO, HW⟩
    iapply (pure_wp c _ _ .rfl)
    isplitl [HD]; · iexact HD
    isplitl [HC]; · iexact HC
    isplitl [HO]; · iexact HO
    iexact HW) kk Q

/-- The first arrivals of a group. -/
theorem start_wp (g : ℕ) (hg : g < 6) (ok : loop8.OK) (p : Fin loop8.trips → InOff) (hp : ∀ j, (p j).IsAt g j) (kk : Prog (TpuEff nD τ sig (Elt F) Λ₀ .tc) Unit) (Q : Unit → sProp 𝕄) :
    bigSep Finset.univ (fun j : Fin 8 => iprop(Free c g j ∗ Home c I.X I.G I.M g j))
      ⊢ iprop((BInF c I g -∗ Wp c kk Q) -∗ Wp c (Scf.Loop.for loop8 ok () (fun j (_ : Unit) => startIn R0 (p j) (pure ⟨⟩)) >>= fun _ => kk) Q) := by
  have h := cols_wp c ok (fun j _ => startIn R0 (p j) (pure ⟨⟩)) (fun j : Fin 8 => iprop(Free c g j ∗ Home c I.X I.G I.M g j)) (fun j : Fin 8 => InFl c I.X I.G I.M g j) (fun _ => iprop(⌜True⌝)) (fun k => by
    iintro ⟨HF, -⟩
    iapply (startIn_wp c I.X I.G I.M g hg (jOf k) (p k) (hp k)) $$ HF
    iintro HI
    iapply (pure_wp c _ _ .rfl)
    isplitl [HI]; · iexact HI
    ipureintro; trivial) kk Q
  iintro HB Hk
  iapply h $$ [HB]
  · isplitl [HB]; · iexact HB
    ipureintro; trivial
  iintro ⟨HB, -⟩
  iapply Hk
  iexact HB

end Cert.KernelIdeal.Hand
-- ==== Proof.KI.Run.lean ====
/-
  The kernel run whole: the ones, the first two groups' arrivals, the seven phases, the last three departures.
-/
module

public import proofs.«01_k».proof.Proof.KI.Phases

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (I : Ins F)

/-! ## The last departures -/

/-- The departures once every chunk has been sent and `n` of the last three are home. -/
def lastSt (n : ℕ) (T : Fin 48) : sProp 𝕄 := if T.val < 45 + n then hpD c (T.val / 8) (T.val % 8) (DV I) else dSt c I 48 T

theorem last_start : OutSt c I 48 ⊢ bigSep Finset.univ (lastSt c I 0) := by
  unfold OutSt
  iintro ⟨H, -⟩
  rw [show bigSep Finset.univ (lastSt c I 0) = bigSep Finset.univ (dSt c I 48) from bigSep_congr fun T _ => by
    unfold lastSt
    by_cases h : T.val < 45 + 0
    · rw [if_pos h]; unfold dSt; rw [if_pos (by omega)]
    · rw [if_neg h]]
  iexact H

theorem last_end : bigSep Finset.univ (lastSt c I 3) = bigSep Finset.univ (fun T : Fin 48 => hpD c (T.val / 8) (T.val % 8) (DV I)) :=
  bigSep_congr fun T _ => by unfold lastSt; rw [if_pos (by have := T.isLt; omega)]

theorem last_wp (b : Fin 3) (n : SendOff) (hs : n.s = ![b.val]) (kk : Prog (TpuEff nD τ sig (Elt F) Λ₀ .tc) Unit) (Q : Unit → sProp 𝕄) :
    iprop(bigSep Finset.univ (lastSt c I b.val) ∗ Owes c)
      ⊢ iprop((iprop(bigSep Finset.univ (lastSt c I (b.val + 1)) ∗ StFree c b ∗ Owes c) -∗ Wp c kk Q) -∗ Wp c (waitOut R0 n kk) Q) := by
  have hbl := b.isLt
  have hu := bigSep_univ_update (Φ := lastSt c I b.val) (Ψ := lastSt c I (b.val + 1)) (⟨45 + b.val, by omega⟩ : Fin 48) (fun j hj => by
    have hj' : j.val ≠ 45 + b.val := fun h => hj (Fin.ext h)
    unfold lastSt
    by_cases h : j.val < 45 + b.val
    · rw [if_pos h, if_pos (by omega)]
    · rw [if_neg h, if_neg (by omega)])
  have e0 : lastSt c I b.val (⟨45 + b.val, by omega⟩ : Fin 48) = OutFl c b 5 (5 + b.val) (DV I) := by
    have eb : (⟨(45 + b.val) % 3, Nat.mod_lt _ (by decide)⟩ : Fin 3) = b := Fin.ext (by show (45 + b.val) % 3 = b.val; omega)
    unfold lastSt; rw [if_neg (by show ¬ 45 + b.val < 45 + b.val; omega)]
    unfold dSt; rw [if_neg (by show ¬ 45 + b.val + 3 < 48; omega), if_pos (by show 45 + b.val < 48; omega)]
    show OutFl c ⟨(45 + b.val) % 3, _⟩ ((45 + b.val) / 8) ((45 + b.val) % 8) (DV I) = _
    rw [eb, show (45 + b.val) / 8 = 5 by omega, show (45 + b.val) % 8 = 5 + b.val by omega]
  have e1 : lastSt c I (b.val + 1) (⟨45 + b.val, by omega⟩ : Fin 48) = hpD c 5 (5 + b.val) (DV I) := by
    unfold lastSt; rw [if_pos (by show 45 + b.val < 45 + (b.val + 1); omega)]
    show hpD c ((45 + b.val) / 8) ((45 + b.val) % 8) (DV I) = _
    rw [show (45 + b.val) / 8 = 5 by omega, show (45 + b.val) % 8 = 5 + b.val by omega]
  rw [e0, e1] at hu
  iintro ⟨HB, HW⟩ Hk
  ihave H := hu $$ HB
  icases H with ⟨HF, HB⟩
  iapply (waitOut_wp c 5 (5 + b.val) b n hs (DV I)) $$ [HF HW]
  · isplitl [HF]; · iexact HF
    iexact HW
  iintro ⟨HD, HS, HW⟩
  iapply Hk
  isplitl [HD HB]
  · iapply HB; iexact HD
  isplitl [HS]; · iexact HS
  iexact HW

/-! ## The whole -/

abbrev rS : Rect S1 := Rect.unit (s := S1) ![0] S1.size inb_S1_S1_0
/-- The one word of a scalar's buffer. -/
abbrev iS : rS.shape.Idx := Shape.Idx.first (numel1_S1.symm ▸ Nat.one_pos)
abbrev ptXs (f : S1.Idx → Elt F .f32) : sProp 𝕄 := xsM.view.loc (c : Thread nD τ) ↦[Finset.univ]{fullShare} f
abbrev ptYs (f : S1.Idx → Elt F .f32) : sProp 𝕄 := ysM.view.loc (c : Thread nD τ) ↦[Finset.univ]{fullShare} f

/-- Every block of the three arrays, home. -/
def Homes : sProp 𝕄 := iprop(BH c I 0 ∗ BH c I 1 ∗ BH c I 2 ∗ BH c I 3 ∗ BH c I 4 ∗ BH c I 5)
/-- Scratch no block of which is followed. -/
def Loose : sProp 𝕄 := iprop((∃ f, ptN (F := F) c f) ∗ (∃ f, ptA (F := F) c f) ∗ ∃ f, ptC (F := F) c f)

theorem mix2 (P P' : Fin 8 → sProp 𝕄) : iprop(bigSep Finset.univ P ∗ bigSep Finset.univ P') = bigSep Finset.univ (fun j => iprop(P j ∗ P' j)) :=
  (Idealize.SL.BI.bigSep_sep _ _ _).symm
theorem mix3 (P P' P'' : Fin 8 → sProp 𝕄) : iprop(bigSep Finset.univ P ∗ bigSep Finset.univ P' ∗ bigSep Finset.univ P'') = bigSep Finset.univ (fun j => iprop(P j ∗ P' j ∗ P'' j)) := by
  rw [mix2, mix2]

abbrev rN : Rect S16x128 := Rect.unit (s := S16x128) ![0, 0] S16x128.size inb_S16x128_S16x128_0_0

/-- The ones written. -/
theorem ones_wp (w : S16x128.Idx → Elt F .bf16) (hw : w = k0_pay733) (f : S16x128.Idx → Elt F .bf16) {hl} {hs} {hs'} (kk : Prog (TpuEff nD τ sig (Elt F) Λ₀ .tc) Unit) (Q : Unit → sProp 𝕄) :
    ptN c f ⊢ iprop((ptN c w -∗ Wp c kk Q)
      -∗ Wp c (.op (.load NM rN.toLoadRect hl) fun _ => .op (.store NM rN (k0_pay733 (F := F)) Finset.univ hs hs') fun _ => kk) Q) := by
  iintro HN Hk
  iapply (wp_load_rect 𝒱₀ (c : Thread nD τ) none Set.univ (m := NM) (r := rN) (S := Finset.univ) (f := f) (Finset.subset_univ _)) $$ HN
  iintro HN
  iapply (wp_store 𝒱₀ (c : Thread nD τ) none Set.univ (m := NM) (r := rN) (S := Finset.univ) (f := f) (Finset.subset_univ _)) $$ HN
  iintro HN
  iapply Hk
  rw [hw.trans (ones_put f).symm]
  iexact HN

theorem p0_wp (fb fg : S6x128.Idx → Elt F .f32) (kk : Prog (TpuEff nD τ sig (Elt F) Λ₀ .tc) Unit) (Q : Unit → sProp 𝕄) :
    iprop(BInF c I 0 ∗ ((∃ fc, ptC c fc) ∗ Owes c) ∗ Mid c I 0 fb fg)
      ⊢ iprop((iprop((BD c I 0 ∗ BH c I 0) ∗ Owes c ∗ Mid c I 1 fb fg ∗ Coefs c I 0) -∗ Wp c kk Q) -∗ Wp c (phase R0 I.xs I.ys ph0 kk) Q) := by
  rw [mix2]
  exact phaseA c I 0 (by decide) ⟨![0, 0], inb_S6x128_S1x128_0_0⟩ rfl fb fg k0_t3_ok k0_t4_ok win0 red0 win0_at red0_at kk Q

theorem p1_wp (fb fg : S6x128.Idx → Elt F .f32) (kk : Prog (TpuEff nD τ sig (Elt F) Λ₀ .tc) Unit) (Q : Unit → sProp 𝕄) :
    iprop((BInF c I 1 ∗ BD c I 0 ∗ BH c I 2) ∗ (Coefs c I 0 ∗ OutSt c I 0 ∗ Owes c) ∗ Mid c I 1 fb fg)
      ⊢ iprop((iprop((BD c I 1 ∗ BH c I 1 ∗ BInF c I 2) ∗ (OutSt c I 8 ∗ Owes c) ∗ Mid c I 2 fb fg ∗ Coefs c I 1) -∗ Wp c kk Q) -∗ Wp c (phase R0 I.xs I.ys ph1 kk) Q) := by
  rw [mix3, mix3]
  exact phaseB c I 0 (by decide) ⟨![1, 0], inb_S6x128_S1x128_1_0⟩ rfl fb fg k0_t5_ok k0_t6_ok win1 wout1 dx1 red1 send1 win1_at red1_at wout1_iff wout1_at dx1_rd dx1_wr send1_at (by decide) nxt1 nxt1_at kk Q

theorem p2_wp (fb fg : S6x128.Idx → Elt F .f32) (kk : Prog (TpuEff nD τ sig (Elt F) Λ₀ .tc) Unit) (Q : Unit → sProp 𝕄) :
    iprop((BInF c I 2 ∗ BD c I 1 ∗ BH c I 3) ∗ (Coefs c I 1 ∗ OutSt c I 8 ∗ Owes c) ∗ Mid c I 2 fb fg)
      ⊢ iprop((iprop((BD c I 2 ∗ BH c I 2 ∗ BInF c I 3) ∗ (OutSt c I 16 ∗ Owes c) ∗ Mid c I 3 fb fg ∗ Coefs c I 2) -∗ Wp c kk Q) -∗ Wp c (phase R0 I.xs I.ys ph2 kk) Q) := by
  rw [mix3, mix3]
  exact phaseB c I 1 (by decide) ⟨![2, 0], inb_S6x128_S1x128_2_0⟩ rfl fb fg k0_t7_ok k0_t8_ok win2 wout2 dx2 red2 send2 win2_at red2_at wout2_iff wout2_at dx2_rd dx2_wr send2_at (by decide) nxt2 nxt2_at kk Q

theorem p3_wp (fb fg : S6x128.Idx → Elt F .f32) (kk : Prog (TpuEff nD τ sig (Elt F) Λ₀ .tc) Unit) (Q : Unit → sProp 𝕄) :
    iprop((BInF c I 3 ∗ BD c I 2 ∗ BH c I 4) ∗ (Coefs c I 2 ∗ OutSt c I 16 ∗ Owes c) ∗ Mid c I 3 fb fg)
      ⊢ iprop((iprop((BD c I 3 ∗ BH c I 3 ∗ BInF c I 4) ∗ (OutSt c I 24 ∗ Owes c) ∗ Mid c I 4 fb fg ∗ Coefs c I 3) -∗ Wp c kk Q) -∗ Wp c (phase R0 I.xs I.ys ph3 kk) Q) := by
  rw [mix3, mix3]
  exact phaseB c I 2 (by decide) ⟨![3, 0], inb_S6x128_S1x128_3_0⟩ rfl fb fg k0_t9_ok k0_t10_ok win3 wout3 dx3 red3 send3 win3_at red3_at wout3_iff wout3_at dx3_rd dx3_wr send3_at (by decide) nxt3 nxt3_at kk Q

theorem p4_wp (fb fg : S6x128.Idx → Elt F .f32) (kk : Prog (TpuEff nD τ sig (Elt F) Λ₀ .tc) Unit) (Q : Unit → sProp 𝕄) :
    iprop((BInF c I 4 ∗ BD c I 3 ∗ BH c I 5) ∗ (Coefs c I 3 ∗ OutSt c I 24 ∗ Owes c) ∗ Mid c I 4 fb fg)
      ⊢ iprop((iprop((BD c I 4 ∗ BH c I 4 ∗ BInF c I 5) ∗ (OutSt c I 32 ∗ Owes c) ∗ Mid c I 5 fb fg ∗ Coefs c I 4) -∗ Wp c kk Q) -∗ Wp c (phase R0 I.xs I.ys ph4 kk) Q) := by
  rw [mix3, mix3]
  exact phaseB c I 3 (by decide) ⟨![4, 0], inb_S6x128_S1x128_4_0⟩ rfl fb fg k0_t11_ok k0_t12_ok win4 wout4 dx4 red4 send4 win4_at red4_at wout4_iff wout4_at dx4_rd dx4_wr send4_at (by decide) nxt4 nxt4_at kk Q

theorem p5_wp (fb fg : S6x128.Idx → Elt F .f32) (kk : Prog (TpuEff nD τ sig (Elt F) Λ₀ .tc) Unit) (Q : Unit → sProp 𝕄) :
    iprop((BInF c I 5 ∗ BD c I 4) ∗ (Coefs c I 4 ∗ OutSt c I 32 ∗ Owes c) ∗ Mid c I 5 fb fg)
      ⊢ iprop((iprop((BD c I 5 ∗ BH c I 5 ∗ BD c I 4) ∗ (OutSt c I 40 ∗ Owes c) ∗ Mid c I 6 fb fg ∗ Coefs c I 5) -∗ Wp c kk Q) -∗ Wp c (phase R0 I.xs I.ys ph5 kk) Q) := by
  rw [mix2, mix3]
  exact phaseC c I 4 (by decide) ⟨![5, 0], inb_S6x128_S1x128_5_0⟩ rfl fb fg k0_t13_ok k0_t14_ok win5 wout5 dx5 red5 send5 win5_at red5_at wout5_iff wout5_at dx5_rd dx5_wr send5_at kk Q

theorem p6_wp (kk : Prog (TpuEff nD τ sig (Elt F) Λ₀ .tc) Unit) (Q : Unit → sProp 𝕄) :
    iprop(BD c I 5 ∗ Coefs c I 5 ∗ OutSt c I 40 ∗ Owes c)
      ⊢ iprop((iprop(BD c I 5 ∗ Coefs c I 5 ∗ OutSt c I 48 ∗ Owes c) -∗ Wp c kk Q) -∗ Wp c (phase R0 I.xs I.ys ph6 kk) Q) :=
  phaseD c I 5 (by decide) k0_t15_ok k0_t16_ok wout6 dx6 send6 wout6_iff wout6_at dx6_rd dx6_wr send6_at kk Q

theorem kern_wp (fx fy : S1.Idx → Elt F .f32) (hx : (xsM.access rS).read (Elt F) fx iS = I.xs) (hy : (ysM.access rS).read (Elt F) fy iS = I.ys)
    (fb fg : S6x128.Idx → Elt F .f32) (Q : Unit → sProp 𝕄) :
    iprop(ptXs c fx ∗ ptYs c fy ∗ Stats c I ∗ Rows c I 0 fb fg ∗ Loose c ∗ BF c 0 ∗ BF c 1 ∗ Homes c I ∗ OutSt c I 0 ∗ Owes c)
      ⊢ iprop((iprop(ptXs c fx ∗ ptYs c fy ∗ Stats c I ∗ Rows c I 6 fb fg ∗ Loose c ∗ BF c 0 ∗ BF c 1 ∗ Homes c I
            ∗ bigSep Finset.univ (fun T : Fin 48 => hpD c (T.val / 8) (T.val % 8) (DV I)) ∗ (StFree c 0 ∗ StFree c 1 ∗ StFree c 2) ∗ Owes c) -∗ Q ())
        -∗ Wp c (kern R0 k0_t1_ok pro0 pro1 [ph0, ph1, ph2, ph3, ph4, ph5, ph6] fin0 fin1 fin2) Q) := by
  unfold Loose Homes
  iintro ⟨Hx, Hy, Hst, Hr, ⟨⟨%fn, HN⟩, HA, HC⟩, HF0, HF1, ⟨H0, H1, H2, H3, H4, H5⟩, HO, HW⟩ Hk
  unfold kern smemLoad
  simp only [smemLoadElt, Prog.lift, Prog.bind_op, Prog.bind_ret]
  iapply (wp_load_rect 𝒱₀ (c : Thread nD τ) none Set.univ (m := xsM) (r := rS) (S := Finset.univ) (f := fx) (Finset.subset_univ _)) $$ Hx
  iintro Hx
  iapply (wp_load_rect 𝒱₀ (c : Thread nD τ) none Set.univ (m := ysM) (r := rS) (S := Finset.univ) (f := fy) (Finset.subset_univ _)) $$ Hy
  iintro Hy
  rw [hx, hy]
  iapply (ones_wp c _ rfl fn) $$ HN
  iintro HN
  iapply (start_wp c I 0 (by decide) k0_t1_ok pro0 pro0_at) $$ [HF0 H0]
  · rw [← mix2]
    isplitl [HF0]; · iexact HF0
    iexact H0
  iintro HI0
  iapply (start_wp c I 1 (by decide) k0_t1_ok pro1 pro1_at) $$ [HF1 H1]
  · rw [← mix2]
    isplitl [HF1]; · iexact HF1
    iexact H1
  iintro HI1
  simp only [phases]
  -- phase 0
  iapply (p0_wp c I fb fg) $$ [HI0 HC HW Hst Hr HN HA]
  · isplitl [HI0]; · iexact HI0
    isplitl [HC HW]
    · isplitl [HC]; · iexact HC
      iexact HW
    unfold Mid
    isplitl [Hst]; · iexact Hst
    isplitl [Hr]; · iexact Hr
    isplitl [HN]; · iexact HN
    iexact HA
  iintro ⟨⟨HD, H0⟩, HW, HM, HC⟩
  -- phase 1
  iapply (p1_wp c I fb fg) $$ [HI1 HD H2 HM HC HO HW]
  · isplitl [HI1 HD H2]
    · isplitl [HI1]; · iexact HI1
      isplitl [HD]; · iexact HD
      iexact H2
    isplitr [HM]
    · isplitl [HC]; · iexact HC
      isplitl [HO]; · iexact HO
      iexact HW
    iexact HM
  iintro ⟨⟨HD, H1, HI2⟩, ⟨HO, HW⟩, HM, HC⟩
  -- phase 2
  iapply (p2_wp c I fb fg) $$ [HI2 HD H3 HM HC HO HW]
  · isplitl [HI2 HD H3]
    · isplitl [HI2]; · iexact HI2
      isplitl [HD]; · iexact HD
      iexact H3
    isplitr [HM]
    · isplitl [HC]; · iexact HC
      isplitl [HO]; · iexact HO
      iexact HW
    iexact HM
  iintro ⟨⟨HD, H2, HI3⟩, ⟨HO, HW⟩, HM, HC⟩
  -- phase 3
  iapply (p3_wp c I fb fg) $$ [HI3 HD H4 HM HC HO HW]
  · isplitl [HI3 HD H4]
    · isplitl [HI3]; · iexact HI3
      isplitl [HD]; · iexact HD
      iexact H4
    isplitr [HM]
    · isplitl [HC]; · iexact HC
      isplitl [HO]; · iexact HO
      iexact HW
    iexact HM
  iintro ⟨⟨HD, H3, HI4⟩, ⟨HO, HW⟩, HM, HC⟩
  -- phase 4
  iapply (p4_wp c I fb fg) $$ [HI4 HD H5 HM HC HO HW]
  · isplitl [HI4 HD H5]
    · isplitl [HI4]; · iexact HI4
      isplitl [HD]; · iexact HD
      iexact H5
    isplitr [HM]
    · isplitl [HC]; · iexact HC
      isplitl [HO]; · iexact HO
      iexact HW
    iexact HM
  iintro ⟨⟨HD, H4, HI5⟩, ⟨HO, HW⟩, HM, HC⟩
  -- phase 5
  iapply (p5_wp c I fb fg) $$ [HI5 HD HM HC HO HW]
  · isplitl [HI5 HD]
    · isplitl [HI5]; · iexact HI5
      iexact HD
    isplitr [HM]
    · isplitl [HC]; · iexact HC
      isplitl [HO]; · iexact HO
      iexact HW
    iexact HM
  iintro ⟨⟨HD5, H5, HD4⟩, ⟨HO, HW⟩, HM, HC⟩
  -- phase 6
  iapply (p6_wp c I) $$ [HD5 HC HO HW]
  · isplitl [HD5]; · iexact HD5
    isplitl [HC]; · iexact HC
    isplitl [HO]; · iexact HO
    iexact HW
  iintro ⟨HD5, HC, HO, HW⟩
  ihave HL := (last_start c I) $$ HO
  iapply (last_wp c I 0 fin0 rfl) $$ [HL HW]
  · isplitl [HL]; · iexact HL
    iexact HW
  iintro ⟨HL, HS0, HW⟩
  iapply (last_wp c I 1 fin1 rfl) $$ [HL HW]
  · isplitl [HL]; · iexact HL
    iexact HW
  iintro ⟨HL, HS1, HW⟩
  iapply (last_wp c I 2 fin2 rfl) $$ [HL HW]
  · isplitl [HL]; · iexact HL
    iexact HW
  iintro ⟨HL, HS2, HW⟩
  iapply (pure_wp c _ _ .rfl)
  iapply Hk
  unfold Mid
  icases HM with ⟨Hst, Hr, HN, HA⟩
  isplitl [Hx]; · iexact Hx
  isplitl [Hy]; · iexact Hy
  isplitl [Hst]; · iexact Hst
  isplitl [Hr]; · iexact Hr
  isplitl [HN HA HC]
  · isplitl [HN]; · iexists _; iexact HN
    isplitl [HA]; · iexact HA
    unfold Coefs
    icases HC with ⟨%fc, -, HC⟩
    iexists _; iexact HC
  isplitl [HD4]
  · rw [show BF (F := F) c 0 = BF c 4 from bigSep_congr fun j _ => Free_congr c rfl j]
    iapply (show BD c I 4 ⊢ BF c 4 from bigSep_mono (fun j _ => free_of_done c I 4 j)); iexact HD4
  isplitl [HD5]
  · rw [show BF (F := F) c 1 = BF c 5 from bigSep_congr fun j _ => Free_congr c rfl j]
    iapply (show BD c I 5 ⊢ BF c 5 from bigSep_mono (fun j _ => free_of_done c I 5 j)); iexact HD5
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HL]; · rw [← last_end]; iexact HL
  isplitl [HS0 HS1 HS2]
  · isplitl [HS0]; · iexact HS0
    isplitl [HS1]; · iexact HS1
    iexact HS2
  iexact HW

end Cert.KernelIdeal.Hand
-- ==== Proof.KI.Split.lean ====
/-
  The launch's buffers and cells, cut into the kernel's chunks and joined back.
-/
module

public import proofs.«01_k».proof.Proof.KI.Run
public import proofs.«01_k».proof.Proof.Gen.KernelIdeal.Frame
public import Idealize.ShloMosaic.Lib.Pipeline.FrameSuffixV

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

/-! ## The chunks of a buffer and the blocks of an array -/

/-- Where a chunk is: its slot, its place. -/
abbrev KB : Type := Fin 2 × Fin 8
abbrev ck (p : KB) : Finset S2x72x12x32x128.Idx := CK (p.1.val % 2) p.2.val
abbrev HBI : Type := Fin 6 × Fin 8
abbrev hb (p : HBI) : Finset S72x12x32x768.Idx := HB p.1.val p.2.val
abbrev tb (T : Fin 48) : Finset S72x12x32x768.Idx := HB (T.val / 8) (T.val % 8)
abbrev sb (b : Fin 3) : Finset S3x9x12x32x128.Idx := SB b.val

theorem ck_disj : ∀ p p' : KB, p ≠ p' → Disjoint (ck p) (ck p') := by
  intro p p' hne; rw [Finset.disjoint_left]; intro y hy hy'
  have h := mem_CK.mp hy; have h' := mem_CK.mp hy'
  have := p.1.isLt; have := p'.1.isLt
  exact hne (Prod.ext (Fin.ext (by omega)) (Fin.ext (by omega)))
theorem ck_cover : (Finset.univ : Finset KB).biUnion ck = Finset.univ := by
  ext y; simp only [Finset.mem_biUnion, Finset.mem_univ, true_and, iff_true]
  have h0 : (y 0).val < 2 := (y 0).isLt
  have h1 : (y 1).val < 72 := (y 1).isLt
  exact ⟨(⟨(y 0).val, h0⟩, ⟨(y 1).val / 9, by omega⟩), mem_CK.mpr ⟨by show (y 0).val = (y 0).val % 2; omega, rfl⟩⟩
theorem hb_disj : ∀ p p' : HBI, p ≠ p' → Disjoint (hb p) (hb p') := by
  intro p p' hne; rw [Finset.disjoint_left]; intro y hy hy'
  have h := mem_HB.mp hy; have h' := mem_HB.mp hy'
  exact hne (Prod.ext (Fin.ext (by omega)) (Fin.ext (by omega)))
theorem hb_cover : (Finset.univ : Finset HBI).biUnion hb = Finset.univ := by
  ext y; simp only [Finset.mem_biUnion, Finset.mem_univ, true_and, iff_true]
  have h0 : (y 0).val < 72 := (y 0).isLt
  have h3 : (y 3).val < 768 := (y 3).isLt
  exact ⟨(⟨(y 3).val / 128, by omega⟩, ⟨(y 0).val / 9, by omega⟩), mem_HB.mpr ⟨rfl, rfl⟩⟩
theorem tb_disj : ∀ p p' : Fin 48, p ≠ p' → Disjoint (tb p) (tb p') := by
  intro p p' hne; rw [Finset.disjoint_left]; intro y hy hy'
  have h := mem_HB.mp hy; have h' := mem_HB.mp hy'
  exact hne (Fin.ext (by omega))
theorem tb_cover : (Finset.univ : Finset (Fin 48)).biUnion tb = Finset.univ := by
  ext y; simp only [Finset.mem_biUnion, Finset.mem_univ, true_and, iff_true]
  have h0 : (y 0).val < 72 := (y 0).isLt
  have h3 : (y 3).val < 768 := (y 3).isLt
  exact ⟨⟨8 * ((y 3).val / 128) + (y 0).val / 9, by omega⟩, mem_HB.mpr ⟨by show _ = (8 * ((y 3).val / 128) + (y 0).val / 9) % 8; omega, by show _ = (8 * ((y 3).val / 128) + (y 0).val / 9) / 8; omega⟩⟩
theorem sb_disj : ∀ p p' : Fin 3, p ≠ p' → Disjoint (sb p) (sb p') := by
  intro p p' hne; rw [Finset.disjoint_left]; intro y hy hy'
  have h := mem_SB.mp hy; have h' := mem_SB.mp hy'
  exact hne (Fin.ext (by omega))
theorem sb_cover : (Finset.univ : Finset (Fin 3)).biUnion sb = Finset.univ := by
  ext y; simp only [Finset.mem_biUnion, Finset.mem_univ, true_and, iff_true]
  exact ⟨(⟨(y 0).val, (y 0).isLt⟩ : Fin 3), mem_SB.mpr rfl⟩

/-! ## Scratch -/

/-- A scratch buffer whole at some contents. -/
abbrev whole (b : Ref sig .tc) : sProp 𝕄 := iprop(∃ f : Buf (Elt F) ((c : Thread nD τ).loc b), ((c : Thread nD τ).loc b) ↦{fullShare} f)

theorem blocks_ex {B : Type} [Fintype B] [DecidableEq B] (b : Ref sig .tc) (S : B → Finset (Idx ((c : Thread nD τ).loc b))) (hd : ∀ p p', p ≠ p' → Disjoint (S p) (S p')) (hc : Finset.univ.biUnion S = Finset.univ) :
    whole (F := F) c b ⊢ bigSep Finset.univ (fun p => iprop(∃ f : Buf (Elt F) ((c : Thread nD τ).loc b), ((c : Thread nD τ).loc b) ↦[S p]{fullShare} f)) := by
  have key : ∀ f : Buf (Elt F) ((c : Thread nD τ).loc b), (((c : Thread nD τ).loc b) ↦{fullShare} f : sProp 𝕄) ⊢ bigSep Finset.univ (fun p => iprop(∃ f : Buf (Elt F) ((c : Thread nD τ).loc b), ((c : Thread nD τ).loc b) ↦[S p]{fullShare} f)) := by
    intro f
    rw [Ring.pointsTo_blocks (ℓ := (c : Thread nD τ).loc b) S hd hc f]
    refine bigSep_mono fun p _ => ?_
    show (((c : Thread nD τ).loc b) ↦[S p]{fullShare} f : sProp 𝕄) ⊢ iprop(∃ f : Buf (Elt F) ((c : Thread nD τ).loc b), ((c : Thread nD τ).loc b) ↦[S p]{fullShare} f)
    iintro H; iexists f; iexact H
  iintro ⟨%f, H⟩
  iapply (key f)
  iexact H

theorem nonempty_elt (e : EltTy) : Nonempty (Elt F e) := inferInstance

theorem ex_blocks {B : Type} [Fintype B] [DecidableEq B] (b : Ref sig .tc) (S : B → Finset (Idx ((c : Thread nD τ).loc b))) (hd : ∀ p p', p ≠ p' → Disjoint (S p) (S p')) (hc : Finset.univ.biUnion S = Finset.univ) :
    bigSep Finset.univ (fun p => iprop(∃ f : Buf (Elt F) ((c : Thread nD τ).loc b), ((c : Thread nD τ).loc b) ↦[S p]{fullShare} f)) ⊢ whole (F := F) c b :=
  Ring.pointsTo_blocks_join_exists (ℓ := (c : Thread nD τ).loc b) S hd hc (fun _ => (nonempty_elt _).some)

/-! ## Cells -/

/-- The kernel's own cells. -/
def osem : (Fin 3 × KB) ⊕ Fin 3 → SemLoc sig
  | .inl x => .dma (cellIn x.1 x.2.1.val x.2.2)
  | .inr b => .dma (cellOut b)

theorem ownSemFacts : Pipeline.OwnSemFacts spec0 osem := by decide +kernel

theorem three3 (Φ : Fin 3 → sProp 𝕄) : bigSep Finset.univ Φ = iprop(Φ 0 ∗ Φ 1 ∗ Φ 2) := bigSep_univ_eq_bigSepL [(0 : Fin 3), 1, 2] (by decide) (by decide) Φ
theorem two2 (Φ : Fin 2 → sProp 𝕄) : bigSep Finset.univ Φ = iprop(Φ 0 ∗ Φ 1) := bigSep_univ_eq_bigSepL [(0 : Fin 2), 1] (by decide) (by decide) Φ
theorem six6 (Φ : Fin 6 → sProp 𝕄) : bigSep Finset.univ Φ = iprop(Φ 0 ∗ Φ 1 ∗ Φ 2 ∗ Φ 3 ∗ Φ 4 ∗ Φ 5) := bigSep_univ_eq_bigSepL [(0 : Fin 6), 1, 2, 3, 4, 5] (by decide) (by decide) Φ

theorem sep_big {B : Type} [Fintype B] (Φ Ψ : B → sProp 𝕄) : bigSep Finset.univ (fun p => iprop(Φ p ∗ Ψ p)) = iprop(bigSep Finset.univ Φ ∗ bigSep Finset.univ Ψ) := Idealize.SL.BI.bigSep_sep _ _ _

theorem own_eq : (Pipeline.ownSems0 (Ix := Unit) (Name := ℕ) (U := Pipeline.UD sig nD τ) (Lvl := ℕ) (Val := Elt F) (τ := τ) osem c : sProp 𝕄)
    = iprop((bigSep Finset.univ (fun p : KB => atRest c (cellIn 0 p.1.val p.2)) ∗ bigSep Finset.univ (fun p : KB => atRest c (cellIn 1 p.1.val p.2)) ∗ bigSep Finset.univ (fun p : KB => atRest c (cellIn 2 p.1.val p.2)))
      ∗ (atRest c (cellOut 0) ∗ atRest c (cellOut 1) ∗ atRest c (cellOut 2))) := by
  unfold Pipeline.ownSems0
  rw [Idealize.SL.BI.bigSep_univ_sum, Idealize.SL.BI.bigSep_univ_prod, three3, three3]
  rfl

/-! ## Both slots' chunks -/

theorem slots_eq : iprop(BF (F := F) c 0 ∗ BF c 1) = bigSep Finset.univ (fun p : KB => Free c p.1.val p.2) := by
  rw [Idealize.SL.BI.bigSep_univ_prod, two2]
  rfl

theorem slots_parts : bigSep Finset.univ (fun p : KB => Free (F := F) c p.1.val p.2)
    = iprop(bigSep Finset.univ (fun p : KB => iprop(∃ f, ptX c (p.1.val % 2) p.2.val f)) ∗ bigSep Finset.univ (fun p : KB => iprop(∃ f, ptG c (p.1.val % 2) p.2.val f)) ∗ bigSep Finset.univ (fun p : KB => iprop(∃ f, ptM c (p.1.val % 2) p.2.val f))
      ∗ bigSep Finset.univ (fun p : KB => atRest c (cellIn 0 p.1.val p.2)) ∗ bigSep Finset.univ (fun p : KB => atRest c (cellIn 1 p.1.val p.2)) ∗ bigSep Finset.univ (fun p : KB => atRest c (cellIn 2 p.1.val p.2))) := by
  unfold Free
  rw [sep_big, sep_big, sep_big, sep_big, sep_big]

variable (I : Ins F)

theorem homes_eq : Homes c I = iprop((((c : Thread nD τ).loc main_v7) ↦{fullShare} I.X) ∗ (((c : Thread nD τ).loc main_v8) ↦{fullShare} I.G) ∗ (((c : Thread nD τ).loc main_v9) ↦{fullShare} I.M)) := by
  rw [Ring.pointsTo_blocks (ℓ := (c : Thread nD τ).loc main_v7) hb hb_disj hb_cover, Ring.pointsTo_blocks (ℓ := (c : Thread nD τ).loc main_v8) hb hb_disj hb_cover, Ring.pointsTo_blocks (ℓ := (c : Thread nD τ).loc main_v9) hb hb_disj hb_cover,
    ← sep_big, ← sep_big, Idealize.SL.BI.bigSep_univ_prod, six6]
  rfl

theorem out0_eq : OutSt c I 0 = iprop(bigSep Finset.univ (fun T : Fin 48 => iprop(∃ f, hpD c (T.val / 8) (T.val % 8) f)) ∗ (StFree c 0 ∗ StFree c 1 ∗ StFree c 2)) := by
  unfold OutSt
  rw [three3]
  rfl

theorem out_ex : whole (F := F) c cc0_scratch3 ⊢ iprop((∃ f, ptO c 0 f) ∗ (∃ f, ptO c 1 f) ∗ ∃ f, ptO c 2 f) := by
  refine (blocks_ex c cc0_scratch3 sb sb_disj sb_cover).trans (entails_of_eq ?_)
  rw [three3]; rfl
theorem ex_out : iprop((∃ f, ptO (F := F) c 0 f) ∗ (∃ f, ptO c 1 f) ∗ ∃ f, ptO c 2 f) ⊢ whole (F := F) c cc0_scratch3 := by
  refine (entails_of_eq ?_).trans (ex_blocks c cc0_scratch3 sb sb_disj sb_cover)
  rw [three3]; rfl
theorem dx_join : bigSep Finset.univ (fun T : Fin 48 => hpD c (T.val / 8) (T.val % 8) (DV I)) ⊢ (((c : Thread nD τ).loc main_v10_0) ↦{fullShare} DV I : sProp 𝕄) :=
  entails_of_eq (Ring.pointsTo_blocks (ℓ := (c : Thread nD τ).loc main_v10_0) tb tb_disj tb_cover (DV I)).symm

/-! ## In and out -/

/-- What a launch gives the kernel, cut. -/
theorem enter (D : Buf (Elt F) ((c : Thread nD τ).loc main_v10_0)) :
    iprop(Pipeline.scopedRest (Ix := Unit) (Name := ℕ) (U := Pipeline.UD sig nD τ) (Lvl := ℕ) (Val := Elt F) spec0 c ∗ Pipeline.ownSems0 (Ix := Unit) (Name := ℕ) (U := Pipeline.UD sig nD τ) (Lvl := ℕ) (Val := Elt F) (τ := τ) osem c
        ∗ ((((c : Thread nD τ).loc main_v7) ↦{fullShare} I.X) ∗ (((c : Thread nD τ).loc main_v8) ↦{fullShare} I.G) ∗ (((c : Thread nD τ).loc main_v9) ↦{fullShare} I.M)) ∗ (((c : Thread nD τ).loc main_v10_0) ↦{fullShare} D))
      ⊢ (iprop(Loose c ∗ (BF c 0 ∗ BF c 1) ∗ Homes c I ∗ OutSt c I 0) : sProp 𝕄) := by
  rw [scopedRest0_eq, own_eq, homes_eq, out0_eq, slots_eq, slots_parts]
  unfold Loose StFree
  iintro ⟨⟨H0, H1, H2, H3, H4, H5, H6⟩, ⟨⟨C0, C1, C2⟩, D0, D1, D2⟩, HH, HD⟩
  ihave H3 := (out_ex c) $$ H3
  icases H3 with ⟨O0, O1, O2⟩
  isplitl [H4 H5 H6]
  · isplitl [H6]; · iexact H6
    isplitl [H4]; · iexact H4
    iexact H5
  isplitl [H0 H1 H2 C0 C1 C2]
  · isplitl [H0]; · iapply (blocks_ex c cc0_scratch0 ck ck_disj ck_cover); iexact H0
    isplitl [H1]; · iapply (blocks_ex c cc0_scratch1 ck ck_disj ck_cover); iexact H1
    isplitl [H2]; · iapply (blocks_ex c cc0_scratch2 ck ck_disj ck_cover); iexact H2
    isplitl [C0]; · iexact C0
    isplitl [C1]; · iexact C1
    iexact C2
  isplitl [HH]; · iexact HH
  isplitl [HD]
  · iapply (blocks_ex c main_v10_0 tb tb_disj tb_cover)
    iexists D; iexact HD
  isplitl [O0 D0]
  · isplitl [O0]; · iexact O0
    iexact D0
  isplitl [O1 D1]
  · isplitl [O1]; · iexact O1
    iexact D1
  isplitl [O2]; · iexact O2
  iexact D2

/-- What the kernel leaves, joined. -/
theorem leave :
    (iprop(Loose c ∗ (BF c 0 ∗ BF c 1) ∗ Homes c I ∗ bigSep Finset.univ (fun T : Fin 48 => hpD c (T.val / 8) (T.val % 8) (DV I)) ∗ (StFree c 0 ∗ StFree c 1 ∗ StFree c 2)) : sProp 𝕄)
      ⊢ iprop(Pipeline.scopedRest (Ix := Unit) (Name := ℕ) (U := Pipeline.UD sig nD τ) (Lvl := ℕ) (Val := Elt F) spec0 c ∗ Pipeline.ownSems0 (Ix := Unit) (Name := ℕ) (U := Pipeline.UD sig nD τ) (Lvl := ℕ) (Val := Elt F) (τ := τ) osem c
        ∗ ((((c : Thread nD τ).loc main_v7) ↦{fullShare} I.X) ∗ (((c : Thread nD τ).loc main_v8) ↦{fullShare} I.G) ∗ (((c : Thread nD τ).loc main_v9) ↦{fullShare} I.M)) ∗ (((c : Thread nD τ).loc main_v10_0) ↦{fullShare} DV I)) := by
  rw [scopedRest0_eq, own_eq, homes_eq, slots_eq, slots_parts]
  unfold Loose StFree
  iintro ⟨⟨H6, H4, H5⟩, ⟨H0, H1, H2, C0, C1, C2⟩, HH, HD, ⟨O0, D0⟩, ⟨O1, D1⟩, O2, D2⟩
  isplitl [H0 H1 H2 H4 H5 H6 O0 O1 O2]
  · isplitl [H0]; · iapply (ex_blocks c cc0_scratch0 ck ck_disj ck_cover); iexact H0
    isplitl [H1]; · iapply (ex_blocks c cc0_scratch1 ck ck_disj ck_cover); iexact H1
    isplitl [H2]; · iapply (ex_blocks c cc0_scratch2 ck ck_disj ck_cover); iexact H2
    isplitl [O0 O1 O2]
    · iapply (ex_out c)
      isplitl [O0]; · iexact O0
      isplitl [O1]; · iexact O1
      iexact O2
    isplitl [H4]; · iexact H4
    isplitl [H5]; · iexact H5
    iexact H6
  isplitl [C0 C1 C2 D0 D1 D2]
  · isplitl [C0 C1 C2]
    · isplitl [C0]; · iexact C0
      isplitl [C1]; · iexact C1
      iexact C2
    isplitl [D0]; · iexact D0
    isplitl [D1]; · iexact D1
    iexact D2
  isplitl [HH]; · iexact HH
  iapply (dx_join c I)
  iexact HD

end Cert.KernelIdeal.Hand
-- ==== Proof.KI.Launch.lean ====
/-
  The launch: the pipeline's data, the body's obligation, and what every run ends with.
-/
module

public import proofs.«01_k».proof.Proof.KI.Split
public import Idealize.ShloMosaic.Lib.Pipeline.ValueKit.Point

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat BodyObligation BodyObligationLoose)

variable (m : (ℓ : Loc nD τ sig) → Buf (Elt F) ℓ) (c : Dev nD)

/-! ## The data -/

/-- The kernel's inputs, as the region finds them on core `c`. -/
def ins : Ins F where
  X := V m c main_v7
  G := V m c main_v8
  M := V m c main_v9
  xs := (xsM.access rS).read (Elt F) (V m c main_v2) iS
  ys := (ysM.access rS).read (Elt F) (V m c main_v3) iS
  me := V m c main_v4
  rs := V m c main_v5
  ga := V m c main_v6

/-- What is read whole, and what is written, beside the windows. -/
def hH : Finset (Ref sig .tc) := {main_v7, main_v8, main_v9}
def hR : Finset (Ref sig .tc) := {main_v10_0}

/-- The buffers after the region. -/
def GG (b : Ref sig .tc) : Buf (Elt F) ((c : Thread nD τ).loc b) := Function.update (V m c) main_v10_0 (DV (ins m c)) b

theorem GG_d : GG m c main_v10_0 = DV (ins m c) := by unfold GG; exact Function.update_self ..

def PhiIn : sProp 𝕄 := Pipeline.ΦDRV osem spec0 hH hR (V m) (V m) c
def PhiOut : sProp 𝕄 := Pipeline.ΦDRV osem spec0 hH hR (V m) (GG m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => DGV (ins m c)
    | ⟨6, _⟩ => DBV (ins m c)
  Φ n := if n.val = 0 then PhiIn m c else PhiOut m c
  q _ := fullShare
  owed _ := 0

theorem before_0 (t : Fin cfg0.N) (d) : (dats m 0 c).before 0 t d = iblk m c 0 t := by
  unfold Dat.before; rw [if_pos (fetch0_0 t)]; unfold Dat.fetched Dat.blockOf iblk; dsimp only [dats]; rfl
theorem before_1 (t : Fin cfg0.N) (d) : (dats m 0 c).before 1 t d = iblk m c 1 t := by
  unfold Dat.before; rw [if_pos (fetch0_1 t)]; unfold Dat.fetched Dat.blockOf iblk; dsimp only [dats]; rfl
theorem before_2 (t : Fin cfg0.N) (d) : (dats m 0 c).before 2 t d = iblk m c 2 t := by
  unfold Dat.before; rw [if_pos (fetch0_2 t)]; unfold Dat.fetched Dat.blockOf iblk; dsimp only [dats]; rfl
theorem before_3 (t : Fin cfg0.N) (d) : (dats m 0 c).before 3 t d = iblk m c 3 t := by
  unfold Dat.before; rw [if_pos (fetch0_3 t)]; unfold Dat.fetched Dat.blockOf iblk; dsimp only [dats]; rfl
theorem before_4 (t : Fin cfg0.N) (d) : (dats m 0 c).before 4 t d = iblk m c 4 t := by
  unfold Dat.before; rw [if_pos (fetch0_4 t)]; unfold Dat.fetched Dat.blockOf iblk; dsimp only [dats]; rfl
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = DGV (ins m c) := by dsimp only [dats]
theorem after_6 (t : Fin cfg0.N) : (dats m 0 c).after 6 t = DBV (ins m c) := by dsimp only [dats]

/-! ## Blocks are arrays -/

theorem ix_0 : ∀ (t : Fin cfg0.N) (a), win0_0.index t a = 0 := by decide +kernel
theorem ix_1 : ∀ (t : Fin cfg0.N) (a), win0_1.index t a = 0 := by decide +kernel
theorem ix_2 : ∀ (t : Fin cfg0.N) (a), win0_2.index t a = 0 := by decide +kernel
theorem ix_3 : ∀ (t : Fin cfg0.N) (a), win0_3.index t a = 0 := by decide +kernel
theorem ix_4 : ∀ (t : Fin cfg0.N) (a), win0_4.index t a = 0 := by decide +kernel
theorem ix_5 : ∀ (t : Fin cfg0.N) (a), win0_5.index t a = 0 := by decide +kernel
theorem ix_6 : ∀ (t : Fin cfg0.N) (a), win0_6.index t a = 0 := by decide +kernel
theorem blk_0 (t : Fin cfg0.N) : iblk m c 0 t = V m c main_v2 := by
  unfold iblk V; generalize V0 m c (Proc.devRef .tc main_v2) = A; funext y; blk_ext [ix_0]
theorem blk_1 (t : Fin cfg0.N) : iblk m c 1 t = V m c main_v3 := by
  unfold iblk V; generalize V0 m c (Proc.devRef .tc main_v3) = A; funext y; blk_ext [ix_1]
theorem blk_2 (t : Fin cfg0.N) : iblk m c 2 t = V m c main_v4 := by
  unfold iblk V; generalize V0 m c (Proc.devRef .tc main_v4) = A; funext y; blk_ext [ix_2]
theorem blk_3 (t : Fin cfg0.N) : iblk m c 3 t = V m c main_v5 := by
  unfold iblk V; generalize V0 m c (Proc.devRef .tc main_v5) = A; funext y; blk_ext [ix_3]
theorem blk_4 (t : Fin cfg0.N) : iblk m c 4 t = V m c main_v6 := by
  unfold iblk V; generalize V0 m c (Proc.devRef .tc main_v6) = A; funext y; blk_ext [ix_4]

theorem final_5 : (dats m 0 c).arrAt 5 cfg0.N = DGV (ins m c) := by
  refine Dat.arrAt_eq_of_cover _ 5 _ (fun t _ => ?_) (fun i => ⟨t0_0, flush0_5 _, ?_⟩)
  · unfold Dat.flushed; rw [after_5]
    generalize DGV (ins m c) = A; funext y; symm; blk_ext [ix_5]
  · have h0 : (i 0).val < 6 := (i 0).isLt
    have h1 : (i 1).val < 128 := (i 1).isLt
    mem_blk [ix_5]
    all_goals omega

theorem final_6 : (dats m 0 c).arrAt 6 cfg0.N = DBV (ins m c) := by
  refine Dat.arrAt_eq_of_cover _ 6 _ (fun t _ => ?_) (fun i => ⟨t0_0, flush0_6 _, ?_⟩)
  · unfold Dat.flushed; rw [after_6]
    generalize DBV (ins m c) = A; funext y; symm; blk_ext [ix_6]
  · have h0 : (i 0).val < 6 := (i 0).isLt
    have h1 : (i 1).val < 128 := (i 1).isLt
    mem_blk [ix_6]
    all_goals omega

/-! ## The body -/

theorem rowsTo_zero {α : Type} (U f0 : S6x128.Idx → α) : rowsTo 0 U f0 = f0 := by
  funext i; unfold rowsTo; rw [if_neg (Nat.not_lt_zero _)]
theorem rowsTo_all {α : Type} (U f0 : S6x128.Idx → α) : rowsTo 6 U f0 = U := by
  funext i; unfold rowsTo; rw [if_pos (show (i 0).val < 6 from (i 0).isLt)]

theorem defs_tc : (defs₀ (F := F)) .tc cfg0.body = fun a => cc0_bn_relu_bwd (F := F) (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (Memref.whole main_v7) (Memref.isWhole_whole _) (Memref.whole main_v8) (Memref.isWhole_whole _) (Memref.whole main_v9) (Memref.isWhole_whole _) (Memref.whole main_v10_0) (Memref.isWhole_whole _) (win0_5.stage (a.2 5)) (hstage0_5 0) (win0_6.stage (a.2 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 := rfl
theorem prog_eq (t : Fin cfg0.N) : (defs₀ (F := F)) .tc cfg0.body (cfg0.bodyArgs t (cfg0.slots t)) = kern R0 k0_t1_ok pro0 pro1 [ph0, ph1, ph2, ph3, ph4, ph5, ph6] fin0 fin1 fin2 :=
  (congrFun defs_tc _).trans (kern_eq (F := F) R0 _ _ _ _ _ _ _)

theorem in_eq : PhiIn m c ⊢ iprop(Loose c ∗ (BF c 0 ∗ BF c 1) ∗ Homes c (ins m c) ∗ OutSt c (ins m c) 0) := by
  refine BIClass.entails_trans ?_ (enter c (ins m c) (V m c main_v10_0))
  unfold PhiIn Pipeline.ΦDRV hH hR
  refine BIClass.sep_mono .rfl (BIClass.sep_mono .rfl (BIClass.sep_mono ?_ ?_))
  · rw [bigSep_insert (by decide), bigSep_insert (by decide), bigSep_singleton]; exact .rfl
  · rw [bigSep_singleton]

theorem out_eq : iprop(Loose c ∗ (BF c 0 ∗ BF c 1) ∗ Homes c (ins m c) ∗ bigSep Finset.univ (fun T : Fin 48 => hpD c (T.val / 8) (T.val % 8) (DV (ins m c))) ∗ (StFree c 0 ∗ StFree c 1 ∗ StFree c 2)) ⊢ PhiOut m c := by
  refine BIClass.entails_trans (leave c (ins m c)) ?_
  unfold PhiOut Pipeline.ΦDRV hH hR
  refine BIClass.sep_mono .rfl (BIClass.sep_mono .rfl (BIClass.sep_mono ?_ ?_))
  · rw [bigSep_insert (by decide), bigSep_insert (by decide), bigSep_singleton]; exact .rfl
  · rw [bigSep_singleton, GG_d]

/-- The body, from the windows' contents to the windows' contents. -/
theorem body_wp (fb fg : S6x128.Idx → Elt F .f32) (Q : Unit → sProp 𝕄) :
    iprop(PhiIn m c ∗ Owes c ∗ ptXs c (V m c main_v2) ∗ ptYs c (V m c main_v3) ∗ Stats c (ins m c) ∗ ptW c dgM fg ∗ ptW c dbM fb)
      ⊢ iprop((iprop(PhiOut m c ∗ Owes c ∗ ptXs c (V m c main_v2) ∗ ptYs c (V m c main_v3) ∗ Stats c (ins m c) ∗ ptW c dgM (DGV (ins m c)) ∗ ptW c dbM (DBV (ins m c))) -∗ Q ())
        -∗ Wp c (kern R0 k0_t1_ok pro0 pro1 [ph0, ph1, ph2, ph3, ph4, ph5, ph6] fin0 fin1 fin2) Q) := by
  iintro ⟨HP, HW, HX, HY, HS, Hg, Hb⟩ K
  ihave HP := (in_eq m c) $$ HP
  icases HP with ⟨HL, ⟨HB0, HB1⟩, HH, HO⟩
  iapply (kern_wp c (ins m c) (V m c main_v2) (V m c main_v3) rfl rfl fb fg Q) $$ [HW HX HY HS Hg Hb HL HB0 HB1 HH HO]
  · unfold Rows
    rw [rowsTo_zero, rowsTo_zero]
    isplitl [HX]; · iexact HX
    isplitl [HY]; · iexact HY
    isplitl [HS]; · iexact HS
    isplitl [Hg Hb]
    · isplitl [Hb]; · iexact Hb
      iexact Hg
    isplitl [HL]; · iexact HL
    isplitl [HB0]; · iexact HB0
    isplitl [HB1]; · iexact HB1
    isplitl [HH]; · iexact HH
    isplitl [HO]; · iexact HO
    iexact HW
  · unfold Rows
    rw [rowsTo_all, rowsTo_all]
    iintro ⟨HX, HY, HS, ⟨Hb, Hg⟩, HL, HB0, HB1, HH, HD, HF, HW⟩
    iapply K
    isplitl [HL HB0 HB1 HH HD HF]
    · iapply (out_eq m c)
      isplitl [HL]; · iexact HL
      isplitl [HB0 HB1]
      · isplitl [HB0]; · iexact HB0
        iexact HB1
      isplitl [HH]; · iexact HH
      isplitl [HD]; · iexact HD
      iexact HF
    isplitl [HW]; · iexact HW
    isplitl [HX]; · iexact HX
    isplitl [HY]; · iexact HY
    isplitl [HS]; · iexact HS
    isplitl [Hg]; · iexact Hg
    iexact Hb

/-! ## Windows whole -/

theorem ownsIn_0 (t : Fin cfg0.N) (X : S1.Idx → Elt F .f32) : (owns (c : Thread nD τ) ((cfg0.win 0).stage (cfg0.slots t 0)) fullShare X : sProp 𝕄) ⊢ ptXs c X := by
  unfold owns
  iintro ⟨%f, %h, H⟩
  have e : f = X := h
  subst e
  iapply (entails_of_eq (congrArg (fun S => ((c : Thread nD τ).loc cc0_stg0_0 ↦[S]{fullShare} f : sProp 𝕄)) (stage_whole0 0 (cfg0.slots t 0)).set_eq_univ))
  iexact H
theorem ownsOut_0 (t : Fin cfg0.N) (X : S1.Idx → Elt F .f32) : (ptXs c X : sProp 𝕄) ⊢ owns (c : Thread nD τ) ((cfg0.win 0).stage (cfg0.slots t 0)) fullShare X := by
  unfold owns
  iintro H
  iexists X
  isplitr
  · ipureintro; rfl
  iapply (entails_of_eq (congrArg (fun S => ((c : Thread nD τ).loc cc0_stg0_0 ↦[S]{fullShare} X : sProp 𝕄)) (stage_whole0 0 (cfg0.slots t 0)).set_eq_univ).symm)
  iexact H
theorem ownsIn_1 (t : Fin cfg0.N) (X : S1.Idx → Elt F .f32) : (owns (c : Thread nD τ) ((cfg0.win 1).stage (cfg0.slots t 1)) fullShare X : sProp 𝕄) ⊢ ptYs c X := by
  unfold owns
  iintro ⟨%f, %h, H⟩
  have e : f = X := h
  subst e
  iapply (entails_of_eq (congrArg (fun S => ((c : Thread nD τ).loc cc0_stg1_0 ↦[S]{fullShare} f : sProp 𝕄)) (stage_whole0 1 (cfg0.slots t 1)).set_eq_univ))
  iexact H
theorem ownsOut_1 (t : Fin cfg0.N) (X : S1.Idx → Elt F .f32) : (ptYs c X : sProp 𝕄) ⊢ owns (c : Thread nD τ) ((cfg0.win 1).stage (cfg0.slots t 1)) fullShare X := by
  unfold owns
  iintro H
  iexists X
  isplitr
  · ipureintro; rfl
  iapply (entails_of_eq (congrArg (fun S => ((c : Thread nD τ).loc cc0_stg1_0 ↦[S]{fullShare} X : sProp 𝕄)) (stage_whole0 1 (cfg0.slots t 1)).set_eq_univ).symm)
  iexact H
theorem ownsIn_2 (t : Fin cfg0.N) (X : S6x128.Idx → Elt F .f32) : (owns (c : Thread nD τ) ((cfg0.win 2).stage (cfg0.slots t 2)) fullShare X : sProp 𝕄) ⊢ ptW c meM X := by
  unfold owns
  iintro ⟨%f, %h, H⟩
  have e : f = X := h
  subst e
  iapply (entails_of_eq (congrArg (fun S => ((c : Thread nD τ).loc cc0_stg2_0 ↦[S]{fullShare} f : sProp 𝕄)) (stage_whole0 2 (cfg0.slots t 2)).set_eq_univ))
  iexact H
theorem ownsOut_2 (t : Fin cfg0.N) (X : S6x128.Idx → Elt F .f32) : (ptW c meM X : sProp 𝕄) ⊢ owns (c : Thread nD τ) ((cfg0.win 2).stage (cfg0.slots t 2)) fullShare X := by
  unfold owns
  iintro H
  iexists X
  isplitr
  · ipureintro; rfl
  iapply (entails_of_eq (congrArg (fun S => ((c : Thread nD τ).loc cc0_stg2_0 ↦[S]{fullShare} X : sProp 𝕄)) (stage_whole0 2 (cfg0.slots t 2)).set_eq_univ).symm)
  iexact H
theorem ownsIn_3 (t : Fin cfg0.N) (X : S6x128.Idx → Elt F .f32) : (owns (c : Thread nD τ) ((cfg0.win 3).stage (cfg0.slots t 3)) fullShare X : sProp 𝕄) ⊢ ptW c rsM X := by
  unfold owns
  iintro ⟨%f, %h, H⟩
  have e : f = X := h
  subst e
  iapply (entails_of_eq (congrArg (fun S => ((c : Thread nD τ).loc cc0_stg3_0 ↦[S]{fullShare} f : sProp 𝕄)) (stage_whole0 3 (cfg0.slots t 3)).set_eq_univ))
  iexact H
theorem ownsOut_3 (t : Fin cfg0.N) (X : S6x128.Idx → Elt F .f32) : (ptW c rsM X : sProp 𝕄) ⊢ owns (c : Thread nD τ) ((cfg0.win 3).stage (cfg0.slots t 3)) fullShare X := by
  unfold owns
  iintro H
  iexists X
  isplitr
  · ipureintro; rfl
  iapply (entails_of_eq (congrArg (fun S => ((c : Thread nD τ).loc cc0_stg3_0 ↦[S]{fullShare} X : sProp 𝕄)) (stage_whole0 3 (cfg0.slots t 3)).set_eq_univ).symm)
  iexact H
theorem ownsIn_4 (t : Fin cfg0.N) (X : S6x128.Idx → Elt F .f32) : (owns (c : Thread nD τ) ((cfg0.win 4).stage (cfg0.slots t 4)) fullShare X : sProp 𝕄) ⊢ ptW c gaM X := by
  unfold owns
  iintro ⟨%f, %h, H⟩
  have e : f = X := h
  subst e
  iapply (entails_of_eq (congrArg (fun S => ((c : Thread nD τ).loc cc0_stg4_0 ↦[S]{fullShare} f : sProp 𝕄)) (stage_whole0 4 (cfg0.slots t 4)).set_eq_univ))
  iexact H
theorem ownsOut_4 (t : Fin cfg0.N) (X : S6x128.Idx → Elt F .f32) : (ptW c gaM X : sProp 𝕄) ⊢ owns (c : Thread nD τ) ((cfg0.win 4).stage (cfg0.slots t 4)) fullShare X := by
  unfold owns
  iintro H
  iexists X
  isplitr
  · ipureintro; rfl
  iapply (entails_of_eq (congrArg (fun S => ((c : Thread nD τ).loc cc0_stg4_0 ↦[S]{fullShare} X : sProp 𝕄)) (stage_whole0 4 (cfg0.slots t 4)).set_eq_univ).symm)
  iexact H
theorem ownsIn_5 (t : Fin cfg0.N) (X : S6x128.Idx → Elt F .f32) : (owns (c : Thread nD τ) ((cfg0.win 5).stage (cfg0.slots t 5)) fullShare X : sProp 𝕄) ⊢ ptW c dgM X := by
  unfold owns
  iintro ⟨%f, %h, H⟩
  have e : f = X := h
  subst e
  iapply (entails_of_eq (congrArg (fun S => ((c : Thread nD τ).loc cc0_stg5_0 ↦[S]{fullShare} f : sProp 𝕄)) (stage_whole0 5 (cfg0.slots t 5)).set_eq_univ))
  iexact H
theorem ownsOut_5 (t : Fin cfg0.N) (X : S6x128.Idx → Elt F .f32) : (ptW c dgM X : sProp 𝕄) ⊢ owns (c : Thread nD τ) ((cfg0.win 5).stage (cfg0.slots t 5)) fullShare X := by
  unfold owns
  iintro H
  iexists X
  isplitr
  · ipureintro; rfl
  iapply (entails_of_eq (congrArg (fun S => ((c : Thread nD τ).loc cc0_stg5_0 ↦[S]{fullShare} X : sProp 𝕄)) (stage_whole0 5 (cfg0.slots t 5)).set_eq_univ).symm)
  iexact H
theorem ownsIn_6 (t : Fin cfg0.N) (X : S6x128.Idx → Elt F .f32) : (owns (c : Thread nD τ) ((cfg0.win 6).stage (cfg0.slots t 6)) fullShare X : sProp 𝕄) ⊢ ptW c dbM X := by
  unfold owns
  iintro ⟨%f, %h, H⟩
  have e : f = X := h
  subst e
  iapply (entails_of_eq (congrArg (fun S => ((c : Thread nD τ).loc cc0_stg6_0 ↦[S]{fullShare} f : sProp 𝕄)) (stage_whole0 6 (cfg0.slots t 6)).set_eq_univ))
  iexact H
theorem ownsOut_6 (t : Fin cfg0.N) (X : S6x128.Idx → Elt F .f32) : (ptW c dbM X : sProp 𝕄) ⊢ owns (c : Thread nD τ) ((cfg0.win 6).stage (cfg0.slots t 6)) fullShare X := by
  unfold owns
  iintro H
  iexists X
  isplitr
  · ipureintro; rfl
  iapply (entails_of_eq (congrArg (fun S => ((c : Thread nD τ).loc cc0_stg6_0 ↦[S]{fullShare} X : sProp 𝕄)) (stage_whole0 6 (cfg0.slots t 6)).set_eq_univ).symm)
  iexact H

set_option maxHeartbeats 800000 in
set_option backward.isDefEq.respectTransparency.types false in
theorem body_obligation : BodyObligation (dats (F := F) m 0 c) (defs₀ (F := F)) 𝒱₀ () Set.univ := fun t => by
  obtain rfl := fin_N0 t
  rw [bigSep_W0, bigSep_W0]
  dsimp only
  simp only [before_0, before_1, before_2, before_3, before_4, after_0, after_1, after_2, after_3, after_4, after_5, after_6, blk_0, blk_1, blk_2, blk_3, blk_4]
  rw [show (dats m 0 c).Φ (Fin.castSucc t0_0) = PhiIn m c from rfl, show (dats m 0 c).Φ (Fin.succ t0_0) = PhiOut m c from rfl]
  unfold Dat.owesAt Pipeline.owesWithin
  rw [show (dats m 0 c).owed (Fin.castSucc t0_0) = 0 from rfl, show (dats m 0 c).owed (Fin.succ t0_0) = 0 from rfl]
  generalize hA5 : DGV (ins m c) = A5
  generalize hA6 : DBV (ins m c) = A6
  iintro ⟨HP, ⟨%W, -, HW⟩, ⟨%d0, H0⟩, ⟨%d1, H1⟩, ⟨%d2, H2⟩, ⟨%d3, H3⟩, ⟨%d4, H4⟩, ⟨%d5, H5⟩, ⟨%d6, H6⟩⟩
  ihave H0 := (ownsIn_0 c t0_0 _) $$ H0
  ihave H1 := (ownsIn_1 c t0_0 _) $$ H1
  ihave H2 := (ownsIn_2 c t0_0 _) $$ H2
  ihave H3 := (ownsIn_3 c t0_0 _) $$ H3
  ihave H4 := (ownsIn_4 c t0_0 _) $$ H4
  ihave H5 := (ownsIn_5 c t0_0 _) $$ H5
  ihave H6 := (ownsIn_6 c t0_0 _) $$ H6
  sl_rw [prog_eq t0_0]
  iapply (body_wp m c _ _ _) $$ [HP HW H0 H1 H2 H3 H4 H5 H6]
  · unfold Stats
    isplitl [HP]; · iexact HP
    isplitl [HW]; · iexists W; iexact HW
    isplitl [H0]; · iexact H0
    isplitl [H1]; · iexact H1
    isplitl [H2 H3 H4]
    · isplitl [H2]; · iexact H2
      isplitl [H3]; · iexact H3
      iexact H4
    isplitl [H5]; · iexact H5
    iexact H6
  · unfold Stats
    rw [hA5, hA6]
    iintro ⟨HP, ⟨%W', HW⟩, H0, H1, ⟨H2, H3, H4⟩, H5, H6⟩
    isplitl [HP]; · iexact HP
    isplitl [HW]
    · iexists W'; isplitr; · ipureintro; exact fun _ _ => Or.inl trivial
      iexact HW
    isplitl [H0]; · iapply (ownsOut_0 c t0_0 _); iexact H0
    isplitl [H1]; · iapply (ownsOut_1 c t0_0 _); iexact H1
    isplitl [H2]; · iapply (ownsOut_2 c t0_0 _); iexact H2
    isplitl [H3]; · iapply (ownsOut_3 c t0_0 _); iexact H3
    isplitl [H4]; · iapply (ownsOut_4 c t0_0 _); iexact H4
    isplitl [H5]; · iapply (ownsOut_5 c t0_0 _); iexact H5
    iapply (ownsOut_6 c t0_0 _); iexact H6

/-! ## The run -/

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The unscoped buffers at the end. -/
abbrev W (b : Ref sig .tc) : Buf (Elt F) ((c : Thread nD τ).loc b) :=
  StableHlo.after (List.flatten [hostOps1]) (Pipeline.withArrays spec0 c (Pipeline.withR (V0 m c) hR c (GG m c)) fun w => (dats m 0 c).arrAt w cfg0.N) (Proc.devRef .tc b)

/-- Every run ends with the unscoped buffers at `W` and every counter at zero. -/
theorem run_main (ρ : Dev nD → PrngReg) : θ_run defs (onTc (τ := τ) (main (F := F))) ⟨m, fun _ => 0, ρ⟩
    (fun r => (∀ c : Dev nD, ∀ b ∈ Pipeline.restRefs sig spec0, r.2.mem ((c : Thread nD τ).loc b) = W m c b) ∧ r.2.sem = fun _ => 0) :=
  Pipeline.θ_run_frame_dmaR_aroundV cfgs (dats m) (0 : Fin 1) launch0 osem defs₀ 𝒱₀ ownSemFacts hH hR (by decide +kernel) (by decide +kernel) m ρ main
    (fun c => (body_obligation m c).loose) (fun c => (dats m 0 c).share_full fun _ => rfl) (fun _ _ => rfl)
    (V0 m) [hostOps1] sfx_sub sfx_fresh sfx_keeps (GG m) (hmainD m) (fun _ _ => rfl)
    (fun c => .rfl) (fun c => .rfl) _ (fun r h => ⟨fun c b hb => (h.1 c).2 b hb, h.2⟩)

end Cert.KernelIdeal.Hand
-- ==== Proof.KI.End.lean ====
/-
  What a run leaves in the arguments: nothing moved.
-/
module

public import proofs.«01_k».proof.Proof.KI.Launch

@[expose] public section

set_option maxRecDepth 65536

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (c : Dev nD)

theorem W_arg0 : W m c main_arg0 = m ((c : Thread nD τ).loc main_arg0) := by
  unfold W
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ hR c _ main_arg0 (by decide)]
  exact V_main_arg0 m c
theorem W_arg1 : W m c main_arg1 = m ((c : Thread nD τ).loc main_arg1) := by
  unfold W
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ hR c _ main_arg1 (by decide)]
  exact V_main_arg1 m c
theorem W_arg2 : W m c main_arg2 = m ((c : Thread nD τ).loc main_arg2) := by
  unfold W
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2)),
    Pipeline.withR_of_not_mem _ hR c _ main_arg2 (by decide)]
  exact V_main_arg2 m c
theorem W_arg3 : W m c main_arg3 = m ((c : Thread nD τ).loc main_arg3) := by
  unfold W
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg3 (by exact (by decide : ∀ w, Pipeline.arrRef spec0 w ≠ main_arg3)),
    Pipeline.withR_of_not_mem _ hR c _ main_arg3 (by decide)]
  exact V_main_arg3 m c
theorem W_arg4 : W m c main_arg4 = m ((c : Thread nD τ).loc main_arg4) := by
  unfold W
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg4 (by exact (by decide : ∀ w, Pipeline.arrRef spec0 w ≠ main_arg4)),
    Pipeline.withR_of_not_mem _ hR c _ main_arg4 (by decide)]
  exact V_main_arg4 m c
theorem W_arg5 : W m c main_arg5 = m ((c : Thread nD τ).loc main_arg5) := by
  unfold W
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg5 (by exact (by decide : ∀ w, Pipeline.arrRef spec0 w ≠ main_arg5)),
    Pipeline.withR_of_not_mem _ hR c _ main_arg5 (by decide)]
  exact V_main_arg5 m c
theorem W_arg6 : W m c main_arg6 = m ((c : Thread nD τ).loc main_arg6) := by
  unfold W
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg6 (by exact (by decide : ∀ w, Pipeline.arrRef spec0 w ≠ main_arg6)),
    Pipeline.withR_of_not_mem _ hR c _ main_arg6 (by decide)]
  exact V_main_arg6 m c
theorem W_arg7 : W m c main_arg7 = m ((c : Thread nD τ).loc main_arg7) := by
  unfold W
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg7 (by exact (by decide : ∀ w, Pipeline.arrRef spec0 w ≠ main_arg7)),
    Pipeline.withR_of_not_mem _ hR c _ main_arg7 (by decide)]
  exact V_main_arg7 m c

/-- Every run ends with the arguments as launched and every counter at zero. -/
theorem frame (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) ∧ r.2.sem = fun _ => 0) :=
  (θ_run defs _ _).mono (fun r h => ⟨fun c => ⟨(h.1 c main_arg0 (Pipeline.mem_restRefs_of main_arg0 (by decide) (by decide))).trans (W_arg0 m c), (h.1 c main_arg1 (Pipeline.mem_restRefs_of main_arg1 (by decide) (by decide))).trans (W_arg1 m c), (h.1 c main_arg2 (Pipeline.mem_restRefs_of main_arg2 (by decide) (by decide))).trans (W_arg2 m c), (h.1 c main_arg3 (Pipeline.mem_restRefs_of main_arg3 (by decide) (by decide))).trans (W_arg3 m c), (h.1 c main_arg4 (Pipeline.mem_restRefs_of main_arg4 (by decide) (by decide))).trans (W_arg4 m c), (h.1 c main_arg5 (Pipeline.mem_restRefs_of main_arg5 (by decide) (by decide))).trans (W_arg5 m c), (h.1 c main_arg6 (Pipeline.mem_restRefs_of main_arg6 (by decide) (by decide))).trans (W_arg6 m c), (h.1 c main_arg7 (Pipeline.mem_restRefs_of main_arg7 (by decide) (by decide))).trans (W_arg7 m c)⟩, h.2⟩) (run_main m ρ)

end Cert.KernelIdeal.Hand
-- ==== Proof.K.Step.lean ====
/-
  One step of the kernel's inner loop, as a program over the offsets it reads and writes at: the `dx` rows of one slab
  and the masked sums of another, each over twelve tiles of 32 rows and 128 lanes. Every printed inner loop body is
  this program at its own offsets.
-/
module

public import proofs.«01_k».proof.Proof.Gen.Kernel.Skeleton
public import proofs.«01_k».proof.Proof.KI.End

@[expose] public section

noncomputable section

namespace Cert.Kernel.Hand

open Idealize.ShloMosaic Idealize.SL.Sem Cert.Kernel Cert.Kernel.Gen

variable {F : FTy → Type} [FloatOps F]

/-- Where one tile of a slab lies in the input buffers, with the evidence an access there asks for. -/
structure TileOff where
  o : Fin 5 → Nat
  inb : ∀ a, o a + S1x1x1x32x128.size a ≤ S2x72x12x32x128.size a
  pk : (Rect.unit (s := S2x72x12x32x128) o S1x1x1x32x128.size inb).PackedRows (EltTy.packing .fp8e5m2)

/-- Where a tile that is only read lies in the input buffers. -/
structure RdOff where
  o : Fin 5 → Nat
  inb : ∀ a, o a + S1x1x1x32x128.size a ≤ S2x72x12x32x128.size a

/-- Where one tile lies in the output staging buffer. -/
structure OutOff where
  o : Fin 5 → Nat
  inb : ∀ a, o a + S1x1x1x32x128.size a ≤ S3x9x12x32x128.size a
  pk : (Rect.unit (s := S3x9x12x32x128) o S1x1x1x32x128.size inb).PackedRows (EltTy.packing .bf16)

/-- The upper sixteen rows of a tile of masked gradients, in f32. -/
def lo (gb : FVec F S32x128 .bf16) : FVec F S16x128 .f32 :=
  extf .f32 (extractStridedSlice S16x128 ![0, 0] gb slices_S32x128_o0_0_S16x128) bitsLt_bf16_f32

/-- The lower sixteen rows. -/
def hi (gb : FVec F S32x128 .bf16) : FVec F S16x128 .f32 :=
  extf .f32 (extractStridedSlice S16x128 ![16, 0] gb slices_S32x128_o16_0_S16x128) bitsLt_bf16_f32

/-- The two running sums, of gradients and of gradients times inputs; none yet, or some. -/
abbrev Sums (F : FTy → Type) := Option (FVec F S16x128 .f32 × FVec F S16x128 .f32)

/-- A sum begun or continued. -/
def addTo : Sums F → FVec F S16x128 .f32 → FVec F S16x128 .f32 → FVec F S16x128 .f32 × FVec F S16x128 .f32
  | none, p, q => (p, q)
  | some s, p, q => (addf s.1 p, addf s.2 q)

/-- The sums after one more tile: `s.1` of products, `s.2` of gradients. -/
def tileSums (ones : FVec F S16x128 .f32) (s : Sums F) (g8 : FVec F S32x128 .fp8e5m2) (xb : FVec F S32x128 .bf16) : FVec F S16x128 .f32 × FVec F S16x128 .f32 :=
  let gb : FVec F S32x128 .bf16 := extf .bf16 g8 bitsLt_fp8e5m2_bf16
  addTo (some (addTo s (mulf (lo gb) (lo xb)) (mulf (lo gb) ones))) (mulf (hi gb) (hi xb)) (mulf (hi gb) ones)

variable (X : Memref sig .tc .vmem S2x72x12x32x128 .fp8e4m3) (hX : X.IsWhole) (G : Memref sig .tc .vmem S2x72x12x32x128 .fp8e5m2) (hG : G.IsWhole)
  (M : Memref sig .tc .vmem S2x72x12x32x128 .i8) (hM : M.IsWhole) (O : Memref sig .tc .vmem S3x9x12x32x128 .bf16) (hO : O.IsWhole)
  (A : Memref sig .tc .vmem S2x8x128 .f32) (C : Memref sig .tc .vmem S3x32x128 .f32) (N : Memref sig .tc .vmem S16x128 .bf16)

/-- The masked sums over a list of tiles, and the masked tiles. -/
def redTiles (ones : FVec F S16x128 .f32) : List TileOff → Sums F → (Sums F → List (TileOff × FVec F S32x128 .fp8e5m2) → Prog (TpuEff nD τ sig (Elt F) Λ₀ .tc) Unit) → Prog (TpuEff nD τ sig (Elt F) Λ₀ .tc) Unit
  | [], s, k => k s []
  | t :: ts, s, k => do
    let m : Vec F S1x1x1x32x128 .i8 ← Prog.lift (.load M (Rect.unit (s := S2x72x12x32x128) t.o S1x1x1x32x128.size t.inb).toLoadRect (View.loadsAt_vmem h_S1x1x1x32x128))
    let g : Vec F S1x1x1x32x128 .fp8e5m2 ← Prog.lift (.load G (Rect.unit (s := S2x72x12x32x128) t.o S1x1x1x32x128.size t.inb).toLoadRect (View.loadsAt_vmem h_S1x1x1x32x128))
    let x : Vec F S1x1x1x32x128 .fp8e4m3 ← Prog.lift (.load X (Rect.unit (s := S2x72x12x32x128) t.o S1x1x1x32x128.size t.inb).toLoadRect (View.loadsAt_vmem h_S1x1x1x32x128))
    redTiles ones ts (some (tileSums ones s (k0_pay2 m g) (k0_pay4 x))) fun s' l => k s' ((t, k0_pay2 m g) :: l)

/-- The masked tiles written back. -/
def putTiles : List (TileOff × FVec F S32x128 .fp8e5m2) → Prog (TpuEff nD τ sig (Elt F) Λ₀ .tc) Unit → Prog (TpuEff nD τ sig (Elt F) Λ₀ .tc) Unit
  | [], k => k
  | (t, g8) :: l, k => do
    let _ : Vec F S1x1x1x32x128 .fp8e5m2 ← Prog.lift (.load G (Rect.unit (s := S2x72x12x32x128) t.o S1x1x1x32x128.size t.inb).toLoadRect (View.loadsAt_vmem h_S1x1x1x32x128))
    Prog.lift (.store G (Rect.unit (s := S2x72x12x32x128) t.o S1x1x1x32x128.size t.inb) (k0_pay100 g8) Finset.univ (View.stores_vmem h_S1x1x1x32x128 (hG.storeExact_slice rfl _ t.pk) (fun _ => rfl)) (.inl rfl))
    putTiles l k

/-- The accumulators' rows increased by the sums. -/
def putAcc : Sums F → Prog (TpuEff nD τ sig (Elt F) Λ₀ .tc) Unit → Prog (TpuEff nD τ sig (Elt F) Λ₀ .tc) Unit
  | none, k => k
  | some s, k => do
    let a : Vec F S1x8x128 .f32 ← Prog.lift (.load A (Rect.unit (s := S2x8x128) ![0, 0, 0] S1x8x128.size inb_S2x8x128_S1x8x128_0_0_0).toLoadRect (View.loadsAt_vmem h_S1x8x128))
    let _ : Vec F S1x8x128 .f32 ← Prog.lift (.load A (Rect.unit (s := S2x8x128) ![0, 0, 0] S1x8x128.size inb_S2x8x128_S1x8x128_0_0_0).toLoadRect (View.loadsAt_vmem h_S1x8x128))
    Prog.lift (.store A (Rect.unit (s := S2x8x128) ![0, 0, 0] S1x8x128.size inb_S2x8x128_S1x8x128_0_0_0) (k0_pay102 s.2 a) Finset.univ (View.stores_vmem_bits_univ h_S1x8x128 rfl) (.inl rfl))
    let b : Vec F S1x8x128 .f32 ← Prog.lift (.load A (Rect.unit (s := S2x8x128) ![1, 0, 0] S1x8x128.size inb_S2x8x128_S1x8x128_1_0_0).toLoadRect (View.loadsAt_vmem h_S1x8x128))
    let _ : Vec F S1x8x128 .f32 ← Prog.lift (.load A (Rect.unit (s := S2x8x128) ![1, 0, 0] S1x8x128.size inb_S2x8x128_S1x8x128_1_0_0).toLoadRect (View.loadsAt_vmem h_S1x8x128))
    Prog.lift (.store A (Rect.unit (s := S2x8x128) ![1, 0, 0] S1x8x128.size inb_S2x8x128_S1x8x128_1_0_0) (k0_pay102 s.1 b) Finset.univ (View.stores_vmem_bits_univ h_S1x8x128 rfl) (.inl rfl))
    k

/-- The masked sums of one slab. -/
def redStep (ts : List TileOff) : Prog (TpuEff nD τ sig (Elt F) Λ₀ .tc) Unit := do
  let n : Vec F S16x128 .bf16 ← Prog.lift (.load N (Rect.unit (s := S16x128) ![0, 0] S16x128.size inb_S16x128_S16x128_0_0).toLoadRect (View.loadsAt_vmem h_S16x128))
  redTiles X G M (k0_pay1 n) ts none fun s l => putTiles G hG l (putAcc A s (pure ⟨⟩))

/-- The `dx` rows of one slab, tile after tile. -/
def dxTiles (cg cx c0 : Vec F S1x32x128 .f32) : List (RdOff × OutOff) → Prog (TpuEff nD τ sig (Elt F) Λ₀ .tc) Unit → Prog (TpuEff nD τ sig (Elt F) Λ₀ .tc) Unit
  | [], k => k
  | (t, u) :: ts, k => do
    let g : Vec F S1x1x1x32x128 .fp8e5m2 ← Prog.lift (.load G (Rect.unit (s := S2x72x12x32x128) t.o S1x1x1x32x128.size t.inb).toLoadRect (View.loadsAt_vmem h_S1x1x1x32x128))
    let x : Vec F S1x1x1x32x128 .fp8e4m3 ← Prog.lift (.load X (Rect.unit (s := S2x72x12x32x128) t.o S1x1x1x32x128.size t.inb).toLoadRect (View.loadsAt_vmem h_S1x1x1x32x128))
    let _ : Vec F S1x1x1x32x128 .bf16 ← Prog.lift (.load O (Rect.unit (s := S3x9x12x32x128) u.o S1x1x1x32x128.size u.inb).toLoadRect (View.loadsAt_vmem h_S1x1x1x32x128))
    Prog.lift (.store O (Rect.unit (s := S3x9x12x32x128) u.o S1x1x1x32x128.size u.inb) (k0_pay107 cg cx c0 g x) Finset.univ (View.stores_vmem h_S1x1x1x32x128 (hO.storeExact_slice rfl _ u.pk) (fun _ => rfl)) (.inl rfl))
    dxTiles cg cx c0 ts k

/-- The `dx` rows of one slab. -/
def dxStep (ts : List (RdOff × OutOff)) (k : Prog (TpuEff nD τ sig (Elt F) Λ₀ .tc) Unit) : Prog (TpuEff nD τ sig (Elt F) Λ₀ .tc) Unit := do
  let cg : Vec F S1x32x128 .f32 ← Prog.lift (.load C (Rect.unit (s := S3x32x128) ![0, 0, 0] S1x32x128.size inb_S3x32x128_S1x32x128_0_0_0).toLoadRect (View.loadsAt_vmem h_S1x32x128))
  let cx : Vec F S1x32x128 .f32 ← Prog.lift (.load C (Rect.unit (s := S3x32x128) ![1, 0, 0] S1x32x128.size inb_S3x32x128_S1x32x128_1_0_0).toLoadRect (View.loadsAt_vmem h_S1x32x128))
  let c0 : Vec F S1x32x128 .f32 ← Prog.lift (.load C (Rect.unit (s := S3x32x128) ![2, 0, 0] S1x32x128.size inb_S3x32x128_S1x32x128_2_0_0).toLoadRect (View.loadsAt_vmem h_S1x32x128))
  dxTiles X G O hO cg cx c0 ts k

end Cert.Kernel.Hand
-- ==== Proof.K.Prog.lean ====
/-
  The kernel as a program over the offsets it uses: what one phase does — wait for a chunk's arrivals, run its nine
  steps, send the finished `dx` chunk, start the next arrivals — and the seven phases in order. The printed kernel is
  this program at its own offsets.
-/
module

public import proofs.«01_k».proof.Proof.K.Step

@[expose] public section

noncomputable section

namespace Cert.Kernel.Hand

open Idealize.ShloMosaic Idealize.SL.Sem Cert.Kernel Cert.Kernel.Gen

variable {F : FTy → Type} [FloatOps F]

/-- One chunk's three arrivals: its three semaphore cells, its block of the buffers and its block of the arrays. -/
structure InOff where
  s0 : Fin 3 → Nat
  i0 : ∀ a, s0 a + S1x1x1.size a ≤ S3x2x8.size a
  s1 : Fin 3 → Nat
  i1 : ∀ a, s1 a + S1x1x1.size a ≤ S3x2x8.size a
  s2 : Fin 3 → Nat
  i2 : ∀ a, s2 a + S1x1x1.size a ≤ S3x2x8.size a
  b : Fin 5 → Nat
  bi : ∀ a, b a + S1x9x12x32x128.size a ≤ S2x72x12x32x128.size a
  b0 : (Rect.unit (s := S2x72x12x32x128) b S1x9x12x32x128.size bi).WholeWords (EltTy.packing .fp8e4m3)
  b1 : (Rect.unit (s := S2x72x12x32x128) b S1x9x12x32x128.size bi).WholeWords (EltTy.packing .fp8e5m2)
  b2 : (Rect.unit (s := S2x72x12x32x128) b S1x9x12x32x128.size bi).WholeWords (EltTy.packing .i8)
  h : Fin 4 → Nat
  hi : ∀ a, h a + S9x12x32x128.size a ≤ S72x12x32x768.size a
  h0 : (Rect.unit (s := S72x12x32x768) h S9x12x32x128.size hi).WholeWords (EltTy.packing .fp8e4m3)
  h1 : (Rect.unit (s := S72x12x32x768) h S9x12x32x128.size hi).WholeWords (EltTy.packing .fp8e5m2)
  h2 : (Rect.unit (s := S72x12x32x768) h S9x12x32x128.size hi).WholeWords (EltTy.packing .i8)

/-- One finished chunk's departure: its cell, its staging buffer and its block of the result. -/
structure SendOff where
  s : Fin 1 → Nat
  si : ∀ a, s a + S1.size a ≤ S3.size a
  h : Fin 4 → Nat
  hi : ∀ a, h a + S9x12x32x128.size a ≤ S72x12x32x768.size a
  hw : (Rect.unit (s := S72x12x32x768) h S9x12x32x128.size hi).WholeWords (EltTy.packing .bf16)
  b : Fin 5 → Nat
  bi : ∀ a, b a + S1x9x12x32x128.size a ≤ S3x9x12x32x128.size a
  bw : (Rect.unit (s := S3x9x12x32x128) b S1x9x12x32x128.size bi).WholeWords (EltTy.packing .bf16)

/-- Where a group's row of the statistics lies. -/
structure RowOff where
  o : Fin 2 → Nat
  inb : ∀ a, o a + S1x128.size a ≤ S6x128.size a

@[reducible] def loop8 : Scf.Loop 32 := ⟨0#32, 8#32, 1#32⟩
@[reducible] def loop9 : Scf.Loop 32 := ⟨0#32, 9#32, 1#32⟩

/-- The offsets of one phase. -/
structure Phase where
  ok8 : loop8.OK
  ok9 : loop9.OK
  wIn : Option (Fin loop8.trips → InOff)
  wOut : Option ((j : Fin loop8.trips) → (c : BitVec 1) ×' (c = 1#1 → SendOff))
  dx : Option (Fin loop8.trips → Fin loop9.trips → List (RdOff × OutOff))
  red : Option (Fin loop8.trips → Fin loop9.trips → List TileOff)
  send : Option (Fin loop8.trips → SendOff)
  nxt : Option (Fin loop8.trips → InOff)
  row : Option RowOff

/-- The kernel's operands. -/
structure Ops where
  xs : Memref sig .tc .smem S1 .f32
  hxs : xs.IsWhole
  ys : Memref sig .tc .smem S1 .f32
  hys : ys.IsWhole
  mean : Memref sig .tc .vmem S6x128 .f32
  rstd : Memref sig .tc .vmem S6x128 .f32
  gam : Memref sig .tc .vmem S6x128 .f32
  x : Memref sig .tc .hbm S72x12x32x768 .fp8e4m3
  hx : x.IsWhole
  y : Memref sig .tc .hbm S72x12x32x768 .fp8e5m2
  hy : y.IsWhole
  m : Memref sig .tc .hbm S72x12x32x768 .i8
  hm : m.IsWhole
  d : Memref sig .tc .hbm S72x12x32x768 .bf16
  hd : d.IsWhole
  dg : Memref sig .tc .vmem S6x128 .f32
  db : Memref sig .tc .vmem S6x128 .f32
  X : Memref sig .tc .vmem S2x72x12x32x128 .fp8e4m3
  hX : X.IsWhole
  G : Memref sig .tc .vmem S2x72x12x32x128 .fp8e5m2
  hG : G.IsWhole
  M : Memref sig .tc .vmem S2x72x12x32x128 .i8
  hM : M.IsWhole
  O : Memref sig .tc .vmem S3x9x12x32x128 .bf16
  hO : O.IsWhole
  A : Memref sig .tc .vmem S2x8x128 .f32
  C : Memref sig .tc .vmem S3x32x128 .f32
  N : Memref sig .tc .vmem S16x128 .bf16
  hN : N.IsWhole
  IN : DmaSems sig S3x2x8
  OUT : DmaSems sig S3

/-- A cell of the arrivals' semaphores. -/
def Ops.cin (R : Ops) (o : Fin 3 → Nat) (i : ∀ a, o a + S1x1x1.size a ≤ S3x2x8.size a) : DmaSem sig :=
  ((R.IN.slice (Rect.unit (s := S3x2x8) o S1x1x1.size i)).squeeze S_ squeezes_S1x1x1_S_).sem

/-- A cell of the departures' semaphores. -/
def Ops.cout (R : Ops) (o : Fin 1 → Nat) (i : ∀ a, o a + S1.size a ≤ S3.size a) : DmaSem sig :=
  ((R.OUT.slice (Rect.unit (s := S3) o S1.size i)).squeeze S_ squeezes_S1_S_).sem

/-- A chunk of one of the input buffers. -/
def chunkOf {e : EltTy} (B : Memref sig .tc .vmem S2x72x12x32x128 e) (o : Fin 5 → Nat) (i : ∀ a, o a + S1x9x12x32x128.size a ≤ S2x72x12x32x128.size a) :
    Memref sig .tc .vmem S9x12x32x128 e :=
  (B.slice (Rect.unit (s := S2x72x12x32x128) o S1x9x12x32x128.size i) (fun _ => rfl)).squeeze S9x12x32x128 squeezes_S1x9x12x32x128_S9x12x32x128

/-- A chunk of the output staging buffer. -/
def stageOf (B : Memref sig .tc .vmem S3x9x12x32x128 .bf16) (o : Fin 5 → Nat) (i : ∀ a, o a + S1x9x12x32x128.size a ≤ S3x9x12x32x128.size a) :
    Memref sig .tc .vmem S9x12x32x128 .bf16 :=
  (B.slice (Rect.unit (s := S3x9x12x32x128) o S1x9x12x32x128.size i) (fun _ => rfl)).squeeze S9x12x32x128 squeezes_S1x9x12x32x128_S9x12x32x128

/-- A block of one of the arrays. -/
def blockOf {e : EltTy} (H : Memref sig .tc .hbm S72x12x32x768 e) (o : Fin 4 → Nat) (i : ∀ a, o a + S9x12x32x128.size a ≤ S72x12x32x768.size a) :
    Memref sig .tc .hbm S9x12x32x128 e :=
  H.slice (Rect.unit (s := S72x12x32x768) o S9x12x32x128.size i) (fun _ => rfl)

variable (R : Ops)

/-- Wait for a chunk's three arrivals. -/
def waitIn (n : InOff) (k : Prog (TpuEff nD τ sig (Elt F) Λ₀ .tc) Unit) : Prog (TpuEff nD τ sig (Elt F) Λ₀ .tc) Unit := do
  Prog.lift (.waitDma2 (R.cin n.s0 n.i0) (blockOf R.x n.h n.hi) (chunkOf R.X n.b n.bi) (R.hx.wordExact_slice rfl _ n.h0) ((R.hX.wordExact_slice rfl _ n.b0).reshape _ _))
  Prog.lift (.waitDma2 (R.cin n.s1 n.i1) (blockOf R.y n.h n.hi) (chunkOf R.G n.b n.bi) (R.hy.wordExact_slice rfl _ n.h1) ((R.hG.wordExact_slice rfl _ n.b1).reshape _ _))
  Prog.lift (.waitDma2 (R.cin n.s2 n.i2) (blockOf R.m n.h n.hi) (chunkOf R.M n.b n.bi) (R.hm.wordExact_slice rfl _ n.h2) ((R.hM.wordExact_slice rfl _ n.b2).reshape _ _))
  k

/-- Start a chunk's three arrivals. -/
def startIn (n : InOff) (k : Prog (TpuEff nD τ sig (Elt F) Λ₀ .tc) Unit) : Prog (TpuEff nD τ sig (Elt F) Λ₀ .tc) Unit := do
  Prog.lift (.enqueueDma (blockOf R.x n.h n.hi) (.here (chunkOf R.X n.b n.bi)) (.dma (R.cin n.s0 n.i0)) (R.hx.wordExact_slice rfl _ n.h0) ((R.hX.wordExact_slice rfl _ n.b0).reshape _ _) ⟨Or.inl rfl, trivial⟩)
  Prog.lift (.enqueueDma (blockOf R.y n.h n.hi) (.here (chunkOf R.G n.b n.bi)) (.dma (R.cin n.s1 n.i1)) (R.hy.wordExact_slice rfl _ n.h1) ((R.hG.wordExact_slice rfl _ n.b1).reshape _ _) ⟨Or.inl rfl, trivial⟩)
  Prog.lift (.enqueueDma (blockOf R.m n.h n.hi) (.here (chunkOf R.M n.b n.bi)) (.dma (R.cin n.s2 n.i2)) (R.hm.wordExact_slice rfl _ n.h2) ((R.hM.wordExact_slice rfl _ n.b2).reshape _ _) ⟨Or.inl rfl, trivial⟩)
  k

/-- Wait for a departure. -/
def waitOut (n : SendOff) (k : Prog (TpuEff nD τ sig (Elt F) Λ₀ .tc) Unit) : Prog (TpuEff nD τ sig (Elt F) Λ₀ .tc) Unit := do
  Prog.lift (.waitDma2 (R.cout n.s n.si) (stageOf R.O n.b n.bi) (blockOf R.d n.h n.hi) ((R.hO.wordExact_slice rfl _ n.bw).reshape _ _) (R.hd.wordExact_slice rfl _ n.hw))
  k

/-- Send a finished chunk. -/
def startOut (n : SendOff) (k : Prog (TpuEff nD τ sig (Elt F) Λ₀ .tc) Unit) : Prog (TpuEff nD τ sig (Elt F) Λ₀ .tc) Unit := do
  Prog.lift (.enqueueDma (stageOf R.O n.b n.bi) (.here (blockOf R.d n.h n.hi)) (.dma (R.cout n.s n.si)) ((R.hO.wordExact_slice rfl _ n.bw).reshape _ _) (R.hd.wordExact_slice rfl _ n.hw) ⟨Or.inl rfl, trivial⟩)
  k

/-- An optional operation before a continuation. -/
def opt {α : Type} (o : Option α) (f : α → Prog (TpuEff nD τ sig (Elt F) Λ₀ .tc) Unit → Prog (TpuEff nD τ sig (Elt F) Λ₀ .tc) Unit)
    (k : Prog (TpuEff nD τ sig (Elt F) Λ₀ .tc) Unit) : Prog (TpuEff nD τ sig (Elt F) Λ₀ .tc) Unit :=
  match o with
  | none => k
  | some a => f a k

/-- One step of a phase. -/
def stepBody (P : Phase) (j : Fin loop8.trips) (i : Fin loop9.trips) : Prog (TpuEff nD τ sig (Elt F) Λ₀ .tc) Unit :=
  opt P.dx (fun f k => dxStep R.X R.G R.O R.hO R.C (f j i) k)
    (match P.red with
     | none => pure ⟨⟩
     | some f => redStep R.X R.G R.hG R.M R.A R.N (f j i))

/-- One chunk of a phase. -/
def chunkBody (P : Phase) (j : Fin loop8.trips) : Prog (TpuEff nD τ sig (Elt F) Λ₀ .tc) Unit :=
  opt P.wIn (fun f k => waitIn R (f j) k) <|
  opt P.wOut (fun f k => do
      if h : (f j).1 = 1#1 then (waitOut R ((f j).2 h) (pure ⟨⟩) : Prog (TpuEff nD τ sig (Elt F) Λ₀ .tc) Unit) else pure ⟨⟩
      k) <| do
    let _ ← Scf.Loop.for loop9 P.ok9 ⟨⟩ (fun i (_ : Unit) => stepBody R P j i)
    opt P.send (fun f k => startOut R (f j) k) <| opt P.nxt (fun f k => startIn R (f j) k) <| pure ⟨⟩

/-- A group's statistics from its sums, and its coefficients for the next phase. -/
def finish (v0 v1 : Elt F .f32) (r : RowOff) (k : Prog (TpuEff nD τ sig (Elt F) Λ₀ .tc) Unit) : Prog (TpuEff nD τ sig (Elt F) Λ₀ .tc) Unit := do
  let me : Vec F S1x128 .f32 ← Prog.lift (.load R.mean (Rect.unit (s := S6x128) r.o S1x128.size r.inb).toLoadRect (View.loadsAt_vmem h_S1x128))
  let rs : Vec F S1x128 .f32 ← Prog.lift (.load R.rstd (Rect.unit (s := S6x128) r.o S1x128.size r.inb).toLoadRect (View.loadsAt_vmem h_S1x128))
  let ga : Vec F S1x128 .f32 ← Prog.lift (.load R.gam (Rect.unit (s := S6x128) r.o S1x128.size r.inb).toLoadRect (View.loadsAt_vmem h_S1x128))
  let a0 : Vec F S1x8x128 .f32 ← Prog.lift (.load R.A (Rect.unit (s := S2x8x128) ![0, 0, 0] S1x8x128.size inb_S2x8x128_S1x8x128_0_0_0).toLoadRect (View.loadsAt_vmem h_S1x8x128))
  let a1 : Vec F S1x8x128 .f32 ← Prog.lift (.load R.A (Rect.unit (s := S2x8x128) ![1, 0, 0] S1x8x128.size inb_S2x8x128_S1x8x128_1_0_0).toLoadRect (View.loadsAt_vmem h_S1x8x128))
  let _ : Vec F S1x128 .f32 ← Prog.lift (.load R.db (Rect.unit (s := S6x128) r.o S1x128.size r.inb).toLoadRect (View.loadsAt_vmem h_S1x128))
  Prog.lift (.store R.db (Rect.unit (s := S6x128) r.o S1x128.size r.inb) (k0_pay741 (k0_pay739 a0) (k0_pay740 v1)) Finset.univ (View.stores_vmem_bits_univ h_S1x128 rfl) (.inl rfl))
  let _ : Vec F S1x128 .f32 ← Prog.lift (.load R.dg (Rect.unit (s := S6x128) r.o S1x128.size r.inb).toLoadRect (View.loadsAt_vmem h_S1x128))
  Prog.lift (.store R.dg (Rect.unit (s := S6x128) r.o S1x128.size r.inb) (k0_pay742 v0 v1 (k0_pay736 me) (k0_pay737 rs) (k0_pay739 a0) (k0_pay740 v1) a1) Finset.univ (View.stores_vmem_bits_univ h_S1x128 rfl) (.inl rfl))
  let _ : Vec F S1x32x128 .f32 ← Prog.lift (.load R.C (Rect.unit (s := S3x32x128) ![0, 0, 0] S1x32x128.size inb_S3x32x128_S1x32x128_0_0_0).toLoadRect (View.loadsAt_vmem h_S1x32x128))
  Prog.lift (.store R.C (Rect.unit (s := S3x32x128) ![0, 0, 0] S1x32x128.size inb_S3x32x128_S1x32x128_0_0_0) (k0_pay745 v1 (k0_pay737 rs) (k0_pay738 ga)) Finset.univ (View.stores_vmem_bits_univ h_S1x32x128 rfl) (.inl rfl))
  let _ : Vec F S1x32x128 .f32 ← Prog.lift (.load R.C (Rect.unit (s := S3x32x128) ![1, 0, 0] S1x32x128.size inb_S3x32x128_S1x32x128_1_0_0).toLoadRect (View.loadsAt_vmem h_S1x32x128))
  Prog.lift (.store R.C (Rect.unit (s := S3x32x128) ![1, 0, 0] S1x32x128.size inb_S3x32x128_S1x32x128_1_0_0) (k0_pay746 v0 v1 (k0_pay736 me) (k0_pay737 rs) (k0_pay738 ga) (k0_pay739 a0) (k0_pay740 v1) a1) Finset.univ (View.stores_vmem_bits_univ h_S1x32x128 rfl) (.inl rfl))
  let _ : Vec F S1x32x128 .f32 ← Prog.lift (.load R.C (Rect.unit (s := S3x32x128) ![2, 0, 0] S1x32x128.size inb_S3x32x128_S1x32x128_2_0_0).toLoadRect (View.loadsAt_vmem h_S1x32x128))
  Prog.lift (.store R.C (Rect.unit (s := S3x32x128) ![2, 0, 0] S1x32x128.size inb_S3x32x128_S1x32x128_2_0_0) (k0_pay748 (k0_pay743 (k0_pay737 rs) (k0_pay738 ga)) (k0_pay747 v0 v1 (k0_pay736 me) (k0_pay737 rs) (k0_pay739 a0) (k0_pay740 v1) a1)) Finset.univ (View.stores_vmem_bits_univ h_S1x32x128 rfl) (.inl rfl))
  k

/-- One phase: the sums cleared, the chunks, the statistics. -/
def phase (v0 v1 : Elt F .f32) (P : Phase) (k : Prog (TpuEff nD τ sig (Elt F) Λ₀ .tc) Unit) : Prog (TpuEff nD τ sig (Elt F) Λ₀ .tc) Unit :=
  opt P.row (fun _ k => do
      let _ : Vec F S2x8x128 .f32 ← Prog.lift (.load R.A (Rect.unit (s := S2x8x128) ![0, 0, 0] S2x8x128.size inb_S2x8x128_S2x8x128_0_0_0).toLoadRect (View.loadsAt_vmem h_S2x8x128))
      Prog.lift (.store R.A (Rect.unit (s := S2x8x128) ![0, 0, 0] S2x8x128.size inb_S2x8x128_S2x8x128_0_0_0) (k0_pay734 (F := F)) Finset.univ (View.stores_vmem_bits_univ h_S2x8x128 rfl) (.inl rfl))
      k) <| do
    let _ ← Scf.Loop.for loop8 P.ok8 ⟨⟩ (fun j (_ : Unit) => chunkBody R P j)
    opt P.row (fun r k => finish R v0 v1 r k) k

/-- The phases in order. -/
def phases (v0 v1 : Elt F .f32) : List Phase → Prog (TpuEff nD τ sig (Elt F) Λ₀ .tc) Unit → Prog (TpuEff nD τ sig (Elt F) Λ₀ .tc) Unit
  | [], k => k
  | P :: Ps, k => phase R v0 v1 P (phases v0 v1 Ps k)

/-- The whole kernel: the ones, the first two groups' arrivals started, the phases, the last departures. -/
def kern (ok8 : loop8.OK) (p0 p1 : Fin loop8.trips → InOff) (Ps : List Phase) (q0 q1 q2 : SendOff) : Prog (TpuEff nD τ sig (Elt F) Λ₀ .tc) Unit := do
  let v0 : Elt F .f32 ← smemLoad R.xs (Rect.unit (s := S1) ![0] S1.size inb_S1_S1_0) numel1_S1 rfl
  let v1 : Elt F .f32 ← smemLoad R.ys (Rect.unit (s := S1) ![0] S1.size inb_S1_S1_0) numel1_S1 rfl
  let _ : Vec F S16x128 .bf16 ← Prog.lift (.load R.N (Rect.unit (s := S16x128) ![0, 0] S16x128.size inb_S16x128_S16x128_0_0).toLoadRect (View.loadsAt_vmem h_S16x128))
  Prog.lift (.store R.N (Rect.unit (s := S16x128) ![0, 0] S16x128.size inb_S16x128_S16x128_0_0) (k0_pay733 (F := F)) Finset.univ (View.stores_vmem h_S16x128 (R.hN.storeExact_slice rfl _ packedbf16_S16x128_S16x128_0_0) (fun _ => rfl)) (.inl rfl))
  let _ ← Scf.Loop.for loop8 ok8 ⟨⟩ (fun j (_ : Unit) => startIn R (p0 j) (pure ⟨⟩))
  let _ ← Scf.Loop.for loop8 ok8 ⟨⟩ (fun j (_ : Unit) => startIn R (p1 j) (pure ⟨⟩))
  phases R v0 v1 Ps (waitOut R q0 (waitOut R q1 (waitOut R q2 (pure ⟨⟩))))

end Cert.Kernel.Hand
-- ==== Proof.K.Tables.lean ====
/-
  The offsets the printed kernel uses, phase by phase, by the names the printed program gives them.
-/
module

public import proofs.«01_k».proof.Proof.K.Prog

@[expose] public section

noncomputable section

namespace Cert.Kernel.Hand

open Idealize.ShloMosaic Idealize.SL.Sem Cert.Kernel Cert.Kernel.Gen

/-- The tiles phase 0 sums. -/
def red0 (j : Fin loop8.trips) (i : Fin loop9.trips) : List TileOff :=
  [⟨k0_off16 j i, k0_off16_inb j i, k0_off16_packedfp8e5m2 j i⟩,
   ⟨k0_off17 j i, k0_off17_inb j i, k0_off17_packedfp8e5m2 j i⟩,
   ⟨k0_off18 j i, k0_off18_inb j i, k0_off18_packedfp8e5m2 j i⟩,
   ⟨k0_off19 j i, k0_off19_inb j i, k0_off19_packedfp8e5m2 j i⟩,
   ⟨k0_off20 j i, k0_off20_inb j i, k0_off20_packedfp8e5m2 j i⟩,
   ⟨k0_off21 j i, k0_off21_inb j i, k0_off21_packedfp8e5m2 j i⟩,
   ⟨k0_off22 j i, k0_off22_inb j i, k0_off22_packedfp8e5m2 j i⟩,
   ⟨k0_off23 j i, k0_off23_inb j i, k0_off23_packedfp8e5m2 j i⟩,
   ⟨k0_off24 j i, k0_off24_inb j i, k0_off24_packedfp8e5m2 j i⟩,
   ⟨k0_off25 j i, k0_off25_inb j i, k0_off25_packedfp8e5m2 j i⟩,
   ⟨k0_off26 j i, k0_off26_inb j i, k0_off26_packedfp8e5m2 j i⟩,
   ⟨k0_off27 j i, k0_off27_inb j i, k0_off27_packedfp8e5m2 j i⟩]

def win0 (j : Fin loop8.trips) : InOff :=
  ⟨k0_off11 j, k0_off11_inb j, k0_off14 j, k0_off14_inb j, k0_off15 j, k0_off15_inb j, k0_off12 j, k0_off12_inb j, k0_off12_wordsfp8e4m3 j, k0_off12_wordsfp8e5m2 j, k0_off12_wordsi8 j, k0_off13 j, k0_off13_inb j, k0_off13_wordsfp8e4m3 j, k0_off13_wordsfp8e5m2 j, k0_off13_wordsi8 j⟩

/-- Phase 0. -/
def ph0 : Phase :=
  ⟨k0_t3_ok, k0_t4_ok, some win0, none, none, some red0, none, none, some ⟨![0, 0], inb_S6x128_S1x128_0_0⟩⟩

/-- The tiles phase 1 sums. -/
def red1 (j : Fin loop8.trips) (i : Fin loop9.trips) : List TileOff :=
  [⟨k0_off60 j i, k0_off60_inb j i, k0_off60_packedfp8e5m2 j i⟩,
   ⟨k0_off61 j i, k0_off61_inb j i, k0_off61_packedfp8e5m2 j i⟩,
   ⟨k0_off62 j i, k0_off62_inb j i, k0_off62_packedfp8e5m2 j i⟩,
   ⟨k0_off63 j i, k0_off63_inb j i, k0_off63_packedfp8e5m2 j i⟩,
   ⟨k0_off64 j i, k0_off64_inb j i, k0_off64_packedfp8e5m2 j i⟩,
   ⟨k0_off65 j i, k0_off65_inb j i, k0_off65_packedfp8e5m2 j i⟩,
   ⟨k0_off66 j i, k0_off66_inb j i, k0_off66_packedfp8e5m2 j i⟩,
   ⟨k0_off67 j i, k0_off67_inb j i, k0_off67_packedfp8e5m2 j i⟩,
   ⟨k0_off68 j i, k0_off68_inb j i, k0_off68_packedfp8e5m2 j i⟩,
   ⟨k0_off69 j i, k0_off69_inb j i, k0_off69_packedfp8e5m2 j i⟩,
   ⟨k0_off70 j i, k0_off70_inb j i, k0_off70_packedfp8e5m2 j i⟩,
   ⟨k0_off71 j i, k0_off71_inb j i, k0_off71_packedfp8e5m2 j i⟩]

/-- The tiles phase 1 writes `dx` of. -/
def dx1 (j : Fin loop8.trips) (i : Fin loop9.trips) : List (RdOff × OutOff) :=
  [(⟨k0_off36 j i, k0_off36_inb j i⟩, ⟨k0_off37 j i, k0_off37_inb j i, k0_off37_packedbf16 j i⟩),
   (⟨k0_off38 j i, k0_off38_inb j i⟩, ⟨k0_off39 j i, k0_off39_inb j i, k0_off39_packedbf16 j i⟩),
   (⟨k0_off40 j i, k0_off40_inb j i⟩, ⟨k0_off41 j i, k0_off41_inb j i, k0_off41_packedbf16 j i⟩),
   (⟨k0_off42 j i, k0_off42_inb j i⟩, ⟨k0_off43 j i, k0_off43_inb j i, k0_off43_packedbf16 j i⟩),
   (⟨k0_off44 j i, k0_off44_inb j i⟩, ⟨k0_off45 j i, k0_off45_inb j i, k0_off45_packedbf16 j i⟩),
   (⟨k0_off46 j i, k0_off46_inb j i⟩, ⟨k0_off47 j i, k0_off47_inb j i, k0_off47_packedbf16 j i⟩),
   (⟨k0_off48 j i, k0_off48_inb j i⟩, ⟨k0_off49 j i, k0_off49_inb j i, k0_off49_packedbf16 j i⟩),
   (⟨k0_off50 j i, k0_off50_inb j i⟩, ⟨k0_off51 j i, k0_off51_inb j i, k0_off51_packedbf16 j i⟩),
   (⟨k0_off52 j i, k0_off52_inb j i⟩, ⟨k0_off53 j i, k0_off53_inb j i, k0_off53_packedbf16 j i⟩),
   (⟨k0_off54 j i, k0_off54_inb j i⟩, ⟨k0_off55 j i, k0_off55_inb j i, k0_off55_packedbf16 j i⟩),
   (⟨k0_off56 j i, k0_off56_inb j i⟩, ⟨k0_off57 j i, k0_off57_inb j i, k0_off57_packedbf16 j i⟩),
   (⟨k0_off58 j i, k0_off58_inb j i⟩, ⟨k0_off59 j i, k0_off59_inb j i, k0_off59_packedbf16 j i⟩)]

def win1 (j : Fin loop8.trips) : InOff :=
  ⟨k0_off28 j, k0_off28_inb j, k0_off31 j, k0_off31_inb j, k0_off32 j, k0_off32_inb j, k0_off29 j, k0_off29_inb j, k0_off29_wordsfp8e4m3 j, k0_off29_wordsfp8e5m2 j, k0_off29_wordsi8 j, k0_off30 j, k0_off30_inb j, k0_off30_wordsfp8e4m3 j, k0_off30_wordsfp8e5m2 j, k0_off30_wordsi8 j⟩

def wout1 (j : Fin loop8.trips) : (c : BitVec 1) ×' (c = 1#1 → SendOff) :=
  ⟨k0_cond1 j, fun h => ⟨k0_off33 j, k0_off33_inb j h, k0_off34 j, k0_off34_inb j h, k0_off34_wordsbf16 j h, k0_off35 j, k0_off35_inb j h, k0_off35_wordsbf16 j h⟩⟩

def send1 (j : Fin loop8.trips) : SendOff :=
  ⟨k0_off72 j, k0_off72_inb j, k0_off73 j, k0_off73_inb j, k0_off73_wordsbf16 j, k0_off74 j, k0_off74_inb j, k0_off74_wordsbf16 j⟩

def nxt1 (j : Fin loop8.trips) : InOff :=
  ⟨k0_off75 j, k0_off75_inb j, k0_off78 j, k0_off78_inb j, k0_off79 j, k0_off79_inb j, k0_off76 j, k0_off76_inb j, k0_off76_wordsfp8e4m3 j, k0_off76_wordsfp8e5m2 j, k0_off76_wordsi8 j, k0_off77 j, k0_off77_inb j, k0_off77_wordsfp8e4m3 j, k0_off77_wordsfp8e5m2 j, k0_off77_wordsi8 j⟩

/-- Phase 1. -/
def ph1 : Phase :=
  ⟨k0_t5_ok, k0_t6_ok, some win1, some wout1, some dx1, some red1, some send1, some nxt1, some ⟨![1, 0], inb_S6x128_S1x128_1_0⟩⟩

/-- The tiles phase 2 sums. -/
def red2 (j : Fin loop8.trips) (i : Fin loop9.trips) : List TileOff :=
  [⟨k0_off112 j i, k0_off112_inb j i, k0_off112_packedfp8e5m2 j i⟩,
   ⟨k0_off113 j i, k0_off113_inb j i, k0_off113_packedfp8e5m2 j i⟩,
   ⟨k0_off114 j i, k0_off114_inb j i, k0_off114_packedfp8e5m2 j i⟩,
   ⟨k0_off115 j i, k0_off115_inb j i, k0_off115_packedfp8e5m2 j i⟩,
   ⟨k0_off116 j i, k0_off116_inb j i, k0_off116_packedfp8e5m2 j i⟩,
   ⟨k0_off117 j i, k0_off117_inb j i, k0_off117_packedfp8e5m2 j i⟩,
   ⟨k0_off118 j i, k0_off118_inb j i, k0_off118_packedfp8e5m2 j i⟩,
   ⟨k0_off119 j i, k0_off119_inb j i, k0_off119_packedfp8e5m2 j i⟩,
   ⟨k0_off120 j i, k0_off120_inb j i, k0_off120_packedfp8e5m2 j i⟩,
   ⟨k0_off121 j i, k0_off121_inb j i, k0_off121_packedfp8e5m2 j i⟩,
   ⟨k0_off122 j i, k0_off122_inb j i, k0_off122_packedfp8e5m2 j i⟩,
   ⟨k0_off123 j i, k0_off123_inb j i, k0_off123_packedfp8e5m2 j i⟩]

/-- The tiles phase 2 writes `dx` of. -/
def dx2 (j : Fin loop8.trips) (i : Fin loop9.trips) : List (RdOff × OutOff) :=
  [(⟨k0_off88 j i, k0_off88_inb j i⟩, ⟨k0_off89 j i, k0_off89_inb j i, k0_off89_packedbf16 j i⟩),
   (⟨k0_off90 j i, k0_off90_inb j i⟩, ⟨k0_off91 j i, k0_off91_inb j i, k0_off91_packedbf16 j i⟩),
   (⟨k0_off92 j i, k0_off92_inb j i⟩, ⟨k0_off93 j i, k0_off93_inb j i, k0_off93_packedbf16 j i⟩),
   (⟨k0_off94 j i, k0_off94_inb j i⟩, ⟨k0_off95 j i, k0_off95_inb j i, k0_off95_packedbf16 j i⟩),
   (⟨k0_off96 j i, k0_off96_inb j i⟩, ⟨k0_off97 j i, k0_off97_inb j i, k0_off97_packedbf16 j i⟩),
   (⟨k0_off98 j i, k0_off98_inb j i⟩, ⟨k0_off99 j i, k0_off99_inb j i, k0_off99_packedbf16 j i⟩),
   (⟨k0_off100 j i, k0_off100_inb j i⟩, ⟨k0_off101 j i, k0_off101_inb j i, k0_off101_packedbf16 j i⟩),
   (⟨k0_off102 j i, k0_off102_inb j i⟩, ⟨k0_off103 j i, k0_off103_inb j i, k0_off103_packedbf16 j i⟩),
   (⟨k0_off104 j i, k0_off104_inb j i⟩, ⟨k0_off105 j i, k0_off105_inb j i, k0_off105_packedbf16 j i⟩),
   (⟨k0_off106 j i, k0_off106_inb j i⟩, ⟨k0_off107 j i, k0_off107_inb j i, k0_off107_packedbf16 j i⟩),
   (⟨k0_off108 j i, k0_off108_inb j i⟩, ⟨k0_off109 j i, k0_off109_inb j i, k0_off109_packedbf16 j i⟩),
   (⟨k0_off110 j i, k0_off110_inb j i⟩, ⟨k0_off111 j i, k0_off111_inb j i, k0_off111_packedbf16 j i⟩)]

def win2 (j : Fin loop8.trips) : InOff :=
  ⟨k0_off80 j, k0_off80_inb j, k0_off83 j, k0_off83_inb j, k0_off84 j, k0_off84_inb j, k0_off81 j, k0_off81_inb j, k0_off81_wordsfp8e4m3 j, k0_off81_wordsfp8e5m2 j, k0_off81_wordsi8 j, k0_off82 j, k0_off82_inb j, k0_off82_wordsfp8e4m3 j, k0_off82_wordsfp8e5m2 j, k0_off82_wordsi8 j⟩

def wout2 (j : Fin loop8.trips) : (c : BitVec 1) ×' (c = 1#1 → SendOff) :=
  ⟨k0_cond2 j, fun h => ⟨k0_off85 j, k0_off85_inb j h, k0_off86 j, k0_off86_inb j h, k0_off86_wordsbf16 j h, k0_off87 j, k0_off87_inb j h, k0_off87_wordsbf16 j h⟩⟩

def send2 (j : Fin loop8.trips) : SendOff :=
  ⟨k0_off124 j, k0_off124_inb j, k0_off125 j, k0_off125_inb j, k0_off125_wordsbf16 j, k0_off126 j, k0_off126_inb j, k0_off126_wordsbf16 j⟩

def nxt2 (j : Fin loop8.trips) : InOff :=
  ⟨k0_off127 j, k0_off127_inb j, k0_off130 j, k0_off130_inb j, k0_off131 j, k0_off131_inb j, k0_off128 j, k0_off128_inb j, k0_off128_wordsfp8e4m3 j, k0_off128_wordsfp8e5m2 j, k0_off128_wordsi8 j, k0_off129 j, k0_off129_inb j, k0_off129_wordsfp8e4m3 j, k0_off129_wordsfp8e5m2 j, k0_off129_wordsi8 j⟩

/-- Phase 2. -/
def ph2 : Phase :=
  ⟨k0_t7_ok, k0_t8_ok, some win2, some wout2, some dx2, some red2, some send2, some nxt2, some ⟨![2, 0], inb_S6x128_S1x128_2_0⟩⟩

/-- The tiles phase 3 sums. -/
def red3 (j : Fin loop8.trips) (i : Fin loop9.trips) : List TileOff :=
  [⟨k0_off164 j i, k0_off164_inb j i, k0_off164_packedfp8e5m2 j i⟩,
   ⟨k0_off165 j i, k0_off165_inb j i, k0_off165_packedfp8e5m2 j i⟩,
   ⟨k0_off166 j i, k0_off166_inb j i, k0_off166_packedfp8e5m2 j i⟩,
   ⟨k0_off167 j i, k0_off167_inb j i, k0_off167_packedfp8e5m2 j i⟩,
   ⟨k0_off168 j i, k0_off168_inb j i, k0_off168_packedfp8e5m2 j i⟩,
   ⟨k0_off169 j i, k0_off169_inb j i, k0_off169_packedfp8e5m2 j i⟩,
   ⟨k0_off170 j i, k0_off170_inb j i, k0_off170_packedfp8e5m2 j i⟩,
   ⟨k0_off171 j i, k0_off171_inb j i, k0_off171_packedfp8e5m2 j i⟩,
   ⟨k0_off172 j i, k0_off172_inb j i, k0_off172_packedfp8e5m2 j i⟩,
   ⟨k0_off173 j i, k0_off173_inb j i, k0_off173_packedfp8e5m2 j i⟩,
   ⟨k0_off174 j i, k0_off174_inb j i, k0_off174_packedfp8e5m2 j i⟩,
   ⟨k0_off175 j i, k0_off175_inb j i, k0_off175_packedfp8e5m2 j i⟩]

/-- The tiles phase 3 writes `dx` of. -/
def dx3 (j : Fin loop8.trips) (i : Fin loop9.trips) : List (RdOff × OutOff) :=
  [(⟨k0_off140 j i, k0_off140_inb j i⟩, ⟨k0_off141 j i, k0_off141_inb j i, k0_off141_packedbf16 j i⟩),
   (⟨k0_off142 j i, k0_off142_inb j i⟩, ⟨k0_off143 j i, k0_off143_inb j i, k0_off143_packedbf16 j i⟩),
   (⟨k0_off144 j i, k0_off144_inb j i⟩, ⟨k0_off145 j i, k0_off145_inb j i, k0_off145_packedbf16 j i⟩),
   (⟨k0_off146 j i, k0_off146_inb j i⟩, ⟨k0_off147 j i, k0_off147_inb j i, k0_off147_packedbf16 j i⟩),
   (⟨k0_off148 j i, k0_off148_inb j i⟩, ⟨k0_off149 j i, k0_off149_inb j i, k0_off149_packedbf16 j i⟩),
   (⟨k0_off150 j i, k0_off150_inb j i⟩, ⟨k0_off151 j i, k0_off151_inb j i, k0_off151_packedbf16 j i⟩),
   (⟨k0_off152 j i, k0_off152_inb j i⟩, ⟨k0_off153 j i, k0_off153_inb j i, k0_off153_packedbf16 j i⟩),
   (⟨k0_off154 j i, k0_off154_inb j i⟩, ⟨k0_off155 j i, k0_off155_inb j i, k0_off155_packedbf16 j i⟩),
   (⟨k0_off156 j i, k0_off156_inb j i⟩, ⟨k0_off157 j i, k0_off157_inb j i, k0_off157_packedbf16 j i⟩),
   (⟨k0_off158 j i, k0_off158_inb j i⟩, ⟨k0_off159 j i, k0_off159_inb j i, k0_off159_packedbf16 j i⟩),
   (⟨k0_off160 j i, k0_off160_inb j i⟩, ⟨k0_off161 j i, k0_off161_inb j i, k0_off161_packedbf16 j i⟩),
   (⟨k0_off162 j i, k0_off162_inb j i⟩, ⟨k0_off163 j i, k0_off163_inb j i, k0_off163_packedbf16 j i⟩)]

def win3 (j : Fin loop8.trips) : InOff :=
  ⟨k0_off132 j, k0_off132_inb j, k0_off135 j, k0_off135_inb j, k0_off136 j, k0_off136_inb j, k0_off133 j, k0_off133_inb j, k0_off133_wordsfp8e4m3 j, k0_off133_wordsfp8e5m2 j, k0_off133_wordsi8 j, k0_off134 j, k0_off134_inb j, k0_off134_wordsfp8e4m3 j, k0_off134_wordsfp8e5m2 j, k0_off134_wordsi8 j⟩

def wout3 (j : Fin loop8.trips) : (c : BitVec 1) ×' (c = 1#1 → SendOff) :=
  ⟨k0_cond3 j, fun h => ⟨k0_off137 j, k0_off137_inb j h, k0_off138 j, k0_off138_inb j h, k0_off138_wordsbf16 j h, k0_off139 j, k0_off139_inb j h, k0_off139_wordsbf16 j h⟩⟩

def send3 (j : Fin loop8.trips) : SendOff :=
  ⟨k0_off176 j, k0_off176_inb j, k0_off177 j, k0_off177_inb j, k0_off177_wordsbf16 j, k0_off178 j, k0_off178_inb j, k0_off178_wordsbf16 j⟩

def nxt3 (j : Fin loop8.trips) : InOff :=
  ⟨k0_off179 j, k0_off179_inb j, k0_off182 j, k0_off182_inb j, k0_off183 j, k0_off183_inb j, k0_off180 j, k0_off180_inb j, k0_off180_wordsfp8e4m3 j, k0_off180_wordsfp8e5m2 j, k0_off180_wordsi8 j, k0_off181 j, k0_off181_inb j, k0_off181_wordsfp8e4m3 j, k0_off181_wordsfp8e5m2 j, k0_off181_wordsi8 j⟩

/-- Phase 3. -/
def ph3 : Phase :=
  ⟨k0_t9_ok, k0_t10_ok, some win3, some wout3, some dx3, some red3, some send3, some nxt3, some ⟨![3, 0], inb_S6x128_S1x128_3_0⟩⟩

/-- The tiles phase 4 sums. -/
def red4 (j : Fin loop8.trips) (i : Fin loop9.trips) : List TileOff :=
  [⟨k0_off216 j i, k0_off216_inb j i, k0_off216_packedfp8e5m2 j i⟩,
   ⟨k0_off217 j i, k0_off217_inb j i, k0_off217_packedfp8e5m2 j i⟩,
   ⟨k0_off218 j i, k0_off218_inb j i, k0_off218_packedfp8e5m2 j i⟩,
   ⟨k0_off219 j i, k0_off219_inb j i, k0_off219_packedfp8e5m2 j i⟩,
   ⟨k0_off220 j i, k0_off220_inb j i, k0_off220_packedfp8e5m2 j i⟩,
   ⟨k0_off221 j i, k0_off221_inb j i, k0_off221_packedfp8e5m2 j i⟩,
   ⟨k0_off222 j i, k0_off222_inb j i, k0_off222_packedfp8e5m2 j i⟩,
   ⟨k0_off223 j i, k0_off223_inb j i, k0_off223_packedfp8e5m2 j i⟩,
   ⟨k0_off224 j i, k0_off224_inb j i, k0_off224_packedfp8e5m2 j i⟩,
   ⟨k0_off225 j i, k0_off225_inb j i, k0_off225_packedfp8e5m2 j i⟩,
   ⟨k0_off226 j i, k0_off226_inb j i, k0_off226_packedfp8e5m2 j i⟩,
   ⟨k0_off227 j i, k0_off227_inb j i, k0_off227_packedfp8e5m2 j i⟩]

/-- The tiles phase 4 writes `dx` of. -/
def dx4 (j : Fin loop8.trips) (i : Fin loop9.trips) : List (RdOff × OutOff) :=
  [(⟨k0_off192 j i, k0_off192_inb j i⟩, ⟨k0_off193 j i, k0_off193_inb j i, k0_off193_packedbf16 j i⟩),
   (⟨k0_off194 j i, k0_off194_inb j i⟩, ⟨k0_off195 j i, k0_off195_inb j i, k0_off195_packedbf16 j i⟩),
   (⟨k0_off196 j i, k0_off196_inb j i⟩, ⟨k0_off197 j i, k0_off197_inb j i, k0_off197_packedbf16 j i⟩),
   (⟨k0_off198 j i, k0_off198_inb j i⟩, ⟨k0_off199 j i, k0_off199_inb j i, k0_off199_packedbf16 j i⟩),
   (⟨k0_off200 j i, k0_off200_inb j i⟩, ⟨k0_off201 j i, k0_off201_inb j i, k0_off201_packedbf16 j i⟩),
   (⟨k0_off202 j i, k0_off202_inb j i⟩, ⟨k0_off203 j i, k0_off203_inb j i, k0_off203_packedbf16 j i⟩),
   (⟨k0_off204 j i, k0_off204_inb j i⟩, ⟨k0_off205 j i, k0_off205_inb j i, k0_off205_packedbf16 j i⟩),
   (⟨k0_off206 j i, k0_off206_inb j i⟩, ⟨k0_off207 j i, k0_off207_inb j i, k0_off207_packedbf16 j i⟩),
   (⟨k0_off208 j i, k0_off208_inb j i⟩, ⟨k0_off209 j i, k0_off209_inb j i, k0_off209_packedbf16 j i⟩),
   (⟨k0_off210 j i, k0_off210_inb j i⟩, ⟨k0_off211 j i, k0_off211_inb j i, k0_off211_packedbf16 j i⟩),
   (⟨k0_off212 j i, k0_off212_inb j i⟩, ⟨k0_off213 j i, k0_off213_inb j i, k0_off213_packedbf16 j i⟩),
   (⟨k0_off214 j i, k0_off214_inb j i⟩, ⟨k0_off215 j i, k0_off215_inb j i, k0_off215_packedbf16 j i⟩)]

def win4 (j : Fin loop8.trips) : InOff :=
  ⟨k0_off184 j, k0_off184_inb j, k0_off187 j, k0_off187_inb j, k0_off188 j, k0_off188_inb j, k0_off185 j, k0_off185_inb j, k0_off185_wordsfp8e4m3 j, k0_off185_wordsfp8e5m2 j, k0_off185_wordsi8 j, k0_off186 j, k0_off186_inb j, k0_off186_wordsfp8e4m3 j, k0_off186_wordsfp8e5m2 j, k0_off186_wordsi8 j⟩

def wout4 (j : Fin loop8.trips) : (c : BitVec 1) ×' (c = 1#1 → SendOff) :=
  ⟨k0_cond4 j, fun h => ⟨k0_off189 j, k0_off189_inb j h, k0_off190 j, k0_off190_inb j h, k0_off190_wordsbf16 j h, k0_off191 j, k0_off191_inb j h, k0_off191_wordsbf16 j h⟩⟩

def send4 (j : Fin loop8.trips) : SendOff :=
  ⟨k0_off228 j, k0_off228_inb j, k0_off229 j, k0_off229_inb j, k0_off229_wordsbf16 j, k0_off230 j, k0_off230_inb j, k0_off230_wordsbf16 j⟩

def nxt4 (j : Fin loop8.trips) : InOff :=
  ⟨k0_off231 j, k0_off231_inb j, k0_off234 j, k0_off234_inb j, k0_off235 j, k0_off235_inb j, k0_off232 j, k0_off232_inb j, k0_off232_wordsfp8e4m3 j, k0_off232_wordsfp8e5m2 j, k0_off232_wordsi8 j, k0_off233 j, k0_off233_inb j, k0_off233_wordsfp8e4m3 j, k0_off233_wordsfp8e5m2 j, k0_off233_wordsi8 j⟩

/-- Phase 4. -/
def ph4 : Phase :=
  ⟨k0_t11_ok, k0_t12_ok, some win4, some wout4, some dx4, some red4, some send4, some nxt4, some ⟨![4, 0], inb_S6x128_S1x128_4_0⟩⟩

/-- The tiles phase 5 sums. -/
def red5 (j : Fin loop8.trips) (i : Fin loop9.trips) : List TileOff :=
  [⟨k0_off268 j i, k0_off268_inb j i, k0_off268_packedfp8e5m2 j i⟩,
   ⟨k0_off269 j i, k0_off269_inb j i, k0_off269_packedfp8e5m2 j i⟩,
   ⟨k0_off270 j i, k0_off270_inb j i, k0_off270_packedfp8e5m2 j i⟩,
   ⟨k0_off271 j i, k0_off271_inb j i, k0_off271_packedfp8e5m2 j i⟩,
   ⟨k0_off272 j i, k0_off272_inb j i, k0_off272_packedfp8e5m2 j i⟩,
   ⟨k0_off273 j i, k0_off273_inb j i, k0_off273_packedfp8e5m2 j i⟩,
   ⟨k0_off274 j i, k0_off274_inb j i, k0_off274_packedfp8e5m2 j i⟩,
   ⟨k0_off275 j i, k0_off275_inb j i, k0_off275_packedfp8e5m2 j i⟩,
   ⟨k0_off276 j i, k0_off276_inb j i, k0_off276_packedfp8e5m2 j i⟩,
   ⟨k0_off277 j i, k0_off277_inb j i, k0_off277_packedfp8e5m2 j i⟩,
   ⟨k0_off278 j i, k0_off278_inb j i, k0_off278_packedfp8e5m2 j i⟩,
   ⟨k0_off279 j i, k0_off279_inb j i, k0_off279_packedfp8e5m2 j i⟩]

/-- The tiles phase 5 writes `dx` of. -/
def dx5 (j : Fin loop8.trips) (i : Fin loop9.trips) : List (RdOff × OutOff) :=
  [(⟨k0_off244 j i, k0_off244_inb j i⟩, ⟨k0_off245 j i, k0_off245_inb j i, k0_off245_packedbf16 j i⟩),
   (⟨k0_off246 j i, k0_off246_inb j i⟩, ⟨k0_off247 j i, k0_off247_inb j i, k0_off247_packedbf16 j i⟩),
   (⟨k0_off248 j i, k0_off248_inb j i⟩, ⟨k0_off249 j i, k0_off249_inb j i, k0_off249_packedbf16 j i⟩),
   (⟨k0_off250 j i, k0_off250_inb j i⟩, ⟨k0_off251 j i, k0_off251_inb j i, k0_off251_packedbf16 j i⟩),
   (⟨k0_off252 j i, k0_off252_inb j i⟩, ⟨k0_off253 j i, k0_off253_inb j i, k0_off253_packedbf16 j i⟩),
   (⟨k0_off254 j i, k0_off254_inb j i⟩, ⟨k0_off255 j i, k0_off255_inb j i, k0_off255_packedbf16 j i⟩),
   (⟨k0_off256 j i, k0_off256_inb j i⟩, ⟨k0_off257 j i, k0_off257_inb j i, k0_off257_packedbf16 j i⟩),
   (⟨k0_off258 j i, k0_off258_inb j i⟩, ⟨k0_off259 j i, k0_off259_inb j i, k0_off259_packedbf16 j i⟩),
   (⟨k0_off260 j i, k0_off260_inb j i⟩, ⟨k0_off261 j i, k0_off261_inb j i, k0_off261_packedbf16 j i⟩),
   (⟨k0_off262 j i, k0_off262_inb j i⟩, ⟨k0_off263 j i, k0_off263_inb j i, k0_off263_packedbf16 j i⟩),
   (⟨k0_off264 j i, k0_off264_inb j i⟩, ⟨k0_off265 j i, k0_off265_inb j i, k0_off265_packedbf16 j i⟩),
   (⟨k0_off266 j i, k0_off266_inb j i⟩, ⟨k0_off267 j i, k0_off267_inb j i, k0_off267_packedbf16 j i⟩)]

def win5 (j : Fin loop8.trips) : InOff :=
  ⟨k0_off236 j, k0_off236_inb j, k0_off239 j, k0_off239_inb j, k0_off240 j, k0_off240_inb j, k0_off237 j, k0_off237_inb j, k0_off237_wordsfp8e4m3 j, k0_off237_wordsfp8e5m2 j, k0_off237_wordsi8 j, k0_off238 j, k0_off238_inb j, k0_off238_wordsfp8e4m3 j, k0_off238_wordsfp8e5m2 j, k0_off238_wordsi8 j⟩

def wout5 (j : Fin loop8.trips) : (c : BitVec 1) ×' (c = 1#1 → SendOff) :=
  ⟨k0_cond5 j, fun h => ⟨k0_off241 j, k0_off241_inb j h, k0_off242 j, k0_off242_inb j h, k0_off242_wordsbf16 j h, k0_off243 j, k0_off243_inb j h, k0_off243_wordsbf16 j h⟩⟩

def send5 (j : Fin loop8.trips) : SendOff :=
  ⟨k0_off280 j, k0_off280_inb j, k0_off281 j, k0_off281_inb j, k0_off281_wordsbf16 j, k0_off282 j, k0_off282_inb j, k0_off282_wordsbf16 j⟩

/-- Phase 5. -/
def ph5 : Phase :=
  ⟨k0_t13_ok, k0_t14_ok, some win5, some wout5, some dx5, some red5, some send5, none, some ⟨![5, 0], inb_S6x128_S1x128_5_0⟩⟩

/-- The tiles phase 6 writes `dx` of. -/
def dx6 (j : Fin loop8.trips) (i : Fin loop9.trips) : List (RdOff × OutOff) :=
  [(⟨k0_off286 j i, k0_off286_inb j i⟩, ⟨k0_off287 j i, k0_off287_inb j i, k0_off287_packedbf16 j i⟩),
   (⟨k0_off288 j i, k0_off288_inb j i⟩, ⟨k0_off289 j i, k0_off289_inb j i, k0_off289_packedbf16 j i⟩),
   (⟨k0_off290 j i, k0_off290_inb j i⟩, ⟨k0_off291 j i, k0_off291_inb j i, k0_off291_packedbf16 j i⟩),
   (⟨k0_off292 j i, k0_off292_inb j i⟩, ⟨k0_off293 j i, k0_off293_inb j i, k0_off293_packedbf16 j i⟩),
   (⟨k0_off294 j i, k0_off294_inb j i⟩, ⟨k0_off295 j i, k0_off295_inb j i, k0_off295_packedbf16 j i⟩),
   (⟨k0_off296 j i, k0_off296_inb j i⟩, ⟨k0_off297 j i, k0_off297_inb j i, k0_off297_packedbf16 j i⟩),
   (⟨k0_off298 j i, k0_off298_inb j i⟩, ⟨k0_off299 j i, k0_off299_inb j i, k0_off299_packedbf16 j i⟩),
   (⟨k0_off300 j i, k0_off300_inb j i⟩, ⟨k0_off301 j i, k0_off301_inb j i, k0_off301_packedbf16 j i⟩),
   (⟨k0_off302 j i, k0_off302_inb j i⟩, ⟨k0_off303 j i, k0_off303_inb j i, k0_off303_packedbf16 j i⟩),
   (⟨k0_off304 j i, k0_off304_inb j i⟩, ⟨k0_off305 j i, k0_off305_inb j i, k0_off305_packedbf16 j i⟩),
   (⟨k0_off306 j i, k0_off306_inb j i⟩, ⟨k0_off307 j i, k0_off307_inb j i, k0_off307_packedbf16 j i⟩),
   (⟨k0_off308 j i, k0_off308_inb j i⟩, ⟨k0_off309 j i, k0_off309_inb j i, k0_off309_packedbf16 j i⟩)]

def wout6 (j : Fin loop8.trips) : (c : BitVec 1) ×' (c = 1#1 → SendOff) :=
  ⟨k0_cond6 j, fun h => ⟨k0_off283 j, k0_off283_inb j h, k0_off284 j, k0_off284_inb j h, k0_off284_wordsbf16 j h, k0_off285 j, k0_off285_inb j h, k0_off285_wordsbf16 j h⟩⟩

def send6 (j : Fin loop8.trips) : SendOff :=
  ⟨k0_off310 j, k0_off310_inb j, k0_off311 j, k0_off311_inb j, k0_off311_wordsbf16 j, k0_off312 j, k0_off312_inb j, k0_off312_wordsbf16 j⟩

/-- Phase 6. -/
def ph6 : Phase :=
  ⟨k0_t15_ok, k0_t16_ok, none, some wout6, some dx6, none, some send6, none, none⟩

/-- The arrivals of group 0. -/
def pro0 (j : Fin loop8.trips) : InOff :=
  ⟨k0_off1 j, k0_off1_inb j, k0_off4 j, k0_off4_inb j, k0_off5 j, k0_off5_inb j, k0_off2 j, k0_off2_inb j, k0_off2_wordsfp8e4m3 j, k0_off2_wordsfp8e5m2 j, k0_off2_wordsi8 j, k0_off3 j, k0_off3_inb j, k0_off3_wordsfp8e4m3 j, k0_off3_wordsfp8e5m2 j, k0_off3_wordsi8 j⟩

/-- The arrivals of group 1. -/
def pro1 (j : Fin loop8.trips) : InOff :=
  ⟨k0_off6 j, k0_off6_inb j, k0_off9 j, k0_off9_inb j, k0_off10 j, k0_off10_inb j, k0_off7 j, k0_off7_inb j, k0_off7_wordsfp8e4m3 j, k0_off7_wordsfp8e5m2 j, k0_off7_wordsi8 j, k0_off8 j, k0_off8_inb j, k0_off8_wordsfp8e4m3 j, k0_off8_wordsfp8e5m2 j, k0_off8_wordsi8 j⟩

def fin0 : SendOff :=
  ⟨![0], inb_S3_S1_0, ![0, 0, 0, 0], inb_S72x12x32x768_S9x12x32x128_0_0_0_0, wordsbf16_S72x12x32x768_S9x12x32x128_0_0_0_0, ![0, 0, 0, 0, 0], inb_S3x9x12x32x128_S1x9x12x32x128_0_0_0_0_0, wordsbf16_S3x9x12x32x128_S1x9x12x32x128_0_0_0_0_0⟩

def fin1 : SendOff :=
  ⟨![1], inb_S3_S1_1, ![0, 0, 0, 0], inb_S72x12x32x768_S9x12x32x128_0_0_0_0, wordsbf16_S72x12x32x768_S9x12x32x128_0_0_0_0, ![1, 0, 0, 0, 0], inb_S3x9x12x32x128_S1x9x12x32x128_1_0_0_0_0, wordsbf16_S3x9x12x32x128_S1x9x12x32x128_1_0_0_0_0⟩

def fin2 : SendOff :=
  ⟨![2], inb_S3_S1_2, ![0, 0, 0, 0], inb_S72x12x32x768_S9x12x32x128_0_0_0_0, wordsbf16_S72x12x32x768_S9x12x32x128_0_0_0_0, ![2, 0, 0, 0, 0], inb_S3x9x12x32x128_S1x9x12x32x128_2_0_0_0_0, wordsbf16_S3x9x12x32x128_S1x9x12x32x128_2_0_0_0_0⟩

end Cert.Kernel.Hand
-- ==== Proof.K.Eq.lean ====
/-
  The printed loop bodies are the program's, at the offsets of `Tables`, and the printed kernel is the whole program.
-/
module

public import proofs.«01_k».proof.Proof.K.Tables

@[expose] public section

set_option maxRecDepth 65536
set_option maxHeartbeats 1000000

noncomputable section

namespace Cert.Kernel.Hand

open Idealize.ShloMosaic Idealize.SL.Sem Cert.Kernel Cert.Kernel.Gen

variable {F : FTy → Type} [FloatOps F]

/-- What follows a condition follows each of its branches. -/
theorem dite_bind {E : Type → Type} {α β : Type} {c : Prop} [Decidable c] (a : c → Prog E α) (b : ¬ c → Prog E α) (f : α → Prog E β) :
    (dite c a b) >>= f = dite c (fun h => a h >>= f) (fun h => b h >>= f) := by
  split <;> rfl

theorem pro0_eq (R : Ops) h2 h3 h4 h9 h10 h15 h16  : k0_t1_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => startIn R (pro0 j) (pure ⟨⟩) := rfl

theorem pro1_eq (R : Ops) h2 h3 h4 h9 h10 h15 h16  : k0_t2_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => startIn R (pro1 j) (pure ⟨⟩) := rfl

theorem st0 (R : Ops) h2 h3 h4 h9 h10 h15 h16 j arg20 : k0_t4_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 = fun i _ => stepBody R ph0 j i := rfl

theorem ck0 (R : Ops) h2 h3 h4 h9 h10 h15 h16  : k0_t3_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => chunkBody R ph0 j := rfl

theorem st1 (R : Ops) h2 h3 h4 h9 h10 h15 h16 j arg20 v407 c0_i32_293 c9_i32_294 : k0_t6_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_293 c9_i32_294 = fun i _ => stepBody R ph1 j i := rfl

theorem ck1 (R : Ops) h2 h3 h4 h9 h10 h15 h16 v0 v1 v38 v62 : k0_t5_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v1 v38 v62 = fun j _ => chunkBody R ph1 j := by
  funext j u
  unfold k0_t5_body
  simp only [k0_part37_eq_skeleton, k0_part37_skel, k0_part38_eq_skeleton, k0_part38_skel, bind_assoc, dite_bind, st1]
  rfl

theorem st2 (R : Ops) h2 h3 h4 h9 h10 h15 h16 j arg20 v407 c0_i32_293 c9_i32_294 : k0_t8_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_293 c9_i32_294 = fun i _ => stepBody R ph2 j i := rfl

theorem ck2 (R : Ops) h2 h3 h4 h9 h10 h15 h16 v0 v1 v130 : k0_t7_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v1 v130 = fun j _ => chunkBody R ph2 j := by
  funext j u
  unfold k0_t7_body
  simp only [k0_part60_eq_skeleton, k0_part60_skel, k0_part61_eq_skeleton, k0_part61_skel, bind_assoc, dite_bind, st2]
  rfl

theorem st3 (R : Ops) h2 h3 h4 h9 h10 h15 h16 j arg20 v407 c0_i32_292 c9_i32_293 : k0_t10_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_292 c9_i32_293 = fun i _ => stepBody R ph3 j i := rfl

theorem ck3 (R : Ops) h2 h3 h4 h9 h10 h15 h16 v0 v1 v136 v138 v146 v160 v162 : k0_t9_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v1 v136 v138 v146 v160 v162 = fun j _ => chunkBody R ph3 j := by
  funext j u
  unfold k0_t9_body
  simp only [k0_part83_eq_skeleton, k0_part83_skel, k0_part84_eq_skeleton, k0_part84_skel, bind_assoc, dite_bind, st3]
  rfl

theorem st4 (R : Ops) h2 h3 h4 h9 h10 h15 h16 j arg20 v407 c0_i32_292 c9_i32_293 : k0_t12_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v407 c0_i32_292 c9_i32_293 = fun i _ => stepBody R ph4 j i := rfl

theorem ck4 (R : Ops) h2 h3 h4 h9 h10 h15 h16 v0 v197 v207 v221 v224 v232 cst_149 : k0_t11_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v0 v197 v207 v221 v224 v232 cst_149 = fun j _ => chunkBody R ph4 j := by
  funext j u
  unfold k0_t11_body
  simp only [k0_part106_eq_skeleton, k0_part106_skel, k0_part107_eq_skeleton, k0_part107_skel, bind_assoc, dite_bind, st4]
  rfl

theorem st5 (R : Ops) h2 h3 h4 h9 h10 h15 h16 j v1 v268 v282 v303 arg20 v407 c0_i32_292 : k0_t14_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v1 v268 v282 v303 j arg20 v407 c0_i32_292 = fun i _ => stepBody R ph5 j i := rfl

theorem ck5 (R : Ops) h2 h3 h4 h9 h10 h15 h16 v1 v268 v282 v303 : k0_t13_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT v1 v268 v282 v303 = fun j _ => chunkBody R ph5 j := by
  funext j u
  unfold k0_t13_body
  simp only [k0_part129_eq_skeleton, k0_part129_skel, bind_assoc, dite_bind, st5]
  rfl

theorem st6 (R : Ops) h2 h3 h4 h9 h10 h15 h16 j arg20 v391 : k0_t16_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT j arg20 v391 = fun i _ => stepBody R ph6 j i := rfl

theorem ck6 (R : Ops) h2 h3 h4 h9 h10 h15 h16  : k0_t15_body (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT  = fun j _ => chunkBody R ph6 j := rfl

/-- The printed kernel is the program of `Prog` at these offsets. -/
theorem kern_eq (R : Ops) h2 h3 h4 h9 h10 h15 h16 :
    cc0_bn_relu_bwd (F := F) R.xs R.hxs R.ys R.hys R.mean h2 R.rstd h3 R.gam h4 R.x R.hx R.y R.hy R.m R.hm R.d R.hd R.dg h9 R.db h10 R.X R.hX R.G R.hG R.M R.hM R.O R.hO R.A h15 R.C h16 R.N R.hN R.IN R.OUT
      = kern R k0_t1_ok pro0 pro1 [ph0, ph1, ph2, ph3, ph4, ph5, ph6] fin0 fin1 fin2 := by
  unfold cc0_bn_relu_bwd
  simp only [k0_part136_eq_skeleton, k0_part136_skel, k0_part137_eq_skeleton, k0_part137_skel, k0_part138_eq_skeleton, k0_part138_skel, k0_part139_eq_skeleton, k0_part139_skel, k0_part140_eq_skeleton, k0_part140_skel, k0_part141_eq_skeleton, k0_part141_skel, k0_part142_eq_skeleton, k0_part142_skel, k0_part143_eq_skeleton, k0_part143_skel, k0_part144_eq_skeleton, k0_part144_skel, k0_part145_eq_skeleton, k0_part145_skel, k0_part146_eq_skeleton, k0_part146_skel, k0_part147_eq_skeleton, k0_part147_skel, bind_assoc, pro0_eq, pro1_eq, ck0, ck1, ck2, ck3, ck4, ck5, ck6]
  rfl

end Cert.Kernel.Hand
-- ==== Proof.K.Off.lean ====
/-
  The offsets of `Tables` in closed form, evaluated trip by trip.
-/
module

public import proofs.«01_k».proof.Proof.K.Tables

@[expose] public section

noncomputable section

namespace Cert.Kernel.Hand

open Idealize.ShloMosaic Idealize.SL.Sem Cert.Kernel Cert.Kernel.Gen

/-- The twelve tiles of slab `n` of slot `s`. -/
def tileOffs (s n : ℕ) : List (Fin 5 → ℕ) := (List.finRange 12).map fun t => ![s, n, t.val, 0, 0]

/-- The arrivals are those of chunk `j` of group `g`. -/
def InOff.IsAt (n : InOff) (g j : ℕ) : Prop :=
  n.s0 = ![0, g % 2, j] ∧ n.s1 = ![1, g % 2, j] ∧ n.s2 = ![2, g % 2, j] ∧ n.b = ![g % 2, 9 * j, 0, 0, 0] ∧ n.h = ![9 * j, 0, 0, 128 * g]
instance (n : InOff) (g j : ℕ) : Decidable (n.IsAt g j) := by unfold InOff.IsAt; infer_instance

/-- The departure is chunk `j` of group `g`'s. -/
def SendOff.IsAt (n : SendOff) (g j : ℕ) : Prop :=
  n.s = ![(8 * g + j) % 3] ∧ n.b = ![(8 * g + j) % 3, 0, 0, 0, 0] ∧ n.h = ![9 * j, 0, 0, 128 * g]
instance (n : SendOff) (g j : ℕ) : Decidable (n.IsAt g j) := by unfold SendOff.IsAt; infer_instance

theorem red0_at : ∀ j i, (red0 j i).map TileOff.o = tileOffs 0 (9 * j.val + i.val) := by decide +kernel
theorem win0_at : ∀ j, (win0 j).IsAt 0 j := by decide +kernel
theorem red1_at : ∀ j i, (red1 j i).map TileOff.o = tileOffs 1 (9 * j.val + i.val) := by decide +kernel
theorem win1_at : ∀ j, (win1 j).IsAt 1 j := by decide +kernel
theorem dx1_rd : ∀ j i, (dx1 j i).map (fun p => p.1.o) = tileOffs 0 (9 * j.val + i.val) := by decide +kernel
theorem dx1_wr : ∀ j i, (dx1 j i).map (fun p => p.2.o) = tileOffs ((8 * 0 + j.val) % 3) i.val := by decide +kernel
theorem send1_at : ∀ j, (send1 j).IsAt 0 j := by decide +kernel
theorem wout1_iff : ∀ j, (wout1 j).1 = 1#1 ↔ 3 ≤ 8 * 0 + j.val := by decide +kernel
theorem wout1_at : ∀ j (h : (wout1 j).1 = 1#1), ((wout1 j).2 h).s = ![(8 * 0 + j.val) % 3] := by decide +kernel
theorem nxt1_at : ∀ j, (nxt1 j).IsAt 2 j := by decide +kernel
theorem red2_at : ∀ j i, (red2 j i).map TileOff.o = tileOffs 0 (9 * j.val + i.val) := by decide +kernel
theorem win2_at : ∀ j, (win2 j).IsAt 2 j := by decide +kernel
theorem dx2_rd : ∀ j i, (dx2 j i).map (fun p => p.1.o) = tileOffs 1 (9 * j.val + i.val) := by decide +kernel
theorem dx2_wr : ∀ j i, (dx2 j i).map (fun p => p.2.o) = tileOffs ((8 * 1 + j.val) % 3) i.val := by decide +kernel
theorem send2_at : ∀ j, (send2 j).IsAt 1 j := by decide +kernel
theorem wout2_iff : ∀ j, (wout2 j).1 = 1#1 ↔ 3 ≤ 8 * 1 + j.val := by decide +kernel
theorem wout2_at : ∀ j (h : (wout2 j).1 = 1#1), ((wout2 j).2 h).s = ![(8 * 1 + j.val) % 3] := by decide +kernel
theorem nxt2_at : ∀ j, (nxt2 j).IsAt 3 j := by decide +kernel
theorem red3_at : ∀ j i, (red3 j i).map TileOff.o = tileOffs 1 (9 * j.val + i.val) := by decide +kernel
theorem win3_at : ∀ j, (win3 j).IsAt 3 j := by decide +kernel
theorem dx3_rd : ∀ j i, (dx3 j i).map (fun p => p.1.o) = tileOffs 0 (9 * j.val + i.val) := by decide +kernel
theorem dx3_wr : ∀ j i, (dx3 j i).map (fun p => p.2.o) = tileOffs ((8 * 2 + j.val) % 3) i.val := by decide +kernel
theorem send3_at : ∀ j, (send3 j).IsAt 2 j := by decide +kernel
theorem wout3_iff : ∀ j, (wout3 j).1 = 1#1 ↔ 3 ≤ 8 * 2 + j.val := by decide +kernel
theorem wout3_at : ∀ j (h : (wout3 j).1 = 1#1), ((wout3 j).2 h).s = ![(8 * 2 + j.val) % 3] := by decide +kernel
theorem nxt3_at : ∀ j, (nxt3 j).IsAt 4 j := by decide +kernel
theorem red4_at : ∀ j i, (red4 j i).map TileOff.o = tileOffs 0 (9 * j.val + i.val) := by decide +kernel
theorem win4_at : ∀ j, (win4 j).IsAt 4 j := by decide +kernel
theorem dx4_rd : ∀ j i, (dx4 j i).map (fun p => p.1.o) = tileOffs 1 (9 * j.val + i.val) := by decide +kernel
theorem dx4_wr : ∀ j i, (dx4 j i).map (fun p => p.2.o) = tileOffs ((8 * 3 + j.val) % 3) i.val := by decide +kernel
theorem send4_at : ∀ j, (send4 j).IsAt 3 j := by decide +kernel
theorem wout4_iff : ∀ j, (wout4 j).1 = 1#1 ↔ 3 ≤ 8 * 3 + j.val := by decide +kernel
theorem wout4_at : ∀ j (h : (wout4 j).1 = 1#1), ((wout4 j).2 h).s = ![(8 * 3 + j.val) % 3] := by decide +kernel
theorem nxt4_at : ∀ j, (nxt4 j).IsAt 5 j := by decide +kernel
theorem red5_at : ∀ j i, (red5 j i).map TileOff.o = tileOffs 1 (9 * j.val + i.val) := by decide +kernel
theorem win5_at : ∀ j, (win5 j).IsAt 5 j := by decide +kernel
theorem dx5_rd : ∀ j i, (dx5 j i).map (fun p => p.1.o) = tileOffs 0 (9 * j.val + i.val) := by decide +kernel
theorem dx5_wr : ∀ j i, (dx5 j i).map (fun p => p.2.o) = tileOffs ((8 * 4 + j.val) % 3) i.val := by decide +kernel
theorem send5_at : ∀ j, (send5 j).IsAt 4 j := by decide +kernel
theorem wout5_iff : ∀ j, (wout5 j).1 = 1#1 ↔ 3 ≤ 8 * 4 + j.val := by decide +kernel
theorem wout5_at : ∀ j (h : (wout5 j).1 = 1#1), ((wout5 j).2 h).s = ![(8 * 4 + j.val) % 3] := by decide +kernel
theorem dx6_rd : ∀ j i, (dx6 j i).map (fun p => p.1.o) = tileOffs 1 (9 * j.val + i.val) := by decide +kernel
theorem dx6_wr : ∀ j i, (dx6 j i).map (fun p => p.2.o) = tileOffs ((8 * 5 + j.val) % 3) i.val := by decide +kernel
theorem send6_at : ∀ j, (send6 j).IsAt 5 j := by decide +kernel
theorem wout6_iff : ∀ j, (wout6 j).1 = 1#1 ↔ 3 ≤ 8 * 5 + j.val := by decide +kernel
theorem wout6_at : ∀ j (h : (wout6 j).1 = 1#1), ((wout6 j).2 h).s = ![(8 * 5 + j.val) % 3] := by decide +kernel
theorem pro0_at : ∀ j, (pro0 j).IsAt 0 j := by decide +kernel
theorem pro1_at : ∀ j, (pro1 j).IsAt 1 j := by decide +kernel

end Cert.Kernel.Hand
-- ==== Proof.K.Geom.lean ====
/-
  Where the kernel's accesses fall: the buffers it works on, the block of each a chunk is, what a read or a write of a
  tile is index by index, and what a chunk's transfer leaves.
-/
module

public import proofs.«01_k».proof.Proof.K.Eq
public import proofs.«01_k».proof.Proof.K.Off
public import proofs.«01_k».proof.Proof.Gen.Kernel.Launch
public import proofs.«01_k».proof.Proof.Gen.Kernel.Points
public import Idealize.ShloMosaic.Lib.Pipeline.FrameSuffixV
public import Idealize.ShloMosaic.Lib.Pipeline.KitQuiescent
public import Idealize.ShloMosaic.Lib.Ring
public import Idealize.ShloMosaic.Lib.Tactic

@[expose] public section

set_option maxRecDepth 65536

noncomputable section

namespace Cert.Kernel.Hand

open Cert.Kernel Cert.Kernel.Gen
open Idealize.ShloMosaic
open Idealize.ShloMosaic.TcCoe
open Idealize.SL.Sem

/-! ## The buffers -/

abbrev xsM : Memref sig .tc .smem S1 .f32 := Memref.whole cc0_stg0_0
abbrev ysM : Memref sig .tc .smem S1 .f32 := Memref.whole cc0_stg1_0
abbrev meM : Memref sig .tc .vmem S6x128 .f32 := Memref.whole cc0_stg2_0
abbrev rsM : Memref sig .tc .vmem S6x128 .f32 := Memref.whole cc0_stg3_0
abbrev gaM : Memref sig .tc .vmem S6x128 .f32 := Memref.whole cc0_stg4_0
abbrev dgM : Memref sig .tc .vmem S6x128 .f32 := Memref.whole cc0_stg5_0
abbrev dbM : Memref sig .tc .vmem S6x128 .f32 := Memref.whole cc0_stg6_0
abbrev hxM : Memref sig .tc .hbm S72x12x32x768 .fp8e4m3 := Memref.whole main_v7
abbrev hgM : Memref sig .tc .hbm S72x12x32x768 .fp8e5m2 := Memref.whole main_v8
abbrev hmM : Memref sig .tc .hbm S72x12x32x768 .i8 := Memref.whole main_v9
abbrev hdM : Memref sig .tc .hbm S72x12x32x768 .bf16 := Memref.whole main_v10_0
abbrev XM : Memref sig .tc .vmem S2x72x12x32x128 .fp8e4m3 := Memref.whole cc0_scratch0
abbrev GM : Memref sig .tc .vmem S2x72x12x32x128 .fp8e5m2 := Memref.whole cc0_scratch1
abbrev MM : Memref sig .tc .vmem S2x72x12x32x128 .i8 := Memref.whole cc0_scratch2
abbrev OM : Memref sig .tc .vmem S3x9x12x32x128 .bf16 := Memref.whole cc0_scratch3
abbrev AM : Memref sig .tc .vmem S2x8x128 .f32 := Memref.whole cc0_scratch4
abbrev CM : Memref sig .tc .vmem S3x32x128 .f32 := Memref.whole cc0_scratch5
abbrev NM : Memref sig .tc .vmem S16x128 .bf16 := Memref.whole cc0_scratch6

/-- The operands the kernel is launched on. -/
@[reducible] def R0 : Ops where
  xs := xsM
  hxs := Memref.isWhole_whole _
  ys := ysM
  hys := Memref.isWhole_whole _
  mean := meM
  rstd := rsM
  gam := gaM
  x := hxM
  hx := Memref.isWhole_whole _
  y := hgM
  hy := Memref.isWhole_whole _
  m := hmM
  hm := Memref.isWhole_whole _
  d := hdM
  hd := Memref.isWhole_whole _
  dg := dgM
  db := dbM
  X := XM
  hX := Memref.isWhole_whole _
  G := GM
  hG := Memref.isWhole_whole _
  M := MM
  hM := Memref.isWhole_whole _
  O := OM
  hO := Memref.isWhole_whole _
  A := AM
  C := CM
  N := NM
  hN := Memref.isWhole_whole _
  IN := cc0_scratch7
  OUT := cc0_scratch8

/-! ## Reads and writes, index by index -/

section Generic
variable {Val : EltTy → Type}

/-- What a write through a unit-stride rectangle of a whole buffer leaves. -/
theorem write_unit (b : Ref sig .tc) (o sz : Fin b.ty.shape.rank → ℕ) (inb : ∀ a, o a + sz a ≤ b.ty.shape.size a)
    (f : b.ty.Contents Val) (w : (Rect.unit (s := b.ty.shape) o sz inb).shape.Idx → Val b.ty.elt) (i : b.ty.shape.Idx) :
    ((View.whole b).slice (Rect.unit o sz inb)).write Val f w Finset.univ i
      = if h : ∀ a, o a ≤ i a ∧ (i a : ℕ) < o a + sz a then w (fun a => ⟨(i a : ℕ) - o a, by have := h a; show _ < sz a; omega⟩) else f i := by
  split
  · next h =>
    have e : ((View.whole b).slice (Rect.unit o sz inb)).emb (fun a => ⟨(i a : ℕ) - o a, by have := h a; show _ < sz a; omega⟩) = i := by
      funext a; apply Fin.ext
      show o a + 1 * ((i a : ℕ) - o a) = i a
      have := h a; omega
    conv_lhs => rw [← e]
    refine (View.write_emb_of_mem _ _ (Finset.mem_univ _)).trans ?_
    rfl
  · next h =>
    refine View.write_of_not_mem _ _ _ ?_
    rw [View.setOn_univ, View.set_slice_whole, Rect.mem_set_unit]
    exact h

/-- What a read through one gives. -/
theorem read_unit (b : Ref sig .tc) (o sz : Fin b.ty.shape.rank → ℕ) (inb : ∀ a, o a + sz a ≤ b.ty.shape.size a)
    (f : b.ty.Contents Val) (j : (Rect.unit (s := b.ty.shape) o sz inb).shape.Idx) :
    ((View.whole b).slice (Rect.unit o sz inb)).read Val f j
      = f (fun a => ⟨o a + (j a : ℕ), by have := inb a; have := (j a).isLt; show _ < _; have h : (j a : ℕ) < sz a := (j a).isLt; omega⟩) := by
  show f _ = f _
  congr 1; funext a; apply Fin.ext
  show o a + 1 * (j a : ℕ) = o a + j a
  omega

end Generic

/-! ## Blocks -/

/-- Chunk `j` of slot `s` of an input buffer. -/
def CK (s j : ℕ) : Finset S2x72x12x32x128.Idx := Finset.univ.filter fun i => (i 0).val = s ∧ (i 1).val / 9 = j
/-- Chunk `j` of group `g` of an array. -/
def HB (g j : ℕ) : Finset S72x12x32x768.Idx := Finset.univ.filter fun i => (i 0).val / 9 = j ∧ (i 3).val / 128 = g
/-- Output staging buffer `b`. -/
def SB (b : ℕ) : Finset S3x9x12x32x128.Idx := Finset.univ.filter fun i => (i 0).val = b

theorem mem_CK {s j : ℕ} {i : S2x72x12x32x128.Idx} : i ∈ CK s j ↔ (i 0).val = s ∧ (i 1).val / 9 = j := by
  unfold CK; rw [Finset.mem_filter]; simp
theorem mem_HB {g j : ℕ} {i : S72x12x32x768.Idx} : i ∈ HB g j ↔ (i 0).val / 9 = j ∧ (i 3).val / 128 = g := by
  unfold HB; rw [Finset.mem_filter]; simp
theorem mem_SB {b : ℕ} {i : S3x9x12x32x128.Idx} : i ∈ SB b ↔ (i 0).val = b := by
  unfold SB; rw [Finset.mem_filter]; simp

theorem chunk_rect {s j : ℕ} {o : Fin 5 → ℕ} (h : o = ![s, 9 * j, 0, 0, 0]) (i) :
    (Rect.unit (s := S2x72x12x32x128) o S1x9x12x32x128.size i).set = CK s j := by
  subst h; ext y
  rw [Rect.mem_set_unit, mem_CK]
  have h0 := (y 0).isLt
  have h2 : (y 2).val < 12 := (y 2).isLt
  have h3 : (y 3).val < 32 := (y 3).isLt
  have h4 : (y 4).val < 128 := (y 4).isLt
  constructor
  · intro H
    have a0 : s ≤ (y 0).val ∧ (y 0).val < s + 1 := H 0
    have a1 : 9 * j ≤ (y 1).val ∧ (y 1).val < 9 * j + 9 := H 1
    omega
  · rintro ⟨H0, H1⟩ a; fin_cases a
    · show s ≤ (y 0).val ∧ (y 0).val < s + 1; omega
    · show 9 * j ≤ (y 1).val ∧ (y 1).val < 9 * j + 9; omega
    · show 0 ≤ (y 2).val ∧ (y 2).val < 0 + 12; omega
    · show 0 ≤ (y 3).val ∧ (y 3).val < 0 + 32; omega
    · show 0 ≤ (y 4).val ∧ (y 4).val < 0 + 128; omega

theorem home_rect {g j : ℕ} {o : Fin 4 → ℕ} (h : o = ![9 * j, 0, 0, 128 * g]) (i) :
    (Rect.unit (s := S72x12x32x768) o S9x12x32x128.size i).set = HB g j := by
  subst h; ext y
  rw [Rect.mem_set_unit, mem_HB]
  have h2 : (y 1).val < 12 := (y 1).isLt
  have h3 : (y 2).val < 32 := (y 2).isLt
  constructor
  · intro H
    have a0 : 9 * j ≤ (y 0).val ∧ (y 0).val < 9 * j + 9 := H 0
    have a1 : 128 * g ≤ (y 3).val ∧ (y 3).val < 128 * g + 128 := H 3
    omega
  · rintro ⟨H0, H1⟩ a; fin_cases a
    · show 9 * j ≤ (y 0).val ∧ (y 0).val < 9 * j + 9; omega
    · show 0 ≤ (y 1).val ∧ (y 1).val < 0 + 12; omega
    · show 0 ≤ (y 2).val ∧ (y 2).val < 0 + 32; omega
    · show 128 * g ≤ (y 3).val ∧ (y 3).val < 128 * g + 128; omega

theorem stage_rect {b : ℕ} {o : Fin 5 → ℕ} (h : o = ![b, 0, 0, 0, 0]) (i) :
    (Rect.unit (s := S3x9x12x32x128) o S1x9x12x32x128.size i).set = SB b := by
  subst h; ext y
  rw [Rect.mem_set_unit, mem_SB]
  have h1 : (y 1).val < 9 := (y 1).isLt
  have h2 : (y 2).val < 12 := (y 2).isLt
  have h3 : (y 3).val < 32 := (y 3).isLt
  have h4 : (y 4).val < 128 := (y 4).isLt
  constructor
  · intro H
    have a0 : b ≤ (y 0).val ∧ (y 0).val < b + 1 := H 0
    omega
  · rintro H0 a; fin_cases a
    · show b ≤ (y 0).val ∧ (y 0).val < b + 1; omega
    · show 0 ≤ (y 1).val ∧ (y 1).val < 0 + 9; omega
    · show 0 ≤ (y 2).val ∧ (y 2).val < 0 + 12; omega
    · show 0 ≤ (y 3).val ∧ (y 3).val < 0 + 32; omega
    · show 0 ≤ (y 4).val ∧ (y 4).val < 0 + 128; omega

theorem setX {s j : ℕ} {o : Fin 5 → ℕ} (h : o = ![s, 9 * j, 0, 0, 0]) (i) : (chunkOf XM o i).view.set = CK s j :=
  ((View.set_reshape _ _).trans (View.set_slice_whole _ _)).trans (chunk_rect h i)
theorem setG {s j : ℕ} {o : Fin 5 → ℕ} (h : o = ![s, 9 * j, 0, 0, 0]) (i) : (chunkOf GM o i).view.set = CK s j :=
  ((View.set_reshape _ _).trans (View.set_slice_whole _ _)).trans (chunk_rect h i)
theorem setM {s j : ℕ} {o : Fin 5 → ℕ} (h : o = ![s, 9 * j, 0, 0, 0]) (i) : (chunkOf MM o i).view.set = CK s j :=
  ((View.set_reshape _ _).trans (View.set_slice_whole _ _)).trans (chunk_rect h i)
theorem setO {b : ℕ} {o : Fin 5 → ℕ} (h : o = ![b, 0, 0, 0, 0]) (i) : (stageOf OM o i).view.set = SB b :=
  ((View.set_reshape _ _).trans (View.set_slice_whole _ _)).trans (stage_rect h i)
theorem setHx {g j : ℕ} {o : Fin 4 → ℕ} (h : o = ![9 * j, 0, 0, 128 * g]) (i) : (blockOf hxM o i).view.set = HB g j :=
  (View.set_slice_whole _ _).trans (home_rect h i)
theorem setHg {g j : ℕ} {o : Fin 4 → ℕ} (h : o = ![9 * j, 0, 0, 128 * g]) (i) : (blockOf hgM o i).view.set = HB g j :=
  (View.set_slice_whole _ _).trans (home_rect h i)
theorem setHm {g j : ℕ} {o : Fin 4 → ℕ} (h : o = ![9 * j, 0, 0, 128 * g]) (i) : (blockOf hmM o i).view.set = HB g j :=
  (View.set_slice_whole _ _).trans (home_rect h i)
theorem setHd {g j : ℕ} {o : Fin 4 → ℕ} (h : o = ![9 * j, 0, 0, 128 * g]) (i) : (blockOf hdM o i).view.set = HB g j :=
  (View.set_slice_whole _ _).trans (home_rect h i)

/-! ## What a transfer leaves -/

/-- Where the element of a slot at an index of a buffer is in group `g` of the array. -/
def toHbm (g : ℕ) (i : S2x72x12x32x128.Idx) : S72x12x32x768.Idx := fun a => match a with
  | ⟨0, _⟩ => (⟨(i 1).val, (i 1).isLt⟩ : Fin 72)
  | ⟨1, _⟩ => (⟨(i 2).val, (i 2).isLt⟩ : Fin 12)
  | ⟨2, _⟩ => (⟨(i 3).val, (i 3).isLt⟩ : Fin 32)
  | ⟨3, _⟩ => (⟨(128 * g + (i 4).val) % 768, Nat.mod_lt _ (by decide)⟩ : Fin 768)
  | ⟨_ + 4, h⟩ => absurd h (Nat.not_lt.2 (Nat.le_add_left _ _))

/-- A group's elements, laid out as the buffer lays them. -/
def grp {α : Type} (g : ℕ) (f : S72x12x32x768.Idx → α) : S2x72x12x32x128.Idx → α := fun i => f (toHbm g i)

theorem toHbm_emb {s j g : ℕ} (hg : g < 6) {o : Fin 5 → ℕ} {o' : Fin 4 → ℕ} (h : o = ![s, 9 * j, 0, 0, 0]) (h' : o' = ![9 * j, 0, 0, 128 * g]) (i) (i') (y : S9x12x32x128.Idx) :
    toHbm g ((Rect.unit (s := S2x72x12x32x128) o S1x9x12x32x128.size i).emb (Shape.reshapeEquiv squeezes_S1x9x12x32x128_S9x12x32x128.numel_eq y))
      = (Rect.unit (s := S72x12x32x768) o' S9x12x32x128.size i').emb y := by
  subst h h'
  have e : Shape.reshapeEquiv squeezes_S1x9x12x32x128_S9x12x32x128.numel_eq y = (Fin.cons (⟨0, Nat.one_pos⟩ : Fin 1) y : S1x9x12x32x128.Idx) :=
    Shape.reshapeEquiv_cons_one _ y
  rw [e]
  have h4 : (y 3).val < 128 := (y 3).isLt
  funext a; apply Fin.ext
  fin_cases a
  · show 9 * j + 1 * (y 0).val = 9 * j + 1 * (y 0).val; rfl
  · show 0 + 1 * (y 1).val = 0 + 1 * (y 1).val; rfl
  · show 0 + 1 * (y 2).val = 0 + 1 * (y 2).val; rfl
  · show (128 * g + (0 + 1 * (y 3).val)) % 768 = 128 * g + 1 * (y 3).val
    omega

section Landed
variable {F : FTy → Type}

theorem landX {s j g : ℕ} (hg : g < 6) {o : Fin 5 → ℕ} {o' : Fin 4 → ℕ} (h : o = ![s, 9 * j, 0, 0, 0]) (h' : o' = ![9 * j, 0, 0, 128 * g]) (i) (i')
    (f : S2x72x12x32x128.Idx → Elt F .fp8e4m3) (a : S72x12x32x768.Idx → Elt F .fp8e4m3) :
    ∀ y ∈ CK s j, (chunkOf XM o i).view.write (Elt F) f ((blockOf hxM o' i').view.read (Elt F) a) Finset.univ y = grp g a y := by
  intro y hy
  rw [← setX h i] at hy
  obtain ⟨x, -, rfl⟩ := Finset.mem_map.mp hy
  refine (View.write_emb_of_mem _ _ (Finset.mem_univ _)).trans ?_
  exact congrArg a (toHbm_emb hg h h' i i' x).symm

theorem landG {s j g : ℕ} (hg : g < 6) {o : Fin 5 → ℕ} {o' : Fin 4 → ℕ} (h : o = ![s, 9 * j, 0, 0, 0]) (h' : o' = ![9 * j, 0, 0, 128 * g]) (i) (i')
    (f : S2x72x12x32x128.Idx → Elt F .fp8e5m2) (a : S72x12x32x768.Idx → Elt F .fp8e5m2) :
    ∀ y ∈ CK s j, (chunkOf GM o i).view.write (Elt F) f ((blockOf hgM o' i').view.read (Elt F) a) Finset.univ y = grp g a y := by
  intro y hy
  rw [← setG h i] at hy
  obtain ⟨x, -, rfl⟩ := Finset.mem_map.mp hy
  refine (View.write_emb_of_mem _ _ (Finset.mem_univ _)).trans ?_
  exact congrArg a (toHbm_emb hg h h' i i' x).symm

theorem landM {s j g : ℕ} (hg : g < 6) {o : Fin 5 → ℕ} {o' : Fin 4 → ℕ} (h : o = ![s, 9 * j, 0, 0, 0]) (h' : o' = ![9 * j, 0, 0, 128 * g]) (i) (i')
    (f : S2x72x12x32x128.Idx → Elt F .i8) (a : S72x12x32x768.Idx → Elt F .i8) :
    ∀ y ∈ CK s j, (chunkOf MM o i).view.write (Elt F) f ((blockOf hmM o' i').view.read (Elt F) a) Finset.univ y = grp g a y := by
  intro y hy
  rw [← setM h i] at hy
  obtain ⟨x, -, rfl⟩ := Finset.mem_map.mp hy
  refine (View.write_emb_of_mem _ _ (Finset.mem_univ _)).trans ?_
  exact congrArg a (toHbm_emb hg h h' i i' x).symm

/-- The index of the staging buffer `b` that goes to an index of the result. -/
def toStage (b : ℕ) (hb : b < 3) (i : S72x12x32x768.Idx) : S3x9x12x32x128.Idx := fun a => match a with
  | ⟨0, _⟩ => (⟨b, hb⟩ : Fin 3)
  | ⟨1, _⟩ => (⟨(i 0).val % 9, Nat.mod_lt _ (by decide)⟩ : Fin 9)
  | ⟨2, _⟩ => (⟨(i 1).val, (i 1).isLt⟩ : Fin 12)
  | ⟨3, _⟩ => (⟨(i 2).val, (i 2).isLt⟩ : Fin 32)
  | ⟨4, _⟩ => (⟨(i 3).val % 128, Nat.mod_lt _ (by decide)⟩ : Fin 128)
  | ⟨_ + 5, h⟩ => absurd h (Nat.not_lt.2 (Nat.le_add_left _ _))

theorem landD {b j g : ℕ} (hb : b < 3) {o : Fin 5 → ℕ} {o' : Fin 4 → ℕ} (h : o = ![b, 0, 0, 0, 0]) (h' : o' = ![9 * j, 0, 0, 128 * g]) (i) (i')
    (f : S72x12x32x768.Idx → Elt F .bf16) (a : S3x9x12x32x128.Idx → Elt F .bf16) :
    ∀ y ∈ HB g j, (blockOf hdM o' i').view.write (Elt F) f ((stageOf OM o i).view.read (Elt F) a) Finset.univ y = a (toStage b hb y) := by
  intro y hy
  rw [← setHd h' i'] at hy
  obtain ⟨x, -, rfl⟩ := Finset.mem_map.mp hy
  refine (View.write_emb_of_mem _ _ (Finset.mem_univ _)).trans ?_
  refine congrArg a ?_
  subst h h'
  have e : Shape.reshapeEquiv squeezes_S1x9x12x32x128_S9x12x32x128.numel_eq x = (Fin.cons (⟨0, Nat.one_pos⟩ : Fin 1) x : S1x9x12x32x128.Idx) :=
    Shape.reshapeEquiv_cons_one _ x
  show (Rect.unit (s := S3x9x12x32x128) ![b, 0, 0, 0, 0] S1x9x12x32x128.size i).emb (Shape.reshapeEquiv squeezes_S1x9x12x32x128_S9x12x32x128.numel_eq x)
    = toStage b hb ((Rect.unit (s := S72x12x32x768) ![9 * j, 0, 0, 128 * g] S9x12x32x128.size i').emb x)
  rw [e]
  have h0 : (x 0).val < 9 := (x 0).isLt
  have h4 : (x 3).val < 128 := (x 3).isLt
  funext a; apply Fin.ext
  fin_cases a
  · show b + 1 * 0 = b; omega
  · show 0 + 1 * (x 0).val = (9 * j + 1 * (x 0).val) % 9; omega
  · show 0 + 1 * (x 1).val = 0 + 1 * (x 1).val; rfl
  · show 0 + 1 * (x 2).val = 0 + 1 * (x 2).val; rfl
  · show 0 + 1 * (x 3).val = (128 * g + 1 * (x 3).val) % 128; omega

end Landed

end Cert.Kernel.Hand
-- ==== Proof.K.Tiles.lean ====
/-
  The steps of the kernel's inner loop, run: what the masked sums of a slab and its `dx` rows read, what they leave in
  the buffers and what they hand on, tile after tile.
-/
module

public import proofs.«01_k».proof.Proof.K.Geom

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
abbrev 𝒱₀ : Variants := Variants.none

theorem entails_of_eq {P Q : sProp 𝕄} (e : P = Q) : P ⊢ Q := e ▸ .rfl

/-- A program's weakest precondition on a core, in the kernel. -/
abbrev Wp (c : Dev nD) (p : Prog (TpuEff nD τ sig (Elt F) Λ₀ .tc) Unit) (Q : Unit → sProp 𝕄) : sProp 𝕄 :=
  wp frame (wpE (defs₀ (F := F)) 𝒱₀ (c : Thread nD τ) none) Set.univ p Q

/-! ## Tiles of a slab -/

/-- The index of a buffer at a slot, slab, tile, row and lane. -/
def ixB (s n : ℕ) (k : Fin 12) (r : Fin 32) (l : Fin 128) : S2x72x12x32x128.Idx := fun a => match a with
  | ⟨0, _⟩ => (⟨s % 2, Nat.mod_lt _ (by decide)⟩ : Fin 2)
  | ⟨1, _⟩ => (⟨n % 72, Nat.mod_lt _ (by decide)⟩ : Fin 72)
  | ⟨2, _⟩ => k
  | ⟨3, _⟩ => r
  | ⟨4, _⟩ => l
  | ⟨_ + 5, h⟩ => absurd h (Nat.not_lt.2 (Nat.le_add_left _ _))

/-- The index of a tile at a row and lane. -/
def ixT (r : Fin 32) (l : Fin 128) : S1x1x1x32x128.Idx := fun a => match a with
  | ⟨0, _⟩ => (⟨0, by decide⟩ : Fin 1)
  | ⟨1, _⟩ => (⟨0, by decide⟩ : Fin 1)
  | ⟨2, _⟩ => (⟨0, by decide⟩ : Fin 1)
  | ⟨3, _⟩ => r
  | ⟨4, _⟩ => l
  | ⟨_ + 5, h⟩ => absurd h (Nat.not_lt.2 (Nat.le_add_left _ _))

/-- Tile `k` of slab `n` of slot `s`. -/
def tileAt {α : Type} (f : S2x72x12x32x128.Idx → α) (s n : ℕ) (k : Fin 12) : S1x1x1x32x128.Idx → α :=
  fun i => f (ixB s n k ⟨(i 3).val, (i 3).isLt⟩ ⟨(i 4).val, (i 4).isLt⟩)

/-- That tile replaced. -/
def putAt {α : Type} (f : S2x72x12x32x128.Idx → α) (s n : ℕ) (k : Fin 12) (v : S1x1x1x32x128.Idx → α) : S2x72x12x32x128.Idx → α :=
  fun i => if (i 0).val = s ∧ (i 1).val = n ∧ (i 2).val = k.val then v (ixT ⟨(i 3).val, (i 3).isLt⟩ ⟨(i 4).val, (i 4).isLt⟩) else f i

/-- Tile `k` of row `n` of output staging buffer `s` replaced. -/
def putOut {α : Type} (f : S3x9x12x32x128.Idx → α) (s n : ℕ) (k : Fin 12) (v : S1x1x1x32x128.Idx → α) : S3x9x12x32x128.Idx → α :=
  fun i => if (i 0).val = s ∧ (i 1).val = n ∧ (i 2).val = k.val then v (ixT ⟨(i 3).val, (i 3).isLt⟩ ⟨(i 4).val, (i 4).isLt⟩) else f i

section Access
variable {s n : ℕ} {k : Fin 12} {o : Fin 5 → ℕ} (ho : o = ![s, n, k.val, 0, 0])
include ho

theorem tile_idx (i : ∀ a, o a + S1x1x1x32x128.size a ≤ S2x72x12x32x128.size a) (j : S1x1x1x32x128.Idx) :
    (fun a => ⟨o a + (j a : ℕ), by have := i a; have h : (j a : ℕ) < S1x1x1x32x128.size a := (j a).isLt; show _ < S2x72x12x32x128.size a; omega⟩ : S2x72x12x32x128.Idx)
      = ixB s n k ⟨(j 3).val, (j 3).isLt⟩ ⟨(j 4).val, (j 4).isLt⟩ := by
  subst ho
  have i0 : s + 1 ≤ 2 := i 0
  have i1 : n + 1 ≤ 72 := i 1
  have j0 : (j 0).val < 1 := (j 0).isLt
  have j1 : (j 1).val < 1 := (j 1).isLt
  have j2 : (j 2).val < 1 := (j 2).isLt
  funext a; apply Fin.ext
  fin_cases a
  · show s + (j 0).val = s % 2; omega
  · show n + (j 1).val = n % 72; omega
  · show k.val + (j 2).val = k.val; omega
  · show 0 + (j 3).val = (j 3).val; omega
  · show 0 + (j 4).val = (j 4).val; omega

theorem tile_sub {j : ℕ} (hj : n / 9 = j) (i) : (Rect.unit (s := S2x72x12x32x128) o S1x1x1x32x128.size i).set ⊆ CK s j := by
  subst ho; intro y hy
  rw [Rect.mem_set_unit] at hy; rw [mem_CK]
  have a0 : s ≤ (y 0).val ∧ (y 0).val < s + 1 := hy 0
  have a1 : n ≤ (y 1).val ∧ (y 1).val < n + 1 := hy 1
  omega

theorem out_sub (i) : (Rect.unit (s := S3x9x12x32x128) o S1x1x1x32x128.size i).set ⊆ SB s := by
  subst ho; intro y hy
  rw [Rect.mem_set_unit] at hy; rw [mem_SB]
  have a0 : s ≤ (y 0).val ∧ (y 0).val < s + 1 := hy 0
  omega

theorem readX (i) (f : S2x72x12x32x128.Idx → Elt F .fp8e4m3) :
    (XM.access (Rect.unit (s := S2x72x12x32x128) o S1x1x1x32x128.size i)).read (Elt F) f = tileAt f s n k :=
  funext fun j => (read_unit cc0_scratch0 o S1x1x1x32x128.size i f j).trans (congrArg f (tile_idx ho i j))
theorem readG (i) (f : S2x72x12x32x128.Idx → Elt F .fp8e5m2) :
    (GM.access (Rect.unit (s := S2x72x12x32x128) o S1x1x1x32x128.size i)).read (Elt F) f = tileAt f s n k :=
  funext fun j => (read_unit cc0_scratch1 o S1x1x1x32x128.size i f j).trans (congrArg f (tile_idx ho i j))
theorem readM (i) (f : S2x72x12x32x128.Idx → Elt F .i8) :
    (MM.access (Rect.unit (s := S2x72x12x32x128) o S1x1x1x32x128.size i)).read (Elt F) f = tileAt f s n k :=
  funext fun j => (read_unit cc0_scratch2 o S1x1x1x32x128.size i f j).trans (congrArg f (tile_idx ho i j))

theorem writeG (i) (f : S2x72x12x32x128.Idx → Elt F .fp8e5m2) (w : S1x1x1x32x128.Idx → Elt F .fp8e5m2) :
    (GM.access (Rect.unit (s := S2x72x12x32x128) o S1x1x1x32x128.size i)).write (Elt F) f w Finset.univ = putAt f s n k w := by
  funext y
  refine (write_unit cc0_scratch1 o S1x1x1x32x128.size i f w y).trans ?_
  subst ho
  unfold putAt
  split
  · next h =>
    have a0 : s ≤ (y 0).val ∧ (y 0).val < s + 1 := h (0 : Fin 5)
    have a1 : n ≤ (y 1).val ∧ (y 1).val < n + 1 := h (1 : Fin 5)
    have a2 : k.val ≤ (y 2).val ∧ (y 2).val < k.val + 1 := h (2 : Fin 5)
    rw [if_pos (by omega)]
    refine congrArg w (funext fun a => Fin.ext ?_)
    fin_cases a
    · show (y 0).val - s = 0; omega
    · show (y 1).val - n = 0; omega
    · show (y 2).val - k.val = 0; omega
    · show (y 3).val - 0 = (y 3).val; omega
    · show (y 4).val - 0 = (y 4).val; omega
  · next h =>
    rw [if_neg]
    rintro ⟨h0, h1, h2⟩
    have h3 : (y 3).val < 32 := (y 3).isLt
    have h4 : (y 4).val < 128 := (y 4).isLt
    refine h fun a => ?_
    change Fin 5 at a
    fin_cases a
    · show s ≤ (y 0).val ∧ (y 0).val < s + 1; omega
    · show n ≤ (y 1).val ∧ (y 1).val < n + 1; omega
    · show k.val ≤ (y 2).val ∧ (y 2).val < k.val + 1; omega
    · show 0 ≤ (y 3).val ∧ (y 3).val < 0 + 32; omega
    · show 0 ≤ (y 4).val ∧ (y 4).val < 0 + 128; omega

theorem writeO (i) (f : S3x9x12x32x128.Idx → Elt F .bf16) (w : S1x1x1x32x128.Idx → Elt F .bf16) :
    (OM.access (Rect.unit (s := S3x9x12x32x128) o S1x1x1x32x128.size i)).write (Elt F) f w Finset.univ = putOut f s n k w := by
  funext y
  refine (write_unit cc0_scratch3 o S1x1x1x32x128.size i f w y).trans ?_
  subst ho
  unfold putOut
  split
  · next h =>
    have a0 : s ≤ (y 0).val ∧ (y 0).val < s + 1 := h (0 : Fin 5)
    have a1 : n ≤ (y 1).val ∧ (y 1).val < n + 1 := h (1 : Fin 5)
    have a2 : k.val ≤ (y 2).val ∧ (y 2).val < k.val + 1 := h (2 : Fin 5)
    rw [if_pos (by omega)]
    refine congrArg w (funext fun a => Fin.ext ?_)
    fin_cases a
    · show (y 0).val - s = 0; omega
    · show (y 1).val - n = 0; omega
    · show (y 2).val - k.val = 0; omega
    · show (y 3).val - 0 = (y 3).val; omega
    · show (y 4).val - 0 = (y 4).val; omega
  · next h =>
    rw [if_neg]
    rintro ⟨h0, h1, h2⟩
    have h3 : (y 3).val < 32 := (y 3).isLt
    have h4 : (y 4).val < 128 := (y 4).isLt
    refine h fun a => ?_
    change Fin 5 at a
    fin_cases a
    · show s ≤ (y 0).val ∧ (y 0).val < s + 1; omega
    · show n ≤ (y 1).val ∧ (y 1).val < n + 1; omega
    · show k.val ≤ (y 2).val ∧ (y 2).val < k.val + 1; omega
    · show 0 ≤ (y 3).val ∧ (y 3).val < 0 + 32; omega
    · show 0 ≤ (y 4).val ∧ (y 4).val < 0 + 128; omega

end Access

/-! ## The masked sums of a list of tiles -/

variable (c : Dev nD)

/-- A chunk of each buffer, at given contents. -/
abbrev ptX (s j : ℕ) (f : S2x72x12x32x128.Idx → Elt F .fp8e4m3) : sProp 𝕄 := XM.view.loc (c : Thread nD τ) ↦[CK s j]{fullShare} f
abbrev ptG (s j : ℕ) (f : S2x72x12x32x128.Idx → Elt F .fp8e5m2) : sProp 𝕄 := GM.view.loc (c : Thread nD τ) ↦[CK s j]{fullShare} f
abbrev ptM (s j : ℕ) (f : S2x72x12x32x128.Idx → Elt F .i8) : sProp 𝕄 := MM.view.loc (c : Thread nD τ) ↦[CK s j]{fullShare} f
abbrev ptO (b : ℕ) (f : S3x9x12x32x128.Idx → Elt F .bf16) : sProp 𝕄 := OM.view.loc (c : Thread nD τ) ↦[SB b]{fullShare} f

/-- A tile of masked gradients. -/
def mtile (fm : S2x72x12x32x128.Idx → Elt F .i8) (fg : S2x72x12x32x128.Idx → Elt F .fp8e5m2) (s n : ℕ) (k : Fin 12) : FVec F S32x128 .fp8e5m2 :=
  k0_pay2 (tileAt fm s n k) (tileAt fg s n k)

/-- The sums after the tiles `ls`. -/
def sumsOver (ones : FVec F S16x128 .f32) (fx : S2x72x12x32x128.Idx → Elt F .fp8e4m3) (fg : S2x72x12x32x128.Idx → Elt F .fp8e5m2) (fm : S2x72x12x32x128.Idx → Elt F .i8)
    (s n : ℕ) : List (Fin 12) → Sums F → Sums F
  | [], a => a
  | k :: ks, a => sumsOver ones fx fg fm s n ks (some (tileSums ones a (mtile fm fg s n k) (k0_pay4 (tileAt fx s n k))))

theorem red_wp (s n j : ℕ) (hj : n / 9 = j) (ones : FVec F S16x128 .f32) (fx : S2x72x12x32x128.Idx → Elt F .fp8e4m3) (fg : S2x72x12x32x128.Idx → Elt F .fp8e5m2)
    (fm : S2x72x12x32x128.Idx → Elt F .i8) (Q : Unit → sProp 𝕄) :
    ∀ (ts : List TileOff) (ls : List (Fin 12)) (a : Sums F) (kk : Sums F → List (TileOff × FVec F S32x128 .fp8e5m2) → Prog (TpuEff nD τ sig (Elt F) Λ₀ .tc) Unit),
      ts.map TileOff.o = ls.map (fun k => ![s, n, k.val, 0, 0]) →
      iprop(ptX c s j fx ∗ ptG c s j fg ∗ ptM c s j fm)
        ⊢ iprop((iprop(ptX c s j fx ∗ ptG c s j fg ∗ ptM c s j fm)
              -∗ Wp c (kk (sumsOver ones fx fg fm s n ls a) (List.zipWith (fun t k => (t, mtile fm fg s n k)) ts ls)) Q)
            -∗ Wp c (redTiles XM GM MM ones ts a kk) Q)
  | [], [], a, kk, _ => by
    iintro H Hk
    iapply Hk
    iexact H
  | t :: ts, k :: ks, a, kk, h => by
    have ht : t.o = ![s, n, k.val, 0, 0] := (List.cons.inj h).1
    have hts : ts.map TileOff.o = ks.map (fun k => ![s, n, k.val, 0, 0]) := (List.cons.inj h).2
    have hs := tile_sub ht hj t.inb
    iintro ⟨HX, HG, HM⟩ Hk
    unfold redTiles
    simp only [Prog.lift, Prog.bind_op, Prog.bind_ret]
    iapply (wp_load_rect 𝒱₀ (c : Thread nD τ) none Set.univ (m := MM) (r := Rect.unit (s := S2x72x12x32x128) t.o S1x1x1x32x128.size t.inb) (S := CK s j) (f := fm) (by rw [View.set_slice_whole]; exact hs)) $$ HM
    iintro HM
    iapply (wp_load_rect 𝒱₀ (c : Thread nD τ) none Set.univ (m := GM) (r := Rect.unit (s := S2x72x12x32x128) t.o S1x1x1x32x128.size t.inb) (S := CK s j) (f := fg) (by rw [View.set_slice_whole]; exact hs)) $$ HG
    iintro HG
    iapply (wp_load_rect 𝒱₀ (c : Thread nD τ) none Set.univ (m := XM) (r := Rect.unit (s := S2x72x12x32x128) t.o S1x1x1x32x128.size t.inb) (S := CK s j) (f := fx) (by rw [View.set_slice_whole]; exact hs)) $$ HX
    iintro HX
    rw [readX ht, readG ht, readM ht]
    iapply (red_wp s n j hj ones fx fg fm Q ts ks (some (tileSums ones a (mtile fm fg s n k) (k0_pay4 (tileAt fx s n k)))) (fun s' l => kk s' ((t, mtile fm fg s n k) :: l)) hts) $$ [HX HG HM]
    · isplitl [HX]; · iexact HX
      isplitl [HG]; · iexact HG
      iexact HM
    iexact Hk

/-! ## The masked tiles written back -/

/-- A buffer with the tiles `ls` of a slab replaced. -/
def putAll {α : Type} (s n : ℕ) (h : Fin 12 → S1x1x1x32x128.Idx → α) : List (Fin 12) → (S2x72x12x32x128.Idx → α) → S2x72x12x32x128.Idx → α
  | [], f => f
  | k :: ks, f => putAll s n h ks (putAt f s n k (h k))

theorem putAll_apply {α : Type} (s n : ℕ) (h : Fin 12 → S1x1x1x32x128.Idx → α) (i : S2x72x12x32x128.Idx) :
    ∀ (ls : List (Fin 12)) (f : S2x72x12x32x128.Idx → α),
      putAll s n h ls f i = if (i 0).val = s ∧ (i 1).val = n ∧ (⟨(i 2).val, (i 2).isLt⟩ : Fin 12) ∈ ls
        then h ⟨(i 2).val, (i 2).isLt⟩ (ixT ⟨(i 3).val, (i 3).isLt⟩ ⟨(i 4).val, (i 4).isLt⟩) else f i
  | [], f => (if_neg fun H => absurd H.2.2 List.not_mem_nil).symm
  | k :: ks, f => by
    rw [putAll, putAll_apply s n h i ks]
    unfold putAt
    by_cases h0 : (i 0).val = s ∧ (i 1).val = n
    · obtain ⟨h0, h1⟩ := h0
      by_cases hm : (⟨(i 2).val, (i 2).isLt⟩ : Fin 12) ∈ ks
      · rw [if_pos ⟨h0, h1, hm⟩, if_pos ⟨h0, h1, List.mem_cons_of_mem _ hm⟩]
      · rw [if_neg fun H => hm H.2.2]
        by_cases hk : (i 2).val = k.val
        · have e : k = ⟨(i 2).val, (i 2).isLt⟩ := Fin.ext hk.symm
          rw [if_pos ⟨h0, h1, hk⟩, if_pos ⟨h0, h1, by rw [e]; exact List.mem_cons_self ..⟩, e]
        · rw [if_neg fun H => hk H.2.2, if_neg]
          rintro ⟨-, -, H⟩
          rcases List.mem_cons.mp H with H | H
          · exact hk (congrArg Fin.val H)
          · exact hm H
    · rw [if_neg fun H => h0 ⟨H.1, H.2.1⟩, if_neg fun H => h0 ⟨H.1, H.2.1⟩, if_neg fun H => h0 ⟨H.1, H.2.1⟩]

theorem put_wp (s n j : ℕ) (hj : n / 9 = j) (h : Fin 12 → FVec F S32x128 .fp8e5m2) (Q : Unit → sProp 𝕄) (kk : Prog (TpuEff nD τ sig (Elt F) Λ₀ .tc) Unit) :
    ∀ (ts : List TileOff) (ls : List (Fin 12)) (f : S2x72x12x32x128.Idx → Elt F .fp8e5m2),
      ts.map TileOff.o = ls.map (fun k => ![s, n, k.val, 0, 0]) →
      ptG c s j f
        ⊢ iprop((ptG c s j (putAll s n (fun k => k0_pay100 (h k)) ls f) -∗ Wp c kk Q)
            -∗ Wp c (putTiles GM (Memref.isWhole_whole _) (List.zipWith (fun t k => (t, h k)) ts ls) kk) Q)
  | [], [], f, _ => by
    iintro H Hk
    iapply Hk
    iexact H
  | t :: ts, k :: ks, f, hh => by
    have ht : t.o = ![s, n, k.val, 0, 0] := (List.cons.inj hh).1
    have hts : ts.map TileOff.o = ks.map (fun k => ![s, n, k.val, 0, 0]) := (List.cons.inj hh).2
    have hs := tile_sub ht hj t.inb
    iintro HG Hk
    rw [List.zipWith_cons_cons]
    unfold putTiles
    simp only [Prog.lift, Prog.bind_op, Prog.bind_ret]
    iapply (wp_load_rect 𝒱₀ (c : Thread nD τ) none Set.univ (m := GM) (r := Rect.unit (s := S2x72x12x32x128) t.o S1x1x1x32x128.size t.inb) (S := CK s j) (f := f) (by rw [View.set_slice_whole]; exact hs)) $$ HG
    iintro HG
    iapply (wp_store 𝒱₀ (c : Thread nD τ) none Set.univ (m := GM) (r := Rect.unit (s := S2x72x12x32x128) t.o S1x1x1x32x128.size t.inb) (S := CK s j) (f := f) (by rw [View.setOn_univ, View.set_slice_whole]; exact hs)) $$ HG
    rw [writeG ht]
    iintro HG
    iapply (put_wp s n j hj h Q kk ts ks (putAt f s n k (k0_pay100 (h k))) hts) $$ HG
    iexact Hk

/-! ## The accumulators -/

abbrev ptA (f : S2x8x128.Idx → Elt F .f32) : sProp 𝕄 := AM.view.loc (c : Thread nD τ) ↦[Finset.univ]{fullShare} f
abbrev ptC (f : S3x32x128.Idx → Elt F .f32) : sProp 𝕄 := CM.view.loc (c : Thread nD τ) ↦[Finset.univ]{fullShare} f
abbrev ptN (f : S16x128.Idx → Elt F .bf16) : sProp 𝕄 := NM.view.loc (c : Thread nD τ) ↦[Finset.univ]{fullShare} f

abbrev rA0 : Rect S2x8x128 := Rect.unit (s := S2x8x128) ![0, 0, 0] S1x8x128.size inb_S2x8x128_S1x8x128_0_0_0
abbrev rA1 : Rect S2x8x128 := Rect.unit (s := S2x8x128) ![1, 0, 0] S1x8x128.size inb_S2x8x128_S1x8x128_1_0_0

/-- An accumulator's row as it is read, and as it is left. -/
def getA (r : Rect S2x8x128) (f : S2x8x128.Idx → Elt F .f32) : r.shape.Idx → Elt F .f32 := (AM.access r).read (Elt F) f
def setA (r : Rect S2x8x128) (f : S2x8x128.Idx → Elt F .f32) (w : r.shape.Idx → Elt F .f32) : S2x8x128.Idx → Elt F .f32 := (AM.access r).write (Elt F) f w Finset.univ

/-- The accumulators after a slab's sums. -/
def accNext : Sums F → (S2x8x128.Idx → Elt F .f32) → S2x8x128.Idx → Elt F .f32
  | none, f => f
  | some s, f => setA rA1 (setA rA0 f (k0_pay102 s.2 (getA rA0 f))) (k0_pay102 s.1 (getA rA1 (setA rA0 f (k0_pay102 s.2 (getA rA0 f)))))

theorem acc_wp (Q : Unit → sProp 𝕄) (kk : Prog (TpuEff nD τ sig (Elt F) Λ₀ .tc) Unit) (f : S2x8x128.Idx → Elt F .f32) :
    ∀ (a : Sums F), ptA c f ⊢ iprop((ptA c (accNext a f) -∗ Wp c kk Q) -∗ Wp c (putAcc AM a kk) Q)
  | none => by
    iintro H Hk
    iapply Hk
    iexact H
  | some s => by
    iintro H Hk
    unfold putAcc
    simp only [Prog.lift, Prog.bind_op, Prog.bind_ret]
    iapply (wp_load_rect 𝒱₀ (c : Thread nD τ) none Set.univ (m := AM) (r := rA0) (S := Finset.univ) (f := f) (Finset.subset_univ _)) $$ H
    iintro H
    iapply (wp_load_rect 𝒱₀ (c : Thread nD τ) none Set.univ (m := AM) (r := rA0) (S := Finset.univ) (f := f) (Finset.subset_univ _)) $$ H
    iintro H
    iapply (wp_store 𝒱₀ (c : Thread nD τ) none Set.univ (m := AM) (r := rA0) (S := Finset.univ) (f := f) (Finset.subset_univ _)) $$ H
    iintro H
    iapply (wp_load_rect 𝒱₀ (c : Thread nD τ) none Set.univ (m := AM) (r := rA1) (S := Finset.univ) (Finset.subset_univ _)) $$ H
    iintro H
    iapply (wp_load_rect 𝒱₀ (c : Thread nD τ) none Set.univ (m := AM) (r := rA1) (S := Finset.univ) (Finset.subset_univ _)) $$ H
    iintro H
    iapply (wp_store 𝒱₀ (c : Thread nD τ) none Set.univ (m := AM) (r := rA1) (S := Finset.univ) (Finset.subset_univ _)) $$ H
    iintro H
    iapply Hk
    iexact H

/-- The ones as they are read. -/
def getN (f : S16x128.Idx → Elt F .bf16) : S16x128.Idx → Elt F .bf16 := (NM.access (Rect.unit (s := S16x128) ![0, 0] S16x128.size inb_S16x128_S16x128_0_0)).read (Elt F) f

/-- One slab's sums: the accumulators advance, the slab's gradients are left masked. -/
theorem redStep_wp (s n j : ℕ) (hj : n / 9 = j) (fn : S16x128.Idx → Elt F .bf16) (fx : S2x72x12x32x128.Idx → Elt F .fp8e4m3) (fg : S2x72x12x32x128.Idx → Elt F .fp8e5m2)
    (fm : S2x72x12x32x128.Idx → Elt F .i8) (fa : S2x8x128.Idx → Elt F .f32) (Q : Unit → sProp 𝕄) (ts : List TileOff) (h : ts.map TileOff.o = tileOffs s n) :
    iprop(ptN c fn ∗ ptA c fa ∗ ptX c s j fx ∗ ptG c s j fg ∗ ptM c s j fm)
      ⊢ iprop((iprop(ptN c fn ∗ ptA c (accNext (sumsOver (k0_pay1 (getN fn)) fx fg fm s n (List.finRange 12) none) fa) ∗ ptX c s j fx
              ∗ ptG c s j (putAll s n (fun k => k0_pay100 (mtile fm fg s n k)) (List.finRange 12) fg) ∗ ptM c s j fm) -∗ Wp c (pure ()) Q)
          -∗ Wp c (redStep XM GM (Memref.isWhole_whole _) MM AM NM ts) Q) := by
  iintro ⟨HN, HA, HX, HG, HM⟩ Hk
  unfold redStep
  simp only [Prog.lift, Prog.bind_op, Prog.bind_ret]
  iapply (wp_load_rect 𝒱₀ (c : Thread nD τ) none Set.univ (m := NM) (r := Rect.unit (s := S16x128) ![0, 0] S16x128.size inb_S16x128_S16x128_0_0) (S := Finset.univ) (f := fn) (Finset.subset_univ _)) $$ HN
  iintro HN
  iapply (red_wp c s n j hj (k0_pay1 (getN fn)) fx fg fm Q ts (List.finRange 12) none _ h) $$ [HX HG HM]
  · isplitl [HX]; · iexact HX
    isplitl [HG]; · iexact HG
    iexact HM
  iintro ⟨HX, HG, HM⟩
  iapply (put_wp c s n j hj (fun k => mtile fm fg s n k) Q _ ts (List.finRange 12) fg h) $$ HG
  iintro HG
  iapply (acc_wp c Q (pure ()) fa _) $$ HA
  iintro HA
  iapply Hk
  isplitl [HN]; · iexact HN
  isplitl [HA]; · iexact HA
  isplitl [HX]; · iexact HX
  isplitl [HG]; · iexact HG
  iexact HM

/-! ## The `dx` rows -/

/-- A coefficient's tile as it is read. -/
abbrev rC0 : Rect S3x32x128 := Rect.unit (s := S3x32x128) ![0, 0, 0] S1x32x128.size inb_S3x32x128_S1x32x128_0_0_0
abbrev rC1 : Rect S3x32x128 := Rect.unit (s := S3x32x128) ![1, 0, 0] S1x32x128.size inb_S3x32x128_S1x32x128_1_0_0
abbrev rC2 : Rect S3x32x128 := Rect.unit (s := S3x32x128) ![2, 0, 0] S1x32x128.size inb_S3x32x128_S1x32x128_2_0_0
def getC (r : Rect S3x32x128) (f : S3x32x128.Idx → Elt F .f32) : r.shape.Idx → Elt F .f32 := (CM.access r).read (Elt F) f

/-- A staging buffer with the tiles `ls` of a row replaced. -/
def outAll {α : Type} (b n : ℕ) (h : Fin 12 → S1x1x1x32x128.Idx → α) : List (Fin 12) → (S3x9x12x32x128.Idx → α) → S3x9x12x32x128.Idx → α
  | [], f => f
  | k :: ks, f => outAll b n h ks (putOut f b n k (h k))

theorem outAll_apply {α : Type} (s n : ℕ) (h : Fin 12 → S1x1x1x32x128.Idx → α) (i : S3x9x12x32x128.Idx) :
    ∀ (ls : List (Fin 12)) (f : S3x9x12x32x128.Idx → α),
      outAll s n h ls f i = if (i 0).val = s ∧ (i 1).val = n ∧ (⟨(i 2).val, (i 2).isLt⟩ : Fin 12) ∈ ls
        then h ⟨(i 2).val, (i 2).isLt⟩ (ixT ⟨(i 3).val, (i 3).isLt⟩ ⟨(i 4).val, (i 4).isLt⟩) else f i
  | [], f => (if_neg fun H => absurd H.2.2 List.not_mem_nil).symm
  | k :: ks, f => by
    rw [outAll, outAll_apply s n h i ks]
    unfold putOut
    by_cases h0 : (i 0).val = s ∧ (i 1).val = n
    · obtain ⟨h0, h1⟩ := h0
      by_cases hm : (⟨(i 2).val, (i 2).isLt⟩ : Fin 12) ∈ ks
      · rw [if_pos ⟨h0, h1, hm⟩, if_pos ⟨h0, h1, List.mem_cons_of_mem _ hm⟩]
      · rw [if_neg fun H => hm H.2.2]
        by_cases hk : (i 2).val = k.val
        · have e : k = ⟨(i 2).val, (i 2).isLt⟩ := Fin.ext hk.symm
          rw [if_pos ⟨h0, h1, hk⟩, if_pos ⟨h0, h1, by rw [e]; exact List.mem_cons_self ..⟩, e]
        · rw [if_neg fun H => hk H.2.2, if_neg]
          rintro ⟨-, -, H⟩
          rcases List.mem_cons.mp H with H | H
          · exact hk (congrArg Fin.val H)
          · exact hm H
    · rw [if_neg fun H => h0 ⟨H.1, H.2.1⟩, if_neg fun H => h0 ⟨H.1, H.2.1⟩, if_neg fun H => h0 ⟨H.1, H.2.1⟩]

/-- A tile of `dx`. -/
def dxTile (fc : S3x32x128.Idx → Elt F .f32) (fx : S2x72x12x32x128.Idx → Elt F .fp8e4m3) (fg : S2x72x12x32x128.Idx → Elt F .fp8e5m2) (s n : ℕ) (k : Fin 12) : S1x1x1x32x128.Idx → Elt F .bf16 :=
  k0_pay107 (getC rC0 fc) (getC rC1 fc) (getC rC2 fc) (tileAt fg s n k) (tileAt fx s n k)

theorem dx_wp (s n j b i : ℕ) (hj : n / 9 = j) (fc : S3x32x128.Idx → Elt F .f32) (fx : S2x72x12x32x128.Idx → Elt F .fp8e4m3) (fg : S2x72x12x32x128.Idx → Elt F .fp8e5m2)
    (Q : Unit → sProp 𝕄) (kk : Prog (TpuEff nD τ sig (Elt F) Λ₀ .tc) Unit) :
    ∀ (ts : List (RdOff × OutOff)) (ls : List (Fin 12)) (fo : S3x9x12x32x128.Idx → Elt F .bf16),
      ts.map (fun p => p.1.o) = ls.map (fun k => ![s, n, k.val, 0, 0]) → ts.map (fun p => p.2.o) = ls.map (fun k => ![b, i, k.val, 0, 0]) →
      iprop(ptX c s j fx ∗ ptG c s j fg ∗ ptO c b fo)
        ⊢ iprop((iprop(ptX c s j fx ∗ ptG c s j fg ∗ ptO c b (outAll b i (dxTile fc fx fg s n) ls fo)) -∗ Wp c kk Q)
            -∗ Wp c (dxTiles XM GM OM (Memref.isWhole_whole _) (getC rC0 fc) (getC rC1 fc) (getC rC2 fc) ts kk) Q)
  | [], [], fo, _, _ => by
    iintro H Hk
    iapply Hk
    iexact H
  | (t, u) :: ts, k :: ks, fo, h, h' => by
    have ht : t.o = ![s, n, k.val, 0, 0] := (List.cons.inj h).1
    have hts : ts.map (fun p => p.1.o) = ks.map (fun k => ![s, n, k.val, 0, 0]) := (List.cons.inj h).2
    have hu : u.o = ![b, i, k.val, 0, 0] := (List.cons.inj h').1
    have hus : ts.map (fun p => p.2.o) = ks.map (fun k => ![b, i, k.val, 0, 0]) := (List.cons.inj h').2
    have hs := tile_sub ht hj t.inb
    have hb := out_sub hu u.inb
    iintro ⟨HX, HG, HO⟩ Hk
    unfold dxTiles
    simp only [Prog.lift, Prog.bind_op, Prog.bind_ret]
    iapply (wp_load_rect 𝒱₀ (c : Thread nD τ) none Set.univ (m := GM) (r := Rect.unit (s := S2x72x12x32x128) t.o S1x1x1x32x128.size t.inb) (S := CK s j) (f := fg) (by rw [View.set_slice_whole]; exact hs)) $$ HG
    iintro HG
    iapply (wp_load_rect 𝒱₀ (c : Thread nD τ) none Set.univ (m := XM) (r := Rect.unit (s := S2x72x12x32x128) t.o S1x1x1x32x128.size t.inb) (S := CK s j) (f := fx) (by rw [View.set_slice_whole]; exact hs)) $$ HX
    iintro HX
    iapply (wp_load_rect 𝒱₀ (c : Thread nD τ) none Set.univ (m := OM) (r := Rect.unit (s := S3x9x12x32x128) u.o S1x1x1x32x128.size u.inb) (S := SB b) (f := fo) (by rw [View.set_slice_whole]; exact hb)) $$ HO
    iintro HO
    iapply (wp_store 𝒱₀ (c : Thread nD τ) none Set.univ (m := OM) (r := Rect.unit (s := S3x9x12x32x128) u.o S1x1x1x32x128.size u.inb) (S := SB b) (f := fo) (by rw [View.setOn_univ, View.set_slice_whole]; exact hb)) $$ HO
    rw [writeO hu, readX ht, readG ht]
    iintro HO
    iapply (dx_wp s n j b i hj fc fx fg Q kk ts ks (putOut fo b i k (dxTile fc fx fg s n k)) hts hus) $$ [HX HG HO]
    · isplitl [HX]; · iexact HX
      isplitl [HG]; · iexact HG
      iexact HO
    iexact Hk

/-- One slab's `dx` rows. -/
theorem dxStep_wp (s n j b i : ℕ) (hj : n / 9 = j) (fc : S3x32x128.Idx → Elt F .f32) (fx : S2x72x12x32x128.Idx → Elt F .fp8e4m3) (fg : S2x72x12x32x128.Idx → Elt F .fp8e5m2)
    (fo : S3x9x12x32x128.Idx → Elt F .bf16)
    (Q : Unit → sProp 𝕄) (kk : Prog (TpuEff nD τ sig (Elt F) Λ₀ .tc) Unit) (ts : List (RdOff × OutOff))
    (h : ts.map (fun p => p.1.o) = tileOffs s n) (h' : ts.map (fun p => p.2.o) = tileOffs b i) :
    iprop(ptC c fc ∗ ptX c s j fx ∗ ptG c s j fg ∗ ptO c b fo)
      ⊢ iprop((iprop(ptC c fc ∗ ptX c s j fx ∗ ptG c s j fg ∗ ptO c b (outAll b i (dxTile fc fx fg s n) (List.finRange 12) fo)) -∗ Wp c kk Q)
          -∗ Wp c (dxStep XM GM OM (Memref.isWhole_whole _) CM ts kk) Q) := by
  iintro ⟨HC, HX, HG, HO⟩ Hk
  unfold dxStep
  simp only [Prog.lift, Prog.bind_op, Prog.bind_ret]
  iapply (wp_load_rect 𝒱₀ (c : Thread nD τ) none Set.univ (m := CM) (r := rC0) (S := Finset.univ) (f := fc) (Finset.subset_univ _)) $$ HC
  iintro HC
  iapply (wp_load_rect 𝒱₀ (c : Thread nD τ) none Set.univ (m := CM) (r := rC1) (S := Finset.univ) (f := fc) (Finset.subset_univ _)) $$ HC
  iintro HC
  iapply (wp_load_rect 𝒱₀ (c : Thread nD τ) none Set.univ (m := CM) (r := rC2) (S := Finset.univ) (f := fc) (Finset.subset_univ _)) $$ HC
  iintro HC
  iapply (dx_wp c s n j b i hj fc fx fg Q kk ts (List.finRange 12) fo h h') $$ [HX HG HO]
  · isplitl [HX]; · iexact HX
    isplitl [HG]; · iexact HG
    iexact HO
  iintro ⟨HX, HG, HO⟩
  iapply Hk
  isplitl [HC]; · iexact HC
  isplitl [HX]; · iexact HX
  isplitl [HG]; · iexact HG
  iexact HO

end Cert.Kernel.Hand
-- ==== Proof.K.Chunks.lean ====
/-
  A chunk's transfers, run: its three arrivals started and waited for, its finished `dx` block sent and waited for, and
  what each hands over.
-/
module

public import proofs.«01_k».proof.Proof.K.Tiles

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Cells -/

theorem cin_inb (k : Fin 3) (g : ℕ) (j : Fin 8) : ∀ a, (![k.val, g % 2, j.val] : Fin 3 → ℕ) a + S1x1x1.size a ≤ S3x2x8.size a := by
  have := k.isLt; have := j.isLt
  intro a; fin_cases a
  · show k.val + 1 ≤ 3; omega
  · show g % 2 + 1 ≤ 2; omega
  · show j.val + 1 ≤ 8; omega
theorem cout_inb (b : Fin 3) : ∀ a, (![b.val] : Fin 1 → ℕ) a + S1.size a ≤ S3.size a := by
  have := b.isLt
  intro a; fin_cases a
  show b.val + 1 ≤ 3; omega

/-- The semaphore cell of array `k`'s chunk `j` in group `g`'s slot. -/
def cellIn (k : Fin 3) (g : ℕ) (j : Fin 8) : DmaSem sig := R0.cin ![k.val, g % 2, j.val] (cin_inb k g j)
/-- The semaphore cell of output staging buffer `b`. -/
def cellOut (b : Fin 3) : DmaSem sig := R0.cout ![b.val] (cout_inb b)

theorem cellIn_congr (k : Fin 3) {g g' : ℕ} (h : g % 2 = g' % 2) (j : Fin 8) : cellIn k g j = cellIn k g' j := by
  unfold cellIn; congr 1; rw [h]

variable (c : Dev nD) (XA : S72x12x32x768.Idx → Elt F .fp8e4m3) (GA : S72x12x32x768.Idx → Elt F .fp8e5m2) (MA : S72x12x32x768.Idx → Elt F .i8)

/-- A cell at rest. -/
abbrev atRest (s : DmaSem sig) : sProp 𝕄 := semVal ((c : Thread nD τ), SemLoc.dma s) 0

abbrev hpX (g j : ℕ) : sProp 𝕄 := hxM.view.loc (c : Thread nD τ) ↦[HB g j]{fullShare} XA
abbrev hpG (g j : ℕ) : sProp 𝕄 := hgM.view.loc (c : Thread nD τ) ↦[HB g j]{fullShare} GA
abbrev hpM (g j : ℕ) : sProp 𝕄 := hmM.view.loc (c : Thread nD τ) ↦[HB g j]{fullShare} MA
abbrev hpD (g j : ℕ) (f : S72x12x32x768.Idx → Elt F .bf16) : sProp 𝕄 := hdM.view.loc (c : Thread nD τ) ↦[HB g j]{fullShare} f

theorem cgX {s j : ℕ} {f g : S2x72x12x32x128.Idx → Elt F .fp8e4m3} (h : ∀ y ∈ CK s j, f y = g y) : ptX c s j f = ptX c s j g := pointsTo_congr h
theorem cgG {s j : ℕ} {f g : S2x72x12x32x128.Idx → Elt F .fp8e5m2} (h : ∀ y ∈ CK s j, f y = g y) : ptG c s j f = ptG c s j g := pointsTo_congr h
theorem cgM {s j : ℕ} {f g : S2x72x12x32x128.Idx → Elt F .i8} (h : ∀ y ∈ CK s j, f y = g y) : ptM c s j f = ptM c s j g := pointsTo_congr h
theorem cgO {b : ℕ} {f g : S3x9x12x32x128.Idx → Elt F .bf16} (h : ∀ y ∈ SB b, f y = g y) : ptO c b f = ptO c b g := pointsTo_congr h
theorem cgD {g j : ℕ} {f f' : S72x12x32x768.Idx → Elt F .bf16} (h : ∀ y ∈ HB g j, f y = f' y) : hpD c g j f = hpD c g j f' := pointsTo_congr h

/-- A chunk of the three arrays at home. -/
def Home (g j : ℕ) : sProp 𝕄 := iprop(hpX c XA g j ∗ hpG c GA g j ∗ hpM c MA g j)

/-- A chunk of the three buffers held at anything, its cells at rest. -/
def Free (g : ℕ) (j : Fin 8) : sProp 𝕄 :=
  iprop((∃ f, ptX c (g % 2) j f) ∗ (∃ f, ptG c (g % 2) j f) ∗ (∃ f, ptM c (g % 2) j f)
    ∗ atRest c (cellIn 0 g j) ∗ atRest c (cellIn 1 g j) ∗ atRest c (cellIn 2 g j))

theorem Free_congr {g g' : ℕ} (h : g % 2 = g' % 2) (j : Fin 8) : Free (F := F) c g j = Free c g' j := by
  unfold Free; rw [h, cellIn_congr 0 h, cellIn_congr 1 h, cellIn_congr 2 h]

/-- A chunk's arrival moves this many units on its cell; a departure this many. -/
def nIn : ℕ := (chunkOf XM ![0, 0, 0, 0, 0] (by decide)).view.dmaCredit
def nIn1 : ℕ := (chunkOf GM ![0, 0, 0, 0, 0] (by decide)).view.dmaCredit
def nIn2 : ℕ := (chunkOf MM ![0, 0, 0, 0, 0] (by decide)).view.dmaCredit
def nOut : ℕ := (blockOf hdM ![0, 0, 0, 0] (by decide)).view.dmaCredit
theorem nIn_pos : 0 < nIn := by decide +kernel
theorem nIn1_pos : 0 < nIn1 := by decide +kernel
theorem nIn2_pos : 0 < nIn2 := by decide +kernel
theorem nOut_pos : 0 < nOut := by decide +kernel

/-- A chunk's three arrivals under way. -/
def InFl (g : ℕ) (j : Fin 8) : sProp 𝕄 :=
  iprop(Transfers.Flight countersEmb (c : Thread nD τ) (SemLoc.dma (cellIn 0 g j)) () nIn iprop(ptX c (g % 2) j (grp g XA) ∗ hpX c XA g j)
    ∗ Transfers.Flight countersEmb (c : Thread nD τ) (SemLoc.dma (cellIn 1 g j)) () nIn1 iprop(ptG c (g % 2) j (grp g GA) ∗ hpG c GA g j)
    ∗ Transfers.Flight countersEmb (c : Thread nD τ) (SemLoc.dma (cellIn 2 g j)) () nIn2 iprop(ptM c (g % 2) j (grp g MA) ∗ hpM c MA g j))

/-- A chunk arrived. -/
def Arr (g : ℕ) (j : Fin 8) : sProp 𝕄 :=
  iprop(ptX c (g % 2) j (grp g XA) ∗ ptG c (g % 2) j (grp g GA) ∗ ptM c (g % 2) j (grp g MA)
    ∗ atRest c (cellIn 0 g j) ∗ atRest c (cellIn 1 g j) ∗ atRest c (cellIn 2 g j))

/-- The waits a core has made. -/
abbrev Owes : sProp 𝕄 := iprop(∃ W, owes (c : Thread nD τ) 0 W)

/-! ## One array's transfer -/

theorem startX (g : ℕ) (hg : g < 6) (j : ℕ) {b : Fin 5 → ℕ} {h : Fin 4 → ℕ} (eb : b = ![g % 2, 9 * j, 0, 0, 0]) (eh : h = ![9 * j, 0, 0, 128 * g]) (bi) (hi) (s : DmaSem sig)
    {hsrc : (blockOf hxM h hi).view.WordExact} {hdst : (chunkOf XM b bi).view.WordExact} {hsem}
    (k : PUnit → Prog (TpuEff nD τ sig (Elt F) Λ₀ .tc) Unit) (Q : Unit → sProp 𝕄) :
    iprop((∃ f, ptX c (g % 2) j f) ∗ hpX c XA g j ∗ atRest c s)
      ⊢ iprop((Transfers.Flight countersEmb (c : Thread nD τ) (SemLoc.dma s) () nIn iprop(ptX c (g % 2) j (grp g XA) ∗ hpX c XA g j) -∗ Wp c (k ⟨⟩) Q)
          -∗ Wp c (.op (.enqueueDma (blockOf hxM h hi) (.here (chunkOf XM b bi)) (.dma s) hsrc hdst hsem) k) Q) := by
  iintro ⟨⟨%f, HX⟩, HH, C⟩ Hk
  have ss := setX eb bi
  have tt := setHx eh hi
  iapply (Transfers.wp_dmaLocal countersEmb 𝒱₀ (c : Thread nD τ) none (src := blockOf hxM h hi) (dst := chunkOf XM b bi) (sm := SemLoc.dma s) (q := fullShare) (fs := XA) (Sd := CK (g % 2) j) (fd := f) () nIn rfl nIn_pos (ss ▸ le_rfl)) $$ [HX HH C]
  · isplitl [HH]
    · rw [tt]; iexact HH
    isplitl [HX]; · iexact HX
    iexact C
  iintro F0
  iapply Hk
  iapply (Transfers.Flight_mono countersEmb (c : Thread nD τ) (D' := iprop(ptX c (g % 2) j (grp g XA) ∗ hpX c XA g j)) ?_) $$ F0
  rw [tt]
  exact sep_mono (entails_of_eq (cgX c (landX (F := F) hg eb eh bi hi f XA))) .rfl

theorem waitX (j : ℕ) {b : Fin 5 → ℕ} {h : Fin 4 → ℕ} (bi) (hi) (s : DmaSem sig) (D : sProp 𝕄)
    {hsrc : (blockOf hxM h hi).view.WordExact} {hdst : (chunkOf XM b bi).view.WordExact}
    (k : PUnit → Prog (TpuEff nD τ sig (Elt F) Λ₀ .tc) Unit) (Q : Unit → sProp 𝕄) :
    iprop(Transfers.Flight countersEmb (c : Thread nD τ) (SemLoc.dma s) () nIn D ∗ Owes c)
      ⊢ iprop((iprop(D ∗ atRest c s ∗ Owes c) -∗ Wp c (k ⟨⟩) Q)
          -∗ Wp c (.op (.waitDma2 s (blockOf hxM h hi) (chunkOf XM b bi) hsrc hdst) k) Q) := by
  iintro ⟨F0, ⟨%W, HW⟩⟩ Hk
  iapply (Transfers.wp_waitLocal countersEmb 𝒱₀ (c : Thread nD τ) none (sem := s) (srcw := blockOf hxM h hi) (dstw := chunkOf XM b bi) () (N := nIn) rfl (W := W)) $$ [F0 HW]
  · isplitl [F0]; · iexact F0
    iexact HW
  iintro ⟨HD, HC, HW⟩
  iapply Hk
  isplitl [HD]; · iexact HD
  isplitl [HC]; · iexact HC
  iexists _; iexact HW

theorem startG (g : ℕ) (hg : g < 6) (j : ℕ) {b : Fin 5 → ℕ} {h : Fin 4 → ℕ} (eb : b = ![g % 2, 9 * j, 0, 0, 0]) (eh : h = ![9 * j, 0, 0, 128 * g]) (bi) (hi) (s : DmaSem sig)
    {hsrc : (blockOf hgM h hi).view.WordExact} {hdst : (chunkOf GM b bi).view.WordExact} {hsem}
    (k : PUnit → Prog (TpuEff nD τ sig (Elt F) Λ₀ .tc) Unit) (Q : Unit → sProp 𝕄) :
    iprop((∃ f, ptG c (g % 2) j f) ∗ hpG c GA g j ∗ atRest c s)
      ⊢ iprop((Transfers.Flight countersEmb (c : Thread nD τ) (SemLoc.dma s) () nIn1 iprop(ptG c (g % 2) j (grp g GA) ∗ hpG c GA g j) -∗ Wp c (k ⟨⟩) Q)
          -∗ Wp c (.op (.enqueueDma (blockOf hgM h hi) (.here (chunkOf GM b bi)) (.dma s) hsrc hdst hsem) k) Q) := by
  iintro ⟨⟨%f, HX⟩, HH, C⟩ Hk
  have ss := setG eb bi
  have tt := setHg eh hi
  iapply (Transfers.wp_dmaLocal countersEmb 𝒱₀ (c : Thread nD τ) none (src := blockOf hgM h hi) (dst := chunkOf GM b bi) (sm := SemLoc.dma s) (q := fullShare) (fs := GA) (Sd := CK (g % 2) j) (fd := f) () nIn1 rfl nIn1_pos (ss ▸ le_rfl)) $$ [HX HH C]
  · isplitl [HH]
    · rw [tt]; iexact HH
    isplitl [HX]; · iexact HX
    iexact C
  iintro F0
  iapply Hk
  iapply (Transfers.Flight_mono countersEmb (c : Thread nD τ) (D' := iprop(ptG c (g % 2) j (grp g GA) ∗ hpG c GA g j)) ?_) $$ F0
  rw [tt]
  exact sep_mono (entails_of_eq (cgG c (landG (F := F) hg eb eh bi hi f GA))) .rfl

theorem waitG (j : ℕ) {b : Fin 5 → ℕ} {h : Fin 4 → ℕ} (bi) (hi) (s : DmaSem sig) (D : sProp 𝕄)
    {hsrc : (blockOf hgM h hi).view.WordExact} {hdst : (chunkOf GM b bi).view.WordExact}
    (k : PUnit → Prog (TpuEff nD τ sig (Elt F) Λ₀ .tc) Unit) (Q : Unit → sProp 𝕄) :
    iprop(Transfers.Flight countersEmb (c : Thread nD τ) (SemLoc.dma s) () nIn1 D ∗ Owes c)
      ⊢ iprop((iprop(D ∗ atRest c s ∗ Owes c) -∗ Wp c (k ⟨⟩) Q)
          -∗ Wp c (.op (.waitDma2 s (blockOf hgM h hi) (chunkOf GM b bi) hsrc hdst) k) Q) := by
  iintro ⟨F0, ⟨%W, HW⟩⟩ Hk
  iapply (Transfers.wp_waitLocal countersEmb 𝒱₀ (c : Thread nD τ) none (sem := s) (srcw := blockOf hgM h hi) (dstw := chunkOf GM b bi) () (N := nIn1) rfl (W := W)) $$ [F0 HW]
  · isplitl [F0]; · iexact F0
    iexact HW
  iintro ⟨HD, HC, HW⟩
  iapply Hk
  isplitl [HD]; · iexact HD
  isplitl [HC]; · iexact HC
  iexists _; iexact HW

theorem startM (g : ℕ) (hg : g < 6) (j : ℕ) {b : Fin 5 → ℕ} {h : Fin 4 → ℕ} (eb : b = ![g % 2, 9 * j, 0, 0, 0]) (eh : h = ![9 * j, 0, 0, 128 * g]) (bi) (hi) (s : DmaSem sig)
    {hsrc : (blockOf hmM h hi).view.WordExact} {hdst : (chunkOf MM b bi).view.WordExact} {hsem}
    (k : PUnit → Prog (TpuEff nD τ sig (Elt F) Λ₀ .tc) Unit) (Q : Unit → sProp 𝕄) :
    iprop((∃ f, ptM c (g % 2) j f) ∗ hpM c MA g j ∗ atRest c s)
      ⊢ iprop((Transfers.Flight countersEmb (c : Thread nD τ) (SemLoc.dma s) () nIn2 iprop(ptM c (g % 2) j (grp g MA) ∗ hpM c MA g j) -∗ Wp c (k ⟨⟩) Q)
          -∗ Wp c (.op (.enqueueDma (blockOf hmM h hi) (.here (chunkOf MM b bi)) (.dma s) hsrc hdst hsem) k) Q) := by
  iintro ⟨⟨%f, HX⟩, HH, C⟩ Hk
  have ss := setM eb bi
  have tt := setHm eh hi
  iapply (Transfers.wp_dmaLocal countersEmb 𝒱₀ (c : Thread nD τ) none (src := blockOf hmM h hi) (dst := chunkOf MM b bi) (sm := SemLoc.dma s) (q := fullShare) (fs := MA) (Sd := CK (g % 2) j) (fd := f) () nIn2 rfl nIn2_pos (ss ▸ le_rfl)) $$ [HX HH C]
  · isplitl [HH]
    · rw [tt]; iexact HH
    isplitl [HX]; · iexact HX
    iexact C
  iintro F0
  iapply Hk
  iapply (Transfers.Flight_mono countersEmb (c : Thread nD τ) (D' := iprop(ptM c (g % 2) j (grp g MA) ∗ hpM c MA g j)) ?_) $$ F0
  rw [tt]
  exact sep_mono (entails_of_eq (cgM c (landM (F := F) hg eb eh bi hi f MA))) .rfl

theorem waitM (j : ℕ) {b : Fin 5 → ℕ} {h : Fin 4 → ℕ} (bi) (hi) (s : DmaSem sig) (D : sProp 𝕄)
    {hsrc : (blockOf hmM h hi).view.WordExact} {hdst : (chunkOf MM b bi).view.WordExact}
    (k : PUnit → Prog (TpuEff nD τ sig (Elt F) Λ₀ .tc) Unit) (Q : Unit → sProp 𝕄) :
    iprop(Transfers.Flight countersEmb (c : Thread nD τ) (SemLoc.dma s) () nIn2 D ∗ Owes c)
      ⊢ iprop((iprop(D ∗ atRest c s ∗ Owes c) -∗ Wp c (k ⟨⟩) Q)
          -∗ Wp c (.op (.waitDma2 s (blockOf hmM h hi) (chunkOf MM b bi) hsrc hdst) k) Q) := by
  iintro ⟨F0, ⟨%W, HW⟩⟩ Hk
  iapply (Transfers.wp_waitLocal countersEmb 𝒱₀ (c : Thread nD τ) none (sem := s) (srcw := blockOf hmM h hi) (dstw := chunkOf MM b bi) () (N := nIn2) rfl (W := W)) $$ [F0 HW]
  · isplitl [F0]; · iexact F0
    iexact HW
  iintro ⟨HD, HC, HW⟩
  iapply Hk
  isplitl [HD]; · iexact HD
  isplitl [HC]; · iexact HC
  iexists _; iexact HW

/-! ## A chunk's three -/

theorem startIn_wp (g : ℕ) (hg : g < 6) (j : Fin 8) (n : InOff) (hn : n.IsAt g j) (kk : Prog (TpuEff nD τ sig (Elt F) Λ₀ .tc) Unit) (Q : Unit → sProp 𝕄) :
    iprop(Free c g j ∗ Home c XA GA MA g j) ⊢ iprop((InFl c XA GA MA g j -∗ Wp c kk Q) -∗ Wp c (startIn R0 n kk) Q) := by
  obtain ⟨s0, i0, s1, i1, s2, i2, b, bi, b0, b1, b2, h, hi, h0, h1, h2⟩ := n
  obtain ⟨e0, e1, e2, eb, eh⟩ := hn
  dsimp only at e0 e1 e2 eb eh
  subst e0 e1 e2
  unfold Free Home InFl
  iintro ⟨⟨HX, HG, HM, C0, C1, C2⟩, HHX, HHG, HHM⟩ Hk
  unfold startIn
  simp only [Prog.lift, Prog.bind_op, Prog.bind_ret]
  iapply (startX c XA g hg j eb eh bi hi (cellIn 0 g j)) $$ [HX HHX C0]
  · isplitl [HX]; · iexact HX
    isplitl [HHX]; · iexact HHX
    iexact C0
  iintro F0
  iapply (startG c GA g hg j eb eh bi hi (cellIn 1 g j)) $$ [HG HHG C1]
  · isplitl [HG]; · iexact HG
    isplitl [HHG]; · iexact HHG
    iexact C1
  iintro F1
  iapply (startM c MA g hg j eb eh bi hi (cellIn 2 g j)) $$ [HM HHM C2]
  · isplitl [HM]; · iexact HM
    isplitl [HHM]; · iexact HHM
    iexact C2
  iintro F2
  iapply Hk
  isplitl [F0]; · iexact F0
  isplitl [F1]; · iexact F1
  iexact F2

theorem waitIn_wp (g : ℕ) (j : Fin 8) (n : InOff) (hn : n.IsAt g j) (kk : Prog (TpuEff nD τ sig (Elt F) Λ₀ .tc) Unit) (Q : Unit → sProp 𝕄) :
    iprop(InFl c XA GA MA g j ∗ Owes c) ⊢ iprop((iprop(Arr c XA GA MA g j ∗ Home c XA GA MA g j ∗ Owes c) -∗ Wp c kk Q) -∗ Wp c (waitIn R0 n kk) Q) := by
  obtain ⟨s0, i0, s1, i1, s2, i2, b, bi, b0, b1, b2, h, hi, h0, h1, h2⟩ := n
  obtain ⟨e0, e1, e2, eb, eh⟩ := hn
  dsimp only at e0 e1 e2 eb eh
  subst e0 e1 e2
  unfold Arr Home InFl
  iintro ⟨⟨F0, F1, F2⟩, HW⟩ Hk
  unfold waitIn
  simp only [Prog.lift, Prog.bind_op, Prog.bind_ret]
  iapply (waitX c j bi hi (cellIn 0 g j)) $$ [F0 HW]
  · isplitl [F0]; · iexact F0
    iexact HW
  iintro ⟨⟨HX, HHX⟩, C0, HW⟩
  iapply (waitG c j bi hi (cellIn 1 g j)) $$ [F1 HW]
  · isplitl [F1]; · iexact F1
    iexact HW
  iintro ⟨⟨HG, HHG⟩, C1, HW⟩
  iapply (waitM c j bi hi (cellIn 2 g j)) $$ [F2 HW]
  · isplitl [F2]; · iexact F2
    iexact HW
  iintro ⟨⟨HM, HHM⟩, C2, HW⟩
  iapply Hk
  isplitl [HX HG HM C0 C1 C2]
  · isplitl [HX]; · iexact HX
    isplitl [HG]; · iexact HG
    isplitl [HM]; · iexact HM
    isplitl [C0]; · iexact C0
    isplitl [C1]; · iexact C1
    iexact C2
  isplitl [HHX HHG HHM]
  · isplitl [HHX]; · iexact HHX
    isplitl [HHG]; · iexact HHG
    iexact HHM
  iexact HW

/-! ## A departure -/

/-- Output staging buffer `b` held at anything, its cell at rest. -/
def StFree (b : Fin 3) : sProp 𝕄 := iprop((∃ f, ptO c b f) ∗ atRest c (cellOut b))

/-- A finished chunk on its way home: when it is there, its block of the result holds `DV`. -/
def OutFl (b : Fin 3) (g j : ℕ) (DV : S72x12x32x768.Idx → Elt F .bf16) : sProp 𝕄 :=
  Transfers.Flight countersEmb (c : Thread nD τ) (SemLoc.dma (cellOut b)) () nOut iprop(hpD c g j DV ∗ ∃ f, ptO c b f)

theorem startOut_wp (g j : ℕ) (b : Fin 3) (hb : (8 * g + j) % 3 = b.val) (n : SendOff) (hn : n.IsAt g j)
    (DV : S72x12x32x768.Idx → Elt F .bf16) (fo : S3x9x12x32x128.Idx → Elt F .bf16) (hv : ∀ y ∈ HB g j, fo (toStage b.val b.isLt y) = DV y)
    (kk : Prog (TpuEff nD τ sig (Elt F) Λ₀ .tc) Unit) (Q : Unit → sProp 𝕄) :
    iprop(ptO c b fo ∗ (∃ f, hpD c g j f) ∗ atRest c (cellOut b)) ⊢ iprop((OutFl c b g j DV -∗ Wp c kk Q) -∗ Wp c (startOut R0 n kk) Q) := by
  obtain ⟨s, si, h, hi, hw, o, oi, ow⟩ := n
  obtain ⟨es, eo, eh⟩ := hn
  dsimp only at es eo eh
  rw [hb] at es eo
  subst es
  iintro ⟨HO, ⟨%f, HD⟩, HC⟩ Hk
  unfold startOut
  simp only [Prog.lift, Prog.bind_op, Prog.bind_ret]
  have ss := setHd eh hi
  have tt := setO eo oi
  iapply (Transfers.wp_dmaLocal countersEmb 𝒱₀ (c : Thread nD τ) none (src := stageOf OM o oi) (dst := blockOf hdM h hi) (sm := SemLoc.dma (cellOut b)) (q := fullShare) (fs := fo) (Sd := HB g j) (fd := f) () nOut rfl nOut_pos (ss ▸ le_rfl)) $$ [HO HD HC]
  · isplitl [HO]
    · rw [tt]; iexact HO
    isplitl [HD]; · iexact HD
    iexact HC
  iintro F0
  iapply Hk
  unfold OutFl
  iapply (Transfers.Flight_mono countersEmb (c : Thread nD τ) (D' := iprop(hpD c g j DV ∗ ∃ f, ptO c b f)) ?_) $$ F0
  rw [tt]
  refine BIClass.sep_mono (entails_of_eq (cgD c (fun y hy => (landD (F := F) b.isLt eo eh oi hi f fo y hy).trans (hv y hy)))) ?_
  iintro H2
  iexists fo; iexact H2

theorem waitOut_wp (g j : ℕ) (b : Fin 3) (n : SendOff) (hs : n.s = ![b.val]) (DV : S72x12x32x768.Idx → Elt F .bf16)
    (kk : Prog (TpuEff nD τ sig (Elt F) Λ₀ .tc) Unit) (Q : Unit → sProp 𝕄) :
    iprop(OutFl c b g j DV ∗ Owes c) ⊢ iprop((iprop(hpD c g j DV ∗ StFree c b ∗ Owes c) -∗ Wp c kk Q) -∗ Wp c (waitOut R0 n kk) Q) := by
  obtain ⟨s, si, h, hi, hw, o, oi, ow⟩ := n
  dsimp only at hs
  subst hs
  unfold OutFl StFree
  iintro ⟨F0, ⟨%W, HW⟩⟩ Hk
  unfold waitOut
  simp only [Prog.lift, Prog.bind_op, Prog.bind_ret]
  iapply (Transfers.wp_waitLocal countersEmb 𝒱₀ (c : Thread nD τ) none (sem := cellOut b) (srcw := stageOf OM o oi) (dstw := blockOf hdM h hi) () (N := nOut) rfl (W := W)) $$ [F0 HW]
  · isplitl [F0]; · iexact F0
    iexact HW
  iintro ⟨⟨HD, HO⟩, HC, HW⟩
  iapply Hk
  isplitl [HD]; · iexact HD
  isplitl [HO HC]
  · isplitl [HO]; · iexact HO
    iexact HC
  iexists _; iexact HW

end Cert.Kernel.Hand
-- ==== Proof.K.Values.lean ====
/-
  What the kernel computes, by group: the masked gradients, the sums slab after slab, the statistics' rows, the
  coefficients and the `dx` tiles — and one step of the inner loop, which advances each of them by a slab.
-/
module

public import proofs.«01_k».proof.Proof.K.Chunks

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the kernel is given: the three arrays, the two scales and the three rows of statistics. -/
structure Ins (F : FTy → Type) where
  X : S72x12x32x768.Idx → Elt F .fp8e4m3
  G : S72x12x32x768.Idx → Elt F .fp8e5m2
  M : S72x12x32x768.Idx → Elt F .i8
  xs : Elt F .f32
  ys : Elt F .f32
  me : S6x128.Idx → Elt F .f32
  rs : S6x128.Idx → Elt F .f32
  ga : S6x128.Idx → Elt F .f32

variable (c : Dev nD) (I : Ins F)

/-- A masked tile. -/
def mskT (g n : ℕ) (k : Fin 12) : FVec F S32x128 .fp8e5m2 := mtile (grp g I.M) (grp g I.G) 0 n k

/-- A group's gradients with the first `n` slabs masked. -/
def GS (g n : ℕ) : S2x72x12x32x128.Idx → Elt F .fp8e5m2 := fun i =>
  if (i 1).val < n then k0_pay100 (mskT I g (i 1).val ⟨(i 2).val, (i 2).isLt⟩) (ixT ⟨(i 3).val, (i 3).isLt⟩ ⟨(i 4).val, (i 4).isLt⟩) else grp g I.G i

/-- The ones, wide. -/
def onesF : FVec F S16x128 .f32 := k0_pay1 (getN (k0_pay733 (F := F)))

/-- The accumulators of group `g` after `n` slabs. -/
def accAt (g : ℕ) : ℕ → S2x8x128.Idx → Elt F .f32
  | 0 => k0_pay734
  | n + 1 => accNext (sumsOver onesF (grp g I.X) (grp g I.G) (grp g I.M) 0 n (List.finRange 12) none) (accAt g n)

/-- An index of a row of statistics. -/
def ixR (g : ℕ) (l : Fin 128) : S6x128.Idx := fun a => match a with
  | ⟨0, _⟩ => (⟨g % 6, Nat.mod_lt _ (by decide)⟩ : Fin 6)
  | ⟨1, _⟩ => l
  | ⟨_ + 2, h⟩ => absurd h (Nat.not_lt.2 (Nat.le_add_left _ _))
def ix1 (l : Fin 128) : S1x128.Idx := fun a => match a with
  | ⟨0, _⟩ => (⟨0, by decide⟩ : Fin 1)
  | ⟨1, _⟩ => l
  | ⟨_ + 2, h⟩ => absurd h (Nat.not_lt.2 (Nat.le_add_left _ _))

/-- Row `g` of the statistics. -/
def rowOf {α : Type} (f : S6x128.Idx → α) (g : ℕ) : S1x128.Idx → α := fun i => f (ixR g ⟨(i 1).val, (i 1).isLt⟩)

def gA0 (g : ℕ) : S1x8x128.Idx → Elt F .f32 := getA rA0 (accAt I g 72)
def gA1 (g : ℕ) : S1x8x128.Idx → Elt F .f32 := getA rA1 (accAt I g 72)
def dbRow (g : ℕ) : S1x128.Idx → Elt F .f32 := k0_pay741 (k0_pay739 (gA0 I g)) (k0_pay740 I.ys)
def dgRow (g : ℕ) : S1x128.Idx → Elt F .f32 :=
  k0_pay742 I.xs I.ys (k0_pay736 (rowOf I.me g)) (k0_pay737 (rowOf I.rs g)) (k0_pay739 (gA0 I g)) (k0_pay740 I.ys) (gA1 I g)
def cf0 (g : ℕ) : S1x32x128.Idx → Elt F .f32 := k0_pay745 I.ys (k0_pay737 (rowOf I.rs g)) (k0_pay738 (rowOf I.ga g))
def cf1 (g : ℕ) : S1x32x128.Idx → Elt F .f32 :=
  k0_pay746 I.xs I.ys (k0_pay736 (rowOf I.me g)) (k0_pay737 (rowOf I.rs g)) (k0_pay738 (rowOf I.ga g)) (k0_pay739 (gA0 I g)) (k0_pay740 I.ys) (gA1 I g)
def cf2 (g : ℕ) : S1x32x128.Idx → Elt F .f32 :=
  k0_pay748 (k0_pay743 (k0_pay737 (rowOf I.rs g)) (k0_pay738 (rowOf I.ga g)))
    (k0_pay747 I.xs I.ys (k0_pay736 (rowOf I.me g)) (k0_pay737 (rowOf I.rs g)) (k0_pay739 (gA0 I g)) (k0_pay740 I.ys) (gA1 I g))

/-- The coefficient rows of group `g`. -/
def IsCoef (g : ℕ) (f : S3x32x128.Idx → Elt F .f32) : Prop := getC rC0 f = cf0 I g ∧ getC rC1 f = cf1 I g ∧ getC rC2 f = cf2 I g

/-- A tile of `dx`. -/
def dxT (g n : ℕ) (k : Fin 12) : S1x1x1x32x128.Idx → Elt F .bf16 :=
  k0_pay107 (cf0 I g) (cf1 I g) (cf2 I g) (tileAt (GS I g 72) 0 n k) (tileAt (grp g I.X) 0 n k)

/-- A staging buffer with the first `n` rows of chunk `j` of group `g`. -/
def OS (g j n : ℕ) (fo : S3x9x12x32x128.Idx → Elt F .bf16) : S3x9x12x32x128.Idx → Elt F .bf16 := fun i =>
  if (i 1).val < n then dxT I g (9 * j + (i 1).val) ⟨(i 2).val, (i 2).isLt⟩ (ixT ⟨(i 3).val, (i 3).isLt⟩ ⟨(i 4).val, (i 4).isLt⟩) else fo i

/-- The three results. -/
def DV : S72x12x32x768.Idx → Elt F .bf16 := fun i =>
  dxT I ((i 3).val / 128) (i 0).val ⟨(i 1).val, (i 1).isLt⟩ (ixT ⟨(i 2).val, (i 2).isLt⟩ ⟨(i 3).val % 128, Nat.mod_lt _ (by decide)⟩)
def DBV : S6x128.Idx → Elt F .f32 := fun i => dbRow I (i 0).val (ix1 ⟨(i 1).val, (i 1).isLt⟩)
def DGV : S6x128.Idx → Elt F .f32 := fun i => dgRow I (i 0).val (ix1 ⟨(i 1).val, (i 1).isLt⟩)
/-- A statistic with its first `g` rows in place. -/
def rowsTo {α : Type} (g : ℕ) (V f0 : S6x128.Idx → α) : S6x128.Idx → α := fun i => if (i 0).val < g then V i else f0 i

/-! ## A step's values -/

theorem tileAt_grp {α : Type} (g s n : ℕ) (k : Fin 12) (f : S72x12x32x768.Idx → α) : tileAt (grp g f) s n k = tileAt (grp g f) 0 n k := rfl

theorem tileAt_GS (g s n : ℕ) (hn : n < 72) (k : Fin 12) : tileAt (GS I g n) s n k = tileAt (grp g I.G) 0 n k := by
  funext i
  show (if n % 72 < n then _ else _) = _
  rw [if_neg (by omega)]; rfl

theorem mtile_GS (g s n : ℕ) (hn : n < 72) (k : Fin 12) : mtile (grp g I.M) (GS I g n) s n k = mskT I g n k := by
  unfold mskT mtile; rw [tileAt_GS I g s n hn]; rfl

theorem sums_GS (ones : FVec F S16x128 .f32) (g s n : ℕ) (hn : n < 72) : ∀ (ls : List (Fin 12)) (a : Sums F),
    sumsOver ones (grp g I.X) (GS I g n) (grp g I.M) s n ls a = sumsOver ones (grp g I.X) (grp g I.G) (grp g I.M) 0 n ls a
  | [], a => rfl
  | k :: ks, a => by
    unfold sumsOver
    rw [mtile_GS I g s n hn, sums_GS ones g s n hn ks]; rfl

theorem put_GS (g s j n : ℕ) (hn : n < 72) : ∀ y ∈ CK s j,
    putAll s n (fun k => k0_pay100 (mtile (grp g I.M) (GS I g n) s n k)) (List.finRange 12) (GS I g n) y = GS I g (n + 1) y := by
  intro y hy
  have hs := (mem_CK.mp hy).1
  rw [putAll_apply]
  unfold GS
  by_cases h : (y 1).val = n
  · rw [if_pos ⟨hs, h, List.mem_finRange _⟩, if_pos (by omega)]
    have e := mtile_GS I g s n hn ⟨(y 2).val, (y 2).isLt⟩
    unfold GS at e
    rw [e, h]
  · rw [if_neg fun H => h H.2.1]
    by_cases h' : (y 1).val < n
    · rw [if_pos h', if_pos (by omega)]
    · rw [if_neg h', if_neg (by omega)]

theorem tile_GS (g s n : ℕ) (hn : n < 72) (k : Fin 12) : tileAt (GS I g 72) s n k = tileAt (GS I g 72) 0 n k := by
  funext i
  show (if n % 72 < 72 then _ else _) = (if n % 72 < 72 then _ else _)
  rw [if_pos (Nat.mod_lt _ (by decide)), if_pos (Nat.mod_lt _ (by decide))]; rfl

theorem out_OS (g j b i : ℕ) (hn : 9 * j + i < 72) (fo : S3x9x12x32x128.Idx → Elt F .bf16) (h : Fin 12 → S1x1x1x32x128.Idx → Elt F .bf16) (hh : ∀ k, h k = dxT I g (9 * j + i) k) :
    ∀ y ∈ SB b, outAll b i h (List.finRange 12) (OS I g j i fo) y = OS I g j (i + 1) fo y := by
  intro y hy
  have hs := mem_SB.mp hy
  rw [outAll_apply]
  unfold OS
  by_cases h : (y 1).val = i
  · rw [if_pos ⟨hs, h, List.mem_finRange _⟩, if_pos (by omega), hh, h]
  · rw [if_neg fun H => h H.2.1]
    by_cases h' : (y 1).val < i
    · rw [if_pos h', if_pos (by omega)]
    · rw [if_neg h', if_neg (by omega)]

/-! ## The steps -/

/-- What the masked sums hold at slab `n` of group `g`, in chunk `j`. -/
def RedAt (g j n : ℕ) : sProp 𝕄 :=
  iprop(ptN c k0_pay733 ∗ ptA c (accAt I g n) ∗ ptX c (g % 2) j (grp g I.X) ∗ ptG c (g % 2) j (GS I g n) ∗ ptM c (g % 2) j (grp g I.M))

/-- What the `dx` rows hold at row `i` of chunk `j` of group `g`. -/
def DxAt (g j i : ℕ) : sProp 𝕄 :=
  iprop((∃ fc, ⌜IsCoef I g fc⌝ ∗ ptC c fc) ∗ ptX c (g % 2) j (grp g I.X) ∗ ptG c (g % 2) j (GS I g 72) ∗ ∃ fo, ptO c ((8 * g + j) % 3) (OS I g j i fo))

theorem red_at (g j n : ℕ) (hj : n / 9 = j) (hn : n < 72) (ts : List TileOff) (h : ts.map TileOff.o = tileOffs (g % 2) n) (Q : Unit → sProp 𝕄) :
    RedAt c I g j n ⊢ iprop((RedAt c I g j (n + 1) -∗ Wp c (pure ()) Q) -∗ Wp c (redStep XM GM (Memref.isWhole_whole _) MM AM NM ts) Q) := by
  unfold RedAt
  iintro H Hk
  iapply (redStep_wp c (g % 2) n j hj k0_pay733 (grp g I.X) (GS I g n) (grp g I.M) (accAt I g n) Q ts h) $$ H
  rw [sums_GS I _ g (g % 2) n hn, cgG c (put_GS I g (g % 2) j n hn)]
  exact .rfl

theorem dx_at (g j i : ℕ) (hi : i < 9) (hj : j < 8) (ts : List (RdOff × OutOff)) (h : ts.map (fun p => p.1.o) = tileOffs (g % 2) (9 * j + i))
    (h' : ts.map (fun p => p.2.o) = tileOffs ((8 * g + j) % 3) i) (kk : Prog (TpuEff nD τ sig (Elt F) Λ₀ .tc) Unit) (Q : Unit → sProp 𝕄) :
    DxAt c I g j i ⊢ iprop((DxAt c I g j (i + 1) -∗ Wp c kk Q) -∗ Wp c (dxStep XM GM OM (Memref.isWhole_whole _) CM ts kk) Q) := by
  unfold DxAt
  iintro ⟨⟨%fc, %hc, HC⟩, HX, HG, ⟨%fo, HO⟩⟩ Hk
  iapply (dxStep_wp c (g % 2) (9 * j + i) j ((8 * g + j) % 3) i (by omega) fc (grp g I.X) (GS I g 72) (OS I g j i fo) Q kk ts h h') $$ [HC HX HG HO]
  · isplitl [HC]; · iexact HC
    isplitl [HX]; · iexact HX
    isplitl [HG]; · iexact HG
    iexact HO
  have e : ∀ k, dxTile fc (grp g I.X) (GS I g 72) (g % 2) (9 * j + i) k = dxT I g (9 * j + i) k := fun k => by
    unfold dxTile dxT; rw [hc.1, hc.2.1, hc.2.2, tile_GS I g (g % 2) _ (by omega)]; rfl
  rw [cgO c (out_OS I g j ((8 * g + j) % 3) i (by omega) fo _ e)]
  iintro ⟨HC, HX, HG, HO⟩
  iapply Hk
  isplitl [HC]
  · iexists fc; isplitr; · ipureintro; exact hc
    iexact HC
  isplitl [HX]; · iexact HX
  isplitl [HG]; · iexact HG
  iexists fo; iexact HO

end Cert.Kernel.Hand
-- ==== Proof.K.Steps.lean ====
/-
  One chunk of a phase, run: its group's arrivals waited for, its nine slabs summed and masked, the previous group's
  `dx` rows written and sent, the next group's arrivals started.
-/
module

public import proofs.«01_k».proof.Proof.K.Values

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem trips8 : loop8.trips = 8 := by decide
theorem trips9 : loop9.trips = 9 := by decide

variable (c : Dev nD) (I : Ins F)

/-- A loop before a continuation, by an invariant. -/
theorem loop_wp (L : Scf.Loop 32) (N : ℕ) (hN : L.trips = N) (ok : L.OK) (body : Fin L.trips → Unit → Prog (TpuEff nD τ sig (Elt F) Λ₀ .tc) Unit) (J : ℕ → sProp 𝕄)
    (hb : ∀ k : Fin L.trips, k.val < N → J k.val ⊢ Wp c (body k ()) (fun _ => J (k.val + 1))) (kk : Prog (TpuEff nD τ sig (Elt F) Λ₀ .tc) Unit) (Q : Unit → sProp 𝕄) :
    J 0 ⊢ iprop((J N -∗ Wp c kk Q) -∗ Wp c (Scf.Loop.for L ok () body >>= fun _ => kk) Q) := by
  subst hN
  iintro H Hk
  iapply (Scf.wp_for_bind frame (wpE (defs₀ (F := F)) 𝒱₀ (c : Thread nD τ) none) Set.univ L.lb L.ub L.st ok () body (fun n _ => J n) (fun k _ => hb k k.isLt)) $$ H
  iintro %_ H
  iapply Hk
  iexact H

theorem pure_wp (P : sProp 𝕄) (Q : Unit → sProp 𝕄) (h : P ⊢ Q ()) : P ⊢ Wp c (pure ()) Q := by
  iintro H
  unfold Wp
  rw [wp_pure]
  imodintro
  iapply h
  iexact H

/-! ## The nine steps -/

theorem loopR (g j : ℕ) (hj : j < 8) (ok : loop9.OK) (P : Phase) (jj : Fin loop8.trips) (r : Fin loop8.trips → Fin loop9.trips → List TileOff) (hP : P.dx = none ∧ P.red = some r)
    (hr : ∀ i, (r jj i).map TileOff.o = tileOffs (g % 2) (9 * j + i.val)) (kk : Prog (TpuEff nD τ sig (Elt F) Λ₀ .tc) Unit) (Q : Unit → sProp 𝕄) :
    RedAt c I g j (9 * j) ⊢ iprop((RedAt c I g j (9 * j + 9) -∗ Wp c kk Q) -∗ Wp c (Scf.Loop.for loop9 ok () (fun i (_ : Unit) => stepBody R0 P jj i) >>= fun _ => kk) Q) := by
  exact loop_wp c loop9 9 trips9 ok (fun i (_ : Unit) => stepBody R0 P jj i) (fun n => RedAt c I g j (9 * j + n)) (fun k hk => by
    unfold stepBody; rw [hP.1, hP.2]
    iintro H
    iapply (red_at c I g j (9 * j + k.val) (by omega) (by omega) _ (hr k)) $$ H
    iintro H
    iapply (pure_wp c (RedAt c I g j (9 * j + k.val + 1)) _ .rfl)
    iexact H) kk Q

theorem loopD (g j : ℕ) (hj : j < 8) (ok : loop9.OK) (P : Phase) (jj : Fin loop8.trips) (d : Fin loop8.trips → Fin loop9.trips → List (RdOff × OutOff)) (hP : P.dx = some d ∧ P.red = none)
    (hd : ∀ i, (d jj i).map (fun p => p.1.o) = tileOffs (g % 2) (9 * j + i.val)) (hd' : ∀ i, (d jj i).map (fun p => p.2.o) = tileOffs ((8 * g + j) % 3) i.val)
    (kk : Prog (TpuEff nD τ sig (Elt F) Λ₀ .tc) Unit) (Q : Unit → sProp 𝕄) :
    DxAt c I g j 0 ⊢ iprop((DxAt c I g j 9 -∗ Wp c kk Q) -∗ Wp c (Scf.Loop.for loop9 ok () (fun i (_ : Unit) => stepBody R0 P jj i) >>= fun _ => kk) Q) := by
  exact loop_wp c loop9 9 trips9 ok (fun i (_ : Unit) => stepBody R0 P jj i) (fun n => DxAt c I g j n) (fun k hk => by
    unfold stepBody; rw [hP.1, hP.2]
    iintro H
    iapply (dx_at c I g j k.val (by omega) hj _ (hd k) (hd' k)) $$ H
    iintro H
    iapply (pure_wp c (DxAt c I g j (k.val + 1)) _ .rfl)
    iexact H) kk Q

theorem loopRD (g q j : ℕ) (hj : j < 8) (ok : loop9.OK) (P : Phase) (jj : Fin loop8.trips) (d : Fin loop8.trips → Fin loop9.trips → List (RdOff × OutOff))
    (r : Fin loop8.trips → Fin loop9.trips → List TileOff) (hP : P.dx = some d ∧ P.red = some r)
    (hd : ∀ i, (d jj i).map (fun p => p.1.o) = tileOffs (q % 2) (9 * j + i.val)) (hd' : ∀ i, (d jj i).map (fun p => p.2.o) = tileOffs ((8 * q + j) % 3) i.val)
    (hr : ∀ i, (r jj i).map TileOff.o = tileOffs (g % 2) (9 * j + i.val))
    (kk : Prog (TpuEff nD τ sig (Elt F) Λ₀ .tc) Unit) (Q : Unit → sProp 𝕄) :
    iprop(DxAt c I q j 0 ∗ RedAt c I g j (9 * j)) ⊢ iprop((iprop(DxAt c I q j 9 ∗ RedAt c I g j (9 * j + 9)) -∗ Wp c kk Q) -∗ Wp c (Scf.Loop.for loop9 ok () (fun i (_ : Unit) => stepBody R0 P jj i) >>= fun _ => kk) Q) := by
  exact loop_wp c loop9 9 trips9 ok (fun i (_ : Unit) => stepBody R0 P jj i) (fun n => iprop(DxAt c I q j n ∗ RedAt c I g j (9 * j + n))) (fun k hk => by
    unfold stepBody; rw [hP.1, hP.2]
    iintro ⟨H, H'⟩
    iapply (dx_at c I q j k.val (by omega) hj _ (hd k) (hd' k)) $$ H
    iintro H
    iapply (red_at c I g j (9 * j + k.val) (by omega) (by omega) _ (hr k)) $$ H'
    iintro H'
    iapply (pure_wp c iprop(DxAt c I q j (k.val + 1) ∗ RedAt c I g j (9 * j + k.val + 1)) _ .rfl)
    isplitl [H]; · iexact H
    iexact H') kk Q

/-! ## The result's chunks -/

/-- Chunk `T` of the result when `t` chunks have been sent: home, on its way, or not yet written. -/
def dSt (t : ℕ) (T : Fin 48) : sProp 𝕄 :=
  if T.val + 3 < t then hpD c (T.val / 8) (T.val % 8) (DV I)
  else if T.val < t then OutFl c ⟨T.val % 3, Nat.mod_lt _ (by decide)⟩ (T.val / 8) (T.val % 8) (DV I)
  else iprop(∃ f, hpD c (T.val / 8) (T.val % 8) f)
/-- Staging buffer `b` then: in use, once a chunk has been sent from it. -/
def sSt (t : ℕ) (b : Fin 3) : sProp 𝕄 := if b.val < t then iprop(emp) else StFree c b
/-- The departures' state when `t` chunks have been sent. -/
def OutSt (t : ℕ) : sProp 𝕄 := iprop(bigSep Finset.univ (dSt c I t) ∗ bigSep Finset.univ (sSt (F := F) c t))

/-- The staging buffer of chunk `t`. -/
abbrev bOf (t : ℕ) : Fin 3 := ⟨t % 3, Nat.mod_lt _ (by decide)⟩

/-- What sending chunk `t` needs of the departures' state once its buffer is free. -/
def Sending (t : ℕ) : sProp 𝕄 :=
  iprop(StFree c (bOf t) ∗ (∃ f, hpD c (t / 8) (t % 8) f) ∗ (OutFl c (bOf t) (t / 8) (t % 8) (DV I) -∗ OutSt c I (t + 1)))

theorem tick_lt (t : ℕ) (ht : t < 3) : OutSt c I t ⊢ Sending c I t := by
  unfold Sending OutSt
  have h1 := bigSep_univ_update (Φ := dSt c I t) (Ψ := dSt c I (t + 1)) (⟨t, by omega⟩ : Fin 48) (fun j hj => by
    have hj' : j.val ≠ t := fun h => hj (Fin.ext h)
    unfold dSt
    rw [if_neg (show ¬ j.val + 3 < t + 1 by omega), if_neg (show ¬ j.val + 3 < t by omega)]
    by_cases h : j.val < t
    · rw [if_pos h, if_pos (by omega)]
    · rw [if_neg h, if_neg (by omega)])
  have h2 := bigSep_univ_update (Φ := sSt (F := F) c t) (Ψ := sSt c (t + 1)) (bOf t) (fun j hj => by
    have hj' : j.val ≠ t := fun h => hj (Fin.ext (by show j.val = t % 3; omega))
    unfold sSt
    by_cases h : j.val < t
    · rw [if_pos h, if_pos (by omega)]
    · rw [if_neg h, if_neg (by omega)])
  have e1 : dSt c I t (⟨t, by omega⟩ : Fin 48) = iprop(∃ f, hpD c (t / 8) (t % 8) f) := by
    unfold dSt; rw [if_neg (by show ¬ t + 3 < t; omega), if_neg (by show ¬ t < t; omega)]
  have e2 : dSt c I (t + 1) (⟨t, by omega⟩ : Fin 48) = OutFl c (bOf t) (t / 8) (t % 8) (DV I) := by
    unfold dSt; rw [if_neg (by show ¬ t + 3 < t + 1; omega), if_pos (by show t < t + 1; omega)]
  have e3 : sSt (F := F) c t (bOf t) = StFree c (bOf t) := by unfold sSt; rw [if_neg (by show ¬ t % 3 < t; omega)]
  have e4 : sSt (F := F) c (t + 1) (bOf t) = iprop(emp) := by unfold sSt; rw [if_pos (by show t % 3 < t + 1; omega)]
  rw [e1, e2] at h1
  rw [e3, e4] at h2
  iintro ⟨H1, H2⟩
  ihave H1 := h1 $$ H1
  ihave H2 := h2 $$ H2
  icases H1 with ⟨Hf, H1⟩
  icases H2 with ⟨Hs, H2⟩
  isplitl [Hs]; · iexact Hs
  isplitl [Hf]; · iexact Hf
  iintro Ho
  isplitl [H1 Ho]
  · iapply H1; iexact Ho
  · iapply H2; iempintro

/-- Chunk `t - 3` taken out of the departures' state, to be waited for. -/
theorem tick_ge (t : ℕ) (ht : 3 ≤ t) (ht' : t < 48) : OutSt c I t
    ⊢ iprop(OutFl c (bOf t) ((t - 3) / 8) ((t - 3) % 8) (DV I) ∗ (iprop(hpD c ((t - 3) / 8) ((t - 3) % 8) (DV I) ∗ StFree c (bOf t)) -∗ Sending c I t)) := by
  unfold Sending OutSt
  let mid : Fin 48 → sProp 𝕄 := fun T => if T.val = t - 3 then dSt c I (t + 1) T else dSt c I t T
  have h0 := bigSep_univ_update (Φ := dSt c I t) (Ψ := mid) (⟨t - 3, by omega⟩ : Fin 48) (fun j hj => by
    have hj' : j.val ≠ t - 3 := fun h => hj (Fin.ext h)
    show (if _ then _ else _) = _
    rw [if_neg hj'])
  have h1 := bigSep_univ_update (Φ := mid) (Ψ := dSt c I (t + 1)) (⟨t, by omega⟩ : Fin 48) (fun j hj => by
    have hj' : j.val ≠ t := fun h => hj (Fin.ext h)
    show _ = (if _ then _ else _)
    by_cases h3 : j.val = t - 3
    · rw [if_pos h3]
    rw [if_neg h3]
    unfold dSt
    by_cases h4 : j.val + 3 < t
    · rw [if_pos h4, if_pos (by omega)]
    rw [if_neg h4, if_neg (by omega)]
    by_cases h : j.val < t
    · rw [if_pos h, if_pos (by omega)]
    · rw [if_neg h, if_neg (by omega)])
  have e0 : dSt c I t (⟨t - 3, by omega⟩ : Fin 48) = OutFl c (bOf t) ((t - 3) / 8) ((t - 3) % 8) (DV I) := by
    have eb : (⟨(t - 3) % 3, Nat.mod_lt _ (by decide)⟩ : Fin 3) = bOf t := Fin.ext (by show (t - 3) % 3 = t % 3; omega)
    unfold dSt; rw [if_neg (by show ¬ t - 3 + 3 < t; omega), if_pos (by show t - 3 < t; omega)]
    exact congrArg (fun b => OutFl c b ((t - 3) / 8) ((t - 3) % 8) (DV I)) eb
  have e0' : mid (⟨t - 3, by omega⟩ : Fin 48) = hpD c ((t - 3) / 8) ((t - 3) % 8) (DV I) := by
    show (if t - 3 = t - 3 then _ else _) = _
    rw [if_pos rfl]; unfold dSt; rw [if_pos (by show t - 3 + 3 < t + 1; omega)]
  have e1 : mid (⟨t, by omega⟩ : Fin 48) = iprop(∃ f, hpD c (t / 8) (t % 8) f) := by
    show (if t = t - 3 then _ else _) = _
    rw [if_neg (by omega)]
    unfold dSt; rw [if_neg (by show ¬ t + 3 < t; omega), if_neg (by show ¬ t < t; omega)]
  have e2 : dSt c I (t + 1) (⟨t, by omega⟩ : Fin 48) = OutFl c (bOf t) (t / 8) (t % 8) (DV I) := by
    unfold dSt; rw [if_neg (by show ¬ t + 3 < t + 1; omega), if_pos (by show t < t + 1; omega)]
  have e3 : sSt (F := F) c t = sSt c (t + 1) := funext fun b => by
    unfold sSt; have := b.isLt; rw [if_pos (by omega), if_pos (by omega)]
  rw [e0, e0'] at h0
  rw [e1, e2] at h1
  rw [e3]
  iintro ⟨H1, H2⟩
  ihave H1 := h0 $$ H1
  icases H1 with ⟨Hf, H1⟩
  isplitl [Hf]; · iexact Hf
  iintro ⟨Hd, Hs⟩
  ispecialize H1 $$ Hd
  ihave H1 := h1 $$ H1
  icases H1 with ⟨Hf, H1⟩
  isplitl [Hs]; · iexact Hs
  isplitl [Hf]; · iexact Hf
  iintro Ho
  isplitl [H1 Ho]
  · iapply H1; iexact Ho
  · iexact H2

/-- The wait before a chunk's rows are written, if its buffer was used before. -/
theorem tick_wp (t : ℕ) (ht : t < 48) (w : (cc : BitVec 1) ×' (cc = 1#1 → SendOff)) (hw : w.1 = 1#1 ↔ 3 ≤ t) (hs : ∀ h, (w.2 h).s = ![t % 3])
    (kk : Prog (TpuEff nD τ sig (Elt F) Λ₀ .tc) Unit) (Q : Unit → sProp 𝕄) :
    iprop(OutSt c I t ∗ Owes c) ⊢ iprop((iprop(Sending c I t ∗ Owes c) -∗ Wp c kk Q)
      -∗ Wp c ((do
        if h : w.1 = 1#1 then (waitOut R0 (w.2 h) (pure ⟨⟩) : Prog (TpuEff nD τ sig (Elt F) Λ₀ .tc) Unit) else pure ⟨⟩
        kk) : Prog (TpuEff nD τ sig (Elt F) Λ₀ .tc) Unit) Q) := by
  by_cases h : w.1 = 1#1
  · have h3 := hw.mp h
    have e : ((do
        if h : w.1 = 1#1 then (waitOut R0 (w.2 h) (pure ⟨⟩) : Prog (TpuEff nD τ sig (Elt F) Λ₀ .tc) Unit) else pure ⟨⟩
        kk) : Prog (TpuEff nD τ sig (Elt F) Λ₀ .tc) Unit) = waitOut R0 (w.2 h) kk := by
      rw [dif_pos h]; rfl
    rw [e]
    iintro ⟨HO, HW⟩ Hk
    ihave H := (tick_ge c I t h3 ht) $$ HO
    icases H with ⟨Hf, HO⟩
    iapply (waitOut_wp c ((t - 3) / 8) ((t - 3) % 8) (bOf t) (w.2 h) (hs h) (DV I)) $$ [Hf HW]
    · isplitl [Hf]; · iexact Hf
      iexact HW
    iintro ⟨Hd, Hs, HW⟩
    iapply Hk
    isplitl [Hd Hs HO]
    · iapply HO
      isplitl [Hd]; · iexact Hd
      iexact Hs
    iexact HW
  · have h3 : t < 3 := by
      by_contra h'; exact h (hw.mpr (by omega))
    have e : ((do
        if h : w.1 = 1#1 then (waitOut R0 (w.2 h) (pure ⟨⟩) : Prog (TpuEff nD τ sig (Elt F) Λ₀ .tc) Unit) else pure ⟨⟩
        kk) : Prog (TpuEff nD τ sig (Elt F) Λ₀ .tc) Unit) = kk := by
      rw [dif_neg h]
    rw [e]
    iintro ⟨HO, HW⟩ Hk
    iapply Hk
    isplitl [HO]
    · iapply (tick_lt c I t h3); iexact HO
    iexact HW

/-! ## The chunks -/

/-- A chunk summed and masked. -/
def Done (g : ℕ) (j : Fin 8) : sProp 𝕄 :=
  iprop(ptX c (g % 2) j (grp g I.X) ∗ ptG c (g % 2) j (GS I g 72) ∗ ptM c (g % 2) j (grp g I.M)
    ∗ atRest c (cellIn 0 g j) ∗ atRest c (cellIn 1 g j) ∗ atRest c (cellIn 2 g j))

/-- The three buffers' chunks, and the coefficients, held. -/
def Coefs (g : ℕ) : sProp 𝕄 := iprop(∃ fc, ⌜IsCoef I g fc⌝ ∗ ptC c fc)

/-- What the sums hold. -/
def Acc (g n : ℕ) : sProp 𝕄 := iprop(ptN c k0_pay733 ∗ ptA c (accAt I g n))

theorem GS_start (g s j : ℕ) : ∀ y ∈ CK s j, grp g I.G y = GS I g (9 * j) y := by
  intro y hy
  have := (mem_CK.mp hy).2
  unfold GS; rw [if_neg (by omega)]
theorem GS_end (g s j : ℕ) : ∀ y ∈ CK s j, GS I g (9 * j + 9) y = GS I g 72 y := by
  intro y hy
  have := (mem_CK.mp hy).2
  have h : (y 1).val < 72 := (y 1).isLt
  unfold GS; rw [if_pos (by omega), if_pos h]

/-- From an arrived chunk to its first step, and from its last on. -/
theorem red_in (g : ℕ) (j : Fin 8) : iprop(Arr c I.X I.G I.M g j ∗ Acc c I g (9 * j.val))
    ⊢ iprop(RedAt c I g j (9 * j.val) ∗ (RedAt c I g j (9 * j.val + 9) -∗ iprop(Done c I g j ∗ Acc c I g (9 * j.val + 9)))) := by
  unfold Arr Acc RedAt Done
  rw [cgG c (GS_start I g (g % 2) j), cgG c (GS_end I g (g % 2) j)]
  iintro ⟨⟨HX, HG, HM, C0, C1, C2⟩, HN, HA⟩
  isplitl [HX HG HM HN HA]
  · isplitl [HN]; · iexact HN
    isplitl [HA]; · iexact HA
    isplitl [HX]; · iexact HX
    isplitl [HG]; · iexact HG
    iexact HM
  iintro ⟨HN, HA, HX, HG, HM⟩
  isplitr [HN HA]
  · isplitl [HX]; · iexact HX
    isplitl [HG]; · iexact HG
    isplitl [HM]; · iexact HM
    isplitl [C0]; · iexact C0
    isplitl [C1]; · iexact C1
    iexact C2
  isplitl [HN]; · iexact HN
  iexact HA

theorem OS_zero (g j : ℕ) (fo : S3x9x12x32x128.Idx → Elt F .bf16) : OS I g j 0 fo = fo := by
  funext i; unfold OS; rw [if_neg (by omega)]

theorem OS_home (g j b : ℕ) (hj : j < 8) (hb : b < 3) (fo : S3x9x12x32x128.Idx → Elt F .bf16) : ∀ y ∈ HB g j, OS I g j 9 fo (toStage b hb y) = DV I y := by
  intro y hy
  have h := mem_HB.mp hy
  have h0 : (y 0).val < 72 := (y 0).isLt
  unfold OS DV
  have e : ((toStage b hb y) 1).val = (y 0).val % 9 := rfl
  rw [if_pos (by rw [e]; omega), e, show 9 * j + (y 0).val % 9 = (y 0).val by omega, h.2]
  rfl

/-- The `dx` rows of chunk `t`, and the chunk's departure. -/
theorem dx_in (g : ℕ) (j : Fin 8) : iprop(Done c I g j ∗ Coefs c I g ∗ StFree c (bOf (8 * g + j.val)))
    ⊢ iprop(DxAt c I g j 0 ∗ (DxAt c I g j 9 -∗ iprop(Done c I g j ∗ Coefs c I g ∗ (∃ fo, ptO c (bOf (8 * g + j.val)) (OS I g j 9 fo)) ∗ atRest c (cellOut (bOf (8 * g + j.val)))))) := by
  unfold Done Coefs StFree DxAt
  iintro ⟨⟨HX, HG, HM, C0, C1, C2⟩, HC, ⟨⟨%fo, HO⟩, HS⟩⟩
  isplitl [HX HG HC HO]
  · isplitl [HC]; · iexact HC
    isplitl [HX]; · iexact HX
    isplitl [HG]; · iexact HG
    iexists fo; rw [OS_zero]; iexact HO
  iintro ⟨HC, HX, HG, HO⟩
  isplitl [HX HG HM C0 C1 C2]
  · isplitl [HX]; · iexact HX
    isplitl [HG]; · iexact HG
    isplitl [HM]; · iexact HM
    isplitl [C0]; · iexact C0
    isplitl [C1]; · iexact C1
    iexact C2
  isplitl [HC]; · iexact HC
  isplitl [HO]; · iexact HO
  iexact HS

theorem send_wp (g : ℕ) (j : Fin 8) (n : SendOff) (hn : n.IsAt g j) (kk : Prog (TpuEff nD τ sig (Elt F) Λ₀ .tc) Unit) (Q : Unit → sProp 𝕄) :
    iprop((∃ fo, ptO c (bOf (8 * g + j.val)) (OS I g j 9 fo)) ∗ atRest c (cellOut (bOf (8 * g + j.val))) ∗ (∃ f, hpD c g j f)
        ∗ (OutFl c (bOf (8 * g + j.val)) g j (DV I) -∗ OutSt c I (8 * g + j.val + 1)))
      ⊢ iprop((OutSt c I (8 * g + j.val + 1) -∗ Wp c kk Q) -∗ Wp c (startOut R0 n kk) Q) := by
  iintro ⟨⟨%fo, HO⟩, HS, HD, Hw⟩ Hk
  iapply (startOut_wp c g j (bOf (8 * g + j.val)) rfl n hn (DV I) (OS I g j 9 fo) (OS_home I g j _ j.isLt _ fo)) $$ [HO HS HD]
  · isplitl [HO]; · iexact HO
    isplitl [HD]; · iexact HD
    iexact HS
  iintro Hf
  iapply Hk
  iapply Hw
  iexact Hf

end Cert.Kernel.Hand
-- ==== Proof.K.Finish.lean ====
/-
  A group's statistics and coefficients from its sums, run; and the sums cleared.
-/
module

public import proofs.«01_k».proof.Proof.K.Steps

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (I : Ins F)

/-! ## Rows -/

abbrev rW (o : Fin 2 → ℕ) (i : ∀ a, o a + S1x128.size a ≤ S6x128.size a) : Rect S6x128 := Rect.unit (s := S6x128) o S1x128.size i

theorem row_read (g : ℕ) (hg : g < 6) {o : Fin 2 → ℕ} (ho : o = ![g, 0]) (i : ∀ a, o a + S1x128.size a ≤ S6x128.size a) (j : S1x128.Idx) :
    (fun a => ⟨o a + (j a : ℕ), by have := i a; have h : (j a : ℕ) < S1x128.size a := (j a).isLt; show _ < S6x128.size a; omega⟩ : S6x128.Idx) = ixR g ⟨(j 1).val, (j 1).isLt⟩ := by
  subst ho
  have j0 : (j 0).val < 1 := (j 0).isLt
  funext a; apply Fin.ext
  fin_cases a
  · show g + (j 0).val = g % 6; omega
  · show 0 + (j 1).val = (j 1).val; omega

theorem row_me (g : ℕ) (hg : g < 6) {o : Fin 2 → ℕ} (ho : o = ![g, 0]) (i) (f : S6x128.Idx → Elt F .f32) : (meM.access (rW o i)).read (Elt F) f = rowOf f g :=
  funext fun j => (read_unit cc0_stg2_0 o S1x128.size i f j).trans (congrArg f (row_read g hg ho i j))
theorem row_rs (g : ℕ) (hg : g < 6) {o : Fin 2 → ℕ} (ho : o = ![g, 0]) (i) (f : S6x128.Idx → Elt F .f32) : (rsM.access (rW o i)).read (Elt F) f = rowOf f g :=
  funext fun j => (read_unit cc0_stg3_0 o S1x128.size i f j).trans (congrArg f (row_read g hg ho i j))
theorem row_ga (g : ℕ) (hg : g < 6) {o : Fin 2 → ℕ} (ho : o = ![g, 0]) (i) (f : S6x128.Idx → Elt F .f32) : (gaM.access (rW o i)).read (Elt F) f = rowOf f g :=
  funext fun j => (read_unit cc0_stg4_0 o S1x128.size i f j).trans (congrArg f (row_read g hg ho i j))

theorem row_val (g : ℕ) {o : Fin 2 → ℕ} (ho : o = ![g, 0]) (V f0 : S6x128.Idx → Elt F .f32) (w : S1x128.Idx → Elt F .f32)
    (hw : ∀ y : S6x128.Idx, (y 0).val = g → V y = w (ix1 ⟨(y 1).val, (y 1).isLt⟩)) (y : S6x128.Idx) :
    (if h : ∀ a, o a ≤ y a ∧ (y a : ℕ) < o a + S1x128.size a then w (fun a => ⟨(y a : ℕ) - o a, by have := h a; show _ < S1x128.size a; omega⟩) else rowsTo g V f0 y)
      = rowsTo (g + 1) V f0 y := by
  subst ho
  have h1 : (y 1).val < 128 := (y 1).isLt
  unfold rowsTo
  by_cases h : (y 0).val = g
  · rw [dif_pos (by
      intro a; fin_cases a
      · show g ≤ (y 0).val ∧ (y 0).val < g + 1; omega
      · show 0 ≤ (y 1).val ∧ (y 1).val < 0 + 128; omega), if_pos (by omega), hw y h]
    congr 1; funext a; apply Fin.ext
    fin_cases a
    · show (y 0).val - g = 0; omega
    · show (y 1).val - 0 = (y 1).val; omega
  · rw [dif_neg (by
      intro H
      have a0 : g ≤ (y 0).val ∧ (y 0).val < g + 1 := H 0
      omega)]
    by_cases h' : (y 0).val < g
    · rw [if_pos h', if_pos (by omega)]
    · rw [if_neg h', if_neg (by omega)]

theorem row_db (g : ℕ) {o : Fin 2 → ℕ} (ho : o = ![g, 0]) (i) (f0 : S6x128.Idx → Elt F .f32) :
    (dbM.access (rW o i)).write (Elt F) (rowsTo g (DBV I) f0) (dbRow I g) Finset.univ = rowsTo (g + 1) (DBV I) f0 :=
  funext fun y => (write_unit cc0_stg6_0 o S1x128.size i _ _ y).trans (row_val g ho (DBV I) f0 _ (fun y h => by unfold DBV; rw [h]) y)
theorem row_dg (g : ℕ) {o : Fin 2 → ℕ} (ho : o = ![g, 0]) (i) (f0 : S6x128.Idx → Elt F .f32) :
    (dgM.access (rW o i)).write (Elt F) (rowsTo g (DGV I) f0) (dgRow I g) Finset.univ = rowsTo (g + 1) (DGV I) f0 :=
  funext fun y => (write_unit cc0_stg5_0 o S1x128.size i _ _ y).trans (row_val g ho (DGV I) f0 _ (fun y h => by unfold DGV; rw [h]) y)

/-! ## Coefficients -/

/-- A coefficient's tile replaced. -/
def putC (r : Rect S3x32x128) (f : S3x32x128.Idx → Elt F .f32) (w : r.shape.Idx → Elt F .f32) : S3x32x128.Idx → Elt F .f32 := (CM.access r).write (Elt F) f w Finset.univ

abbrev rC (n : ℕ) (i : ∀ a, (![n, 0, 0] : Fin 3 → ℕ) a + S1x32x128.size a ≤ S3x32x128.size a) : Rect S3x32x128 := Rect.unit (s := S3x32x128) ![n, 0, 0] S1x32x128.size i

theorem getC_same (n : ℕ) (i) (f : S3x32x128.Idx → Elt F .f32) (w : (rC n i).shape.Idx → Elt F .f32) : getC (rC n i) (putC (rC n i) f w) = w := by
  funext y
  refine (read_unit cc0_scratch5 ![n, 0, 0] S1x32x128.size i _ y).trans ((write_unit cc0_scratch5 ![n, 0, 0] S1x32x128.size i f w _).trans ?_)
  rw [dif_pos (by
    intro a
    have h : (y a : ℕ) < S1x32x128.size a := (y a).isLt
    show (![n, 0, 0] : Fin 3 → ℕ) a ≤ (![n, 0, 0] : Fin 3 → ℕ) a + (y a : ℕ) ∧ (![n, 0, 0] : Fin 3 → ℕ) a + (y a : ℕ) < (![n, 0, 0] : Fin 3 → ℕ) a + S1x32x128.size a
    omega)]
  congr 1; funext a; apply Fin.ext
  show (![n, 0, 0] : Fin 3 → ℕ) a + (y a : ℕ) - (![n, 0, 0] : Fin 3 → ℕ) a = y a
  omega

theorem getC_other (n m : ℕ) (h : n ≠ m) (i) (i') (f : S3x32x128.Idx → Elt F .f32) (w : (rC m i').shape.Idx → Elt F .f32) : getC (rC n i) (putC (rC m i') f w) = getC (rC n i) f := by
  funext y
  refine (read_unit cc0_scratch5 ![n, 0, 0] S1x32x128.size i _ y).trans ((write_unit cc0_scratch5 ![m, 0, 0] S1x32x128.size i' f w _).trans ?_)
  rw [dif_neg (by
    intro H
    have y0 : (y 0).val < 1 := (y 0).isLt
    have a0 : m ≤ n + (y 0).val ∧ n + (y 0).val < m + 1 := H 0
    omega)]
  exact (read_unit cc0_scratch5 ![n, 0, 0] S1x32x128.size i f y).symm

theorem isCoef_put (g : ℕ) (fc : S3x32x128.Idx → Elt F .f32) : IsCoef I g (putC rC2 (putC rC1 (putC rC0 fc (cf0 I g)) (cf1 I g)) (cf2 I g)) :=
  ⟨((getC_other 0 2 (by decide) _ _ _ _).trans (getC_other 0 1 (by decide) _ _ _ _)).trans (getC_same 0 _ _ _),
   (getC_other 1 2 (by decide) _ _ _ _).trans (getC_same 1 _ _ _), getC_same 2 _ _ _⟩

/-! ## A group's end -/

abbrev ptW (M : Memref sig .tc .vmem S6x128 .f32) (f : M.view.ref.ty.Contents (Elt F)) : sProp 𝕄 := M.view.loc (c : Thread nD τ) ↦[Finset.univ]{fullShare} f

/-- The rows of statistics given. -/
def Stats : sProp 𝕄 := iprop(ptW c meM I.me ∗ ptW c rsM I.rs ∗ ptW c gaM I.ga)
/-- The two statistics' first `g` rows in place. -/
def Rows (g : ℕ) (fb fg : S6x128.Idx → Elt F .f32) : sProp 𝕄 := iprop(ptW c dbM (rowsTo g (DBV I) fb) ∗ ptW c dgM (rowsTo g (DGV I) fg))

theorem finish_wp (g : ℕ) (hg : g < 6) (r : RowOff) (ho : r.o = ![g, 0]) (fb fg : S6x128.Idx → Elt F .f32) (kk : Prog (TpuEff nD τ sig (Elt F) Λ₀ .tc) Unit) (Q : Unit → sProp 𝕄) :
    iprop(Stats c I ∗ Rows c I g fb fg ∗ Acc c I g 72 ∗ ∃ fc, ptC c fc)
      ⊢ iprop((iprop(Stats c I ∗ Rows c I (g + 1) fb fg ∗ Acc c I g 72 ∗ Coefs c I g) -∗ Wp c kk Q) -∗ Wp c (finish R0 I.xs I.ys r kk) Q) := by
  obtain ⟨o, inb⟩ := r
  dsimp only at ho
  unfold Stats Rows Acc
  iintro ⟨⟨Hme, Hrs, Hga⟩, ⟨Hdb, Hdg⟩, ⟨HN, HA⟩, ⟨%fc, HC⟩⟩ Hk
  unfold finish
  simp only [Prog.lift, Prog.bind_op, Prog.bind_ret]
  iapply (wp_load_rect 𝒱₀ (c : Thread nD τ) none Set.univ (m := meM) (r := rW o inb) (S := Finset.univ) (f := I.me) (Finset.subset_univ _)) $$ Hme
  iintro Hme
  iapply (wp_load_rect 𝒱₀ (c : Thread nD τ) none Set.univ (m := rsM) (r := rW o inb) (S := Finset.univ) (f := I.rs) (Finset.subset_univ _)) $$ Hrs
  iintro Hrs
  iapply (wp_load_rect 𝒱₀ (c : Thread nD τ) none Set.univ (m := gaM) (r := rW o inb) (S := Finset.univ) (f := I.ga) (Finset.subset_univ _)) $$ Hga
  iintro Hga
  rw [row_me g hg ho inb, row_rs g hg ho inb, row_ga g hg ho inb]
  iapply (wp_load_rect 𝒱₀ (c : Thread nD τ) none Set.univ (m := AM) (r := rA0) (S := Finset.univ) (f := accAt I g 72) (Finset.subset_univ _)) $$ HA
  iintro HA
  iapply (wp_load_rect 𝒱₀ (c : Thread nD τ) none Set.univ (m := AM) (r := rA1) (S := Finset.univ) (f := accAt I g 72) (Finset.subset_univ _)) $$ HA
  iintro HA
  iapply (wp_load_rect 𝒱₀ (c : Thread nD τ) none Set.univ (m := dbM) (r := rW o inb) (S := Finset.univ) (f := rowsTo g (DBV I) fb) (Finset.subset_univ _)) $$ Hdb
  iintro Hdb
  iapply (wp_store 𝒱₀ (c : Thread nD τ) none Set.univ (m := dbM) (r := rW o inb) (S := Finset.univ) (f := rowsTo g (DBV I) fb) (Finset.subset_univ _)) $$ Hdb
  iintro Hdb
  iapply (wp_load_rect 𝒱₀ (c : Thread nD τ) none Set.univ (m := dgM) (r := rW o inb) (S := Finset.univ) (f := rowsTo g (DGV I) fg) (Finset.subset_univ _)) $$ Hdg
  iintro Hdg
  iapply (wp_store 𝒱₀ (c : Thread nD τ) none Set.univ (m := dgM) (r := rW o inb) (S := Finset.univ) (f := rowsTo g (DGV I) fg) (Finset.subset_univ _)) $$ Hdg
  iintro Hdg
  iapply (wp_load_rect 𝒱₀ (c : Thread nD τ) none Set.univ (m := CM) (r := rC0) (S := Finset.univ) (Finset.subset_univ _)) $$ HC
  iintro HC
  iapply (wp_store 𝒱₀ (c : Thread nD τ) none Set.univ (m := CM) (r := rC0) (S := Finset.univ) (Finset.subset_univ _)) $$ HC
  iintro HC
  iapply (wp_load_rect 𝒱₀ (c : Thread nD τ) none Set.univ (m := CM) (r := rC1) (S := Finset.univ) (Finset.subset_univ _)) $$ HC
  iintro HC
  iapply (wp_store 𝒱₀ (c : Thread nD τ) none Set.univ (m := CM) (r := rC1) (S := Finset.univ) (Finset.subset_univ _)) $$ HC
  iintro HC
  iapply (wp_load_rect 𝒱₀ (c : Thread nD τ) none Set.univ (m := CM) (r := rC2) (S := Finset.univ) (Finset.subset_univ _)) $$ HC
  iintro HC
  iapply (wp_store 𝒱₀ (c : Thread nD τ) none Set.univ (m := CM) (r := rC2) (S := Finset.univ) (Finset.subset_univ _)) $$ HC
  iintro HC
  iapply Hk
  isplitl [Hme Hrs Hga]
  · isplitl [Hme]; · iexact Hme
    isplitl [Hrs]; · iexact Hrs
    iexact Hga
  isplitl [Hdb Hdg]
  · rw [← row_db I g ho inb fb, ← row_dg I g ho inb fg]
    isplitl [Hdb]; · iexact Hdb
    iexact Hdg
  isplitl [HN HA]
  · isplitl [HN]; · iexact HN
    iexact HA
  unfold Coefs
  iexists (putC rC2 (putC rC1 (putC rC0 fc (cf0 I g)) (cf1 I g)) (cf2 I g))
  isplitr; · ipureintro; exact isCoef_put I g fc
  iexact HC

/-! ## The sums cleared -/

abbrev rAw : Rect S2x8x128 := Rect.unit (s := S2x8x128) ![0, 0, 0] S2x8x128.size inb_S2x8x128_S2x8x128_0_0_0

theorem acc_clear (f : S2x8x128.Idx → Elt F .f32) (g : ℕ) : (AM.access rAw).write (Elt F) f (k0_pay734 (F := F)) Finset.univ = accAt I g 0 := by
  funext y
  refine (write_unit cc0_scratch4 ![0, 0, 0] S2x8x128.size inb_S2x8x128_S2x8x128_0_0_0 f _ y).trans ?_
  rw [dif_pos (by
    intro a
    have h : (y a : ℕ) < S2x8x128.size a := (y a).isLt
    have e : (![0, 0, 0] : Fin 3 → ℕ) a = 0 := by fin_cases a <;> rfl
    show (![0, 0, 0] : Fin 3 → ℕ) a ≤ (y a : ℕ) ∧ (y a : ℕ) < (![0, 0, 0] : Fin 3 → ℕ) a + S2x8x128.size a
    omega)]
  show k0_pay734 _ = k0_pay734 y
  congr 1; funext a; apply Fin.ext
  have e : (![0, 0, 0] : Fin 3 → ℕ) a = 0 := by fin_cases a <;> rfl
  show (y a : ℕ) - (![0, 0, 0] : Fin 3 → ℕ) a = y a
  omega

theorem ones_put (f : S16x128.Idx → Elt F .bf16) :
    (NM.access (Rect.unit (s := S16x128) ![0, 0] S16x128.size inb_S16x128_S16x128_0_0)).write (Elt F) f (k0_pay733 (F := F)) Finset.univ = k0_pay733 := by
  funext y
  refine (write_unit cc0_scratch6 ![0, 0] S16x128.size inb_S16x128_S16x128_0_0 f _ y).trans ?_
  rw [dif_pos (by
    intro a
    have h : (y a : ℕ) < S16x128.size a := (y a).isLt
    have e : (![0, 0] : Fin 2 → ℕ) a = 0 := by fin_cases a <;> rfl
    show (![0, 0] : Fin 2 → ℕ) a ≤ (y a : ℕ) ∧ (y a : ℕ) < (![0, 0] : Fin 2 → ℕ) a + S16x128.size a
    omega)]
  show k0_pay733 _ = k0_pay733 y
  congr 1; funext a; apply Fin.ext
  have e : (![0, 0] : Fin 2 → ℕ) a = 0 := by fin_cases a <;> rfl
  show (y a : ℕ) - (![0, 0] : Fin 2 → ℕ) a = y a
  omega

end Cert.Kernel.Hand
-- ==== Proof.K.Phases.lean ====
/-
  The phases, run: eight chunks each, then the statistics of the group just summed.
-/
module

public import proofs.«01_k».proof.Proof.K.Finish

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (I : Ins F)

/-! ## A chunk -/

theorem free_of_done (g : ℕ) (j : Fin 8) : Done c I g j ⊢ Free c g j := by
  unfold Done Free
  iintro ⟨HX, HG, HM, C⟩
  isplitl [HX]; · iexists _; iexact HX
  isplitl [HG]; · iexists _; iexact HG
  isplitl [HM]; · iexists _; iexact HM
  iexact C

/-- A chunk's arrivals, its nine steps of sums, and what follows. -/
theorem chunkA (g : ℕ) (j : Fin 8) (ok8 : loop8.OK) (ok9 : loop9.OK) (w : Fin loop8.trips → InOff) (r : Fin loop8.trips → Fin loop9.trips → List TileOff) (rw' : Option RowOff)
    (jj : Fin loop8.trips) (hw : (w jj).IsAt g j) (hr : ∀ i, (r jj i).map TileOff.o = tileOffs (g % 2) (9 * j.val + i.val)) (Q : Unit → sProp 𝕄) :
    iprop(InFl c I.X I.G I.M g j ∗ Acc c I g (9 * j.val) ∗ Owes c)
      ⊢ iprop((iprop(Done c I g j ∗ Home c I.X I.G I.M g j ∗ Acc c I g (9 * j.val + 9) ∗ Owes c) -∗ Wp c (pure ()) Q)
        -∗ Wp c (chunkBody R0 ⟨ok8, ok9, some w, none, none, some r, none, none, rw'⟩ jj) Q) := by
  iintro ⟨HI, HA, HW⟩ Hk
  unfold chunkBody
  simp only [opt]
  iapply (waitIn_wp c I.X I.G I.M g j (w jj) hw) $$ [HI HW]
  · isplitl [HI]; · iexact HI
    iexact HW
  iintro ⟨HR, HH, HW⟩
  ihave H := (red_in c I g j) $$ [HR HA]
  · isplitl [HR]; · iexact HR
    iexact HA
  icases H with ⟨HR, Hb⟩
  iapply (loopR c I g j j.isLt ok9 _ jj r ⟨rfl, rfl⟩ hr) $$ HR
  iintro HR
  ispecialize Hb $$ HR
  icases Hb with ⟨HD, HA⟩
  iapply Hk
  isplitl [HD]; · iexact HD
  isplitl [HH]; · iexact HH
  isplitl [HA]; · iexact HA
  iexact HW

/-- A chunk's arrivals, its nine steps of sums and of `dx` rows, its departure, and what follows. -/
theorem chunkB (g q : ℕ) (j : Fin 8) (hq : q < 6) (ok8 : loop8.OK) (ok9 : loop9.OK) (w : Fin loop8.trips → InOff) (wo : (j : Fin loop8.trips) → (cc : BitVec 1) ×' (cc = 1#1 → SendOff))
    (d : Fin loop8.trips → Fin loop9.trips → List (RdOff × OutOff)) (r : Fin loop8.trips → Fin loop9.trips → List TileOff) (s : Fin loop8.trips → SendOff) (n : Option (Fin loop8.trips → InOff)) (rw' : Option RowOff)
    (jj : Fin loop8.trips) (hw : (w jj).IsAt g j) (hr : ∀ i, (r jj i).map TileOff.o = tileOffs (g % 2) (9 * j.val + i.val))
    (hwo : (wo jj).1 = 1#1 ↔ 3 ≤ 8 * q + j.val) (hwo' : ∀ h, ((wo jj).2 h).s = ![(8 * q + j.val) % 3])
    (hd : ∀ i, (d jj i).map (fun p => p.1.o) = tileOffs (q % 2) (9 * j.val + i.val)) (hd' : ∀ i, (d jj i).map (fun p => p.2.o) = tileOffs ((8 * q + j.val) % 3) i.val)
    (hs : (s jj).IsAt q j) (Q : Unit → sProp 𝕄) :
    iprop(InFl c I.X I.G I.M g j ∗ Done c I q j ∗ Acc c I g (9 * j.val) ∗ Coefs c I q ∗ OutSt c I (8 * q + j.val) ∗ Owes c)
      ⊢ iprop((iprop(Done c I g j ∗ Home c I.X I.G I.M g j ∗ Done c I q j ∗ Acc c I g (9 * j.val + 9) ∗ Coefs c I q ∗ OutSt c I (8 * q + j.val + 1) ∗ Owes c)
            -∗ Wp c (opt n (fun f k => startIn R0 (f jj) k) (pure ⟨⟩)) Q)
        -∗ Wp c (chunkBody R0 ⟨ok8, ok9, some w, some wo, some d, some r, some s, n, rw'⟩ jj) Q) := by
  have hjl := j.isLt
  iintro ⟨HI, HDq, HA, HC, HO, HW⟩ Hk
  unfold chunkBody
  simp only [opt]
  iapply (waitIn_wp c I.X I.G I.M g j (w jj) hw) $$ [HI HW]
  · isplitl [HI]; · iexact HI
    iexact HW
  iintro ⟨HR, HH, HW⟩
  iapply (tick_wp c I (8 * q + j.val) (by omega) (wo jj) hwo hwo') $$ [HO HW]
  · isplitl [HO]; · iexact HO
    iexact HW
  unfold Sending
  iintro ⟨⟨HS, Hd, Ho⟩, HW⟩
  ihave H := (red_in c I g j) $$ [HR HA]
  · isplitl [HR]; · iexact HR
    iexact HA
  icases H with ⟨HR, Hb⟩
  ihave H := (dx_in c I q j) $$ [HDq HC HS]
  · isplitl [HDq]; · iexact HDq
    isplitl [HC]; · iexact HC
    iexact HS
  icases H with ⟨HX, Hx⟩
  iapply (loopRD c I g q j j.isLt ok9 _ jj d r ⟨rfl, rfl⟩ hd hd' hr) $$ [HX HR]
  · isplitl [HX]; · iexact HX
    iexact HR
  iintro ⟨HX, HR⟩
  ispecialize Hb $$ HR
  icases Hb with ⟨HD, HA⟩
  ispecialize Hx $$ HX
  icases Hx with ⟨HDq, HC, HS, HS'⟩
  rw [show (8 * q + j.val) / 8 = q by omega, show (8 * q + j.val) % 8 = j.val by omega]
  iapply (send_wp c I q j (s jj) hs) $$ [HS HS' Hd Ho]
  · isplitl [HS]; · iexact HS
    isplitl [HS']; · iexact HS'
    isplitl [Hd]; · iexact Hd
    iexact Ho
  iintro HO
  iapply Hk
  isplitl [HD]; · iexact HD
  isplitl [HH]; · iexact HH
  isplitl [HDq]; · iexact HDq
  isplitl [HA]; · iexact HA
  isplitl [HC]; · iexact HC
  isplitl [HO]; · iexact HO
  iexact HW

/-- The last group's chunk: its `dx` rows and its departure. -/
theorem chunkD (q : ℕ) (j : Fin 8) (hq : q < 6) (ok8 : loop8.OK) (ok9 : loop9.OK) (wo : (j : Fin loop8.trips) → (cc : BitVec 1) ×' (cc = 1#1 → SendOff))
    (d : Fin loop8.trips → Fin loop9.trips → List (RdOff × OutOff)) (s : Fin loop8.trips → SendOff)
    (jj : Fin loop8.trips)
    (hwo : (wo jj).1 = 1#1 ↔ 3 ≤ 8 * q + j.val) (hwo' : ∀ h, ((wo jj).2 h).s = ![(8 * q + j.val) % 3])
    (hd : ∀ i, (d jj i).map (fun p => p.1.o) = tileOffs (q % 2) (9 * j.val + i.val)) (hd' : ∀ i, (d jj i).map (fun p => p.2.o) = tileOffs ((8 * q + j.val) % 3) i.val)
    (hs : (s jj).IsAt q j) (Q : Unit → sProp 𝕄) :
    iprop(Done c I q j ∗ Coefs c I q ∗ OutSt c I (8 * q + j.val) ∗ Owes c)
      ⊢ iprop((iprop(Done c I q j ∗ Coefs c I q ∗ OutSt c I (8 * q + j.val + 1) ∗ Owes c) -∗ Wp c (pure ()) Q)
        -∗ Wp c (chunkBody R0 ⟨ok8, ok9, none, some wo, some d, none, some s, none, none⟩ jj) Q) := by
  have hjl := j.isLt
  iintro ⟨HDq, HC, HO, HW⟩ Hk
  unfold chunkBody
  simp only [opt]
  iapply (tick_wp c I (8 * q + j.val) (by omega) (wo jj) hwo hwo') $$ [HO HW]
  · isplitl [HO]; · iexact HO
    iexact HW
  unfold Sending
  iintro ⟨⟨HS, Hd, Ho⟩, HW⟩
  ihave H := (dx_in c I q j) $$ [HDq HC HS]
  · isplitl [HDq]; · iexact HDq
    isplitl [HC]; · iexact HC
    iexact HS
  icases H with ⟨HX, Hx⟩
  iapply (loopD c I q j j.isLt ok9 _ jj d ⟨rfl, rfl⟩ hd hd') $$ HX
  iintro HX
  ispecialize Hx $$ HX
  icases Hx with ⟨HDq, HC, HS, HS'⟩
  rw [show (8 * q + j.val) / 8 = q by omega, show (8 * q + j.val) % 8 = j.val by omega]
  iapply (send_wp c I q j (s jj) hs) $$ [HS HS' Hd Ho]
  · isplitl [HS]; · iexact HS
    isplitl [HS']; · iexact HS'
    isplitl [Hd]; · iexact Hd
    iexact Ho
  iintro HO
  iapply Hk
  isplitl [HDq]; · iexact HDq
  isplitl [HC]; · iexact HC
  isplitl [HO]; · iexact HO
  iexact HW

/-! ## The eight chunks -/

/-- A trip's chunk. -/
abbrev jOf (k : Fin loop8.trips) : Fin 8 := ⟨k.val, lt_of_lt_of_eq k.isLt trips8⟩

/-- A loop over the chunks, chunk by chunk, with a state that goes along. -/
theorem cols_wp (ok : loop8.OK) (body : Fin loop8.trips → Unit → Prog (TpuEff nD τ sig (Elt F) Λ₀ .tc) Unit) (P P' : Fin 8 → sProp 𝕄) (S : ℕ → sProp 𝕄)
    (hb : ∀ k : Fin loop8.trips, iprop(P (jOf k) ∗ S k.val) ⊢ Wp c (body k ()) (fun _ => iprop(P' (jOf k) ∗ S (k.val + 1)))) (kk : Prog (TpuEff nD τ sig (Elt F) Λ₀ .tc) Unit) (Q : Unit → sProp 𝕄) :
    iprop(bigSep Finset.univ P ∗ S 0) ⊢ iprop((iprop(bigSep Finset.univ P' ∗ S 8) -∗ Wp c kk Q) -∗ Wp c (Scf.Loop.for loop8 ok () body >>= fun _ => kk) Q) := by
  have h := loop_wp c loop8 8 trips8 ok body (fun n => iprop(bigSep Finset.univ (fun j : Fin 8 => if j.val < n then P' j else P j) ∗ S n)) (fun k hk => by
    have hu := bigSep_univ_update (Φ := fun j : Fin 8 => if j.val < k.val then P' j else P j) (Ψ := fun j : Fin 8 => if j.val < k.val + 1 then P' j else P j) (jOf k) (fun j hj => by
      have hj' : j.val ≠ k.val := fun h => hj (Fin.ext h)
      show (if _ then _ else _) = (if _ then _ else _)
      by_cases h : j.val < k.val
      · rw [if_pos h, if_pos (by omega)]
      · rw [if_neg h, if_neg (by omega)])
    rw [if_neg (lt_irrefl _), if_pos (Nat.lt_succ_self _)] at hu
    iintro ⟨HB, HS⟩
    ihave H := hu $$ HB
    icases H with ⟨HP, HB⟩
    iapply (wp_wand_r frame (wpE (defs₀ (F := F)) 𝒱₀ (c : Thread nD τ) none) Set.univ)
    isplitl [HP HS]
    · iapply (hb k)
      isplitl [HP]; · iexact HP
      iexact HS
    iintro %_ ⟨HP, HS⟩
    isplitl [HP HB]
    · iapply HB; iexact HP
    iexact HS) kk Q
  have e0 : bigSep Finset.univ (fun j : Fin 8 => if j.val < 0 then P' j else P j) = bigSep Finset.univ P := bigSep_congr fun j _ => if_neg (Nat.not_lt_zero _)
  have e8 : bigSep Finset.univ (fun j : Fin 8 => if j.val < 8 then P' j else P j) = bigSep Finset.univ P' := bigSep_congr fun j _ => if_pos j.isLt
  rw [e0, e8] at h
  exact h

abbrev BInF (g : ℕ) : sProp 𝕄 := bigSep Finset.univ (fun j : Fin 8 => InFl c I.X I.G I.M g j)
abbrev BD (g : ℕ) : sProp 𝕄 := bigSep Finset.univ (fun j : Fin 8 => Done c I g j)
abbrev BH (g : ℕ) : sProp 𝕄 := bigSep Finset.univ (fun j : Fin 8 => Home c I.X I.G I.M g j)
abbrev BF (g : ℕ) : sProp 𝕄 := bigSep Finset.univ (fun j : Fin 8 => Free (F := F) c g j)

/-! ## A phase -/

/-- What every phase keeps: the statistics given and made, the ones, the accumulators. -/
def Mid (g : ℕ) (fb fg : S6x128.Idx → Elt F .f32) : sProp 𝕄 := iprop(Stats c I ∗ Rows c I g fb fg ∗ ptN c k0_pay733 ∗ ∃ f, ptA c f)

/-- A phase that sums: cleared, the chunks, the group's statistics. -/
theorem row_phase (g : ℕ) (hg : g < 6) (ro : RowOff) (ho : ro.o = ![g, 0]) (fb fg : S6x128.Idx → Elt F .f32) (Ph : Phase) (hr : Ph.row = some ro)
    (P P' : Fin 8 → sProp 𝕄) (S : ℕ → sProp 𝕄) (T : sProp 𝕄)
    (hb : ∀ k : Fin loop8.trips, iprop(P (jOf k) ∗ (Acc c I g (9 * k.val) ∗ S k.val)) ⊢ Wp c (chunkBody R0 Ph k) (fun _ => iprop(P' (jOf k) ∗ (Acc c I g (9 * (k.val + 1)) ∗ S (k.val + 1)))))
    (hC : S 8 ⊢ iprop((∃ fc, ptC c fc) ∗ T)) (kk : Prog (TpuEff nD τ sig (Elt F) Λ₀ .tc) Unit) (Q : Unit → sProp 𝕄) :
    iprop(bigSep Finset.univ P ∗ S 0 ∗ Mid c I g fb fg)
      ⊢ iprop((iprop(bigSep Finset.univ P' ∗ T ∗ Mid c I (g + 1) fb fg ∗ Coefs c I g) -∗ Wp c kk Q) -∗ Wp c (phase R0 I.xs I.ys Ph kk) Q) := by
  unfold Mid
  iintro ⟨HP, HS, Hst, Hrows, HN, ⟨%fa, HA⟩⟩ Hk
  unfold phase
  rw [hr]
  simp only [opt, Prog.lift, Prog.bind_op, Prog.bind_ret]
  iapply (wp_load_rect 𝒱₀ (c : Thread nD τ) none Set.univ (m := AM) (r := rAw) (S := Finset.univ) (f := fa) (Finset.subset_univ _)) $$ HA
  iintro HA
  iapply (wp_store 𝒱₀ (c : Thread nD τ) none Set.univ (m := AM) (r := rAw) (S := Finset.univ) (f := fa) (Finset.subset_univ _)) $$ HA
  iintro HA
  iapply (cols_wp c Ph.ok8 (fun j _ => chunkBody R0 Ph j) P P' (fun n => iprop(Acc c I g (9 * n) ∗ S n)) hb) $$ [HP HS HN HA]
  · isplitl [HP]; · iexact HP
    isplitl [HN HA]
    · unfold Acc
      isplitl [HN]; · iexact HN
      rw [show accAt I g (9 * 0) = accAt I g 0 from rfl, ← acc_clear I fa g]
      iexact HA
    iexact HS
  iintro ⟨HP, HA, HS⟩
  ihave H := hC $$ HS
  icases H with ⟨HC, HT⟩
  iapply (finish_wp c I g hg ro ho fb fg) $$ [Hst Hrows HA HC]
  · isplitl [Hst]; · iexact Hst
    isplitl [Hrows]; · iexact Hrows
    isplitl [HA]; · iexact HA
    iexact HC
  iintro ⟨Hst, Hrows, HA, HC⟩
  iapply Hk
  isplitl [HP]; · iexact HP
  isplitl [HT]; · iexact HT
  isplitr [HC]
  · isplitl [Hst]; · iexact Hst
    isplitl [Hrows]; · iexact Hrows
    unfold Acc
    icases HA with ⟨HN, HA⟩
    isplitl [HN]; · iexact HN
    iexists _; iexact HA
  iexact HC

/-- The first phase. -/
theorem phaseA (g : ℕ) (hg : g < 6) (ro : RowOff) (ho : ro.o = ![g, 0]) (fb fg : S6x128.Idx → Elt F .f32) (ok8 : loop8.OK) (ok9 : loop9.OK)
    (w : Fin loop8.trips → InOff) (r : Fin loop8.trips → Fin loop9.trips → List TileOff)
    (hw : ∀ j, (w j).IsAt g j) (hr : ∀ j i, (r j i).map TileOff.o = tileOffs (g % 2) (9 * j.val + i.val)) (kk : Prog (TpuEff nD τ sig (Elt F) Λ₀ .tc) Unit) (Q : Unit → sProp 𝕄) :
    iprop(BInF c I g ∗ ((∃ fc, ptC c fc) ∗ Owes c) ∗ Mid c I g fb fg)
      ⊢ iprop((iprop(bigSep Finset.univ (fun j : Fin 8 => iprop(Done c I g j ∗ Home c I.X I.G I.M g j)) ∗ Owes c ∗ Mid c I (g + 1) fb fg ∗ Coefs c I g) -∗ Wp c kk Q)
        -∗ Wp c (phase R0 I.xs I.ys ⟨ok8, ok9, some w, none, none, some r, none, none, some ro⟩ kk) Q) :=
  row_phase c I g hg ro ho fb fg ⟨ok8, ok9, some w, none, none, some r, none, none, some ro⟩ rfl _ _ (fun _ => iprop((∃ fc, ptC c fc) ∗ Owes c)) _ (fun k => by
    iintro ⟨HI, HA, HC, HW⟩
    iapply (chunkA c I g (jOf k) ok8 ok9 w r (some ro) k (hw k) (hr k)) $$ [HI HA HW]
    · isplitl [HI]; · iexact HI
      isplitl [HA]; · iexact HA
      iexact HW
    iintro ⟨HD, HH, HA, HW⟩
    iapply (pure_wp c _ _ .rfl)
    isplitl [HD HH]
    · isplitl [HD]; · iexact HD
      iexact HH
    isplitl [HA]; · iexact HA
    isplitl [HC]; · iexact HC
    iexact HW) .rfl kk Q

/-- What a phase that also writes `dx` carries from chunk to chunk. -/
abbrev Carry (q n : ℕ) : sProp 𝕄 := iprop(Coefs c I q ∗ OutSt c I (8 * q + n) ∗ Owes c)

theorem carry_end (q : ℕ) : Carry c I q 8 ⊢ iprop((∃ fc, ptC c fc) ∗ (OutSt c I (8 * (q + 1)) ∗ Owes c)) := by
  unfold Carry Coefs
  iintro ⟨⟨%fc, -, HC⟩, HO, HW⟩
  isplitl [HC]; · iexists _; iexact HC
  isplitl [HO]; · iexact HO
  iexact HW

section B
variable (q : ℕ) (hq : q + 1 < 6) (ro : RowOff) (ho : ro.o = ![q + 1, 0]) (fb fg : S6x128.Idx → Elt F .f32) (ok8 : loop8.OK) (ok9 : loop9.OK)
    (w : Fin loop8.trips → InOff) (wo : (j : Fin loop8.trips) → (cc : BitVec 1) ×' (cc = 1#1 → SendOff))
    (d : Fin loop8.trips → Fin loop9.trips → List (RdOff × OutOff)) (r : Fin loop8.trips → Fin loop9.trips → List TileOff) (s : Fin loop8.trips → SendOff)
    (hw : ∀ j, (w j).IsAt (q + 1) j) (hr : ∀ j i, (r j i).map TileOff.o = tileOffs ((q + 1) % 2) (9 * j.val + i.val))
    (hwo : ∀ j, (wo j).1 = 1#1 ↔ 3 ≤ 8 * q + j.val) (hwo' : ∀ j h, ((wo j).2 h).s = ![(8 * q + j.val) % 3])
    (hd : ∀ j i, (d j i).map (fun p => p.1.o) = tileOffs (q % 2) (9 * j.val + i.val)) (hd' : ∀ j i, (d j i).map (fun p => p.2.o) = tileOffs ((8 * q + j.val) % 3) i.val)
    (hs : ∀ j, (s j).IsAt q j)
include hq ho hw hr hwo hwo' hd hd' hs

/-- A middle phase: the next group's arrivals started as the chunks are let go. -/
theorem phaseB (hq2 : q + 2 < 6) (n : Fin loop8.trips → InOff) (hn : ∀ j, (n j).IsAt (q + 2) j) (kk : Prog (TpuEff nD τ sig (Elt F) Λ₀ .tc) Unit) (Q : Unit → sProp 𝕄) :
    iprop(bigSep Finset.univ (fun j : Fin 8 => iprop(InFl c I.X I.G I.M (q + 1) j ∗ Done c I q j ∗ Home c I.X I.G I.M (q + 2) j)) ∗ Carry c I q 0 ∗ Mid c I (q + 1) fb fg)
      ⊢ iprop((iprop(bigSep Finset.univ (fun j : Fin 8 => iprop(Done c I (q + 1) j ∗ Home c I.X I.G I.M (q + 1) j ∗ InFl c I.X I.G I.M (q + 2) j)) ∗ (OutSt c I (8 * (q + 1)) ∗ Owes c) ∗ Mid c I (q + 2) fb fg ∗ Coefs c I (q + 1)) -∗ Wp c kk Q)
        -∗ Wp c (phase R0 I.xs I.ys ⟨ok8, ok9, some w, some wo, some d, some r, some s, some n, some ro⟩ kk) Q) :=
  row_phase c I (q + 1) hq ro ho fb fg ⟨ok8, ok9, some w, some wo, some d, some r, some s, some n, some ro⟩ rfl _ _ (fun n => Carry c I q n) _ (fun k => by
    iintro ⟨⟨HI, HD, HH2⟩, HA, HC, HO, HW⟩
    iapply (chunkB c I (q + 1) q (jOf k) (by omega) ok8 ok9 w wo d r s (some n) (some ro) k (hw k) (hr k) (hwo k) (hwo' k) (hd k) (hd' k) (hs k)) $$ [HI HD HA HC HO HW]
    · isplitl [HI]; · iexact HI
      isplitl [HD]; · iexact HD
      isplitl [HA]; · iexact HA
      isplitl [HC]; · iexact HC
      isplitl [HO]; · iexact HO
      iexact HW
    iintro ⟨HD, HH, HDq, HA, HC, HO, HW⟩
    simp only [opt]
    ihave HF := (free_of_done c I q (jOf k)) $$ HDq
    iapply (startIn_wp c I.X I.G I.M (q + 2) hq2 (jOf k) (n k) (hn k)) $$ [HF HH2]
    · rw [← Free_congr (F := F) c (show q % 2 = (q + 2) % 2 by omega) (jOf k)]
      isplitl [HF]; · iexact HF
      iexact HH2
    iintro HI
    iapply (pure_wp c _ _ .rfl)
    isplitl [HD HH HI]
    · isplitl [HD]; · iexact HD
      isplitl [HH]; · iexact HH
      iexact HI
    isplitl [HA]; · iexact HA
    isplitl [HC]; · iexact HC
    isplitl [HO]; · iexact HO
    iexact HW) (carry_end c I q) kk Q

/-- The last phase that sums: nothing more to arrive. -/
theorem phaseC (kk : Prog (TpuEff nD τ sig (Elt F) Λ₀ .tc) Unit) (Q : Unit → sProp 𝕄) :
    iprop(bigSep Finset.univ (fun j : Fin 8 => iprop(InFl c I.X I.G I.M (q + 1) j ∗ Done c I q j)) ∗ Carry c I q 0 ∗ Mid c I (q + 1) fb fg)
      ⊢ iprop((iprop(bigSep Finset.univ (fun j : Fin 8 => iprop(Done c I (q + 1) j ∗ Home c I.X I.G I.M (q + 1) j ∗ Done c I q j)) ∗ (OutSt c I (8 * (q + 1)) ∗ Owes c) ∗ Mid c I (q + 2) fb fg ∗ Coefs c I (q + 1)) -∗ Wp c kk Q)
        -∗ Wp c (phase R0 I.xs I.ys ⟨ok8, ok9, some w, some wo, some d, some r, some s, none, some ro⟩ kk) Q) :=
  row_phase c I (q + 1) hq ro ho fb fg ⟨ok8, ok9, some w, some wo, some d, some r, some s, none, some ro⟩ rfl _ _ (fun n => Carry c I q n) _ (fun k => by
    iintro ⟨⟨HI, HD⟩, HA, HC, HO, HW⟩
    iapply (chunkB c I (q + 1) q (jOf k) (by omega) ok8 ok9 w wo d r s none (some ro) k (hw k) (hr k) (hwo k) (hwo' k) (hd k) (hd' k) (hs k)) $$ [HI HD HA HC HO HW]
    · isplitl [HI]; · iexact HI
      isplitl [HD]; · iexact HD
      isplitl [HA]; · iexact HA
      isplitl [HC]; · iexact HC
      isplitl [HO]; · iexact HO
      iexact HW
    iintro ⟨HD, HH, HDq, HA, HC, HO, HW⟩
    simp only [opt]
    iapply (pure_wp c _ _ .rfl)
    isplitl [HD HH HDq]
    · isplitl [HD]; · iexact HD
      isplitl [HH]; · iexact HH
      iexact HDq
    isplitl [HA]; · iexact HA
    isplitl [HC]; · iexact HC
    isplitl [HO]; · iexact HO
    iexact HW) (carry_end c I q) kk Q
end B

/-- The last phase: the last group's `dx`. -/
theorem phaseD (q : ℕ) (hq : q < 6) (ok8 : loop8.OK) (ok9 : loop9.OK) (wo : (j : Fin loop8.trips) → (cc : BitVec 1) ×' (cc = 1#1 → SendOff))
    (d : Fin loop8.trips → Fin loop9.trips → List (RdOff × OutOff)) (s : Fin loop8.trips → SendOff)
    (hwo : ∀ j, (wo j).1 = 1#1 ↔ 3 ≤ 8 * q + j.val) (hwo' : ∀ j h, ((wo j).2 h).s = ![(8 * q + j.val) % 3])
    (hd : ∀ j i, (d j i).map (fun p => p.1.o) = tileOffs (q % 2) (9 * j.val + i.val)) (hd' : ∀ j i, (d j i).map (fun p => p.2.o) = tileOffs ((8 * q + j.val) % 3) i.val)
    (hs : ∀ j, (s j).IsAt q j) (kk : Prog (TpuEff nD τ sig (Elt F) Λ₀ .tc) Unit) (Q : Unit → sProp 𝕄) :
    iprop(BD c I q ∗ Carry c I q 0) ⊢ iprop((iprop(BD c I q ∗ Carry c I q 8) -∗ Wp c kk Q)
        -∗ Wp c (phase R0 I.xs I.ys ⟨ok8, ok9, none, some wo, some d, none, some s, none, none⟩ kk) Q) := by
  unfold phase
  simp only [opt]
  exact cols_wp c ok8 (fun j _ => chunkBody R0 ⟨ok8, ok9, none, some wo, some d, none, some s, none, none⟩ j) _ _ (fun n => Carry c I q n) (fun k => by
    iintro ⟨HD, HC, HO, HW⟩
    iapply (chunkD c I q (jOf k) hq ok8 ok9 wo d s k (hwo k) (hwo' k) (hd k) (hd' k) (hs k)) $$ [HD HC HO HW]
    · isplitl [HD]; · iexact HD
      isplitl [HC]; · iexact HC
      isplitl [HO]; · iexact HO
      iexact HW
    iintro ⟨HD, HC, HO, HW⟩
    iapply (pure_wp c _ _ .rfl)
    isplitl [HD]; · iexact HD
    isplitl [HC]; · iexact HC
    isplitl [HO]; · iexact HO
    iexact HW) kk Q

/-- The first arrivals of a group. -/
theorem start_wp (g : ℕ) (hg : g < 6) (ok : loop8.OK) (p : Fin loop8.trips → InOff) (hp : ∀ j, (p j).IsAt g j) (kk : Prog (TpuEff nD τ sig (Elt F) Λ₀ .tc) Unit) (Q : Unit → sProp 𝕄) :
    bigSep Finset.univ (fun j : Fin 8 => iprop(Free c g j ∗ Home c I.X I.G I.M g j))
      ⊢ iprop((BInF c I g -∗ Wp c kk Q) -∗ Wp c (Scf.Loop.for loop8 ok () (fun j (_ : Unit) => startIn R0 (p j) (pure ⟨⟩)) >>= fun _ => kk) Q) := by
  have h := cols_wp c ok (fun j _ => startIn R0 (p j) (pure ⟨⟩)) (fun j : Fin 8 => iprop(Free c g j ∗ Home c I.X I.G I.M g j)) (fun j : Fin 8 => InFl c I.X I.G I.M g j) (fun _ => iprop(⌜True⌝)) (fun k => by
    iintro ⟨HF, -⟩
    iapply (startIn_wp c I.X I.G I.M g hg (jOf k) (p k) (hp k)) $$ HF
    iintro HI
    iapply (pure_wp c _ _ .rfl)
    isplitl [HI]; · iexact HI
    ipureintro; trivial) kk Q
  iintro HB Hk
  iapply h $$ [HB]
  · isplitl [HB]; · iexact HB
    ipureintro; trivial
  iintro ⟨HB, -⟩
  iapply Hk
  iexact HB

end Cert.Kernel.Hand
-- ==== Proof.K.Run.lean ====
/-
  The kernel run whole: the ones, the first two groups' arrivals, the seven phases, the last three departures.
-/
module

public import proofs.«01_k».proof.Proof.K.Phases

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (I : Ins F)

/-! ## The last departures -/

/-- The departures once every chunk has been sent and `n` of the last three are home. -/
def lastSt (n : ℕ) (T : Fin 48) : sProp 𝕄 := if T.val < 45 + n then hpD c (T.val / 8) (T.val % 8) (DV I) else dSt c I 48 T

theorem last_start : OutSt c I 48 ⊢ bigSep Finset.univ (lastSt c I 0) := by
  unfold OutSt
  iintro ⟨H, -⟩
  rw [show bigSep Finset.univ (lastSt c I 0) = bigSep Finset.univ (dSt c I 48) from bigSep_congr fun T _ => by
    unfold lastSt
    by_cases h : T.val < 45 + 0
    · rw [if_pos h]; unfold dSt; rw [if_pos (by omega)]
    · rw [if_neg h]]
  iexact H

theorem last_end : bigSep Finset.univ (lastSt c I 3) = bigSep Finset.univ (fun T : Fin 48 => hpD c (T.val / 8) (T.val % 8) (DV I)) :=
  bigSep_congr fun T _ => by unfold lastSt; rw [if_pos (by have := T.isLt; omega)]

theorem last_wp (b : Fin 3) (n : SendOff) (hs : n.s = ![b.val]) (kk : Prog (TpuEff nD τ sig (Elt F) Λ₀ .tc) Unit) (Q : Unit → sProp 𝕄) :
    iprop(bigSep Finset.univ (lastSt c I b.val) ∗ Owes c)
      ⊢ iprop((iprop(bigSep Finset.univ (lastSt c I (b.val + 1)) ∗ StFree c b ∗ Owes c) -∗ Wp c kk Q) -∗ Wp c (waitOut R0 n kk) Q) := by
  have hbl := b.isLt
  have hu := bigSep_univ_update (Φ := lastSt c I b.val) (Ψ := lastSt c I (b.val + 1)) (⟨45 + b.val, by omega⟩ : Fin 48) (fun j hj => by
    have hj' : j.val ≠ 45 + b.val := fun h => hj (Fin.ext h)
    unfold lastSt
    by_cases h : j.val < 45 + b.val
    · rw [if_pos h, if_pos (by omega)]
    · rw [if_neg h, if_neg (by omega)])
  have e0 : lastSt c I b.val (⟨45 + b.val, by omega⟩ : Fin 48) = OutFl c b 5 (5 + b.val) (DV I) := by
    have eb : (⟨(45 + b.val) % 3, Nat.mod_lt _ (by decide)⟩ : Fin 3) = b := Fin.ext (by show (45 + b.val) % 3 = b.val; omega)
    unfold lastSt; rw [if_neg (by show ¬ 45 + b.val < 45 + b.val; omega)]
    unfold dSt; rw [if_neg (by show ¬ 45 + b.val + 3 < 48; omega), if_pos (by show 45 + b.val < 48; omega)]
    show OutFl c ⟨(45 + b.val) % 3, _⟩ ((45 + b.val) / 8) ((45 + b.val) % 8) (DV I) = _
    rw [eb, show (45 + b.val) / 8 = 5 by omega, show (45 + b.val) % 8 = 5 + b.val by omega]
  have e1 : lastSt c I (b.val + 1) (⟨45 + b.val, by omega⟩ : Fin 48) = hpD c 5 (5 + b.val) (DV I) := by
    unfold lastSt; rw [if_pos (by show 45 + b.val < 45 + (b.val + 1); omega)]
    show hpD c ((45 + b.val) / 8) ((45 + b.val) % 8) (DV I) = _
    rw [show (45 + b.val) / 8 = 5 by omega, show (45 + b.val) % 8 = 5 + b.val by omega]
  rw [e0, e1] at hu
  iintro ⟨HB, HW⟩ Hk
  ihave H := hu $$ HB
  icases H with ⟨HF, HB⟩
  iapply (waitOut_wp c 5 (5 + b.val) b n hs (DV I)) $$ [HF HW]
  · isplitl [HF]; · iexact HF
    iexact HW
  iintro ⟨HD, HS, HW⟩
  iapply Hk
  isplitl [HD HB]
  · iapply HB; iexact HD
  isplitl [HS]; · iexact HS
  iexact HW

/-! ## The whole -/

abbrev rS : Rect S1 := Rect.unit (s := S1) ![0] S1.size inb_S1_S1_0
/-- The one word of a scalar's buffer. -/
abbrev iS : rS.shape.Idx := Shape.Idx.first (numel1_S1.symm ▸ Nat.one_pos)
abbrev ptXs (f : S1.Idx → Elt F .f32) : sProp 𝕄 := xsM.view.loc (c : Thread nD τ) ↦[Finset.univ]{fullShare} f
abbrev ptYs (f : S1.Idx → Elt F .f32) : sProp 𝕄 := ysM.view.loc (c : Thread nD τ) ↦[Finset.univ]{fullShare} f

/-- Every block of the three arrays, home. -/
def Homes : sProp 𝕄 := iprop(BH c I 0 ∗ BH c I 1 ∗ BH c I 2 ∗ BH c I 3 ∗ BH c I 4 ∗ BH c I 5)
/-- Scratch no block of which is followed. -/
def Loose : sProp 𝕄 := iprop((∃ f, ptN (F := F) c f) ∗ (∃ f, ptA (F := F) c f) ∗ ∃ f, ptC (F := F) c f)

theorem mix2 (P P' : Fin 8 → sProp 𝕄) : iprop(bigSep Finset.univ P ∗ bigSep Finset.univ P') = bigSep Finset.univ (fun j => iprop(P j ∗ P' j)) :=
  (Idealize.SL.BI.bigSep_sep _ _ _).symm
theorem mix3 (P P' P'' : Fin 8 → sProp 𝕄) : iprop(bigSep Finset.univ P ∗ bigSep Finset.univ P' ∗ bigSep Finset.univ P'') = bigSep Finset.univ (fun j => iprop(P j ∗ P' j ∗ P'' j)) := by
  rw [mix2, mix2]

abbrev rN : Rect S16x128 := Rect.unit (s := S16x128) ![0, 0] S16x128.size inb_S16x128_S16x128_0_0

/-- The ones written. -/
theorem ones_wp (w : S16x128.Idx → Elt F .bf16) (hw : w = k0_pay733) (f : S16x128.Idx → Elt F .bf16) {hl} {hs} {hs'} (kk : Prog (TpuEff nD τ sig (Elt F) Λ₀ .tc) Unit) (Q : Unit → sProp 𝕄) :
    ptN c f ⊢ iprop((ptN c w -∗ Wp c kk Q)
      -∗ Wp c (.op (.load NM rN.toLoadRect hl) fun _ => .op (.store NM rN (k0_pay733 (F := F)) Finset.univ hs hs') fun _ => kk) Q) := by
  iintro HN Hk
  iapply (wp_load_rect 𝒱₀ (c : Thread nD τ) none Set.univ (m := NM) (r := rN) (S := Finset.univ) (f := f) (Finset.subset_univ _)) $$ HN
  iintro HN
  iapply (wp_store 𝒱₀ (c : Thread nD τ) none Set.univ (m := NM) (r := rN) (S := Finset.univ) (f := f) (Finset.subset_univ _)) $$ HN
  iintro HN
  iapply Hk
  rw [hw.trans (ones_put f).symm]
  iexact HN

theorem p0_wp (fb fg : S6x128.Idx → Elt F .f32) (kk : Prog (TpuEff nD τ sig (Elt F) Λ₀ .tc) Unit) (Q : Unit → sProp 𝕄) :
    iprop(BInF c I 0 ∗ ((∃ fc, ptC c fc) ∗ Owes c) ∗ Mid c I 0 fb fg)
      ⊢ iprop((iprop((BD c I 0 ∗ BH c I 0) ∗ Owes c ∗ Mid c I 1 fb fg ∗ Coefs c I 0) -∗ Wp c kk Q) -∗ Wp c (phase R0 I.xs I.ys ph0 kk) Q) := by
  rw [mix2]
  exact phaseA c I 0 (by decide) ⟨![0, 0], inb_S6x128_S1x128_0_0⟩ rfl fb fg k0_t3_ok k0_t4_ok win0 red0 win0_at red0_at kk Q

theorem p1_wp (fb fg : S6x128.Idx → Elt F .f32) (kk : Prog (TpuEff nD τ sig (Elt F) Λ₀ .tc) Unit) (Q : Unit → sProp 𝕄) :
    iprop((BInF c I 1 ∗ BD c I 0 ∗ BH c I 2) ∗ (Coefs c I 0 ∗ OutSt c I 0 ∗ Owes c) ∗ Mid c I 1 fb fg)
      ⊢ iprop((iprop((BD c I 1 ∗ BH c I 1 ∗ BInF c I 2) ∗ (OutSt c I 8 ∗ Owes c) ∗ Mid c I 2 fb fg ∗ Coefs c I 1) -∗ Wp c kk Q) -∗ Wp c (phase R0 I.xs I.ys ph1 kk) Q) := by
  rw [mix3, mix3]
  exact phaseB c I 0 (by decide) ⟨![1, 0], inb_S6x128_S1x128_1_0⟩ rfl fb fg k0_t5_ok k0_t6_ok win1 wout1 dx1 red1 send1 win1_at red1_at wout1_iff wout1_at dx1_rd dx1_wr send1_at (by decide) nxt1 nxt1_at kk Q

theorem p2_wp (fb fg : S6x128.Idx → Elt F .f32) (kk : Prog (TpuEff nD τ sig (Elt F) Λ₀ .tc) Unit) (Q : Unit → sProp 𝕄) :
    iprop((BInF c I 2 ∗ BD c I 1 ∗ BH c I 3) ∗ (Coefs c I 1 ∗ OutSt c I 8 ∗ Owes c) ∗ Mid c I 2 fb fg)
      ⊢ iprop((iprop((BD c I 2 ∗ BH c I 2 ∗ BInF c I 3) ∗ (OutSt c I 16 ∗ Owes c) ∗ Mid c I 3 fb fg ∗ Coefs c I 2) -∗ Wp c kk Q) -∗ Wp c (phase R0 I.xs I.ys ph2 kk) Q) := by
  rw [mix3, mix3]
  exact phaseB c I 1 (by decide) ⟨![2, 0], inb_S6x128_S1x128_2_0⟩ rfl fb fg k0_t7_ok k0_t8_ok win2 wout2 dx2 red2 send2 win2_at red2_at wout2_iff wout2_at dx2_rd dx2_wr send2_at (by decide) nxt2 nxt2_at kk Q

theorem p3_wp (fb fg : S6x128.Idx → Elt F .f32) (kk : Prog (TpuEff nD τ sig (Elt F) Λ₀ .tc) Unit) (Q : Unit → sProp 𝕄) :
    iprop((BInF c I 3 ∗ BD c I 2 ∗ BH c I 4) ∗ (Coefs c I 2 ∗ OutSt c I 16 ∗ Owes c) ∗ Mid c I 3 fb fg)
      ⊢ iprop((iprop((BD c I 3 ∗ BH c I 3 ∗ BInF c I 4) ∗ (OutSt c I 24 ∗ Owes c) ∗ Mid c I 4 fb fg ∗ Coefs c I 3) -∗ Wp c kk Q) -∗ Wp c (phase R0 I.xs I.ys ph3 kk) Q) := by
  rw [mix3, mix3]
  exact phaseB c I 2 (by decide) ⟨![3, 0], inb_S6x128_S1x128_3_0⟩ rfl fb fg k0_t9_ok k0_t10_ok win3 wout3 dx3 red3 send3 win3_at red3_at wout3_iff wout3_at dx3_rd dx3_wr send3_at (by decide) nxt3 nxt3_at kk Q

theorem p4_wp (fb fg : S6x128.Idx → Elt F .f32) (kk : Prog (TpuEff nD τ sig (Elt F) Λ₀ .tc) Unit) (Q : Unit → sProp 𝕄) :
    iprop((BInF c I 4 ∗ BD c I 3 ∗ BH c I 5) ∗ (Coefs c I 3 ∗ OutSt c I 24 ∗ Owes c) ∗ Mid c I 4 fb fg)
      ⊢ iprop((iprop((BD c I 4 ∗ BH c I 4 ∗ BInF c I 5) ∗ (OutSt c I 32 ∗ Owes c) ∗ Mid c I 5 fb fg ∗ Coefs c I 4) -∗ Wp c kk Q) -∗ Wp c (phase R0 I.xs I.ys ph4 kk) Q) := by
  rw [mix3, mix3]
  exact phaseB c I 3 (by decide) ⟨![4, 0], inb_S6x128_S1x128_4_0⟩ rfl fb fg k0_t11_ok k0_t12_ok win4 wout4 dx4 red4 send4 win4_at red4_at wout4_iff wout4_at dx4_rd dx4_wr send4_at (by decide) nxt4 nxt4_at kk Q

theorem p5_wp (fb fg : S6x128.Idx → Elt F .f32) (kk : Prog (TpuEff nD τ sig (Elt F) Λ₀ .tc) Unit) (Q : Unit → sProp 𝕄) :
    iprop((BInF c I 5 ∗ BD c I 4) ∗ (Coefs c I 4 ∗ OutSt c I 32 ∗ Owes c) ∗ Mid c I 5 fb fg)
      ⊢ iprop((iprop((BD c I 5 ∗ BH c I 5 ∗ BD c I 4) ∗ (OutSt c I 40 ∗ Owes c) ∗ Mid c I 6 fb fg ∗ Coefs c I 5) -∗ Wp c kk Q) -∗ Wp c (phase R0 I.xs I.ys ph5 kk) Q) := by
  rw [mix2, mix3]
  exact phaseC c I 4 (by decide) ⟨![5, 0], inb_S6x128_S1x128_5_0⟩ rfl fb fg k0_t13_ok k0_t14_ok win5 wout5 dx5 red5 send5 win5_at red5_at wout5_iff wout5_at dx5_rd dx5_wr send5_at kk Q

theorem p6_wp (kk : Prog (TpuEff nD τ sig (Elt F) Λ₀ .tc) Unit) (Q : Unit → sProp 𝕄) :
    iprop(BD c I 5 ∗ Coefs c I 5 ∗ OutSt c I 40 ∗ Owes c)
      ⊢ iprop((iprop(BD c I 5 ∗ Coefs c I 5 ∗ OutSt c I 48 ∗ Owes c) -∗ Wp c kk Q) -∗ Wp c (phase R0 I.xs I.ys ph6 kk) Q) :=
  phaseD c I 5 (by decide) k0_t15_ok k0_t16_ok wout6 dx6 send6 wout6_iff wout6_at dx6_rd dx6_wr send6_at kk Q

theorem kern_wp (fx fy : S1.Idx → Elt F .f32) (hx : (xsM.access rS).read (Elt F) fx iS = I.xs) (hy : (ysM.access rS).read (Elt F) fy iS = I.ys)
    (fb fg : S6x128.Idx → Elt F .f32) (Q : Unit → sProp 𝕄) :
    iprop(ptXs c fx ∗ ptYs c fy ∗ Stats c I ∗ Rows c I 0 fb fg ∗ Loose c ∗ BF c 0 ∗ BF c 1 ∗ Homes c I ∗ OutSt c I 0 ∗ Owes c)
      ⊢ iprop((iprop(ptXs c fx ∗ ptYs c fy ∗ Stats c I ∗ Rows c I 6 fb fg ∗ Loose c ∗ BF c 0 ∗ BF c 1 ∗ Homes c I
            ∗ bigSep Finset.univ (fun T : Fin 48 => hpD c (T.val / 8) (T.val % 8) (DV I)) ∗ (StFree c 0 ∗ StFree c 1 ∗ StFree c 2) ∗ Owes c) -∗ Q ())
        -∗ Wp c (kern R0 k0_t1_ok pro0 pro1 [ph0, ph1, ph2, ph3, ph4, ph5, ph6] fin0 fin1 fin2) Q) := by
  unfold Loose Homes
  iintro ⟨Hx, Hy, Hst, Hr, ⟨⟨%fn, HN⟩, HA, HC⟩, HF0, HF1, ⟨H0, H1, H2, H3, H4, H5⟩, HO, HW⟩ Hk
  unfold kern smemLoad
  simp only [smemLoadElt, Prog.lift, Prog.bind_op, Prog.bind_ret]
  iapply (wp_load_rect 𝒱₀ (c : Thread nD τ) none Set.univ (m := xsM) (r := rS) (S := Finset.univ) (f := fx) (Finset.subset_univ _)) $$ Hx
  iintro Hx
  iapply (wp_load_rect 𝒱₀ (c : Thread nD τ) none Set.univ (m := ysM) (r := rS) (S := Finset.univ) (f := fy) (Finset.subset_univ _)) $$ Hy
  iintro Hy
  rw [hx, hy]
  iapply (ones_wp c _ rfl fn) $$ HN
  iintro HN
  iapply (start_wp c I 0 (by decide) k0_t1_ok pro0 pro0_at) $$ [HF0 H0]
  · rw [← mix2]
    isplitl [HF0]; · iexact HF0
    iexact H0
  iintro HI0
  iapply (start_wp c I 1 (by decide) k0_t1_ok pro1 pro1_at) $$ [HF1 H1]
  · rw [← mix2]
    isplitl [HF1]; · iexact HF1
    iexact H1
  iintro HI1
  simp only [phases]
  -- phase 0
  iapply (p0_wp c I fb fg) $$ [HI0 HC HW Hst Hr HN HA]
  · isplitl [HI0]; · iexact HI0
    isplitl [HC HW]
    · isplitl [HC]; · iexact HC
      iexact HW
    unfold Mid
    isplitl [Hst]; · iexact Hst
    isplitl [Hr]; · iexact Hr
    isplitl [HN]; · iexact HN
    iexact HA
  iintro ⟨⟨HD, H0⟩, HW, HM, HC⟩
  -- phase 1
  iapply (p1_wp c I fb fg) $$ [HI1 HD H2 HM HC HO HW]
  · isplitl [HI1 HD H2]
    · isplitl [HI1]; · iexact HI1
      isplitl [HD]; · iexact HD
      iexact H2
    isplitr [HM]
    · isplitl [HC]; · iexact HC
      isplitl [HO]; · iexact HO
      iexact HW
    iexact HM
  iintro ⟨⟨HD, H1, HI2⟩, ⟨HO, HW⟩, HM, HC⟩
  -- phase 2
  iapply (p2_wp c I fb fg) $$ [HI2 HD H3 HM HC HO HW]
  · isplitl [HI2 HD H3]
    · isplitl [HI2]; · iexact HI2
      isplitl [HD]; · iexact HD
      iexact H3
    isplitr [HM]
    · isplitl [HC]; · iexact HC
      isplitl [HO]; · iexact HO
      iexact HW
    iexact HM
  iintro ⟨⟨HD, H2, HI3⟩, ⟨HO, HW⟩, HM, HC⟩
  -- phase 3
  iapply (p3_wp c I fb fg) $$ [HI3 HD H4 HM HC HO HW]
  · isplitl [HI3 HD H4]
    · isplitl [HI3]; · iexact HI3
      isplitl [HD]; · iexact HD
      iexact H4
    isplitr [HM]
    · isplitl [HC]; · iexact HC
      isplitl [HO]; · iexact HO
      iexact HW
    iexact HM
  iintro ⟨⟨HD, H3, HI4⟩, ⟨HO, HW⟩, HM, HC⟩
  -- phase 4
  iapply (p4_wp c I fb fg) $$ [HI4 HD H5 HM HC HO HW]
  · isplitl [HI4 HD H5]
    · isplitl [HI4]; · iexact HI4
      isplitl [HD]; · iexact HD
      iexact H5
    isplitr [HM]
    · isplitl [HC]; · iexact HC
      isplitl [HO]; · iexact HO
      iexact HW
    iexact HM
  iintro ⟨⟨HD, H4, HI5⟩, ⟨HO, HW⟩, HM, HC⟩
  -- phase 5
  iapply (p5_wp c I fb fg) $$ [HI5 HD HM HC HO HW]
  · isplitl [HI5 HD]
    · isplitl [HI5]; · iexact HI5
      iexact HD
    isplitr [HM]
    · isplitl [HC]; · iexact HC
      isplitl [HO]; · iexact HO
      iexact HW
    iexact HM
  iintro ⟨⟨HD5, H5, HD4⟩, ⟨HO, HW⟩, HM, HC⟩
  -- phase 6
  iapply (p6_wp c I) $$ [HD5 HC HO HW]
  · isplitl [HD5]; · iexact HD5
    isplitl [HC]; · iexact HC
    isplitl [HO]; · iexact HO
    iexact HW
  iintro ⟨HD5, HC, HO, HW⟩
  ihave HL := (last_start c I) $$ HO
  iapply (last_wp c I 0 fin0 rfl) $$ [HL HW]
  · isplitl [HL]; · iexact HL
    iexact HW
  iintro ⟨HL, HS0, HW⟩
  iapply (last_wp c I 1 fin1 rfl) $$ [HL HW]
  · isplitl [HL]; · iexact HL
    iexact HW
  iintro ⟨HL, HS1, HW⟩
  iapply (last_wp c I 2 fin2 rfl) $$ [HL HW]
  · isplitl [HL]; · iexact HL
    iexact HW
  iintro ⟨HL, HS2, HW⟩
  iapply (pure_wp c _ _ .rfl)
  iapply Hk
  unfold Mid
  icases HM with ⟨Hst, Hr, HN, HA⟩
  isplitl [Hx]; · iexact Hx
  isplitl [Hy]; · iexact Hy
  isplitl [Hst]; · iexact Hst
  isplitl [Hr]; · iexact Hr
  isplitl [HN HA HC]
  · isplitl [HN]; · iexists _; iexact HN
    isplitl [HA]; · iexact HA
    unfold Coefs
    icases HC with ⟨%fc, -, HC⟩
    iexists _; iexact HC
  isplitl [HD4]
  · rw [show BF (F := F) c 0 = BF c 4 from bigSep_congr fun j _ => Free_congr c rfl j]
    iapply (show BD c I 4 ⊢ BF c 4 from bigSep_mono (fun j _ => free_of_done c I 4 j)); iexact HD4
  isplitl [HD5]
  · rw [show BF (F := F) c 1 = BF c 5 from bigSep_congr fun j _ => Free_congr c rfl j]
    iapply (show BD c I 5 ⊢ BF c 5 from bigSep_mono (fun j _ => free_of_done c I 5 j)); iexact HD5
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HL]; · rw [← last_end]; iexact HL
  isplitl [HS0 HS1 HS2]
  · isplitl [HS0]; · iexact HS0
    isplitl [HS1]; · iexact HS1
    iexact HS2
  iexact HW

end Cert.Kernel.Hand
-- ==== Proof.K.Split.lean ====
/-
  The launch's buffers and cells, cut into the kernel's chunks and joined back.
-/
module

public import proofs.«01_k».proof.Proof.K.Run
public import proofs.«01_k».proof.Proof.Gen.Kernel.Frame
public import Idealize.ShloMosaic.Lib.Pipeline.FrameSuffixV

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD)

/-! ## The chunks of a buffer and the blocks of an array -/

/-- Where a chunk is: its slot, its place. -/
abbrev KB : Type := Fin 2 × Fin 8
abbrev ck (p : KB) : Finset S2x72x12x32x128.Idx := CK (p.1.val % 2) p.2.val
abbrev HBI : Type := Fin 6 × Fin 8
abbrev hb (p : HBI) : Finset S72x12x32x768.Idx := HB p.1.val p.2.val
abbrev tb (T : Fin 48) : Finset S72x12x32x768.Idx := HB (T.val / 8) (T.val % 8)
abbrev sb (b : Fin 3) : Finset S3x9x12x32x128.Idx := SB b.val

theorem ck_disj : ∀ p p' : KB, p ≠ p' → Disjoint (ck p) (ck p') := by
  intro p p' hne; rw [Finset.disjoint_left]; intro y hy hy'
  have h := mem_CK.mp hy; have h' := mem_CK.mp hy'
  have := p.1.isLt; have := p'.1.isLt
  exact hne (Prod.ext (Fin.ext (by omega)) (Fin.ext (by omega)))
theorem ck_cover : (Finset.univ : Finset KB).biUnion ck = Finset.univ := by
  ext y; simp only [Finset.mem_biUnion, Finset.mem_univ, true_and, iff_true]
  have h0 : (y 0).val < 2 := (y 0).isLt
  have h1 : (y 1).val < 72 := (y 1).isLt
  exact ⟨(⟨(y 0).val, h0⟩, ⟨(y 1).val / 9, by omega⟩), mem_CK.mpr ⟨by show (y 0).val = (y 0).val % 2; omega, rfl⟩⟩
theorem hb_disj : ∀ p p' : HBI, p ≠ p' → Disjoint (hb p) (hb p') := by
  intro p p' hne; rw [Finset.disjoint_left]; intro y hy hy'
  have h := mem_HB.mp hy; have h' := mem_HB.mp hy'
  exact hne (Prod.ext (Fin.ext (by omega)) (Fin.ext (by omega)))
theorem hb_cover : (Finset.univ : Finset HBI).biUnion hb = Finset.univ := by
  ext y; simp only [Finset.mem_biUnion, Finset.mem_univ, true_and, iff_true]
  have h0 : (y 0).val < 72 := (y 0).isLt
  have h3 : (y 3).val < 768 := (y 3).isLt
  exact ⟨(⟨(y 3).val / 128, by omega⟩, ⟨(y 0).val / 9, by omega⟩), mem_HB.mpr ⟨rfl, rfl⟩⟩
theorem tb_disj : ∀ p p' : Fin 48, p ≠ p' → Disjoint (tb p) (tb p') := by
  intro p p' hne; rw [Finset.disjoint_left]; intro y hy hy'
  have h := mem_HB.mp hy; have h' := mem_HB.mp hy'
  exact hne (Fin.ext (by omega))
theorem tb_cover : (Finset.univ : Finset (Fin 48)).biUnion tb = Finset.univ := by
  ext y; simp only [Finset.mem_biUnion, Finset.mem_univ, true_and, iff_true]
  have h0 : (y 0).val < 72 := (y 0).isLt
  have h3 : (y 3).val < 768 := (y 3).isLt
  exact ⟨⟨8 * ((y 3).val / 128) + (y 0).val / 9, by omega⟩, mem_HB.mpr ⟨by show _ = (8 * ((y 3).val / 128) + (y 0).val / 9) % 8; omega, by show _ = (8 * ((y 3).val / 128) + (y 0).val / 9) / 8; omega⟩⟩
theorem sb_disj : ∀ p p' : Fin 3, p ≠ p' → Disjoint (sb p) (sb p') := by
  intro p p' hne; rw [Finset.disjoint_left]; intro y hy hy'
  have h := mem_SB.mp hy; have h' := mem_SB.mp hy'
  exact hne (Fin.ext (by omega))
theorem sb_cover : (Finset.univ : Finset (Fin 3)).biUnion sb = Finset.univ := by
  ext y; simp only [Finset.mem_biUnion, Finset.mem_univ, true_and, iff_true]
  exact ⟨(⟨(y 0).val, (y 0).isLt⟩ : Fin 3), mem_SB.mpr rfl⟩

/-! ## Scratch -/

/-- A scratch buffer whole at some contents. -/
abbrev whole (b : Ref sig .tc) : sProp 𝕄 := iprop(∃ f : Buf (Elt F) ((c : Thread nD τ).loc b), ((c : Thread nD τ).loc b) ↦{fullShare} f)

theorem blocks_ex {B : Type} [Fintype B] [DecidableEq B] (b : Ref sig .tc) (S : B → Finset (Idx ((c : Thread nD τ).loc b))) (hd : ∀ p p', p ≠ p' → Disjoint (S p) (S p')) (hc : Finset.univ.biUnion S = Finset.univ) :
    whole (F := F) c b ⊢ bigSep Finset.univ (fun p => iprop(∃ f : Buf (Elt F) ((c : Thread nD τ).loc b), ((c : Thread nD τ).loc b) ↦[S p]{fullShare} f)) := by
  have key : ∀ f : Buf (Elt F) ((c : Thread nD τ).loc b), (((c : Thread nD τ).loc b) ↦{fullShare} f : sProp 𝕄) ⊢ bigSep Finset.univ (fun p => iprop(∃ f : Buf (Elt F) ((c : Thread nD τ).loc b), ((c : Thread nD τ).loc b) ↦[S p]{fullShare} f)) := by
    intro f
    rw [Ring.pointsTo_blocks (ℓ := (c : Thread nD τ).loc b) S hd hc f]
    refine bigSep_mono fun p _ => ?_
    show (((c : Thread nD τ).loc b) ↦[S p]{fullShare} f : sProp 𝕄) ⊢ iprop(∃ f : Buf (Elt F) ((c : Thread nD τ).loc b), ((c : Thread nD τ).loc b) ↦[S p]{fullShare} f)
    iintro H; iexists f; iexact H
  iintro ⟨%f, H⟩
  iapply (key f)
  iexact H

theorem nonempty_elt (e : EltTy) : Nonempty (Elt F e) := inferInstance

theorem ex_blocks {B : Type} [Fintype B] [DecidableEq B] (b : Ref sig .tc) (S : B → Finset (Idx ((c : Thread nD τ).loc b))) (hd : ∀ p p', p ≠ p' → Disjoint (S p) (S p')) (hc : Finset.univ.biUnion S = Finset.univ) :
    bigSep Finset.univ (fun p => iprop(∃ f : Buf (Elt F) ((c : Thread nD τ).loc b), ((c : Thread nD τ).loc b) ↦[S p]{fullShare} f)) ⊢ whole (F := F) c b :=
  Ring.pointsTo_blocks_join_exists (ℓ := (c : Thread nD τ).loc b) S hd hc (fun _ => (nonempty_elt _).some)

/-! ## Cells -/

/-- The kernel's own cells. -/
def osem : (Fin 3 × KB) ⊕ Fin 3 → SemLoc sig
  | .inl x => .dma (cellIn x.1 x.2.1.val x.2.2)
  | .inr b => .dma (cellOut b)

theorem ownSemFacts : Pipeline.OwnSemFacts spec0 osem := by decide +kernel

theorem three3 (Φ : Fin 3 → sProp 𝕄) : bigSep Finset.univ Φ = iprop(Φ 0 ∗ Φ 1 ∗ Φ 2) := bigSep_univ_eq_bigSepL [(0 : Fin 3), 1, 2] (by decide) (by decide) Φ
theorem two2 (Φ : Fin 2 → sProp 𝕄) : bigSep Finset.univ Φ = iprop(Φ 0 ∗ Φ 1) := bigSep_univ_eq_bigSepL [(0 : Fin 2), 1] (by decide) (by decide) Φ
theorem six6 (Φ : Fin 6 → sProp 𝕄) : bigSep Finset.univ Φ = iprop(Φ 0 ∗ Φ 1 ∗ Φ 2 ∗ Φ 3 ∗ Φ 4 ∗ Φ 5) := bigSep_univ_eq_bigSepL [(0 : Fin 6), 1, 2, 3, 4, 5] (by decide) (by decide) Φ

theorem sep_big {B : Type} [Fintype B] (Φ Ψ : B → sProp 𝕄) : bigSep Finset.univ (fun p => iprop(Φ p ∗ Ψ p)) = iprop(bigSep Finset.univ Φ ∗ bigSep Finset.univ Ψ) := Idealize.SL.BI.bigSep_sep _ _ _

theorem own_eq : (Pipeline.ownSems0 (Ix := Unit) (Name := ℕ) (U := Pipeline.UD sig nD τ) (Lvl := ℕ) (Val := Elt F) (τ := τ) osem c : sProp 𝕄)
    = iprop((bigSep Finset.univ (fun p : KB => atRest c (cellIn 0 p.1.val p.2)) ∗ bigSep Finset.univ (fun p : KB => atRest c (cellIn 1 p.1.val p.2)) ∗ bigSep Finset.univ (fun p : KB => atRest c (cellIn 2 p.1.val p.2)))
      ∗ (atRest c (cellOut 0) ∗ atRest c (cellOut 1) ∗ atRest c (cellOut 2))) := by
  unfold Pipeline.ownSems0
  rw [Idealize.SL.BI.bigSep_univ_sum, Idealize.SL.BI.bigSep_univ_prod, three3, three3]
  rfl

/-! ## Both slots' chunks -/

theorem slots_eq : iprop(BF (F := F) c 0 ∗ BF c 1) = bigSep Finset.univ (fun p : KB => Free c p.1.val p.2) := by
  rw [Idealize.SL.BI.bigSep_univ_prod, two2]
  rfl

theorem slots_parts : bigSep Finset.univ (fun p : KB => Free (F := F) c p.1.val p.2)
    = iprop(bigSep Finset.univ (fun p : KB => iprop(∃ f, ptX c (p.1.val % 2) p.2.val f)) ∗ bigSep Finset.univ (fun p : KB => iprop(∃ f, ptG c (p.1.val % 2) p.2.val f)) ∗ bigSep Finset.univ (fun p : KB => iprop(∃ f, ptM c (p.1.val % 2) p.2.val f))
      ∗ bigSep Finset.univ (fun p : KB => atRest c (cellIn 0 p.1.val p.2)) ∗ bigSep Finset.univ (fun p : KB => atRest c (cellIn 1 p.1.val p.2)) ∗ bigSep Finset.univ (fun p : KB => atRest c (cellIn 2 p.1.val p.2))) := by
  unfold Free
  rw [sep_big, sep_big, sep_big, sep_big, sep_big]

variable (I : Ins F)

theorem homes_eq : Homes c I = iprop((((c : Thread nD τ).loc main_v7) ↦{fullShare} I.X) ∗ (((c : Thread nD τ).loc main_v8) ↦{fullShare} I.G) ∗ (((c : Thread nD τ).loc main_v9) ↦{fullShare} I.M)) := by
  rw [Ring.pointsTo_blocks (ℓ := (c : Thread nD τ).loc main_v7) hb hb_disj hb_cover, Ring.pointsTo_blocks (ℓ := (c : Thread nD τ).loc main_v8) hb hb_disj hb_cover, Ring.pointsTo_blocks (ℓ := (c : Thread nD τ).loc main_v9) hb hb_disj hb_cover,
    ← sep_big, ← sep_big, Idealize.SL.BI.bigSep_univ_prod, six6]
  rfl

theorem out0_eq : OutSt c I 0 = iprop(bigSep Finset.univ (fun T : Fin 48 => iprop(∃ f, hpD c (T.val / 8) (T.val % 8) f)) ∗ (StFree c 0 ∗ StFree c 1 ∗ StFree c 2)) := by
  unfold OutSt
  rw [three3]
  rfl

theorem out_ex : whole (F := F) c cc0_scratch3 ⊢ iprop((∃ f, ptO c 0 f) ∗ (∃ f, ptO c 1 f) ∗ ∃ f, ptO c 2 f) := by
  refine (blocks_ex c cc0_scratch3 sb sb_disj sb_cover).trans (entails_of_eq ?_)
  rw [three3]; rfl
theorem ex_out : iprop((∃ f, ptO (F := F) c 0 f) ∗ (∃ f, ptO c 1 f) ∗ ∃ f, ptO c 2 f) ⊢ whole (F := F) c cc0_scratch3 := by
  refine (entails_of_eq ?_).trans (ex_blocks c cc0_scratch3 sb sb_disj sb_cover)
  rw [three3]; rfl
theorem dx_join : bigSep Finset.univ (fun T : Fin 48 => hpD c (T.val / 8) (T.val % 8) (DV I)) ⊢ (((c : Thread nD τ).loc main_v10_0) ↦{fullShare} DV I : sProp 𝕄) :=
  entails_of_eq (Ring.pointsTo_blocks (ℓ := (c : Thread nD τ).loc main_v10_0) tb tb_disj tb_cover (DV I)).symm

/-! ## In and out -/

/-- What a launch gives the kernel, cut. -/
theorem enter (D : Buf (Elt F) ((c : Thread nD τ).loc main_v10_0)) :
    iprop(Pipeline.scopedRest (Ix := Unit) (Name := ℕ) (U := Pipeline.UD sig nD τ) (Lvl := ℕ) (Val := Elt F) spec0 c ∗ Pipeline.ownSems0 (Ix := Unit) (Name := ℕ) (U := Pipeline.UD sig nD τ) (Lvl := ℕ) (Val := Elt F) (τ := τ) osem c
        ∗ ((((c : Thread nD τ).loc main_v7) ↦{fullShare} I.X) ∗ (((c : Thread nD τ).loc main_v8) ↦{fullShare} I.G) ∗ (((c : Thread nD τ).loc main_v9) ↦{fullShare} I.M)) ∗ (((c : Thread nD τ).loc main_v10_0) ↦{fullShare} D))
      ⊢ (iprop(Loose c ∗ (BF c 0 ∗ BF c 1) ∗ Homes c I ∗ OutSt c I 0) : sProp 𝕄) := by
  rw [scopedRest0_eq, own_eq, homes_eq, out0_eq, slots_eq, slots_parts]
  unfold Loose StFree
  iintro ⟨⟨H0, H1, H2, H3, H4, H5, H6⟩, ⟨⟨C0, C1, C2⟩, D0, D1, D2⟩, HH, HD⟩
  ihave H3 := (out_ex c) $$ H3
  icases H3 with ⟨O0, O1, O2⟩
  isplitl [H4 H5 H6]
  · isplitl [H6]; · iexact H6
    isplitl [H4]; · iexact H4
    iexact H5
  isplitl [H0 H1 H2 C0 C1 C2]
  · isplitl [H0]; · iapply (blocks_ex c cc0_scratch0 ck ck_disj ck_cover); iexact H0
    isplitl [H1]; · iapply (blocks_ex c cc0_scratch1 ck ck_disj ck_cover); iexact H1
    isplitl [H2]; · iapply (blocks_ex c cc0_scratch2 ck ck_disj ck_cover); iexact H2
    isplitl [C0]; · iexact C0
    isplitl [C1]; · iexact C1
    iexact C2
  isplitl [HH]; · iexact HH
  isplitl [HD]
  · iapply (blocks_ex c main_v10_0 tb tb_disj tb_cover)
    iexists D; iexact HD
  isplitl [O0 D0]
  · isplitl [O0]; · iexact O0
    iexact D0
  isplitl [O1 D1]
  · isplitl [O1]; · iexact O1
    iexact D1
  isplitl [O2]; · iexact O2
  iexact D2

/-- What the kernel leaves, joined. -/
theorem leave :
    (iprop(Loose c ∗ (BF c 0 ∗ BF c 1) ∗ Homes c I ∗ bigSep Finset.univ (fun T : Fin 48 => hpD c (T.val / 8) (T.val % 8) (DV I)) ∗ (StFree c 0 ∗ StFree c 1 ∗ StFree c 2)) : sProp 𝕄)
      ⊢ iprop(Pipeline.scopedRest (Ix := Unit) (Name := ℕ) (U := Pipeline.UD sig nD τ) (Lvl := ℕ) (Val := Elt F) spec0 c ∗ Pipeline.ownSems0 (Ix := Unit) (Name := ℕ) (U := Pipeline.UD sig nD τ) (Lvl := ℕ) (Val := Elt F) (τ := τ) osem c
        ∗ ((((c : Thread nD τ).loc main_v7) ↦{fullShare} I.X) ∗ (((c : Thread nD τ).loc main_v8) ↦{fullShare} I.G) ∗ (((c : Thread nD τ).loc main_v9) ↦{fullShare} I.M)) ∗ (((c : Thread nD τ).loc main_v10_0) ↦{fullShare} DV I)) := by
  rw [scopedRest0_eq, own_eq, homes_eq, slots_eq, slots_parts]
  unfold Loose StFree
  iintro ⟨⟨H6, H4, H5⟩, ⟨H0, H1, H2, C0, C1, C2⟩, HH, HD, ⟨O0, D0⟩, ⟨O1, D1⟩, O2, D2⟩
  isplitl [H0 H1 H2 H4 H5 H6 O0 O1 O2]
  · isplitl [H0]; · iapply (ex_blocks c cc0_scratch0 ck ck_disj ck_cover); iexact H0
    isplitl [H1]; · iapply (ex_blocks c cc0_scratch1 ck ck_disj ck_cover); iexact H1
    isplitl [H2]; · iapply (ex_blocks c cc0_scratch2 ck ck_disj ck_cover); iexact H2
    isplitl [O0 O1 O2]
    · iapply (ex_out c)
      isplitl [O0]; · iexact O0
      isplitl [O1]; · iexact O1
      iexact O2
    isplitl [H4]; · iexact H4
    isplitl [H5]; · iexact H5
    iexact H6
  isplitl [C0 C1 C2 D0 D1 D2]
  · isplitl [C0 C1 C2]
    · isplitl [C0]; · iexact C0
      isplitl [C1]; · iexact C1
      iexact C2
    isplitl [D0]; · iexact D0
    isplitl [D1]; · iexact D1
    iexact D2
  isplitl [HH]; · iexact HH
  iapply (dx_join c I)
  iexact HD

end Cert.Kernel.Hand
-- ==== Proof.K.Launch.lean ====
/-
  The launch: the pipeline's data, the body's obligation, and what every run ends with.
-/
module

public import proofs.«01_k».proof.Proof.K.Split
public import Idealize.ShloMosaic.Lib.Pipeline.ValueKit.Point

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat BodyObligation BodyObligationLoose)

variable (m : (ℓ : Loc nD τ sig) → Buf (Elt F) ℓ) (c : Dev nD)

/-! ## The data -/

/-- The kernel's inputs, as the region finds them on core `c`. -/
def ins : Ins F where
  X := V m c main_v7
  G := V m c main_v8
  M := V m c main_v9
  xs := (xsM.access rS).read (Elt F) (V m c main_v2) iS
  ys := (ysM.access rS).read (Elt F) (V m c main_v3) iS
  me := V m c main_v4
  rs := V m c main_v5
  ga := V m c main_v6

/-- What is read whole, and what is written, beside the windows. -/
def hH : Finset (Ref sig .tc) := {main_v7, main_v8, main_v9}
def hR : Finset (Ref sig .tc) := {main_v10_0}

/-- The buffers after the region. -/
def GG (b : Ref sig .tc) : Buf (Elt F) ((c : Thread nD τ).loc b) := Function.update (V m c) main_v10_0 (DV (ins m c)) b

theorem GG_d : GG m c main_v10_0 = DV (ins m c) := by unfold GG; exact Function.update_self ..

def PhiIn : sProp 𝕄 := Pipeline.ΦDRV osem spec0 hH hR (V m) (V m) c
def PhiOut : sProp 𝕄 := Pipeline.ΦDRV osem spec0 hH hR (V m) (GG m) c

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => DGV (ins m c)
    | ⟨6, _⟩ => DBV (ins m c)
  Φ n := if n.val = 0 then PhiIn m c else PhiOut m c
  q _ := fullShare
  owed _ := 0

theorem before_0 (t : Fin cfg0.N) (d) : (dats m 0 c).before 0 t d = iblk m c 0 t := by
  unfold Dat.before; rw [if_pos (fetch0_0 t)]; unfold Dat.fetched Dat.blockOf iblk; dsimp only [dats]; rfl
theorem before_1 (t : Fin cfg0.N) (d) : (dats m 0 c).before 1 t d = iblk m c 1 t := by
  unfold Dat.before; rw [if_pos (fetch0_1 t)]; unfold Dat.fetched Dat.blockOf iblk; dsimp only [dats]; rfl
theorem before_2 (t : Fin cfg0.N) (d) : (dats m 0 c).before 2 t d = iblk m c 2 t := by
  unfold Dat.before; rw [if_pos (fetch0_2 t)]; unfold Dat.fetched Dat.blockOf iblk; dsimp only [dats]; rfl
theorem before_3 (t : Fin cfg0.N) (d) : (dats m 0 c).before 3 t d = iblk m c 3 t := by
  unfold Dat.before; rw [if_pos (fetch0_3 t)]; unfold Dat.fetched Dat.blockOf iblk; dsimp only [dats]; rfl
theorem before_4 (t : Fin cfg0.N) (d) : (dats m 0 c).before 4 t d = iblk m c 4 t := by
  unfold Dat.before; rw [if_pos (fetch0_4 t)]; unfold Dat.fetched Dat.blockOf iblk; dsimp only [dats]; rfl
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = DGV (ins m c) := by dsimp only [dats]
theorem after_6 (t : Fin cfg0.N) : (dats m 0 c).after 6 t = DBV (ins m c) := by dsimp only [dats]

/-! ## Blocks are arrays -/

theorem ix_0 : ∀ (t : Fin cfg0.N) (a), win0_0.index t a = 0 := by decide +kernel
theorem ix_1 : ∀ (t : Fin cfg0.N) (a), win0_1.index t a = 0 := by decide +kernel
theorem ix_2 : ∀ (t : Fin cfg0.N) (a), win0_2.index t a = 0 := by decide +kernel
theorem ix_3 : ∀ (t : Fin cfg0.N) (a), win0_3.index t a = 0 := by decide +kernel
theorem ix_4 : ∀ (t : Fin cfg0.N) (a), win0_4.index t a = 0 := by decide +kernel
theorem ix_5 : ∀ (t : Fin cfg0.N) (a), win0_5.index t a = 0 := by decide +kernel
theorem ix_6 : ∀ (t : Fin cfg0.N) (a), win0_6.index t a = 0 := by decide +kernel
theorem blk_0 (t : Fin cfg0.N) : iblk m c 0 t = V m c main_v2 := by
  unfold iblk V; generalize V0 m c (Proc.devRef .tc main_v2) = A; funext y; blk_ext [ix_0]
theorem blk_1 (t : Fin cfg0.N) : iblk m c 1 t = V m c main_v3 := by
  unfold iblk V; generalize V0 m c (Proc.devRef .tc main_v3) = A; funext y; blk_ext [ix_1]
theorem blk_2 (t : Fin cfg0.N) : iblk m c 2 t = V m c main_v4 := by
  unfold iblk V; generalize V0 m c (Proc.devRef .tc main_v4) = A; funext y; blk_ext [ix_2]
theorem blk_3 (t : Fin cfg0.N) : iblk m c 3 t = V m c main_v5 := by
  unfold iblk V; generalize V0 m c (Proc.devRef .tc main_v5) = A; funext y; blk_ext [ix_3]
theorem blk_4 (t : Fin cfg0.N) : iblk m c 4 t = V m c main_v6 := by
  unfold iblk V; generalize V0 m c (Proc.devRef .tc main_v6) = A; funext y; blk_ext [ix_4]

theorem final_5 : (dats m 0 c).arrAt 5 cfg0.N = DGV (ins m c) := by
  refine Dat.arrAt_eq_of_cover _ 5 _ (fun t _ => ?_) (fun i => ⟨t0_0, flush0_5 _, ?_⟩)
  · unfold Dat.flushed; rw [after_5]
    generalize DGV (ins m c) = A; funext y; symm; blk_ext [ix_5]
  · have h0 : (i 0).val < 6 := (i 0).isLt
    have h1 : (i 1).val < 128 := (i 1).isLt
    mem_blk [ix_5]
    all_goals omega

theorem final_6 : (dats m 0 c).arrAt 6 cfg0.N = DBV (ins m c) := by
  refine Dat.arrAt_eq_of_cover _ 6 _ (fun t _ => ?_) (fun i => ⟨t0_0, flush0_6 _, ?_⟩)
  · unfold Dat.flushed; rw [after_6]
    generalize DBV (ins m c) = A; funext y; symm; blk_ext [ix_6]
  · have h0 : (i 0).val < 6 := (i 0).isLt
    have h1 : (i 1).val < 128 := (i 1).isLt
    mem_blk [ix_6]
    all_goals omega

/-! ## The body -/

theorem rowsTo_zero {α : Type} (U f0 : S6x128.Idx → α) : rowsTo 0 U f0 = f0 := by
  funext i; unfold rowsTo; rw [if_neg (Nat.not_lt_zero _)]
theorem rowsTo_all {α : Type} (U f0 : S6x128.Idx → α) : rowsTo 6 U f0 = U := by
  funext i; unfold rowsTo; rw [if_pos (show (i 0).val < 6 from (i 0).isLt)]

theorem defs_tc : (defs₀ (F := F)) .tc cfg0.body = fun a => cc0_bn_relu_bwd (F := F) (win0_0.stage (a.2 0)) (hstage0_0 0) (win0_1.stage (a.2 1)) (hstage0_1 0) (win0_2.stage (a.2 2)) (hstage0_2 0) (win0_3.stage (a.2 3)) (hstage0_3 0) (win0_4.stage (a.2 4)) (hstage0_4 0) (Memref.whole main_v7) (Memref.isWhole_whole _) (Memref.whole main_v8) (Memref.isWhole_whole _) (Memref.whole main_v9) (Memref.isWhole_whole _) (Memref.whole main_v10_0) (Memref.isWhole_whole _) (win0_5.stage (a.2 5)) (hstage0_5 0) (win0_6.stage (a.2 6)) (hstage0_6 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 := rfl
theorem prog_eq (t : Fin cfg0.N) : (defs₀ (F := F)) .tc cfg0.body (cfg0.bodyArgs t (cfg0.slots t)) = kern R0 k0_t1_ok pro0 pro1 [ph0, ph1, ph2, ph3, ph4, ph5, ph6] fin0 fin1 fin2 :=
  (congrFun defs_tc _).trans (kern_eq (F := F) R0 _ _ _ _ _ _ _)

theorem in_eq : PhiIn m c ⊢ iprop(Loose c ∗ (BF c 0 ∗ BF c 1) ∗ Homes c (ins m c) ∗ OutSt c (ins m c) 0) := by
  refine BIClass.entails_trans ?_ (enter c (ins m c) (V m c main_v10_0))
  unfold PhiIn Pipeline.ΦDRV hH hR
  refine BIClass.sep_mono .rfl (BIClass.sep_mono .rfl (BIClass.sep_mono ?_ ?_))
  · rw [bigSep_insert (by decide), bigSep_insert (by decide), bigSep_singleton]; exact .rfl
  · rw [bigSep_singleton]

theorem out_eq : iprop(Loose c ∗ (BF c 0 ∗ BF c 1) ∗ Homes c (ins m c) ∗ bigSep Finset.univ (fun T : Fin 48 => hpD c (T.val / 8) (T.val % 8) (DV (ins m c))) ∗ (StFree c 0 ∗ StFree c 1 ∗ StFree c 2)) ⊢ PhiOut m c := by
  refine BIClass.entails_trans (leave c (ins m c)) ?_
  unfold PhiOut Pipeline.ΦDRV hH hR
  refine BIClass.sep_mono .rfl (BIClass.sep_mono .rfl (BIClass.sep_mono ?_ ?_))
  · rw [bigSep_insert (by decide), bigSep_insert (by decide), bigSep_singleton]; exact .rfl
  · rw [bigSep_singleton, GG_d]

/-- The body, from the windows' contents to the windows' contents. -/
theorem body_wp (fb fg : S6x128.Idx → Elt F .f32) (Q : Unit → sProp 𝕄) :
    iprop(PhiIn m c ∗ Owes c ∗ ptXs c (V m c main_v2) ∗ ptYs c (V m c main_v3) ∗ Stats c (ins m c) ∗ ptW c dgM fg ∗ ptW c dbM fb)
      ⊢ iprop((iprop(PhiOut m c ∗ Owes c ∗ ptXs c (V m c main_v2) ∗ ptYs c (V m c main_v3) ∗ Stats c (ins m c) ∗ ptW c dgM (DGV (ins m c)) ∗ ptW c dbM (DBV (ins m c))) -∗ Q ())
        -∗ Wp c (kern R0 k0_t1_ok pro0 pro1 [ph0, ph1, ph2, ph3, ph4, ph5, ph6] fin0 fin1 fin2) Q) := by
  iintro ⟨HP, HW, HX, HY, HS, Hg, Hb⟩ K
  ihave HP := (in_eq m c) $$ HP
  icases HP with ⟨HL, ⟨HB0, HB1⟩, HH, HO⟩
  iapply (kern_wp c (ins m c) (V m c main_v2) (V m c main_v3) rfl rfl fb fg Q) $$ [HW HX HY HS Hg Hb HL HB0 HB1 HH HO]
  · unfold Rows
    rw [rowsTo_zero, rowsTo_zero]
    isplitl [HX]; · iexact HX
    isplitl [HY]; · iexact HY
    isplitl [HS]; · iexact HS
    isplitl [Hg Hb]
    · isplitl [Hb]; · iexact Hb
      iexact Hg
    isplitl [HL]; · iexact HL
    isplitl [HB0]; · iexact HB0
    isplitl [HB1]; · iexact HB1
    isplitl [HH]; · iexact HH
    isplitl [HO]; · iexact HO
    iexact HW
  · unfold Rows
    rw [rowsTo_all, rowsTo_all]
    iintro ⟨HX, HY, HS, ⟨Hb, Hg⟩, HL, HB0, HB1, HH, HD, HF, HW⟩
    iapply K
    isplitl [HL HB0 HB1 HH HD HF]
    · iapply (out_eq m c)
      isplitl [HL]; · iexact HL
      isplitl [HB0 HB1]
      · isplitl [HB0]; · iexact HB0
        iexact HB1
      isplitl [HH]; · iexact HH
      isplitl [HD]; · iexact HD
      iexact HF
    isplitl [HW]; · iexact HW
    isplitl [HX]; · iexact HX
    isplitl [HY]; · iexact HY
    isplitl [HS]; · iexact HS
    isplitl [Hg]; · iexact Hg
    iexact Hb

/-! ## Windows whole -/

theorem ownsIn_0 (t : Fin cfg0.N) (X : S1.Idx → Elt F .f32) : (owns (c : Thread nD τ) ((cfg0.win 0).stage (cfg0.slots t 0)) fullShare X : sProp 𝕄) ⊢ ptXs c X := by
  unfold owns
  iintro ⟨%f, %h, H⟩
  have e : f = X := h
  subst e
  iapply (entails_of_eq (congrArg (fun S => ((c : Thread nD τ).loc cc0_stg0_0 ↦[S]{fullShare} f : sProp 𝕄)) (stage_whole0 0 (cfg0.slots t 0)).set_eq_univ))
  iexact H
theorem ownsOut_0 (t : Fin cfg0.N) (X : S1.Idx → Elt F .f32) : (ptXs c X : sProp 𝕄) ⊢ owns (c : Thread nD τ) ((cfg0.win 0).stage (cfg0.slots t 0)) fullShare X := by
  unfold owns
  iintro H
  iexists X
  isplitr
  · ipureintro; rfl
  iapply (entails_of_eq (congrArg (fun S => ((c : Thread nD τ).loc cc0_stg0_0 ↦[S]{fullShare} X : sProp 𝕄)) (stage_whole0 0 (cfg0.slots t 0)).set_eq_univ).symm)
  iexact H
theorem ownsIn_1 (t : Fin cfg0.N) (X : S1.Idx → Elt F .f32) : (owns (c : Thread nD τ) ((cfg0.win 1).stage (cfg0.slots t 1)) fullShare X : sProp 𝕄) ⊢ ptYs c X := by
  unfold owns
  iintro ⟨%f, %h, H⟩
  have e : f = X := h
  subst e
  iapply (entails_of_eq (congrArg (fun S => ((c : Thread nD τ).loc cc0_stg1_0 ↦[S]{fullShare} f : sProp 𝕄)) (stage_whole0 1 (cfg0.slots t 1)).set_eq_univ))
  iexact H
theorem ownsOut_1 (t : Fin cfg0.N) (X : S1.Idx → Elt F .f32) : (ptYs c X : sProp 𝕄) ⊢ owns (c : Thread nD τ) ((cfg0.win 1).stage (cfg0.slots t 1)) fullShare X := by
  unfold owns
  iintro H
  iexists X
  isplitr
  · ipureintro; rfl
  iapply (entails_of_eq (congrArg (fun S => ((c : Thread nD τ).loc cc0_stg1_0 ↦[S]{fullShare} X : sProp 𝕄)) (stage_whole0 1 (cfg0.slots t 1)).set_eq_univ).symm)
  iexact H
theorem ownsIn_2 (t : Fin cfg0.N) (X : S6x128.Idx → Elt F .f32) : (owns (c : Thread nD τ) ((cfg0.win 2).stage (cfg0.slots t 2)) fullShare X : sProp 𝕄) ⊢ ptW c meM X := by
  unfold owns
  iintro ⟨%f, %h, H⟩
  have e : f = X := h
  subst e
  iapply (entails_of_eq (congrArg (fun S => ((c : Thread nD τ).loc cc0_stg2_0 ↦[S]{fullShare} f : sProp 𝕄)) (stage_whole0 2 (cfg0.slots t 2)).set_eq_univ))
  iexact H
theorem ownsOut_2 (t : Fin cfg0.N) (X : S6x128.Idx → Elt F .f32) : (ptW c meM X : sProp 𝕄) ⊢ owns (c : Thread nD τ) ((cfg0.win 2).stage (cfg0.slots t 2)) fullShare X := by
  unfold owns
  iintro H
  iexists X
  isplitr
  · ipureintro; rfl
  iapply (entails_of_eq (congrArg (fun S => ((c : Thread nD τ).loc cc0_stg2_0 ↦[S]{fullShare} X : sProp 𝕄)) (stage_whole0 2 (cfg0.slots t 2)).set_eq_univ).symm)
  iexact H
theorem ownsIn_3 (t : Fin cfg0.N) (X : S6x128.Idx → Elt F .f32) : (owns (c : Thread nD τ) ((cfg0.win 3).stage (cfg0.slots t 3)) fullShare X : sProp 𝕄) ⊢ ptW c rsM X := by
  unfold owns
  iintro ⟨%f, %h, H⟩
  have e : f = X := h
  subst e
  iapply (entails_of_eq (congrArg (fun S => ((c : Thread nD τ).loc cc0_stg3_0 ↦[S]{fullShare} f : sProp 𝕄)) (stage_whole0 3 (cfg0.slots t 3)).set_eq_univ))
  iexact H
theorem ownsOut_3 (t : Fin cfg0.N) (X : S6x128.Idx → Elt F .f32) : (ptW c rsM X : sProp 𝕄) ⊢ owns (c : Thread nD τ) ((cfg0.win 3).stage (cfg0.slots t 3)) fullShare X := by
  unfold owns
  iintro H
  iexists X
  isplitr
  · ipureintro; rfl
  iapply (entails_of_eq (congrArg (fun S => ((c : Thread nD τ).loc cc0_stg3_0 ↦[S]{fullShare} X : sProp 𝕄)) (stage_whole0 3 (cfg0.slots t 3)).set_eq_univ).symm)
  iexact H
theorem ownsIn_4 (t : Fin cfg0.N) (X : S6x128.Idx → Elt F .f32) : (owns (c : Thread nD τ) ((cfg0.win 4).stage (cfg0.slots t 4)) fullShare X : sProp 𝕄) ⊢ ptW c gaM X := by
  unfold owns
  iintro ⟨%f, %h, H⟩
  have e : f = X := h
  subst e
  iapply (entails_of_eq (congrArg (fun S => ((c : Thread nD τ).loc cc0_stg4_0 ↦[S]{fullShare} f : sProp 𝕄)) (stage_whole0 4 (cfg0.slots t 4)).set_eq_univ))
  iexact H
theorem ownsOut_4 (t : Fin cfg0.N) (X : S6x128.Idx → Elt F .f32) : (ptW c gaM X : sProp 𝕄) ⊢ owns (c : Thread nD τ) ((cfg0.win 4).stage (cfg0.slots t 4)) fullShare X := by
  unfold owns
  iintro H
  iexists X
  isplitr
  · ipureintro; rfl
  iapply (entails_of_eq (congrArg (fun S => ((c : Thread nD τ).loc cc0_stg4_0 ↦[S]{fullShare} X : sProp 𝕄)) (stage_whole0 4 (cfg0.slots t 4)).set_eq_univ).symm)
  iexact H
theorem ownsIn_5 (t : Fin cfg0.N) (X : S6x128.Idx → Elt F .f32) : (owns (c : Thread nD τ) ((cfg0.win 5).stage (cfg0.slots t 5)) fullShare X : sProp 𝕄) ⊢ ptW c dgM X := by
  unfold owns
  iintro ⟨%f, %h, H⟩
  have e : f = X := h
  subst e
  iapply (entails_of_eq (congrArg (fun S => ((c : Thread nD τ).loc cc0_stg5_0 ↦[S]{fullShare} f : sProp 𝕄)) (stage_whole0 5 (cfg0.slots t 5)).set_eq_univ))
  iexact H
theorem ownsOut_5 (t : Fin cfg0.N) (X : S6x128.Idx → Elt F .f32) : (ptW c dgM X : sProp 𝕄) ⊢ owns (c : Thread nD τ) ((cfg0.win 5).stage (cfg0.slots t 5)) fullShare X := by
  unfold owns
  iintro H
  iexists X
  isplitr
  · ipureintro; rfl
  iapply (entails_of_eq (congrArg (fun S => ((c : Thread nD τ).loc cc0_stg5_0 ↦[S]{fullShare} X : sProp 𝕄)) (stage_whole0 5 (cfg0.slots t 5)).set_eq_univ).symm)
  iexact H
theorem ownsIn_6 (t : Fin cfg0.N) (X : S6x128.Idx → Elt F .f32) : (owns (c : Thread nD τ) ((cfg0.win 6).stage (cfg0.slots t 6)) fullShare X : sProp 𝕄) ⊢ ptW c dbM X := by
  unfold owns
  iintro ⟨%f, %h, H⟩
  have e : f = X := h
  subst e
  iapply (entails_of_eq (congrArg (fun S => ((c : Thread nD τ).loc cc0_stg6_0 ↦[S]{fullShare} f : sProp 𝕄)) (stage_whole0 6 (cfg0.slots t 6)).set_eq_univ))
  iexact H
theorem ownsOut_6 (t : Fin cfg0.N) (X : S6x128.Idx → Elt F .f32) : (ptW c dbM X : sProp 𝕄) ⊢ owns (c : Thread nD τ) ((cfg0.win 6).stage (cfg0.slots t 6)) fullShare X := by
  unfold owns
  iintro H
  iexists X
  isplitr
  · ipureintro; rfl
  iapply (entails_of_eq (congrArg (fun S => ((c : Thread nD τ).loc cc0_stg6_0 ↦[S]{fullShare} X : sProp 𝕄)) (stage_whole0 6 (cfg0.slots t 6)).set_eq_univ).symm)
  iexact H

set_option maxHeartbeats 800000 in
set_option backward.isDefEq.respectTransparency.types false in
theorem body_obligation : BodyObligation (dats (F := F) m 0 c) (defs₀ (F := F)) 𝒱₀ () Set.univ := fun t => by
  obtain rfl := fin_N0 t
  rw [bigSep_W0, bigSep_W0]
  dsimp only
  simp only [before_0, before_1, before_2, before_3, before_4, after_0, after_1, after_2, after_3, after_4, after_5, after_6, blk_0, blk_1, blk_2, blk_3, blk_4]
  rw [show (dats m 0 c).Φ (Fin.castSucc t0_0) = PhiIn m c from rfl, show (dats m 0 c).Φ (Fin.succ t0_0) = PhiOut m c from rfl]
  unfold Dat.owesAt Pipeline.owesWithin
  rw [show (dats m 0 c).owed (Fin.castSucc t0_0) = 0 from rfl, show (dats m 0 c).owed (Fin.succ t0_0) = 0 from rfl]
  generalize hA5 : DGV (ins m c) = A5
  generalize hA6 : DBV (ins m c) = A6
  iintro ⟨HP, ⟨%W, -, HW⟩, ⟨%d0, H0⟩, ⟨%d1, H1⟩, ⟨%d2, H2⟩, ⟨%d3, H3⟩, ⟨%d4, H4⟩, ⟨%d5, H5⟩, ⟨%d6, H6⟩⟩
  ihave H0 := (ownsIn_0 c t0_0 _) $$ H0
  ihave H1 := (ownsIn_1 c t0_0 _) $$ H1
  ihave H2 := (ownsIn_2 c t0_0 _) $$ H2
  ihave H3 := (ownsIn_3 c t0_0 _) $$ H3
  ihave H4 := (ownsIn_4 c t0_0 _) $$ H4
  ihave H5 := (ownsIn_5 c t0_0 _) $$ H5
  ihave H6 := (ownsIn_6 c t0_0 _) $$ H6
  sl_rw [prog_eq t0_0]
  iapply (body_wp m c _ _ _) $$ [HP HW H0 H1 H2 H3 H4 H5 H6]
  · unfold Stats
    isplitl [HP]; · iexact HP
    isplitl [HW]; · iexists W; iexact HW
    isplitl [H0]; · iexact H0
    isplitl [H1]; · iexact H1
    isplitl [H2 H3 H4]
    · isplitl [H2]; · iexact H2
      isplitl [H3]; · iexact H3
      iexact H4
    isplitl [H5]; · iexact H5
    iexact H6
  · unfold Stats
    rw [hA5, hA6]
    iintro ⟨HP, ⟨%W', HW⟩, H0, H1, ⟨H2, H3, H4⟩, H5, H6⟩
    isplitl [HP]; · iexact HP
    isplitl [HW]
    · iexists W'; isplitr; · ipureintro; exact fun _ _ => Or.inl trivial
      iexact HW
    isplitl [H0]; · iapply (ownsOut_0 c t0_0 _); iexact H0
    isplitl [H1]; · iapply (ownsOut_1 c t0_0 _); iexact H1
    isplitl [H2]; · iapply (ownsOut_2 c t0_0 _); iexact H2
    isplitl [H3]; · iapply (ownsOut_3 c t0_0 _); iexact H3
    isplitl [H4]; · iapply (ownsOut_4 c t0_0 _); iexact H4
    isplitl [H5]; · iapply (ownsOut_5 c t0_0 _); iexact H5
    iapply (ownsOut_6 c t0_0 _); iexact H6

/-! ## The run -/

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The unscoped buffers at the end. -/
abbrev W (b : Ref sig .tc) : Buf (Elt F) ((c : Thread nD τ).loc b) :=
  StableHlo.after (List.flatten [hostOps1]) (Pipeline.withArrays spec0 c (Pipeline.withR (V0 m c) hR c (GG m c)) fun w => (dats m 0 c).arrAt w cfg0.N) (Proc.devRef .tc b)

/-- Every run ends with the unscoped buffers at `W` and every counter at zero. -/
theorem run_main (ρ : Dev nD → PrngReg) : θ_run defs (onTc (τ := τ) (main (F := F))) ⟨m, fun _ => 0, ρ⟩
    (fun r => (∀ c : Dev nD, ∀ b ∈ Pipeline.restRefs sig spec0, r.2.mem ((c : Thread nD τ).loc b) = W m c b) ∧ r.2.sem = fun _ => 0) :=
  Pipeline.θ_run_frame_dmaR_aroundV cfgs (dats m) (0 : Fin 1) launch0 osem defs₀ 𝒱₀ ownSemFacts hH hR (by decide +kernel) (by decide +kernel) m ρ main
    (fun c => (body_obligation m c).loose) (fun c => (dats m 0 c).share_full fun _ => rfl) (fun _ _ => rfl)
    (V0 m) [hostOps1] sfx_sub sfx_fresh sfx_keeps (GG m) (hmainD m) (fun _ _ => rfl)
    (fun c => .rfl) (fun c => .rfl) _ (fun r h => ⟨fun c b hb => (h.1 c).2 b hb, h.2⟩)

end Cert.Kernel.Hand
-- ==== Proof.K.End.lean ====
/-
  What a run leaves in the arguments: nothing moved.
-/
module

public import proofs.«01_k».proof.Proof.K.Launch

@[expose] public section

set_option maxRecDepth 65536

noncomputable section

namespace Cert.Kernel.Hand

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (c : Dev nD)

theorem W_arg0 : W m c main_arg0 = m ((c : Thread nD τ).loc main_arg0) := by
  unfold W
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ hR c _ main_arg0 (by decide)]
  exact V_main_arg0 m c
theorem W_arg1 : W m c main_arg1 = m ((c : Thread nD τ).loc main_arg1) := by
  unfold W
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ hR c _ main_arg1 (by decide)]
  exact V_main_arg1 m c
theorem W_arg2 : W m c main_arg2 = m ((c : Thread nD τ).loc main_arg2) := by
  unfold W
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2)),
    Pipeline.withR_of_not_mem _ hR c _ main_arg2 (by decide)]
  exact V_main_arg2 m c
theorem W_arg3 : W m c main_arg3 = m ((c : Thread nD τ).loc main_arg3) := by
  unfold W
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg3 (by exact (by decide : ∀ w, Pipeline.arrRef spec0 w ≠ main_arg3)),
    Pipeline.withR_of_not_mem _ hR c _ main_arg3 (by decide)]
  exact V_main_arg3 m c
theorem W_arg4 : W m c main_arg4 = m ((c : Thread nD τ).loc main_arg4) := by
  unfold W
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg4 (by exact (by decide : ∀ w, Pipeline.arrRef spec0 w ≠ main_arg4)),
    Pipeline.withR_of_not_mem _ hR c _ main_arg4 (by decide)]
  exact V_main_arg4 m c
theorem W_arg5 : W m c main_arg5 = m ((c : Thread nD τ).loc main_arg5) := by
  unfold W
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg5 (by exact (by decide : ∀ w, Pipeline.arrRef spec0 w ≠ main_arg5)),
    Pipeline.withR_of_not_mem _ hR c _ main_arg5 (by decide)]
  exact V_main_arg5 m c
theorem W_arg6 : W m c main_arg6 = m ((c : Thread nD τ).loc main_arg6) := by
  unfold W
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg6 (by exact (by decide : ∀ w, Pipeline.arrRef spec0 w ≠ main_arg6)),
    Pipeline.withR_of_not_mem _ hR c _ main_arg6 (by decide)]
  exact V_main_arg6 m c
theorem W_arg7 : W m c main_arg7 = m ((c : Thread nD τ).loc main_arg7) := by
  unfold W
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c _ _ main_arg7 (by exact (by decide : ∀ w, Pipeline.arrRef spec0 w ≠ main_arg7)),
    Pipeline.withR_of_not_mem _ hR c _ main_arg7 (by decide)]
  exact V_main_arg7 m c

/-- Every run ends with the arguments as launched and every counter at zero. -/
theorem frame (ρ : Dev nD → PrngReg) : θ_run defs (onTc (τ := τ) (main (F := F))) ⟨m, fun _ => 0, ρ⟩
    (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7)) ∧ r.2.sem = fun _ => 0) :=
  (θ_run defs _ _).mono (fun r h => ⟨fun c => ⟨(h.1 c main_arg0 (Pipeline.mem_restRefs_of main_arg0 (by decide) (by decide))).trans (W_arg0 m c), (h.1 c main_arg1 (Pipeline.mem_restRefs_of main_arg1 (by decide) (by decide))).trans (W_arg1 m c), (h.1 c main_arg2 (Pipeline.mem_restRefs_of main_arg2 (by decide) (by decide))).trans (W_arg2 m c), (h.1 c main_arg3 (Pipeline.mem_restRefs_of main_arg3 (by decide) (by decide))).trans (W_arg3 m c), (h.1 c main_arg4 (Pipeline.mem_restRefs_of main_arg4 (by decide) (by decide))).trans (W_arg4 m c), (h.1 c main_arg5 (Pipeline.mem_restRefs_of main_arg5 (by decide) (by decide))).trans (W_arg5 m c), (h.1 c main_arg6 (Pipeline.mem_restRefs_of main_arg6 (by decide) (by decide))).trans (W_arg6 m c), (h.1 c main_arg7 (Pipeline.mem_restRefs_of main_arg7 (by decide) (by decide))).trans (W_arg7 m c)⟩, h.2⟩) (run_main m ρ)

end Cert.Kernel.Hand
-- ==== Proof.Val.Mask.lean ====
/-
  The mask word arithmetic: four mask bytes in a word become four bytes of which each is zero exactly
  when the mask byte is.
-/
module

public import proofs.«01_k».proof.Proof.K.End
public import Idealize.ShloMosaic.Lib.BitcastFour
public import Idealize.ShloMosaic.Lib.Pointwise.Tactic
public import Idealize.ShloMosaic.Lib.Pipeline.Value

@[expose] public section

noncomputable section

namespace Cert.KernelIdeal.Hand

open Cert.KernelIdeal Cert.KernelIdeal.Gen
open Idealize.ShloMosaic

/-- What the kernel computes of a mask word. -/
def maskWord (w : BitVec 32) : BitVec 32 :=
  let h := ((w &&& 2139062143#32) + 2139062143#32 ||| w) &&& 2155905152#32
  (h - (h >>> 7)) ||| h

theorem bit_nat {n : ℕ} (w : BitVec n) (i : ℕ) : w.getLsbD i = decide (w.toNat / 2 ^ i % 2 = 1) := by
  rw [← BitVec.testBit_toNat, Nat.testBit_eq_decide_div_mod_eq]

theorem byte_top (x c y : ℕ) (h : x < 256) :
    (c < 1 → (c + x + 256 * y) / 128 = x / 128 + 2 * y) ∧ (c < 256 → (c + 256 * x + 65536 * y) / 32768 = x / 128 + 2 * y)
    ∧ (c < 65536 → (c + 65536 * x + 16777216 * y) / 8388608 = x / 128 + 2 * y) ∧ (c < 16777216 → (c + 16777216 * x) / 2147483648 = x / 128) := by
  refine ⟨fun hc => ?_, fun hc => ?_, fun hc => ?_, fun hc => ?_⟩ <;> omega

theorem one_top (b c W s R : ℕ) (h0 : b < 256) (hs : s = (b % 128 + 127) / 128 + 2 * R) (hW : W = b / 128 + 2 * c) :
    (s % 2 = 1 ∨ W % 2 = 1) ↔ b ≠ 0 := by
  have : s % 2 = (b % 128 + 127) / 128 := by omega
  have : W % 2 = b / 128 := by omega
  omega

theorem regroup (a b c d : ℕ) : a + 256 * b + 65536 * c + 16777216 * d = 0 + a + 256 * (b + 256 * c + 65536 * d)
    ∧ a + 256 * b + 65536 * c + 16777216 * d = a + 256 * b + 65536 * (c + 256 * d) := by
  constructor <;> ring

theorem nat_top (b0 b1 b2 b3 : ℕ) (h0 : b0 < 256) (h1 : b1 < 256) (h2 : b2 < 256) (h3 : b3 < 256) (s W : ℕ)
    (hs : s = (b0 % 128 + 127) + 256 * (b1 % 128 + 127) + 65536 * (b2 % 128 + 127) + 16777216 * (b3 % 128 + 127))
    (hW : W = b0 + 256 * b1 + 65536 * b2 + 16777216 * b3) :
    ((s / 128 % 2 = 1 ∨ W / 128 % 2 = 1) ↔ b0 ≠ 0) ∧ ((s / 32768 % 2 = 1 ∨ W / 32768 % 2 = 1) ↔ b1 ≠ 0)
    ∧ ((s / 8388608 % 2 = 1 ∨ W / 8388608 % 2 = 1) ↔ b2 ≠ 0) ∧ ((s / 2147483648 % 2 = 1 ∨ W / 2147483648 % 2 = 1) ↔ b3 ≠ 0) := by
  have a0 : b0 % 128 + 127 < 256 := by omega
  have a1 : b1 % 128 + 127 < 256 := by omega
  have a2 : b2 % 128 + 127 < 256 := by omega
  have a3 : b3 % 128 + 127 < 256 := by omega
  have z1 : s = 0 + (b0 % 128 + 127) + 256 * (b1 % 128 + 127 + 256 * (b2 % 128 + 127) + 65536 * (b3 % 128 + 127)) := hs.trans (regroup ..).1
  have z2 : s = b0 % 128 + 127 + 256 * (b1 % 128 + 127) + 65536 * (b2 % 128 + 127 + 256 * (b3 % 128 + 127)) := hs.trans (regroup ..).2
  have w1 : W = 0 + b0 + 256 * (b1 + 256 * b2 + 65536 * b3) := hW.trans (regroup ..).1
  have w2 : W = b0 + 256 * b1 + 65536 * (b2 + 256 * b3) := hW.trans (regroup ..).2
  refine ⟨?_, ?_, ?_, ?_⟩
  · refine one_top b0 (b1 + 256 * b2 + 65536 * b3) _ _ (b1 % 128 + 127 + 256 * (b2 % 128 + 127) + 65536 * (b3 % 128 + 127)) h0 ?_ ?_
    · rw [z1]; exact (byte_top (b0 % 128 + 127) 0 (b1 % 128 + 127 + 256 * (b2 % 128 + 127) + 65536 * (b3 % 128 + 127)) a0).1 (by omega)
    · rw [w1]; exact (byte_top b0 0 (b1 + 256 * b2 + 65536 * b3) h0).1 (by omega)
  · refine one_top b1 (b2 + 256 * b3) _ _ (b2 % 128 + 127 + 256 * (b3 % 128 + 127)) h1 ?_ ?_
    · rw [z2]; exact (byte_top (b1 % 128 + 127) (b0 % 128 + 127) (b2 % 128 + 127 + 256 * (b3 % 128 + 127)) a1).2.1 a0
    · rw [w2]; exact (byte_top b1 b0 (b2 + 256 * b3) h1).2.1 h0
  · refine one_top b2 b3 _ _ (b3 % 128 + 127) h2 ?_ ?_
    · rw [hs]; exact (byte_top (b2 % 128 + 127) (b0 % 128 + 127 + 256 * (b1 % 128 + 127)) (b3 % 128 + 127) a2).2.2.1 (by clear hs hW z1 z2 w1 w2; omega)
    · rw [hW]; exact (byte_top b2 (b0 + 256 * b1) b3 h2).2.2.1 (by clear hs hW z1 z2 w1 w2; omega)
  · refine one_top b3 0 _ _ 0 h3 ?_ ?_
    · rw [hs, mul_zero, add_zero]; exact (byte_top (b3 % 128 + 127) (b0 % 128 + 127 + 256 * (b1 % 128 + 127) + 65536 * (b2 % 128 + 127)) 0 a3).2.2.2 (by clear hs hW z1 z2 w1 w2; omega)
    · rw [hW, mul_zero, add_zero]; exact (byte_top b3 (b0 + 256 * b1 + 65536 * b2) 0 h3).2.2.2 (by clear hs hW z1 z2 w1 w2; omega)

theorem split4 (n : ℕ) (h : n < 4294967296) : n = n % 256 + 256 * (n / 256 % 256) + 65536 * (n / 65536 % 256) + 16777216 * (n / 16777216 % 256) := by omega

theorem and_byte (W k D : ℕ) (hD : D = 2 ^ k) (h : (2139062143 : ℕ) / 2 ^ k % 2 ^ 8 = 2 ^ 7 - 1) : (W &&& 2139062143) / D % 256 = W / D % 256 % 128 := by
  subst hD
  rw [show (256 : ℕ) = 2 ^ 8 by norm_num, show (128 : ℕ) = 2 ^ 7 by norm_num, Nat.and_div_two_pow, Nat.and_mod_two_pow, h, Nat.and_two_pow_sub_one_eq_mod]

theorem add_carry (a b c d y : ℕ) (ha : a < 128) (hb : b < 128) (hc : c < 128) (hd : d < 128) (h : y = a + 256 * b + 65536 * c + 16777216 * d) :
    (y + 2139062143) % 4294967296 = (a + 127) + 256 * (b + 127) + 65536 * (c + 127) + 16777216 * (d + 127) := by omega

/-- The top bit of each byte, before it is spread. -/
theorem top_bit (w : BitVec 32) (q : ℕ) (hq : q < 4) :
    (((w &&& 2139062143#32) + 2139062143#32 ||| w) &&& 2155905152#32).getLsbD (8 * q + 7) = decide (w.toNat / 2 ^ (8 * q) % 256 ≠ 0) := by
  have q4 : q = 0 ∨ q = 1 ∨ q = 2 ∨ q = 3 := by omega
  have hc : (2155905152#32 : BitVec 32).getLsbD (8 * q + 7) = true := by
    rcases q4 with rfl | rfl | rfl | rfl <;> rfl
  have hw : w.toNat < 4294967296 := w.isLt
  have hy : (w &&& 2139062143#32).toNat < 4294967296 := (w &&& 2139062143#32).isLt
  have ey : (w &&& 2139062143#32).toNat = w.toNat &&& 2139062143 := BitVec.toNat_and ..
  have y0 := and_byte w.toNat 0 1 (by norm_num) (by norm_num)
  rw [Nat.div_one, Nat.div_one] at y0
  have y1 := and_byte w.toNat 8 256 (by norm_num) (by norm_num)
  have y2 := and_byte w.toNat 16 65536 (by norm_num) (by norm_num)
  have y3 := and_byte w.toNat 24 16777216 (by norm_num) (by norm_num)
  rw [BitVec.getLsbD_and, BitVec.getLsbD_or, hc, Bool.and_true, bit_nat, bit_nat, ← Bool.decide_or, decide_eq_decide]
  have es : ((w &&& 2139062143#32) + 2139062143#32).toNat = ((w.toNat &&& 2139062143) + 2139062143) % 4294967296 := by rw [BitVec.toNat_add, ey, show (2139062143#32 : BitVec 32).toNat = 2139062143 by decide, show (2 : ℕ) ^ 32 = 4294967296 by norm_num]
  rw [ey] at hy
  have sy := split4 _ hy
  have sw := split4 _ hw
  rw [y0, y1, y2, y3] at sy
  rw [es]
  clear hc es y0 y1 y2 y3 ey
  generalize (w.toNat &&& 2139062143) = y at sy hy ⊢
  generalize w.toNat = W at sy sw hw ⊢
  have N := nat_top (W % 256) (W / 256 % 256) (W / 65536 % 256) (W / 16777216 % 256) (Nat.mod_lt _ (by omega)) (Nat.mod_lt _ (by omega)) (Nat.mod_lt _ (by omega)) (Nat.mod_lt _ (by omega))
    ((y + 2139062143) % 4294967296) W (add_carry _ _ _ _ y (Nat.mod_lt _ (by omega)) (Nat.mod_lt _ (by omega)) (Nat.mod_lt _ (by omega)) (Nat.mod_lt _ (by omega)) sy) sw
  rcases q4 with rfl | rfl | rfl | rfl
  · rw [show (2 : ℕ) ^ (8 * 0) = 1 by norm_num, show (2 : ℕ) ^ (8 * 0 + 7) = 128 by norm_num, Nat.div_one]; exact N.1
  · rw [show (2 : ℕ) ^ (8 * 1) = 256 by norm_num, show (2 : ℕ) ^ (8 * 1 + 7) = 32768 by norm_num]; exact N.2.1
  · rw [show (2 : ℕ) ^ (8 * 2) = 65536 by norm_num, show (2 : ℕ) ^ (8 * 2 + 7) = 8388608 by norm_num]; exact N.2.2.1
  · rw [show (2 : ℕ) ^ (8 * 3) = 16777216 by norm_num, show (2 : ℕ) ^ (8 * 3 + 7) = 2147483648 by norm_num]; exact N.2.2.2

/-- Four bits, each at the top of a byte. -/
def tops (t0 t1 t2 t3 : Bool) : BitVec 32 := (if t0 then 0x80#32 else 0#32) ||| (if t1 then 0x8000#32 else 0#32) ||| (if t2 then 0x800000#32 else 0#32) ||| (if t3 then 0x80000000#32 else 0#32)

theorem spread : ∀ t0 t1 t2 t3 : Bool, ∀ q < 4, ∀ i < 8,
    ((tops t0 t1 t2 t3 - (tops t0 t1 t2 t3 >>> 7)) ||| tops t0 t1 t2 t3).getLsbD (8 * q + i) = (tops t0 t1 t2 t3).getLsbD (8 * q + 7) := by decide +kernel

theorem tops_bit : ∀ t0 t1 t2 t3 : Bool, ∀ i < 32, (tops t0 t1 t2 t3).getLsbD i = (if i = 7 then t0 else if i = 15 then t1 else if i = 23 then t2 else if i = 31 then t3 else false) := by decide +kernel

theorem high_bit : ∀ i < 32, (2155905152#32 : BitVec 32).getLsbD i = decide (i = 7 ∨ i = 15 ∨ i = 23 ∨ i = 31) := by decide +kernel

theorem high_eq (h : BitVec 32) (e : h &&& 2155905152#32 = h) : tops (h.getLsbD 7) (h.getLsbD 15) (h.getLsbD 23) (h.getLsbD 31) = h := by
  apply BitVec.eq_of_getLsbD_eq
  intro i hi
  have hb : h.getLsbD i = (h.getLsbD i && (2155905152#32 : BitVec 32).getLsbD i) := by rw [← BitVec.getLsbD_and, e]
  rw [tops_bit _ _ _ _ i hi]
  rw [high_bit i hi] at hb
  by_cases h7 : i = 7
  · rw [if_pos h7, h7]
  by_cases h15 : i = 15
  · rw [if_neg h7, if_pos h15, h15]
  by_cases h23 : i = 23
  · rw [if_neg h7, if_neg h15, if_pos h23, h23]
  by_cases h31 : i = 31
  · rw [if_neg h7, if_neg h15, if_neg h23, if_pos h31, h31]
  rw [if_neg h7, if_neg h15, if_neg h23, if_neg h31, hb, decide_eq_false (by omega), Bool.and_false]

/-- Every bit of byte `q` of the mask is whether byte `q` of the word is not zero. -/
theorem maskWord_bit (w : BitVec 32) (q i : ℕ) (hq : q < 4) (hi : i < 8) :
    (maskWord w).getLsbD (8 * q + i) = decide (w.toNat / 2 ^ (8 * q) % 256 ≠ 0) := by
  rw [← top_bit w q hq]
  unfold maskWord
  generalize hh : ((w &&& 2139062143#32) + 2139062143#32 ||| w) &&& 2155905152#32 = h
  have e : h &&& 2155905152#32 = h := by rw [← hh, BitVec.and_assoc, BitVec.and_self]
  have E := spread (h.getLsbD 7) (h.getLsbD 15) (h.getLsbD 23) (h.getLsbD 31) q hq i hi
  rw [high_eq h e] at E
  exact E

/-- Byte `q` of a word, bit by bit. -/
theorem byte_zero (w : BitVec 32) (q : ℕ) (b : BitVec 8) (h : ∀ i < 8, w.getLsbD (8 * q + i) = b.getLsbD i) : w.toNat / 2 ^ (8 * q) % 256 = b.toNat := by
  rw [show (256 : ℕ) = 2 ^ 8 by norm_num]
  apply Nat.eq_of_testBit_eq
  intro i
  rw [Nat.testBit_mod_two_pow, Nat.testBit_div_two_pow, BitVec.testBit_toNat, BitVec.testBit_toNat]
  by_cases hi : i < 8
  · rw [decide_eq_true hi, Bool.true_and, add_comm i, h i hi]
  · rw [decide_eq_false hi, Bool.false_and, BitVec.getLsbD_of_ge b i (by omega)]

variable {F : FTy → Type} [FloatOps F]

/-- A masked tile, element by element. -/
theorem pay2_at (v : Vec F S1x1x1x32x128 .i8) (u : Vec F S1x1x1x32x128 .fp8e5m2) (r : Fin 32) (l : Fin 128) :
    k0_pay2 v u (ValueIdx.ix2 r l) = if v (ixT r l) = 0#8 then Scalar.ofBits .fp8e5m2 0x00#8 else u (ixT r l) := by
  have hr := r.isLt
  have sc : ∀ {α : Type} (x : S1x1x1x32x128.Idx → α) (p : Fin 32), shapeCast S32x128 x shapeCasts_S1x1x1x32x128_S32x128 (ValueIdx.ix2 p l) = x (ixT p l) := fun x p =>
    shapeCast_apply x _ _ _ (by rw [Shape.rowMajor_val_five, Shape.rowMajor_val_two]; show (((0 * 1 + 0) * 1 + 0) * 32 + p.val) * 128 + l.val = p.val * 128 + l.val; omega)
  let w := bitcast S8x128 32 (shapeCast S32x128 v shapeCasts_S1x1x1x32x128_S32x128) bitcasts_S32x128_w8_S8x128_w32
  have hb : ∀ i < 8, (w (ValueIdx.ix2 ⟨r.val / 4, by omega⟩ l)).getLsbD (8 * (r.val % 4) + i) = (v (ixT r l)).getLsbD i := by
    intro i hi
    rw [bitcast_8_32_getLsbD_ix2 _ bitcasts_S32x128_w8_S8x128_w32 ⟨r.val / 4, by omega⟩ l (8 * (r.val % 4) + i) (by omega) r (by show r.val = 4 * (r.val / 4) + _; omega), sc,
      show (8 * (r.val % 4) + i) % 8 = i by omega]
  have key : bitcast S32x128 8 (fun j => maskWord (w j)) bitcasts_S8x128_w32_S32x128_w8 (ValueIdx.ix2 r l) = 0#8 ↔ v (ixT r l) = 0#8 := by
    have bb : ∀ i < 8, (bitcast S32x128 8 (fun j => maskWord (w j)) bitcasts_S8x128_w32_S32x128_w8 (ValueIdx.ix2 r l)).getLsbD i = decide ((v (ixT r l)).toNat ≠ 0) := by
      intro i hi
      rw [bitcast_getLsbD _ bitcasts_S8x128_w32_S32x128_w8 (ValueIdx.ix2 r l) i hi (by decide)]
      have ej : bitcasts_S8x128_w32_S32x128_w8.srcIdx (ValueIdx.ix2 r l) ((S32x128.row (ValueIdx.ix2 r l) * 8 + i) / 32) (fun a ha => (Nat.div_lt_iff_lt_mul (by decide)).2 (bitcasts_S8x128_w32_S32x128_w8.pos_lt (ValueIdx.ix2 r l) i hi a ha)) = ValueIdx.ix2 ⟨r.val / 4, by omega⟩ l := by
        funext a
        match a with
        | ⟨0, _⟩ => exact Fin.ext ((Shape.Bitcasts.srcIdx_row _ _ _ _ ⟨0, Nat.zero_lt_two⟩ rfl).trans (by show (r.val * 8 + i) / 32 = r.val / 4; omega))
        | ⟨1, _⟩ => exact Fin.ext (Shape.Bitcasts.srcIdx_other _ _ _ _ ⟨1, Nat.one_lt_two⟩ (by show ¬ 1 + 2 = 2; omega))
      rw [ej, show (S32x128.row (ValueIdx.ix2 r l) * 8 + i) % 32 = 8 * (r.val % 4) + i by show (r.val * 8 + i) % 32 = _; omega,
        maskWord_bit _ _ _ (by omega) hi, byte_zero _ _ _ hb]
    constructor
    · intro h
      have := bb 0 (by omega)
      rw [h] at this
      have t : ¬ (v (ixT r l)).toNat ≠ 0 := of_decide_eq_false (this.symm.trans (by decide))
      exact BitVec.eq_of_toNat_eq (not_not.mp t)
    · intro h
      apply BitVec.eq_of_getLsbD_eq
      intro i hi
      rw [bb i hi, h]; exact (by decide : ∀ i < 8, decide ((0#8 : BitVec 8).toNat ≠ 0) = (0#8 : BitVec 8).getLsbD i) i hi
  show Scalar.select (IntOp.cmpi .ne (bitcast S32x128 8 (fun j => maskWord (w j)) bitcasts_S8x128_w32_S32x128_w8 (ValueIdx.ix2 r l)) 0#8)
    (shapeCast S32x128 u shapeCasts_S1x1x1x32x128_S32x128 (ValueIdx.ix2 r l)) (Scalar.ofBits .fp8e5m2 0x00#8) = _
  rw [sc]
  by_cases h : v (ixT r l) = 0#8
  · rw [if_pos h, key.mpr h]; rfl
  · rw [if_neg h]
    have h' := fun e => h (key.mp e)
    generalize bitcast S32x128 8 (fun j => maskWord (w j)) bitcasts_S8x128_w32_S32x128_w8 (ValueIdx.ix2 r l) = z at h'
    have hz : (z != 0#8) = true := bne_iff_ne.mpr h'
    unfold Scalar.select IntOp.cmpi
    simp [hz]

end Cert.KernelIdeal.Hand

end
-- ==== Proof.Val.Sum.lean ====
/-
  The kernel's sums over the reals: the accumulators of a group hold the sums over every row of the masked gradients
  and of their products with the inputs.
-/
module

public import proofs.«01_k».proof.Proof.Val.Mask
public import Idealize.ShloMosaic.Lib.IdealHost
public import Idealize.ShloMosaic.PureOps.Ideal.Laws

@[expose] public section

set_option maxRecDepth 4096

noncomputable section

namespace Cert.KernelIdeal.Hand

open Cert.KernelIdeal Cert.KernelIdeal.Gen
open Idealize.ShloMosaic

/-- A position in a block of sixteen rows, and in one of thirty-two. -/
abbrev i16 (r : Fin 16) (l : Fin 128) : S16x128.Idx := ValueIdx.ix2 r l
abbrev i32 (r : Fin 32) (l : Fin 128) : S32x128.Idx := ValueIdx.ix2 r l

/-- The running sums' values; nothing yet is zero. -/
def pv : Sums Ideal → S16x128.Idx → EReal
  | none, _ => 0
  | some s, i => s.1 i
def qv : Sums Ideal → S16x128.Idx → EReal
  | none, _ => 0
  | some s, i => s.2 i

theorem pv_addTo (s : Sums Ideal) (p q : FVec Ideal S16x128 .f32) (i : S16x128.Idx) : pv (some (addTo s p q)) i = pv s i + p i := by
  cases s with
  | none => exact (zero_add (p i : EReal)).symm
  | some s => rfl
theorem qv_addTo (s : Sums Ideal) (p q : FVec Ideal S16x128 .f32) (i : S16x128.Idx) : qv (some (addTo s p q)) i = qv s i + q i := by
  cases s with
  | none => exact (zero_add (q i : EReal)).symm
  | some s => rfl

theorem lo_at (gb : FVec Ideal S32x128 .bf16) (r : Fin 16) (l : Fin 128) : lo gb (i16 r l) = gb (i32 ⟨r.val, by omega⟩ l) := by
  show extractStridedSlice S16x128 ![0, 0] gb slices_S32x128_o0_0_S16x128 (i16 r l) = _
  refine extractStridedSlice_apply _ _ _ _ _ fun a => ?_
  match a with
  | ⟨0, _⟩ => exact (Nat.zero_add _).symm
  | ⟨1, _⟩ => exact (Nat.zero_add _).symm
theorem hi_at (gb : FVec Ideal S32x128 .bf16) (r : Fin 16) (l : Fin 128) : hi gb (i16 r l) = gb (i32 ⟨r.val + 16, by omega⟩ l) := by
  show extractStridedSlice S16x128 ![16, 0] gb slices_S32x128_o16_0_S16x128 (i16 r l) = _
  refine extractStridedSlice_apply _ _ _ _ _ fun a => ?_
  match a with
  | ⟨0, _⟩ => exact Nat.add_comm _ _
  | ⟨1, _⟩ => exact (Nat.zero_add _).symm

theorem pv_tile (ones : FVec Ideal S16x128 .f32) (s : Sums Ideal) (g8 : FVec Ideal S32x128 .fp8e5m2) (xb : FVec Ideal S32x128 .bf16) (r : Fin 16) (l : Fin 128) :
    pv (some (tileSums ones s g8 xb)) (i16 r l) = pv s (i16 r l)
      + ((g8 (i32 ⟨r.val, by omega⟩ l) : EReal) * xb (i32 ⟨r.val, by omega⟩ l) + (g8 (i32 ⟨r.val + 16, by omega⟩ l) : EReal) * xb (i32 ⟨r.val + 16, by omega⟩ l)) := by
  unfold tileSums
  refine (pv_addTo _ _ _ _).trans ?_
  rw [pv_addTo, add_assoc]
  show pv s _ + ((lo (F := Ideal) _ (i16 r l) : EReal) * lo xb (i16 r l) + (hi (F := Ideal) _ (i16 r l) : EReal) * hi xb (i16 r l)) = _
  rw [lo_at, lo_at, hi_at, hi_at]; rfl

theorem qv_tile (ones : FVec Ideal S16x128 .f32) (h1 : ∀ i, ones i = (1 : EReal)) (s : Sums Ideal) (g8 : FVec Ideal S32x128 .fp8e5m2) (xb : FVec Ideal S32x128 .bf16) (r : Fin 16) (l : Fin 128) :
    qv (some (tileSums ones s g8 xb)) (i16 r l) = qv s (i16 r l)
      + ((g8 (i32 ⟨r.val, by omega⟩ l) : EReal) + (g8 (i32 ⟨r.val + 16, by omega⟩ l) : EReal)) := by
  unfold tileSums
  refine (qv_addTo _ _ _ _).trans ?_
  rw [qv_addTo, add_assoc]
  show qv s _ + ((lo (F := Ideal) _ (i16 r l) : EReal) * ones (i16 r l) + (hi (F := Ideal) _ (i16 r l) : EReal) * ones (i16 r l)) = _
  rw [lo_at, hi_at, h1]
  show qv s _ + ((_ : EReal) * (1 : EReal) + (_ : EReal) * (1 : EReal)) = _
  rw [mul_one, mul_one]; rfl

section Over
variable (ones : FVec Ideal S16x128 .f32) (h1 : ∀ i, ones i = (1 : EReal)) (fx : S2x72x12x32x128.Idx → Elt Ideal .fp8e4m3) (fg : S2x72x12x32x128.Idx → Elt Ideal .fp8e5m2)
  (fm : S2x72x12x32x128.Idx → Elt Ideal .i8) (s n : ℕ) (l : Fin 128) (G X : Fin 12 → ℕ → EReal)
  (hG : ∀ k (r : Fin 32), mtile fm fg s n k (i32 r l) = G k r.val) (hX : ∀ k (r : Fin 32), k0_pay4 (tileAt fx s n k) (i32 r l) = X k r.val)

include hG hX in
theorem pv_sums (r : Fin 16) : ∀ (ls : List (Fin 12)) (a : Sums Ideal), pv (sumsOver ones fx fg fm s n ls a) (i16 r l)
    = pv a (i16 r l) + (ls.map fun k => G k r.val * X k r.val + G k (r.val + 16) * X k (r.val + 16)).sum
  | [], a => (add_zero _).symm
  | k :: ks, a => by
    unfold sumsOver
    rw [pv_sums r ks, pv_tile, hG, hG, hX, hX, List.map_cons, List.sum_cons, add_assoc]

include hG h1 in
theorem qv_sums (r : Fin 16) : ∀ (ls : List (Fin 12)) (a : Sums Ideal), qv (sumsOver ones fx fg fm s n ls a) (i16 r l)
    = qv a (i16 r l) + (ls.map fun k => G k r.val + G k (r.val + 16)).sum
  | [], a => (add_zero _).symm
  | k :: ks, a => by
    unfold sumsOver
    rw [qv_sums r ks, qv_tile _ h1, hG, hG, List.map_cons, List.sum_cons, add_assoc]
end Over

theorem sum_fin12 (f : Fin 12 → EReal) : ((List.finRange 12).map f).sum = ∑ k, f k := by
  rw [← List.ofFn_eq_map, List.sum_ofFn]

/-! ## The accumulators -/

abbrev rA (n : ℕ) (i : ∀ a, (![n, 0, 0] : Fin 3 → ℕ) a + S1x8x128.size a ≤ S2x8x128.size a) : Rect S2x8x128 := Rect.unit (s := S2x8x128) ![n, 0, 0] S1x8x128.size i

section Acc
variable {F : FTy → Type} [FloatOps F]

theorem getA_same (n : ℕ) (i) (f : S2x8x128.Idx → Elt F .f32) (w : (rA n i).shape.Idx → Elt F .f32) : getA (rA n i) (setA (rA n i) f w) = w := by
  funext y
  refine (read_unit cc0_scratch4 ![n, 0, 0] S1x8x128.size i _ y).trans ((write_unit cc0_scratch4 ![n, 0, 0] S1x8x128.size i f w _).trans ?_)
  rw [dif_pos (by
    intro a
    have h : (y a : ℕ) < S1x8x128.size a := (y a).isLt
    show (![n, 0, 0] : Fin 3 → ℕ) a ≤ (![n, 0, 0] : Fin 3 → ℕ) a + (y a : ℕ) ∧ (![n, 0, 0] : Fin 3 → ℕ) a + (y a : ℕ) < (![n, 0, 0] : Fin 3 → ℕ) a + S1x8x128.size a
    omega)]
  congr 1; funext a; apply Fin.ext
  show (![n, 0, 0] : Fin 3 → ℕ) a + (y a : ℕ) - (![n, 0, 0] : Fin 3 → ℕ) a = y a
  omega

theorem getA_other (n m : ℕ) (h : n ≠ m) (i) (i') (f : S2x8x128.Idx → Elt F .f32) (w : (rA m i').shape.Idx → Elt F .f32) : getA (rA n i) (setA (rA m i') f w) = getA (rA n i) f := by
  funext y
  refine (read_unit cc0_scratch4 ![n, 0, 0] S1x8x128.size i _ y).trans ((write_unit cc0_scratch4 ![m, 0, 0] S1x8x128.size i' f w _).trans ?_)
  rw [dif_neg (by
    intro H
    have y0 : (y 0).val < 1 := (y 0).isLt
    have a0 : m ≤ n + (y 0).val ∧ n + (y 0).val < m + 1 := H 0
    omega)]
  exact (read_unit cc0_scratch4 ![n, 0, 0] S1x8x128.size i f y).symm
end Acc

abbrev i8a (s : Fin 8) (l : Fin 128) : S1x8x128.Idx := ValueIdx.ix3 (0 : Fin 1) s l

theorem pay102_at (v : FVec Ideal S16x128 .f32) (f : Vec Ideal S1x8x128 .f32) (s : Fin 8) (l : Fin 128) :
    k0_pay102 v f (i8a s l) = (f (i8a s l) : EReal) + ((v (i16 ⟨s.val, by omega⟩ l) : EReal) + v (i16 ⟨s.val + 8, by omega⟩ l)) := by
  unfold k0_pay102
  refine (shapeCast_apply _ _ _ (ValueIdx.ix2 s l : S8x128.Idx) (by
    rw [Shape.rowMajor_val_two, Shape.rowMajor_val_three]; show s.val * 128 + l.val = (0 * 8 + s.val) * 128 + l.val; omega)).trans ?_
  have e0 := shapeCast_apply f shapeCasts_S1x8x128_S8x128 (ValueIdx.ix2 s l : S8x128.Idx) (i8a s l) (by
    rw [Shape.rowMajor_val_two, Shape.rowMajor_val_three]; show (0 * 8 + s.val) * 128 + l.val = s.val * 128 + l.val; omega)
  have e1 : extractStridedSlice S8x128 ![0, 0] v slices_S16x128_o0_0_S8x128 (ValueIdx.ix2 s l : S8x128.Idx) = v (i16 ⟨s.val, by omega⟩ l) :=
    extractStridedSlice_apply _ _ _ _ _ fun a => match a with
    | ⟨0, _⟩ => (Nat.zero_add _).symm
    | ⟨1, _⟩ => (Nat.zero_add _).symm
  have e2 : extractStridedSlice S8x128 ![8, 0] v slices_S16x128_o8_0_S8x128 (ValueIdx.ix2 s l : S8x128.Idx) = v (i16 ⟨s.val + 8, by omega⟩ l) :=
    extractStridedSlice_apply _ _ _ _ _ fun a => match a with
    | ⟨0, _⟩ => Nat.add_comm _ _
    | ⟨1, _⟩ => (Nat.zero_add _).symm
  show (shapeCast S8x128 f shapeCasts_S1x8x128_S8x128 (ValueIdx.ix2 s l : S8x128.Idx) : EReal) + ((extractStridedSlice S8x128 ![0, 0] v slices_S16x128_o0_0_S8x128 (ValueIdx.ix2 s l : S8x128.Idx) : EReal)
    + extractStridedSlice S8x128 ![8, 0] v slices_S16x128_o8_0_S8x128 (ValueIdx.ix2 s l : S8x128.Idx)) = _
  rw [e0, e1, e2]

theorem acc0_next (s : Sums Ideal) (f : S2x8x128.Idx → Elt Ideal .f32) (r : Fin 8) (l : Fin 128) :
    getA rA0 (accNext s f) (i8a r l) = (getA rA0 f (i8a r l) : EReal) + (qv s (i16 ⟨r.val, by omega⟩ l) + qv s (i16 ⟨r.val + 8, by omega⟩ l)) := by
  cases s with
  | none => show (getA rA0 f (i8a r l) : EReal) = getA rA0 f (i8a r l) + ((0 : EReal) + 0); rw [add_zero, add_zero]
  | some s =>
    unfold accNext
    rw [getA_other 0 1 (by decide), getA_same 0]
    exact pay102_at _ _ _ _
theorem acc1_next (s : Sums Ideal) (f : S2x8x128.Idx → Elt Ideal .f32) (r : Fin 8) (l : Fin 128) :
    getA rA1 (accNext s f) (i8a r l) = (getA rA1 f (i8a r l) : EReal) + (pv s (i16 ⟨r.val, by omega⟩ l) + pv s (i16 ⟨r.val + 8, by omega⟩ l)) := by
  cases s with
  | none => show (getA rA1 f (i8a r l) : EReal) = getA rA1 f (i8a r l) + ((0 : EReal) + 0); rw [add_zero, add_zero]
  | some s =>
    unfold accNext
    rw [getA_same 1]
    refine (pay102_at _ _ _ _).trans ?_
    rw [getA_other 1 0 (by decide)]; rfl

theorem onesF_at (i : S16x128.Idx) : (onesF (F := Ideal) i : EReal) = 1 := by
  unfold onesF k0_pay1
  show (getN (F := Ideal) (k0_pay733 (F := Ideal)) i : EReal) = 1
  unfold getN k0_pay733
  dsimp only
  rw [shapeCast_self]
  exact Ideal.ofBits_one_bf16

theorem acc_zero (r : Rect S2x8x128) (y : r.shape.Idx) : (getA (F := Ideal) r (k0_pay734 (F := Ideal)) y : EReal) = 0 := by
  unfold getA k0_pay734
  dsimp only
  rw [shapeCast_self]
  exact Ideal.ofBits_zero_f32

section Group
variable (I : Ins Ideal) (g : ℕ) (l : Fin 128) (E X : ℕ → Fin 12 → ℕ → EReal)
  (hE : ∀ n < 72, ∀ k (r : Fin 32), mskT I g n k (i32 r l) = E n k r.val)
  (hX : ∀ n < 72, ∀ k (r : Fin 32), tileAt (grp g I.X) 0 n k (ixT r l) = X n k r.val)

theorem pay4_at (v : Vec Ideal S1x1x1x32x128 .fp8e4m3) (r : Fin 32) (l : Fin 128) : k0_pay4 v (i32 r l) = (v (ixT r l) : EReal) := by
  unfold k0_pay4
  exact shapeCast_apply v shapeCasts_S1x1x1x32x128_S32x128 (i32 r l) (ixT r l) (by
    rw [Shape.rowMajor_val_five, Shape.rowMajor_val_two]; show (((0 * 1 + 0) * 1 + 0) * 32 + r.val) * 128 + l.val = r.val * 128 + l.val; omega)

include hE hX in
theorem acc0_at (s : Fin 8) : ∀ n ≤ 72, getA rA0 (accAt I g n) (i8a s l)
    = ∑ n' ∈ Finset.range n, ((∑ k, (E n' k s.val + E n' k (s.val + 16))) + ∑ k, (E n' k (s.val + 8) + E n' k (s.val + 8 + 16)))
  | 0, _ => acc_zero _ _
  | n + 1, hn => by
    rw [Finset.sum_range_succ, ← acc0_at s n (by omega)]
    refine (acc0_next _ _ _ _).trans ?_
    rw [qv_sums onesF onesF_at _ _ _ 0 n l (E n) (hE n (by omega)), qv_sums onesF onesF_at _ _ _ 0 n l (E n) (hE n (by omega)), sum_fin12, sum_fin12]
    show _ + ((0 : EReal) + _ + ((0 : EReal) + _)) = _
    rw [zero_add, zero_add]

include hE hX in
theorem acc1_at (s : Fin 8) : ∀ n ≤ 72, getA rA1 (accAt I g n) (i8a s l)
    = ∑ n' ∈ Finset.range n, ((∑ k, (E n' k s.val * X n' k s.val + E n' k (s.val + 16) * X n' k (s.val + 16)))
        + ∑ k, (E n' k (s.val + 8) * X n' k (s.val + 8) + E n' k (s.val + 8 + 16) * X n' k (s.val + 8 + 16)))
  | 0, _ => acc_zero _ _
  | n + 1, hn => by
    rw [Finset.sum_range_succ, ← acc1_at s n (by omega)]
    refine (acc1_next _ _ _ _).trans ?_
    have hx : ∀ k (r : Fin 32), k0_pay4 (tileAt (grp g I.X) 0 n k) (i32 r l) = X n k r.val := fun k r => (pay4_at _ _ _).trans (hX n (by omega) k r)
    rw [pv_sums onesF _ _ _ 0 n l (E n) (X n) (hE n (by omega)) hx, pv_sums onesF _ _ _ 0 n l (E n) (X n) (hE n (by omega)) hx, sum_fin12, sum_fin12]
    show _ + ((0 : EReal) + _ + ((0 : EReal) + _)) = _
    rw [zero_add, zero_add]

/-- Eight sublanes of four rows each are the thirty-two rows. -/
theorem rows32 (f : ℕ → EReal) : ∑ s : Fin 8, ((f s.val + f (s.val + 16)) + (f (s.val + 8) + f (s.val + 8 + 16))) = ∑ r ∈ Finset.range 32, f r := by
  rw [Finset.sum_fin_eq_sum_range]
  simp only [Finset.sum_range_succ, Finset.sum_range_zero, zero_add]
  norm_num
  abel

theorem swap32 (f : ℕ → Fin 12 → ℕ → EReal) :
    ∑ s : Fin 8, ∑ n ∈ Finset.range 72, ((∑ k, (f n k s.val + f n k (s.val + 16))) + ∑ k, (f n k (s.val + 8) + f n k (s.val + 8 + 16)))
      = ∑ n ∈ Finset.range 72, ∑ k, ∑ r ∈ Finset.range 32, f n k r := by
  rw [Finset.sum_comm]
  refine Finset.sum_congr rfl fun n _ => ?_
  simp only [← Finset.sum_add_distrib]
  rw [Finset.sum_comm]
  exact Finset.sum_congr rfl fun k _ => rows32 (f n k)

theorem pay739_at (v : Vec Ideal S1x8x128 .f32) (l : Fin 128) : k0_pay739 v (ix1 l) = ∑ s : Fin 8, (v (i8a s l) : EReal) := by
  unfold k0_pay739
  refine (shapeCast_apply _ _ _ (ValueIdx.ix1 l : S128.Idx) (by
    rw [Shape.rowMajor_val_one, Shape.rowMajor_val_two]; show l.val = 0 * 128 + l.val; omega)).trans ?_
  refine (Ideal.multiReduction_add_single _ _ _ _ _ _).trans ?_
  refine Finset.sum_congr rfl fun s _ => ?_
  exact shapeCast_apply v shapeCasts_S1x8x128_S8x128 _ (i8a s l) (by
    rw [Shape.rowMajor_val_two, Shape.rowMajor_val_three]; show (0 * 8 + s.val) * 128 + l.val = s.val * 128 + l.val; omega)

include hE hX in
theorem sum_g : k0_pay739 (gA0 I g) (ix1 l) = ∑ n ∈ Finset.range 72, ∑ k, ∑ r ∈ Finset.range 32, E n k r := by
  rw [pay739_at, ← swap32]
  exact Finset.sum_congr rfl fun s _ => acc0_at I g l E X hE hX s 72 le_rfl
include hE hX in
theorem sum_gx : k0_pay739 (gA1 I g) (ix1 l) = ∑ n ∈ Finset.range 72, ∑ k, ∑ r ∈ Finset.range 32, E n k r * X n k r := by
  rw [pay739_at, ← swap32 (fun n k r => E n k r * X n k r)]
  exact Finset.sum_congr rfl fun s _ => acc1_at I g l E X hE hX s 72 le_rfl
end Group

end Cert.KernelIdeal.Hand

end
-- ==== Proof.Val.Alg.lean ====
/-
  The algebra over the reals: the kernel's closed forms of the two statistics and of `dx`, and the reference's sums.
-/
module

public import Mathlib.Data.EReal.Operations
public import Mathlib.Tactic.Ring
public import Mathlib.Algebra.BigOperators.Ring.Finset
public import Mathlib.Algebra.BigOperators.Fin

@[expose] public section

noncomputable section

namespace Cert.Val

open Finset

theorem coe_sum (n : ℕ) (f : ℕ → ℝ) : ∑ i ∈ range n, ((f i : ℝ) : EReal) = ((∑ i ∈ range n, f i : ℝ) : EReal) := by
  induction n with
  | zero => simp
  | succ n ih => rw [sum_range_succ, sum_range_succ, ih, EReal.coe_add]

variable (N : ℕ) (g x : ℕ → ℝ) (s d μ ρ γ c : ℝ)

/-- The sum of the gradients, and of their products with the inputs. -/
def sg : EReal := ∑ i ∈ range N, (g i : EReal)
def sx : EReal := ∑ i ∈ range N, (g i : EReal) * (x i : EReal)
/-- The two statistics as the kernel forms them. -/
def kb : EReal := sg N g * (d : EReal)
def kg : EReal := ((sx N g x * (d : EReal)) * (s : EReal) - (μ : EReal) * (sg N g * (d : EReal))) * (ρ : EReal)
/-- The two statistics as the reference forms them. -/
def rb : EReal := ∑ i ∈ range N, (g i : EReal) * (d : EReal)
def rg : EReal := ∑ i ∈ range N, ((g i : EReal) * (d : EReal)) * (((x i : EReal) * (s : EReal) - (μ : EReal)) * (ρ : EReal))

theorem sg_eq : sg N g = ((∑ i ∈ range N, g i : ℝ) : EReal) := coe_sum N g
theorem sx_eq : sx N g x = ((∑ i ∈ range N, g i * x i : ℝ) : EReal) := by
  rw [← coe_sum]; exact sum_congr rfl fun i _ => (EReal.coe_mul _ _).symm
theorem kb_real : kb N g d = (((∑ i ∈ range N, g i) * d : ℝ) : EReal) := by unfold kb; rw [sg_eq, EReal.coe_mul]
theorem kg_real : kg N g x s d μ ρ = (((((∑ i ∈ range N, g i * x i) * d) * s - μ * ((∑ i ∈ range N, g i) * d)) * ρ : ℝ) : EReal) := by
  unfold kg; rw [sg_eq, sx_eq]; simp only [EReal.coe_mul, EReal.coe_sub]
theorem kb_eq : kb N g d = rb N g d := by
  rw [kb_real, sum_mul, ← coe_sum]; exact sum_congr rfl fun i _ => EReal.coe_mul _ _
theorem kg_eq : kg N g x s d μ ρ = rg N g x s d μ ρ := by
  have e : rg N g x s d μ ρ = ((∑ i ∈ range N, (g i * d) * ((x i * s - μ) * ρ) : ℝ) : EReal) := by
    rw [← coe_sum]; exact sum_congr rfl fun i _ => by simp only [EReal.coe_mul, EReal.coe_sub]
  rw [kg_real, e]
  congr 1
  rw [sum_mul, sum_mul, sum_mul, mul_sum, ← sum_sub_distrib, sum_mul]
  exact sum_congr rfl fun i _ => by ring

/-- `dx` at a row, as the kernel forms it and as the reference does. -/
theorem dx_eq (gi xi : ℝ) :
    (gi : EReal) * (((ρ : EReal) * γ) * d) + ((xi : EReal) * ((0 - ((ρ : EReal) * γ) * ((ρ : EReal) * (kg N g x s d μ ρ * c))) * s)
        + ((ρ : EReal) * γ) * ((μ : EReal) * ((ρ : EReal) * (kg N g x s d μ ρ * c)) - kb N g d * c))
      = ((ρ : EReal) * γ) * (((gi : EReal) * d - rb N g d * c) - (((xi : EReal) * s - μ) * ρ) * (rg N g x s d μ ρ * c)) := by
  rw [← kb_eq, ← kg_eq, kb_real, kg_real]
  generalize (∑ i ∈ range N, g i) * d = b
  generalize (((∑ i ∈ range N, g i * x i) * d) * s - μ * b) * ρ = k
  rw [show (0 : EReal) = ((0 : ℝ) : EReal) from rfl]
  simp only [← EReal.coe_mul, ← EReal.coe_sub, ← EReal.coe_add]
  congr 1
  ring

/-- A sum over rows of columns, laid out in one line. -/
theorem sum_rows (m n : ℕ) (f : ℕ → EReal) : ∑ a ∈ range m, ∑ b ∈ range n, f (a * n + b) = ∑ i ∈ range (m * n), f i := by
  induction m with
  | zero => simp
  | succ m ih => rw [sum_range_succ, ih, Nat.succ_mul, sum_range_add]

/-- The kernel's order of rows and the reference's. -/
theorem sum_slabs (f : ℕ → EReal) : ∑ n ∈ range 72, ∑ k : Fin 12, ∑ r ∈ range 32, f ((n * 12 + k.val) * 32 + r) = ∑ i ∈ range 27648, f i := by
  rw [show (27648 : ℕ) = 864 * 32 from rfl, ← sum_rows 864 32, show (864 : ℕ) = 72 * 12 from rfl, ← sum_rows 72 12]
  exact sum_congr rfl fun n _ => (sum_range fun k => ∑ r ∈ range 32, f ((n * 12 + k) * 32 + r)).symm
theorem sum_images (f : ℕ → EReal) : ∑ a : Fin 48, ∑ b : Fin 576, f (a.val * 576 + b.val) = ∑ i ∈ range 27648, f i := by
  rw [show (27648 : ℕ) = 48 * 576 from rfl, ← sum_rows 48 576, sum_range]
  exact sum_congr rfl fun a _ => (sum_range fun b => f (a.val * 576 + b)).symm

end Cert.Val

end
-- ==== Proof.Val.Ker.lean ====
/-
  The kernel's results in closed form: each statistic and each element of `dx`, from the sums over the rows.
-/
module

public import proofs.«01_k».proof.Proof.Val.Sum
public import proofs.«01_k».proof.Proof.Val.Alg

@[expose] public section

noncomputable section

namespace Cert.KernelIdeal.Hand

open Cert.KernelIdeal Cert.KernelIdeal.Gen Cert.Val
open Idealize.ShloMosaic

theorem pay736_eq (v : Vec Ideal S1x128 .f32) : k0_pay736 v = v := by unfold k0_pay736; exact shapeCast_self _ _
theorem pay737_eq (v : Vec Ideal S1x128 .f32) : k0_pay737 v = v := by unfold k0_pay737; exact shapeCast_self _ _
theorem pay738_eq (v : Vec Ideal S1x128 .f32) : k0_pay738 v = v := by unfold k0_pay738; exact shapeCast_self _ _

abbrev i3c (r : Fin 32) (l : Fin 128) : S1x32x128.Idx := ValueIdx.ix3 (0 : Fin 1) r l

theorem spread_at (w : FVec Ideal S1x128 .f32) (r : Fin 32) (l : Fin 128) :
    shapeCast S1x32x128 (broadcastTo S32x128 (shapeCast S1x128 w shapeCasts_S1x128_S1x128) broadcasts_S1x128_S32x128) shapeCasts_S32x128_S1x32x128 (i3c r l) = w (ix1 l) := by
  rw [shapeCast_self]
  refine (shapeCast_apply _ _ _ (i32 r l) (by
    rw [Shape.rowMajor_val_two, Shape.rowMajor_val_three]; show r.val * 128 + l.val = (0 * 32 + r.val) * 128 + l.val; omega)).trans ?_
  exact broadcastTo_apply _ _ _ _ fun a => match a with
    | ⟨0, _⟩ => rfl
    | ⟨1, _⟩ => rfl

theorem pay107_at (c0 c1 c2 : Vec Ideal S1x32x128 .f32) (g : Vec Ideal S1x1x1x32x128 .fp8e5m2) (x : Vec Ideal S1x1x1x32x128 .fp8e4m3) (r : Fin 32) (l : Fin 128) :
    k0_pay107 c0 c1 c2 g x (ixT r l) = (g (ixT r l) : EReal) * c0 (i3c r l) + ((x (ixT r l) : EReal) * c1 (i3c r l) + c2 (i3c r l)) := by
  have ec : ∀ c : Vec Ideal S1x32x128 .f32, shapeCast S32x128 c shapeCasts_S1x32x128_S32x128 (i32 r l) = c (i3c r l) := fun c =>
    shapeCast_apply c _ _ _ (by rw [Shape.rowMajor_val_two, Shape.rowMajor_val_three]; show (0 * 32 + r.val) * 128 + l.val = r.val * 128 + l.val; omega)
  have et : ∀ {α : Type} (f : S1x1x1x32x128.Idx → α), shapeCast S32x128 f shapeCasts_S1x1x1x32x128_S32x128 (i32 r l) = f (ixT r l) := fun f =>
    shapeCast_apply f _ _ _ (by rw [Shape.rowMajor_val_five, Shape.rowMajor_val_two]; show (((0 * 1 + 0) * 1 + 0) * 32 + r.val) * 128 + l.val = r.val * 128 + l.val; omega)
  unfold k0_pay107
  refine (shapeCast_apply _ _ _ (i32 r l) (by
    rw [Shape.rowMajor_val_five, Shape.rowMajor_val_two]; show r.val * 128 + l.val = (((0 * 1 + 0) * 1 + 0) * 32 + r.val) * 128 + l.val; omega)).trans ?_
  show (shapeCast S32x128 g shapeCasts_S1x1x1x32x128_S32x128 (i32 r l) : EReal) * shapeCast S32x128 c0 shapeCasts_S1x32x128_S32x128 (i32 r l)
    + ((shapeCast S32x128 x shapeCasts_S1x1x1x32x128_S32x128 (i32 r l) : EReal) * shapeCast S32x128 c1 shapeCasts_S1x32x128_S32x128 (i32 r l)
      + shapeCast S32x128 c2 shapeCasts_S1x32x128_S32x128 (i32 r l)) = _
  rw [et, et, ec, ec, ec]

section Group
variable (I : Ins Ideal) (g : ℕ) (l : Fin 128) (gr xr : ℕ → ℝ) (s d μ ρ γ c : ℝ)
  (hE : ∀ n < 72, ∀ (k : Fin 12) (r : Fin 32), (mskT I g n k (i32 r l) : EReal) = (gr ((n * 12 + k.val) * 32 + r.val) : EReal))
  (hX : ∀ n < 72, ∀ (k : Fin 12) (r : Fin 32), (tileAt (grp g I.X) 0 n k (ixT r l) : EReal) = (xr ((n * 12 + k.val) * 32 + r.val) : EReal))
  (hs : (I.xs : EReal) = (s : EReal)) (hd : (I.ys : EReal) = (d : EReal)) (hm : (rowOf I.me g (ix1 l) : EReal) = (μ : EReal))
  (hr : (rowOf I.rs g (ix1 l) : EReal) = (ρ : EReal)) (hg : (rowOf I.ga g (ix1 l) : EReal) = (γ : EReal))
  (hc : Ideal.ofBits .f32 0x3817B426#32 = (c : EReal))

include hE hX in
theorem tot_g : (k0_pay739 (gA0 I g) (ix1 l) : EReal) = sg 27648 gr :=
  (sum_g I g l (fun n k r => (gr ((n * 12 + k.val) * 32 + r) : EReal)) (fun n k r => (xr ((n * 12 + k.val) * 32 + r) : EReal)) hE hX).trans (sum_slabs fun i => (gr i : EReal))
include hE hX in
theorem tot_gx : (k0_pay739 (gA1 I g) (ix1 l) : EReal) = sx 27648 gr xr :=
  (sum_gx I g l (fun n k r => (gr ((n * 12 + k.val) * 32 + r) : EReal)) (fun n k r => (xr ((n * 12 + k.val) * 32 + r) : EReal)) hE hX).trans (sum_slabs fun i => (gr i : EReal) * (xr i : EReal))

include hE hX hd in
theorem dbRow_at : (dbRow I g (ix1 l) : EReal) = kb 27648 gr d := by
  show (k0_pay739 (gA0 I g) (ix1 l) : EReal) * (I.ys : EReal) = _
  rw [tot_g I g l gr xr hE hX, hd]; rfl

include hE hX hd hs hm hr in
theorem dgRow_at : (dgRow I g (ix1 l) : EReal) = kg 27648 gr xr s d μ ρ := by
  unfold dgRow
  rw [pay736_eq, pay737_eq]
  show (((k0_pay739 (gA1 I g) (ix1 l) : EReal) * (I.ys : EReal)) * (I.xs : EReal) - (rowOf I.me g (ix1 l) : EReal) * ((k0_pay739 (gA0 I g) (ix1 l) : EReal) * (I.ys : EReal))) * (rowOf I.rs g (ix1 l) : EReal) = _
  rw [tot_g I g l gr xr hE hX, tot_gx I g l gr xr hE hX, hd, hs, hm, hr]; rfl

include hd hr hg in
theorem cf0_at (r : Fin 32) : (cf0 I g (i3c r l) : EReal) = ((ρ : EReal) * γ) * d := by
  unfold cf0 k0_pay745
  refine (spread_at _ r l).trans ?_
  rw [pay737_eq, pay738_eq]
  show ((rowOf I.rs g (ix1 l) : EReal) * (rowOf I.ga g (ix1 l) : EReal)) * (I.ys : EReal) = _
  rw [hd, hr, hg]

include hE hX hd hs hm hr hc in
theorem k744_at : (k0_pay744 I.xs I.ys (k0_pay736 (rowOf I.me g)) (k0_pay737 (rowOf I.rs g)) (k0_pay739 (gA0 I g)) (k0_pay740 I.ys) (gA1 I g) (ix1 l) : EReal)
    = (ρ : EReal) * (kg 27648 gr xr s d μ ρ * c) := by
  show (k0_pay737 (rowOf I.rs g) (ix1 l) : EReal) * ((dgRow I g (ix1 l) : EReal) * Ideal.ofBits .f32 0x3817B426#32) = _
  rw [pay737_eq, hr, dgRow_at I g l gr xr s d μ ρ hE hX hs hd hm hr, hc]

include hE hX hd hs hm hr hg hc in
theorem cf1_at (r : Fin 32) : (cf1 I g (i3c r l) : EReal) = (0 - ((ρ : EReal) * γ) * ((ρ : EReal) * (kg 27648 gr xr s d μ ρ * c))) * s := by
  unfold cf1 k0_pay746
  refine (spread_at _ r l).trans ?_
  show (Ideal.ofBits .f32 0x00000000#32 - ((k0_pay737 (rowOf I.rs g) (ix1 l) : EReal) * (k0_pay738 (rowOf I.ga g) (ix1 l) : EReal))
    * (k0_pay744 I.xs I.ys (k0_pay736 (rowOf I.me g)) (k0_pay737 (rowOf I.rs g)) (k0_pay739 (gA0 I g)) (k0_pay740 I.ys) (gA1 I g) (ix1 l) : EReal)) * (I.xs : EReal) = _
  rw [k744_at I g l gr xr s d μ ρ c hE hX hs hd hm hr hc, pay737_eq, pay738_eq, hr, hg, hs, Ideal.ofBits_zero_f32]

include hE hX hd hs hm hr hg hc in
theorem cf2_at (r : Fin 32) : (cf2 I g (i3c r l) : EReal)
    = ((ρ : EReal) * γ) * ((μ : EReal) * ((ρ : EReal) * (kg 27648 gr xr s d μ ρ * c)) - kb 27648 gr d * c) := by
  unfold cf2 k0_pay748
  refine (spread_at _ r l).trans ?_
  show ((k0_pay737 (rowOf I.rs g) (ix1 l) : EReal) * (k0_pay738 (rowOf I.ga g) (ix1 l) : EReal)) * ((k0_pay736 (rowOf I.me g) (ix1 l) : EReal)
    * (k0_pay744 I.xs I.ys (k0_pay736 (rowOf I.me g)) (k0_pay737 (rowOf I.rs g)) (k0_pay739 (gA0 I g)) (k0_pay740 I.ys) (gA1 I g) (ix1 l) : EReal)
      - (dbRow I g (ix1 l) : EReal) * Ideal.ofBits .f32 0x3817B426#32) = _
  rw [k744_at I g l gr xr s d μ ρ c hE hX hs hd hm hr hc, dbRow_at I g l gr xr d hE hX hd, pay736_eq, pay737_eq, pay738_eq, hr, hg, hm, hc]

theorem GS_at (n : ℕ) (hn : n < 72) (k : Fin 12) (r : Fin 32) : (tileAt (GS I g 72) 0 n k (ixT r l) : EReal) = mskT I g n k (i32 r l) := by
  show (if n % 72 < 72 then k0_pay100 (mskT I g (n % 72) k) (ixT r l) else _ : EReal) = _
  rw [if_pos (Nat.mod_lt _ (by decide)), Nat.mod_eq_of_lt hn]
  unfold k0_pay100
  exact shapeCast_apply _ _ _ (i32 r l) (by
    rw [Shape.rowMajor_val_five, Shape.rowMajor_val_two]; show r.val * 128 + l.val = (((0 * 1 + 0) * 1 + 0) * 32 + r.val) * 128 + l.val; omega)

include hE hX hd hs hm hr hg hc in
/-- An element of `dx`: what the reference has there. -/
theorem dxT_at (n : ℕ) (hn : n < 72) (k : Fin 12) (r : Fin 32) : (dxT I g n k (ixT r l) : EReal)
    = ((ρ : EReal) * γ) * (((gr ((n * 12 + k.val) * 32 + r.val) : EReal) * d - rb 27648 gr d * c) - (((xr ((n * 12 + k.val) * 32 + r.val) : EReal) * s - μ) * ρ) * (rg 27648 gr xr s d μ ρ * c)) := by
  unfold dxT
  refine (pay107_at _ _ _ _ _ r l).trans ?_
  rw [GS_at I g l n hn k r, hE n hn k r, hX n hn k r, cf0_at I g l d ρ γ hd hr hg r, cf1_at I g l gr xr s d μ ρ γ c hE hX hs hd hm hr hg hc r,
    cf2_at I g l gr xr s d μ ρ γ c hE hX hs hd hm hr hg hc r]
  exact dx_eq 27648 gr xr s d μ ρ γ c _ _
end Group

end Cert.KernelIdeal.Hand

end
-- ==== Proof.Val.Host.lean ====
/-
  What the host operations around the kernel's call do: the arrays it reads, and the results from those it writes.
-/
module

public import proofs.«01_k».proof.Proof.Val.Ker
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe

variable (m : (ℓ : Loc nD τ sig) → Buf (Elt Ideal) ℓ) (c : Dev nD)

theorem kv_v7 : V m c main_v7 = shapeCast S72x12x32x768 (bitcastToFloat (F := Ideal) .fp8e4m3 (m ((c : Thread nD τ).loc main_arg0))) shapeCasts_S48x576x768_S72x12x32x768 := by
  unfold V V0; simp only [hostOps0, List.flatten_cons, List.flatten_nil, List.append_nil, List.cons_append, List.nil_append]; after_results; rfl
theorem kv_v8 : V m c main_v8 = shapeCast S72x12x32x768 (bitcastToFloat (F := Ideal) .fp8e5m2 (m ((c : Thread nD τ).loc main_arg2))) shapeCasts_S48x576x768_S72x12x32x768 := by
  unfold V V0; simp only [hostOps0, List.flatten_cons, List.flatten_nil, List.append_nil, List.cons_append, List.nil_append]; after_results; rfl
theorem kv_v9 : V m c main_v9 = shapeCast S72x12x32x768 (m ((c : Thread nD τ).loc main_arg4)) shapeCasts_S48x576x768_S72x12x32x768 := by
  unfold V V0; simp only [hostOps0, List.flatten_cons, List.flatten_nil, List.append_nil, List.cons_append, List.nil_append]; after_results; rfl
theorem kv_v2 : V m c main_v2 = shapeCast S1 (m ((c : Thread nD τ).loc main_arg1)) shapeCasts_S_S1 := by
  unfold V V0; simp only [hostOps0, List.flatten_cons, List.flatten_nil, List.append_nil, List.cons_append, List.nil_append]; after_results; rfl
theorem kv_v3 : V m c main_v3 = shapeCast S1 (m ((c : Thread nD τ).loc main_arg3)) shapeCasts_S_S1 := by
  unfold V V0; simp only [hostOps0, List.flatten_cons, List.flatten_nil, List.append_nil, List.cons_append, List.nil_append]; after_results; rfl
theorem kv_v4 : V m c main_v4 = shapeCast S6x128 (m ((c : Thread nD τ).loc main_arg5)) shapeCasts_S768_S6x128 := by
  unfold V V0; simp only [hostOps0, List.flatten_cons, List.flatten_nil, List.append_nil, List.cons_append, List.nil_append]; after_results; rfl
theorem kv_v5 : V m c main_v5 = shapeCast S6x128 (m ((c : Thread nD τ).loc main_arg6)) shapeCasts_S768_S6x128 := by
  unfold V V0; simp only [hostOps0, List.flatten_cons, List.flatten_nil, List.append_nil, List.cons_append, List.nil_append]; after_results; rfl
theorem kv_v6 : V m c main_v6 = shapeCast S6x128 (m ((c : Thread nD τ).loc main_arg7)) shapeCasts_S768_S6x128 := by
  unfold V V0; simp only [hostOps0, List.flatten_cons, List.flatten_nil, List.append_nil, List.cons_append, List.nil_append]; after_results; rfl

theorem W_v11 : W m c main_v11 = shapeCast S48x576x768 (DV (ins m c)) shapeCasts_S72x12x32x768_S48x576x768 := by
  have e : (Pipeline.withArrays spec0 c (Pipeline.withR (V0 m c) hR c (GG m c)) fun w => (dats m 0 c).arrAt w cfg0.N) (Proc.devRef .tc main_v10_0) = DV (ins m c) := by
    rw [Pipeline.withArrays_of_ne _ c _ _ main_v10_0 (by exact (by decide : ∀ w, Pipeline.arrRef spec0 w ≠ main_v10_0)), Pipeline.withR_of_mem _ hR c _ main_v10_0 (by decide)]
    exact GG_d m c
  rw [← e]
  unfold W
  generalize (Pipeline.withArrays spec0 c (Pipeline.withR (V0 m c) hR c (GG m c)) fun w => (dats m 0 c).arrAt w cfg0.N) = A
  simp only [hostOps1, List.flatten_cons, List.flatten_nil, List.append_nil, List.cons_append, List.nil_append]
  after_results; rfl
theorem W_v12 : W m c main_v12 = shapeCast S768 (DGV (ins m c)) shapeCasts_S6x128_S768 := by
  have e : (Pipeline.withArrays spec0 c (Pipeline.withR (V0 m c) hR c (GG m c)) fun w => (dats m 0 c).arrAt w cfg0.N) (Proc.devRef .tc main_v10_1) = DGV (ins m c) :=
    (Pipeline.withArrays_arr spec0 (by decide) c _ _ 5).trans (final_5 m c)
  rw [← e]
  unfold W
  generalize (Pipeline.withArrays spec0 c (Pipeline.withR (V0 m c) hR c (GG m c)) fun w => (dats m 0 c).arrAt w cfg0.N) = A
  simp only [hostOps1, List.flatten_cons, List.flatten_nil, List.append_nil, List.cons_append, List.nil_append]
  after_results; rfl
theorem W_v13 : W m c main_v13 = shapeCast S768 (DBV (ins m c)) shapeCasts_S6x128_S768 := by
  have e : (Pipeline.withArrays spec0 c (Pipeline.withR (V0 m c) hR c (GG m c)) fun w => (dats m 0 c).arrAt w cfg0.N) (Proc.devRef .tc main_v10_2) = DBV (ins m c) :=
    (Pipeline.withArrays_arr spec0 (by decide) c _ _ 6).trans (final_6 m c)
  rw [← e]
  unfold W
  generalize (Pipeline.withArrays spec0 c (Pipeline.withR (V0 m c) hR c (GG m c)) fun w => (dats m 0 c).arrAt w cfg0.N) = A
  simp only [hostOps1, List.flatten_cons, List.flatten_nil, List.append_nil, List.cons_append, List.nil_append]
  after_results; rfl

end Cert.KernelIdeal.Hand

end
-- ==== Proof.Val.Ref.lean ====
/-
  The reference's three values, element by element, over the reals.
-/
module

public import proofs.«01_k».proof.Proof.Gen.ReferenceIdeal.Value
public import proofs.«01_k».proof.Proof.Val.Alg
public import Idealize.ShloMosaic.Lib.IdealHost
public import Idealize.ShloMosaic.PureOps.Ideal.Laws
public import Idealize.ShloMosaic.Lib.Pointwise.Reduce
public import Idealize.ShloMosaic.Lib.Pointwise.Tactic

@[expose] public section

noncomputable section

namespace Cert.ReferenceIdeal.Value

open Cert.ReferenceIdeal Cert.ReferenceIdeal.Gen Cert.Val
open Idealize.ShloMosaic

abbrev j3 (a : Fin 48) (b : Fin 576) (j : Fin 768) : S48x576x768.Idx := ValueIdx.ix3 a b j
abbrev j1 (j : Fin 768) : S768.Idx := ValueIdx.ix1 j
abbrev j0 : S1x1x1.Idx := ValueIdx.ix3 (0 : Fin 1) (0 : Fin 1) (0 : Fin 1)

theorem fiber_01 (h : S48x576x768.Reduces [0, 1] S768) (j : Fin 768) (i : S48x576x768.Idx) :
    h.reducesTo.drop i = j1 j ↔ ∃ k : Fin 48 × Fin 576, j3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, by decide⟩)).symm
  · rintro ⟨k, rfl⟩
    funext a; apply Fin.ext
    match a with
    | ⟨0, _⟩ => rfl

theorem red_at (v : FVec Ideal S48x576x768 .f32) (j : Fin 768) :
    (multiReduction .add [0, 1] S768 v 0x00000000#32 reduces_S48x576x768_S768 (.inl rfl) rfl (j1 j) : EReal) = ∑ a : Fin 48, ∑ b : Fin 576, (v (j3 a b j) : EReal) := by
  have h1 := _root_.Finset.sum_filter_eq_sum_of_fiber (M := EReal) (fun i => reduces_S48x576x768_S768.reducesTo.drop i = j1 j) (fun k : Fin 48 × Fin 576 => j3 k.1 k.2 j)
    (fun a b e => Prod.ext (congrFun e 0) (congrFun e 1)) (fiber_01 reduces_S48x576x768_S768 j) v
  refine Eq.trans ?_ (h1.trans (Fintype.sum_prod_type _))
  rfl

theorem chan_at (w : FVec Ideal S768 .f32) (a : Fin 48) (b : Fin 576) (j : Fin 768) :
    broadcastTo S48x576x768 (shapeCast S1x1x768 w shapeCasts_S768_S1x1x768) broadcasts_S1x1x768_S48x576x768 (j3 a b j) = w (j1 j) := by
  refine (broadcastTo_apply _ _ _ (ValueIdx.ix3 (0 : Fin 1) (0 : Fin 1) j : S1x1x768.Idx) fun a => match a with
    | ⟨0, _⟩ => rfl
    | ⟨1, _⟩ => rfl
    | ⟨2, _⟩ => rfl).trans ?_
  exact shapeCast_apply w _ _ (j1 j) (by rw [Shape.rowMajor_val_one, Shape.rowMajor_val_three]; show j.val = (0 * 1 + 0) * 768 + j.val; omega)

theorem unit_at (w : FVec Ideal S1x1x1 .f32) (i : S48x576x768.Idx) :
    broadcastTo S48x576x768 (shapeCast S1x1x1 w shapeCasts_S1x1x1_S1x1x1) broadcasts_S1x1x1_S48x576x768 i = w j0 := by
  rw [shapeCast_self]
  exact broadcastTo_apply _ _ _ j0 fun a => match a with
    | ⟨0, _⟩ => rfl
    | ⟨1, _⟩ => rfl
    | ⟨2, _⟩ => rfl

section Chan
variable (x : Vec Ideal S48x576x768 .fp8e4m3) (xs : Vec Ideal S1x1x1 .f32) (dy : Vec Ideal S48x576x768 .fp8e5m2) (ys : Vec Ideal S1x1x1 .f32)
  (mk : Vec Ideal S48x576x768 .i8) (me rs ga : Vec Ideal S768 .f32) (j : Fin 768) (gr xr : ℕ → ℝ) (s d μ ρ γ c : ℝ)
  (hG : ∀ a b, (if mk (j3 a b j) = 0#8 then (0 : EReal) else dy (j3 a b j)) = (gr (a.val * 576 + b.val) : EReal))
  (hX : ∀ a b, (x (j3 a b j) : EReal) = (xr (a.val * 576 + b.val) : EReal))
  (hs : (xs j0 : EReal) = (s : EReal)) (hd : (ys j0 : EReal) = (d : EReal)) (hm : (me (j1 j) : EReal) = (μ : EReal))
  (hr : (rs (j1 j) : EReal) = (ρ : EReal)) (hg : (ga (j1 j) : EReal) = (γ : EReal))
  (hc : Ideal.ofBits .f32 0x3817B426#32 = (c : EReal))

include hX hs hm hr in
theorem pay2_at (a : Fin 48) (b : Fin 576) : (k0_pay2 x xs me rs (j3 a b j) : EReal) = ((xr (a.val * 576 + b.val) : EReal) * s - μ) * ρ := by
  unfold k0_pay2
  show ((shapeCast S48x576x768 x shapeCasts_S48x576x768_S48x576x768 (j3 a b j) : EReal)
    * broadcastTo S48x576x768 (shapeCast S1x1x1 xs shapeCasts_S1x1x1_S1x1x1) broadcasts_S1x1x1_S48x576x768 (j3 a b j)
    - broadcastTo S48x576x768 (shapeCast S1x1x768 me shapeCasts_S768_S1x1x768) broadcasts_S1x1x768_S48x576x768 (j3 a b j))
    * broadcastTo S48x576x768 (shapeCast S1x1x768 rs shapeCasts_S768_S1x1x768) broadcasts_S1x1x768_S48x576x768 (j3 a b j) = _
  rw [shapeCast_self, unit_at, chan_at, chan_at, hX, hs, hm, hr]

include hG hd in
theorem pay3_at (a : Fin 48) (b : Fin 576) : (k0_pay3 dy ys mk (j3 a b j) : EReal) = (gr (a.val * 576 + b.val) : EReal) * d := by
  unfold k0_pay3
  show (if IntOp.cmpi .ne (mk (j3 a b j)) 0#8 = 1#1 then ((shapeCast S48x576x768 dy shapeCasts_S48x576x768_S48x576x768 (j3 a b j) : EReal)
    * broadcastTo S48x576x768 (shapeCast S1x1x1 ys shapeCasts_S1x1x1_S1x1x1) broadcasts_S1x1x1_S48x576x768 (j3 a b j)) else Ideal.ofBits .f32 0x00000000#32) = _
  rw [shapeCast_self, unit_at, hd, Ideal.ofBits_zero_f32, ← hG a b]
  have hcm : ∀ v : BitVec 8, (IntOp.cmpi .ne v 0#8 = 1#1) ↔ ¬ v = 0#8 := by
    intro v
    show BitVec.ofBool (v != 0#8) = 1#1 ↔ _
    by_cases h : v = 0#8
    · simp [h]
    · rw [show (v != 0#8) = true from bne_iff_ne.mpr h]; exact ⟨fun _ => h, fun _ => rfl⟩
  by_cases h : mk (j3 a b j) = 0#8
  · rw [if_pos h, if_neg (fun e => (hcm _).mp e h), zero_mul]
  · rw [if_neg h, if_pos ((hcm _).mpr h)]

include hG hd in
theorem pay4_at : (k0_pay4 dy ys mk (j1 j) : EReal) = rb 27648 gr d := by
  unfold k0_pay4
  refine (red_at _ j).trans ?_
  refine (Finset.sum_congr rfl fun a _ => Finset.sum_congr rfl fun b _ => pay3_at dy ys mk j gr d hG hd a b).trans ?_
  exact sum_images fun i => (gr i : EReal) * d

include hG hd hX hs hm hr in
theorem pay5_at : (k0_pay5 x xs dy ys mk me rs (j1 j) : EReal) = rg 27648 gr xr s d μ ρ := by
  unfold k0_pay5
  refine (red_at _ j).trans ?_
  refine (Finset.sum_congr rfl fun a _ => Finset.sum_congr rfl fun b _ => (congrArg₂ (fun p q : EReal => p * q) (pay3_at dy ys mk j gr d hG hd a b) (pay2_at x xs me rs j xr s μ ρ hX hs hm hr a b))).trans ?_
  exact sum_images fun i => ((gr i : EReal) * d) * (((xr i : EReal) * s - μ) * ρ)

include hG hd hX hs hm hr hg hc in
theorem pay1_at (a : Fin 48) (b : Fin 576) :
    (k0_pay1 (k0_pay2 x xs me rs) (k0_pay5 x xs dy ys mk me rs) (k0_pay6 rs ga) (k0_pay7 dy ys mk) (j3 a b j) : EReal)
    = ((ρ : EReal) * γ) * (((gr (a.val * 576 + b.val) : EReal) * d - rb 27648 gr d * c) - (((xr (a.val * 576 + b.val) : EReal) * s - μ) * ρ) * (rg 27648 gr xr s d μ ρ * c)) := by
  have e7 : (k0_pay7 dy ys mk (j3 a b j) : EReal) = (gr (a.val * 576 + b.val) : EReal) * d - rb 27648 gr d * c := by
    unfold k0_pay7
    show (k0_pay3 dy ys mk (j3 a b j) : EReal) - broadcastTo S48x576x768 (shapeCast S1x1x768 _ shapeCasts_S768_S1x1x768) broadcasts_S1x1x768_S48x576x768 (j3 a b j) = _
    rw [chan_at, pay3_at dy ys mk j gr d hG hd]
    show _ - (k0_pay4 dy ys mk (j1 j) : EReal) * Ideal.ofBits .f32 0x3817B426#32 = _
    rw [pay4_at dy ys mk j gr d hG hd, hc]
  unfold k0_pay1
  show (broadcastTo S48x576x768 (shapeCast S1x1x768 (k0_pay6 rs ga) shapeCasts_S768_S1x1x768) broadcasts_S1x1x768_S48x576x768 (j3 a b j) : EReal)
    * ((k0_pay7 dy ys mk (j3 a b j) : EReal) - (k0_pay2 x xs me rs (j3 a b j) : EReal) * broadcastTo S48x576x768 (shapeCast S1x1x768 _ shapeCasts_S768_S1x1x768) broadcasts_S1x1x768_S48x576x768 (j3 a b j)) = _
  rw [chan_at, chan_at, e7, pay2_at x xs me rs j xr s μ ρ hX hs hm hr]
  show ((rs (j1 j) : EReal) * (ga (j1 j) : EReal)) * (_ - _ * ((k0_pay5 x xs dy ys mk me rs (j1 j) : EReal) * Ideal.ofBits .f32 0x3817B426#32)) = _
  rw [pay5_at x xs dy ys mk me rs j gr xr s d μ ρ hG hX hs hd hm hr, hr, hg, hc]
end Chan

end Cert.ReferenceIdeal.Value

end
-- ==== Proof.Val.RefRun.lean ====
/-
  The reference's result arrays are its values of the whole arguments.
-/
module

public import proofs.«01_k».proof.Proof.Val.Ref
public import Idealize.ShloMosaic.Lib.Pipeline.ValueKit

@[expose] public section

noncomputable section

namespace Cert.ReferenceIdeal.Value

open Cert.ReferenceIdeal Cert.ReferenceIdeal.Gen
open Idealize.ShloMosaic Idealize.ShloMosaic.TcCoe
open Idealize.ShloMosaic.Pipeline (Dat)

variable {F : FTy → Type} [FloatOps F]
variable (m : (ℓ : Loc nD τ sig) → Buf (Elt F) ℓ) (c : Dev nD)

theorem jx_0 : ∀ (t : Fin cfg0.N) (a), win0_0.index t a = 0 := by decide +kernel
theorem jx_1 : ∀ (t : Fin cfg0.N) (a), win0_1.index t a = 0 := by decide +kernel
theorem jx_2 : ∀ (t : Fin cfg0.N) (a), win0_2.index t a = 0 := by decide +kernel
theorem jx_3 : ∀ (t : Fin cfg0.N) (a), win0_3.index t a = 0 := by decide +kernel
theorem jx_4 : ∀ (t : Fin cfg0.N) (a), win0_4.index t a = 0 := by decide +kernel
theorem jx_5 : ∀ (t : Fin cfg0.N) (a), win0_5.index t a = 0 := by decide +kernel
theorem jx_6 : ∀ (t : Fin cfg0.N) (a), win0_6.index t a = 0 := by decide +kernel
theorem jx_7 : ∀ (t : Fin cfg0.N) (a), win0_7.index t a = 0 := by decide +kernel
theorem jx_8 : ∀ (t : Fin cfg0.N) (a), win0_8.index t a = 0 := by decide +kernel
theorem jx_9 : ∀ (t : Fin cfg0.N) (a), win0_9.index t a = 0 := by decide +kernel
theorem jx_10 : ∀ (t : Fin cfg0.N) (a), win0_10.index t a = 0 := by decide +kernel

theorem jb_0 (t : Fin cfg0.N) : iblk m c 0 t = V m c main_v0 := by
  unfold iblk; generalize V m c = W; funext y; blk_ext [jx_0]
theorem jb_1 (t : Fin cfg0.N) : iblk m c 1 t = V m c main_v2 := by
  unfold iblk; generalize V m c = W; funext y; blk_ext [jx_1]
theorem jb_2 (t : Fin cfg0.N) : iblk m c 2 t = V m c main_v1 := by
  unfold iblk; generalize V m c = W; funext y; blk_ext [jx_2]
theorem jb_3 (t : Fin cfg0.N) : iblk m c 3 t = V m c main_v3 := by
  unfold iblk; generalize V m c = W; funext y; blk_ext [jx_3]
theorem jb_4 (t : Fin cfg0.N) : iblk m c 4 t = V m c main_arg4 := by
  unfold iblk; generalize V m c = W; funext y; blk_ext [jx_4]
theorem jb_5 (t : Fin cfg0.N) : iblk m c 5 t = V m c main_arg5 := by
  unfold iblk; generalize V m c = W; funext y; blk_ext [jx_5]
theorem jb_6 (t : Fin cfg0.N) : iblk m c 6 t = V m c main_arg6 := by
  unfold iblk; generalize V m c = W; funext y; blk_ext [jx_6]
theorem jb_7 (t : Fin cfg0.N) : iblk m c 7 t = V m c main_arg7 := by
  unfold iblk; generalize V m c = W; funext y; blk_ext [jx_7]

/-- The three values, of the whole arguments. -/
def valDx : Vec F S48x576x768 .bf16 := out0_8 (V m c main_v0) (V m c main_v2) (V m c main_v1) (V m c main_v3) (V m c main_arg4) (V m c main_arg5) (V m c main_arg6) (V m c main_arg7)
def valDg : Vec F S768 .f32 := out0_9 (V m c main_v0) (V m c main_v2) (V m c main_v1) (V m c main_v3) (V m c main_arg4) (V m c main_arg5) (V m c main_arg6) (V m c main_arg7)
def valDb : Vec F S768 .f32 := out0_10 (V m c main_v0) (V m c main_v2) (V m c main_v1) (V m c main_v3) (V m c main_arg4) (V m c main_arg5) (V m c main_arg6) (V m c main_arg7)

abbrev t0 : Fin cfg0.N := ⟨0, by decide +kernel⟩
theorem fl8 : ∀ t : Fin cfg0.N, (cfg0.win 8).flush t = true := by decide +kernel
theorem fl9 : ∀ t : Fin cfg0.N, (cfg0.win 9).flush t = true := by decide +kernel
theorem fl10 : ∀ t : Fin cfg0.N, (cfg0.win 10).flush t = true := by decide +kernel

theorem blk8 (t : Fin cfg0.N) : out0_8 (iblk m c 0 t) (iblk m c 1 t) (iblk m c 2 t) (iblk m c 3 t) (iblk m c 4 t) (iblk m c 5 t) (iblk m c 6 t) (iblk m c 7 t) = valDx m c := by
  unfold valDx; rw [jb_0, jb_1, jb_2, jb_3, jb_4, jb_5, jb_6, jb_7]
theorem fin8 : (dats m 0 c).arrAt 8 cfg0.N = valDx m c := by
  refine Dat.arrAt_eq_of_cover _ 8 _ (fun t _ => ?_) (fun i => ⟨t0, fl8 _, ?_⟩)
  · rw [flushed8, blk8]
    generalize valDx m c = A; funext y; symm; blk_ext [jx_8]
  · have h0 : (i 0).val < 48 := (i 0).isLt
    have h1 : (i 1).val < 576 := (i 1).isLt
    have h2 : (i 2).val < 768 := (i 2).isLt
    mem_blk [jx_8]
    all_goals omega
theorem blk9 (t : Fin cfg0.N) : out0_9 (iblk m c 0 t) (iblk m c 1 t) (iblk m c 2 t) (iblk m c 3 t) (iblk m c 4 t) (iblk m c 5 t) (iblk m c 6 t) (iblk m c 7 t) = valDg m c := by
  unfold valDg; rw [jb_0, jb_1, jb_2, jb_3, jb_4, jb_5, jb_6, jb_7]
theorem fin9 : (dats m 0 c).arrAt 9 cfg0.N = valDg m c := by
  refine Dat.arrAt_eq_of_cover _ 9 _ (fun t _ => ?_) (fun i => ⟨t0, fl9 _, ?_⟩)
  · rw [flushed9, blk9]
    generalize valDg m c = A; funext y; symm; blk_ext [jx_9]
  · have h0 : (i 0).val < 768 := (i 0).isLt
    mem_blk [jx_9]
    all_goals omega
theorem blk10 (t : Fin cfg0.N) : out0_10 (iblk m c 0 t) (iblk m c 1 t) (iblk m c 2 t) (iblk m c 3 t) (iblk m c 4 t) (iblk m c 5 t) (iblk m c 6 t) (iblk m c 7 t) = valDb m c := by
  unfold valDb; rw [jb_0, jb_1, jb_2, jb_3, jb_4, jb_5, jb_6, jb_7]
theorem fin10 : (dats m 0 c).arrAt 10 cfg0.N = valDb m c := by
  refine Dat.arrAt_eq_of_cover _ 10 _ (fun t _ => ?_) (fun i => ⟨t0, fl10 _, ?_⟩)
  · rw [flushed10, blk10]
    generalize valDb m c = A; funext y; symm; blk_ext [jx_10]
  · have h0 : (i 0).val < 768 := (i 0).isLt
    mem_blk [jx_10]
    all_goals omega

theorem ld3 {e : EltTy} (X : Vec F S48x576x768 e) : View.ld X r0_0 = X := View.ld_unit_lit _ X (by decide)
theorem ld1 {e : EltTy} (X : Vec F S1x1x1 e) : View.ld X r0_1 = X := View.ld_unit_lit _ X (by decide)
theorem ldc {e : EltTy} (X : Vec F S768 e) : View.ld X r0_2 = X := View.ld_unit_lit _ X (by decide)

theorem valDx_eq : valDx m c = k0_pay1 (k0_pay2 (V m c main_v0) (V m c main_v2) (V m c main_arg5) (V m c main_arg6)) (k0_pay5 (V m c main_v0) (V m c main_v2) (V m c main_v1) (V m c main_v3) (V m c main_arg4) (V m c main_arg5) (V m c main_arg6))
    (k0_pay6 (V m c main_arg6) (V m c main_arg7)) (k0_pay7 (V m c main_v1) (V m c main_v3) (V m c main_arg4)) := by
  unfold valDx out0_8 k0_pay8
  rw [ld3, ld3, ld3, ld1, ld1, ldc, ldc, ldc]
  exact View.canon_cons_unit_lit _ _ _ (by decide)
theorem valDg_eq : valDg m c = k0_pay5 (V m c main_v0) (V m c main_v2) (V m c main_v1) (V m c main_v3) (V m c main_arg4) (V m c main_arg5) (V m c main_arg6) := by
  unfold valDg out0_9 k0_pay8
  rw [ld3, ld3, ld3, ld1, ld1, ldc, ldc]
  exact View.canon_cons_unit_lit _ _ _ (by decide)
theorem valDb_eq : valDb m c = k0_pay4 (V m c main_v1) (V m c main_v3) (V m c main_arg4) := by
  unfold valDb out0_10
  rw [ld3, ld3, ld1]
  exact View.canon_cons_unit_lit _ _ _ (by decide)

/-! What the host operations before the call leave. -/

theorem rv_v0 : V m c main_v0 = bitcastToFloat .fp8e4m3 (m ((c : Thread nD τ).loc main_arg0)) := by
  unfold V; simp only [hostOps0]; after_results
theorem rv_v1 : V m c main_v1 = bitcastToFloat .fp8e5m2 (m ((c : Thread nD τ).loc main_arg2)) := by
  unfold V; simp only [hostOps0]; after_results
theorem rv_v2 : V m c main_v2 = shapeCast S1x1x1 (m ((c : Thread nD τ).loc main_arg1)) shapeCasts_S_S1x1x1 := by
  unfold V; simp only [hostOps0]; after_results; rfl
theorem rv_v3 : V m c main_v3 = shapeCast S1x1x1 (m ((c : Thread nD τ).loc main_arg3)) shapeCasts_S_S1x1x1 := by
  unfold V; simp only [hostOps0]; after_results; rfl

end Cert.ReferenceIdeal.Value

end
-- ==== Proof.Val.Fin.lean ====
/-
  What the precondition says of each argument: its every element is a real number.
-/
module

public import proofs.«01_k».proof.Defs
public import proofs.«01_k».proof.Proof.Val.Alg
public import Idealize.ShloMosaic.Lib.Pointwise.Tactic

@[expose] public section

noncomputable section

namespace Cert.Val

open Idealize.ShloMosaic

/-- A real number. -/
def IsReal (x : EReal) : Prop := ∃ r : ℝ, x = (r : EReal)

theorem isReal_of_lt {x : EReal} (h : x < ⊤) (h' : ⊥ < x) : IsReal x := ⟨x.toReal, (EReal.coe_toReal h.ne h'.ne').symm⟩

theorem real_e4m3 (b : BitVec 8) (h : b ≠ 127#8) (h' : b ≠ 255#8) : IsReal (Ideal.e4m3fn b) := by
  have k : ¬ ((b.extractLsb' 3 4).toNat = 15 ∧ (b.extractLsb' 0 3).toNat = 7) :=
    (by decide +kernel : ∀ b : BitVec 8, b ≠ 127#8 → b ≠ 255#8 → ¬ ((b.extractLsb' 3 4).toNat = 15 ∧ (b.extractLsb' 0 3).toNat = 7)) b h h'
  unfold Ideal.e4m3fn
  dsimp only
  rw [if_neg k]
  split
  · exact ⟨_, rfl⟩
  · exact ⟨_, rfl⟩

theorem real_e5m2 (b : BitVec 8) (h : b.toNat < 124 ∨ (128 ≤ b.toNat ∧ b.toNat < 252)) : IsReal (Ideal.ieee 5 2 b) := by
  have k : ¬ ((b.extractLsb' 2 5).toNat = 2 ^ 5 - 1) :=
    (by decide +kernel : ∀ b : BitVec 8, (b.toNat < 124 ∨ (128 ≤ b.toNat ∧ b.toNat < 252)) → ¬ ((b.extractLsb' 2 5).toNat = 2 ^ 5 - 1)) b h
  unfold Ideal.ieee
  dsimp only
  rw [if_neg k]
  split
  · exact ⟨_, rfl⟩
  · exact ⟨_, rfl⟩

theorem real_inv : IsReal (Ideal.ofBits .f32 0x3817B426#32) := by
  show IsReal (Ideal.ieee 8 23 (0x3817B426#32 : BitVec 32))
  unfold Ideal.ieee
  dsimp only
  rw [if_neg (by decide)]
  split
  · exact ⟨_, rfl⟩
  · exact ⟨_, rfl⟩

theorem inf_top : Ideal.ofBits .f32 0x7F800000#32 = ⊤ := by
  show Ideal.ieee 8 23 (0x7F800000#32 : BitVec 32) = ⊤
  unfold Ideal.ieee
  dsimp only
  rw [if_pos (by decide), if_pos (by decide), if_neg (by decide)]
theorem inf_bot : Ideal.ofBits .f32 0xFF800000#32 = ⊥ := by
  show Ideal.ieee 8 23 (0xFF800000#32 : BitVec 32) = ⊥
  unfold Ideal.ieee
  dsimp only
  rw [if_pos (by decide), if_pos (by decide), if_pos (by decide)]

theorem and_one (a b : BitVec 1) (h : IntOp.andi a b = 1#1) : a = 1#1 ∧ b = 1#1 :=
  (by decide : ∀ a b : BitVec 1, a &&& b = 1#1 → a = 1#1 ∧ b = 1#1) a b h
theorem or_one (a b : BitVec 1) (h : IntOp.ori a b = 1#1) : a = 1#1 ∨ b = 1#1 :=
  (by decide : ∀ a b : BitVec 1, a ||| b = 1#1 → a = 1#1 ∨ b = 1#1) a b h
theorem ofBool_one (p : Bool) (h : BitVec.ofBool p = 1#1) : p = true := (by decide : ∀ p : Bool, BitVec.ofBool p = 1#1 → p = true) p h

theorem real_of_cmp (x : Ideal .f32) (h : IntOp.andi (Ideal.cmp .olt x (Ideal.ofBits .f32 0x7F800000#32)) (Ideal.cmp .ogt x (Ideal.ofBits .f32 0xFF800000#32)) = 1#1) : IsReal x := by
  obtain ⟨a, b⟩ := and_one _ _ h
  rw [inf_top] at a
  rw [inf_bot] at b
  have a' : decide ((x : EReal) < ⊤) = true := ofBool_one _ a
  have b' : decide ((⊥ : EReal) < x) = true := ofBool_one _ b
  exact isReal_of_lt (of_decide_eq_true a') (of_decide_eq_true b')

section Fn
variable [Cert.Pre_finite.Facts] (a0 : IVec Cert.Pre_finite.S48x576x768 8) (a1 : FVec Ideal Cert.Pre_finite.S_ .f32) (a2 : IVec Cert.Pre_finite.S48x576x768 8) (a3 : FVec Ideal Cert.Pre_finite.S_ .f32)
  (a4 : IVec Cert.Pre_finite.S48x576x768 8) (a5 a6 a7 : FVec Ideal Cert.Pre_finite.S768 .f32)

theorem fin_0 (h : (Cert.Pre_finite.fn (F := Ideal) a0 a1 a2 a3 a4 a5 a6 a7).1 = (fun _ => 1#1)) (i) : IsReal (Ideal.e4m3fn (a0 i)) := by
  have e : IntOp.andi (IntOp.cmpi .ne (a0 i) 127#8) (IntOp.cmpi .ne (a0 i) 255#8) = 1#1 := congrFun h i
  obtain ⟨a, b⟩ := and_one _ _ e
  exact real_e4m3 _ (bne_iff_ne.mp (ofBool_one _ a)) (bne_iff_ne.mp (ofBool_one _ b))

theorem fin_2 (h : (Cert.Pre_finite.fn (F := Ideal) a0 a1 a2 a3 a4 a5 a6 a7).2.1 = (fun _ => 1#1)) (i) : IsReal (Ideal.ieee 5 2 (a2 i)) := by
  have e : IntOp.ori (IntOp.cmpi .ult (a2 i) 124#8) (IntOp.andi (IntOp.cmpi .uge (a2 i) 128#8) (IntOp.cmpi .ult (a2 i) 252#8)) = 1#1 := congrFun h i
  refine real_e5m2 _ ?_
  rcases or_one _ _ e with a | a
  · have a' : decide ((a2 i).toNat < 124) = true := ofBool_one _ a
    exact .inl (of_decide_eq_true a')
  · obtain ⟨a, b⟩ := and_one _ _ a
    have a' : decide (128 ≤ (a2 i).toNat) = true := ofBool_one _ a
    have b' : decide ((a2 i).toNat < 252) = true := ofBool_one _ b
    exact .inr ⟨of_decide_eq_true a', of_decide_eq_true b'⟩

theorem fin_1 (h : (Cert.Pre_finite.fn (F := Ideal) a0 a1 a2 a3 a4 a5 a6 a7).2.2.1 = (fun _ => 1#1)) (i) : IsReal (a1 i) := real_of_cmp _ (congrFun h i)
theorem fin_3 (h : (Cert.Pre_finite.fn (F := Ideal) a0 a1 a2 a3 a4 a5 a6 a7).2.2.2.1 = (fun _ => 1#1)) (i) : IsReal (a3 i) := real_of_cmp _ (congrFun h i)
theorem fin_5 (h : (Cert.Pre_finite.fn (F := Ideal) a0 a1 a2 a3 a4 a5 a6 a7).2.2.2.2.1 = (fun _ => 1#1)) (i) : IsReal (a5 i) := real_of_cmp _ (congrFun h i)
theorem fin_6 (h : (Cert.Pre_finite.fn (F := Ideal) a0 a1 a2 a3 a4 a5 a6 a7).2.2.2.2.2.1 = (fun _ => 1#1)) (i) : IsReal (a6 i) := real_of_cmp _ (congrFun h i)
theorem fin_7 (h : (Cert.Pre_finite.fn (F := Ideal) a0 a1 a2 a3 a4 a5 a6 a7).2.2.2.2.2.2 = (fun _ => 1#1)) (i) : IsReal (a7 i) := real_of_cmp _ (congrFun h i)
end Fn

end Cert.Val

end
-- ==== Proof.Val.Same.lean ====
/-
  The kernel's results and the reference's are the same functions of the same real arguments.
-/
module

public import proofs.«01_k».proof.Proof.Val.Host
public import proofs.«01_k».proof.Proof.Val.RefRun
public import proofs.«01_k».proof.Proof.Val.Fin

@[expose] public section

noncomputable section

namespace Cert.KernelIdeal.Hand

open Cert.KernelIdeal Cert.KernelIdeal.Gen Cert.Val
open Idealize.ShloMosaic

/-- The channel of a lane of a group, and the position of a row of a channel. -/
abbrev chan (g : ℕ) (l : Fin 128) : Fin 768 := ⟨(128 * g + l.val) % 768, Nat.mod_lt _ (by decide)⟩
abbrev pos (i : ℕ) (j : Fin 768) : S48x576x768.Idx := ValueIdx.ix3 (⟨i / 576 % 48, Nat.mod_lt _ (by decide)⟩ : Fin 48) (⟨i % 576, Nat.mod_lt _ (by decide)⟩ : Fin 576) j
abbrev e0 : S_.Idx := fun a => a.elim0

theorem pos_pair (a : Fin 48) (b : Fin 576) (j : Fin 768) : pos (a.val * 576 + b.val) j = ValueIdx.ix3 a b j := by
  have ha := a.isLt
  have hb := b.isLt
  funext x; apply Fin.ext
  match x with
  | ⟨0, _⟩ => show (a.val * 576 + b.val) / 576 % 48 = a.val; omega
  | ⟨1, _⟩ => show (a.val * 576 + b.val) % 576 = b.val; omega
  | ⟨2, _⟩ => rfl

theorem row_arith (i j : ℕ) (hi : i < 27648) : (i / 576 % 48 * 576 + i % 576) * 768 + j = i * 768 + j := by
  rw [show i / 576 % 48 * 576 + i % 576 = i by omega]

theorem slab_at {α : Type} (f : S48x576x768.Idx → α) (g n : ℕ) (hn : n < 72) (k : Fin 12) (r : Fin 32) (l : Fin 128) :
    tileAt (grp g (shapeCast S72x12x32x768 f shapeCasts_S48x576x768_S72x12x32x768)) 0 n k (ixT r l) = f (pos ((n * 12 + k.val) * 32 + r.val) (chan g l)) := by
  have hk := k.isLt
  have hr := r.isLt
  show shapeCast S72x12x32x768 f shapeCasts_S48x576x768_S72x12x32x768 (toHbm g (ixB 0 n k r l)) = _
  refine shapeCast_apply f _ _ _ ?_
  rw [Shape.rowMajor_val_three, Shape.rowMajor_val_four]
  show (((n * 12 + k.val) * 32 + r.val) / 576 % 48 * 576 + ((n * 12 + k.val) * 32 + r.val) % 576) * 768 + (128 * g + l.val) % 768
    = ((n % 72 * 12 + k.val) * 32 + r.val) * 768 + (128 * g + l.val) % 768
  rw [row_arith _ _ (by omega), Nat.mod_eq_of_lt hn]

theorem row_at {α : Type} (f : S768.Idx → α) (g : ℕ) (hg : g < 6) (l : Fin 128) :
    rowOf (shapeCast S6x128 f shapeCasts_S768_S6x128) g (ix1 l) = f (ValueIdx.ix1 (chan g l)) := by
  have hl := l.isLt
  show shapeCast S6x128 f shapeCasts_S768_S6x128 (ixR g l) = _
  refine shapeCast_apply f _ _ _ ?_
  rw [Shape.rowMajor_val_one, Shape.rowMajor_val_two]
  show (128 * g + l.val) % 768 = g % 6 * 128 + l.val
  omega

theorem coe_of_real {x : EReal} (h : IsReal x) : x = (x.toReal : EReal) := by
  obtain ⟨r, rfl⟩ := h
  rw [EReal.toReal_coe]

section Args
variable (A0 A2 A4 : IVec S48x576x768 8) (A1 A3 : FVec Ideal S_ .f32) (A5 A6 A7 : FVec Ideal S768 .f32)

/-- Every element of every argument is a real number. -/
structure Reals : Prop where
  r0 : ∀ i, IsReal (Ideal.e4m3fn (A0 i))
  r1 : ∀ i, IsReal (A1 i)
  r2 : ∀ i, IsReal (Ideal.ieee 5 2 (A2 i))
  r3 : ∀ i, IsReal (A3 i)
  r5 : ∀ i, IsReal (A5 i)
  r6 : ∀ i, IsReal (A6 i)
  r7 : ∀ i, IsReal (A7 i)

/-- The kernel's inputs are the arguments, re-laid. -/
structure Reads (I : Ins Ideal) : Prop where
  X : I.X = shapeCast S72x12x32x768 (bitcastToFloat (F := Ideal) .fp8e4m3 A0) shapeCasts_S48x576x768_S72x12x32x768
  G : I.G = shapeCast S72x12x32x768 (bitcastToFloat (F := Ideal) .fp8e5m2 A2) shapeCasts_S48x576x768_S72x12x32x768
  M : I.M = shapeCast S72x12x32x768 A4 shapeCasts_S48x576x768_S72x12x32x768
  xs : (I.xs : EReal) = A1 e0
  ys : (I.ys : EReal) = A3 e0
  me : I.me = shapeCast S6x128 A5 shapeCasts_S768_S6x128
  rs : I.rs = shapeCast S6x128 A6 shapeCasts_S768_S6x128
  ga : I.ga = shapeCast S6x128 A7 shapeCasts_S768_S6x128

/-- A channel's inputs and masked gradients, row by row. -/
def xr (j : Fin 768) (i : ℕ) : ℝ := (Ideal.e4m3fn (A0 (pos i j))).toReal
def gr (j : Fin 768) (i : ℕ) : ℝ := if A4 (pos i j) = 0#8 then 0 else (Ideal.ieee 5 2 (A2 (pos i j))).toReal

variable (R : Reals A0 A2 A1 A3 A5 A6 A7) (I : Ins Ideal) (H : Reads A0 A2 A4 A1 A3 A5 A6 A7 I)

include R in
theorem gr_eq (j : Fin 768) (i : ℕ) : (if A4 (pos i j) = 0#8 then (0 : EReal) else Ideal.ieee 5 2 (A2 (pos i j))) = (gr A2 A4 j i : EReal) := by
  unfold gr
  by_cases h : A4 (pos i j) = 0#8
  · rw [if_pos h, if_pos h, EReal.coe_zero]
  · rw [if_neg h, if_neg h]; exact coe_of_real (R.r2 _)

include R H in
theorem kX (g : ℕ) (l : Fin 128) (n : ℕ) (hn : n < 72) (k : Fin 12) (r : Fin 32) :
    (tileAt (grp g I.X) 0 n k (ixT r l) : EReal) = (xr A0 (chan g l) ((n * 12 + k.val) * 32 + r.val) : EReal) := by
  rw [H.X, slab_at _ g n hn k r l]
  exact coe_of_real (R.r0 _)

include R H in
theorem kE (g : ℕ) (l : Fin 128) (n : ℕ) (hn : n < 72) (k : Fin 12) (r : Fin 32) :
    (mskT I g n k (i32 r l) : EReal) = (gr A2 A4 (chan g l) ((n * 12 + k.val) * 32 + r.val) : EReal) := by
  unfold mskT mtile
  rw [pay2_at, H.M, H.G, slab_at _ g n hn k r l, slab_at _ g n hn k r l, ← gr_eq A0 A2 A4 A1 A3 A5 A6 A7 R]
  have z : (Scalar.ofBits (F := Ideal) .fp8e5m2 0x00#8 : EReal) = 0 := Ideal.ofBits_zero .fp8e5m2
  rw [z]; rfl

open Cert.ReferenceIdeal.Value (j3 j1 j0) in
include R H in
/-- The three results, a channel at a time. -/
theorem same_chan (g : ℕ) (hg : g < 6) (l : Fin 128) :
    (dbRow I g (ix1 l) : EReal) = Cert.ReferenceIdeal.Gen.k0_pay4 (F := Ideal) (bitcastToFloat (F := Ideal) .fp8e5m2 A2) (shapeCast Cert.ReferenceIdeal.S1x1x1 A3 Cert.ReferenceIdeal.Facts₀.shapeCasts_S_S1x1x1) A4 (j1 (chan g l))
    ∧ (dgRow I g (ix1 l) : EReal) = Cert.ReferenceIdeal.Gen.k0_pay5 (F := Ideal) (bitcastToFloat (F := Ideal) .fp8e4m3 A0) (shapeCast Cert.ReferenceIdeal.S1x1x1 A1 Cert.ReferenceIdeal.Facts₀.shapeCasts_S_S1x1x1)
        (bitcastToFloat (F := Ideal) .fp8e5m2 A2) (shapeCast Cert.ReferenceIdeal.S1x1x1 A3 Cert.ReferenceIdeal.Facts₀.shapeCasts_S_S1x1x1) A4 A5 A6 (j1 (chan g l))
    ∧ ∀ (n : ℕ) (hn : n < 72) (k : Fin 12) (r : Fin 32) (a : Fin 48) (b : Fin 576), a.val * 576 + b.val = (n * 12 + k.val) * 32 + r.val →
      (dxT I g n k (ixT r l) : EReal) = Cert.ReferenceIdeal.Gen.k0_pay1 (F := Ideal)
        (Cert.ReferenceIdeal.Gen.k0_pay2 (F := Ideal) (bitcastToFloat (F := Ideal) .fp8e4m3 A0) (shapeCast Cert.ReferenceIdeal.S1x1x1 A1 Cert.ReferenceIdeal.Facts₀.shapeCasts_S_S1x1x1) A5 A6)
        (Cert.ReferenceIdeal.Gen.k0_pay5 (F := Ideal) (bitcastToFloat (F := Ideal) .fp8e4m3 A0) (shapeCast Cert.ReferenceIdeal.S1x1x1 A1 Cert.ReferenceIdeal.Facts₀.shapeCasts_S_S1x1x1)
          (bitcastToFloat (F := Ideal) .fp8e5m2 A2) (shapeCast Cert.ReferenceIdeal.S1x1x1 A3 Cert.ReferenceIdeal.Facts₀.shapeCasts_S_S1x1x1) A4 A5 A6)
        (Cert.ReferenceIdeal.Gen.k0_pay6 (F := Ideal) A6 A7)
        (Cert.ReferenceIdeal.Gen.k0_pay7 (F := Ideal) (bitcastToFloat (F := Ideal) .fp8e5m2 A2) (shapeCast Cert.ReferenceIdeal.S1x1x1 A3 Cert.ReferenceIdeal.Facts₀.shapeCasts_S_S1x1x1) A4) (j3 a b (chan g l)) := by
  obtain ⟨c, hc⟩ := real_inv
  have one : ∀ (A : FVec Ideal S_ .f32) (i : S_.Idx), A i = A e0 := fun A i => congrArg A (funext fun a => a.elim0)
  have hE := kE A0 A2 A4 A1 A3 A5 A6 A7 R I H g l
  have hX := kX A0 A2 A4 A1 A3 A5 A6 A7 R I H g l
  have hs : (I.xs : EReal) = ((A1 e0 : EReal).toReal : EReal) := H.xs.trans (coe_of_real (R.r1 _))
  have hd : (I.ys : EReal) = ((A3 e0 : EReal).toReal : EReal) := H.ys.trans (coe_of_real (R.r3 _))
  have hm : (rowOf I.me g (ix1 l) : EReal) = ((A5 (ValueIdx.ix1 (chan g l)) : EReal).toReal : EReal) := by
    rw [H.me, row_at _ g hg l]; exact coe_of_real (R.r5 _)
  have hr : (rowOf I.rs g (ix1 l) : EReal) = ((A6 (ValueIdx.ix1 (chan g l)) : EReal).toReal : EReal) := by
    rw [H.rs, row_at _ g hg l]; exact coe_of_real (R.r6 _)
  have hga : (rowOf I.ga g (ix1 l) : EReal) = ((A7 (ValueIdx.ix1 (chan g l)) : EReal).toReal : EReal) := by
    rw [H.ga, row_at _ g hg l]; exact coe_of_real (R.r7 _)
  have hG' : ∀ (a : Fin 48) (b : Fin 576), (if A4 (j3 a b (chan g l)) = 0#8 then (0 : EReal) else bitcastToFloat (F := Ideal) .fp8e5m2 A2 (j3 a b (chan g l)))
      = (gr A2 A4 (chan g l) (a.val * 576 + b.val) : EReal) := by
    intro a b
    have := gr_eq A0 A2 A4 A1 A3 A5 A6 A7 R (chan g l) (a.val * 576 + b.val)
    rw [pos_pair] at this
    exact this
  have hX' : ∀ (a : Fin 48) (b : Fin 576), (bitcastToFloat (F := Ideal) .fp8e4m3 A0 (j3 a b (chan g l)) : EReal) = (xr A0 (chan g l) (a.val * 576 + b.val) : EReal) := by
    intro a b
    have := coe_of_real (R.r0 (pos (a.val * 576 + b.val) (chan g l)))
    unfold xr
    rw [← this, pos_pair]
    rfl
  have hs' : (shapeCast Cert.ReferenceIdeal.S1x1x1 A1 Cert.ReferenceIdeal.Facts₀.shapeCasts_S_S1x1x1 j0 : EReal) = ((A1 e0 : EReal).toReal : EReal) :=
    (one A1 _).trans (coe_of_real (R.r1 _))
  have hd' : (shapeCast Cert.ReferenceIdeal.S1x1x1 A3 Cert.ReferenceIdeal.Facts₀.shapeCasts_S_S1x1x1 j0 : EReal) = ((A3 e0 : EReal).toReal : EReal) :=
    (one A3 _).trans (coe_of_real (R.r3 _))
  refine ⟨?_, ?_, ?_⟩
  · rw [dbRow_at I g l _ _ _ hE hX hd, kb_eq]
    exact (Cert.ReferenceIdeal.Value.pay4_at _ _ _ (chan g l) _ _ hG' hd').symm
  · rw [dgRow_at I g l _ _ _ _ _ _ hE hX hs hd hm hr, kg_eq]
    exact (Cert.ReferenceIdeal.Value.pay5_at _ _ _ _ _ _ _ (chan g l) _ _ _ _ _ _ hG' hX' hs' hd' (coe_of_real (R.r5 _)) (coe_of_real (R.r6 _))).symm
  · intro n hn k r a b e
    refine (dxT_at I g l _ _ _ _ _ _ _ c hE hX hs hd hm hr hga hc n hn k r).trans ?_
    rw [← e]
    exact (Cert.ReferenceIdeal.Value.pay1_at _ _ _ _ _ _ _ _ (chan g l) _ _ _ _ _ _ _ c hG' hX' hs' hd' (coe_of_real (R.r5 _)) (coe_of_real (R.r6 _)) (coe_of_real (R.r7 _)) hc a b).symm

theorem chan_self (j : Fin 768) : chan (j.val / 128) (⟨j.val % 128, Nat.mod_lt _ (by decide)⟩ : Fin 128) = j :=
  Fin.ext (by show (128 * (j.val / 128) + j.val % 128) % 768 = j.val; have := j.isLt; omega)

/-- The results laid out as the host returns them, at an index. -/
theorem rows_at (D : S6x128.Idx → Elt Ideal .f32) (j : Fin 768) :
    shapeCast S768 D shapeCasts_S6x128_S768 (ValueIdx.ix1 j) = D (ixR (j.val / 128) ⟨j.val % 128, Nat.mod_lt _ (by decide)⟩) := by
  have hj := j.isLt
  refine shapeCast_apply D _ _ _ ?_
  rw [Shape.rowMajor_val_one, Shape.rowMajor_val_two]
  show j.val / 128 % 6 * 128 + j.val % 128 = j.val
  omega

theorem dv_at (a : Fin 48) (b : Fin 576) (j : Fin 768) :
    shapeCast S48x576x768 (DV I) shapeCasts_S72x12x32x768_S48x576x768 (ValueIdx.ix3 a b j)
      = dxT I (j.val / 128) ((a.val * 576 + b.val) / 384) ⟨(a.val * 576 + b.val) / 32 % 12, Nat.mod_lt _ (by decide)⟩
        (ixT ⟨(a.val * 576 + b.val) % 32, Nat.mod_lt _ (by decide)⟩ ⟨j.val % 128, Nat.mod_lt _ (by decide)⟩) := by
  have ha := a.isLt
  have hb := b.isLt
  refine (shapeCast_apply (DV I) _ _ (ValueIdx.ix4 (⟨(a.val * 576 + b.val) / 384, by omega⟩ : Fin 72) (⟨(a.val * 576 + b.val) / 32 % 12, Nat.mod_lt _ (by decide)⟩ : Fin 12)
    (⟨(a.val * 576 + b.val) % 32, Nat.mod_lt _ (by decide)⟩ : Fin 32) j : S72x12x32x768.Idx) ?_).trans rfl
  rw [Shape.rowMajor_val_three, Shape.rowMajor_val_four]
  show (((a.val * 576 + b.val) / 384 * 12 + (a.val * 576 + b.val) / 32 % 12) * 32 + (a.val * 576 + b.val) % 32) * 768 + j.val = (a.val * 576 + b.val) * 768 + j.val
  have : ((a.val * 576 + b.val) / 384 * 12 + (a.val * 576 + b.val) / 32 % 12) * 32 + (a.val * 576 + b.val) % 32 = a.val * 576 + b.val := by omega
  rw [this]
end Args

end Cert.KernelIdeal.Hand

end
-- ==== Proof.Val.Main.lean ====
/-
  The value claim: the kernel's run ends with the reference's results.
-/
module

public import proofs.«01_k».proof.Proof.Val.Same

@[expose] public section

noncomputable section

namespace Cert.KernelIdeal.Hand

open Cert.KernelIdeal Cert.KernelIdeal.Gen Cert.Val
open Idealize.ShloMosaic Idealize.SL.Sem Idealize.ShloMosaic.TcCoe

variable [hPre_finite : Cert.Pre_finite.Facts]

section Mem
variable (m : (ℓ : Loc nD τ sig) → Buf (Elt Ideal) ℓ) (c : Dev nD)

theorem reals (h : Cert.Pre_KernelIdeal_finite m) : Reals (m ((c : Thread nD τ).loc main_arg0)) (m ((c : Thread nD τ).loc main_arg2)) (m ((c : Thread nD τ).loc main_arg1))
    (m ((c : Thread nD τ).loc main_arg3)) (m ((c : Thread nD τ).loc main_arg5)) (m ((c : Thread nD τ).loc main_arg6)) (m ((c : Thread nD τ).loc main_arg7)) where
  r0 := fin_0 _ _ _ _ _ _ _ _ (h c).1
  r2 := fin_2 _ _ _ _ _ _ _ _ (h c).2.1
  r1 := fin_1 _ _ _ _ _ _ _ _ (h c).2.2.1
  r3 := fin_3 _ _ _ _ _ _ _ _ (h c).2.2.2.1
  r5 := fin_5 _ _ _ _ _ _ _ _ (h c).2.2.2.2.1
  r6 := fin_6 _ _ _ _ _ _ _ _ (h c).2.2.2.2.2.1
  r7 := fin_7 _ _ _ _ _ _ _ _ (h c).2.2.2.2.2.2

omit hPre_finite in
theorem reads : Reads (m ((c : Thread nD τ).loc main_arg0)) (m ((c : Thread nD τ).loc main_arg2)) (m ((c : Thread nD τ).loc main_arg4)) (m ((c : Thread nD τ).loc main_arg1))
    (m ((c : Thread nD τ).loc main_arg3)) (m ((c : Thread nD τ).loc main_arg5)) (m ((c : Thread nD τ).loc main_arg6)) (m ((c : Thread nD τ).loc main_arg7)) (ins m c) where
  X := kv_v7 m c
  G := kv_v8 m c
  M := kv_v9 m c
  me := kv_v4 m c
  rs := kv_v5 m c
  ga := kv_v6 m c
  xs := by
    have one : ∀ (A : FVec Ideal S_ .f32) (i : S_.Idx), A i = A e0 := fun A i => congrArg A (funext fun a => a.elim0)
    unfold ins; dsimp only
    rw [kv_v2]; exact one _ _
  ys := by
    have one : ∀ (A : FVec Ideal S_ .f32) (i : S_.Idx), A i = A e0 := fun A i => congrArg A (funext fun a => a.elim0)
    unfold ins; dsimp only
    rw [kv_v3]; exact one _ _
end Mem

omit hPre_finite in
theorem ix1_eta (y : S768.Idx) : ∃ j : Fin 768, y = ValueIdx.ix1 j := ⟨y 0, funext fun a => match a with | ⟨0, _⟩ => rfl⟩
omit hPre_finite in
theorem ix3_eta (y : S48x576x768.Idx) : ∃ (a : Fin 48) (b : Fin 576) (j : Fin 768), y = ValueIdx.ix3 a b j :=
  ⟨y 0, y 1, y 2, funext fun a => match a with | ⟨0, _⟩ => rfl | ⟨1, _⟩ => rfl | ⟨2, _⟩ => rfl⟩

section Both
variable (m : (ℓ : Loc nD τ sig) → Buf (Elt Ideal) ℓ) (c : Dev nD)
  (m' : (ℓ : Loc Cert.ReferenceIdeal.nD Cert.ReferenceIdeal.τ Cert.ReferenceIdeal.sig) → Buf (Elt Ideal) ℓ)
  (h : Cert.Pre_KernelIdeal_finite m)
  (h0 : m' ((c.tc : Thread Cert.ReferenceIdeal.nD Cert.ReferenceIdeal.τ).loc Cert.ReferenceIdeal.main_arg0) = m ((c.tc : Thread nD τ).loc main_arg0))
  (h1 : m' ((c.tc : Thread Cert.ReferenceIdeal.nD Cert.ReferenceIdeal.τ).loc Cert.ReferenceIdeal.main_arg1) = m ((c.tc : Thread nD τ).loc main_arg1))
  (h2 : m' ((c.tc : Thread Cert.ReferenceIdeal.nD Cert.ReferenceIdeal.τ).loc Cert.ReferenceIdeal.main_arg2) = m ((c.tc : Thread nD τ).loc main_arg2))
  (h3 : m' ((c.tc : Thread Cert.ReferenceIdeal.nD Cert.ReferenceIdeal.τ).loc Cert.ReferenceIdeal.main_arg3) = m ((c.tc : Thread nD τ).loc main_arg3))
  (h4 : m' ((c.tc : Thread Cert.ReferenceIdeal.nD Cert.ReferenceIdeal.τ).loc Cert.ReferenceIdeal.main_arg4) = m ((c.tc : Thread nD τ).loc main_arg4))
  (h5 : m' ((c.tc : Thread Cert.ReferenceIdeal.nD Cert.ReferenceIdeal.τ).loc Cert.ReferenceIdeal.main_arg5) = m ((c.tc : Thread nD τ).loc main_arg5))
  (h6 : m' ((c.tc : Thread Cert.ReferenceIdeal.nD Cert.ReferenceIdeal.τ).loc Cert.ReferenceIdeal.main_arg6) = m ((c.tc : Thread nD τ).loc main_arg6))
  (h7 : m' ((c.tc : Thread Cert.ReferenceIdeal.nD Cert.ReferenceIdeal.τ).loc Cert.ReferenceIdeal.main_arg7) = m ((c.tc : Thread nD τ).loc main_arg7))

include h h2 h3 h4 in
theorem db_same : Cert.ReferenceIdeal.Value.valDb m' c = W m c main_v13 := by
  refine (Cert.ReferenceIdeal.Value.valDb_eq m' c).trans ?_
  rw [Cert.ReferenceIdeal.Value.rv_v1, Cert.ReferenceIdeal.Value.rv_v3, Cert.ReferenceIdeal.Gen.V_main_arg4, h2, h3, h4]
  refine Eq.trans ?_ (W_v13 m c).symm
  funext y
  obtain ⟨j, rfl⟩ := ix1_eta y
  have hj := j.isLt
  have e := (same_chan _ _ _ _ _ _ _ _ (reals m c h) _ (reads m c) (j.val / 128) (by omega) ⟨j.val % 128, Nat.mod_lt _ (by decide)⟩).1
  rw [chan_self] at e
  refine e.symm.trans ((rows_at _ j).trans ?_).symm
  show dbRow (ins m c) (j.val / 128 % 6) _ = _
  rw [Nat.mod_eq_of_lt (by omega : j.val / 128 < 6)]
  rfl

include h h0 h1 h2 h3 h4 h5 h6 in
theorem dg_same : Cert.ReferenceIdeal.Value.valDg m' c = W m c main_v12 := by
  refine (Cert.ReferenceIdeal.Value.valDg_eq m' c).trans ?_
  rw [Cert.ReferenceIdeal.Value.rv_v0, Cert.ReferenceIdeal.Value.rv_v1, Cert.ReferenceIdeal.Value.rv_v2, Cert.ReferenceIdeal.Value.rv_v3, Cert.ReferenceIdeal.Gen.V_main_arg4,
    Cert.ReferenceIdeal.Gen.V_main_arg5, Cert.ReferenceIdeal.Gen.V_main_arg6, h0, h1, h2, h3, h4, h5, h6]
  refine Eq.trans ?_ (W_v12 m c).symm
  funext y
  obtain ⟨j, rfl⟩ := ix1_eta y
  have hj := j.isLt
  have e := (same_chan _ _ _ _ _ _ _ _ (reals m c h) _ (reads m c) (j.val / 128) (by omega) ⟨j.val % 128, Nat.mod_lt _ (by decide)⟩).2.1
  rw [chan_self] at e
  refine e.symm.trans ((rows_at _ j).trans ?_).symm
  show dgRow (ins m c) (j.val / 128 % 6) _ = _
  rw [Nat.mod_eq_of_lt (by omega : j.val / 128 < 6)]
  rfl

include h h0 h1 h2 h3 h4 h5 h6 h7 in
theorem dx_same : Cert.ReferenceIdeal.Value.valDx m' c = W m c main_v11 := by
  refine (Cert.ReferenceIdeal.Value.valDx_eq m' c).trans ?_
  rw [Cert.ReferenceIdeal.Value.rv_v0, Cert.ReferenceIdeal.Value.rv_v1, Cert.ReferenceIdeal.Value.rv_v2, Cert.ReferenceIdeal.Value.rv_v3, Cert.ReferenceIdeal.Gen.V_main_arg4,
    Cert.ReferenceIdeal.Gen.V_main_arg5, Cert.ReferenceIdeal.Gen.V_main_arg6, Cert.ReferenceIdeal.Gen.V_main_arg7, h0, h1, h2, h3, h4, h5, h6, h7]
  refine Eq.trans ?_ (W_v11 m c).symm
  funext y
  obtain ⟨a, b, j, rfl⟩ := ix3_eta y
  have ha := a.isLt
  have hb := b.isLt
  have hj := j.isLt
  have e := (same_chan _ _ _ _ _ _ _ _ (reals m c h) _ (reads m c) (j.val / 128) (by omega) ⟨j.val % 128, Nat.mod_lt _ (by decide)⟩).2.2
    ((a.val * 576 + b.val) / 384) (by omega) ⟨(a.val * 576 + b.val) / 32 % 12, Nat.mod_lt _ (by decide)⟩ ⟨(a.val * 576 + b.val) % 32, Nat.mod_lt _ (by decide)⟩ a b
    (by show a.val * 576 + b.val = ((a.val * 576 + b.val) / 384 * 12 + (a.val * 576 + b.val) / 32 % 12) * 32 + (a.val * 576 + b.val) % 32; omega)
  rw [chan_self] at e
  exact e.symm.trans (dv_at (ins m c) a b j).symm
end Both

theorem algebraic : Cert.algebraic_KernelIdeal_ReferenceIdeal_pre_finite := by
  intro m g m' g' hpre ha
  refine ⟨fun c => W m c main_v11, fun c => W m c main_v12, fun c => W m c main_v13, ?_, ?_⟩
  · refine (θ_run defs _ _).mono (fun r h c => ⟨?_, ?_, ?_, ?_, ?_, ?_, ?_, ?_, ?_, ?_, ?_⟩) (run_main m g)
    · exact h.1 c main_v11 (Pipeline.mem_restRefs_of main_v11 (by decide) (by decide))
    · exact h.1 c main_v12 (Pipeline.mem_restRefs_of main_v12 (by decide) (by decide))
    · exact h.1 c main_v13 (Pipeline.mem_restRefs_of main_v13 (by decide) (by decide))
    · exact (h.1 c main_arg0 (Pipeline.mem_restRefs_of main_arg0 (by decide) (by decide))).trans (W_arg0 m c)
    · exact (h.1 c main_arg1 (Pipeline.mem_restRefs_of main_arg1 (by decide) (by decide))).trans (W_arg1 m c)
    · exact (h.1 c main_arg2 (Pipeline.mem_restRefs_of main_arg2 (by decide) (by decide))).trans (W_arg2 m c)
    · exact (h.1 c main_arg3 (Pipeline.mem_restRefs_of main_arg3 (by decide) (by decide))).trans (W_arg3 m c)
    · exact (h.1 c main_arg4 (Pipeline.mem_restRefs_of main_arg4 (by decide) (by decide))).trans (W_arg4 m c)
    · exact (h.1 c main_arg5 (Pipeline.mem_restRefs_of main_arg5 (by decide) (by decide))).trans (W_arg5 m c)
    · exact (h.1 c main_arg6 (Pipeline.mem_restRefs_of main_arg6 (by decide) (by decide))).trans (W_arg6 m c)
    · exact (h.1 c main_arg7 (Pipeline.mem_restRefs_of main_arg7 (by decide) (by decide))).trans (W_arg7 m c)
  · refine (θ_run Cert.ReferenceIdeal.defs _ _).mono (fun r h c => ?_) (Cert.ReferenceIdeal.Value.run_blocks m' g')
    obtain ⟨h0, h1, h2, h3, h4, h5, h6, h7⟩ := ha c
    obtain ⟨e8, e9, e10, k⟩ := h c
    exact ⟨e8.trans ((Cert.ReferenceIdeal.Value.fin8 m' c).trans (dx_same m c m' hpre h0 h1 h2 h3 h4 h5 h6 h7)),
      e9.trans ((Cert.ReferenceIdeal.Value.fin9 m' c).trans (dg_same m c m' hpre h0 h1 h2 h3 h4 h5 h6)),
      e10.trans ((Cert.ReferenceIdeal.Value.fin10 m' c).trans (db_same m c m' hpre h2 h3 h4)), k⟩

end Cert.KernelIdeal.Hand

end
-- ==== Proof.lean ====
/-
  The certificate: the two kernels' runs are `Hand.frame` of either, the reference's run is generated, and the value
  claim is `Hand.algebraic`.
-/
module

public import proofs.«01_k».proof.Defs
public import proofs.«01_k».proof.Proof.K.End
public import proofs.«01_k».proof.Proof.Gen.ReferenceIdeal.Frame
public import proofs.«01_k».proof.Proof.Gen.ReferenceIdeal.Value
public import proofs.«01_k».proof.Proof.Val.Main

@[expose] public section

noncomputable section

namespace Cert.Proof

open Idealize.ShloMosaic Idealize.SL.Sem

theorem preFacts : Cert.Pre_finite.Facts := ⟨by decide, by decide⟩

theorem claim : Cert.Claim := ⟨Cert.Kernel.Gen.facts, Cert.KernelIdeal.Gen.facts, Cert.ReferenceIdeal.Gen.facts, preFacts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  trivial,
  Cert.KernelIdeal.Hand.algebraic (hPre_finite := preFacts)⟩

end Cert.Proof

end
